-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))).2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_finite [hPre_norm_finite : Cert.Pre_norm_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).1 = (fun _ => 1#1)
    ∧ (Cert.Pre_norm_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.1 = (fun _ => 1#1)
    ∧ (Cert.Pre_norm_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3))).2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_OBwd (m : (ℓ : Loc Cert.OBwd.nD Cert.OBwd.τ Cert.OBwd.sig) → Buf (Elt Bits) ℓ) : Prop :=
  True

def Pre_OBwdIdeal (m : (ℓ : Loc Cert.OBwdIdeal.nD Cert.OBwdIdeal.τ Cert.OBwdIdeal.sig) → Buf (Elt Ideal) ℓ) : Prop :=
  True

def Pre_OBwdIdeal_o_finite [hPre_o_finite : Cert.Pre_o_finite.Facts] (m : (ℓ : Loc Cert.OBwdIdeal.nD Cert.OBwdIdeal.τ Cert.OBwdIdeal.sig) → Buf (Elt Ideal) ℓ) : Prop :=
  ∀ c : Dev Cert.OBwdIdeal.nD,
    (Cert.Pre_o_finite.fn (F := Ideal) (m ((c.tc : Thread Cert.OBwdIdeal.nD Cert.OBwdIdeal.τ).loc Cert.OBwdIdeal.main_arg0)) (m ((c.tc : Thread Cert.OBwdIdeal.nD Cert.OBwdIdeal.τ).loc Cert.OBwdIdeal.main_arg1)) (m ((c.tc : Thread Cert.OBwdIdeal.nD Cert.OBwdIdeal.τ).loc Cert.OBwdIdeal.main_arg2))).1 = (fun _ => 1#1)
    ∧ (Cert.Pre_o_finite.fn (F := Ideal) (m ((c.tc : Thread Cert.OBwdIdeal.nD Cert.OBwdIdeal.τ).loc Cert.OBwdIdeal.main_arg0)) (m ((c.tc : Thread Cert.OBwdIdeal.nD Cert.OBwdIdeal.τ).loc Cert.OBwdIdeal.main_arg1)) (m ((c.tc : Thread Cert.OBwdIdeal.nD Cert.OBwdIdeal.τ).loc Cert.OBwdIdeal.main_arg2))).2.1 = (fun _ => 1#1)
    ∧ (Cert.Pre_o_finite.fn (F := Ideal) (m ((c.tc : Thread Cert.OBwdIdeal.nD Cert.OBwdIdeal.τ).loc Cert.OBwdIdeal.main_arg0)) (m ((c.tc : Thread Cert.OBwdIdeal.nD Cert.OBwdIdeal.τ).loc Cert.OBwdIdeal.main_arg1)) (m ((c.tc : Thread Cert.OBwdIdeal.nD Cert.OBwdIdeal.τ).loc Cert.OBwdIdeal.main_arg2))).2.2 = (fun _ => 1#1)

def Pre_OBwdRefIdeal (m : (ℓ : Loc Cert.OBwdRefIdeal.nD Cert.OBwdRefIdeal.τ Cert.OBwdRefIdeal.sig) → Buf (Elt Ideal) ℓ) : Prop :=
  True

def Pre_OBwdRefIdeal_o_finite [hPre_o_finite : Cert.Pre_o_finite.Facts] (m : (ℓ : Loc Cert.OBwdRefIdeal.nD Cert.OBwdRefIdeal.τ Cert.OBwdRefIdeal.sig) → Buf (Elt Ideal) ℓ) : Prop :=
  ∀ c : Dev Cert.OBwdRefIdeal.nD,
    (Cert.Pre_o_finite.fn (F := Ideal) (m ((c.tc : Thread Cert.OBwdRefIdeal.nD Cert.OBwdRefIdeal.τ).loc Cert.OBwdRefIdeal.main_arg0)) (m ((c.tc : Thread Cert.OBwdRefIdeal.nD Cert.OBwdRefIdeal.τ).loc Cert.OBwdRefIdeal.main_arg1)) (m ((c.tc : Thread Cert.OBwdRefIdeal.nD Cert.OBwdRefIdeal.τ).loc Cert.OBwdRefIdeal.main_arg2))).1 = (fun _ => 1#1)
    ∧ (Cert.Pre_o_finite.fn (F := Ideal) (m ((c.tc : Thread Cert.OBwdRefIdeal.nD Cert.OBwdRefIdeal.τ).loc Cert.OBwdRefIdeal.main_arg0)) (m ((c.tc : Thread Cert.OBwdRefIdeal.nD Cert.OBwdRefIdeal.τ).loc Cert.OBwdRefIdeal.main_arg1)) (m ((c.tc : Thread Cert.OBwdRefIdeal.nD Cert.OBwdRefIdeal.τ).loc Cert.OBwdRefIdeal.main_arg2))).2.1 = (fun _ => 1#1)
    ∧ (Cert.Pre_o_finite.fn (F := Ideal) (m ((c.tc : Thread Cert.OBwdRefIdeal.nD Cert.OBwdRefIdeal.τ).loc Cert.OBwdRefIdeal.main_arg0)) (m ((c.tc : Thread Cert.OBwdRefIdeal.nD Cert.OBwdRefIdeal.τ).loc Cert.OBwdRefIdeal.main_arg1)) (m ((c.tc : Thread Cert.OBwdRefIdeal.nD Cert.OBwdRefIdeal.τ).loc Cert.OBwdRefIdeal.main_arg2))).2.2 = (fun _ => 1#1)

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdIdeal_q_finite [hPre_q_finite : Cert.Pre_q_finite.Facts] (m : (ℓ : Loc Cert.QBwdIdeal.nD Cert.QBwdIdeal.τ Cert.QBwdIdeal.sig) → Buf (Elt Ideal) ℓ) : Prop :=
  ∀ c : Dev Cert.QBwdIdeal.nD,
    (Cert.Pre_q_finite.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).1 = (fun _ => 1#1)
    ∧ (Cert.Pre_q_finite.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.1 = (fun _ => 1#1)
    ∧ (Cert.Pre_q_finite.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.2.1 = (fun _ => 1#1)
    ∧ (Cert.Pre_q_finite.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.2.2 = (fun _ => 1#1)

def Pre_QBwdRefIdeal (m : (ℓ : Loc Cert.QBwdRefIdeal.nD Cert.QBwdRefIdeal.τ Cert.QBwdRefIdeal.sig) → Buf (Elt Ideal) ℓ) : Prop :=
  True

def Pre_QBwdRefIdeal_q_finite [hPre_q_finite : Cert.Pre_q_finite.Facts] (m : (ℓ : Loc Cert.QBwdRefIdeal.nD Cert.QBwdRefIdeal.τ Cert.QBwdRefIdeal.sig) → Buf (Elt Ideal) ℓ) : Prop :=
  ∀ c : Dev Cert.QBwdRefIdeal.nD,
    (Cert.Pre_q_finite.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).1 = (fun _ => 1#1)
    ∧ (Cert.Pre_q_finite.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.1 = (fun _ => 1#1)
    ∧ (Cert.Pre_q_finite.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.2.1 = (fun _ => 1#1)
    ∧ (Cert.Pre_q_finite.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.2.2 = (fun _ => 1#1)

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostIdeal_s5_post_finite [hPre_s5_post_finite : Cert.Pre_s5_post_finite.Facts] (m : (ℓ : Loc Cert.S5PostIdeal.nD Cert.S5PostIdeal.τ Cert.S5PostIdeal.sig) → Buf (Elt Ideal) ℓ) : Prop :=
  ∀ c : Dev Cert.S5PostIdeal.nD,
    (Cert.Pre_s5_post_finite.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3))).1 = (fun _ => 1#1)
    ∧ (Cert.Pre_s5_post_finite.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3))).2.1 = (fun _ => 1#1)
    ∧ (Cert.Pre_s5_post_finite.fn (F := Ideal) (m ((c.tc : Thread Cert.S5PostIdeal.nD Cert.S5PostIdeal.τ).loc Cert.S5PostIdeal.main_arg0)) (m ((c.tc : Thread Cert.S5PostIdeal.nD Cert.S5PostIdeal.τ).loc Cert.S5PostIdeal.main_arg1)) (m ((c.tc : Thread Cert.S5PostIdeal.nD Cert.S5PostIdeal.τ).loc Cert.S5PostIdeal.main_arg2)) (m ((c.tc : Thread Cert.S5PostIdeal.nD Cert.S5PostIdeal.τ).loc Cert.S5PostIdeal.main_arg3))).2.2 = (fun _ => 1#1)

def Pre_S5PostRefIdeal (m : (ℓ : Loc Cert.S5PostRefIdeal.nD Cert.S5PostRefIdeal.τ Cert.S5PostRefIdeal.sig) → Buf (Elt Ideal) ℓ) : Prop :=
  True

def Pre_S5PostRefIdeal_s5_post_finite [hPre_s5_post_finite : Cert.Pre_s5_post_finite.Facts] (m : (ℓ : Loc Cert.S5PostRefIdeal.nD Cert.S5PostRefIdeal.τ Cert.S5PostRefIdeal.sig) → Buf (Elt Ideal) ℓ) : Prop :=
  ∀ c : Dev Cert.S5PostRefIdeal.nD,
    (Cert.Pre_s5_post_finite.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3))).1 = (fun _ => 1#1)
    ∧ (Cert.Pre_s5_post_finite.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3))).2.1 = (fun _ => 1#1)
    ∧ (Cert.Pre_s5_post_finite.fn (F := Ideal) (m ((c.tc : Thread Cert.S5PostRefIdeal.nD Cert.S5PostRefIdeal.τ).loc Cert.S5PostRefIdeal.main_arg0)) (m ((c.tc : Thread Cert.S5PostRefIdeal.nD Cert.S5PostRefIdeal.τ).loc Cert.S5PostRefIdeal.main_arg1)) (m ((c.tc : Thread Cert.S5PostRefIdeal.nD Cert.S5PostRefIdeal.τ).loc Cert.S5PostRefIdeal.main_arg2)) (m ((c.tc : Thread Cert.S5PostRefIdeal.nD Cert.S5PostRefIdeal.τ).loc Cert.S5PostRefIdeal.main_arg3))).2.2 = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_finite [hPre_mlp_finite : Cert.Pre_mlp_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.2 = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_mlp_finite [hPre_mlp_finite : Cert.Pre_mlp_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.2.2 = (fun _ => 1#1)

def Pre_KvfBwd (m : (ℓ : Loc Cert.KvfBwd.nD Cert.KvfBwd.τ Cert.KvfBwd.sig) → Buf (Elt Bits) ℓ) : Prop :=
  True

def Pre_KvfBwdIdeal (m : (ℓ : Loc Cert.KvfBwdIdeal.nD Cert.KvfBwdIdeal.τ Cert.KvfBwdIdeal.sig) → Buf (Elt Ideal) ℓ) : Prop :=
  True

def Pre_KvfBwdIdeal_kvf_finite [hPre_kvf_finite : Cert.Pre_kvf_finite.Facts] (m : (ℓ : Loc Cert.KvfBwdIdeal.nD Cert.KvfBwdIdeal.τ Cert.KvfBwdIdeal.sig) → Buf (Elt Ideal) ℓ) : Prop :=
  ∀ c : Dev Cert.KvfBwdIdeal.nD,
    (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.2.2.2.2.1 = (fun _ => 1#1)
    ∧ (Cert.Pre_kvf_finite.fn (F := Ideal) (m ((c.tc : Thread Cert.KvfBwdIdeal.nD Cert.KvfBwdIdeal.τ).loc Cert.KvfBwdIdeal.main_arg0)) (m ((c.tc : Thread Cert.KvfBwdIdeal.nD Cert.KvfBwdIdeal.τ).loc Cert.KvfBwdIdeal.main_arg1)) (m ((c.tc : Thread Cert.KvfBwdIdeal.nD Cert.KvfBwdIdeal.τ).loc Cert.KvfBwdIdeal.main_arg2)) (m ((c.tc : Thread Cert.KvfBwdIdeal.nD Cert.KvfBwdIdeal.τ).loc Cert.KvfBwdIdeal.main_arg3)) (m ((c.tc : Thread Cert.KvfBwdIdeal.nD Cert.KvfBwdIdeal.τ).loc Cert.KvfBwdIdeal.main_arg4)) (m ((c.tc : Thread Cert.KvfBwdIdeal.nD Cert.KvfBwdIdeal.τ).loc Cert.KvfBwdIdeal.main_arg5)) (m ((c.tc : Thread Cert.KvfBwdIdeal.nD Cert.KvfBwdIdeal.τ).loc Cert.KvfBwdIdeal.main_arg6)) (m ((c.tc : Thread Cert.KvfBwdIdeal.nD Cert.KvfBwdIdeal.τ).loc Cert.KvfBwdIdeal.main_arg7)) (m ((c.tc : Thread Cert.KvfBwdIdeal.nD Cert.KvfBwdIdeal.τ).loc Cert.KvfBwdIdeal.main_arg8)) (m ((c.tc : Thread Cert.KvfBwdIdeal.nD Cert.KvfBwdIdeal.τ).loc Cert.KvfBwdIdeal.main_arg9)) (m ((c.tc : Thread Cert.KvfBwdIdeal.nD Cert.KvfBwdIdeal.τ).loc Cert.KvfBwdIdeal.main_arg10)) (m ((c.tc : Thread Cert.KvfBwdIdeal.nD Cert.KvfBwdIdeal.τ).loc Cert.KvfBwdIdeal.main_arg11)) (m ((c.tc : Thread Cert.KvfBwdIdeal.nD Cert.KvfBwdIdeal.τ).loc Cert.KvfBwdIdeal.main_arg12)) (m ((c.tc : Thread Cert.KvfBwdIdeal.nD Cert.KvfBwdIdeal.τ).loc Cert.KvfBwdIdeal.main_arg13)) (m ((c.tc : Thread Cert.KvfBwdIdeal.nD Cert.KvfBwdIdeal.τ).loc Cert.KvfBwdIdeal.main_arg14))).2.2.2.2.2.2.2.2.2.2.2.2.2 = (fun _ => 1#1)

def Pre_KvfBwdRefIdeal (m : (ℓ : Loc Cert.KvfBwdRefIdeal.nD Cert.KvfBwdRefIdeal.τ Cert.KvfBwdRefIdeal.sig) → Buf (Elt Ideal) ℓ) : Prop :=
  True

def Pre_KvfBwdRefIdeal_kvf_finite [hPre_kvf_finite : Cert.Pre_kvf_finite.Facts] (m : (ℓ : Loc Cert.KvfBwdRefIdeal.nD Cert.KvfBwdRefIdeal.τ Cert.KvfBwdRefIdeal.sig) → Buf (Elt Ideal) ℓ) : Prop :=
  ∀ c : Dev Cert.KvfBwdRefIdeal.nD,
    (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.2.2.2.2.1 = (fun _ => 1#1)
    ∧ (Cert.Pre_kvf_finite.fn (F := Ideal) (m ((c.tc : Thread Cert.KvfBwdRefIdeal.nD Cert.KvfBwdRefIdeal.τ).loc Cert.KvfBwdRefIdeal.main_arg0)) (m ((c.tc : Thread Cert.KvfBwdRefIdeal.nD Cert.KvfBwdRefIdeal.τ).loc Cert.KvfBwdRefIdeal.main_arg1)) (m ((c.tc : Thread Cert.KvfBwdRefIdeal.nD Cert.KvfBwdRefIdeal.τ).loc Cert.KvfBwdRefIdeal.main_arg2)) (m ((c.tc : Thread Cert.KvfBwdRefIdeal.nD Cert.KvfBwdRefIdeal.τ).loc Cert.KvfBwdRefIdeal.main_arg3)) (m ((c.tc : Thread Cert.KvfBwdRefIdeal.nD Cert.KvfBwdRefIdeal.τ).loc Cert.KvfBwdRefIdeal.main_arg4)) (m ((c.tc : Thread Cert.KvfBwdRefIdeal.nD Cert.KvfBwdRefIdeal.τ).loc Cert.KvfBwdRefIdeal.main_arg5)) (m ((c.tc : Thread Cert.KvfBwdRefIdeal.nD Cert.KvfBwdRefIdeal.τ).loc Cert.KvfBwdRefIdeal.main_arg6)) (m ((c.tc : Thread Cert.KvfBwdRefIdeal.nD Cert.KvfBwdRefIdeal.τ).loc Cert.KvfBwdRefIdeal.main_arg7)) (m ((c.tc : Thread Cert.KvfBwdRefIdeal.nD Cert.KvfBwdRefIdeal.τ).loc Cert.KvfBwdRefIdeal.main_arg8)) (m ((c.tc : Thread Cert.KvfBwdRefIdeal.nD Cert.KvfBwdRefIdeal.τ).loc Cert.KvfBwdRefIdeal.main_arg9)) (m ((c.tc : Thread Cert.KvfBwdRefIdeal.nD Cert.KvfBwdRefIdeal.τ).loc Cert.KvfBwdRefIdeal.main_arg10)) (m ((c.tc : Thread Cert.KvfBwdRefIdeal.nD Cert.KvfBwdRefIdeal.τ).loc Cert.KvfBwdRefIdeal.main_arg11)) (m ((c.tc : Thread Cert.KvfBwdRefIdeal.nD Cert.KvfBwdRefIdeal.τ).loc Cert.KvfBwdRefIdeal.main_arg12)) (m ((c.tc : Thread Cert.KvfBwdRefIdeal.nD Cert.KvfBwdRefIdeal.τ).loc Cert.KvfBwdRefIdeal.main_arg13)) (m ((c.tc : Thread Cert.KvfBwdRefIdeal.nD Cert.KvfBwdRefIdeal.τ).loc Cert.KvfBwdRefIdeal.main_arg14))).2.2.2.2.2.2.2.2.2.2.2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdRefIdeal (m : (ℓ : Loc Cert.QFwdRefIdeal.nD Cert.QFwdRefIdeal.τ Cert.QFwdRefIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdRefIdeal (m : (ℓ : Loc Cert.OFwdRefIdeal.nD Cert.OFwdRefIdeal.τ Cert.OFwdRefIdeal.sig) → Buf (Elt Ideal) ℓ) : Prop :=
  True

def Pre_KvfFwd (m : (ℓ : Loc Cert.KvfFwd.nD Cert.KvfFwd.τ Cert.KvfFwd.sig) → Buf (Elt Bits) ℓ) : Prop :=
  True

def Pre_KvfFwdIdeal (m : (ℓ : Loc Cert.KvfFwdIdeal.nD Cert.KvfFwdIdeal.τ Cert.KvfFwdIdeal.sig) → Buf (Elt Ideal) ℓ) : Prop :=
  True

def Pre_KvfFwdIdeal_kvf_fwd_finite [hPre_kvf_fwd_finite : Cert.Pre_kvf_fwd_finite.Facts] (m : (ℓ : Loc Cert.KvfFwdIdeal.nD Cert.KvfFwdIdeal.τ Cert.KvfFwdIdeal.sig) → Buf (Elt Ideal) ℓ) : Prop :=
  ∀ c : Dev Cert.KvfFwdIdeal.nD,
    (Cert.Pre_kvf_fwd_finite.fn (F := Ideal) (m ((c.tc : Thread Cert.KvfFwdIdeal.nD Cert.KvfFwdIdeal.τ).loc Cert.KvfFwdIdeal.main_arg0)) (m ((c.tc : Thread Cert.KvfFwdIdeal.nD Cert.KvfFwdIdeal.τ).loc Cert.KvfFwdIdeal.main_arg1)) (m ((c.tc : Thread Cert.KvfFwdIdeal.nD Cert.KvfFwdIdeal.τ).loc Cert.KvfFwdIdeal.main_arg2)) (m ((c.tc : Thread Cert.KvfFwdIdeal.nD Cert.KvfFwdIdeal.τ).loc Cert.KvfFwdIdeal.main_arg3))).1 = (fun _ => 1#1)
    ∧ (Cert.Pre_kvf_fwd_finite.fn (F := Ideal) (m ((c.tc : Thread Cert.KvfFwdIdeal.nD Cert.KvfFwdIdeal.τ).loc Cert.KvfFwdIdeal.main_arg0)) (m ((c.tc : Thread Cert.KvfFwdIdeal.nD Cert.KvfFwdIdeal.τ).loc Cert.KvfFwdIdeal.main_arg1)) (m ((c.tc : Thread Cert.KvfFwdIdeal.nD Cert.KvfFwdIdeal.τ).loc Cert.KvfFwdIdeal.main_arg2)) (m ((c.tc : Thread Cert.KvfFwdIdeal.nD Cert.KvfFwdIdeal.τ).loc Cert.KvfFwdIdeal.main_arg3))).2.1 = (fun _ => 1#1)
    ∧ (Cert.Pre_kvf_fwd_finite.fn (F := Ideal) (m ((c.tc : Thread Cert.KvfFwdIdeal.nD Cert.KvfFwdIdeal.τ).loc Cert.KvfFwdIdeal.main_arg0)) (m ((c.tc : Thread Cert.KvfFwdIdeal.nD Cert.KvfFwdIdeal.τ).loc Cert.KvfFwdIdeal.main_arg1)) (m ((c.tc : Thread Cert.KvfFwdIdeal.nD Cert.KvfFwdIdeal.τ).loc Cert.KvfFwdIdeal.main_arg2)) (m ((c.tc : Thread Cert.KvfFwdIdeal.nD Cert.KvfFwdIdeal.τ).loc Cert.KvfFwdIdeal.main_arg3))).2.2.1 = (fun _ => 1#1)
    ∧ (Cert.Pre_kvf_fwd_finite.fn (F := Ideal) (m ((c.tc : Thread Cert.KvfFwdIdeal.nD Cert.KvfFwdIdeal.τ).loc Cert.KvfFwdIdeal.main_arg0)) (m ((c.tc : Thread Cert.KvfFwdIdeal.nD Cert.KvfFwdIdeal.τ).loc Cert.KvfFwdIdeal.main_arg1)) (m ((c.tc : Thread Cert.KvfFwdIdeal.nD Cert.KvfFwdIdeal.τ).loc Cert.KvfFwdIdeal.main_arg2)) (m ((c.tc : Thread Cert.KvfFwdIdeal.nD Cert.KvfFwdIdeal.τ).loc Cert.KvfFwdIdeal.main_arg3))).2.2.2 = (fun _ => 1#1)

def Pre_KvfFwdRefIdeal (m : (ℓ : Loc Cert.KvfFwdRefIdeal.nD Cert.KvfFwdRefIdeal.τ Cert.KvfFwdRefIdeal.sig) → Buf (Elt Ideal) ℓ) : Prop :=
  True

def Pre_KvfFwdRefIdeal_kvf_fwd_finite [hPre_kvf_fwd_finite : Cert.Pre_kvf_fwd_finite.Facts] (m : (ℓ : Loc Cert.KvfFwdRefIdeal.nD Cert.KvfFwdRefIdeal.τ Cert.KvfFwdRefIdeal.sig) → Buf (Elt Ideal) ℓ) : Prop :=
  ∀ c : Dev Cert.KvfFwdRefIdeal.nD,
    (Cert.Pre_kvf_fwd_finite.fn (F := Ideal) (m ((c.tc : Thread Cert.KvfFwdRefIdeal.nD Cert.KvfFwdRefIdeal.τ).loc Cert.KvfFwdRefIdeal.main_arg0)) (m ((c.tc : Thread Cert.KvfFwdRefIdeal.nD Cert.KvfFwdRefIdeal.τ).loc Cert.KvfFwdRefIdeal.main_arg1)) (m ((c.tc : Thread Cert.KvfFwdRefIdeal.nD Cert.KvfFwdRefIdeal.τ).loc Cert.KvfFwdRefIdeal.main_arg2)) (m ((c.tc : Thread Cert.KvfFwdRefIdeal.nD Cert.KvfFwdRefIdeal.τ).loc Cert.KvfFwdRefIdeal.main_arg3))).1 = (fun _ => 1#1)
    ∧ (Cert.Pre_kvf_fwd_finite.fn (F := Ideal) (m ((c.tc : Thread Cert.KvfFwdRefIdeal.nD Cert.KvfFwdRefIdeal.τ).loc Cert.KvfFwdRefIdeal.main_arg0)) (m ((c.tc : Thread Cert.KvfFwdRefIdeal.nD Cert.KvfFwdRefIdeal.τ).loc Cert.KvfFwdRefIdeal.main_arg1)) (m ((c.tc : Thread Cert.KvfFwdRefIdeal.nD Cert.KvfFwdRefIdeal.τ).loc Cert.KvfFwdRefIdeal.main_arg2)) (m ((c.tc : Thread Cert.KvfFwdRefIdeal.nD Cert.KvfFwdRefIdeal.τ).loc Cert.KvfFwdRefIdeal.main_arg3))).2.1 = (fun _ => 1#1)
    ∧ (Cert.Pre_kvf_fwd_finite.fn (F := Ideal) (m ((c.tc : Thread Cert.KvfFwdRefIdeal.nD Cert.KvfFwdRefIdeal.τ).loc Cert.KvfFwdRefIdeal.main_arg0)) (m ((c.tc : Thread Cert.KvfFwdRefIdeal.nD Cert.KvfFwdRefIdeal.τ).loc Cert.KvfFwdRefIdeal.main_arg1)) (m ((c.tc : Thread Cert.KvfFwdRefIdeal.nD Cert.KvfFwdRefIdeal.τ).loc Cert.KvfFwdRefIdeal.main_arg2)) (m ((c.tc : Thread Cert.KvfFwdRefIdeal.nD Cert.KvfFwdRefIdeal.τ).loc Cert.KvfFwdRefIdeal.main_arg3))).2.2.1 = (fun _ => 1#1)
    ∧ (Cert.Pre_kvf_fwd_finite.fn (F := Ideal) (m ((c.tc : Thread Cert.KvfFwdRefIdeal.nD Cert.KvfFwdRefIdeal.τ).loc Cert.KvfFwdRefIdeal.main_arg0)) (m ((c.tc : Thread Cert.KvfFwdRefIdeal.nD Cert.KvfFwdRefIdeal.τ).loc Cert.KvfFwdRefIdeal.main_arg1)) (m ((c.tc : Thread Cert.KvfFwdRefIdeal.nD Cert.KvfFwdRefIdeal.τ).loc Cert.KvfFwdRefIdeal.main_arg2)) (m ((c.tc : Thread Cert.KvfFwdRefIdeal.nD Cert.KvfFwdRefIdeal.τ).loc Cert.KvfFwdRefIdeal.main_arg3))).2.2.2 = (fun _ => 1#1)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormBwdRefIdeal_pre_norm_finite [hNormBwdRefIdeal : Cert.NormBwdRefIdeal.Facts] [hPre_norm_finite : Cert.Pre_norm_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_OBwd [hOBwd : Cert.OBwd.Facts] : Prop :=
  ∀ (m : (ℓ : Loc Cert.OBwd.nD Cert.OBwd.τ Cert.OBwd.sig) → Buf (Elt Bits) ℓ) (g : Dev Cert.OBwd.nD → PrngReg), Pre_OBwd m →
    θ_run (Cert.OBwd.defs (F := Bits)) (onTc (τ := Cert.OBwd.τ) (Cert.OBwd.main (F := Bits))) ⟨m, fun _ => 0, g⟩ (fun r => (∀ c : Dev Cert.OBwd.nD,
      r.2.mem ((c.tc : Thread Cert.OBwd.nD Cert.OBwd.τ).loc Cert.OBwd.main_arg0) = m ((c.tc : Thread Cert.OBwd.nD Cert.OBwd.τ).loc Cert.OBwd.main_arg0)
      ∧ r.2.mem ((c.tc : Thread Cert.OBwd.nD Cert.OBwd.τ).loc Cert.OBwd.main_arg1) = m ((c.tc : Thread Cert.OBwd.nD Cert.OBwd.τ).loc Cert.OBwd.main_arg1)
      ∧ r.2.mem ((c.tc : Thread Cert.OBwd.nD Cert.OBwd.τ).loc Cert.OBwd.main_arg2) = m ((c.tc : Thread Cert.OBwd.nD Cert.OBwd.τ).loc Cert.OBwd.main_arg2))
      ∧ r.2.sem = fun _ => 0)

def quiescent_OBwdIdeal [hOBwdIdeal : Cert.OBwdIdeal.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
      ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ r.2.sem = fun _ => 0)

def quiescent_OBwdIdeal_pre_o_finite [hOBwdIdeal : Cert.OBwdIdeal.Facts] [hPre_o_finite : Cert.Pre_o_finite.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal_o_finite m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
      ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ r.2.sem = fun _ => 0)

def quiescent_OBwdRefIdeal [hOBwdRefIdeal : Cert.OBwdRefIdeal.Facts] : Prop :=
  ∀ (m : (ℓ : Loc Cert.OBwdRefIdeal.nD Cert.OBwdRefIdeal.τ Cert.OBwdRefIdeal.sig) → Buf (Elt Ideal) ℓ) (g : Dev Cert.OBwdRefIdeal.nD → PrngReg), Pre_OBwdRefIdeal m →
    θ_run (Cert.OBwdRefIdeal.defs (F := Ideal)) (onTc (τ := Cert.OBwdRefIdeal.τ) (Cert.OBwdRefIdeal.main (F := Ideal))) ⟨m, fun _ => 0, g⟩ (fun r => (∀ c : Dev Cert.OBwdRefIdeal.nD,
      r.2.mem ((c.tc : Thread Cert.OBwdRefIdeal.nD Cert.OBwdRefIdeal.τ).loc Cert.OBwdRefIdeal.main_arg0) = m ((c.tc : Thread Cert.OBwdRefIdeal.nD Cert.OBwdRefIdeal.τ).loc Cert.OBwdRefIdeal.main_arg0)
      ∧ r.2.mem ((c.tc : Thread Cert.OBwdRefIdeal.nD Cert.OBwdRefIdeal.τ).loc Cert.OBwdRefIdeal.main_arg1) = m ((c.tc : Thread Cert.OBwdRefIdeal.nD Cert.OBwdRefIdeal.τ).loc Cert.OBwdRefIdeal.main_arg1)
      ∧ r.2.mem ((c.tc : Thread Cert.OBwdRefIdeal.nD Cert.OBwdRefIdeal.τ).loc Cert.OBwdRefIdeal.main_arg2) = m ((c.tc : Thread Cert.OBwdRefIdeal.nD Cert.OBwdRefIdeal.τ).loc Cert.OBwdRefIdeal.main_arg2))
      ∧ r.2.sem = fun _ => 0)

def quiescent_OBwdRefIdeal_pre_o_finite [hOBwdRefIdeal : Cert.OBwdRefIdeal.Facts] [hPre_o_finite : Cert.Pre_o_finite.Facts] : Prop :=
  ∀ (m : (ℓ : Loc Cert.OBwdRefIdeal.nD Cert.OBwdRefIdeal.τ Cert.OBwdRefIdeal.sig) → Buf (Elt Ideal) ℓ) (g : Dev Cert.OBwdRefIdeal.nD → PrngReg), Pre_OBwdRefIdeal_o_finite m →
    θ_run (Cert.OBwdRefIdeal.defs (F := Ideal)) (onTc (τ := Cert.OBwdRefIdeal.τ) (Cert.OBwdRefIdeal.main (F := Ideal))) ⟨m, fun _ => 0, g⟩ (fun r => (∀ c : Dev Cert.OBwdRefIdeal.nD,
      r.2.mem ((c.tc : Thread Cert.OBwdRefIdeal.nD Cert.OBwdRefIdeal.τ).loc Cert.OBwdRefIdeal.main_arg0) = m ((c.tc : Thread Cert.OBwdRefIdeal.nD Cert.OBwdRefIdeal.τ).loc Cert.OBwdRefIdeal.main_arg0)
      ∧ r.2.mem ((c.tc : Thread Cert.OBwdRefIdeal.nD Cert.OBwdRefIdeal.τ).loc Cert.OBwdRefIdeal.main_arg1) = m ((c.tc : Thread Cert.OBwdRefIdeal.nD Cert.OBwdRefIdeal.τ).loc Cert.OBwdRefIdeal.main_arg1)
      ∧ r.2.mem ((c.tc : Thread Cert.OBwdRefIdeal.nD Cert.OBwdRefIdeal.τ).loc Cert.OBwdRefIdeal.main_arg2) = m ((c.tc : Thread Cert.OBwdRefIdeal.nD Cert.OBwdRefIdeal.τ).loc Cert.OBwdRefIdeal.main_arg2))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdIdeal_pre_q_finite [hQBwdIdeal : Cert.QBwdIdeal.Facts] [hPre_q_finite : Cert.Pre_q_finite.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal_q_finite m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_QBwdRefIdeal_pre_q_finite [hQBwdRefIdeal : Cert.QBwdRefIdeal.Facts] [hPre_q_finite : Cert.Pre_q_finite.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal_q_finite m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3))
      ∧ r.2.sem = fun _ => 0)

def quiescent_S5PostIdeal_pre_s5_post_finite [hS5PostIdeal : Cert.S5PostIdeal.Facts] [hPre_s5_post_finite : Cert.Pre_s5_post_finite.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal_s5_post_finite m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3))
      ∧ r.2.sem = fun _ => 0)

def quiescent_S5PostRefIdeal [hS5PostRefIdeal : Cert.S5PostRefIdeal.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3))
      ∧ r.2.sem = fun _ => 0)

def quiescent_S5PostRefIdeal_pre_s5_post_finite [hS5PostRefIdeal : Cert.S5PostRefIdeal.Facts] [hPre_s5_post_finite : Cert.Pre_s5_post_finite.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal_s5_post_finite m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdIdeal_pre_mlp_finite [hMlpBwdIdeal : Cert.MlpBwdIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_MlpBwdRefIdeal_pre_mlp_finite [hMlpBwdRefIdeal : Cert.MlpBwdRefIdeal.Facts] [hPre_mlp_finite : Cert.Pre_mlp_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_mlp_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_KvfBwd [hKvfBwd : Cert.KvfBwd.Facts] : Prop :=
  ∀ (m : (ℓ : Loc Cert.KvfBwd.nD Cert.KvfBwd.τ Cert.KvfBwd.sig) → Buf (Elt Bits) ℓ) (g : Dev Cert.KvfBwd.nD → PrngReg), Pre_KvfBwd m →
    θ_run (Cert.KvfBwd.defs (F := Bits)) (onTc (τ := Cert.KvfBwd.τ) (Cert.KvfBwd.main (F := Bits))) ⟨m, fun _ => 0, g⟩ (fun r => (∀ c : Dev Cert.KvfBwd.nD,
      r.2.mem ((c.tc : Thread Cert.KvfBwd.nD Cert.KvfBwd.τ).loc Cert.KvfBwd.main_arg0) = m ((c.tc : Thread Cert.KvfBwd.nD Cert.KvfBwd.τ).loc Cert.KvfBwd.main_arg0)
      ∧ r.2.mem ((c.tc : Thread Cert.KvfBwd.nD Cert.KvfBwd.τ).loc Cert.KvfBwd.main_arg1) = m ((c.tc : Thread Cert.KvfBwd.nD Cert.KvfBwd.τ).loc Cert.KvfBwd.main_arg1)
      ∧ r.2.mem ((c.tc : Thread Cert.KvfBwd.nD Cert.KvfBwd.τ).loc Cert.KvfBwd.main_arg2) = m ((c.tc : Thread Cert.KvfBwd.nD Cert.KvfBwd.τ).loc Cert.KvfBwd.main_arg2)
      ∧ r.2.mem ((c.tc : Thread Cert.KvfBwd.nD Cert.KvfBwd.τ).loc Cert.KvfBwd.main_arg3) = m ((c.tc : Thread Cert.KvfBwd.nD Cert.KvfBwd.τ).loc Cert.KvfBwd.main_arg3)
      ∧ r.2.mem ((c.tc : Thread Cert.KvfBwd.nD Cert.KvfBwd.τ).loc Cert.KvfBwd.main_arg4) = m ((c.tc : Thread Cert.KvfBwd.nD Cert.KvfBwd.τ).loc Cert.KvfBwd.main_arg4)
      ∧ r.2.mem ((c.tc : Thread Cert.KvfBwd.nD Cert.KvfBwd.τ).loc Cert.KvfBwd.main_arg5) = m ((c.tc : Thread Cert.KvfBwd.nD Cert.KvfBwd.τ).loc Cert.KvfBwd.main_arg5)
      ∧ r.2.mem ((c.tc : Thread Cert.KvfBwd.nD Cert.KvfBwd.τ).loc Cert.KvfBwd.main_arg6) = m ((c.tc : Thread Cert.KvfBwd.nD Cert.KvfBwd.τ).loc Cert.KvfBwd.main_arg6)
      ∧ r.2.mem ((c.tc : Thread Cert.KvfBwd.nD Cert.KvfBwd.τ).loc Cert.KvfBwd.main_arg7) = m ((c.tc : Thread Cert.KvfBwd.nD Cert.KvfBwd.τ).loc Cert.KvfBwd.main_arg7)
      ∧ r.2.mem ((c.tc : Thread Cert.KvfBwd.nD Cert.KvfBwd.τ).loc Cert.KvfBwd.main_arg8) = m ((c.tc : Thread Cert.KvfBwd.nD Cert.KvfBwd.τ).loc Cert.KvfBwd.main_arg8)
      ∧ r.2.mem ((c.tc : Thread Cert.KvfBwd.nD Cert.KvfBwd.τ).loc Cert.KvfBwd.main_arg9) = m ((c.tc : Thread Cert.KvfBwd.nD Cert.KvfBwd.τ).loc Cert.KvfBwd.main_arg9)
      ∧ r.2.mem ((c.tc : Thread Cert.KvfBwd.nD Cert.KvfBwd.τ).loc Cert.KvfBwd.main_arg10) = m ((c.tc : Thread Cert.KvfBwd.nD Cert.KvfBwd.τ).loc Cert.KvfBwd.main_arg10)
      ∧ r.2.mem ((c.tc : Thread Cert.KvfBwd.nD Cert.KvfBwd.τ).loc Cert.KvfBwd.main_arg11) = m ((c.tc : Thread Cert.KvfBwd.nD Cert.KvfBwd.τ).loc Cert.KvfBwd.main_arg11)
      ∧ r.2.mem ((c.tc : Thread Cert.KvfBwd.nD Cert.KvfBwd.τ).loc Cert.KvfBwd.main_arg12) = m ((c.tc : Thread Cert.KvfBwd.nD Cert.KvfBwd.τ).loc Cert.KvfBwd.main_arg12)
      ∧ r.2.mem ((c.tc : Thread Cert.KvfBwd.nD Cert.KvfBwd.τ).loc Cert.KvfBwd.main_arg13) = m ((c.tc : Thread Cert.KvfBwd.nD Cert.KvfBwd.τ).loc Cert.KvfBwd.main_arg13)
      ∧ r.2.mem ((c.tc : Thread Cert.KvfBwd.nD Cert.KvfBwd.τ).loc Cert.KvfBwd.main_arg14) = m ((c.tc : Thread Cert.KvfBwd.nD Cert.KvfBwd.τ).loc Cert.KvfBwd.main_arg14))
      ∧ r.2.sem = fun _ => 0)

def quiescent_KvfBwdIdeal [hKvfBwdIdeal : Cert.KvfBwdIdeal.Facts] : Prop :=
  ∀ (m : (ℓ : Loc Cert.KvfBwdIdeal.nD Cert.KvfBwdIdeal.τ Cert.KvfBwdIdeal.sig) → Buf (Elt Ideal) ℓ) (g : Dev Cert.KvfBwdIdeal.nD → PrngReg), Pre_KvfBwdIdeal m →
    θ_run (Cert.KvfBwdIdeal.defs (F := Ideal)) (onTc (τ := Cert.KvfBwdIdeal.τ) (Cert.KvfBwdIdeal.main (F := Ideal))) ⟨m, fun _ => 0, g⟩ (fun r => (∀ c : Dev Cert.KvfBwdIdeal.nD,
      r.2.mem ((c.tc : Thread Cert.KvfBwdIdeal.nD Cert.KvfBwdIdeal.τ).loc Cert.KvfBwdIdeal.main_arg0) = m ((c.tc : Thread Cert.KvfBwdIdeal.nD Cert.KvfBwdIdeal.τ).loc Cert.KvfBwdIdeal.main_arg0)
      ∧ r.2.mem ((c.tc : Thread Cert.KvfBwdIdeal.nD Cert.KvfBwdIdeal.τ).loc Cert.KvfBwdIdeal.main_arg1) = m ((c.tc : Thread Cert.KvfBwdIdeal.nD Cert.KvfBwdIdeal.τ).loc Cert.KvfBwdIdeal.main_arg1)
      ∧ r.2.mem ((c.tc : Thread Cert.KvfBwdIdeal.nD Cert.KvfBwdIdeal.τ).loc Cert.KvfBwdIdeal.main_arg2) = m ((c.tc : Thread Cert.KvfBwdIdeal.nD Cert.KvfBwdIdeal.τ).loc Cert.KvfBwdIdeal.main_arg2)
      ∧ r.2.mem ((c.tc : Thread Cert.KvfBwdIdeal.nD Cert.KvfBwdIdeal.τ).loc Cert.KvfBwdIdeal.main_arg3) = m ((c.tc : Thread Cert.KvfBwdIdeal.nD Cert.KvfBwdIdeal.τ).loc Cert.KvfBwdIdeal.main_arg3)
      ∧ r.2.mem ((c.tc : Thread Cert.KvfBwdIdeal.nD Cert.KvfBwdIdeal.τ).loc Cert.KvfBwdIdeal.main_arg4) = m ((c.tc : Thread Cert.KvfBwdIdeal.nD Cert.KvfBwdIdeal.τ).loc Cert.KvfBwdIdeal.main_arg4)
      ∧ r.2.mem ((c.tc : Thread Cert.KvfBwdIdeal.nD Cert.KvfBwdIdeal.τ).loc Cert.KvfBwdIdeal.main_arg5) = m ((c.tc : Thread Cert.KvfBwdIdeal.nD Cert.KvfBwdIdeal.τ).loc Cert.KvfBwdIdeal.main_arg5)
      ∧ r.2.mem ((c.tc : Thread Cert.KvfBwdIdeal.nD Cert.KvfBwdIdeal.τ).loc Cert.KvfBwdIdeal.main_arg6) = m ((c.tc : Thread Cert.KvfBwdIdeal.nD Cert.KvfBwdIdeal.τ).loc Cert.KvfBwdIdeal.main_arg6)
      ∧ r.2.mem ((c.tc : Thread Cert.KvfBwdIdeal.nD Cert.KvfBwdIdeal.τ).loc Cert.KvfBwdIdeal.main_arg7) = m ((c.tc : Thread Cert.KvfBwdIdeal.nD Cert.KvfBwdIdeal.τ).loc Cert.KvfBwdIdeal.main_arg7)
      ∧ r.2.mem ((c.tc : Thread Cert.KvfBwdIdeal.nD Cert.KvfBwdIdeal.τ).loc Cert.KvfBwdIdeal.main_arg8) = m ((c.tc : Thread Cert.KvfBwdIdeal.nD Cert.KvfBwdIdeal.τ).loc Cert.KvfBwdIdeal.main_arg8)
      ∧ r.2.mem ((c.tc : Thread Cert.KvfBwdIdeal.nD Cert.KvfBwdIdeal.τ).loc Cert.KvfBwdIdeal.main_arg9) = m ((c.tc : Thread Cert.KvfBwdIdeal.nD Cert.KvfBwdIdeal.τ).loc Cert.KvfBwdIdeal.main_arg9)
      ∧ r.2.mem ((c.tc : Thread Cert.KvfBwdIdeal.nD Cert.KvfBwdIdeal.τ).loc Cert.KvfBwdIdeal.main_arg10) = m ((c.tc : Thread Cert.KvfBwdIdeal.nD Cert.KvfBwdIdeal.τ).loc Cert.KvfBwdIdeal.main_arg10)
      ∧ r.2.mem ((c.tc : Thread Cert.KvfBwdIdeal.nD Cert.KvfBwdIdeal.τ).loc Cert.KvfBwdIdeal.main_arg11) = m ((c.tc : Thread Cert.KvfBwdIdeal.nD Cert.KvfBwdIdeal.τ).loc Cert.KvfBwdIdeal.main_arg11)
      ∧ r.2.mem ((c.tc : Thread Cert.KvfBwdIdeal.nD Cert.KvfBwdIdeal.τ).loc Cert.KvfBwdIdeal.main_arg12) = m ((c.tc : Thread Cert.KvfBwdIdeal.nD Cert.KvfBwdIdeal.τ).loc Cert.KvfBwdIdeal.main_arg12)
      ∧ r.2.mem ((c.tc : Thread Cert.KvfBwdIdeal.nD Cert.KvfBwdIdeal.τ).loc Cert.KvfBwdIdeal.main_arg13) = m ((c.tc : Thread Cert.KvfBwdIdeal.nD Cert.KvfBwdIdeal.τ).loc Cert.KvfBwdIdeal.main_arg13)
      ∧ r.2.mem ((c.tc : Thread Cert.KvfBwdIdeal.nD Cert.KvfBwdIdeal.τ).loc Cert.KvfBwdIdeal.main_arg14) = m ((c.tc : Thread Cert.KvfBwdIdeal.nD Cert.KvfBwdIdeal.τ).loc Cert.KvfBwdIdeal.main_arg14))
      ∧ r.2.sem = fun _ => 0)

def quiescent_KvfBwdIdeal_pre_kvf_finite [hKvfBwdIdeal : Cert.KvfBwdIdeal.Facts] [hPre_kvf_finite : Cert.Pre_kvf_finite.Facts] : Prop :=
  ∀ (m : (ℓ : Loc Cert.KvfBwdIdeal.nD Cert.KvfBwdIdeal.τ Cert.KvfBwdIdeal.sig) → Buf (Elt Ideal) ℓ) (g : Dev Cert.KvfBwdIdeal.nD → PrngReg), Pre_KvfBwdIdeal_kvf_finite m →
    θ_run (Cert.KvfBwdIdeal.defs (F := Ideal)) (onTc (τ := Cert.KvfBwdIdeal.τ) (Cert.KvfBwdIdeal.main (F := Ideal))) ⟨m, fun _ => 0, g⟩ (fun r => (∀ c : Dev Cert.KvfBwdIdeal.nD,
      r.2.mem ((c.tc : Thread Cert.KvfBwdIdeal.nD Cert.KvfBwdIdeal.τ).loc Cert.KvfBwdIdeal.main_arg0) = m ((c.tc : Thread Cert.KvfBwdIdeal.nD Cert.KvfBwdIdeal.τ).loc Cert.KvfBwdIdeal.main_arg0)
      ∧ r.2.mem ((c.tc : Thread Cert.KvfBwdIdeal.nD Cert.KvfBwdIdeal.τ).loc Cert.KvfBwdIdeal.main_arg1) = m ((c.tc : Thread Cert.KvfBwdIdeal.nD Cert.KvfBwdIdeal.τ).loc Cert.KvfBwdIdeal.main_arg1)
      ∧ r.2.mem ((c.tc : Thread Cert.KvfBwdIdeal.nD Cert.KvfBwdIdeal.τ).loc Cert.KvfBwdIdeal.main_arg2) = m ((c.tc : Thread Cert.KvfBwdIdeal.nD Cert.KvfBwdIdeal.τ).loc Cert.KvfBwdIdeal.main_arg2)
      ∧ r.2.mem ((c.tc : Thread Cert.KvfBwdIdeal.nD Cert.KvfBwdIdeal.τ).loc Cert.KvfBwdIdeal.main_arg3) = m ((c.tc : Thread Cert.KvfBwdIdeal.nD Cert.KvfBwdIdeal.τ).loc Cert.KvfBwdIdeal.main_arg3)
      ∧ r.2.mem ((c.tc : Thread Cert.KvfBwdIdeal.nD Cert.KvfBwdIdeal.τ).loc Cert.KvfBwdIdeal.main_arg4) = m ((c.tc : Thread Cert.KvfBwdIdeal.nD Cert.KvfBwdIdeal.τ).loc Cert.KvfBwdIdeal.main_arg4)
      ∧ r.2.mem ((c.tc : Thread Cert.KvfBwdIdeal.nD Cert.KvfBwdIdeal.τ).loc Cert.KvfBwdIdeal.main_arg5) = m ((c.tc : Thread Cert.KvfBwdIdeal.nD Cert.KvfBwdIdeal.τ).loc Cert.KvfBwdIdeal.main_arg5)
      ∧ r.2.mem ((c.tc : Thread Cert.KvfBwdIdeal.nD Cert.KvfBwdIdeal.τ).loc Cert.KvfBwdIdeal.main_arg6) = m ((c.tc : Thread Cert.KvfBwdIdeal.nD Cert.KvfBwdIdeal.τ).loc Cert.KvfBwdIdeal.main_arg6)
      ∧ r.2.mem ((c.tc : Thread Cert.KvfBwdIdeal.nD Cert.KvfBwdIdeal.τ).loc Cert.KvfBwdIdeal.main_arg7) = m ((c.tc : Thread Cert.KvfBwdIdeal.nD Cert.KvfBwdIdeal.τ).loc Cert.KvfBwdIdeal.main_arg7)
      ∧ r.2.mem ((c.tc : Thread Cert.KvfBwdIdeal.nD Cert.KvfBwdIdeal.τ).loc Cert.KvfBwdIdeal.main_arg8) = m ((c.tc : Thread Cert.KvfBwdIdeal.nD Cert.KvfBwdIdeal.τ).loc Cert.KvfBwdIdeal.main_arg8)
      ∧ r.2.mem ((c.tc : Thread Cert.KvfBwdIdeal.nD Cert.KvfBwdIdeal.τ).loc Cert.KvfBwdIdeal.main_arg9) = m ((c.tc : Thread Cert.KvfBwdIdeal.nD Cert.KvfBwdIdeal.τ).loc Cert.KvfBwdIdeal.main_arg9)
      ∧ r.2.mem ((c.tc : Thread Cert.KvfBwdIdeal.nD Cert.KvfBwdIdeal.τ).loc Cert.KvfBwdIdeal.main_arg10) = m ((c.tc : Thread Cert.KvfBwdIdeal.nD Cert.KvfBwdIdeal.τ).loc Cert.KvfBwdIdeal.main_arg10)
      ∧ r.2.mem ((c.tc : Thread Cert.KvfBwdIdeal.nD Cert.KvfBwdIdeal.τ).loc Cert.KvfBwdIdeal.main_arg11) = m ((c.tc : Thread Cert.KvfBwdIdeal.nD Cert.KvfBwdIdeal.τ).loc Cert.KvfBwdIdeal.main_arg11)
      ∧ r.2.mem ((c.tc : Thread Cert.KvfBwdIdeal.nD Cert.KvfBwdIdeal.τ).loc Cert.KvfBwdIdeal.main_arg12) = m ((c.tc : Thread Cert.KvfBwdIdeal.nD Cert.KvfBwdIdeal.τ).loc Cert.KvfBwdIdeal.main_arg12)
      ∧ r.2.mem ((c.tc : Thread Cert.KvfBwdIdeal.nD Cert.KvfBwdIdeal.τ).loc Cert.KvfBwdIdeal.main_arg13) = m ((c.tc : Thread Cert.KvfBwdIdeal.nD Cert.KvfBwdIdeal.τ).loc Cert.KvfBwdIdeal.main_arg13)
      ∧ r.2.mem ((c.tc : Thread Cert.KvfBwdIdeal.nD Cert.KvfBwdIdeal.τ).loc Cert.KvfBwdIdeal.main_arg14) = m ((c.tc : Thread Cert.KvfBwdIdeal.nD Cert.KvfBwdIdeal.τ).loc Cert.KvfBwdIdeal.main_arg14))
      ∧ r.2.sem = fun _ => 0)

def quiescent_KvfBwdRefIdeal [hKvfBwdRefIdeal : Cert.KvfBwdRefIdeal.Facts] : Prop :=
  ∀ (m : (ℓ : Loc Cert.KvfBwdRefIdeal.nD Cert.KvfBwdRefIdeal.τ Cert.KvfBwdRefIdeal.sig) → Buf (Elt Ideal) ℓ) (g : Dev Cert.KvfBwdRefIdeal.nD → PrngReg), Pre_KvfBwdRefIdeal m →
    θ_run (Cert.KvfBwdRefIdeal.defs (F := Ideal)) (onTc (τ := Cert.KvfBwdRefIdeal.τ) (Cert.KvfBwdRefIdeal.main (F := Ideal))) ⟨m, fun _ => 0, g⟩ (fun r => (∀ c : Dev Cert.KvfBwdRefIdeal.nD,
      r.2.mem ((c.tc : Thread Cert.KvfBwdRefIdeal.nD Cert.KvfBwdRefIdeal.τ).loc Cert.KvfBwdRefIdeal.main_arg0) = m ((c.tc : Thread Cert.KvfBwdRefIdeal.nD Cert.KvfBwdRefIdeal.τ).loc Cert.KvfBwdRefIdeal.main_arg0)
      ∧ r.2.mem ((c.tc : Thread Cert.KvfBwdRefIdeal.nD Cert.KvfBwdRefIdeal.τ).loc Cert.KvfBwdRefIdeal.main_arg1) = m ((c.tc : Thread Cert.KvfBwdRefIdeal.nD Cert.KvfBwdRefIdeal.τ).loc Cert.KvfBwdRefIdeal.main_arg1)
      ∧ r.2.mem ((c.tc : Thread Cert.KvfBwdRefIdeal.nD Cert.KvfBwdRefIdeal.τ).loc Cert.KvfBwdRefIdeal.main_arg2) = m ((c.tc : Thread Cert.KvfBwdRefIdeal.nD Cert.KvfBwdRefIdeal.τ).loc Cert.KvfBwdRefIdeal.main_arg2)
      ∧ r.2.mem ((c.tc : Thread Cert.KvfBwdRefIdeal.nD Cert.KvfBwdRefIdeal.τ).loc Cert.KvfBwdRefIdeal.main_arg3) = m ((c.tc : Thread Cert.KvfBwdRefIdeal.nD Cert.KvfBwdRefIdeal.τ).loc Cert.KvfBwdRefIdeal.main_arg3)
      ∧ r.2.mem ((c.tc : Thread Cert.KvfBwdRefIdeal.nD Cert.KvfBwdRefIdeal.τ).loc Cert.KvfBwdRefIdeal.main_arg4) = m ((c.tc : Thread Cert.KvfBwdRefIdeal.nD Cert.KvfBwdRefIdeal.τ).loc Cert.KvfBwdRefIdeal.main_arg4)
      ∧ r.2.mem ((c.tc : Thread Cert.KvfBwdRefIdeal.nD Cert.KvfBwdRefIdeal.τ).loc Cert.KvfBwdRefIdeal.main_arg5) = m ((c.tc : Thread Cert.KvfBwdRefIdeal.nD Cert.KvfBwdRefIdeal.τ).loc Cert.KvfBwdRefIdeal.main_arg5)
      ∧ r.2.mem ((c.tc : Thread Cert.KvfBwdRefIdeal.nD Cert.KvfBwdRefIdeal.τ).loc Cert.KvfBwdRefIdeal.main_arg6) = m ((c.tc : Thread Cert.KvfBwdRefIdeal.nD Cert.KvfBwdRefIdeal.τ).loc Cert.KvfBwdRefIdeal.main_arg6)
      ∧ r.2.mem ((c.tc : Thread Cert.KvfBwdRefIdeal.nD Cert.KvfBwdRefIdeal.τ).loc Cert.KvfBwdRefIdeal.main_arg7) = m ((c.tc : Thread Cert.KvfBwdRefIdeal.nD Cert.KvfBwdRefIdeal.τ).loc Cert.KvfBwdRefIdeal.main_arg7)
      ∧ r.2.mem ((c.tc : Thread Cert.KvfBwdRefIdeal.nD Cert.KvfBwdRefIdeal.τ).loc Cert.KvfBwdRefIdeal.main_arg8) = m ((c.tc : Thread Cert.KvfBwdRefIdeal.nD Cert.KvfBwdRefIdeal.τ).loc Cert.KvfBwdRefIdeal.main_arg8)
      ∧ r.2.mem ((c.tc : Thread Cert.KvfBwdRefIdeal.nD Cert.KvfBwdRefIdeal.τ).loc Cert.KvfBwdRefIdeal.main_arg9) = m ((c.tc : Thread Cert.KvfBwdRefIdeal.nD Cert.KvfBwdRefIdeal.τ).loc Cert.KvfBwdRefIdeal.main_arg9)
      ∧ r.2.mem ((c.tc : Thread Cert.KvfBwdRefIdeal.nD Cert.KvfBwdRefIdeal.τ).loc Cert.KvfBwdRefIdeal.main_arg10) = m ((c.tc : Thread Cert.KvfBwdRefIdeal.nD Cert.KvfBwdRefIdeal.τ).loc Cert.KvfBwdRefIdeal.main_arg10)
      ∧ r.2.mem ((c.tc : Thread Cert.KvfBwdRefIdeal.nD Cert.KvfBwdRefIdeal.τ).loc Cert.KvfBwdRefIdeal.main_arg11) = m ((c.tc : Thread Cert.KvfBwdRefIdeal.nD Cert.KvfBwdRefIdeal.τ).loc Cert.KvfBwdRefIdeal.main_arg11)
      ∧ r.2.mem ((c.tc : Thread Cert.KvfBwdRefIdeal.nD Cert.KvfBwdRefIdeal.τ).loc Cert.KvfBwdRefIdeal.main_arg12) = m ((c.tc : Thread Cert.KvfBwdRefIdeal.nD Cert.KvfBwdRefIdeal.τ).loc Cert.KvfBwdRefIdeal.main_arg12)
      ∧ r.2.mem ((c.tc : Thread Cert.KvfBwdRefIdeal.nD Cert.KvfBwdRefIdeal.τ).loc Cert.KvfBwdRefIdeal.main_arg13) = m ((c.tc : Thread Cert.KvfBwdRefIdeal.nD Cert.KvfBwdRefIdeal.τ).loc Cert.KvfBwdRefIdeal.main_arg13)
      ∧ r.2.mem ((c.tc : Thread Cert.KvfBwdRefIdeal.nD Cert.KvfBwdRefIdeal.τ).loc Cert.KvfBwdRefIdeal.main_arg14) = m ((c.tc : Thread Cert.KvfBwdRefIdeal.nD Cert.KvfBwdRefIdeal.τ).loc Cert.KvfBwdRefIdeal.main_arg14))
      ∧ r.2.sem = fun _ => 0)

def quiescent_KvfBwdRefIdeal_pre_kvf_finite [hKvfBwdRefIdeal : Cert.KvfBwdRefIdeal.Facts] [hPre_kvf_finite : Cert.Pre_kvf_finite.Facts] : Prop :=
  ∀ (m : (ℓ : Loc Cert.KvfBwdRefIdeal.nD Cert.KvfBwdRefIdeal.τ Cert.KvfBwdRefIdeal.sig) → Buf (Elt Ideal) ℓ) (g : Dev Cert.KvfBwdRefIdeal.nD → PrngReg), Pre_KvfBwdRefIdeal_kvf_finite m →
    θ_run (Cert.KvfBwdRefIdeal.defs (F := Ideal)) (onTc (τ := Cert.KvfBwdRefIdeal.τ) (Cert.KvfBwdRefIdeal.main (F := Ideal))) ⟨m, fun _ => 0, g⟩ (fun r => (∀ c : Dev Cert.KvfBwdRefIdeal.nD,
      r.2.mem ((c.tc : Thread Cert.KvfBwdRefIdeal.nD Cert.KvfBwdRefIdeal.τ).loc Cert.KvfBwdRefIdeal.main_arg0) = m ((c.tc : Thread Cert.KvfBwdRefIdeal.nD Cert.KvfBwdRefIdeal.τ).loc Cert.KvfBwdRefIdeal.main_arg0)
      ∧ r.2.mem ((c.tc : Thread Cert.KvfBwdRefIdeal.nD Cert.KvfBwdRefIdeal.τ).loc Cert.KvfBwdRefIdeal.main_arg1) = m ((c.tc : Thread Cert.KvfBwdRefIdeal.nD Cert.KvfBwdRefIdeal.τ).loc Cert.KvfBwdRefIdeal.main_arg1)
      ∧ r.2.mem ((c.tc : Thread Cert.KvfBwdRefIdeal.nD Cert.KvfBwdRefIdeal.τ).loc Cert.KvfBwdRefIdeal.main_arg2) = m ((c.tc : Thread Cert.KvfBwdRefIdeal.nD Cert.KvfBwdRefIdeal.τ).loc Cert.KvfBwdRefIdeal.main_arg2)
      ∧ r.2.mem ((c.tc : Thread Cert.KvfBwdRefIdeal.nD Cert.KvfBwdRefIdeal.τ).loc Cert.KvfBwdRefIdeal.main_arg3) = m ((c.tc : Thread Cert.KvfBwdRefIdeal.nD Cert.KvfBwdRefIdeal.τ).loc Cert.KvfBwdRefIdeal.main_arg3)
      ∧ r.2.mem ((c.tc : Thread Cert.KvfBwdRefIdeal.nD Cert.KvfBwdRefIdeal.τ).loc Cert.KvfBwdRefIdeal.main_arg4) = m ((c.tc : Thread Cert.KvfBwdRefIdeal.nD Cert.KvfBwdRefIdeal.τ).loc Cert.KvfBwdRefIdeal.main_arg4)
      ∧ r.2.mem ((c.tc : Thread Cert.KvfBwdRefIdeal.nD Cert.KvfBwdRefIdeal.τ).loc Cert.KvfBwdRefIdeal.main_arg5) = m ((c.tc : Thread Cert.KvfBwdRefIdeal.nD Cert.KvfBwdRefIdeal.τ).loc Cert.KvfBwdRefIdeal.main_arg5)
      ∧ r.2.mem ((c.tc : Thread Cert.KvfBwdRefIdeal.nD Cert.KvfBwdRefIdeal.τ).loc Cert.KvfBwdRefIdeal.main_arg6) = m ((c.tc : Thread Cert.KvfBwdRefIdeal.nD Cert.KvfBwdRefIdeal.τ).loc Cert.KvfBwdRefIdeal.main_arg6)
      ∧ r.2.mem ((c.tc : Thread Cert.KvfBwdRefIdeal.nD Cert.KvfBwdRefIdeal.τ).loc Cert.KvfBwdRefIdeal.main_arg7) = m ((c.tc : Thread Cert.KvfBwdRefIdeal.nD Cert.KvfBwdRefIdeal.τ).loc Cert.KvfBwdRefIdeal.main_arg7)
      ∧ r.2.mem ((c.tc : Thread Cert.KvfBwdRefIdeal.nD Cert.KvfBwdRefIdeal.τ).loc Cert.KvfBwdRefIdeal.main_arg8) = m ((c.tc : Thread Cert.KvfBwdRefIdeal.nD Cert.KvfBwdRefIdeal.τ).loc Cert.KvfBwdRefIdeal.main_arg8)
      ∧ r.2.mem ((c.tc : Thread Cert.KvfBwdRefIdeal.nD Cert.KvfBwdRefIdeal.τ).loc Cert.KvfBwdRefIdeal.main_arg9) = m ((c.tc : Thread Cert.KvfBwdRefIdeal.nD Cert.KvfBwdRefIdeal.τ).loc Cert.KvfBwdRefIdeal.main_arg9)
      ∧ r.2.mem ((c.tc : Thread Cert.KvfBwdRefIdeal.nD Cert.KvfBwdRefIdeal.τ).loc Cert.KvfBwdRefIdeal.main_arg10) = m ((c.tc : Thread Cert.KvfBwdRefIdeal.nD Cert.KvfBwdRefIdeal.τ).loc Cert.KvfBwdRefIdeal.main_arg10)
      ∧ r.2.mem ((c.tc : Thread Cert.KvfBwdRefIdeal.nD Cert.KvfBwdRefIdeal.τ).loc Cert.KvfBwdRefIdeal.main_arg11) = m ((c.tc : Thread Cert.KvfBwdRefIdeal.nD Cert.KvfBwdRefIdeal.τ).loc Cert.KvfBwdRefIdeal.main_arg11)
      ∧ r.2.mem ((c.tc : Thread Cert.KvfBwdRefIdeal.nD Cert.KvfBwdRefIdeal.τ).loc Cert.KvfBwdRefIdeal.main_arg12) = m ((c.tc : Thread Cert.KvfBwdRefIdeal.nD Cert.KvfBwdRefIdeal.τ).loc Cert.KvfBwdRefIdeal.main_arg12)
      ∧ r.2.mem ((c.tc : Thread Cert.KvfBwdRefIdeal.nD Cert.KvfBwdRefIdeal.τ).loc Cert.KvfBwdRefIdeal.main_arg13) = m ((c.tc : Thread Cert.KvfBwdRefIdeal.nD Cert.KvfBwdRefIdeal.τ).loc Cert.KvfBwdRefIdeal.main_arg13)
      ∧ r.2.mem ((c.tc : Thread Cert.KvfBwdRefIdeal.nD Cert.KvfBwdRefIdeal.τ).loc Cert.KvfBwdRefIdeal.main_arg14) = m ((c.tc : Thread Cert.KvfBwdRefIdeal.nD Cert.KvfBwdRefIdeal.τ).loc Cert.KvfBwdRefIdeal.main_arg14))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1)
      ∧ r.2.mem ((c.tc : Thread Cert.QFwd.nD Cert.QFwd.τ).loc Cert.QFwd.main_arg2) = m ((c.tc : Thread Cert.QFwd.nD Cert.QFwd.τ).loc Cert.QFwd.main_arg2))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
      ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ r.2.sem = fun _ => 0)

def quiescent_QFwdRefIdeal [hQFwdRefIdeal : Cert.QFwdRefIdeal.Facts] : Prop :=
  ∀ (m : (ℓ : Loc Cert.QFwdRefIdeal.nD Cert.QFwdRefIdeal.τ Cert.QFwdRefIdeal.sig) → Buf (Elt Ideal) ℓ) (g : Dev Cert.QFwdRefIdeal.nD → PrngReg), Pre_QFwdRefIdeal m →
    θ_run (Cert.QFwdRefIdeal.defs (F := Ideal)) (onTc (τ := Cert.QFwdRefIdeal.τ) (Cert.QFwdRefIdeal.main (F := Ideal))) ⟨m, fun _ => 0, g⟩ (fun r => (∀ c : Dev Cert.QFwdRefIdeal.nD,
      r.2.mem ((c.tc : Thread Cert.QFwdRefIdeal.nD Cert.QFwdRefIdeal.τ).loc Cert.QFwdRefIdeal.main_arg0) = m ((c.tc : Thread Cert.QFwdRefIdeal.nD Cert.QFwdRefIdeal.τ).loc Cert.QFwdRefIdeal.main_arg0)
      ∧ r.2.mem ((c.tc : Thread Cert.QFwdRefIdeal.nD Cert.QFwdRefIdeal.τ).loc Cert.QFwdRefIdeal.main_arg1) = m ((c.tc : Thread Cert.QFwdRefIdeal.nD Cert.QFwdRefIdeal.τ).loc Cert.QFwdRefIdeal.main_arg1)
      ∧ r.2.mem ((c.tc : Thread Cert.QFwdRefIdeal.nD Cert.QFwdRefIdeal.τ).loc Cert.QFwdRefIdeal.main_arg2) = m ((c.tc : Thread Cert.QFwdRefIdeal.nD Cert.QFwdRefIdeal.τ).loc Cert.QFwdRefIdeal.main_arg2))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1)
      ∧ r.2.mem ((c.tc : Thread Cert.OFwd.nD Cert.OFwd.τ).loc Cert.OFwd.main_arg2) = m ((c.tc : Thread Cert.OFwd.nD Cert.OFwd.τ).loc Cert.OFwd.main_arg2))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
      ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ r.2.sem = fun _ => 0)

def quiescent_OFwdRefIdeal [hOFwdRefIdeal : Cert.OFwdRefIdeal.Facts] : Prop :=
  ∀ (m : (ℓ : Loc Cert.OFwdRefIdeal.nD Cert.OFwdRefIdeal.τ Cert.OFwdRefIdeal.sig) → Buf (Elt Ideal) ℓ) (g : Dev Cert.OFwdRefIdeal.nD → PrngReg), Pre_OFwdRefIdeal m →
    θ_run (Cert.OFwdRefIdeal.defs (F := Ideal)) (onTc (τ := Cert.OFwdRefIdeal.τ) (Cert.OFwdRefIdeal.main (F := Ideal))) ⟨m, fun _ => 0, g⟩ (fun r => (∀ c : Dev Cert.OFwdRefIdeal.nD,
      r.2.mem ((c.tc : Thread Cert.OFwdRefIdeal.nD Cert.OFwdRefIdeal.τ).loc Cert.OFwdRefIdeal.main_arg0) = m ((c.tc : Thread Cert.OFwdRefIdeal.nD Cert.OFwdRefIdeal.τ).loc Cert.OFwdRefIdeal.main_arg0)
      ∧ r.2.mem ((c.tc : Thread Cert.OFwdRefIdeal.nD Cert.OFwdRefIdeal.τ).loc Cert.OFwdRefIdeal.main_arg1) = m ((c.tc : Thread Cert.OFwdRefIdeal.nD Cert.OFwdRefIdeal.τ).loc Cert.OFwdRefIdeal.main_arg1)
      ∧ r.2.mem ((c.tc : Thread Cert.OFwdRefIdeal.nD Cert.OFwdRefIdeal.τ).loc Cert.OFwdRefIdeal.main_arg2) = m ((c.tc : Thread Cert.OFwdRefIdeal.nD Cert.OFwdRefIdeal.τ).loc Cert.OFwdRefIdeal.main_arg2))
      ∧ r.2.sem = fun _ => 0)

def quiescent_KvfFwd [hKvfFwd : Cert.KvfFwd.Facts] : Prop :=
  ∀ (m : (ℓ : Loc Cert.KvfFwd.nD Cert.KvfFwd.τ Cert.KvfFwd.sig) → Buf (Elt Bits) ℓ) (g : Dev Cert.KvfFwd.nD → PrngReg), Pre_KvfFwd m →
    θ_run (Cert.KvfFwd.defs (F := Bits)) (onTc (τ := Cert.KvfFwd.τ) (Cert.KvfFwd.main (F := Bits))) ⟨m, fun _ => 0, g⟩ (fun r => (∀ c : Dev Cert.KvfFwd.nD,
      r.2.mem ((c.tc : Thread Cert.KvfFwd.nD Cert.KvfFwd.τ).loc Cert.KvfFwd.main_arg0) = m ((c.tc : Thread Cert.KvfFwd.nD Cert.KvfFwd.τ).loc Cert.KvfFwd.main_arg0)
      ∧ r.2.mem ((c.tc : Thread Cert.KvfFwd.nD Cert.KvfFwd.τ).loc Cert.KvfFwd.main_arg1) = m ((c.tc : Thread Cert.KvfFwd.nD Cert.KvfFwd.τ).loc Cert.KvfFwd.main_arg1)
      ∧ r.2.mem ((c.tc : Thread Cert.KvfFwd.nD Cert.KvfFwd.τ).loc Cert.KvfFwd.main_arg2) = m ((c.tc : Thread Cert.KvfFwd.nD Cert.KvfFwd.τ).loc Cert.KvfFwd.main_arg2)
      ∧ r.2.mem ((c.tc : Thread Cert.KvfFwd.nD Cert.KvfFwd.τ).loc Cert.KvfFwd.main_arg3) = m ((c.tc : Thread Cert.KvfFwd.nD Cert.KvfFwd.τ).loc Cert.KvfFwd.main_arg3))
      ∧ r.2.sem = fun _ => 0)

def quiescent_KvfFwdIdeal [hKvfFwdIdeal : Cert.KvfFwdIdeal.Facts] : Prop :=
  ∀ (m : (ℓ : Loc Cert.KvfFwdIdeal.nD Cert.KvfFwdIdeal.τ Cert.KvfFwdIdeal.sig) → Buf (Elt Ideal) ℓ) (g : Dev Cert.KvfFwdIdeal.nD → PrngReg), Pre_KvfFwdIdeal m →
    θ_run (Cert.KvfFwdIdeal.defs (F := Ideal)) (onTc (τ := Cert.KvfFwdIdeal.τ) (Cert.KvfFwdIdeal.main (F := Ideal))) ⟨m, fun _ => 0, g⟩ (fun r => (∀ c : Dev Cert.KvfFwdIdeal.nD,
      r.2.mem ((c.tc : Thread Cert.KvfFwdIdeal.nD Cert.KvfFwdIdeal.τ).loc Cert.KvfFwdIdeal.main_arg0) = m ((c.tc : Thread Cert.KvfFwdIdeal.nD Cert.KvfFwdIdeal.τ).loc Cert.KvfFwdIdeal.main_arg0)
      ∧ r.2.mem ((c.tc : Thread Cert.KvfFwdIdeal.nD Cert.KvfFwdIdeal.τ).loc Cert.KvfFwdIdeal.main_arg1) = m ((c.tc : Thread Cert.KvfFwdIdeal.nD Cert.KvfFwdIdeal.τ).loc Cert.KvfFwdIdeal.main_arg1)
      ∧ r.2.mem ((c.tc : Thread Cert.KvfFwdIdeal.nD Cert.KvfFwdIdeal.τ).loc Cert.KvfFwdIdeal.main_arg2) = m ((c.tc : Thread Cert.KvfFwdIdeal.nD Cert.KvfFwdIdeal.τ).loc Cert.KvfFwdIdeal.main_arg2)
      ∧ r.2.mem ((c.tc : Thread Cert.KvfFwdIdeal.nD Cert.KvfFwdIdeal.τ).loc Cert.KvfFwdIdeal.main_arg3) = m ((c.tc : Thread Cert.KvfFwdIdeal.nD Cert.KvfFwdIdeal.τ).loc Cert.KvfFwdIdeal.main_arg3))
      ∧ r.2.sem = fun _ => 0)

def quiescent_KvfFwdIdeal_pre_kvf_fwd_finite [hKvfFwdIdeal : Cert.KvfFwdIdeal.Facts] [hPre_kvf_fwd_finite : Cert.Pre_kvf_fwd_finite.Facts] : Prop :=
  ∀ (m : (ℓ : Loc Cert.KvfFwdIdeal.nD Cert.KvfFwdIdeal.τ Cert.KvfFwdIdeal.sig) → Buf (Elt Ideal) ℓ) (g : Dev Cert.KvfFwdIdeal.nD → PrngReg), Pre_KvfFwdIdeal_kvf_fwd_finite m →
    θ_run (Cert.KvfFwdIdeal.defs (F := Ideal)) (onTc (τ := Cert.KvfFwdIdeal.τ) (Cert.KvfFwdIdeal.main (F := Ideal))) ⟨m, fun _ => 0, g⟩ (fun r => (∀ c : Dev Cert.KvfFwdIdeal.nD,
      r.2.mem ((c.tc : Thread Cert.KvfFwdIdeal.nD Cert.KvfFwdIdeal.τ).loc Cert.KvfFwdIdeal.main_arg0) = m ((c.tc : Thread Cert.KvfFwdIdeal.nD Cert.KvfFwdIdeal.τ).loc Cert.KvfFwdIdeal.main_arg0)
      ∧ r.2.mem ((c.tc : Thread Cert.KvfFwdIdeal.nD Cert.KvfFwdIdeal.τ).loc Cert.KvfFwdIdeal.main_arg1) = m ((c.tc : Thread Cert.KvfFwdIdeal.nD Cert.KvfFwdIdeal.τ).loc Cert.KvfFwdIdeal.main_arg1)
      ∧ r.2.mem ((c.tc : Thread Cert.KvfFwdIdeal.nD Cert.KvfFwdIdeal.τ).loc Cert.KvfFwdIdeal.main_arg2) = m ((c.tc : Thread Cert.KvfFwdIdeal.nD Cert.KvfFwdIdeal.τ).loc Cert.KvfFwdIdeal.main_arg2)
      ∧ r.2.mem ((c.tc : Thread Cert.KvfFwdIdeal.nD Cert.KvfFwdIdeal.τ).loc Cert.KvfFwdIdeal.main_arg3) = m ((c.tc : Thread Cert.KvfFwdIdeal.nD Cert.KvfFwdIdeal.τ).loc Cert.KvfFwdIdeal.main_arg3))
      ∧ r.2.sem = fun _ => 0)

def quiescent_KvfFwdRefIdeal [hKvfFwdRefIdeal : Cert.KvfFwdRefIdeal.Facts] : Prop :=
  ∀ (m : (ℓ : Loc Cert.KvfFwdRefIdeal.nD Cert.KvfFwdRefIdeal.τ Cert.KvfFwdRefIdeal.sig) → Buf (Elt Ideal) ℓ) (g : Dev Cert.KvfFwdRefIdeal.nD → PrngReg), Pre_KvfFwdRefIdeal m →
    θ_run (Cert.KvfFwdRefIdeal.defs (F := Ideal)) (onTc (τ := Cert.KvfFwdRefIdeal.τ) (Cert.KvfFwdRefIdeal.main (F := Ideal))) ⟨m, fun _ => 0, g⟩ (fun r => (∀ c : Dev Cert.KvfFwdRefIdeal.nD,
      r.2.mem ((c.tc : Thread Cert.KvfFwdRefIdeal.nD Cert.KvfFwdRefIdeal.τ).loc Cert.KvfFwdRefIdeal.main_arg0) = m ((c.tc : Thread Cert.KvfFwdRefIdeal.nD Cert.KvfFwdRefIdeal.τ).loc Cert.KvfFwdRefIdeal.main_arg0)
      ∧ r.2.mem ((c.tc : Thread Cert.KvfFwdRefIdeal.nD Cert.KvfFwdRefIdeal.τ).loc Cert.KvfFwdRefIdeal.main_arg1) = m ((c.tc : Thread Cert.KvfFwdRefIdeal.nD Cert.KvfFwdRefIdeal.τ).loc Cert.KvfFwdRefIdeal.main_arg1)
      ∧ r.2.mem ((c.tc : Thread Cert.KvfFwdRefIdeal.nD Cert.KvfFwdRefIdeal.τ).loc Cert.KvfFwdRefIdeal.main_arg2) = m ((c.tc : Thread Cert.KvfFwdRefIdeal.nD Cert.KvfFwdRefIdeal.τ).loc Cert.KvfFwdRefIdeal.main_arg2)
      ∧ r.2.mem ((c.tc : Thread Cert.KvfFwdRefIdeal.nD Cert.KvfFwdRefIdeal.τ).loc Cert.KvfFwdRefIdeal.main_arg3) = m ((c.tc : Thread Cert.KvfFwdRefIdeal.nD Cert.KvfFwdRefIdeal.τ).loc Cert.KvfFwdRefIdeal.main_arg3))
      ∧ r.2.sem = fun _ => 0)

def quiescent_KvfFwdRefIdeal_pre_kvf_fwd_finite [hKvfFwdRefIdeal : Cert.KvfFwdRefIdeal.Facts] [hPre_kvf_fwd_finite : Cert.Pre_kvf_fwd_finite.Facts] : Prop :=
  ∀ (m : (ℓ : Loc Cert.KvfFwdRefIdeal.nD Cert.KvfFwdRefIdeal.τ Cert.KvfFwdRefIdeal.sig) → Buf (Elt Ideal) ℓ) (g : Dev Cert.KvfFwdRefIdeal.nD → PrngReg), Pre_KvfFwdRefIdeal_kvf_fwd_finite m →
    θ_run (Cert.KvfFwdRefIdeal.defs (F := Ideal)) (onTc (τ := Cert.KvfFwdRefIdeal.τ) (Cert.KvfFwdRefIdeal.main (F := Ideal))) ⟨m, fun _ => 0, g⟩ (fun r => (∀ c : Dev Cert.KvfFwdRefIdeal.nD,
      r.2.mem ((c.tc : Thread Cert.KvfFwdRefIdeal.nD Cert.KvfFwdRefIdeal.τ).loc Cert.KvfFwdRefIdeal.main_arg0) = m ((c.tc : Thread Cert.KvfFwdRefIdeal.nD Cert.KvfFwdRefIdeal.τ).loc Cert.KvfFwdRefIdeal.main_arg0)
      ∧ r.2.mem ((c.tc : Thread Cert.KvfFwdRefIdeal.nD Cert.KvfFwdRefIdeal.τ).loc Cert.KvfFwdRefIdeal.main_arg1) = m ((c.tc : Thread Cert.KvfFwdRefIdeal.nD Cert.KvfFwdRefIdeal.τ).loc Cert.KvfFwdRefIdeal.main_arg1)
      ∧ r.2.mem ((c.tc : Thread Cert.KvfFwdRefIdeal.nD Cert.KvfFwdRefIdeal.τ).loc Cert.KvfFwdRefIdeal.main_arg2) = m ((c.tc : Thread Cert.KvfFwdRefIdeal.nD Cert.KvfFwdRefIdeal.τ).loc Cert.KvfFwdRefIdeal.main_arg2)
      ∧ r.2.mem ((c.tc : Thread Cert.KvfFwdRefIdeal.nD Cert.KvfFwdRefIdeal.τ).loc Cert.KvfFwdRefIdeal.main_arg3) = m ((c.tc : Thread Cert.KvfFwdRefIdeal.nD Cert.KvfFwdRefIdeal.τ).loc Cert.KvfFwdRefIdeal.main_arg3))
      ∧ r.2.sem = fun _ => 0)

def preserves_NormBwd_NormBwdIdeal : Prop :=
  True

def algebraic_NormBwdIdeal_NormBwdRefIdeal_pre_norm_finite [hNormBwdIdeal : Cert.NormBwdIdeal.Facts] [hNormBwdRefIdeal : Cert.NormBwdRefIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v100)) (v1 : (c : Dev Cert.AttnBwdIdeal.nD) → Buf (Elt Ideal) ((c.tc : Thread Cert.AttnBwdIdeal.nD Cert.AttnBwdIdeal.τ).loc Cert.AttnBwdIdeal.main_v105)) (v2 : (c : Dev Cert.AttnBwdIdeal.nD) → Buf (Elt Ideal) ((c.tc : Thread Cert.AttnBwdIdeal.nD Cert.AttnBwdIdeal.τ).loc Cert.AttnBwdIdeal.main_v90_2)) (v3 : (c : Dev Cert.AttnBwdIdeal.nD) → Buf (Elt Ideal) ((c.tc : Thread Cert.AttnBwdIdeal.nD Cert.AttnBwdIdeal.τ).loc Cert.AttnBwdIdeal.main_v97)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v100) = v0 c
          ∧ r.2.mem ((c.tc : Thread Cert.AttnBwdIdeal.nD Cert.AttnBwdIdeal.τ).loc Cert.AttnBwdIdeal.main_v105) = v1 c
          ∧ r.2.mem ((c.tc : Thread Cert.AttnBwdIdeal.nD Cert.AttnBwdIdeal.τ).loc Cert.AttnBwdIdeal.main_v90_2) = v2 c
          ∧ r.2.mem ((c.tc : Thread Cert.AttnBwdIdeal.nD Cert.AttnBwdIdeal.τ).loc Cert.AttnBwdIdeal.main_v97) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v86) = v0 c
          ∧ r.2.mem ((c.tc : Thread Cert.AttnBwdRefIdeal.nD Cert.AttnBwdRefIdeal.τ).loc Cert.AttnBwdRefIdeal.main_v84) = v1 c
          ∧ r.2.mem ((c.tc : Thread Cert.AttnBwdRefIdeal.nD Cert.AttnBwdRefIdeal.τ).loc Cert.AttnBwdRefIdeal.main_v59) = v2 c
          ∧ r.2.mem ((c.tc : Thread Cert.AttnBwdRefIdeal.nD Cert.AttnBwdRefIdeal.τ).loc Cert.AttnBwdRefIdeal.main_v87) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_OBwd_OBwdIdeal : Prop :=
  True

def algebraic_OBwdIdeal_OBwdRefIdeal_pre_o_finite [hOBwdIdeal : Cert.OBwdIdeal.Facts] [hOBwdRefIdeal : Cert.OBwdRefIdeal.Facts] [hPre_o_finite : Cert.Pre_o_finite.Facts] : Prop :=
  ∀ (m : (ℓ : Loc Cert.OBwdIdeal.nD Cert.OBwdIdeal.τ Cert.OBwdIdeal.sig) → Buf (Elt Ideal) ℓ) (g : Dev Cert.OBwdIdeal.nD → PrngReg)
    (m' : (ℓ : Loc Cert.OBwdRefIdeal.nD Cert.OBwdRefIdeal.τ Cert.OBwdRefIdeal.sig) → Buf (Elt Ideal) ℓ) (g' : Dev Cert.OBwdRefIdeal.nD → PrngReg), Pre_OBwdIdeal_o_finite m →
    (∀ c : Dev Cert.OBwdIdeal.nD,
      m' ((c.tc : Thread Cert.OBwdRefIdeal.nD Cert.OBwdRefIdeal.τ).loc Cert.OBwdRefIdeal.main_arg0) = m ((c.tc : Thread Cert.OBwdIdeal.nD Cert.OBwdIdeal.τ).loc Cert.OBwdIdeal.main_arg0)
      ∧ m' ((c.tc : Thread Cert.OBwdRefIdeal.nD Cert.OBwdRefIdeal.τ).loc Cert.OBwdRefIdeal.main_arg1) = m ((c.tc : Thread Cert.OBwdIdeal.nD Cert.OBwdIdeal.τ).loc Cert.OBwdIdeal.main_arg1)
      ∧ m' ((c.tc : Thread Cert.OBwdRefIdeal.nD Cert.OBwdRefIdeal.τ).loc Cert.OBwdRefIdeal.main_arg2) = m ((c.tc : Thread Cert.OBwdIdeal.nD Cert.OBwdIdeal.τ).loc Cert.OBwdIdeal.main_arg2)) →
    ∃ (v0 : (c : Dev Cert.OBwdIdeal.nD) → Buf (Elt Ideal) ((c.tc : Thread Cert.OBwdIdeal.nD Cert.OBwdIdeal.τ).loc Cert.OBwdIdeal.main_v11_0)) (v1 : (c : Dev Cert.OBwdIdeal.nD) → Buf (Elt Ideal) ((c.tc : Thread Cert.OBwdIdeal.nD Cert.OBwdIdeal.τ).loc Cert.OBwdIdeal.main_v11_1)),
      θ_run (Cert.OBwdIdeal.defs (F := Ideal)) (onTc (τ := Cert.OBwdIdeal.τ) (Cert.OBwdIdeal.main (F := Ideal))) ⟨m, fun _ => 0, g⟩ (fun r => ∀ c : Dev Cert.OBwdIdeal.nD,
          r.2.mem ((c.tc : Thread Cert.OBwdIdeal.nD Cert.OBwdIdeal.τ).loc Cert.OBwdIdeal.main_v11_0) = v0 c
          ∧ r.2.mem ((c.tc : Thread Cert.OBwdIdeal.nD Cert.OBwdIdeal.τ).loc Cert.OBwdIdeal.main_v11_1) = v1 c
          ∧ r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
          ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
          ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ θ_run (Cert.OBwdRefIdeal.defs (F := Ideal)) (onTc (τ := Cert.OBwdRefIdeal.τ) (Cert.OBwdRefIdeal.main (F := Ideal))) ⟨m', fun _ => 0, g'⟩ (fun r => ∀ c : Dev Cert.OBwdRefIdeal.nD,
          r.2.mem ((c.tc : Thread Cert.OBwdRefIdeal.nD Cert.OBwdRefIdeal.τ).loc Cert.OBwdRefIdeal.main_v5) = v0 c
          ∧ r.2.mem ((c.tc : Thread Cert.OBwdRefIdeal.nD Cert.OBwdRefIdeal.τ).loc Cert.OBwdRefIdeal.main_v6) = v1 c
          ∧ r.2.mem ((c.tc : Thread Cert.OBwdRefIdeal.nD Cert.OBwdRefIdeal.τ).loc Cert.OBwdRefIdeal.main_arg0) = m' ((c.tc : Thread Cert.OBwdRefIdeal.nD Cert.OBwdRefIdeal.τ).loc Cert.OBwdRefIdeal.main_arg0)
          ∧ r.2.mem ((c.tc : Thread Cert.OBwdRefIdeal.nD Cert.OBwdRefIdeal.τ).loc Cert.OBwdRefIdeal.main_arg1) = m' ((c.tc : Thread Cert.OBwdRefIdeal.nD Cert.OBwdRefIdeal.τ).loc Cert.OBwdRefIdeal.main_arg1)
          ∧ r.2.mem ((c.tc : Thread Cert.OBwdRefIdeal.nD Cert.OBwdRefIdeal.τ).loc Cert.OBwdRefIdeal.main_arg2) = m' ((c.tc : Thread Cert.OBwdRefIdeal.nD Cert.OBwdRefIdeal.τ).loc Cert.OBwdRefIdeal.main_arg2))

def preserves_QBwd_QBwdIdeal : Prop :=
  True

def algebraic_QBwdIdeal_QBwdRefIdeal_pre_q_finite [hQBwdIdeal : Cert.QBwdIdeal.Facts] [hQBwdRefIdeal : Cert.QBwdRefIdeal.Facts] [hPre_q_finite : Cert.Pre_q_finite.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal_q_finite m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)) →
    ∃ (v0 : (c : Dev Cert.QBwdIdeal.nD) → Buf (Elt Ideal) ((c.tc : Thread Cert.QBwdIdeal.nD Cert.QBwdIdeal.τ).loc Cert.QBwdIdeal.main_v8_0)) (v1 : (c : Dev Cert.QBwdIdeal.nD) → Buf (Elt Ideal) ((c.tc : Thread Cert.QBwdIdeal.nD Cert.QBwdIdeal.τ).loc Cert.QBwdIdeal.main_v8_1)) (v2 : (c : Dev Cert.QBwdIdeal.nD) → Buf (Elt Ideal) ((c.tc : Thread Cert.QBwdIdeal.nD Cert.QBwdIdeal.τ).loc Cert.QBwdIdeal.main_v11)) (v3 : (c : Dev Cert.QBwdIdeal.nD) → Buf (Elt Ideal) ((c.tc : Thread Cert.QBwdIdeal.nD Cert.QBwdIdeal.τ).loc Cert.QBwdIdeal.main_v8_3)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v8_0) = v0 c
          ∧ r.2.mem ((c.tc : Thread Cert.QBwdIdeal.nD Cert.QBwdIdeal.τ).loc Cert.QBwdIdeal.main_v8_1) = v1 c
          ∧ r.2.mem ((c.tc : Thread Cert.QBwdIdeal.nD Cert.QBwdIdeal.τ).loc Cert.QBwdIdeal.main_v11) = v2 c
          ∧ r.2.mem ((c.tc : Thread Cert.QBwdIdeal.nD Cert.QBwdIdeal.τ).loc Cert.QBwdIdeal.main_v8_3) = v3 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v42) = v0 c
          ∧ r.2.mem ((c.tc : Thread Cert.QBwdRefIdeal.nD Cert.QBwdRefIdeal.τ).loc Cert.QBwdRefIdeal.main_v61) = v1 c
          ∧ r.2.mem ((c.tc : Thread Cert.QBwdRefIdeal.nD Cert.QBwdRefIdeal.τ).loc Cert.QBwdRefIdeal.main_v62) = v2 c
          ∧ r.2.mem ((c.tc : Thread Cert.QBwdRefIdeal.nD Cert.QBwdRefIdeal.τ).loc Cert.QBwdRefIdeal.main_v63) = v3 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4))

def preserves_S5Post_S5PostIdeal : Prop :=
  IdealRules.named_const.Statement Cert.S5PostIdeal.κ "gelu_a" .f32 0x3D372713#32 ((8943 / 200000 : ℝ) : EReal)
  ∧ IdealRules.named_const.Statement Cert.S5PostIdeal.κ "gelu_3a" .f32 0x3E095D4F#32 ((26829 / 200000 : ℝ) : EReal)

def algebraic_S5PostIdeal_S5PostRefIdeal_pre_s5_post_finite [hS5PostIdeal : Cert.S5PostIdeal.Facts] [hS5PostRefIdeal : Cert.S5PostRefIdeal.Facts] [hPre_s5_post_finite : Cert.Pre_s5_post_finite.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostRefIdeal.nD Cert.S5PostRefIdeal.τ Cert.S5PostRefIdeal.sig) → Buf (Elt Ideal) ℓ) (g' : Dev Cert.S5PostRefIdeal.nD → PrngReg), Pre_S5PostIdeal_s5_post_finite m →
    (∀ c : Dev Cert.S5PostIdeal.nD,
      m' ((c.tc : Thread Cert.S5PostRefIdeal.nD Cert.S5PostRefIdeal.τ).loc Cert.S5PostRefIdeal.main_arg0) = m ((c.tc : Thread Cert.S5PostIdeal.nD Cert.S5PostIdeal.τ).loc Cert.S5PostIdeal.main_arg0)
      ∧ m' ((c.tc : Thread Cert.S5PostRefIdeal.nD Cert.S5PostRefIdeal.τ).loc Cert.S5PostRefIdeal.main_arg1) = m ((c.tc : Thread Cert.S5PostIdeal.nD Cert.S5PostIdeal.τ).loc Cert.S5PostIdeal.main_arg1)
      ∧ m' ((c.tc : Thread Cert.S5PostRefIdeal.nD Cert.S5PostRefIdeal.τ).loc Cert.S5PostRefIdeal.main_arg2) = m ((c.tc : Thread Cert.S5PostIdeal.nD Cert.S5PostIdeal.τ).loc Cert.S5PostIdeal.main_arg2)
      ∧ m' ((c.tc : Thread Cert.S5PostRefIdeal.nD Cert.S5PostRefIdeal.τ).loc Cert.S5PostRefIdeal.main_arg3) = m ((c.tc : Thread Cert.S5PostIdeal.nD Cert.S5PostIdeal.τ).loc Cert.S5PostIdeal.main_arg3)) →
    ∃ (v0 : (c : Dev Cert.S5PostIdeal.nD) → Buf (Elt Ideal) ((c.tc : Thread Cert.S5PostIdeal.nD Cert.S5PostIdeal.τ).loc Cert.S5PostIdeal.main_v1_0)) (v1 : (c : Dev Cert.S5PostIdeal.nD) → Buf (Elt Ideal) ((c.tc : Thread Cert.S5PostIdeal.nD Cert.S5PostIdeal.τ).loc Cert.S5PostIdeal.main_v2_0)) (v2 : (c : Dev Cert.S5PostIdeal.nD) → Buf (Elt Ideal) ((c.tc : Thread Cert.S5PostIdeal.nD Cert.S5PostIdeal.τ).loc Cert.S5PostIdeal.main_v2_1)) (v3 : (c : Dev Cert.S5PostIdeal.nD) → Buf (Elt Ideal) ((c.tc : Thread Cert.S5PostIdeal.nD Cert.S5PostIdeal.τ).loc Cert.S5PostIdeal.main_v2_2)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v1_0) = v0 c
          ∧ r.2.mem ((c.tc : Thread Cert.S5PostIdeal.nD Cert.S5PostIdeal.τ).loc Cert.S5PostIdeal.main_v2_0) = v1 c
          ∧ r.2.mem ((c.tc : Thread Cert.S5PostIdeal.nD Cert.S5PostIdeal.τ).loc Cert.S5PostIdeal.main_v2_1) = v2 c
          ∧ r.2.mem ((c.tc : Thread Cert.S5PostIdeal.nD Cert.S5PostIdeal.τ).loc Cert.S5PostIdeal.main_v2_2) = v3 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3))
      ∧ θ_run (Cert.S5PostRefIdeal.defs (F := Ideal)) (onTc (τ := Cert.S5PostRefIdeal.τ) (Cert.S5PostRefIdeal.main (F := Ideal))) ⟨m', fun _ => 0, g'⟩ (fun r => ∀ c : Dev Cert.S5PostRefIdeal.nD,
          r.2.mem ((c.tc : Thread Cert.S5PostRefIdeal.nD Cert.S5PostRefIdeal.τ).loc Cert.S5PostRefIdeal.main_v35) = v0 c
          ∧ r.2.mem ((c.tc : Thread Cert.S5PostRefIdeal.nD Cert.S5PostRefIdeal.τ).loc Cert.S5PostRefIdeal.main_v54) = v1 c
          ∧ r.2.mem ((c.tc : Thread Cert.S5PostRefIdeal.nD Cert.S5PostRefIdeal.τ).loc Cert.S5PostRefIdeal.main_v88) = v2 c
          ∧ r.2.mem ((c.tc : Thread Cert.S5PostRefIdeal.nD Cert.S5PostRefIdeal.τ).loc Cert.S5PostRefIdeal.main_v89) = v3 c
          ∧ r.2.mem ((c.tc : Thread Cert.S5PostRefIdeal.nD Cert.S5PostRefIdeal.τ).loc Cert.S5PostRefIdeal.main_arg0) = m' ((c.tc : Thread Cert.S5PostRefIdeal.nD Cert.S5PostRefIdeal.τ).loc Cert.S5PostRefIdeal.main_arg0)
          ∧ r.2.mem ((c.tc : Thread Cert.S5PostRefIdeal.nD Cert.S5PostRefIdeal.τ).loc Cert.S5PostRefIdeal.main_arg1) = m' ((c.tc : Thread Cert.S5PostRefIdeal.nD Cert.S5PostRefIdeal.τ).loc Cert.S5PostRefIdeal.main_arg1)
          ∧ r.2.mem ((c.tc : Thread Cert.S5PostRefIdeal.nD Cert.S5PostRefIdeal.τ).loc Cert.S5PostRefIdeal.main_arg2) = m' ((c.tc : Thread Cert.S5PostRefIdeal.nD Cert.S5PostRefIdeal.τ).loc Cert.S5PostRefIdeal.main_arg2)
          ∧ r.2.mem ((c.tc : Thread Cert.S5PostRefIdeal.nD Cert.S5PostRefIdeal.τ).loc Cert.S5PostRefIdeal.main_arg3) = m' ((c.tc : Thread Cert.S5PostRefIdeal.nD Cert.S5PostRefIdeal.τ).loc Cert.S5PostRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v3_0)) (v1 : (c : Dev Cert.MlpFwdIdeal.nD) → Buf (Elt Ideal) ((c.tc : Thread Cert.MlpFwdIdeal.nD Cert.MlpFwdIdeal.τ).loc Cert.MlpFwdIdeal.main_v3_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v3_0) = v0 c
          ∧ r.2.mem ((c.tc : Thread Cert.MlpFwdIdeal.nD Cert.MlpFwdIdeal.τ).loc Cert.MlpFwdIdeal.main_v3_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v17) = v0 c
          ∧ r.2.mem ((c.tc : Thread Cert.MlpFwdRefIdeal.nD Cert.MlpFwdRefIdeal.τ).loc Cert.MlpFwdRefIdeal.main_v18) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_MlpBwd_MlpBwdIdeal : Prop :=
  True

def algebraic_MlpBwdIdeal_MlpBwdRefIdeal_pre_mlp_finite [hMlpBwdIdeal : Cert.MlpBwdIdeal.Facts] [hMlpBwdRefIdeal : Cert.MlpBwdRefIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_mlp_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v19_0)) (v1 : (c : Dev Cert.MlpBwdIdeal.nD) → Buf (Elt Ideal) ((c.tc : Thread Cert.MlpBwdIdeal.nD Cert.MlpBwdIdeal.τ).loc Cert.MlpBwdIdeal.main_v19_1)) (v2 : (c : Dev Cert.MlpBwdIdeal.nD) → Buf (Elt Ideal) ((c.tc : Thread Cert.MlpBwdIdeal.nD Cert.MlpBwdIdeal.τ).loc Cert.MlpBwdIdeal.main_v19_2)) (v3 : (c : Dev Cert.MlpBwdIdeal.nD) → Buf (Elt Ideal) ((c.tc : Thread Cert.MlpBwdIdeal.nD Cert.MlpBwdIdeal.τ).loc Cert.MlpBwdIdeal.main_v19_3)) (v4 : (c : Dev Cert.MlpBwdIdeal.nD) → Buf (Elt Ideal) ((c.tc : Thread Cert.MlpBwdIdeal.nD Cert.MlpBwdIdeal.τ).loc Cert.MlpBwdIdeal.main_v19_4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v19_0) = v0 c
          ∧ r.2.mem ((c.tc : Thread Cert.MlpBwdIdeal.nD Cert.MlpBwdIdeal.τ).loc Cert.MlpBwdIdeal.main_v19_1) = v1 c
          ∧ r.2.mem ((c.tc : Thread Cert.MlpBwdIdeal.nD Cert.MlpBwdIdeal.τ).loc Cert.MlpBwdIdeal.main_v19_2) = v2 c
          ∧ r.2.mem ((c.tc : Thread Cert.MlpBwdIdeal.nD Cert.MlpBwdIdeal.τ).loc Cert.MlpBwdIdeal.main_v19_3) = v3 c
          ∧ r.2.mem ((c.tc : Thread Cert.MlpBwdIdeal.nD Cert.MlpBwdIdeal.τ).loc Cert.MlpBwdIdeal.main_v19_4) = v4 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v52) = v0 c
          ∧ r.2.mem ((c.tc : Thread Cert.MlpBwdRefIdeal.nD Cert.MlpBwdRefIdeal.τ).loc Cert.MlpBwdRefIdeal.main_v79) = v1 c
          ∧ r.2.mem ((c.tc : Thread Cert.MlpBwdRefIdeal.nD Cert.MlpBwdRefIdeal.τ).loc Cert.MlpBwdRefIdeal.main_v82) = v2 c
          ∧ r.2.mem ((c.tc : Thread Cert.MlpBwdRefIdeal.nD Cert.MlpBwdRefIdeal.τ).loc Cert.MlpBwdRefIdeal.main_v83) = v3 c
          ∧ r.2.mem ((c.tc : Thread Cert.MlpBwdRefIdeal.nD Cert.MlpBwdRefIdeal.τ).loc Cert.MlpBwdRefIdeal.main_v84) = v4 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_KvfBwd_KvfBwdIdeal : Prop :=
  IdealRules.named_const.Statement Cert.KvfBwdIdeal.κ "ln2" .f32 0x3F317218#32 ((Real.log 2 : ℝ) : EReal)

def algebraic_KvfBwdIdeal_KvfBwdRefIdeal_pre_kvf_finite [hKvfBwdIdeal : Cert.KvfBwdIdeal.Facts] [hKvfBwdRefIdeal : Cert.KvfBwdRefIdeal.Facts] [hPre_kvf_finite : Cert.Pre_kvf_finite.Facts] : Prop :=
  ∀ (m : (ℓ : Loc Cert.KvfBwdIdeal.nD Cert.KvfBwdIdeal.τ Cert.KvfBwdIdeal.sig) → Buf (Elt Ideal) ℓ) (g : Dev Cert.KvfBwdIdeal.nD → PrngReg)
    (m' : (ℓ : Loc Cert.KvfBwdRefIdeal.nD Cert.KvfBwdRefIdeal.τ Cert.KvfBwdRefIdeal.sig) → Buf (Elt Ideal) ℓ) (g' : Dev Cert.KvfBwdRefIdeal.nD → PrngReg), Pre_KvfBwdIdeal_kvf_finite m →
    (∀ c : Dev Cert.KvfBwdIdeal.nD,
      m' ((c.tc : Thread Cert.KvfBwdRefIdeal.nD Cert.KvfBwdRefIdeal.τ).loc Cert.KvfBwdRefIdeal.main_arg0) = m ((c.tc : Thread Cert.KvfBwdIdeal.nD Cert.KvfBwdIdeal.τ).loc Cert.KvfBwdIdeal.main_arg0)
      ∧ m' ((c.tc : Thread Cert.KvfBwdRefIdeal.nD Cert.KvfBwdRefIdeal.τ).loc Cert.KvfBwdRefIdeal.main_arg1) = m ((c.tc : Thread Cert.KvfBwdIdeal.nD Cert.KvfBwdIdeal.τ).loc Cert.KvfBwdIdeal.main_arg1)
      ∧ m' ((c.tc : Thread Cert.KvfBwdRefIdeal.nD Cert.KvfBwdRefIdeal.τ).loc Cert.KvfBwdRefIdeal.main_arg2) = m ((c.tc : Thread Cert.KvfBwdIdeal.nD Cert.KvfBwdIdeal.τ).loc Cert.KvfBwdIdeal.main_arg2)
      ∧ m' ((c.tc : Thread Cert.KvfBwdRefIdeal.nD Cert.KvfBwdRefIdeal.τ).loc Cert.KvfBwdRefIdeal.main_arg3) = m ((c.tc : Thread Cert.KvfBwdIdeal.nD Cert.KvfBwdIdeal.τ).loc Cert.KvfBwdIdeal.main_arg3)
      ∧ m' ((c.tc : Thread Cert.KvfBwdRefIdeal.nD Cert.KvfBwdRefIdeal.τ).loc Cert.KvfBwdRefIdeal.main_arg4) = m ((c.tc : Thread Cert.KvfBwdIdeal.nD Cert.KvfBwdIdeal.τ).loc Cert.KvfBwdIdeal.main_arg4)
      ∧ m' ((c.tc : Thread Cert.KvfBwdRefIdeal.nD Cert.KvfBwdRefIdeal.τ).loc Cert.KvfBwdRefIdeal.main_arg5) = m ((c.tc : Thread Cert.KvfBwdIdeal.nD Cert.KvfBwdIdeal.τ).loc Cert.KvfBwdIdeal.main_arg5)
      ∧ m' ((c.tc : Thread Cert.KvfBwdRefIdeal.nD Cert.KvfBwdRefIdeal.τ).loc Cert.KvfBwdRefIdeal.main_arg6) = m ((c.tc : Thread Cert.KvfBwdIdeal.nD Cert.KvfBwdIdeal.τ).loc Cert.KvfBwdIdeal.main_arg6)
      ∧ m' ((c.tc : Thread Cert.KvfBwdRefIdeal.nD Cert.KvfBwdRefIdeal.τ).loc Cert.KvfBwdRefIdeal.main_arg7) = m ((c.tc : Thread Cert.KvfBwdIdeal.nD Cert.KvfBwdIdeal.τ).loc Cert.KvfBwdIdeal.main_arg7)
      ∧ m' ((c.tc : Thread Cert.KvfBwdRefIdeal.nD Cert.KvfBwdRefIdeal.τ).loc Cert.KvfBwdRefIdeal.main_arg8) = m ((c.tc : Thread Cert.KvfBwdIdeal.nD Cert.KvfBwdIdeal.τ).loc Cert.KvfBwdIdeal.main_arg8)
      ∧ m' ((c.tc : Thread Cert.KvfBwdRefIdeal.nD Cert.KvfBwdRefIdeal.τ).loc Cert.KvfBwdRefIdeal.main_arg9) = m ((c.tc : Thread Cert.KvfBwdIdeal.nD Cert.KvfBwdIdeal.τ).loc Cert.KvfBwdIdeal.main_arg9)
      ∧ m' ((c.tc : Thread Cert.KvfBwdRefIdeal.nD Cert.KvfBwdRefIdeal.τ).loc Cert.KvfBwdRefIdeal.main_arg10) = m ((c.tc : Thread Cert.KvfBwdIdeal.nD Cert.KvfBwdIdeal.τ).loc Cert.KvfBwdIdeal.main_arg10)
      ∧ m' ((c.tc : Thread Cert.KvfBwdRefIdeal.nD Cert.KvfBwdRefIdeal.τ).loc Cert.KvfBwdRefIdeal.main_arg11) = m ((c.tc : Thread Cert.KvfBwdIdeal.nD Cert.KvfBwdIdeal.τ).loc Cert.KvfBwdIdeal.main_arg11)
      ∧ m' ((c.tc : Thread Cert.KvfBwdRefIdeal.nD Cert.KvfBwdRefIdeal.τ).loc Cert.KvfBwdRefIdeal.main_arg12) = m ((c.tc : Thread Cert.KvfBwdIdeal.nD Cert.KvfBwdIdeal.τ).loc Cert.KvfBwdIdeal.main_arg12)
      ∧ m' ((c.tc : Thread Cert.KvfBwdRefIdeal.nD Cert.KvfBwdRefIdeal.τ).loc Cert.KvfBwdRefIdeal.main_arg13) = m ((c.tc : Thread Cert.KvfBwdIdeal.nD Cert.KvfBwdIdeal.τ).loc Cert.KvfBwdIdeal.main_arg13)
      ∧ m' ((c.tc : Thread Cert.KvfBwdRefIdeal.nD Cert.KvfBwdRefIdeal.τ).loc Cert.KvfBwdRefIdeal.main_arg14) = m ((c.tc : Thread Cert.KvfBwdIdeal.nD Cert.KvfBwdIdeal.τ).loc Cert.KvfBwdIdeal.main_arg14)) →
    ∃ (v0 : (c : Dev Cert.KvfBwdIdeal.nD) → Buf (Elt Ideal) ((c.tc : Thread Cert.KvfBwdIdeal.nD Cert.KvfBwdIdeal.τ).loc Cert.KvfBwdIdeal.main_v74_0)) (v1 : (c : Dev Cert.KvfBwdIdeal.nD) → Buf (Elt Ideal) ((c.tc : Thread Cert.KvfBwdIdeal.nD Cert.KvfBwdIdeal.τ).loc Cert.KvfBwdIdeal.main_v74_1)) (v2 : (c : Dev Cert.KvfBwdIdeal.nD) → Buf (Elt Ideal) ((c.tc : Thread Cert.KvfBwdIdeal.nD Cert.KvfBwdIdeal.τ).loc Cert.KvfBwdIdeal.main_v77)) (v3 : (c : Dev Cert.KvfBwdIdeal.nD) → Buf (Elt Ideal) ((c.tc : Thread Cert.KvfBwdIdeal.nD Cert.KvfBwdIdeal.τ).loc Cert.KvfBwdIdeal.main_v74_3)) (v4 : (c : Dev Cert.KvfBwdIdeal.nD) → Buf (Elt Ideal) ((c.tc : Thread Cert.KvfBwdIdeal.nD Cert.KvfBwdIdeal.τ).loc Cert.KvfBwdIdeal.main_v78)) (v5 : (c : Dev Cert.KvfBwdIdeal.nD) → Buf (Elt Ideal) ((c.tc : Thread Cert.KvfBwdIdeal.nD Cert.KvfBwdIdeal.τ).loc Cert.KvfBwdIdeal.main_v74_5)) (v6 : (c : Dev Cert.KvfBwdIdeal.nD) → Buf (Elt Ideal) ((c.tc : Thread Cert.KvfBwdIdeal.nD Cert.KvfBwdIdeal.τ).loc Cert.KvfBwdIdeal.main_v79)),
      θ_run (Cert.KvfBwdIdeal.defs (F := Ideal)) (onTc (τ := Cert.KvfBwdIdeal.τ) (Cert.KvfBwdIdeal.main (F := Ideal))) ⟨m, fun _ => 0, g⟩ (fun r => ∀ c : Dev Cert.KvfBwdIdeal.nD,
          r.2.mem ((c.tc : Thread Cert.KvfBwdIdeal.nD Cert.KvfBwdIdeal.τ).loc Cert.KvfBwdIdeal.main_v74_0) = v0 c
          ∧ r.2.mem ((c.tc : Thread Cert.KvfBwdIdeal.nD Cert.KvfBwdIdeal.τ).loc Cert.KvfBwdIdeal.main_v74_1) = v1 c
          ∧ r.2.mem ((c.tc : Thread Cert.KvfBwdIdeal.nD Cert.KvfBwdIdeal.τ).loc Cert.KvfBwdIdeal.main_v77) = v2 c
          ∧ r.2.mem ((c.tc : Thread Cert.KvfBwdIdeal.nD Cert.KvfBwdIdeal.τ).loc Cert.KvfBwdIdeal.main_v74_3) = v3 c
          ∧ r.2.mem ((c.tc : Thread Cert.KvfBwdIdeal.nD Cert.KvfBwdIdeal.τ).loc Cert.KvfBwdIdeal.main_v78) = v4 c
          ∧ r.2.mem ((c.tc : Thread Cert.KvfBwdIdeal.nD Cert.KvfBwdIdeal.τ).loc Cert.KvfBwdIdeal.main_v74_5) = v5 c
          ∧ r.2.mem ((c.tc : Thread Cert.KvfBwdIdeal.nD Cert.KvfBwdIdeal.τ).loc Cert.KvfBwdIdeal.main_v79) = v6 c
          ∧ r.2.mem ((c.tc : Thread Cert.KvfBwdIdeal.nD Cert.KvfBwdIdeal.τ).loc Cert.KvfBwdIdeal.main_arg0) = m ((c.tc : Thread Cert.KvfBwdIdeal.nD Cert.KvfBwdIdeal.τ).loc Cert.KvfBwdIdeal.main_arg0)
          ∧ r.2.mem ((c.tc : Thread Cert.KvfBwdIdeal.nD Cert.KvfBwdIdeal.τ).loc Cert.KvfBwdIdeal.main_arg1) = m ((c.tc : Thread Cert.KvfBwdIdeal.nD Cert.KvfBwdIdeal.τ).loc Cert.KvfBwdIdeal.main_arg1)
          ∧ r.2.mem ((c.tc : Thread Cert.KvfBwdIdeal.nD Cert.KvfBwdIdeal.τ).loc Cert.KvfBwdIdeal.main_arg2) = m ((c.tc : Thread Cert.KvfBwdIdeal.nD Cert.KvfBwdIdeal.τ).loc Cert.KvfBwdIdeal.main_arg2)
          ∧ r.2.mem ((c.tc : Thread Cert.KvfBwdIdeal.nD Cert.KvfBwdIdeal.τ).loc Cert.KvfBwdIdeal.main_arg3) = m ((c.tc : Thread Cert.KvfBwdIdeal.nD Cert.KvfBwdIdeal.τ).loc Cert.KvfBwdIdeal.main_arg3)
          ∧ r.2.mem ((c.tc : Thread Cert.KvfBwdIdeal.nD Cert.KvfBwdIdeal.τ).loc Cert.KvfBwdIdeal.main_arg4) = m ((c.tc : Thread Cert.KvfBwdIdeal.nD Cert.KvfBwdIdeal.τ).loc Cert.KvfBwdIdeal.main_arg4)
          ∧ r.2.mem ((c.tc : Thread Cert.KvfBwdIdeal.nD Cert.KvfBwdIdeal.τ).loc Cert.KvfBwdIdeal.main_arg5) = m ((c.tc : Thread Cert.KvfBwdIdeal.nD Cert.KvfBwdIdeal.τ).loc Cert.KvfBwdIdeal.main_arg5)
          ∧ r.2.mem ((c.tc : Thread Cert.KvfBwdIdeal.nD Cert.KvfBwdIdeal.τ).loc Cert.KvfBwdIdeal.main_arg6) = m ((c.tc : Thread Cert.KvfBwdIdeal.nD Cert.KvfBwdIdeal.τ).loc Cert.KvfBwdIdeal.main_arg6)
          ∧ r.2.mem ((c.tc : Thread Cert.KvfBwdIdeal.nD Cert.KvfBwdIdeal.τ).loc Cert.KvfBwdIdeal.main_arg7) = m ((c.tc : Thread Cert.KvfBwdIdeal.nD Cert.KvfBwdIdeal.τ).loc Cert.KvfBwdIdeal.main_arg7)
          ∧ r.2.mem ((c.tc : Thread Cert.KvfBwdIdeal.nD Cert.KvfBwdIdeal.τ).loc Cert.KvfBwdIdeal.main_arg8) = m ((c.tc : Thread Cert.KvfBwdIdeal.nD Cert.KvfBwdIdeal.τ).loc Cert.KvfBwdIdeal.main_arg8)
          ∧ r.2.mem ((c.tc : Thread Cert.KvfBwdIdeal.nD Cert.KvfBwdIdeal.τ).loc Cert.KvfBwdIdeal.main_arg9) = m ((c.tc : Thread Cert.KvfBwdIdeal.nD Cert.KvfBwdIdeal.τ).loc Cert.KvfBwdIdeal.main_arg9)
          ∧ r.2.mem ((c.tc : Thread Cert.KvfBwdIdeal.nD Cert.KvfBwdIdeal.τ).loc Cert.KvfBwdIdeal.main_arg10) = m ((c.tc : Thread Cert.KvfBwdIdeal.nD Cert.KvfBwdIdeal.τ).loc Cert.KvfBwdIdeal.main_arg10)
          ∧ r.2.mem ((c.tc : Thread Cert.KvfBwdIdeal.nD Cert.KvfBwdIdeal.τ).loc Cert.KvfBwdIdeal.main_arg11) = m ((c.tc : Thread Cert.KvfBwdIdeal.nD Cert.KvfBwdIdeal.τ).loc Cert.KvfBwdIdeal.main_arg11)
          ∧ r.2.mem ((c.tc : Thread Cert.KvfBwdIdeal.nD Cert.KvfBwdIdeal.τ).loc Cert.KvfBwdIdeal.main_arg12) = m ((c.tc : Thread Cert.KvfBwdIdeal.nD Cert.KvfBwdIdeal.τ).loc Cert.KvfBwdIdeal.main_arg12)
          ∧ r.2.mem ((c.tc : Thread Cert.KvfBwdIdeal.nD Cert.KvfBwdIdeal.τ).loc Cert.KvfBwdIdeal.main_arg13) = m ((c.tc : Thread Cert.KvfBwdIdeal.nD Cert.KvfBwdIdeal.τ).loc Cert.KvfBwdIdeal.main_arg13)
          ∧ r.2.mem ((c.tc : Thread Cert.KvfBwdIdeal.nD Cert.KvfBwdIdeal.τ).loc Cert.KvfBwdIdeal.main_arg14) = m ((c.tc : Thread Cert.KvfBwdIdeal.nD Cert.KvfBwdIdeal.τ).loc Cert.KvfBwdIdeal.main_arg14))
      ∧ θ_run (Cert.KvfBwdRefIdeal.defs (F := Ideal)) (onTc (τ := Cert.KvfBwdRefIdeal.τ) (Cert.KvfBwdRefIdeal.main (F := Ideal))) ⟨m', fun _ => 0, g'⟩ (fun r => ∀ c : Dev Cert.KvfBwdRefIdeal.nD,
          r.2.mem ((c.tc : Thread Cert.KvfBwdRefIdeal.nD Cert.KvfBwdRefIdeal.τ).loc Cert.KvfBwdRefIdeal.main_v61) = v0 c
          ∧ r.2.mem ((c.tc : Thread Cert.KvfBwdRefIdeal.nD Cert.KvfBwdRefIdeal.τ).loc Cert.KvfBwdRefIdeal.main_v63) = v1 c
          ∧ r.2.mem ((c.tc : Thread Cert.KvfBwdRefIdeal.nD Cert.KvfBwdRefIdeal.τ).loc Cert.KvfBwdRefIdeal.main_v64) = v2 c
          ∧ r.2.mem ((c.tc : Thread Cert.KvfBwdRefIdeal.nD Cert.KvfBwdRefIdeal.τ).loc Cert.KvfBwdRefIdeal.main_v65) = v3 c
          ∧ r.2.mem ((c.tc : Thread Cert.KvfBwdRefIdeal.nD Cert.KvfBwdRefIdeal.τ).loc Cert.KvfBwdRefIdeal.main_v66) = v4 c
          ∧ r.2.mem ((c.tc : Thread Cert.KvfBwdRefIdeal.nD Cert.KvfBwdRefIdeal.τ).loc Cert.KvfBwdRefIdeal.main_v67) = v5 c
          ∧ r.2.mem ((c.tc : Thread Cert.KvfBwdRefIdeal.nD Cert.KvfBwdRefIdeal.τ).loc Cert.KvfBwdRefIdeal.main_v68) = v6 c
          ∧ r.2.mem ((c.tc : Thread Cert.KvfBwdRefIdeal.nD Cert.KvfBwdRefIdeal.τ).loc Cert.KvfBwdRefIdeal.main_arg0) = m' ((c.tc : Thread Cert.KvfBwdRefIdeal.nD Cert.KvfBwdRefIdeal.τ).loc Cert.KvfBwdRefIdeal.main_arg0)
          ∧ r.2.mem ((c.tc : Thread Cert.KvfBwdRefIdeal.nD Cert.KvfBwdRefIdeal.τ).loc Cert.KvfBwdRefIdeal.main_arg1) = m' ((c.tc : Thread Cert.KvfBwdRefIdeal.nD Cert.KvfBwdRefIdeal.τ).loc Cert.KvfBwdRefIdeal.main_arg1)
          ∧ r.2.mem ((c.tc : Thread Cert.KvfBwdRefIdeal.nD Cert.KvfBwdRefIdeal.τ).loc Cert.KvfBwdRefIdeal.main_arg2) = m' ((c.tc : Thread Cert.KvfBwdRefIdeal.nD Cert.KvfBwdRefIdeal.τ).loc Cert.KvfBwdRefIdeal.main_arg2)
          ∧ r.2.mem ((c.tc : Thread Cert.KvfBwdRefIdeal.nD Cert.KvfBwdRefIdeal.τ).loc Cert.KvfBwdRefIdeal.main_arg3) = m' ((c.tc : Thread Cert.KvfBwdRefIdeal.nD Cert.KvfBwdRefIdeal.τ).loc Cert.KvfBwdRefIdeal.main_arg3)
          ∧ r.2.mem ((c.tc : Thread Cert.KvfBwdRefIdeal.nD Cert.KvfBwdRefIdeal.τ).loc Cert.KvfBwdRefIdeal.main_arg4) = m' ((c.tc : Thread Cert.KvfBwdRefIdeal.nD Cert.KvfBwdRefIdeal.τ).loc Cert.KvfBwdRefIdeal.main_arg4)
          ∧ r.2.mem ((c.tc : Thread Cert.KvfBwdRefIdeal.nD Cert.KvfBwdRefIdeal.τ).loc Cert.KvfBwdRefIdeal.main_arg5) = m' ((c.tc : Thread Cert.KvfBwdRefIdeal.nD Cert.KvfBwdRefIdeal.τ).loc Cert.KvfBwdRefIdeal.main_arg5)
          ∧ r.2.mem ((c.tc : Thread Cert.KvfBwdRefIdeal.nD Cert.KvfBwdRefIdeal.τ).loc Cert.KvfBwdRefIdeal.main_arg6) = m' ((c.tc : Thread Cert.KvfBwdRefIdeal.nD Cert.KvfBwdRefIdeal.τ).loc Cert.KvfBwdRefIdeal.main_arg6)
          ∧ r.2.mem ((c.tc : Thread Cert.KvfBwdRefIdeal.nD Cert.KvfBwdRefIdeal.τ).loc Cert.KvfBwdRefIdeal.main_arg7) = m' ((c.tc : Thread Cert.KvfBwdRefIdeal.nD Cert.KvfBwdRefIdeal.τ).loc Cert.KvfBwdRefIdeal.main_arg7)
          ∧ r.2.mem ((c.tc : Thread Cert.KvfBwdRefIdeal.nD Cert.KvfBwdRefIdeal.τ).loc Cert.KvfBwdRefIdeal.main_arg8) = m' ((c.tc : Thread Cert.KvfBwdRefIdeal.nD Cert.KvfBwdRefIdeal.τ).loc Cert.KvfBwdRefIdeal.main_arg8)
          ∧ r.2.mem ((c.tc : Thread Cert.KvfBwdRefIdeal.nD Cert.KvfBwdRefIdeal.τ).loc Cert.KvfBwdRefIdeal.main_arg9) = m' ((c.tc : Thread Cert.KvfBwdRefIdeal.nD Cert.KvfBwdRefIdeal.τ).loc Cert.KvfBwdRefIdeal.main_arg9)
          ∧ r.2.mem ((c.tc : Thread Cert.KvfBwdRefIdeal.nD Cert.KvfBwdRefIdeal.τ).loc Cert.KvfBwdRefIdeal.main_arg10) = m' ((c.tc : Thread Cert.KvfBwdRefIdeal.nD Cert.KvfBwdRefIdeal.τ).loc Cert.KvfBwdRefIdeal.main_arg10)
          ∧ r.2.mem ((c.tc : Thread Cert.KvfBwdRefIdeal.nD Cert.KvfBwdRefIdeal.τ).loc Cert.KvfBwdRefIdeal.main_arg11) = m' ((c.tc : Thread Cert.KvfBwdRefIdeal.nD Cert.KvfBwdRefIdeal.τ).loc Cert.KvfBwdRefIdeal.main_arg11)
          ∧ r.2.mem ((c.tc : Thread Cert.KvfBwdRefIdeal.nD Cert.KvfBwdRefIdeal.τ).loc Cert.KvfBwdRefIdeal.main_arg12) = m' ((c.tc : Thread Cert.KvfBwdRefIdeal.nD Cert.KvfBwdRefIdeal.τ).loc Cert.KvfBwdRefIdeal.main_arg12)
          ∧ r.2.mem ((c.tc : Thread Cert.KvfBwdRefIdeal.nD Cert.KvfBwdRefIdeal.τ).loc Cert.KvfBwdRefIdeal.main_arg13) = m' ((c.tc : Thread Cert.KvfBwdRefIdeal.nD Cert.KvfBwdRefIdeal.τ).loc Cert.KvfBwdRefIdeal.main_arg13)
          ∧ r.2.mem ((c.tc : Thread Cert.KvfBwdRefIdeal.nD Cert.KvfBwdRefIdeal.τ).loc Cert.KvfBwdRefIdeal.main_arg14) = m' ((c.tc : Thread Cert.KvfBwdRefIdeal.nD Cert.KvfBwdRefIdeal.τ).loc Cert.KvfBwdRefIdeal.main_arg14))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_QFwd_QFwdIdeal : Prop :=
  IdealRules.named_const.Statement Cert.QFwdIdeal.κ "log2e_8" .f32 0x3E38AA3B#32 (((8 * (Real.log 2))⁻¹ : ℝ) : EReal)

def algebraic_QFwdIdeal_QFwdRefIdeal [hQFwdIdeal : Cert.QFwdIdeal.Facts] [hQFwdRefIdeal : Cert.QFwdRefIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdRefIdeal.nD Cert.QFwdRefIdeal.τ Cert.QFwdRefIdeal.sig) → Buf (Elt Ideal) ℓ) (g' : Dev Cert.QFwdRefIdeal.nD → PrngReg), Pre_QFwdIdeal m →
    (∀ c : Dev Cert.QFwdIdeal.nD,
      m' ((c.tc : Thread Cert.QFwdRefIdeal.nD Cert.QFwdRefIdeal.τ).loc Cert.QFwdRefIdeal.main_arg0) = m ((c.tc : Thread Cert.QFwdIdeal.nD Cert.QFwdIdeal.τ).loc Cert.QFwdIdeal.main_arg0)
      ∧ m' ((c.tc : Thread Cert.QFwdRefIdeal.nD Cert.QFwdRefIdeal.τ).loc Cert.QFwdRefIdeal.main_arg1) = m ((c.tc : Thread Cert.QFwdIdeal.nD Cert.QFwdIdeal.τ).loc Cert.QFwdIdeal.main_arg1)
      ∧ m' ((c.tc : Thread Cert.QFwdRefIdeal.nD Cert.QFwdRefIdeal.τ).loc Cert.QFwdRefIdeal.main_arg2) = m ((c.tc : Thread Cert.QFwdIdeal.nD Cert.QFwdIdeal.τ).loc Cert.QFwdIdeal.main_arg2)) →
    ∃ (v0 : (c : Dev Cert.QFwdIdeal.nD) → Buf (Elt Ideal) ((c.tc : Thread Cert.QFwdIdeal.nD Cert.QFwdIdeal.τ).loc Cert.QFwdIdeal.main_v20)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v20) = v0 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
          ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ θ_run (Cert.QFwdRefIdeal.defs (F := Ideal)) (onTc (τ := Cert.QFwdRefIdeal.τ) (Cert.QFwdRefIdeal.main (F := Ideal))) ⟨m', fun _ => 0, g'⟩ (fun r => ∀ c : Dev Cert.QFwdRefIdeal.nD,
          r.2.mem ((c.tc : Thread Cert.QFwdRefIdeal.nD Cert.QFwdRefIdeal.τ).loc Cert.QFwdRefIdeal.main_v15) = v0 c
          ∧ r.2.mem ((c.tc : Thread Cert.QFwdRefIdeal.nD Cert.QFwdRefIdeal.τ).loc Cert.QFwdRefIdeal.main_arg0) = m' ((c.tc : Thread Cert.QFwdRefIdeal.nD Cert.QFwdRefIdeal.τ).loc Cert.QFwdRefIdeal.main_arg0)
          ∧ r.2.mem ((c.tc : Thread Cert.QFwdRefIdeal.nD Cert.QFwdRefIdeal.τ).loc Cert.QFwdRefIdeal.main_arg1) = m' ((c.tc : Thread Cert.QFwdRefIdeal.nD Cert.QFwdRefIdeal.τ).loc Cert.QFwdRefIdeal.main_arg1)
          ∧ r.2.mem ((c.tc : Thread Cert.QFwdRefIdeal.nD Cert.QFwdRefIdeal.τ).loc Cert.QFwdRefIdeal.main_arg2) = m' ((c.tc : Thread Cert.QFwdRefIdeal.nD Cert.QFwdRefIdeal.τ).loc Cert.QFwdRefIdeal.main_arg2))

def preserves_OFwd_OFwdIdeal : Prop :=
  True

def algebraic_OFwdIdeal_OFwdRefIdeal [hOFwdIdeal : Cert.OFwdIdeal.Facts] [hOFwdRefIdeal : Cert.OFwdRefIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdRefIdeal.nD Cert.OFwdRefIdeal.τ Cert.OFwdRefIdeal.sig) → Buf (Elt Ideal) ℓ) (g' : Dev Cert.OFwdRefIdeal.nD → PrngReg), Pre_OFwdIdeal m →
    (∀ c : Dev Cert.OFwdIdeal.nD,
      m' ((c.tc : Thread Cert.OFwdRefIdeal.nD Cert.OFwdRefIdeal.τ).loc Cert.OFwdRefIdeal.main_arg0) = m ((c.tc : Thread Cert.OFwdIdeal.nD Cert.OFwdIdeal.τ).loc Cert.OFwdIdeal.main_arg0)
      ∧ m' ((c.tc : Thread Cert.OFwdRefIdeal.nD Cert.OFwdRefIdeal.τ).loc Cert.OFwdRefIdeal.main_arg1) = m ((c.tc : Thread Cert.OFwdIdeal.nD Cert.OFwdIdeal.τ).loc Cert.OFwdIdeal.main_arg1)
      ∧ m' ((c.tc : Thread Cert.OFwdRefIdeal.nD Cert.OFwdRefIdeal.τ).loc Cert.OFwdRefIdeal.main_arg2) = m ((c.tc : Thread Cert.OFwdIdeal.nD Cert.OFwdIdeal.τ).loc Cert.OFwdIdeal.main_arg2)) →
    ∃ (v0 : (c : Dev Cert.OFwdIdeal.nD) → Buf (Elt Ideal) ((c.tc : Thread Cert.OFwdIdeal.nD Cert.OFwdIdeal.τ).loc Cert.OFwdIdeal.main_v2)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v2) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
          ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ θ_run (Cert.OFwdRefIdeal.defs (F := Ideal)) (onTc (τ := Cert.OFwdRefIdeal.τ) (Cert.OFwdRefIdeal.main (F := Ideal))) ⟨m', fun _ => 0, g'⟩ (fun r => ∀ c : Dev Cert.OFwdRefIdeal.nD,
          r.2.mem ((c.tc : Thread Cert.OFwdRefIdeal.nD Cert.OFwdRefIdeal.τ).loc Cert.OFwdRefIdeal.main_v1) = v0 c
          ∧ r.2.mem ((c.tc : Thread Cert.OFwdRefIdeal.nD Cert.OFwdRefIdeal.τ).loc Cert.OFwdRefIdeal.main_arg0) = m' ((c.tc : Thread Cert.OFwdRefIdeal.nD Cert.OFwdRefIdeal.τ).loc Cert.OFwdRefIdeal.main_arg0)
          ∧ r.2.mem ((c.tc : Thread Cert.OFwdRefIdeal.nD Cert.OFwdRefIdeal.τ).loc Cert.OFwdRefIdeal.main_arg1) = m' ((c.tc : Thread Cert.OFwdRefIdeal.nD Cert.OFwdRefIdeal.τ).loc Cert.OFwdRefIdeal.main_arg1)
          ∧ r.2.mem ((c.tc : Thread Cert.OFwdRefIdeal.nD Cert.OFwdRefIdeal.τ).loc Cert.OFwdRefIdeal.main_arg2) = m' ((c.tc : Thread Cert.OFwdRefIdeal.nD Cert.OFwdRefIdeal.τ).loc Cert.OFwdRefIdeal.main_arg2))

def preserves_KvfFwd_KvfFwdIdeal : Prop :=
  IdealRules.named_const.Statement Cert.KvfFwdIdeal.κ "log2e" .f32 0x3FB8AA3B#32 (((Real.log 2)⁻¹ : ℝ) : EReal)

def algebraic_KvfFwdIdeal_KvfFwdRefIdeal_pre_kvf_fwd_finite [hKvfFwdIdeal : Cert.KvfFwdIdeal.Facts] [hKvfFwdRefIdeal : Cert.KvfFwdRefIdeal.Facts] [hPre_kvf_fwd_finite : Cert.Pre_kvf_fwd_finite.Facts] : Prop :=
  ∀ (m : (ℓ : Loc Cert.KvfFwdIdeal.nD Cert.KvfFwdIdeal.τ Cert.KvfFwdIdeal.sig) → Buf (Elt Ideal) ℓ) (g : Dev Cert.KvfFwdIdeal.nD → PrngReg)
    (m' : (ℓ : Loc Cert.KvfFwdRefIdeal.nD Cert.KvfFwdRefIdeal.τ Cert.KvfFwdRefIdeal.sig) → Buf (Elt Ideal) ℓ) (g' : Dev Cert.KvfFwdRefIdeal.nD → PrngReg), Pre_KvfFwdIdeal_kvf_fwd_finite m →
    (∀ c : Dev Cert.KvfFwdIdeal.nD,
      m' ((c.tc : Thread Cert.KvfFwdRefIdeal.nD Cert.KvfFwdRefIdeal.τ).loc Cert.KvfFwdRefIdeal.main_arg0) = m ((c.tc : Thread Cert.KvfFwdIdeal.nD Cert.KvfFwdIdeal.τ).loc Cert.KvfFwdIdeal.main_arg0)
      ∧ m' ((c.tc : Thread Cert.KvfFwdRefIdeal.nD Cert.KvfFwdRefIdeal.τ).loc Cert.KvfFwdRefIdeal.main_arg1) = m ((c.tc : Thread Cert.KvfFwdIdeal.nD Cert.KvfFwdIdeal.τ).loc Cert.KvfFwdIdeal.main_arg1)
      ∧ m' ((c.tc : Thread Cert.KvfFwdRefIdeal.nD Cert.KvfFwdRefIdeal.τ).loc Cert.KvfFwdRefIdeal.main_arg2) = m ((c.tc : Thread Cert.KvfFwdIdeal.nD Cert.KvfFwdIdeal.τ).loc Cert.KvfFwdIdeal.main_arg2)
      ∧ m' ((c.tc : Thread Cert.KvfFwdRefIdeal.nD Cert.KvfFwdRefIdeal.τ).loc Cert.KvfFwdRefIdeal.main_arg3) = m ((c.tc : Thread Cert.KvfFwdIdeal.nD Cert.KvfFwdIdeal.τ).loc Cert.KvfFwdIdeal.main_arg3)) →
    ∃ (v0 : (c : Dev Cert.KvfFwdIdeal.nD) → Buf (Elt Ideal) ((c.tc : Thread Cert.KvfFwdIdeal.nD Cert.KvfFwdIdeal.τ).loc Cert.KvfFwdIdeal.main_v46)) (v1 : (c : Dev Cert.KvfFwdIdeal.nD) → Buf (Elt Ideal) ((c.tc : Thread Cert.KvfFwdIdeal.nD Cert.KvfFwdIdeal.τ).loc Cert.KvfFwdIdeal.main_v50)) (v2 : (c : Dev Cert.KvfFwdIdeal.nD) → Buf (Elt Ideal) ((c.tc : Thread Cert.KvfFwdIdeal.nD Cert.KvfFwdIdeal.τ).loc Cert.KvfFwdIdeal.main_v51)) (v3 : (c : Dev Cert.KvfFwdIdeal.nD) → Buf (Elt Ideal) ((c.tc : Thread Cert.KvfFwdIdeal.nD Cert.KvfFwdIdeal.τ).loc Cert.KvfFwdIdeal.main_v52)) (v4 : (c : Dev Cert.KvfFwdIdeal.nD) → Buf (Elt Ideal) ((c.tc : Thread Cert.KvfFwdIdeal.nD Cert.KvfFwdIdeal.τ).loc Cert.KvfFwdIdeal.main_v42)),
      θ_run (Cert.KvfFwdIdeal.defs (F := Ideal)) (onTc (τ := Cert.KvfFwdIdeal.τ) (Cert.KvfFwdIdeal.main (F := Ideal))) ⟨m, fun _ => 0, g⟩ (fun r => ∀ c : Dev Cert.KvfFwdIdeal.nD,
          r.2.mem ((c.tc : Thread Cert.KvfFwdIdeal.nD Cert.KvfFwdIdeal.τ).loc Cert.KvfFwdIdeal.main_v46) = v0 c
          ∧ r.2.mem ((c.tc : Thread Cert.KvfFwdIdeal.nD Cert.KvfFwdIdeal.τ).loc Cert.KvfFwdIdeal.main_v50) = v1 c
          ∧ r.2.mem ((c.tc : Thread Cert.KvfFwdIdeal.nD Cert.KvfFwdIdeal.τ).loc Cert.KvfFwdIdeal.main_v51) = v2 c
          ∧ r.2.mem ((c.tc : Thread Cert.KvfFwdIdeal.nD Cert.KvfFwdIdeal.τ).loc Cert.KvfFwdIdeal.main_v52) = v3 c
          ∧ r.2.mem ((c.tc : Thread Cert.KvfFwdIdeal.nD Cert.KvfFwdIdeal.τ).loc Cert.KvfFwdIdeal.main_v42) = v4 c
          ∧ r.2.mem ((c.tc : Thread Cert.KvfFwdIdeal.nD Cert.KvfFwdIdeal.τ).loc Cert.KvfFwdIdeal.main_arg0) = m ((c.tc : Thread Cert.KvfFwdIdeal.nD Cert.KvfFwdIdeal.τ).loc Cert.KvfFwdIdeal.main_arg0)
          ∧ r.2.mem ((c.tc : Thread Cert.KvfFwdIdeal.nD Cert.KvfFwdIdeal.τ).loc Cert.KvfFwdIdeal.main_arg1) = m ((c.tc : Thread Cert.KvfFwdIdeal.nD Cert.KvfFwdIdeal.τ).loc Cert.KvfFwdIdeal.main_arg1)
          ∧ r.2.mem ((c.tc : Thread Cert.KvfFwdIdeal.nD Cert.KvfFwdIdeal.τ).loc Cert.KvfFwdIdeal.main_arg2) = m ((c.tc : Thread Cert.KvfFwdIdeal.nD Cert.KvfFwdIdeal.τ).loc Cert.KvfFwdIdeal.main_arg2)
          ∧ r.2.mem ((c.tc : Thread Cert.KvfFwdIdeal.nD Cert.KvfFwdIdeal.τ).loc Cert.KvfFwdIdeal.main_arg3) = m ((c.tc : Thread Cert.KvfFwdIdeal.nD Cert.KvfFwdIdeal.τ).loc Cert.KvfFwdIdeal.main_arg3))
      ∧ θ_run (Cert.KvfFwdRefIdeal.defs (F := Ideal)) (onTc (τ := Cert.KvfFwdRefIdeal.τ) (Cert.KvfFwdRefIdeal.main (F := Ideal))) ⟨m', fun _ => 0, g'⟩ (fun r => ∀ c : Dev Cert.KvfFwdRefIdeal.nD,
          r.2.mem ((c.tc : Thread Cert.KvfFwdRefIdeal.nD Cert.KvfFwdRefIdeal.τ).loc Cert.KvfFwdRefIdeal.main_v23) = v0 c
          ∧ r.2.mem ((c.tc : Thread Cert.KvfFwdRefIdeal.nD Cert.KvfFwdRefIdeal.τ).loc Cert.KvfFwdRefIdeal.main_v24) = v1 c
          ∧ r.2.mem ((c.tc : Thread Cert.KvfFwdRefIdeal.nD Cert.KvfFwdRefIdeal.τ).loc Cert.KvfFwdRefIdeal.main_v17) = v2 c
          ∧ r.2.mem ((c.tc : Thread Cert.KvfFwdRefIdeal.nD Cert.KvfFwdRefIdeal.τ).loc Cert.KvfFwdRefIdeal.main_v19) = v3 c
          ∧ r.2.mem ((c.tc : Thread Cert.KvfFwdRefIdeal.nD Cert.KvfFwdRefIdeal.τ).loc Cert.KvfFwdRefIdeal.main_v22) = v4 c
          ∧ r.2.mem ((c.tc : Thread Cert.KvfFwdRefIdeal.nD Cert.KvfFwdRefIdeal.τ).loc Cert.KvfFwdRefIdeal.main_arg0) = m' ((c.tc : Thread Cert.KvfFwdRefIdeal.nD Cert.KvfFwdRefIdeal.τ).loc Cert.KvfFwdRefIdeal.main_arg0)
          ∧ r.2.mem ((c.tc : Thread Cert.KvfFwdRefIdeal.nD Cert.KvfFwdRefIdeal.τ).loc Cert.KvfFwdRefIdeal.main_arg1) = m' ((c.tc : Thread Cert.KvfFwdRefIdeal.nD Cert.KvfFwdRefIdeal.τ).loc Cert.KvfFwdRefIdeal.main_arg1)
          ∧ r.2.mem ((c.tc : Thread Cert.KvfFwdRefIdeal.nD Cert.KvfFwdRefIdeal.τ).loc Cert.KvfFwdRefIdeal.main_arg2) = m' ((c.tc : Thread Cert.KvfFwdRefIdeal.nD Cert.KvfFwdRefIdeal.τ).loc Cert.KvfFwdRefIdeal.main_arg2)
          ∧ r.2.mem ((c.tc : Thread Cert.KvfFwdRefIdeal.nD Cert.KvfFwdRefIdeal.τ).loc Cert.KvfFwdRefIdeal.main_arg3) = m' ((c.tc : Thread Cert.KvfFwdRefIdeal.nD Cert.KvfFwdRefIdeal.τ).loc Cert.KvfFwdRefIdeal.main_arg3))

def Claim : Prop :=
  ∃ (hNormBwd : Cert.NormBwd.Facts) (hNormBwdIdeal : Cert.NormBwdIdeal.Facts) (hNormBwdRefIdeal : Cert.NormBwdRefIdeal.Facts) (hAttnBwd : Cert.AttnBwd.Facts) (hAttnBwdIdeal : Cert.AttnBwdIdeal.Facts) (hAttnBwdRefIdeal : Cert.AttnBwdRefIdeal.Facts) (hLossHead : Cert.LossHead.Facts) (hLossHeadIdeal : Cert.LossHeadIdeal.Facts) (hLossHeadRefIdeal : Cert.LossHeadRefIdeal.Facts) (hOBwd : Cert.OBwd.Facts) (hOBwdIdeal : Cert.OBwdIdeal.Facts) (hOBwdRefIdeal : Cert.OBwdRefIdeal.Facts) (hQBwd : Cert.QBwd.Facts) (hQBwdIdeal : Cert.QBwdIdeal.Facts) (hQBwdRefIdeal : Cert.QBwdRefIdeal.Facts) (hS5Post : Cert.S5Post.Facts) (hS5PostIdeal : Cert.S5PostIdeal.Facts) (hS5PostRefIdeal : Cert.S5PostRefIdeal.Facts) (hMlpFwd : Cert.MlpFwd.Facts) (hMlpFwdIdeal : Cert.MlpFwdIdeal.Facts) (hMlpFwdRefIdeal : Cert.MlpFwdRefIdeal.Facts) (hMlpBwd : Cert.MlpBwd.Facts) (hMlpBwdIdeal : Cert.MlpBwdIdeal.Facts) (hMlpBwdRefIdeal : Cert.MlpBwdRefIdeal.Facts) (hKvfBwd : Cert.KvfBwd.Facts) (hKvfBwdIdeal : Cert.KvfBwdIdeal.Facts) (hKvfBwdRefIdeal : Cert.KvfBwdRefIdeal.Facts) (hNormFwd : Cert.NormFwd.Facts) (hNormFwdIdeal : Cert.NormFwdIdeal.Facts) (hNormFwdRefIdeal : Cert.NormFwdRefIdeal.Facts) (hQFwd : Cert.QFwd.Facts) (hQFwdIdeal : Cert.QFwdIdeal.Facts) (hQFwdRefIdeal : Cert.QFwdRefIdeal.Facts) (hOFwd : Cert.OFwd.Facts) (hOFwdIdeal : Cert.OFwdIdeal.Facts) (hOFwdRefIdeal : Cert.OFwdRefIdeal.Facts) (hKvfFwd : Cert.KvfFwd.Facts) (hKvfFwdIdeal : Cert.KvfFwdIdeal.Facts) (hKvfFwdRefIdeal : Cert.KvfFwdRefIdeal.Facts) (hPre_norm_finite : Cert.Pre_norm_finite.Facts) (hPre_attn_finite : Cert.Pre_attn_finite.Facts) (hPre_loss_finite : Cert.Pre_loss_finite.Facts) (hPre_o_finite : Cert.Pre_o_finite.Facts) (hPre_q_finite : Cert.Pre_q_finite.Facts) (hPre_s5_post_finite : Cert.Pre_s5_post_finite.Facts) (hPre_mlp_finite : Cert.Pre_mlp_finite.Facts) (hPre_kvf_finite : Cert.Pre_kvf_finite.Facts) (hPre_kvf_fwd_finite : Cert.Pre_kvf_fwd_finite.Facts),
    quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormBwdRefIdeal (hNormBwdRefIdeal := hNormBwdRefIdeal)
    ∧ quiescent_NormBwdRefIdeal_pre_norm_finite (hNormBwdRefIdeal := hNormBwdRefIdeal) (hPre_norm_finite := hPre_norm_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_OBwd (hOBwd := hOBwd)
    ∧ quiescent_OBwdIdeal (hOBwdIdeal := hOBwdIdeal)
    ∧ quiescent_OBwdIdeal_pre_o_finite (hOBwdIdeal := hOBwdIdeal) (hPre_o_finite := hPre_o_finite)
    ∧ quiescent_OBwdRefIdeal (hOBwdRefIdeal := hOBwdRefIdeal)
    ∧ quiescent_OBwdRefIdeal_pre_o_finite (hOBwdRefIdeal := hOBwdRefIdeal) (hPre_o_finite := hPre_o_finite)
    ∧ quiescent_QBwd (hQBwd := hQBwd)
    ∧ quiescent_QBwdIdeal (hQBwdIdeal := hQBwdIdeal)
    ∧ quiescent_QBwdIdeal_pre_q_finite (hQBwdIdeal := hQBwdIdeal) (hPre_q_finite := hPre_q_finite)
    ∧ quiescent_QBwdRefIdeal (hQBwdRefIdeal := hQBwdRefIdeal)
    ∧ quiescent_QBwdRefIdeal_pre_q_finite (hQBwdRefIdeal := hQBwdRefIdeal) (hPre_q_finite := hPre_q_finite)
    ∧ quiescent_S5Post (hS5Post := hS5Post)
    ∧ quiescent_S5PostIdeal (hS5PostIdeal := hS5PostIdeal)
    ∧ quiescent_S5PostIdeal_pre_s5_post_finite (hS5PostIdeal := hS5PostIdeal) (hPre_s5_post_finite := hPre_s5_post_finite)
    ∧ quiescent_S5PostRefIdeal (hS5PostRefIdeal := hS5PostRefIdeal)
    ∧ quiescent_S5PostRefIdeal_pre_s5_post_finite (hS5PostRefIdeal := hS5PostRefIdeal) (hPre_s5_post_finite := hPre_s5_post_finite)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_MlpBwd (hMlpBwd := hMlpBwd)
    ∧ quiescent_MlpBwdIdeal (hMlpBwdIdeal := hMlpBwdIdeal)
    ∧ quiescent_MlpBwdIdeal_pre_mlp_finite (hMlpBwdIdeal := hMlpBwdIdeal) (hPre_mlp_finite := hPre_mlp_finite)
    ∧ quiescent_MlpBwdRefIdeal (hMlpBwdRefIdeal := hMlpBwdRefIdeal)
    ∧ quiescent_MlpBwdRefIdeal_pre_mlp_finite (hMlpBwdRefIdeal := hMlpBwdRefIdeal) (hPre_mlp_finite := hPre_mlp_finite)
    ∧ quiescent_KvfBwd (hKvfBwd := hKvfBwd)
    ∧ quiescent_KvfBwdIdeal (hKvfBwdIdeal := hKvfBwdIdeal)
    ∧ quiescent_KvfBwdIdeal_pre_kvf_finite (hKvfBwdIdeal := hKvfBwdIdeal) (hPre_kvf_finite := hPre_kvf_finite)
    ∧ quiescent_KvfBwdRefIdeal (hKvfBwdRefIdeal := hKvfBwdRefIdeal)
    ∧ quiescent_KvfBwdRefIdeal_pre_kvf_finite (hKvfBwdRefIdeal := hKvfBwdRefIdeal) (hPre_kvf_finite := hPre_kvf_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_QFwd (hQFwd := hQFwd)
    ∧ quiescent_QFwdIdeal (hQFwdIdeal := hQFwdIdeal)
    ∧ quiescent_QFwdRefIdeal (hQFwdRefIdeal := hQFwdRefIdeal)
    ∧ quiescent_OFwd (hOFwd := hOFwd)
    ∧ quiescent_OFwdIdeal (hOFwdIdeal := hOFwdIdeal)
    ∧ quiescent_OFwdRefIdeal (hOFwdRefIdeal := hOFwdRefIdeal)
    ∧ quiescent_KvfFwd (hKvfFwd := hKvfFwd)
    ∧ quiescent_KvfFwdIdeal (hKvfFwdIdeal := hKvfFwdIdeal)
    ∧ quiescent_KvfFwdIdeal_pre_kvf_fwd_finite (hKvfFwdIdeal := hKvfFwdIdeal) (hPre_kvf_fwd_finite := hPre_kvf_fwd_finite)
    ∧ quiescent_KvfFwdRefIdeal (hKvfFwdRefIdeal := hKvfFwdRefIdeal)
    ∧ quiescent_KvfFwdRefIdeal_pre_kvf_fwd_finite (hKvfFwdRefIdeal := hKvfFwdRefIdeal) (hPre_kvf_fwd_finite := hPre_kvf_fwd_finite)
    ∧ preserves_NormBwd_NormBwdIdeal
    ∧ algebraic_NormBwdIdeal_NormBwdRefIdeal_pre_norm_finite (hNormBwdIdeal := hNormBwdIdeal) (hNormBwdRefIdeal := hNormBwdRefIdeal) (hPre_norm_finite := hPre_norm_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_OBwd_OBwdIdeal
    ∧ algebraic_OBwdIdeal_OBwdRefIdeal_pre_o_finite (hOBwdIdeal := hOBwdIdeal) (hOBwdRefIdeal := hOBwdRefIdeal) (hPre_o_finite := hPre_o_finite)
    ∧ preserves_QBwd_QBwdIdeal
    ∧ algebraic_QBwdIdeal_QBwdRefIdeal_pre_q_finite (hQBwdIdeal := hQBwdIdeal) (hQBwdRefIdeal := hQBwdRefIdeal) (hPre_q_finite := hPre_q_finite)
    ∧ preserves_S5Post_S5PostIdeal
    ∧ algebraic_S5PostIdeal_S5PostRefIdeal_pre_s5_post_finite (hS5PostIdeal := hS5PostIdeal) (hS5PostRefIdeal := hS5PostRefIdeal) (hPre_s5_post_finite := hPre_s5_post_finite)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_MlpBwd_MlpBwdIdeal
    ∧ algebraic_MlpBwdIdeal_MlpBwdRefIdeal_pre_mlp_finite (hMlpBwdIdeal := hMlpBwdIdeal) (hMlpBwdRefIdeal := hMlpBwdRefIdeal) (hPre_mlp_finite := hPre_mlp_finite)
    ∧ preserves_KvfBwd_KvfBwdIdeal
    ∧ algebraic_KvfBwdIdeal_KvfBwdRefIdeal_pre_kvf_finite (hKvfBwdIdeal := hKvfBwdIdeal) (hKvfBwdRefIdeal := hKvfBwdRefIdeal) (hPre_kvf_finite := hPre_kvf_finite)
    ∧ preserves_NormFwd_NormFwdIdeal
    ∧ algebraic_NormFwdIdeal_NormFwdRefIdeal (hNormFwdIdeal := hNormFwdIdeal) (hNormFwdRefIdeal := hNormFwdRefIdeal)
    ∧ preserves_QFwd_QFwdIdeal
    ∧ algebraic_QFwdIdeal_QFwdRefIdeal (hQFwdIdeal := hQFwdIdeal) (hQFwdRefIdeal := hQFwdRefIdeal)
    ∧ preserves_OFwd_OFwdIdeal
    ∧ algebraic_OFwdIdeal_OFwdRefIdeal (hOFwdIdeal := hOFwdIdeal) (hOFwdRefIdeal := hOFwdRefIdeal)
    ∧ preserves_KvfFwd_KvfFwdIdeal
    ∧ algebraic_KvfFwdIdeal_KvfFwdRefIdeal_pre_kvf_fwd_finite (hKvfFwdIdeal := hKvfFwdIdeal) (hKvfFwdRefIdeal := hKvfFwdRefIdeal) (hPre_kvf_fwd_finite := hPre_kvf_fwd_finite)
-- ==== Pre_attn_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  bcast_S_S8192x16 : S_.BroadcastsInDim S8192x16 (![] : Fin 0 → Fin S8192x16.rank)

variable [Facts]

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S8192x1024 1 × IVec S8192x1024 1 × IVec S8192x1024 1 × IVec S8192x16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_kvf_finite.lean ====
abbrev S8192x1024 : Shape := ⟨2, ![8192, 1024]⟩
abbrev S8192x16 : Shape := ⟨2, ![8192, 16]⟩
abbrev S1024 : Shape := ⟨1, ![1024]⟩
abbrev S1024x2064 : Shape := ⟨2, ![1024, 2064]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S8192x16 : S_.BroadcastsInDim S8192x16 (![] : Fin 0 → Fin S8192x16.rank)
  bcast_S_S1024 : S_.BroadcastsInDim S1024 (![] : Fin 0 → Fin S1024.rank)
  bcast_S_S1024x2064 : S_.BroadcastsInDim S1024x2064 (![] : Fin 0 → Fin S1024x2064.rank)
  bcast_S_S16 : S_.BroadcastsInDim S16 (![] : Fin 0 → Fin S16.rank)

variable [Facts]

def fn_part2 {F : FTy → Type} [FloatOps F] (main_arg13 : FVec F S1024x2064 .f32) (main_arg14 : FVec F S16 .f32) (main_v2 : IVec S8192x1024 1) (main_v5 : IVec S8192x1024 1) (main_v8 : IVec S8192x1024 1) (main_v11 : IVec S8192x1024 1) (main_v14 : IVec S8192x1024 1) (main_v17 : IVec S8192x1024 1) (main_v20 : IVec S8192x16 1) (main_v23 : IVec S8192x16 1) (main_v26 : IVec S8192x16 1) (main_v29 : IVec S8192x16 1) (main_v32 : IVec S8192x1024 1) (main_v35 : IVec S1024 1) : IVec S8192x1024 1 × IVec S8192x1024 1 × IVec S8192x1024 1 × IVec S8192x1024 1 × IVec S8192x1024 1 × IVec S8192x1024 1 × IVec S8192x16 1 × IVec S8192x16 1 × IVec S8192x16 1 × IVec S8192x16 1 × IVec S8192x1024 1 × IVec S1024 1 × IVec S1024x2064 1 × IVec S16 1 :=
  let main_v36 : FVec F S1024x2064 .f32 := Host.absf main_arg13
  let main_cst_11 : FVec F S_ .f32 := constant S_ .f32 0x7F800000#32
  let main_v37 : FVec F S1024x2064 .f32 := broadcastInDim S1024x2064 ![] bcast_S_S1024x2064 main_cst_11
  let main_v38 : IVec S1024x2064 1 := cmpf .olt main_v36 main_v37
  let main_v39 : FVec F S16 .f32 := Host.absf main_arg14
  let main_cst_12 : FVec F S_ .f32 := constant S_ .f32 0x7F800000#32
  let main_v40 : FVec F S16 .f32 := broadcastInDim S16 ![] bcast_S_S16 main_cst_12
  let main_v41 : IVec S16 1 := cmpf .olt main_v39 main_v40
  (main_v2, main_v5, main_v8, main_v11, main_v14, main_v17, main_v20, main_v23, main_v26, main_v29, main_v32, main_v35, main_v38, main_v41)

def fn_part1 {F : FTy → Type} [FloatOps F] (main_arg7 : FVec F S8192x16 .f32) (main_arg8 : FVec F S8192x16 .f32) (main_arg9 : FVec F S8192x16 .f32) (main_arg10 : FVec F S8192x16 .f32) (main_arg11 : FVec F S8192x1024 .f32) (main_arg12 : FVec F S1024 .f32) (main_arg13 : FVec F S1024x2064 .f32) (main_arg14 : FVec F S16 .f32) (main_v2 : IVec S8192x1024 1) (main_v5 : IVec S8192x1024 1) (main_v8 : IVec S8192x1024 1) (main_v11 : IVec S8192x1024 1) (main_v14 : IVec S8192x1024 1) (main_v17 : IVec S8192x1024 1) : IVec S8192x1024 1 × IVec S8192x1024 1 × IVec S8192x1024 1 × IVec S8192x1024 1 × IVec S8192x1024 1 × IVec S8192x1024 1 × IVec S8192x16 1 × IVec S8192x16 1 × IVec S8192x16 1 × IVec S8192x16 1 × IVec S8192x1024 1 × IVec S1024 1 × IVec S1024x2064 1 × IVec S16 1 :=
  let main_v18 : FVec F S8192x16 .f32 := Host.absf main_arg7
  let main_cst_5 : FVec F S_ .f32 := constant S_ .f32 0x7F800000#32
  let main_v19 : FVec F S8192x16 .f32 := broadcastInDim S8192x16 ![] bcast_S_S8192x16 main_cst_5
  let main_v20 : IVec S8192x16 1 := cmpf .olt main_v18 main_v19
  let main_v21 : FVec F S8192x16 .f32 := Host.absf main_arg8
  let main_cst_6 : FVec F S_ .f32 := constant S_ .f32 0x7F800000#32
  let main_v22 : FVec F S8192x16 .f32 := broadcastInDim S8192x16 ![] bcast_S_S8192x16 main_cst_6
  let main_v23 : IVec S8192x16 1 := cmpf .olt main_v21 main_v22
  let main_v24 : FVec F S8192x16 .f32 := Host.absf main_arg9
  let main_cst_7 : FVec F S_ .f32 := constant S_ .f32 0x7F800000#32
  let main_v25 : FVec F S8192x16 .f32 := broadcastInDim S8192x16 ![] bcast_S_S8192x16 main_cst_7
  let main_v26 : IVec S8192x16 1 := cmpf .olt main_v24 main_v25
  let main_v27 : FVec F S8192x16 .f32 := Host.absf main_arg10
  let main_cst_8 : FVec F S_ .f32 := constant S_ .f32 0x7F800000#32
  let main_v28 : FVec F S8192x16 .f32 := broadcastInDim S8192x16 ![] bcast_S_S8192x16 main_cst_8
  let main_v29 : IVec S8192x16 1 := cmpf .olt main_v27 main_v28
  let main_v30 : FVec F S8192x1024 .f32 := Host.absf main_arg11
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  let main_v33 : FVec F S1024 .f32 := Host.absf main_arg12
  let main_cst_10 : FVec F S_ .f32 := constant S_ .f32 0x7F800000#32
  let main_v34 : FVec F S1024 .f32 := broadcastInDim S1024 ![] bcast_S_S1024 main_cst_10
  let main_v35 : IVec S1024 1 := cmpf .olt main_v33 main_v34
  fn_part2 (F := F) main_arg13 main_arg14 main_v2 main_v5 main_v8 main_v11 main_v14 main_v17 main_v20 main_v23 main_v26 main_v29 main_v32 main_v35

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S8192x16 .f32) (main_arg8 : FVec F S8192x16 .f32) (main_arg9 : FVec F S8192x16 .f32) (main_arg10 : FVec F S8192x16 .f32) (main_arg11 : FVec F S8192x1024 .f32) (main_arg12 : FVec F S1024 .f32) (main_arg13 : FVec F S1024x2064 .f32) (main_arg14 : FVec F S16 .f32) : IVec S8192x1024 1 × IVec S8192x1024 1 × IVec S8192x1024 1 × IVec S8192x1024 1 × IVec S8192x1024 1 × IVec S8192x1024 1 × IVec S8192x16 1 × IVec S8192x16 1 × IVec S8192x16 1 × IVec S8192x16 1 × IVec S8192x1024 1 × IVec S1024 1 × IVec S1024x2064 1 × IVec S16 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg6
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg7 main_arg8 main_arg9 main_arg10 main_arg11 main_arg12 main_arg13 main_arg14 main_v2 main_v5 main_v8 main_v11 main_v14 main_v17
-- ==== Pre_kvf_fwd_finite.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2064 : S_.BroadcastsInDim S1024x2064 (![] : Fin 0 → Fin S1024x2064.rank)
  bcast_S_S16 : S_.BroadcastsInDim S16 (![] : Fin 0 → Fin S16.rank)

variable [Facts]

def fn {F : FTy → Type} [FloatOps F] (main_arg0 : FVec F S8192x1024 .f32) (main_arg1 : FVec F S1024 .f32) (main_arg2 : FVec F S1024x2064 .f32) (main_arg3 : FVec F S16 .f32) : IVec S8192x1024 1 × IVec S1024 1 × IVec S1024x2064 1 × IVec S16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2064 .f32 := Host.absf main_arg2
  let main_cst_1 : FVec F S_ .f32 := constant S_ .f32 0x7F800000#32
  let main_v7 : FVec F S1024x2064 .f32 := broadcastInDim S1024x2064 ![] bcast_S_S1024x2064 main_cst_1
  let main_v8 : IVec S1024x2064 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_mlp_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S8192x1024 .f32) (main_arg2 : FVec F S1024 .f32) (main_arg3 : FVec F S1024x4096 .f32) (main_arg4 : FVec F S4096x1024 .f32) : IVec S8192x1024 1 × IVec S8192x1024 1 × IVec S1024 1 × IVec S1024x4096 1 × IVec S4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_norm_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) : IVec S8192x1024 1 × IVec S8192x1024 1 × IVec S1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_o_finite.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1024x1024 .f32) : IVec S8192x1024 1 × IVec S8192x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_q_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S8192x1024 .f32) (main_arg3 : FVec F S1024 .f32) (main_arg4 : FVec F S1024x1024 .f32) : IVec S8192x1024 1 × IVec S8192x1024 1 × IVec S1024 1 × IVec S1024x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Pre_s5_post_finite.lean ====
abbrev S8192x1024 : Shape := ⟨2, ![8192, 1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  bcast_S_S1024x2048 : S_.BroadcastsInDim S1024x2048 (![] : Fin 0 → Fin S1024x2048.rank)

variable [Facts]

def fn {F : FTy → Type} [FloatOps F] (main_arg0 : FVec F S8192x1024 .f32) (main_arg1 : FVec F S8192x1024 .f32) (main_arg2 : FVec F S8192x1024 .f32) (main_arg3 : FVec F S1024x2048 .f32) : IVec S8192x1024 1 × IVec S8192x1024 1 × IVec S1024x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2048 .f32 := Host.absf main_arg3
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  (main_v2, main_v5, main_v8)
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v40 : BitVec 1 := Scalar.cmpi .eq arg0 c15_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AttnBwd.lean ====
abbrev S8192x1024 : Shape := ⟨2, ![8192, 1024]⟩
abbrev S8192x16 : Shape := ⟨2, ![8192, 16]⟩
abbrev S36 : Shape := ⟨1, ![36]⟩
abbrev S_ : Shape := ⟨0, ![]⟩
abbrev S8192x16x64 : Shape := ⟨3, ![8192, 16, 64]⟩
abbrev S8192x16x128 : Shape := ⟨3, ![8192, 16, 128]⟩
abbrev S8192x2048 : Shape := ⟨2, ![8192, 2048]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S16x8192x64 : Shape := ⟨3, ![16, 8192, 64]⟩
abbrev S16x8192x8192 : Shape := ⟨3, ![16, 8192, 8192]⟩
abbrev S16x8192 : Shape := ⟨2, ![16, 8192]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S16x8192x1 : Shape := ⟨3, ![16, 8192, 1]⟩
abbrev S8x2x8192 : Shape := ⟨3, ![8, 2, 8192]⟩
abbrev S1024x256 : Shape := ⟨2, ![1024, 256]⟩
abbrev S1 : Shape := ⟨1, ![1]⟩
abbrev S1024x128 : Shape := ⟨2, ![1024, 128]⟩
abbrev S1x2x1024 : Shape := ⟨3, ![1, 2, 1024]⟩
abbrev S8192x256 : Shape := ⟨2, ![8192, 256]⟩
abbrev S1024x64 : Shape := ⟨2, ![1024, 64]⟩
abbrev S1024x1024 : Shape := ⟨2, ![1024, 1024]⟩
abbrev S1x1x1024 : Shape := ⟨3, ![1, 1, 1024]⟩
abbrev S1x1024 : Shape := ⟨2, ![1, 1024]⟩
abbrev S8192x16x1 : Shape := ⟨3, ![8192, 16, 1]⟩

abbrev nBuf : Space → Nat
  | .hbm => 131
  | .vmem => 20
  | .smem => 2
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S_, .f32⟩
  | 6 => ⟨S_, .f32⟩
  | 7 => ⟨S_, .f32⟩
  | 8 => ⟨S_, .f32⟩
  | 9 => ⟨S8192x16x64, .f32⟩
  | 10 => ⟨S_, .i32⟩
  | 11 => ⟨S_, .f32⟩
  | 12 => ⟨S8192x16x128, .f32⟩
  | 13 => ⟨S8192x2048, .f32⟩
  | 14 => ⟨S8192x2048, .f32⟩
  | 15 => ⟨S8192x2048, .f32⟩
  | 16 => ⟨S128, .i32⟩
  | 17 => ⟨S_, .i32⟩
  | 18 => ⟨S128, .i32⟩
  | 19 => ⟨S128, .i1⟩
  | 20 => ⟨S128, .f32⟩
  | 21 => ⟨S1x128, .f32⟩
  | 22 => ⟨S16x128, .f32⟩
  | 23 => ⟨S2048, .f32⟩
  | 24 => ⟨S1x2048, .f32⟩
  | 25 => ⟨S8192x2048, .f32⟩
  | 26 => ⟨S8192x2048, .f32⟩
  | 27 => ⟨S8192x2048, .bf16⟩
  | 28 => ⟨S8192x16x64, .f32⟩
  | 29 => ⟨S_, .i32⟩
  | 30 => ⟨S_, .f32⟩
  | 31 => ⟨S8192x16x128, .f32⟩
  | 32 => ⟨S8192x2048, .f32⟩
  | 33 => ⟨S128, .i32⟩
  | 34 => ⟨S_, .i32⟩
  | 35 => ⟨S128, .i32⟩
  | 36 => ⟨S128, .i1⟩
  | 37 => ⟨S128, .f32⟩
  | 38 => ⟨S1x128, .f32⟩
  | 39 => ⟨S16x128, .f32⟩
  | 40 => ⟨S2048, .f32⟩
  | 41 => ⟨S1x2048, .f32⟩
  | 42 => ⟨S8192x2048, .f32⟩
  | 43 => ⟨S8192x2048, .f32⟩
  | 44 => ⟨S8192x2048, .bf16⟩
  | 45 => ⟨S8192x16x64, .f32⟩
  | 46 => ⟨S_, .i32⟩
  | 47 => ⟨S_, .f32⟩
  | 48 => ⟨S8192x16x128, .f32⟩
  | 49 => ⟨S8192x2048, .f32⟩
  | 50 => ⟨S128, .i32⟩
  | 51 => ⟨S_, .i32⟩
  | 52 => ⟨S128, .i32⟩
  | 53 => ⟨S128, .i1⟩
  | 54 => ⟨S128, .f32⟩
  | 55 => ⟨S1x128, .f32⟩
  | 56 => ⟨S16x128, .f32⟩
  | 57 => ⟨S2048, .f32⟩
  | 58 => ⟨S1x2048, .f32⟩
  | 59 => ⟨S8192x2048, .f32⟩
  | 60 => ⟨S8192x2048, .f32⟩
  | 61 => ⟨S8192x2048, .bf16⟩
  | 62 => ⟨S8192x16, .f32⟩
  | 63 => ⟨S8192x16, .f32⟩
  | 64 => ⟨S8192x16x128, .f32⟩
  | 65 => ⟨S8192x2048, .f32⟩
  | 66 => ⟨S8192x16x64, .f32⟩
  | 67 => ⟨S16x8192x64, .f32⟩
  | 68 => ⟨S8192x16x64, .f32⟩
  | 69 => ⟨S16x8192x64, .f32⟩
  | 70 => ⟨S16x8192x8192, .f32⟩
  | 71 => ⟨S16x8192, .f32⟩
  | 72 => ⟨S16x1x8192, .f32⟩
  | 73 => ⟨S16x8192x8192, .f32⟩
  | 74 => ⟨S16x8192x8192, .f32⟩
  | 75 => ⟨S8192, .i32⟩
  | 76 => ⟨S8192x1, .i32⟩
  | 77 => ⟨S1x8192, .i32⟩
  | 78 => ⟨S8192x8192, .i32⟩
  | 79 => ⟨S8192x8192, .i32⟩
  | 80 => ⟨S8192x8192, .i1⟩
  | 81 => ⟨S1x8192x8192, .i1⟩
  | 82 => ⟨S_, .f32⟩
  | 83 => ⟨S_, .f32⟩
  | 84 => ⟨S16x8192x8192, .i1⟩
  | 85 => ⟨S16x8192x8192, .f32⟩
  | 86 => ⟨S16x8192x8192, .f32⟩
  | 87 => ⟨S_, .f32⟩
  | 88 => ⟨S16x8192, .f32⟩
  | 89 => ⟨S16x8192x1, .f32⟩
  | 90 => ⟨S16x8192x8192, .f32⟩
  | 91 => ⟨S16x8192x8192, .f32⟩
  | 92 => ⟨S16x8192x8192, .f32⟩
  | 93 => ⟨S_, .f32⟩
  | 94 => ⟨S16x8192, .f32⟩
  | 95 => ⟨S16x8192x1, .f32⟩
  | 96 => ⟨S8192x16x64, .f32⟩
  | 97 => ⟨S16x8192x64, .f32⟩
  | 98 => ⟨S16x8192x64, .f32⟩
  | 99 => ⟨S16x8192x64, .f32⟩
  | 100 => ⟨S16x8192x64, .f32⟩
  | 101 => ⟨S16x8192x1, .f32⟩
  | 102 => ⟨S16x8192x1, .f32⟩
  | 103 => ⟨S16x8192x1, .f32⟩
  | 104 => ⟨S16x8192x1, .f32⟩
  | 105 => ⟨S8x2x8192, .f32⟩
  | 106 => ⟨S8192x16x64, .f32⟩
  | 107 => ⟨S16x8192x64, .f32⟩
  | 108 => ⟨S16x8192x64, .f32⟩
  | 109 => ⟨S_, .f32⟩
  | 110 => ⟨S16x8192, .f32⟩
  | 111 => ⟨S8x2x8192, .f32⟩
  | 112 => ⟨S8192x1024, .bf16⟩
  | 113 => ⟨S8192x2048, .f32⟩
  | 114 => ⟨S8192x2048, .f32⟩
  | 115 => ⟨S8192x1024, .f32⟩
  | 116 => ⟨S8192x16x128, .f32⟩
  | 117 => ⟨S8192x16x1, .f32⟩
  | 118 => ⟨S8192x16, .f32⟩
  | 119 => ⟨S8192x16x128, .f32⟩
  | 120 => ⟨S8192x16x1, .f32⟩
  | 121 => ⟨S8192x16, .f32⟩
  | 122 => ⟨S8192x16, .f32⟩
  | 123 => ⟨S8192x16x128, .f32⟩
  | 124 => ⟨S8192x16x64, .f32⟩
  | 125 => ⟨S8192x1024, .f32⟩
  | 126 => ⟨S8192x16x128, .f32⟩
  | 127 => ⟨S8192x16x64, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x128, .bf16⟩
  | .local _ .vmem, ⟨9, _⟩ => ⟨S1024x128, .bf16⟩
  | .local _ .vmem, ⟨10, _⟩ => ⟨S1x2x1024, .f32⟩
  | .local _ .vmem, ⟨11, _⟩ => ⟨S1x2x1024, .f32⟩
  | .local _ .vmem, ⟨12, _⟩ => ⟨S1x2x1024, .f32⟩
  | .local _ .vmem, ⟨13, _⟩ => ⟨S1x2x1024, .f32⟩
  | .local _ .vmem, ⟨14, _⟩ => ⟨S8192x256, .f32⟩
  | .local _ .vmem, ⟨15, _⟩ => ⟨S8192x256, .f32⟩
  | .local _ .vmem, ⟨16, _⟩ => ⟨S1024x256, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .smem, ⟨0, _⟩ => ⟨S36, .i32⟩
  | .local _ .smem, ⟨1, _⟩ => ⟨S36, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_call2_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_11 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90_0 : Ref sig .tc := ⟨.hbm, 113, rfl⟩
abbrev main_v90_1 : Ref sig .tc := ⟨.hbm, 114, rfl⟩
abbrev main_v90_2 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v84 : BitVec 32 := Scalar.muli v1 c1024_i32
  v84
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v84 : BitVec 32 := Scalar.muli v1 c1024_i32
  let v85 : BitVec 32 := v84
  let v86 : Index := Scalar.indexCast v85
  let c0_49 : Index := 0#32
  ![v86.toNat, 0]
def k0_mult2 (v1 : BitVec 32) : BitVec 32 :=
  let c1024_i32 : BitVec 32 := 1024#32
  let v94 : BitVec 32 := Scalar.muli v1 c1024_i32
  v94
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) : Fin 2 → Nat :=
  let c1024_i32 : BitVec 32 := 1024#32
  let v94 : BitVec 32 := Scalar.muli v1 c1024_i32
  let v95 : BitVec 32 := v94
  let v96 : Index := Scalar.indexCast v95
  let c0_51 : Index := 0#32
  ![v96.toNat, 0]

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x256.size a ≤ S8192x256.size a) ∧
  (∀ (k0_h4 : k0_cond4 v1 v3 = 1#1), 1024 ∣ (k0_mult2 v1).toNat) ∧
  (∀ (k0_h4 : k0_cond4 v1 v3 = 1#1), ∀ a, (k0_off3 v1) a + S1024x256.size a ≤ S8192x256.size a)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x256.size a ≤ S8192x256.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 1024 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1024x256.size a ≤ S8192x256.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnBwdRefIdeal.lean ====
abbrev S8192x1024 : Shape := ⟨2, ![8192, 1024]⟩
abbrev S8192x16 : Shape := ⟨2, ![8192, 16]⟩
abbrev S16x8192 : Shape := ⟨2, ![16, 8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S16x64x8192 : Shape := ⟨3, ![16, 64, 8192]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S16x8192, .f32⟩
  | .hbm, ⟨6, _⟩ => ⟨S8192x16x64, .f32⟩
  | .hbm, ⟨7, _⟩ => ⟨S16x8192x64, .f32⟩
  | .hbm, ⟨8, _⟩ => ⟨S8192x16x64, .f32⟩
  | .hbm, ⟨9, _⟩ => ⟨S16x8192x64, .f32⟩
  | .hbm, ⟨10, _⟩ => ⟨S16x8192x8192, .f32⟩
  | .hbm, ⟨11, _⟩ => ⟨S16x8192x1, .f32⟩
  | .hbm, ⟨12, _⟩ => ⟨S16x8192x8192, .f32⟩
  | .hbm, ⟨13, _⟩ => ⟨S16x8192x8192, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .i1⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S8192x16x64, .f32⟩
  | .hbm, ⟨70, _⟩ => ⟨S16x8192x64, .f32⟩
  | .hbm, ⟨71, _⟩ => ⟨S16x8192x64, .f32⟩
  | .hbm, ⟨72, _⟩ => ⟨S8192x16x64, .f32⟩
  | .hbm, ⟨73, _⟩ => ⟨S8192x1024, .f32⟩
  | .hbm, ⟨74, _⟩ => ⟨S8192x16x64, .f32⟩
  | .hbm, ⟨75, _⟩ => ⟨S16x8192x64, .f32⟩
  | .hbm, ⟨76, _⟩ => ⟨S16x64x8192, .f32⟩
  | .hbm, ⟨77, _⟩ => ⟨S16x8192x64, .f32⟩
  | .hbm, ⟨78, _⟩ => ⟨S16x8192x8192, .f32⟩
  | .hbm, ⟨79, _⟩ => ⟨S8192x16x64, .f32⟩
  | .hbm, ⟨80, _⟩ => ⟨S8192x1024, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192, .f32⟩
  | .hbm, ⟨86, _⟩ => ⟨S16x8192x1, .f32⟩
  | .hbm, ⟨87, _⟩ => ⟨S16x8192x1, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192x8192, .f32⟩
  | .hbm, ⟨97, _⟩ => ⟨S16x8192x8192, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x1x8192, .f32⟩
  | .hbm, ⟨102, _⟩ => ⟨S_, .f32⟩
  | .hbm, ⟨103, _⟩ => ⟨S16x8192, .f32⟩
  | .hbm, ⟨104, _⟩ => ⟨S_, .f32⟩
  | .hbm, ⟨105, _⟩ => ⟨S16x8192, .f32⟩
  | .hbm, ⟨106, _⟩ => ⟨S16x8192x1, .f32⟩
  | .hbm, ⟨107, _⟩ => ⟨S_, .f32⟩
  | .hbm, ⟨108, _⟩ => ⟨S16x8192, .f32⟩
  | .hbm, ⟨109, _⟩ => ⟨S16x8192, .f32⟩
  | .hbm, ⟨110, _⟩ => ⟨S16x8192x64, .f32⟩
  | .hbm, ⟨111, _⟩ => ⟨S16x8192x64, .f32⟩
  | .hbm, ⟨112, _⟩ => ⟨S8192x16x64, .f32⟩
  | .hbm, ⟨113, _⟩ => ⟨S8192x1024, .f32⟩
  | .hbm, ⟨114, _⟩ => ⟨S8192x16x64, .f32⟩
  | .hbm, ⟨115, _⟩ => ⟨S8192x1024, .f32⟩
  | .hbm, ⟨116, _⟩ => ⟨S8192x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_v19_1 : Ref sig .tc := ⟨.hbm, 26, rfl⟩
abbrev main_call0_v2 : Ref sig .tc := ⟨.hbm, 27, rfl⟩
abbrev main_v19_0 : Ref sig .tc := ⟨.hbm, 28, rfl⟩
abbrev main_call0_cst : Ref sig .tc := ⟨.hbm, 29, rfl⟩
abbrev main_v19_2 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call1_cst : Ref sig .tc := ⟨.hbm, 95, rfl⟩
abbrev main_call1_v0 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== OBwd.lean ====
abbrev S8192x1024 : Shape := ⟨2, ![8192, 1024]⟩
abbrev S1024x1024 : Shape := ⟨2, ![1024, 1024]⟩
abbrev S16 : Shape := ⟨1, ![16]⟩
abbrev S16x1 : Shape := ⟨2, ![16, 1]⟩
abbrev S1024 : Shape := ⟨1, ![1024]⟩
abbrev S1x1024 : Shape := ⟨2, ![1, 1024]⟩
abbrev S_ : Shape := ⟨0, ![]⟩
abbrev S16x1024 : Shape := ⟨2, ![16, 1024]⟩
abbrev S16x8192 : Shape := ⟨2, ![16, 8192]⟩
abbrev S512x1024 : Shape := ⟨2, ![512, 1024]⟩
abbrev S16x512 : Shape := ⟨2, ![16, 512]⟩

abbrev nBuf : Space → Nat
  | .hbm => 33
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S16, .i32⟩
  | .hbm, ⟨4, _⟩ => ⟨S16x1, .i32⟩
  | .hbm, ⟨5, _⟩ => ⟨S1024, .i32⟩
  | .hbm, ⟨6, _⟩ => ⟨S1x1024, .i32⟩
  | .hbm, ⟨7, _⟩ => ⟨S_, .i32⟩
  | .hbm, ⟨8, _⟩ => ⟨S_, .i32⟩
  | .hbm, ⟨9, _⟩ => ⟨S1x1024, .i32⟩
  | .hbm, ⟨10, _⟩ => ⟨S1x1024, .i32⟩
  | .hbm, ⟨11, _⟩ => ⟨S1x1024, .i32⟩
  | .hbm, ⟨12, _⟩ => ⟨S_, .i32⟩
  | .hbm, ⟨13, _⟩ => ⟨S1x1024, .i32⟩
  | .hbm, ⟨14, _⟩ => ⟨S1x1024, .i1⟩
  | .hbm, ⟨15, _⟩ => ⟨S1x1024, .i32⟩
  | .hbm, ⟨16, _⟩ => ⟨S1x1024, .i32⟩
  | .hbm, ⟨17, _⟩ => ⟨S_, .i32⟩
  | .hbm, ⟨18, _⟩ => ⟨S1x1024, .i32⟩
  | .hbm, ⟨19, _⟩ => ⟨S1x1024, .i1⟩
  | .hbm, ⟨20, _⟩ => ⟨S1x1024, .i1⟩
  | .hbm, ⟨21, _⟩ => ⟨S_, .i32⟩
  | .hbm, ⟨22, _⟩ => ⟨S1x1024, .i32⟩
  | .hbm, ⟨23, _⟩ => ⟨S1x1024, .i32⟩
  | .hbm, ⟨24, _⟩ => ⟨S1x1024, .i32⟩
  | .hbm, ⟨25, _⟩ => ⟨S16x1024, .i32⟩
  | .hbm, ⟨26, _⟩ => ⟨S16x1024, .i32⟩
  | .hbm, ⟨27, _⟩ => ⟨S16x1024, .i1⟩
  | .hbm, ⟨28, _⟩ => ⟨S16x1024, .bf16⟩
  | .hbm, ⟨29, _⟩ => ⟨S8192x1024, .bf16⟩
  | .hbm, ⟨30, _⟩ => ⟨S1024x1024, .bf16⟩
  | .hbm, ⟨31, _⟩ => ⟨S8192x1024, .bf16⟩
  | .hbm, ⟨32, _⟩ => ⟨S16x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S16x512, .f32⟩
  | .local _ .vmem, ⟨9, _⟩ => ⟨S16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OBwdRefIdeal.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16 : Shape := ⟨2, ![8192, 16]⟩
abbrev S16x8192 : Shape := ⟨2, ![16, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16, .f32⟩
  | .hbm, ⟨9, _⟩ => ⟨S8192x1024, .bf16⟩
  | .hbm, ⟨10, _⟩ => ⟨S16x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== QBwd.lean ====
abbrev S8192x1024 : Shape := ⟨2, ![8192, 1024]⟩
abbrev S1024 : Shape := ⟨1, ![1024]⟩
abbrev S1024x1024 : Shape := ⟨2, ![1024, 1024]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩
abbrev S1x1024 : Shape := ⟨2, ![1, 1024]⟩
abbrev S1024x16x64 : Shape := ⟨3, ![1024, 16, 64]⟩
abbrev S1024x16x128 : Shape := ⟨3, ![1024, 16, 128]⟩
abbrev S1024x2048 : Shape := ⟨2, ![1024, 2048]⟩
abbrev S512x1024 : Shape := ⟨2, ![512, 1024]⟩
abbrev S512x2048 : Shape := ⟨2, ![512, 2048]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 24
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S8192x16x64, .f32⟩
  | .hbm, ⟨6, _⟩ => ⟨S_, .i32⟩
  | .hbm, ⟨7, _⟩ => ⟨S_, .f32⟩
  | .hbm, ⟨8, _⟩ => ⟨S8192x16x128, .f32⟩
  | .hbm, ⟨9, _⟩ => ⟨S8192x2048, .f32⟩
  | .hbm, ⟨10, _⟩ => ⟨S1x1024, .f32⟩
  | .hbm, ⟨11, _⟩ => ⟨S1024x1024, .bf16⟩
  | .hbm, ⟨12, _⟩ => ⟨S1024x16x64, .bf16⟩
  | .hbm, ⟨13, _⟩ => ⟨S_, .i32⟩
  | .hbm, ⟨14, _⟩ => ⟨S_, .bf16⟩
  | .hbm, ⟨15, _⟩ => ⟨S1024x16x128, .bf16⟩
  | .hbm, ⟨16, _⟩ => ⟨S1024x2048, .bf16⟩
  | .hbm, ⟨17, _⟩ => ⟨S8192x1024, .f32⟩
  | .hbm, ⟨18, _⟩ => ⟨S8192x1024, .bf16⟩
  | .hbm, ⟨19, _⟩ => ⟨S8192x2048, .bf16⟩
  | .hbm, ⟨20, _⟩ => ⟨S1x1024, .f32⟩
  | .hbm, ⟨21, _⟩ => ⟨S8192x16x128, .bf16⟩
  | .hbm, ⟨22, _⟩ => ⟨S8192x16x64, .bf16⟩
  | .hbm, ⟨23, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S1x1024, .f32⟩
  | .local _ .vmem, ⟨15, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v52 : BitVec 1 := Scalar.cmpi .eq arg0 c15_i32
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QBwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x1024, .bf16⟩
  | .hbm, ⟨84, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== S5Post.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 10
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024x2048, .bf16⟩
  | .hbm, ⟨5, _⟩ => ⟨S8192x1024, .f32⟩
  | .hbm, ⟨6, _⟩ => ⟨S8192x2048, .bf16⟩
  | .hbm, ⟨7, _⟩ => ⟨S8192x1024, .f32⟩
  | .hbm, ⟨8, _⟩ => ⟨S8192x1024, .bf16⟩
  | .hbm, ⟨9, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x2048, .bf16⟩
  | .local _ .vmem, ⟨15, _⟩ => ⟨S1024x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x2048, .bf16⟩
  | .local _ .vmem, ⟨21, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== S5PostIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== S5PostRefIdeal.lean ====
abbrev S8192x1024 : Shape := ⟨2, ![8192, 1024]⟩
abbrev S1024x2048 : Shape := ⟨2, ![1024, 2048]⟩
abbrev S_ : Shape := ⟨0, ![]⟩
abbrev S8192x2048 : Shape := ⟨2, ![8192, 2048]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2048, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x2048, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192x2048, .f32⟩
  | .hbm, ⟨114, _⟩ => ⟨S_, .f32⟩
  | .hbm, ⟨115, _⟩ => ⟨S8192x2048, .f32⟩
  | .hbm, ⟨116, _⟩ => ⟨S8192x2048, .f32⟩
  | .hbm, ⟨117, _⟩ => ⟨S8192x1024, .bf16⟩
  | .hbm, ⟨118, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_19 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_cst_21 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_22 : Ref sig .tc := ⟨.hbm, 112, rfl⟩
abbrev main_v85 : Ref sig .tc := ⟨.hbm, 113, rfl⟩
abbrev main_cst_23 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== MlpFwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x4096, .bf16⟩
  | .local _ .vmem, ⟨8, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== MlpBwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S8x1024 : Shape := ⟨2, ![8, 1024]⟩
abbrev S256 : Shape := ⟨1, ![256]⟩
abbrev S256x1 : Shape := ⟨2, ![256, 1]⟩
abbrev S1024x1024 : Shape := ⟨2, ![1024, 1024]⟩
abbrev S32x8x1024 : Shape := ⟨3, ![32, 8, 1024]⟩

abbrev nBuf : Space → Nat
  | .hbm => 32
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x4096, .f32⟩
  | .hbm, ⟨25, _⟩ => ⟨S8192x4096, .bf16⟩
  | .hbm, ⟨26, _⟩ => ⟨S1x1024, .f32⟩
  | .hbm, ⟨27, _⟩ => ⟨S8192x1024, .f32⟩
  | .hbm, ⟨28, _⟩ => ⟨S8192x1024, .bf16⟩
  | .hbm, ⟨29, _⟩ => ⟨S8192x4096, .bf16⟩
  | .hbm, ⟨30, _⟩ => ⟨S8192x4096, .bf16⟩
  | .hbm, ⟨31, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S1x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v125 : BitVec 1 := Scalar.cmpi .eq arg0 c31_i32
  let v126 : BitVec 32 := Scalar.extui v125
  let c0_i32_73 : BitVec 32 := 0#32
  let v127 : BitVec 1 := Scalar.cmpi .ne v126 c0_i32_73
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpBwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .i1⟩
  | .hbm, ⟨96, _⟩ => ⟨S_, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S8192x1024, .f32⟩
  | .hbm, ⟨103, _⟩ => ⟨S8192x4096, .f32⟩
  | .hbm, ⟨104, _⟩ => ⟨S8192x4096, .f32⟩
  | .hbm, ⟨105, _⟩ => ⟨S_, .f32⟩
  | .hbm, ⟨106, _⟩ => ⟨S8192x4096, .f32⟩
  | .hbm, ⟨107, _⟩ => ⟨S8192x4096, .f32⟩
  | .hbm, ⟨108, _⟩ => ⟨S8192x1024, .bf16⟩
  | .hbm, ⟨109, _⟩ => ⟨S_, .f32⟩
  | .hbm, ⟨110, _⟩ => ⟨S8192x4096, .f32⟩
  | .hbm, ⟨111, _⟩ => ⟨S8192x4096, .f32⟩
  | .hbm, ⟨112, _⟩ => ⟨S8192x4096, .f32⟩
  | .hbm, ⟨113, _⟩ => ⟨S8192x4096, .bf16⟩
  | .hbm, ⟨114, _⟩ => ⟨S8192x4096, .bf16⟩
  | .hbm, ⟨115, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== KvfBwd.lean ====
abbrev S8192x1024 : Shape := ⟨2, ![8192, 1024]⟩
abbrev S8192x16 : Shape := ⟨2, ![8192, 16]⟩
abbrev S1024 : Shape := ⟨1, ![1024]⟩
abbrev S1024x2064 : Shape := ⟨2, ![1024, 2064]⟩
abbrev S16 : Shape := ⟨1, ![16]⟩
abbrev S_ : Shape := ⟨0, ![]⟩
abbrev S1x1024 : Shape := ⟨2, ![1, 1024]⟩
abbrev S1024x1024 : Shape := ⟨2, ![1024, 1024]⟩
abbrev S1024x16x64 : Shape := ⟨3, ![1024, 16, 64]⟩
abbrev S1024x16x128 : Shape := ⟨3, ![1024, 16, 128]⟩
abbrev S1024x2048 : Shape := ⟨2, ![1024, 2048]⟩
abbrev S1024x16 : Shape := ⟨2, ![1024, 16]⟩
abbrev S1024x128 : Shape := ⟨2, ![1024, 128]⟩
abbrev S128 : Shape := ⟨1, ![128]⟩
abbrev S1x128 : Shape := ⟨2, ![1, 128]⟩
abbrev S2048 : Shape := ⟨1, ![2048]⟩
abbrev S2048x1 : Shape := ⟨2, ![2048, 1]⟩
abbrev S2048x128 : Shape := ⟨2, ![2048, 128]⟩
abbrev S8192 : Shape := ⟨1, ![8192]⟩
abbrev S8192x1 : Shape := ⟨2, ![8192, 1]⟩
abbrev S8192x128 : Shape := ⟨2, ![8192, 128]⟩
abbrev S8192x16x1 : Shape := ⟨3, ![8192, 16, 1]⟩
abbrev S8192x16x64 : Shape := ⟨3, ![8192, 16, 64]⟩
abbrev S8192x16x128 : Shape := ⟨3, ![8192, 16, 128]⟩
abbrev S8192x2048 : Shape := ⟨2, ![8192, 2048]⟩
abbrev S256x1024 : Shape := ⟨2, ![256, 1024]⟩
abbrev S256x2048 : Shape := ⟨2, ![256, 2048]⟩
abbrev S256x128 : Shape := ⟨2, ![256, 128]⟩
abbrev S8x1024 : Shape := ⟨2, ![8, 1024]⟩
abbrev S8x128 : Shape := ⟨2, ![8, 128]⟩
abbrev S256x256 : Shape := ⟨2, ![256, 256]⟩
abbrev S32x8x128 : Shape := ⟨3, ![32, 8, 128]⟩
abbrev S256 : Shape := ⟨1, ![256]⟩
abbrev S256x1 : Shape := ⟨2, ![256, 1]⟩
abbrev S32x8x1024 : Shape := ⟨3, ![32, 8, 1024]⟩
abbrev S1x16 : Shape := ⟨2, ![1, 16]⟩

abbrev nBuf : Space → Nat
  | .hbm => 124
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x1024, .f32⟩
  | .hbm, ⟨12, _⟩ => ⟨S1024, .f32⟩
  | .hbm, ⟨13, _⟩ => ⟨S1024x2064, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1024, .f32⟩
  | .hbm, ⟨20, _⟩ => ⟨S1024x2064, .bf16⟩
  | .hbm, ⟨21, _⟩ => ⟨S1024x1024, .bf16⟩
  | .hbm, ⟨22, _⟩ => ⟨S1024x16x64, .bf16⟩
  | .hbm, ⟨23, _⟩ => ⟨S_, .i32⟩
  | .hbm, ⟨24, _⟩ => ⟨S_, .bf16⟩
  | .hbm, ⟨25, _⟩ => ⟨S1024x16x128, .bf16⟩
  | .hbm, ⟨26, _⟩ => ⟨S1024x2048, .bf16⟩
  | .hbm, ⟨27, _⟩ => ⟨S1024x1024, .bf16⟩
  | .hbm, ⟨28, _⟩ => ⟨S1024x16, .bf16⟩
  | .hbm, ⟨29, _⟩ => ⟨S_, .i32⟩
  | .hbm, ⟨30, _⟩ => ⟨S_, .bf16⟩
  | .hbm, ⟨31, _⟩ => ⟨S1024x128, .bf16⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S2048, .i32⟩
  | .hbm, ⟨37, _⟩ => ⟨S2048x1, .i32⟩
  | .hbm, ⟨38, _⟩ => ⟨S128, .i32⟩
  | .hbm, ⟨39, _⟩ => ⟨S1x128, .i32⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S2048x128, .i32⟩
  | .hbm, ⟨47, _⟩ => ⟨S2048x128, .i32⟩
  | .hbm, ⟨48, _⟩ => ⟨S2048x128, .i1⟩
  | .hbm, ⟨49, _⟩ => ⟨S2048x128, .bf16⟩
  | .hbm, ⟨50, _⟩ => ⟨S_, .i32⟩
  | .hbm, ⟨51, _⟩ => ⟨S1x128, .i32⟩
  | .hbm, ⟨52, _⟩ => ⟨S1x128, .i32⟩
  | .hbm, ⟨53, _⟩ => ⟨S_, .i32⟩
  | .hbm, ⟨54, _⟩ => ⟨S1x128, .i32⟩
  | .hbm, ⟨55, _⟩ => ⟨S1x128, .i32⟩
  | .hbm, ⟨56, _⟩ => ⟨S2048x128, .i32⟩
  | .hbm, ⟨57, _⟩ => ⟨S2048x128, .i32⟩
  | .hbm, ⟨58, _⟩ => ⟨S2048x128, .i1⟩
  | .hbm, ⟨59, _⟩ => ⟨S2048x128, .bf16⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x1024, .f32⟩
  | .hbm, ⟨81, _⟩ => ⟨S8192x1024, .f32⟩
  | .hbm, ⟨82, _⟩ => ⟨S8192x16x1, .f32⟩
  | .hbm, ⟨83, _⟩ => ⟨S_, .i32⟩
  | .hbm, ⟨84, _⟩ => ⟨S_, .f32⟩
  | .hbm, ⟨85, _⟩ => ⟨S8192x16x64, .f32⟩
  | .hbm, ⟨86, _⟩ => ⟨S8192x16x64, .f32⟩
  | .hbm, ⟨87, _⟩ => ⟨S8192x16x128, .f32⟩
  | .hbm, ⟨88, _⟩ => ⟨S8192x2048, .f32⟩
  | .hbm, ⟨89, _⟩ => ⟨S8192x1024, .f32⟩
  | .hbm, ⟨90, _⟩ => ⟨S8192x1024, .f32⟩
  | .hbm, ⟨91, _⟩ => ⟨S8192x16x1, .f32⟩
  | .hbm, ⟨92, _⟩ => ⟨S_, .i32⟩
  | .hbm, ⟨93, _⟩ => ⟨S_, .f32⟩
  | .hbm, ⟨94, _⟩ => ⟨S8192x16x64, .f32⟩
  | .hbm, ⟨95, _⟩ => ⟨S8192x16x64, .f32⟩
  | .hbm, ⟨96, _⟩ => ⟨S8192x16x128, .f32⟩
  | .hbm, ⟨97, _⟩ => ⟨S8192x2048, .f32⟩
  | .hbm, ⟨98, _⟩ => ⟨S8192x16x1, .f32⟩
  | .hbm, ⟨99, _⟩ => ⟨S_, .i32⟩
  | .hbm, ⟨100, _⟩ => ⟨S_, .f32⟩
  | .hbm, ⟨101, _⟩ => ⟨S8192x16x64, .f32⟩
  | .hbm, ⟨102, _⟩ => ⟨S8192x16x64, .f32⟩
  | .hbm, ⟨103, _⟩ => ⟨S8192x16x128, .f32⟩
  | .hbm, ⟨104, _⟩ => ⟨S8192x2048, .f32⟩
  | .hbm, ⟨105, _⟩ => ⟨S8192x16x1, .f32⟩
  | .hbm, ⟨106, _⟩ => ⟨S_, .i32⟩
  | .hbm, ⟨107, _⟩ => ⟨S_, .f32⟩
  | .hbm, ⟨108, _⟩ => ⟨S8192x16x64, .f32⟩
  | .hbm, ⟨109, _⟩ => ⟨S8192x16x64, .f32⟩
  | .hbm, ⟨110, _⟩ => ⟨S8192x16x128, .f32⟩
  | .hbm, ⟨111, _⟩ => ⟨S8192x2048, .f32⟩
  | .hbm, ⟨112, _⟩ => ⟨S8192x1024, .f32⟩
  | .hbm, ⟨113, _⟩ => ⟨S8192x1024, .bf16⟩
  | .hbm, ⟨114, _⟩ => ⟨S8192x2048, .bf16⟩
  | .hbm, ⟨115, _⟩ => ⟨S8192x1024, .bf16⟩
  | .hbm, ⟨116, _⟩ => ⟨S8192x128, .bf16⟩
  | .hbm, ⟨117, _⟩ => ⟨S1x1024, .f32⟩
  | .hbm, ⟨118, _⟩ => ⟨S1x128, .f32⟩
  | .hbm, ⟨119, _⟩ => ⟨S8192x16x128, .bf16⟩
  | .hbm, ⟨120, _⟩ => ⟨S8192x16x64, .bf16⟩
  | .hbm, ⟨121, _⟩ => ⟨S8192x1024, .bf16⟩
  | .hbm, ⟨122, _⟩ => ⟨S8192x16, .bf16⟩
  | .hbm, ⟨123, _⟩ => ⟨S1x16, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | .local _ .vmem, ⟨18, _⟩ => ⟨S1x1024, .f32⟩
  | .local _ .vmem, ⟨19, _⟩ => ⟨S1024x2048, .bf16⟩
  | .local _ .vmem, ⟨20, _⟩ => ⟨S1024x1024, .bf16⟩
  | .local _ .vmem, ⟨21, _⟩ => ⟨S1024x128, .bf16⟩
  | .local _ .vmem, ⟨22, _⟩ => ⟨S2048x128, .bf16⟩
  | .local _ .vmem, ⟨23, _⟩ => ⟨S2048x128, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S256x1024, .bf16⟩
  | .local _ .vmem, ⟨31, _⟩ => ⟨S256x1024, .bf16⟩
  | .local _ .vmem, ⟨32, _⟩ => ⟨S256x128, .bf16⟩
  | .local _ .vmem, ⟨33, _⟩ => ⟨S256x128, .bf16⟩
  | .local _ .vmem, ⟨34, _⟩ => ⟨S1x1024, .f32⟩
  | .local _ .vmem, ⟨35, _⟩ => ⟨S1x128, .f32⟩
  | .local _ .vmem, ⟨36, _⟩ => ⟨S8x1024, .f32⟩
  | .local _ .vmem, ⟨37, _⟩ => ⟨S8x128, .f32⟩
  | .local _ .vmem, ⟨38, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_call1_v0 : Ref sig .tc := ⟨.hbm, 30, rfl⟩
abbrev main_v10 : Ref sig .tc := ⟨.hbm, 31, rfl⟩
abbrev main_c_2 : Ref sig .tc := ⟨.hbm, 32, rfl⟩
abbrev main_call2_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_call3_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_call4_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_call5_v0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_call6_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74_0 : Ref sig .tc := ⟨.hbm, 112, rfl⟩
abbrev main_v74_1 : Ref sig .tc := ⟨.hbm, 113, rfl⟩
abbrev main_v74_2 : Ref sig .tc := ⟨.hbm, 114, rfl⟩
abbrev main_v74_3 : Ref sig .tc := ⟨.hbm, 115, rfl⟩
abbrev main_v74_4 : Ref sig .tc := ⟨.hbm, 116, rfl⟩
abbrev main_v74_5 : Ref sig .tc := ⟨.hbm, 117, rfl⟩
abbrev main_v74_6 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v144 : BitVec 1 := Scalar.cmpi .eq arg0 c31_i32
  let v145 : BitVec 32 := Scalar.extui v144
  let c0_i32_72 : BitVec 32 := 0#32
  let v146 : BitVec 1 := Scalar.cmpi .ne v145 c0_i32_72
  v146

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KvfBwdIdeal.lean ====
variable {F : FTy → Type} [FloatOps F] [Named F]
def κ : String → Option EReal := fun
  | "ln2" => some ((Real.log 2 : ℝ) : EReal)
  | _ => none
-- ==== KvfBwdRefIdeal.lean ====
abbrev S8192x1024 : Shape := ⟨2, ![8192, 1024]⟩
abbrev S8192x16 : Shape := ⟨2, ![8192, 16]⟩
abbrev S1024 : Shape := ⟨1, ![1024]⟩
abbrev S1024x2064 : Shape := ⟨2, ![1024, 2064]⟩
abbrev S16 : Shape := ⟨1, ![16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2064 : Shape := ⟨2, ![8192, 2064]⟩
abbrev S1x16 : Shape := ⟨2, ![1, 16]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x16, .f32⟩
  | 8 => ⟨S8192x16, .f32⟩
  | 9 => ⟨S8192x16, .f32⟩
  | 10 => ⟨S8192x16, .f32⟩
  | 11 => ⟨S8192x1024, .f32⟩
  | 12 => ⟨S1024, .f32⟩
  | 13 => ⟨S1024x2064, .f32⟩
  | 14 => ⟨S16, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x2064, .f32⟩
  | 36 => ⟨S8192x16, .f32⟩
  | 37 => ⟨S1x16, .f32⟩
  | 38 => ⟨S8192x16, .f32⟩
  | 39 => ⟨S8192x16, .f32⟩
  | 40 => ⟨S8192x16, .f32⟩
  | 41 => ⟨S_, .f32⟩
  | 42 => ⟨S8192x16, .f32⟩
  | 43 => ⟨S8192x16, .f32⟩
  | 44 => ⟨S8192x16, .f32⟩
  | 45 => ⟨S8192x16, .f32⟩
  | 46 => ⟨S8192x16, .i1⟩
  | 47 => ⟨S8192x16, .f32⟩
  | 48 => ⟨S8192x16, .f32⟩
  | 49 => ⟨S8192x16, .f32⟩
  | 50 => ⟨S8192x16, .f32⟩
  | 51 => ⟨S8192x16, .f32⟩
  | 52 => ⟨S8192x16, .f32⟩
  | 53 => ⟨S8192x16, .f32⟩
  | 54 => ⟨S8192x16, .f32⟩
  | 55 => ⟨S_, .f32⟩
  | 56 => ⟨S8192x16, .f32⟩
  | 57 => ⟨S8192x16, .i1⟩
  | 58 => ⟨S_, .f32⟩
  | 59 => ⟨S8192x16, .f32⟩
  | 60 => ⟨S8192x16, .f32⟩
  | 61 => ⟨S_, .f32⟩
  | 62 => ⟨S8192x16, .f32⟩
  | 63 => ⟨S8192x16, .i1⟩
  | 64 => ⟨S_, .f32⟩
  | 65 => ⟨S8192x16, .f32⟩
  | 66 => ⟨S8192x16, .f32⟩
  | 67 => ⟨S8192x16, .f32⟩
  | 68 => ⟨S8192x16, .f32⟩
  | 69 => ⟨S_, .f32⟩
  | 70 => ⟨S_, .f32⟩
  | 71 => ⟨S_, .i1⟩
  | 72 => ⟨S_, .f32⟩
  | 73 => ⟨S_, .f32⟩
  | 74 => ⟨S_, .f32⟩
  | 75 => ⟨S_, .f32⟩
  | 76 => ⟨S8192x16, .f32⟩
  | 77 => ⟨S8192x16, .i1⟩
  | 78 => ⟨S_, .f32⟩
  | 79 => ⟨S8192x16, .f32⟩
  | 80 => ⟨S8192x16, .f32⟩
  | 81 => ⟨S8192x16, .f32⟩
  | 82 => ⟨S8192x16, .f32⟩
  | 83 => ⟨S8192x16, .f32⟩
  | 84 => ⟨S_, .f32⟩
  | 85 => ⟨S8192x16, .f32⟩
  | 86 => ⟨S8192x16, .f32⟩
  | 87 => ⟨S8192x16, .f32⟩
  | 88 => ⟨S8192x1024, .f32⟩
  | 89 => ⟨S8192x1024, .f32⟩
  | 90 => ⟨S_, .f32⟩
  | 91 => ⟨S_, .f32⟩
  | 92 => ⟨S8192x16, .f32⟩
  | 93 => ⟨S8192x1024, .f32⟩
  | 94 => ⟨S8192x1024, .f32⟩
  | 95 => ⟨S8192x16, .f32⟩
  | 96 => ⟨S8192x16, .f32⟩
  | 97 => ⟨S8192x16, .f32⟩
  | 98 => ⟨S_, .f32⟩
  | 99 => ⟨S_, .f32⟩
  | 100 => ⟨S8192x16, .f32⟩
  | 101 => ⟨S_, .f32⟩
  | 102 => ⟨S8192x2064, .f32⟩
  | 103 => ⟨S_, .f32⟩
  | 104 => ⟨S8192x2064, .f32⟩
  | 105 => ⟨S8192x2064, .f32⟩
  | 106 => ⟨S8192x16, .f32⟩
  | 107 => ⟨S8192x16, .f32⟩
  | 108 => ⟨S8192x16, .f32⟩
  | 109 => ⟨S_, .f32⟩
  | 110 => ⟨S16, .f32⟩
  | 111 => ⟨S1x16, .f32⟩
  | 112 => ⟨S_, .f32⟩
  | 113 => ⟨S16, .f32⟩
  | 114 => ⟨S_, .f32⟩
  | 115 => ⟨S8192x2064, .f32⟩
  | 116 => ⟨S8192x2064, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x1024, .f32⟩
  | 3 => ⟨S8192x1024, .f32⟩
  | 4 => ⟨S8192x1024, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x2064, .bf16⟩
  | 17 => ⟨S8192x1024, .bf16⟩
  | 18 => ⟨S8192x1024, .bf16⟩
  | 19 => ⟨S8192x1024, .bf16⟩
  | 20 => ⟨S8192x16, .bf16⟩
  | 21 => ⟨S1x1024, .f32⟩
  | 22 => ⟨S1x16, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1_0 : Ref sig .tc := ⟨.hbm, 54, rfl⟩
abbrev main_call0_call0_cst_0 : Ref sig .tc := ⟨.hbm, 55, rfl⟩
abbrev main_call0_call0_v13 : Ref sig .tc := ⟨.hbm, 56, rfl⟩
abbrev main_call0_call0_v14 : Ref sig .tc := ⟨.hbm, 57, rfl⟩
abbrev main_call0_call0_cst_1 : Ref sig .tc := ⟨.hbm, 58, rfl⟩
abbrev main_call0_call0_v15 : Ref sig .tc := ⟨.hbm, 59, rfl⟩
abbrev main_call0_call0_v16 : Ref sig .tc := ⟨.hbm, 60, rfl⟩
abbrev main_call0_call0_cst_2 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_cst_3 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_v21 : Ref sig .tc := ⟨.hbm, 67, rfl⟩
abbrev main_v21_1 : Ref sig .tc := ⟨.hbm, 68, rfl⟩
abbrev main_call0_call0_cst_4 : Ref sig .tc := ⟨.hbm, 69, rfl⟩
abbrev main_call0_call0_cst_5 : Ref sig .tc := ⟨.hbm, 70, rfl⟩
abbrev main_call0_call0_v23 : Ref sig .tc := ⟨.hbm, 71, rfl⟩
abbrev main_call0_call0_cst_6 : Ref sig .tc := ⟨.hbm, 72, rfl⟩
abbrev main_call0_call0_cst_7 : Ref sig .tc := ⟨.hbm, 73, rfl⟩
abbrev main_call0_call0_v24 : Ref sig .tc := ⟨.hbm, 74, rfl⟩
abbrev main_call0_call0_cst_8 : Ref sig .tc := ⟨.hbm, 75, rfl⟩
abbrev main_call0_call0_v25 : Ref sig .tc := ⟨.hbm, 76, rfl⟩
abbrev main_call0_call0_v26 : Ref sig .tc := ⟨.hbm, 77, rfl⟩
abbrev main_call0_call0_cst_9 : Ref sig .tc := ⟨.hbm, 78, rfl⟩
abbrev main_call0_call0_v27 : Ref sig .tc := ⟨.hbm, 79, rfl⟩
abbrev main_call0_call0_v28 : Ref sig .tc := ⟨.hbm, 80, rfl⟩
abbrev main_call0_call0_v29 : Ref sig .tc := ⟨.hbm, 81, rfl⟩
abbrev main_call0_call0_v30 : Ref sig .tc := ⟨.hbm, 82, rfl⟩
abbrev main_call0_call0_v31 : Ref sig .tc := ⟨.hbm, 83, rfl⟩
abbrev main_call0_call0_cst_10 : Ref sig .tc := ⟨.hbm, 84, rfl⟩
abbrev main_call0_call0_v32 : Ref sig .tc := ⟨.hbm, 85, rfl⟩
abbrev main_v21_2 : Ref sig .tc := ⟨.hbm, 86, rfl⟩
abbrev main_v21_0 : Ref sig .tc := ⟨.hbm, 87, rfl⟩
abbrev main_v22 : Ref sig .tc := ⟨.hbm, 88, rfl⟩
abbrev main_v23 : Ref sig .tc := ⟨.hbm, 89, rfl⟩
abbrev main_call1_call0_cst : Ref sig .tc := ⟨.hbm, 90, rfl⟩
abbrev main_call1_call0_v0 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_call2_call0_cst : Ref sig .tc := ⟨.hbm, 98, rfl⟩
abbrev main_call2_call0_v0 : Ref sig .tc := ⟨.hbm, 99, rfl⟩
abbrev main_v30 : Ref sig .tc := ⟨.hbm, 100, rfl⟩
abbrev main_cst_3 : Ref sig .tc := ⟨.hbm, 101, rfl⟩
abbrev main_v31 : Ref sig .tc := ⟨.hbm, 102, rfl⟩
abbrev main_cst_4 : Ref sig .tc := ⟨.hbm, 103, rfl⟩
abbrev main_v32 : Ref sig .tc := ⟨.hbm, 104, rfl⟩
abbrev main_v33 : Ref sig .tc := ⟨.hbm, 105, rfl⟩
abbrev main_call3_v0 : Ref sig .tc := ⟨.hbm, 106, rfl⟩
abbrev main_call3_v1 : Ref sig .tc := ⟨.hbm, 107, rfl⟩
abbrev main_v34 : Ref sig .tc := ⟨.hbm, 108, rfl⟩
abbrev main_cst_5 : Ref sig .tc := ⟨.hbm, 109, rfl⟩
abbrev main_v35 : Ref sig .tc := ⟨.hbm, 110, rfl⟩
abbrev main_v36 : Ref sig .tc := ⟨.hbm, 111, rfl⟩
abbrev main_cst_6 : Ref sig .tc := ⟨.hbm, 112, rfl⟩
abbrev main_v37 : Ref sig .tc := ⟨.hbm, 113, rfl⟩
abbrev main_cst_7 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_cst_8 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_cst_9 : Ref sig .tc := ⟨.hbm, 124, rfl⟩
abbrev main_v46 : Ref sig .tc := ⟨.hbm, 125, rfl⟩
abbrev main_v47 : Ref sig .tc := ⟨.hbm, 126, rfl⟩
abbrev main_cst_10 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_11 : Ref sig .tc := ⟨.hbm, 134, rfl⟩
abbrev main_v54 : Ref sig .tc := ⟨.hbm, 135, rfl⟩
abbrev main_v55 : Ref sig .tc := ⟨.hbm, 136, rfl⟩
abbrev main_cst_12 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== QFwd.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x16x64 : Shape := ⟨3, ![1024, 16, 64]⟩
abbrev S_ : Shape := ⟨0, ![]⟩
abbrev S1024x16x128 : Shape := ⟨3, ![1024, 16, 128]⟩
abbrev S1024x2048 : Shape := ⟨2, ![1024, 2048]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S1x2048 : Shape := ⟨2, ![1, 2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S8192x16x128 : Shape := ⟨3, ![8192, 16, 128]⟩
abbrev S8192x16x64 : Shape := ⟨3, ![8192, 16, 64]⟩

abbrev nBuf : Space → Nat
  | .hbm => 28
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S1024x16x64, .bf16⟩
  | .hbm, ⟨6, _⟩ => ⟨S_, .i32⟩
  | .hbm, ⟨7, _⟩ => ⟨S_, .bf16⟩
  | .hbm, ⟨8, _⟩ => ⟨S1024x16x128, .bf16⟩
  | .hbm, ⟨9, _⟩ => ⟨S1024x2048, .bf16⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .f32⟩
  | .hbm, ⟨15, _⟩ => ⟨S1x128, .f32⟩
  | .hbm, ⟨16, _⟩ => ⟨S16x128, .f32⟩
  | .hbm, ⟨17, _⟩ => ⟨S2048, .f32⟩
  | .hbm, ⟨18, _⟩ => ⟨S1x2048, .f32⟩
  | .hbm, ⟨19, _⟩ => ⟨S8192x2048, .bf16⟩
  | .hbm, ⟨20, _⟩ => ⟨S8192x16x128, .bf16⟩
  | .hbm, ⟨21, _⟩ => ⟨S8192x16x64, .bf16⟩
  | .hbm, ⟨22, _⟩ => ⟨S8192x1024, .bf16⟩
  | .hbm, ⟨23, _⟩ => ⟨S8192x1024, .f32⟩
  | .hbm, ⟨24, _⟩ => ⟨S_, .f32⟩
  | .hbm, ⟨25, _⟩ => ⟨S_, .f32⟩
  | .hbm, ⟨26, _⟩ => ⟨S8192x1024, .f32⟩
  | .hbm, ⟨27, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QFwdIdeal.lean ====
variable {F : FTy → Type} [FloatOps F] [Named F]
def κ : String → Option EReal := fun
  | "log2e_8" => some (((8 * (Real.log 2))⁻¹ : ℝ) : EReal)
  | _ => none
-- ==== QFwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OFwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OFwdRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KvfFwd.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S1024x1024 : Shape := ⟨2, ![1024, 1024]⟩
abbrev S1024x16x64 : Shape := ⟨3, ![1024, 16, 64]⟩
abbrev S_ : Shape := ⟨0, ![]⟩
abbrev S1024x16x128 : Shape := ⟨3, ![1024, 16, 128]⟩
abbrev S1024x2048 : Shape := ⟨2, ![1024, 2048]⟩
abbrev S1024x16 : Shape := ⟨2, ![1024, 16]⟩
abbrev S1024x128 : Shape := ⟨2, ![1024, 128]⟩
abbrev S128 : Shape := ⟨1, ![128]⟩
abbrev S1x128 : Shape := ⟨2, ![1, 128]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S1x1024 : Shape := ⟨2, ![1, 1024]⟩
abbrev S16x128 : Shape := ⟨2, ![16, 128]⟩
abbrev S8192x2048 : Shape := ⟨2, ![8192, 2048]⟩
abbrev S8192x128 : Shape := ⟨2, ![8192, 128]⟩
abbrev S512x1024 : Shape := ⟨2, ![512, 1024]⟩
abbrev S512x2048 : Shape := ⟨2, ![512, 2048]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S512x512 : Shape := ⟨2, ![512, 512]⟩
abbrev S8192x16x128 : Shape := ⟨3, ![8192, 16, 128]⟩
abbrev S8192x16x64 : Shape := ⟨3, ![8192, 16, 64]⟩
abbrev S8192x16 : Shape := ⟨2, ![8192, 16]⟩

abbrev nBuf : Space → Nat
  | .hbm => 89
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S1024x2064, .bf16⟩
  | .hbm, ⟨5, _⟩ => ⟨S1024x1024, .bf16⟩
  | .hbm, ⟨6, _⟩ => ⟨S1024x16x64, .bf16⟩
  | .hbm, ⟨7, _⟩ => ⟨S_, .i32⟩
  | .hbm, ⟨8, _⟩ => ⟨S_, .bf16⟩
  | .hbm, ⟨9, _⟩ => ⟨S1024x16x128, .bf16⟩
  | .hbm, ⟨10, _⟩ => ⟨S1024x2048, .bf16⟩
  | .hbm, ⟨11, _⟩ => ⟨S1024x1024, .bf16⟩
  | .hbm, ⟨12, _⟩ => ⟨S1024x16x64, .bf16⟩
  | .hbm, ⟨13, _⟩ => ⟨S_, .i32⟩
  | .hbm, ⟨14, _⟩ => ⟨S_, .bf16⟩
  | .hbm, ⟨15, _⟩ => ⟨S1024x16x128, .bf16⟩
  | .hbm, ⟨16, _⟩ => ⟨S1024x2048, .bf16⟩
  | .hbm, ⟨17, _⟩ => ⟨S1024x16, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S128, .i32⟩
  | .hbm, ⟨26, _⟩ => ⟨S128x1, .i32⟩
  | .hbm, ⟨27, _⟩ => ⟨S2048, .i32⟩
  | .hbm, ⟨28, _⟩ => ⟨S1x2048, .i32⟩
  | .hbm, ⟨29, _⟩ => ⟨S_, .i32⟩
  | .hbm, ⟨30, _⟩ => ⟨S_, .i32⟩
  | .hbm, ⟨31, _⟩ => ⟨S1x2048, .i32⟩
  | .hbm, ⟨32, _⟩ => ⟨S1x2048, .i32⟩
  | .hbm, ⟨33, _⟩ => ⟨S1x2048, .i32⟩
  | .hbm, ⟨34, _⟩ => ⟨S_, .i32⟩
  | .hbm, ⟨35, _⟩ => ⟨S1x2048, .i32⟩
  | .hbm, ⟨36, _⟩ => ⟨S1x2048, .i1⟩
  | .hbm, ⟨37, _⟩ => ⟨S1x2048, .i32⟩
  | .hbm, ⟨38, _⟩ => ⟨S1x2048, .i32⟩
  | .hbm, ⟨39, _⟩ => ⟨S_, .i32⟩
  | .hbm, ⟨40, _⟩ => ⟨S1x2048, .i32⟩
  | .hbm, ⟨41, _⟩ => ⟨S1x2048, .i1⟩
  | .hbm, ⟨42, _⟩ => ⟨S1x2048, .i1⟩
  | .hbm, ⟨43, _⟩ => ⟨S_, .i32⟩
  | .hbm, ⟨44, _⟩ => ⟨S1x2048, .i32⟩
  | .hbm, ⟨45, _⟩ => ⟨S1x2048, .i32⟩
  | .hbm, ⟨46, _⟩ => ⟨S1x2048, .i32⟩
  | .hbm, ⟨47, _⟩ => ⟨S128x2048, .i32⟩
  | .hbm, ⟨48, _⟩ => ⟨S128x2048, .i32⟩
  | .hbm, ⟨49, _⟩ => ⟨S128x2048, .i1⟩
  | .hbm, ⟨50, _⟩ => ⟨S128x2048, .bf16⟩
  | .hbm, ⟨51, _⟩ => ⟨S1x1024, .f32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S128, .f32⟩
  | .hbm, ⟨57, _⟩ => ⟨S1x128, .f32⟩
  | .hbm, ⟨58, _⟩ => ⟨S16x128, .f32⟩
  | .hbm, ⟨59, _⟩ => ⟨S2048, .f32⟩
  | .hbm, ⟨60, _⟩ => ⟨S1x2048, .f32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S128, .f32⟩
  | .hbm, ⟨66, _⟩ => ⟨S1x128, .f32⟩
  | .hbm, ⟨67, _⟩ => ⟨S16x128, .f32⟩
  | .hbm, ⟨68, _⟩ => ⟨S2048, .f32⟩
  | .hbm, ⟨69, _⟩ => ⟨S1x2048, .f32⟩
  | .hbm, ⟨70, _⟩ => ⟨S8192x2048, .bf16⟩
  | .hbm, ⟨71, _⟩ => ⟨S8192x2048, .bf16⟩
  | .hbm, ⟨72, _⟩ => ⟨S8192x128, .f32⟩
  | .hbm, ⟨73, _⟩ => ⟨S8192x128, .f32⟩
  | .hbm, ⟨74, _⟩ => ⟨S8192x2048, .f32⟩
  | .hbm, ⟨75, _⟩ => ⟨S_, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S8192x16x128, .bf16⟩
  | .hbm, ⟨80, _⟩ => ⟨S8192x16x64, .bf16⟩
  | .hbm, ⟨81, _⟩ => ⟨S8192x1024, .bf16⟩
  | .hbm, ⟨82, _⟩ => ⟨S8192x1024, .f32⟩
  | .hbm, ⟨83, _⟩ => ⟨S8192x16x128, .bf16⟩
  | .hbm, ⟨84, _⟩ => ⟨S8192x16x64, .bf16⟩
  | .hbm, ⟨85, _⟩ => ⟨S8192x1024, .bf16⟩
  | .hbm, ⟨86, _⟩ => ⟨S8192x1024, .f32⟩
  | .hbm, ⟨87, _⟩ => ⟨S8192x16, .f32⟩
  | .hbm, ⟨88, _⟩ => ⟨S8192x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x128, .bf16⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S128x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x2048, .f32⟩
  | .local _ .vmem, ⟨19, _⟩ => ⟨S512x2048, .f32⟩
  | .local _ .vmem, ⟨20, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_call4_v5 : Ref sig .tc := ⟨.hbm, 35, rfl⟩
abbrev main_call4_v6 : Ref sig .tc := ⟨.hbm, 36, rfl⟩
abbrev main_call4_v7 : Ref sig .tc := ⟨.hbm, 37, rfl⟩
abbrev main_call4_v8 : Ref sig .tc := ⟨.hbm, 38, rfl⟩
abbrev main_call4_c : Ref sig .tc := ⟨.hbm, 39, rfl⟩
abbrev main_call4_v9 : Ref sig .tc := ⟨.hbm, 40, rfl⟩
abbrev main_call4_v10 : Ref sig .tc := ⟨.hbm, 41, rfl⟩
abbrev main_call4_v11 : Ref sig .tc := ⟨.hbm, 42, rfl⟩
abbrev main_call4_c_0 : Ref sig .tc := ⟨.hbm, 43, rfl⟩
abbrev main_call4_v12 : Ref sig .tc := ⟨.hbm, 44, rfl⟩
abbrev main_call4_v13 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39_0 : Ref sig .tc := ⟨.hbm, 70, rfl⟩
abbrev main_v39_1 : Ref sig .tc := ⟨.hbm, 71, rfl⟩
abbrev main_v39_2 : Ref sig .tc := ⟨.hbm, 72, rfl⟩
abbrev main_v39_3 : Ref sig .tc := ⟨.hbm, 73, rfl⟩
abbrev main_v39_4 : Ref sig .tc := ⟨.hbm, 74, rfl⟩
abbrev main_cst : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KvfFwdIdeal.lean ====
variable {F : FTy → Type} [FloatOps F] [Named F]
def κ : String → Option EReal := fun
  | "log2e" => some (((Real.log 2)⁻¹ : ℝ) : EReal)
  | _ => none
-- ==== KvfFwdRefIdeal.lean ====
abbrev S8192x1024 : Shape := ⟨2, ![8192, 1024]⟩
abbrev S1024 : Shape := ⟨1, ![1024]⟩
abbrev S1024x2064 : Shape := ⟨2, ![1024, 2064]⟩
abbrev S16 : Shape := ⟨1, ![16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2064 : Shape := ⟨2, ![8192, 2064]⟩
abbrev S8192x16 : Shape := ⟨2, ![8192, 16]⟩
abbrev S1x16 : Shape := ⟨2, ![1, 16]⟩
abbrev S8192x16x1 : Shape := ⟨3, ![8192, 16, 1]⟩
abbrev S8192x16x128 : Shape := ⟨3, ![8192, 16, 128]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2064, .f32⟩
  | .hbm, ⟨21, _⟩ => ⟨S8192x16, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .i1⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S_, .f32⟩
  | .hbm, ⟨42, _⟩ => ⟨S_, .f32⟩
  | .hbm, ⟨43, _⟩ => ⟨S8192x16, .f32⟩
  | .hbm, ⟨44, _⟩ => ⟨S8192x16x1, .f32⟩
  | .hbm, ⟨45, _⟩ => ⟨S8192x16x128, .f32⟩
  | .hbm, ⟨46, _⟩ => ⟨S8192x2048, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_call1_call0_cst : Ref sig .tc := ⟨.hbm, 41, rfl⟩
abbrev main_call1_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Proof.Reals.lean ====
/-
  Real numbers inside the extended reals: sums and quotients of finite values, and the constants of the programs.
-/
module

public import Idealize.ShloMosaic.Lib.Pointwise
public import Idealize.ShloMosaic.Lib.IdealHost

@[expose] public section

noncomputable section

namespace Cert.Reals

open Idealize.ShloMosaic

/-- A sum of reals, taken among the extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A quotient of reals by a real that is not zero. -/
theorem div_coe (x : ℝ) {y : ℝ} (h : y ≠ 0) : Ideal.div (x : EReal) (y : EReal) = ((x / y : ℝ) : EReal) := by
  rw [Ideal.div_coe h, ← EReal.coe_mul, mul_one_div]

/-- The inverse root of a positive real. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- The infinity that a finiteness test compares with. -/
theorem ofBits_inf : Ideal.ofBits .f32 0x7F800000#32 = ⊤ := by
  simp [Ideal.ofBits, Ideal.ieee]

/-- A value below infinity in absolute value is a real. -/
theorem exists_coe {x : EReal}
    (h : FloatOps.cmpf (F := Ideal) (φ := .f32) .olt (FloatOps.hostAbsf (F := Ideal) (φ := .f32) x) (FloatOps.ofBits .f32 0x7F800000#32) = 1#1) :
    ∃ r : ℝ, x = (r : EReal) := by
  rw [Ideal.ofBits_def, ofBits_inf] at h
  induction x with
  | bot => exfalso; revert h; simp [FloatOps.cmpf, Ideal.cmp, FloatOps.hostAbsf, FloatOps.absf]
  | top => exfalso; revert h; simp [FloatOps.cmpf, Ideal.cmp, FloatOps.hostAbsf, FloatOps.absf]
  | coe r => exact ⟨r, rfl⟩

/-- So such a value is the real that it reads as. -/
theorem coe_toReal {x : EReal}
    (h : FloatOps.cmpf (F := Ideal) (φ := .f32) .olt (FloatOps.hostAbsf (F := Ideal) (φ := .f32) x) (FloatOps.ofBits .f32 0x7F800000#32) = 1#1) :
    ((x.toReal : ℝ) : EReal) = x := by
  obtain ⟨r, rfl⟩ := exists_coe h
  rw [EReal.toReal_coe]

theorem ofBits_1024 : Ideal.ofBits .f32 0x44800000#32 = ((1024 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The small number that a root mean square norm adds under its root. -/
def eps : ℝ := 8796093 * 2 ^ (-43 : ℤ)

theorem eps_pos : 0 < eps := by unfold eps; positivity

theorem ofBits_eps : Ideal.ofBits .f32 0x358637BD#32 = (eps : EReal) := by
  unfold eps; simp [Ideal.ofBits, Ideal.ieee]

/-! ## The root mean square norm of one row -/

variable {n : ℕ} (h g du : Fin n → ℝ) (k : Fin n)

/-- The mean square of a row of 1024 entries and the small number added to it. -/
def meanSq : ℝ := (∑ l, h l * h l) / 1024 + eps

theorem meanSq_pos : 0 < meanSq h :=
  add_pos_of_nonneg_of_pos (div_nonneg (Finset.sum_nonneg fun l _ => mul_self_nonneg (h l)) (by norm_num)) eps_pos

/-- What the norm multiplies a row with. -/
def rowScale : ℝ := (Real.sqrt (meanSq h))⁻¹

theorem rowScale_sq : rowScale h * rowScale h = (meanSq h)⁻¹ := by
  unfold rowScale
  rw [← mul_inv, Real.mul_self_sqrt (meanSq_pos h).le]

/-- The gradient of the norm in its row, with the normalised row taken out of the sum. -/
def normGrad : ℝ :=
  rowScale h * (du k * g k - h k * rowScale h * ((∑ l, du l * g l * (h l * rowScale h)) / 1024))

/-- The same gradient, collected from the product rule and the derivative of the inverse root. -/
theorem normGrad_eq :
    normGrad h g du k
      = du k * g k * rowScale h
        + h k * ((∑ l, h l * (du l * g l)) * (-(1 / 2) * (rowScale h / meanSq h)) / 1024)
        + (∑ l, h l * (du l * g l)) * (-(1 / 2) * (rowScale h / meanSq h)) / 1024 * h k := by
  have e : (∑ l, du l * g l * (h l * rowScale h)) = rowScale h * ∑ l, h l * (du l * g l) := by
    rw [Finset.mul_sum]
    exact Finset.sum_congr rfl fun l _ => by ring
  unfold normGrad
  rw [e, div_eq_mul_inv (rowScale h) (meanSq h), ← rowScale_sq]
  ring

/-! ## Sums taken in blocks -/

theorem sum_range_blocks (f : ℕ → ℝ) (b : ℕ) : ∀ a : ℕ, ∑ i ∈ Finset.range (a * b), f i = ∑ i ∈ Finset.range a, ∑ j ∈ Finset.range b, f (b * i + j)
  | 0 => by simp
  | a + 1 => by rw [Nat.succ_mul, Finset.sum_range_add, Finset.sum_range_succ, sum_range_blocks f b a, Nat.mul_comm a b]

/-- A sum over rows, taken in 8 interleaved partial sums over `nt` blocks of `8 nx` rows. -/
theorem sum_fold (f : ℕ → ℝ) (nt nx : ℕ) :
    ∑ r : Fin 8, ∑ t ∈ Finset.range nt, ∑ x : Fin nx, f (nx * 8 * t + (x.val * 8 + r.val)) = ∑ i ∈ Finset.range (nt * (nx * 8)), f i := by
  rw [sum_range_blocks, Finset.sum_comm]
  refine Finset.sum_congr rfl fun t _ => ?_
  rw [sum_range_blocks (fun j => f (nx * 8 * t + j)) 8 nx, Finset.sum_comm, Finset.sum_range]
  refine Finset.sum_congr rfl fun x _ => ?_
  rw [Finset.sum_range]
  refine Finset.sum_congr rfl fun r _ => ?_
  rw [Nat.mul_comm 8]

/-- A function of a row's number, zero past the last row. -/
def upTo {n : ℕ} (f : Fin n → ℝ) (i : ℕ) : ℝ := if h : i < n then f ⟨i, h⟩ else 0

theorem upTo_lt {n : ℕ} (f : Fin n → ℝ) {i : ℕ} (h : i < n) : upTo f i = f ⟨i, h⟩ := dif_pos h

theorem sum_upTo {n : ℕ} (f : Fin n → ℝ) : ∑ i ∈ Finset.range n, upTo f i = ∑ i : Fin n, f i := by
  rw [Finset.sum_range]
  exact Finset.sum_congr rfl fun i _ => upTo_lt f i.isLt

end Cert.Reals

end
-- ==== Proof.NormBlock.lean ====
/-
  What one grid point of the norm's gradient computes, of finite inputs: 512 rows of the gradient that goes on, and what
  the point adds to the gain's gradient.
-/
module

public import proofs.«01_k».proof.Proof.Reals
public import proofs.«01_k».proof.Proof.Gen.NormBwdIdeal.Value
public import Idealize.ShloMosaic.Lib.Pipeline.ReadBack

@[expose] public section

set_option maxRecDepth 16384

noncomputable section

namespace Cert.NormBwdIdeal.Block

open Cert.NormBwdIdeal Cert.NormBwdIdeal.Gen Cert.Reals Idealize.ShloMosaic Idealize.SL.Sem

/-- The factor that normalises a row. -/
theorem pay4_apply (H : S512x1024.Idx → ℝ) (r : Fin 512) :
    k0_pay4 (F := Ideal) (fun y => (H y : EReal)) (ix2 r 0)
      = ((rowScale (fun l => H (ix2 r l)) : ℝ) : EReal) := by
  pointwise [k0_pay4]
  simp only [← EReal.coe_mul, ← coe_sum, ofBits_1024, ofBits_eps, div_coe _ (by norm_num : (1024 : ℝ) ≠ 0), ← EReal.coe_add]
  exact rsqrt_coe (meanSq_pos fun l => H (ix2 r l))

/-- A normalised row. -/
theorem pay5_apply (H : S512x1024.Idx → ℝ) (r : Fin 512) (k : Fin 1024) :
    k0_pay5 (F := Ideal) (fun y => (H y : EReal)) (ix2 r k)
      = ((H (ix2 r k) * rowScale (fun l => H (ix2 r l)) : ℝ) : EReal) := by
  pointwise [k0_pay5]
  rw [pay4_apply, EReal.coe_mul]

/-- A row of the gradient that goes on. -/
theorem pay6_apply (G : S1x1024.Idx → ℝ) (H D : S512x1024.Idx → ℝ) (d : Vec Ideal S512x1024 .f32) (r : Fin 512) (k : Fin 1024) :
    k0_pay6 (F := Ideal) (fun y => (G y : EReal)) (fun y => (H y : EReal)) (fun y => (D y : EReal)) d (ix2 r k)
      = d (ix2 r k) + ((normGrad (fun l => H (ix2 r l)) (fun l => G (ix2 0 l)) (fun l => D (ix2 r l)) k : ℝ) : EReal) := by
  pointwise [k0_pay6]
  simp only [pay4_apply, pay5_apply, ← EReal.coe_mul, ← coe_sum, ofBits_1024, div_coe _ (by norm_num : (1024 : ℝ) ≠ 0),
    ← EReal.coe_sub]
  rfl

/-- What a point adds to the eight partial sums of the gain's gradient. -/
theorem pay7_apply (H D : S512x1024.Idx → ℝ) (a : Vec Ideal S8x1024 .f32) (r : Fin 8) (k : Fin 1024) :
    k0_pay7 (F := Ideal) (fun y => (H y : EReal)) (fun y => (D y : EReal)) a (ix2 r k)
      = a (ix2 r k) + ((∑ x : Fin 64, D (ix2 ⟨x.val * 8 + r.val, by omega⟩ k)
          * (H (ix2 ⟨x.val * 8 + r.val, by omega⟩ k) * rowScale (fun l => H (ix2 ⟨x.val * 8 + r.val, by omega⟩ l))) : ℝ) : EReal) := by
  pointwise [k0_pay7]
  simp only [pay5_apply, ← EReal.coe_mul, ← coe_sum]

/-- The sum of the eight partial sums. -/
theorem pay2_apply (a : Vec Ideal S8x1024 .f32) (k : Fin 1024) :
    k0_pay2 (F := Ideal) a (ix2 0 k) = ∑ r : Fin 8, a (ix2 r k) := by
  pointwise [k0_pay2]

theorem pay3_apply (r : Fin 8) (k : Fin 1024) : k0_pay3 (F := Ideal) (ix2 r k) = 0 := by
  pointwise [k0_pay3]

theorem hz : (![0, 0] : Fin 2 → Nat) = fun _ => 0 := funext fun a => by fin_cases a <;> rfl

/-! ## What a point leaves, over what the point before left -/

section Point

variable {F : FTy → Type} [FloatOps F]
variable (m : (ℓ : Loc nD τ sig) → Buf (Elt F) ℓ) (c : Dev nD) (t : Fin cfg0.N)
  (acc : Vec F S512x1024 .f32 × Vec F S1x1024 .f32 × Vec F S8x1024 .f32)

/-- Every point leaves its 512 rows of the gradient. -/
theorem rows : (Value.stAt0 m c t.val t.isLt acc).1 = k0_pay6 (iblk m c 3 t) (iblk m c 2 t) (iblk m c 1 t) (iblk m c 0 t) := by
  by_cases h0 : t.val % 16 = 0
  · have h1 : ¬t.val % 16 = 15 := by omega
    rw [Value.stAt0_A m c t acc h0 h1]
    dsimp only
    unfold out0_A_4
    rw [View.read_writes_eq_canon _ _ _ (fun _ => cover0_A_4 ..)]
    unfold kernelRun0_A
    dsimp only
    sl_unfold_words
    rw [View.canon_unit_zero hz]
    simp only [View.readAt_eq_ld, Memref.IsWhole.read_unread, View.ld_unit_zero (S := S512x1024) hz, View.ld_unit_zero (S := S1x1024) hz]
  · by_cases h1 : t.val % 16 = 15
    · rw [Value.stAt0_C m c t acc h0 h1]
      dsimp only
      unfold out0_C_4
      rw [View.read_writes_eq_canon _ _ _ (fun _ => cover0_C_4 ..)]
      unfold kernelRun0_C
      dsimp only
      sl_unfold_words
      rw [View.canon_unit_zero hz]
      simp only [View.readAt_eq_ld, Memref.IsWhole.read_unread, View.ld_unit_zero (S := S512x1024) hz, View.ld_unit_zero (S := S1x1024) hz]
    · rw [Value.stAt0_B m c t acc h0 h1]
      dsimp only
      unfold out0_B_4
      rw [View.read_writes_eq_canon _ _ _ (fun _ => cover0_B_4 ..)]
      unfold kernelRun0_B
      dsimp only
      sl_unfold_words
      rw [View.canon_unit_zero hz]
      simp only [View.readAt_eq_ld, Memref.IsWhole.read_unread, View.ld_unit_zero (S := S512x1024) hz, View.ld_unit_zero (S := S1x1024) hz]

/-- The first point starts the partial sums from zero … -/
theorem first (h0 : t.val % 16 = 0) :
    (Value.stAt0 m c t.val t.isLt acc).2.2 = k0_pay7 (iblk m c 2 t) (iblk m c 1 t) k0_pay3 := by
  have h1 : ¬t.val % 16 = 15 := by omega
  rw [Value.stAt0_A m c t acc h0 h1]
  dsimp only
  unfold sout0_A_0
  rw [View.read_writes_eq_canon _ _ _ (fun _ => scover0_A_0 ..)]
  unfold kernelRun0_A
  dsimp only
  sl_unfold_words
  rw [View.canon_cons_unit_zero (S := S8x1024) hz, View.readCov_unit_zero (S := S8x1024) _ hz]
  unfold k0_pay1
  simp only [View.readAt_eq_ld, Memref.IsWhole.read_unread, View.ld_unit_zero (S := S512x1024) hz, shapeCast_self]

/-- … every later point adds to them … -/
theorem later (h0 : ¬t.val % 16 = 0) :
    (Value.stAt0 m c t.val t.isLt acc).2.2 = k0_pay7 (iblk m c 2 t) (iblk m c 1 t) acc.2.2 := by
  by_cases h1 : t.val % 16 = 15
  · rw [Value.stAt0_C m c t acc h0 h1]
    dsimp only
    unfold sout0_C_0
    rw [View.read_writes_eq_canon _ _ _ (fun _ => scover0_C_0 ..)]
    unfold kernelRun0_C
    dsimp only
    sl_unfold_words
    rw [View.canon_unit_zero (S := S8x1024) hz]
    unfold k0_pay1
    simp only [View.readAt_eq_ld, Memref.IsWhole.read_unread, View.ld_unit_zero (S := S512x1024) hz, View.ld_unit_zero (S := S8x1024) hz, shapeCast_self, read_unread_whole]
  · rw [Value.stAt0_B m c t acc h0 h1]
    dsimp only
    unfold sout0_B_0
    rw [View.read_writes_eq_canon _ _ _ (fun _ => scover0_B_0 ..)]
    unfold kernelRun0_B
    dsimp only
    sl_unfold_words
    rw [View.canon_unit_zero (S := S8x1024) hz]
    unfold k0_pay1
    simp only [View.readAt_eq_ld, Memref.IsWhole.read_unread, View.ld_unit_zero (S := S512x1024) hz, View.ld_unit_zero (S := S8x1024) hz, shapeCast_self, read_unread_whole]

/-- … and the last writes their sum out. -/
theorem last (h1 : t.val % 16 = 15) :
    (Value.stAt0 m c t.val t.isLt acc).2.1 = k0_pay2 (k0_pay7 (iblk m c 2 t) (iblk m c 1 t) acc.2.2) := by
  have h0 : ¬t.val % 16 = 0 := by omega
  rw [Value.stAt0_C m c t acc h0 h1]
  dsimp only
  unfold out0_C_5
  rw [View.read_writes_eq_canon _ _ _ (fun _ => cover0_C_5 ..)]
  unfold kernelRun0_C
  dsimp only
  sl_unfold_words
  rw [View.canon_unit_zero (S := S1x1024) hz, View.readCov_unit_zero (S := S8x1024) _ hz]
  unfold k0_pay1
  simp only [View.readAt_eq_ld, Memref.IsWhole.read_unread, View.ld_unit_zero (S := S512x1024) hz, View.ld_unit_zero (S := S8x1024) hz, shapeCast_self, read_unread_whole]

end Point

end Cert.NormBwdIdeal.Block

end
-- ==== Proof.NormArray.lean ====
/-
  What the two result arrays of the norm's gradient hold, of finite inputs: point `t` works on rows `512 t` and on, and the
  gain's gradient is the sum over all 8192 rows, which the kernel takes in 8 interleaved partial sums over its 16 points.
-/
module

public import proofs.«01_k».proof.Proof.NormBlock
public import Idealize.ShloMosaic.Lib.Claim

@[expose] public section

set_option maxRecDepth 16384

noncomputable section

namespace Cert.NormBwdIdeal.Block

open Cert.NormBwdIdeal Cert.NormBwdIdeal.Gen Cert.Reals Idealize.ShloMosaic Idealize.ShloMosaic.TcCoe Idealize.SL.Sem

theorem place_rows : ∀ t : Fin cfg0.N, win0_0.index t = ![t.val, 0] ∧ win0_1.index t = ![t.val, 0] ∧ win0_2.index t = ![t.val, 0]
    ∧ win0_3.index t = ![0, 0] := by
  decide +kernel

/-- The gain as the kernel's one row. -/
theorem V_gain {F : FTy → Type} [FloatOps F] (m : (ℓ : Loc nD τ sig) → Buf (Elt F) ℓ) (c : Dev nD) :
    V m c main_v0 = shapeCast _ (m ((c : Thread nD τ).loc main_arg3)) shapeCasts_S1024_S1x1024 := by
  entry_read
  rfl

section

variable (m : (ℓ : Loc nD τ sig) → Buf (Elt Ideal) ℓ) (c : Dev nD) (t : Fin cfg0.N)

theorem rowlt (r : Fin 512) : 512 * t.val + r.val < 8192 := by
  have := lt_of_lt_of_eq t.isLt (show cfg0.N = 16 from N_0)
  omega

theorem blk_dh (r : Fin 512) (k : Fin 1024) : (iblk m c 0 t : Vec Ideal S512x1024 .f32) (ix2 r k) = m ((c : Thread nD τ).loc main_arg0) (ix2 ⟨512 * t.val + r.val, rowlt t r⟩ k) := by
  unfold iblk
  rw [View.read_apply]
  show V m c main_arg0 _ = _
  rw [V_main_arg0]
  congr 1
  funext a
  apply Fin.ext
  match a with
  | ⟨0, _⟩ => show win0_0.index t 0 * 512 + 1 * r.val = _; rw [(place_rows t).1]; show t.val * 512 + 1 * r.val = 512 * t.val + r.val; omega
  | ⟨1, _⟩ => show win0_0.index t 1 * 1024 + 1 * k.val = _; rw [(place_rows t).1]; show 0 * 1024 + 1 * k.val = k.val; omega

theorem blk_du (r : Fin 512) (k : Fin 1024) : (iblk m c 1 t : Vec Ideal S512x1024 .f32) (ix2 r k) = m ((c : Thread nD τ).loc main_arg1) (ix2 ⟨512 * t.val + r.val, rowlt t r⟩ k) := by
  unfold iblk
  rw [View.read_apply]
  show V m c main_arg1 _ = _
  rw [V_main_arg1]
  congr 1
  funext a
  apply Fin.ext
  match a with
  | ⟨0, _⟩ => show win0_1.index t 0 * 512 + 1 * r.val = _; rw [(place_rows t).2.1]; show t.val * 512 + 1 * r.val = 512 * t.val + r.val; omega
  | ⟨1, _⟩ => show win0_1.index t 1 * 1024 + 1 * k.val = _; rw [(place_rows t).2.1]; show 0 * 1024 + 1 * k.val = k.val; omega

theorem blk_h (r : Fin 512) (k : Fin 1024) : (iblk m c 2 t : Vec Ideal S512x1024 .f32) (ix2 r k) = m ((c : Thread nD τ).loc main_arg2) (ix2 ⟨512 * t.val + r.val, rowlt t r⟩ k) := by
  unfold iblk
  rw [View.read_apply]
  show V m c main_arg2 _ = _
  rw [V_main_arg2]
  congr 1
  funext a
  apply Fin.ext
  match a with
  | ⟨0, _⟩ => show win0_2.index t 0 * 512 + 1 * r.val = _; rw [(place_rows t).2.2.1]; show t.val * 512 + 1 * r.val = 512 * t.val + r.val; omega
  | ⟨1, _⟩ => show win0_2.index t 1 * 1024 + 1 * k.val = _; rw [(place_rows t).2.2.1]; show 0 * 1024 + 1 * k.val = k.val; omega

theorem blk_g (k : Fin 1024) : (iblk m c 3 t : Vec Ideal S1x1024 .f32) (ix2 0 k) = m ((c : Thread nD τ).loc main_arg3) (ix1 k) := by
  unfold iblk
  rw [View.read_apply]
  show V m c main_v0 _ = _
  rw [V_gain]
  trans shapeCast _ (m ((c : Thread nD τ).loc main_arg3)) shapeCasts_S1024_S1x1024 (ix2 0 k)
  · congr 1
    funext a
    apply Fin.ext
    match a with
    | ⟨0, _⟩ => show win0_3.index t 0 * 1 + 1 * 0 = _; rw [(place_rows t).2.2.2]; rfl
    | ⟨1, _⟩ => show win0_3.index t 1 * 1024 + 1 * k.val = _; rw [(place_rows t).2.2.2]; show 0 * 1024 + 1 * k.val = k.val; omega
  · pointwise

end

/-- The rows of an array that point `t` works on. -/
def rowsAt (X : S8192x1024.Idx → ℝ) (t : Fin cfg0.N) (y : S512x1024.Idx) : ℝ := X (ix2 ⟨512 * t.val + (y 0).val, rowlt t (y 0)⟩ (y 1))

section

variable (m : (ℓ : Loc nD τ sig) → Buf (Elt Ideal) ℓ) (c : Dev nD) (A : S8192x1024.Idx → EReal) (D H : S8192x1024.Idx → ℝ) (G : S1024.Idx → ℝ)
  (hA : m ((c : Thread nD τ).loc main_arg0) = A) (hD : m ((c : Thread nD τ).loc main_arg1) = fun i => (D i : EReal)) (hH : m ((c : Thread nD τ).loc main_arg2) = fun i => (H i : EReal))
  (hG : m ((c : Thread nD τ).loc main_arg3) = fun i => (G i : EReal))

include hD in
theorem blk_du_real (t : Fin cfg0.N) : @Eq (Vec Ideal S512x1024 .f32) (iblk m c 1 t) fun y => (rowsAt D t y : EReal) := by
  funext y
  rw [eq_ix2 y]
  exact (blk_du m c t _ _).trans (congrFun hD _)

include hH in
theorem blk_h_real (t : Fin cfg0.N) : @Eq (Vec Ideal S512x1024 .f32) (iblk m c 2 t) fun y => (rowsAt H t y : EReal) := by
  funext y
  rw [eq_ix2 y]
  exact (blk_h m c t _ _).trans (congrFun hH _)

include hG in
theorem blk_g_real (t : Fin cfg0.N) : @Eq (Vec Ideal S1x1024 .f32) (iblk m c 3 t) fun y => (G (ix1 (y 1)) : EReal) := by
  refine funext fun (y : S1x1024.Idx) => ?_
  rw [eq_ix2 y, show y 0 = (0 : Fin 1) from Subsingleton.elim (α := Fin 1) _ _]
  exact (blk_g m c t _).trans (congrFun hG _)

/-- The step at a point is the generated recursion's, the first point included. -/
theorem outs_eq : ∀ (n : ℕ) (h : n < cfg0.N), ∃ acc, outsAt0 m c n h = Value.stAt0 m c n h acc
  | 0, h => ⟨_, Value.outsAt0_zero m c h⟩
  | n + 1, h => ⟨_, Value.outsAt0_succ m c n h⟩

/-- What row `i` adds to the gain's gradient. -/
def gainTerm (k : Fin 1024) (i : Fin 8192) : ℝ := D (ix2 i k) * (H (ix2 i k) * rowScale fun l => H (ix2 i l))

include hD hH in
theorem sums_step (t : Fin cfg0.N) (a : Vec Ideal S8x1024 .f32) (r : Fin 8) (k : Fin 1024) :
    k0_pay7 (iblk m c 2 t) (iblk m c 1 t) a (ix2 r k)
      = a (ix2 r k) + ((∑ x : Fin 64, upTo (gainTerm D H k) (512 * t.val + (x.val * 8 + r.val)) : ℝ) : EReal) := by
  rw [blk_du_real m c D hD t, blk_h_real m c H hH t, pay7_apply]
  congr 2
  refine Finset.sum_congr rfl fun x _ => ?_
  rw [upTo_lt _ (rowlt t ⟨x.val * 8 + r.val, by omega⟩)]
  rfl

include hD hH in
theorem sums_eq (r : Fin 8) (k : Fin 1024) : ∀ (n : ℕ) (h : n < cfg0.N), (outsAt0 m c n h).2.2 (ix2 r k)
    = ((∑ t ∈ Finset.range (n + 1), ∑ x : Fin 64, upTo (gainTerm D H k) (512 * t + (x.val * 8 + r.val)) : ℝ) : EReal)
  | 0, h => by
    rw [Value.outsAt0_zero m c h, first m c ⟨0, h⟩ _ rfl, sums_step m c D H hD hH, pay3_apply]
    simp
  | n + 1, h => by
    rw [Value.outsAt0_succ m c n h, later m c ⟨n + 1, h⟩ _ (by have := lt_of_lt_of_eq h (show cfg0.N = 16 from N_0); dsimp only; omega),
      sums_step m c D H hD hH, sums_eq r k n, Finset.sum_range_succ _ (n + 1), EReal.coe_add]

include hA hD hH hG in
/-- The gradient that goes on. -/
theorem G4_eq (i : Fin 8192) (k : Fin 1024) : Value.G4 m c (ix2 i k) = A (ix2 i k)
    + ((normGrad (fun l => H (ix2 i l)) (fun l => G (ix1 l)) (fun l => D (ix2 i l)) k : ℝ) : EReal) := by
  have hp : Value.pt4Of (ix2 i k) < cfg0.N := lt_of_lt_of_eq (show 1 * (i.val / 512 - 0) + 1 * (k.val / 1024 - 0) < 16 by omega) N_0.symm
  unfold Value.G4
  rw [dif_pos hp, ← Value.outsAt0_sweep m c _ hp]
  obtain ⟨acc, e⟩ := outs_eq m c _ hp
  rw [e, rows m c ⟨_, hp⟩, blk_du_real m c D hD, blk_h_real m c H hH, blk_g_real m c G hG]
  have hl : Value.loc4Of (ix2 i k) = ix2 ⟨i.val % 512, by omega⟩ k := by
    funext a; apply Fin.ext
    match a with
    | ⟨0, _⟩ => rfl
    | ⟨1, _⟩ => show k.val % 1024 = k.val; omega
  have hr : (⟨512 * Value.pt4Of (ix2 i k) + i.val % 512, rowlt ⟨_, hp⟩ ⟨i.val % 512, by omega⟩⟩ : Fin 8192) = i := by
    apply Fin.ext
    show 512 * (1 * (i.val / 512 - 0) + 1 * (k.val / 1024 - 0)) + i.val % 512 = i.val
    omega
  rw [hl, pay6_apply, blk_dh, hA]
  simp only [rowsAt]
  show A (ix2 ⟨512 * Value.pt4Of (ix2 i k) + i.val % 512, _⟩ k) + ((normGrad (fun l => H (ix2 ⟨512 * Value.pt4Of (ix2 i k) + i.val % 512, _⟩ l)) _
    (fun l => D (ix2 ⟨512 * Value.pt4Of (ix2 i k) + i.val % 512, _⟩ l)) k : ℝ) : EReal) = _
  simp only [hr]
  rfl

include hD hH in
/-- The gain's gradient. -/
theorem G5_eq (k : Fin 1024) : Value.G5 m c (ix2 0 k) = ((∑ i : Fin 8192, gainTerm D H k i : ℝ) : EReal) := by
  have hp : 15 < cfg0.N := lt_of_lt_of_eq (by decide) N_0.symm
  rw [Value.G5_last, ← Value.outsAt0_sweep m c 15 hp, Value.outsAt0_succ m c 14 hp, last m c ⟨15, hp⟩ _ rfl, pay2_apply]
  simp only [sums_step m c D H hD hH, sums_eq m c D H hD hH]
  simp only [← EReal.coe_add, ← Finset.sum_range_succ (fun t => ∑ x : Fin 64, upTo (gainTerm D H k) (512 * t + (x.val * 8 + _))) 15, ← coe_sum]
  exact congrArg _ ((sum_fold _ 16 64).trans (sum_upTo _))

end

end Cert.NormBwdIdeal.Block

end
-- ==== Proof.NormRef.lean ====
/-
  What the derivative of the norm's forward lines computes, of finite inputs.
-/
module

public import proofs.«01_k».proof.Proof.Reals
public import proofs.«01_k».proof.Proof.Gen.NormBwdRefIdeal.Read
public import Idealize.ShloMosaic.Lib.Pointwise

@[expose] public section

set_option maxRecDepth 16384

noncomputable section

namespace Cert.NormBwdRefIdeal.Stages

open Cert.NormBwdRefIdeal Cert.NormBwdRefIdeal.Gen Cert.NormBwdRefIdeal.Read Cert.Reals Idealize.ShloMosaic Idealize.SL.Sem

variable (A : S8192x1024.Idx → EReal) (D H : S8192x1024.Idx → ℝ) (G : S1024.Idx → ℝ) (i : Fin 8192) (k : Fin 1024)

theorem mean_apply : val_main_v6 (F := Ideal) (fun y => (H y : EReal)) (ix2 i 0) = ((meanSq fun l => H (ix2 i l) : ℝ) : EReal) := by
  pointwise [val_main_v6, val_main_v5, val_main_v4, val_main_v3, val_main_v2, val_main_v1, val_main_v0, val_main_cst, val_main_cst_0, val_main_cst_1]
  simp only [← EReal.coe_mul, ← coe_sum, ofBits_1024, ofBits_eps, div_coe _ (by norm_num : (1024 : ℝ) ≠ 0), ← EReal.coe_add]
  rfl

theorem scale_apply : val_main_v7 (F := Ideal) (fun y => (H y : EReal)) (ix2 i 0) = ((rowScale fun l => H (ix2 i l) : ℝ) : EReal) := by
  pointwise [val_main_v7]
  rw [mean_apply]
  exact rsqrt_coe (meanSq_pos _)

theorem gain_apply : val_main_v37 (F := Ideal) (fun y => (D y : EReal)) (fun y => (H y : EReal)) (ix2 0 k)
    = ((∑ i : Fin 8192, H (ix2 i k) * (rowScale fun l => H (ix2 i l)) * D (ix2 i k) : ℝ) : EReal) := by
  pointwise [val_main_v37, val_main_v21, val_main_v18, val_main_v17, val_main_v16, val_main_v12, val_main_v11, val_main_cst_3, val_main_cst_4]
  simp only [Fin.sum_univ_one, scale_apply, ← EReal.coe_mul, ← coe_sum]

theorem back_apply : val_main_v31 (F := Ideal) (fun y => (D y : EReal)) (fun y => (H y : EReal)) (fun y => (G y : EReal)) (ix1 i)
    = (((∑ l, H (ix2 i l) * (D (ix2 i l) * G (ix1 l))) * (-(1 / 2) * (rowScale (fun l => H (ix2 i l)) / meanSq fun l => H (ix2 i l))) / 1024 : ℝ) : EReal) := by
  pointwise [val_main_v31, val_main_v30, val_main_v29, val_main_v28, val_main_v24, val_main_v23, val_main_v22, val_main_v20, val_main_v19, val_main_v13,
    val_main_v10, val_main_v9, val_main_v8, val_main_cst_2, val_main_cst_5, val_main_cst_6, val_main_cst_7]
  simp only [Fin.sum_univ_one, scale_apply, mean_apply, ← EReal.coe_mul, ← coe_sum, ofBits_1024, ofBits_neg_half, div_coe _ (by norm_num : (1024 : ℝ) ≠ 0),
    div_coe _ (meanSq_pos fun l => H (ix2 i l)).ne']

theorem row_apply : val_main_v36 (F := Ideal) A (fun y => (D y : EReal)) (fun y => (H y : EReal)) (fun y => (G y : EReal)) (ix2 i k)
    = A (ix2 i k) + ((normGrad (fun l => H (ix2 i l)) (fun l => G (ix1 l)) (fun l => D (ix2 i l)) k : ℝ) : EReal) := by
  pointwise [val_main_v36, val_main_v35, val_main_v34, val_main_v33, val_main_v32, val_main_v27, val_main_v26, val_main_v25, val_main_v20, val_main_v19, val_main_v13]
  simp only [back_apply, scale_apply, ← EReal.coe_mul, add_assoc, ← EReal.coe_add]
  rw [normGrad_eq, add_assoc]

end Cert.NormBwdRefIdeal.Stages

end
-- ==== Proof.NormClaim.lean ====
/-
  The norm's gradient: the kernel and the derivative of the forward lines end with equal results.
-/
module

public import proofs.«01_k».proof.Defs
public import proofs.«01_k».proof.Proof.NormArray
public import proofs.«01_k».proof.Proof.NormRef
public import proofs.«01_k».proof.Proof.Gen.NormBwdRefIdeal.Run
public import proofs.«01_k».proof.Proof.Gen.Pre_norm_finite
public import Idealize.ShloMosaic.Lib.Quiescent

@[expose] public section

set_option maxRecDepth 16384

noncomputable section

namespace Cert.NormClaim

open Idealize.ShloMosaic Idealize.ShloMosaic.TcCoe Idealize.SL.Sem Cert.Reals

/-- The precondition, read: the three arrays hold reals. -/
theorem reals (m : (ℓ : Loc Cert.NormBwdIdeal.nD Cert.NormBwdIdeal.τ Cert.NormBwdIdeal.sig) → Buf (Elt Ideal) ℓ) (hpre : Cert.Pre_NormBwdIdeal_norm_finite m)
    (c : Dev Cert.NormBwdIdeal.nD) :
    ∃ (D H : (Shape.mk 2 ![8192, 1024]).Idx → ℝ) (G : (Shape.mk 1 ![1024]).Idx → ℝ),
      (m ((c : Thread Cert.NormBwdIdeal.nD Cert.NormBwdIdeal.τ).loc Cert.NormBwdIdeal.main_arg1) = fun i => (D i : EReal))
      ∧ (m ((c : Thread Cert.NormBwdIdeal.nD Cert.NormBwdIdeal.τ).loc Cert.NormBwdIdeal.main_arg2) = fun i => (H i : EReal))
      ∧ (m ((c : Thread Cert.NormBwdIdeal.nD Cert.NormBwdIdeal.τ).loc Cert.NormBwdIdeal.main_arg3) = fun i => (G i : EReal)) :=
  ⟨fun i => EReal.toReal (m (c.tc.loc Cert.NormBwdIdeal.main_arg1) i), fun i => EReal.toReal (m (c.tc.loc Cert.NormBwdIdeal.main_arg2) i),
    fun i => EReal.toReal (m (c.tc.loc Cert.NormBwdIdeal.main_arg3) i),
    funext fun i => (coe_toReal (congrFun (hpre c).1 i)).symm, funext fun i => (coe_toReal (congrFun (hpre c).2.1 i)).symm,
    funext fun i => (coe_toReal (congrFun (hpre c).2.2 i)).symm⟩

theorem frame_ref : Cert.quiescent_NormBwdRefIdeal := fun m ρ _ =>
  (θ_run Cert.NormBwdRefIdeal.defs _ _).mono (fun r h => ⟨fun c => (h c).2.2, sem_eq_zero_of_no_sems (by decide) r.2⟩)
    (Cert.NormBwdRefIdeal.Value.run m ρ)

theorem algebraic : Cert.algebraic_NormBwdIdeal_NormBwdRefIdeal_pre_norm_finite := fun m ρ m' ρ' hpre hag =>
  ⟨fun c => Cert.NormBwdIdeal.Value.G4 m c, fun c => Cert.NormBwdIdeal.Value.G5 m c, Cert.NormBwdIdeal.Value.run m ρ,
    (θ_run _ _ _).mono (fun _ h c => by
      obtain ⟨D, H, G, hD, hH, hG⟩ := reals m hpre c
      obtain ⟨a0, a1, a2, a3⟩ := hag c
      refine ⟨(h c).1.trans ?_, (h c).2.1.trans ?_, (h c).2.2⟩
      · rw [Cert.NormBwdRefIdeal.Read.val_main_v36_eq, a0, a1, a2, a3, hD, hH, hG]
        refine funext fun (i : Cert.NormBwdIdeal.S8192x1024.Idx) => ?_
        rw [eq_ix2 i]
        exact (Cert.NormBwdRefIdeal.Stages.row_apply _ D H G _ _).trans (Cert.NormBwdIdeal.Block.G4_eq m c _ D H G rfl hD hH hG _ _).symm
      · rw [Cert.NormBwdRefIdeal.Read.val_main_v37_eq, a1, a2, hD, hH]
        refine funext fun (i : Cert.NormBwdIdeal.S1x1024.Idx) => ?_
        rw [eq_ix2 i, show i 0 = (0 : Fin 1) from Subsingleton.elim (α := Fin 1) _ _]
        refine (Cert.NormBwdRefIdeal.Stages.gain_apply D H _).trans (Eq.trans ?_ (Cert.NormBwdIdeal.Block.G5_eq m c D H hD hH _).symm)
        exact congrArg _ (Finset.sum_congr rfl fun i _ => mul_comm _ _))
    (Cert.NormBwdRefIdeal.Value.run m' ρ')⟩

end Cert.NormClaim

end
-- ==== Proof.FlashRun.lean ====
module

public import proofs.«01_k».proof.Proof.Gen.AttnBwdIdeal.Launch
public import proofs.«01_k».proof.Proof.Gen.AttnBwdIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

/-! One grid point of the attention-gradient kernel, at any word pair the tables hold there. -/

@[expose] public section

set_option maxRecDepth 16384

noncomputable section

namespace Cert.AttnBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal.Gen

variable {F : FTy → Type} [FloatOps F]

local notation "𝕄" => MT nD τ sig Unit (Elt F) ℕ (UR sig nD τ) ℕ

/-- The words the two tables hold at the point's second coordinate. -/
abbrev rowWord (T : Vec F S36 .i32) (i : grid0.Coords) : BitVec 32 :=
  View.readAt (Elt F) (Memref.whole main_c).view (Rect.unit (s := S36) (k0_off1 i) S1.size (k0_off1_inb i)).toLoadRect T (Shape.Idx.first (numel1_S1.symm ▸ Nat.one_pos))

abbrev keyWord (T : Vec F S36 .i32) (i : grid0.Coords) : BitVec 32 :=
  View.readAt (Elt F) (Memref.whole main_c_0).view (Rect.unit (s := S36) (k0_off1 i) S1.size (k0_off1_inb i)).toLoadRect T (Shape.Idx.first (numel1_S1.symm ▸ Nat.one_pos))

set_option maxHeartbeats 1000000 in
/-- The head's first point: all three outputs are reset, and the tile lies on the diagonal. -/
noncomputable def runA (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x128 .bf16) (harg8 : arg8.IsWhole) (arg9 : Memref sig .tc .vmem S1x2x1024 .f32) (harg9 : arg9.IsWhole) (arg10 : Memref sig .tc .vmem S1x2x1024 .f32) (harg10 : arg10.IsWhole) (arg11 : Memref sig .tc .vmem S8192x256 .f32) (harg11 : arg11.IsWhole) (arg12 : Memref sig .tc .vmem S1024x256 .f32) (harg12 : arg12.IsWhole) (arg13 : Memref sig .tc .vmem S1024x128 .f32) (harg13 : arg13.IsWhole) (T2 : Vec F S36 .i32) (T3 : Vec F S36 .i32)
    (hw : k0_chk1 (rowWord T2 i) (keyWord T3 i)) (h1 : k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)
    (x4 : Vec F S1024x256 .bf16) (x5 : Vec F S1024x256 .bf16) (x6 : Vec F S1024x256 .bf16) (x7 : Vec F S1024x256 .f32) (x8 : Vec F S1024x128 .bf16) (x9 : Vec F S1x2x1024 .f32) (x10 : Vec F S1x2x1024 .f32)  :
    Σ' (L11 : List (View.Piece (Elt F) S8192x256 .f32)), Σ' (L12 : List (View.Piece (Elt F) S1024x256 .f32)), { L13 : List (View.Piece (Elt F) S1024x128 .f32) //
      ∀ (E : Set ℕ) (K : PUnit → sProp 𝕄),
        iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
            ∗ (iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_core_bwd_0_eq_skeleton]; unfold cc0_attn_core_bwd_0_skel
    simp only [k0_part1_eq_skeleton, k0_part2_eq_skeleton, k0_part3_eq_skeleton, k0_part4_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    sl_exec
    sl_step
    sl_exec (disch := first | sl_exact hw | sl_exact h1 | sl_exact h2 | sl_exact h3 | sl_exact h4)
    sl_step
    iapply Hk
    isplitl [HT2]; · iexact HT2
    isplitl [HT3]; · iexact HT3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    iexists _; iexact H13

set_option maxHeartbeats 1000000 in
/-- A diagonal tile past the first: the key outputs are reset, the query output continues. -/
noncomputable def runB (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x128 .bf16) (harg8 : arg8.IsWhole) (arg9 : Memref sig .tc .vmem S1x2x1024 .f32) (harg9 : arg9.IsWhole) (arg10 : Memref sig .tc .vmem S1x2x1024 .f32) (harg10 : arg10.IsWhole) (arg11 : Memref sig .tc .vmem S8192x256 .f32) (harg11 : arg11.IsWhole) (arg12 : Memref sig .tc .vmem S1024x256 .f32) (harg12 : arg12.IsWhole) (arg13 : Memref sig .tc .vmem S1024x128 .f32) (harg13 : arg13.IsWhole) (T2 : Vec F S36 .i32) (T3 : Vec F S36 .i32)
    (hw : k0_chk1 (rowWord T2 i) (keyWord T3 i)) (h1 : ¬k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)
    (x4 : Vec F S1024x256 .bf16) (x5 : Vec F S1024x256 .bf16) (x6 : Vec F S1024x256 .bf16) (x7 : Vec F S1024x256 .f32) (x8 : Vec F S1024x128 .bf16) (x9 : Vec F S1x2x1024 .f32) (x10 : Vec F S1x2x1024 .f32) (p11 : Vec F S8192x256 .f32) :
    Σ' (L11 : List (View.Piece (Elt F) S8192x256 .f32)), Σ' (L12 : List (View.Piece (Elt F) S1024x256 .f32)), { L13 : List (View.Piece (Elt F) S1024x128 .f32) //
      ∀ (E : Set ℕ) (K : PUnit → sProp 𝕄),
        iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare p11 ∗ (∃ d, owns (c : Thread nD τ) arg12 fullShare d) ∗ (∃ d, owns (c : Thread nD τ) arg13 fullShare d)
            ∗ (iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread p11) L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_core_bwd_0_eq_skeleton]; unfold cc0_attn_core_bwd_0_skel
    simp only [k0_part1_eq_skeleton, k0_part2_eq_skeleton, k0_part3_eq_skeleton, k0_part4_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec
    sl_step
    sl_exec
    sl_step
    sl_exec (disch := first | sl_exact hw | sl_exact h1 | sl_exact h2 | sl_exact h3 | sl_exact h4)
    sl_step
    iapply Hk
    isplitl [HT2]; · iexact HT2
    isplitl [HT3]; · iexact HT3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexists _; iexact H12
    iexists _; iexact H13

set_option maxHeartbeats 1000000 in
/-- A tile below the diagonal: all three outputs continue. -/
noncomputable def runC (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x128 .bf16) (harg8 : arg8.IsWhole) (arg9 : Memref sig .tc .vmem S1x2x1024 .f32) (harg9 : arg9.IsWhole) (arg10 : Memref sig .tc .vmem S1x2x1024 .f32) (harg10 : arg10.IsWhole) (arg11 : Memref sig .tc .vmem S8192x256 .f32) (harg11 : arg11.IsWhole) (arg12 : Memref sig .tc .vmem S1024x256 .f32) (harg12 : arg12.IsWhole) (arg13 : Memref sig .tc .vmem S1024x128 .f32) (harg13 : arg13.IsWhole) (T2 : Vec F S36 .i32) (T3 : Vec F S36 .i32)
    (hw : k0_chk1 (rowWord T2 i) (keyWord T3 i)) (h1 : ¬k0_cond1 i = 1#1) (h2 : ¬k0_cond2 (rowWord T2 i) (keyWord T3 i) = 1#1) (h3 : k0_cond3 (rowWord T2 i) (keyWord T3 i) = 1#1) (h4 : ¬k0_cond4 (rowWord T2 i) (keyWord T3 i) = 1#1)
    (x4 : Vec F S1024x256 .bf16) (x5 : Vec F S1024x256 .bf16) (x6 : Vec F S1024x256 .bf16) (x7 : Vec F S1024x256 .f32) (x8 : Vec F S1024x128 .bf16) (x9 : Vec F S1x2x1024 .f32) (x10 : Vec F S1x2x1024 .f32) (p11 : Vec F S8192x256 .f32) (p12 : Vec F S1024x256 .f32) (p13 : Vec F S1024x128 .f32) :
    Σ' (L11 : List (View.Piece (Elt F) S8192x256 .f32)), Σ' (L12 : List (View.Piece (Elt F) S1024x256 .f32)), { L13 : List (View.Piece (Elt F) S1024x128 .f32) //
      ∀ (E : Set ℕ) (K : PUnit → sProp 𝕄),
        iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare p11 ∗ owns (c : Thread nD τ) arg12 fullShare p12 ∗ owns (c : Thread nD τ) arg13 fullShare p13
            ∗ (iprop((((c : Thread nD τ).loc main_c) ↦{fullShare.right} T2) ∗ (((c : Thread nD τ).loc main_c_0) ↦{fullShare.right} T3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread p11) L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_core_bwd_0_eq_skeleton]; unfold cc0_attn_core_bwd_0_skel
    simp only [k0_part1_eq_skeleton, k0_part2_eq_skeleton, k0_part3_eq_skeleton, k0_part4_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec
    sl_step
    sl_exec
    sl_step
    sl_exec (disch := first | sl_exact hw | sl_exact h1 | sl_exact h2 | sl_exact h3 | sl_exact h4)
    sl_step
    iapply Hk
    isplitl [HT2]; · iexact HT2
    isplitl [HT3]; · iexact HT3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexists _; iexact H12
    iexists _; iexact H13

end Cert.AttnBwdIdeal.Flash

end
-- ==== Proof.FlashPoint.lean ====
module

public import proofs.«01_k».proof.Proof.FlashRun
public import Idealize.ShloMosaic.Lib.VecWindow

/-! What one grid point of the attention-gradient kernel leaves in its three outputs, as plain functions of the
    operand tiles and of what the outputs held before. -/

@[expose] public section

set_option maxRecDepth 16384

noncomputable section

namespace Cert.AttnBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal.Gen

variable {F : FTy → Type} [FloatOps F]

local notation "𝕄" => MT nD τ sig Unit (Elt F) ℕ (UR sig nD τ) ℕ

/-- The operand tiles of one point: query, key, value, key-side decay, output cotangent, row log-sum, row correction. -/
structure Tiles (F : FTy → Type) where
  q : Vec F S1024x256 .bf16
  k : Vec F S1024x256 .bf16
  v : Vec F S1024x256 .bf16
  f : Vec F S1024x256 .f32
  o : Vec F S1024x128 .bf16
  lse : Vec F S1x2x1024 .f32
  delta : Vec F S1x2x1024 .f32

/-- The three outputs: all the query rows, one key tile, one value tile. -/
structure Outs (F : FTy → Type) where
  dq : Vec F S8192x256 .f32
  dk : Vec F S1024x256 .f32
  dv : Vec F S1024x128 .f32

namespace Tiles

variable (x : Tiles F)

/-! The two heads of a pair lie side by side: head 0 in the left half of a tile, head 1 in the right half. -/

def q0 : Vec F S1024x128 .bf16 := View.ld x.q (Rect.unit ![0, 0] ![1024, 128] inb_S1024x256_S1024x128_0_0)
def q1 : Vec F S1024x128 .bf16 := View.ld x.q (Rect.unit ![0, 128] ![1024, 128] inb_S1024x256_S1024x128_0_128)
def k0 : Vec F S1024x128 .bf16 := View.ld x.k (Rect.unit ![0, 0] ![1024, 128] inb_S1024x256_S1024x128_0_0)
def k1 : Vec F S1024x128 .bf16 := View.ld x.k (Rect.unit ![0, 128] ![1024, 128] inb_S1024x256_S1024x128_0_128)
def v0 : Vec F S1024x64 .bf16 := View.ld x.v (Rect.unit ![0, 0] ![1024, 64] inb_S1024x256_S1024x64_0_0)
def v1 : Vec F S1024x64 .bf16 := View.ld x.v (Rect.unit ![0, 128] ![1024, 64] inb_S1024x256_S1024x64_0_128)
def f0 : Vec F S1024x128 .f32 := View.ld x.f (Rect.unit ![0, 0] ![1024, 128] inb_S1024x256_S1024x128_0_0)
def f1 : Vec F S1024x128 .f32 := View.ld x.f (Rect.unit ![0, 128] ![1024, 128] inb_S1024x256_S1024x128_0_128)
def o0 : Vec F S1024x64 .bf16 := View.ld x.o (Rect.unit ![0, 0] ![1024, 64] inb_S1024x128_S1024x64_0_0)
def o1 : Vec F S1024x64 .bf16 := View.ld x.o (Rect.unit ![0, 64] ![1024, 64] inb_S1024x128_S1024x64_0_64)
def lse0 : Vec F S1x1x1024 .f32 := View.ld x.lse (Rect.unit ![0, 0, 0] ![1, 1, 1024] inb_S1x2x1024_S1x1x1024_0_0_0)
def lse1 : Vec F S1x1x1024 .f32 := View.ld x.lse (Rect.unit ![0, 1, 0] ![1, 1, 1024] inb_S1x2x1024_S1x1x1024_0_1_0)
def delta0 : Vec F S1x1x1024 .f32 := View.ld x.delta (Rect.unit ![0, 0, 0] ![1, 1, 1024] inb_S1x2x1024_S1x1x1024_0_0_0)
def delta1 : Vec F S1x1x1024 .f32 := View.ld x.delta (Rect.unit ![0, 1, 0] ![1, 1, 1024] inb_S1x2x1024_S1x1x1024_0_1_0)

/-- A tile below the diagonal, over what the outputs held. -/
def lowDq (old : Vec F S1024x256 .f32) : Vec F S1024x256 .f32 :=
  k0_pay4 (k0_pay14 x.q0 x.k0 x.v0 x.o0 x.f0 x.lse0 x.delta0)
    (k0_pay20 (k0_pay15 x.q1) (k0_pay16 x.k1) x.v1 x.o1 x.f1 x.lse1 x.delta1) old
def lowDk (old : Vec F S1024x256 .f32) : Vec F S1024x256 .f32 :=
  k0_pay22 (k0_pay13 x.q0 x.k0 x.v0 x.o0 x.f0 x.lse0 x.delta0) (k0_pay15 x.q1) (k0_pay16 x.k1) x.v1 x.o1 x.f1 x.lse1 x.delta1 old
def lowDv (old : Vec F S1024x128 .f32) : Vec F S1024x128 .f32 :=
  k0_pay21 (k0_pay12 x.q0 x.k0 x.o0 x.f0 x.lse0) (k0_pay15 x.q1) (k0_pay16 x.k1) x.o1 x.f1 x.lse1 old

/-- A tile on the diagonal, over what the outputs held. -/
def diagDq (old : Vec F S1024x256 .f32) : Vec F S1024x256 .f32 :=
  k0_pay6 (k0_pay30 x.q0 x.k0 x.v0 x.o0 x.f0 x.lse0 x.delta0)
    (k0_pay37 (k0_pay31 x.q1) x.k1 x.v1 x.o1 x.f1 x.lse1 x.delta1) old
def diagDk (old : Vec F S1024x256 .f32) : Vec F S1024x256 .f32 :=
  k0_pay5 (k0_pay29 x.q0 x.k0 x.v0 x.o0 x.f0 x.lse0 x.delta0)
    (k0_pay36 (k0_pay31 x.q1) x.k1 x.v1 x.o1 x.f1 x.lse1 x.delta1) old
def diagDv (old : Vec F S1024x128 .f32) : Vec F S1024x128 .f32 :=
  k0_pay38 (k0_pay28 x.q0 x.k0 x.o0 x.f0 x.lse0) (k0_pay31 x.q1) x.k1 x.o1 x.f1 x.lse1 old

end Tiles

/-- The query rows of tile `b` lie inside the array. -/
theorem inb_rows (b : Fin 8) : ∀ a, (![1024 * b.val, 0] : Fin 2 → ℕ) a + S1024x256.size a ≤ S8192x256.size a := by
  intro a; have := b.isLt
  match a with
  | ⟨0, _⟩ => show 1024 * b.val + 1024 ≤ 8192; omega
  | ⟨1, _⟩ => show 0 + 256 ≤ 256; omega

/-- The query rows of tile `b` after `f` has been applied to them. -/
def onRows (b : Fin 8) (f : Vec F S1024x256 .f32 → Vec F S1024x256 .f32) (d : Vec F S8192x256 .f32) : Vec F S8192x256 .f32 :=
  VecWindow.put d ![1024 * b.val, 0] S1024x256.size (f (VecWindow.window d ![1024 * b.val, 0] S1024x256.size (inb_rows b)))

/-- The outputs after a tile below the diagonal. -/
def low (b : Fin 8) (x : Tiles F) (s : Outs F) : Outs F := ⟨onRows b x.lowDq s.dq, x.lowDk s.dk, x.lowDv s.dv⟩
/-- The outputs after a tile on the diagonal: the key side starts afresh. -/
def diag (b : Fin 8) (x : Tiles F) (d : Vec F S8192x256 .f32) : Outs F := ⟨onRows b x.diagDq d, x.diagDk k0_pay2, x.diagDv k0_pay3⟩

theorem hz2 : (![0, 0] : Fin 2 → ℕ) = fun _ => 0 := by funext a; fin_cases a <;> rfl

/-- A load of the rows of tile `b`, its offsets given by an equation. -/
theorem ld_rows (d : Vec F S8192x256 .f32) (b : Fin 8) {off : Fin 2 → ℕ} (ho : off = ![1024 * b.val, 0]) (inb) :
    View.ld d (Rect.unit (s := S8192x256) off ![1024, 256] inb) = VecWindow.window d ![1024 * b.val, 0] S1024x256.size (inb_rows b) := by
  subst ho; rfl

/-- The operand tiles held by a point's buffers. -/
def holds (c : Dev nD) (arg4 : Memref sig .tc .vmem S1024x256 .bf16) (arg5 : Memref sig .tc .vmem S1024x256 .bf16) (arg6 : Memref sig .tc .vmem S1024x256 .bf16) (arg7 : Memref sig .tc .vmem S1024x256 .f32) (arg8 : Memref sig .tc .vmem S1024x128 .bf16) (arg9 : Memref sig .tc .vmem S1x2x1024 .f32) (arg10 : Memref sig .tc .vmem S1x2x1024 .f32) (x : Tiles F) : sProp 𝕄 :=
  iprop(owns (c : Thread nD τ) arg4 fullShare x.q ∗ owns (c : Thread nD τ) arg5 fullShare x.k ∗ owns (c : Thread nD τ) arg6 fullShare x.v ∗ owns (c : Thread nD τ) arg7 fullShare x.f ∗ owns (c : Thread nD τ) arg8 fullShare x.o ∗ owns (c : Thread nD τ) arg9 fullShare x.lse ∗ owns (c : Thread nD τ) arg10 fullShare x.delta)

/-- The two prefetched tables, read-only. -/
def tables (c : Dev nD) (T2 T3 : Vec F S36 .i32) : sProp 𝕄 :=
  iprop((((c : Thread nD τ).loc main_c) ↦{fullShare.right} T2) ∗ (((c : Thread nD τ).loc main_c_0) ↦{fullShare.right} T3))

/-- The three outputs held by a point's buffers. -/
def leaves (c : Dev nD) (arg11 : Memref sig .tc .vmem S8192x256 .f32) (arg12 : Memref sig .tc .vmem S1024x256 .f32) (arg13 : Memref sig .tc .vmem S1024x128 .f32) (s : Outs F) : sProp 𝕄 :=
  iprop(owns (c : Thread nD τ) arg11 fullShare s.dq ∗ owns (c : Thread nD τ) arg12 fullShare s.dk ∗ owns (c : Thread nD τ) arg13 fullShare s.dv)

variable (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x128 .bf16) (harg8 : arg8.IsWhole) (arg9 : Memref sig .tc .vmem S1x2x1024 .f32) (harg9 : arg9.IsWhole) (arg10 : Memref sig .tc .vmem S1x2x1024 .f32) (harg10 : arg10.IsWhole)
  (arg11 : Memref sig .tc .vmem S8192x256 .f32) (harg11 : arg11.IsWhole) (arg12 : Memref sig .tc .vmem S1024x256 .f32) (harg12 : arg12.IsWhole) (arg13 : Memref sig .tc .vmem S1024x128 .f32) (harg13 : arg13.IsWhole)
  (T2 T3 : Vec F S36 .i32) (hw : k0_chk1 (rowWord T2 i) (keyWord T3 i)) (x : Tiles F) (b : Fin 8)

include hw in
theorem readA_dq (ho : k0_off3 (rowWord T2 i) = ![1024 * b.val, 0]) (h1 : k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)  (g : arg11.view.ty.Contents (Elt F)) :
    arg11.view.read (Elt F) (arg11.view.writes (Elt F) g (runA c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta ).1) = (diag b x k0_pay1).dq := by
  unfold runA; dsimp only; sl_unfold_words
  refine (View.read_writes_cons_put _ _ _ _ _ ho).trans ?_
  simp only [View.readAt_eq_ld, Memref.IsWhole.read_unread, View.ld_unit_zero (S := S1024x256) hz2, View.ld_unit_zero (S := S1024x128) hz2, read_unread_whole]
  rw [View.read_writes_full, View.read_writes_full]
  unfold diag onRows
  dsimp only
  congr 1

include hw in
theorem readA_dk (ho : k0_off3 (rowWord T2 i) = ![1024 * b.val, 0]) (h1 : k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)  (g : arg12.view.ty.Contents (Elt F)) :
    arg12.view.read (Elt F) (arg12.view.writes (Elt F) g (runA c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta ).2.1) = (diag b x k0_pay1).dk := by
  unfold runA; dsimp only; sl_unfold_words
  simp only [View.readAt_eq_ld, Memref.IsWhole.read_unread, View.ld_unit_zero (S := S1024x256) hz2, View.ld_unit_zero (S := S1024x128) hz2, read_unread_whole]
  rw [View.read_writes_full, View.readCov_full]
  rfl

include hw in
theorem readA_dv (ho : k0_off3 (rowWord T2 i) = ![1024 * b.val, 0]) (h1 : k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)  (g : arg13.view.ty.Contents (Elt F)) :
    arg13.view.read (Elt F) (arg13.view.writes (Elt F) g (runA c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta ).2.2.1) = (diag b x k0_pay1).dv := by
  unfold runA; dsimp only; sl_unfold_words
  simp only [View.readAt_eq_ld, Memref.IsWhole.read_unread, View.ld_unit_zero (S := S1024x256) hz2, View.ld_unit_zero (S := S1024x128) hz2, read_unread_whole]
  rw [View.read_writes_full, View.readCov_full]
  rfl

include hw in
/-- The head's first point: the tile lies on the diagonal and all outputs start at zero. -/
theorem pointA (ho : k0_off3 (rowWord T2 i) = ![1024 * b.val, 0]) (h1 : k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1)  (E : Set ℕ) (K : PUnit → sProp 𝕄) :
    iprop(tables c T2 T3 ∗ holds c arg4 arg5 arg6 arg7 arg8 arg9 arg10 x ∗ (∃ d, owns (c : Thread nD τ) arg11 fullShare d) ∗ (∃ d, owns (c : Thread nD τ) arg12 fullShare d) ∗ (∃ d, owns (c : Thread nD τ) arg13 fullShare d)
        ∗ (iprop(tables c T2 T3 ∗ holds c arg4 arg5 arg6 arg7 arg8 arg9 arg10 x ∗ leaves c arg11 arg12 arg13 (diag b x k0_pay1)) -∗ K ⟨⟩))
      ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K := by
  unfold tables holds leaves
  iintro ⟨⟨HT2, HT3⟩, ⟨H4, H5, H6, H7, H8, H9, H10⟩, H11, H12, H13, Hk⟩
  iapply ((runA c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta ).2.2.2 E K)
  isplitl [HT2]; · iexact HT2
  isplitl [HT3]; · iexact HT3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HT2, HT3, H4, H5, H6, H7, H8, H9, H10, ⟨%g11, H11⟩, ⟨%g12, H12⟩, ⟨%g13, H13⟩⟩
  iapply Hk
  isplitl [HT2 HT3]
  · isplitl [HT2]; · iexact HT2
    iexact HT3
  isplitl [H4 H5 H6 H7 H8 H9 H10]
  · isplitl [H4]; · iexact H4
    isplitl [H5]; · iexact H5
    isplitl [H6]; · iexact H6
    isplitl [H7]; · iexact H7
    isplitl [H8]; · iexact H8
    isplitl [H9]; · iexact H9
    iexact H10
  isplitl [H11]
  · unfold owns; iexists _; isplitr
    swap; · iexact H11
    ipureintro; exact readA_dq c i arg4 harg4 arg5 harg5 arg6 harg6 arg7 harg7 arg8 harg8 arg9 harg9 arg10 harg10 arg11 harg11 arg12 harg12 arg13 harg13 T2 T3 hw x b ho h1 h2 h3 h4  _
  isplitl [H12]
  · unfold owns; iexists _; isplitr
    swap; · iexact H12
    ipureintro; exact readA_dk c i arg4 harg4 arg5 harg5 arg6 harg6 arg7 harg7 arg8 harg8 arg9 harg9 arg10 harg10 arg11 harg11 arg12 harg12 arg13 harg13 T2 T3 hw x b ho h1 h2 h3 h4  _
  unfold owns; iexists _; isplitr
  swap; · iexact H13
  ipureintro; exact readA_dv c i arg4 harg4 arg5 harg5 arg6 harg6 arg7 harg7 arg8 harg8 arg9 harg9 arg10 harg10 arg11 harg11 arg12 harg12 arg13 harg13 T2 T3 hw x b ho h1 h2 h3 h4  _

include hw in
theorem readB_dq (ho : k0_off3 (rowWord T2 i) = ![1024 * b.val, 0]) (h1 : ¬k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1) (p11 : Vec F S8192x256 .f32) :
    arg11.view.read (Elt F) (arg11.view.writes (Elt F) (harg11.unread p11) (runB c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11).1) = (diag b x p11).dq := by
  unfold runB; dsimp only; sl_unfold_words
  refine (View.read_writes_cons_put _ _ _ _ _ ho).trans ?_
  simp only [View.readAt_eq_ld, Memref.IsWhole.read_unread, View.ld_unit_zero (S := S1024x256) hz2, View.ld_unit_zero (S := S1024x128) hz2, read_unread_whole]
  simp only [View.writes_nil, Memref.IsWhole.read_unread]
  unfold diag onRows
  dsimp only
  congr 1
  unfold Tiles.diagDq
  congr 1
  exact ld_rows _ _ ho _

include hw in
theorem readB_dk (ho : k0_off3 (rowWord T2 i) = ![1024 * b.val, 0]) (h1 : ¬k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1) (p11 : Vec F S8192x256 .f32) (g : arg12.view.ty.Contents (Elt F)) :
    arg12.view.read (Elt F) (arg12.view.writes (Elt F) g (runB c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11).2.1) = (diag b x p11).dk := by
  unfold runB; dsimp only; sl_unfold_words
  simp only [View.readAt_eq_ld, Memref.IsWhole.read_unread, View.ld_unit_zero (S := S1024x256) hz2, View.ld_unit_zero (S := S1024x128) hz2, read_unread_whole]
  rw [View.read_writes_full, View.readCov_full]
  rfl

include hw in
theorem readB_dv (ho : k0_off3 (rowWord T2 i) = ![1024 * b.val, 0]) (h1 : ¬k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1) (p11 : Vec F S8192x256 .f32) (g : arg13.view.ty.Contents (Elt F)) :
    arg13.view.read (Elt F) (arg13.view.writes (Elt F) g (runB c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11).2.2.1) = (diag b x p11).dv := by
  unfold runB; dsimp only; sl_unfold_words
  simp only [View.readAt_eq_ld, Memref.IsWhole.read_unread, View.ld_unit_zero (S := S1024x256) hz2, View.ld_unit_zero (S := S1024x128) hz2, read_unread_whole]
  rw [View.read_writes_full, View.readCov_full]
  rfl

include hw in
/-- A later tile on the diagonal: the key side starts afresh, the query rows go on. -/
theorem pointB (ho : k0_off3 (rowWord T2 i) = ![1024 * b.val, 0]) (h1 : ¬k0_cond1 i = 1#1) (h2 : k0_cond2 (rowWord T2 i) (keyWord T3 i) = 1#1) (h3 : ¬k0_cond3 (rowWord T2 i) (keyWord T3 i) = 1#1) (h4 : k0_cond4 (rowWord T2 i) (keyWord T3 i) = 1#1) (p11 : Vec F S8192x256 .f32) (E : Set ℕ) (K : PUnit → sProp 𝕄) :
    iprop(tables c T2 T3 ∗ holds c arg4 arg5 arg6 arg7 arg8 arg9 arg10 x ∗ owns (c : Thread nD τ) arg11 fullShare p11 ∗ (∃ d, owns (c : Thread nD τ) arg12 fullShare d) ∗ (∃ d, owns (c : Thread nD τ) arg13 fullShare d)
        ∗ (iprop(tables c T2 T3 ∗ holds c arg4 arg5 arg6 arg7 arg8 arg9 arg10 x ∗ leaves c arg11 arg12 arg13 (diag b x p11)) -∗ K ⟨⟩))
      ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K := by
  unfold tables holds leaves
  iintro ⟨⟨HT2, HT3⟩, ⟨H4, H5, H6, H7, H8, H9, H10⟩, H11, H12, H13, Hk⟩
  iapply ((runB c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11).2.2.2 E K)
  isplitl [HT2]; · iexact HT2
  isplitl [HT3]; · iexact HT3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HT2, HT3, H4, H5, H6, H7, H8, H9, H10, H11, ⟨%g12, H12⟩, ⟨%g13, H13⟩⟩
  iapply Hk
  isplitl [HT2 HT3]
  · isplitl [HT2]; · iexact HT2
    iexact HT3
  isplitl [H4 H5 H6 H7 H8 H9 H10]
  · isplitl [H4]; · iexact H4
    isplitl [H5]; · iexact H5
    isplitl [H6]; · iexact H6
    isplitl [H7]; · iexact H7
    isplitl [H8]; · iexact H8
    isplitl [H9]; · iexact H9
    iexact H10
  isplitl [H11]
  · unfold owns; iexists _; isplitr
    swap; · iexact H11
    ipureintro; exact readB_dq c i arg4 harg4 arg5 harg5 arg6 harg6 arg7 harg7 arg8 harg8 arg9 harg9 arg10 harg10 arg11 harg11 arg12 harg12 arg13 harg13 T2 T3 hw x b ho h1 h2 h3 h4 p11
  isplitl [H12]
  · unfold owns; iexists _; isplitr
    swap; · iexact H12
    ipureintro; exact readB_dk c i arg4 harg4 arg5 harg5 arg6 harg6 arg7 harg7 arg8 harg8 arg9 harg9 arg10 harg10 arg11 harg11 arg12 harg12 arg13 harg13 T2 T3 hw x b ho h1 h2 h3 h4 p11 _
  unfold owns; iexists _; isplitr
  swap; · iexact H13
  ipureintro; exact readB_dv c i arg4 harg4 arg5 harg5 arg6 harg6 arg7 harg7 arg8 harg8 arg9 harg9 arg10 harg10 arg11 harg11 arg12 harg12 arg13 harg13 T2 T3 hw x b ho h1 h2 h3 h4 p11 _

include hw in
theorem readC_dq (ho : k0_off2 (rowWord T2 i) = ![1024 * b.val, 0]) (h1 : ¬k0_cond1 i = 1#1) (h2 : ¬k0_cond2 (rowWord T2 i) (keyWord T3 i) = 1#1) (h3 : k0_cond3 (rowWord T2 i) (keyWord T3 i) = 1#1) (h4 : ¬k0_cond4 (rowWord T2 i) (keyWord T3 i) = 1#1) (p11 : Vec F S8192x256 .f32) (p12 : Vec F S1024x256 .f32) (p13 : Vec F S1024x128 .f32) :
    arg11.view.read (Elt F) (arg11.view.writes (Elt F) (harg11.unread p11) (runC c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11 p12 p13).1) = (low b x ⟨p11, p12, p13⟩).dq := by
  unfold runC; dsimp only; sl_unfold_words
  refine (View.read_writes_cons_put _ _ _ _ _ ho).trans ?_
  simp only [View.readAt_eq_ld, Memref.IsWhole.read_unread, View.ld_unit_zero (S := S1024x256) hz2, View.ld_unit_zero (S := S1024x128) hz2, read_unread_whole]
  simp only [View.writes_nil, Memref.IsWhole.read_unread]
  unfold low onRows
  dsimp only
  congr 1
  unfold Tiles.lowDq
  congr 1
  exact ld_rows _ _ ho _

include hw in
theorem readC_dk (ho : k0_off2 (rowWord T2 i) = ![1024 * b.val, 0]) (h1 : ¬k0_cond1 i = 1#1) (h2 : ¬k0_cond2 (rowWord T2 i) (keyWord T3 i) = 1#1) (h3 : k0_cond3 (rowWord T2 i) (keyWord T3 i) = 1#1) (h4 : ¬k0_cond4 (rowWord T2 i) (keyWord T3 i) = 1#1) (p11 : Vec F S8192x256 .f32) (p12 : Vec F S1024x256 .f32) (p13 : Vec F S1024x128 .f32) (g : arg12.view.ty.Contents (Elt F)) :
    arg12.view.read (Elt F) (arg12.view.writes (Elt F) g (runC c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11 p12 p13).2.1) = (low b x ⟨p11, p12, p13⟩).dk := by
  unfold runC; dsimp only; sl_unfold_words
  simp only [View.readAt_eq_ld, Memref.IsWhole.read_unread, View.ld_unit_zero (S := S1024x256) hz2, View.ld_unit_zero (S := S1024x128) hz2, read_unread_whole]
  exact View.read_writes_full _ _ _ _ _

include hw in
theorem readC_dv (ho : k0_off2 (rowWord T2 i) = ![1024 * b.val, 0]) (h1 : ¬k0_cond1 i = 1#1) (h2 : ¬k0_cond2 (rowWord T2 i) (keyWord T3 i) = 1#1) (h3 : k0_cond3 (rowWord T2 i) (keyWord T3 i) = 1#1) (h4 : ¬k0_cond4 (rowWord T2 i) (keyWord T3 i) = 1#1) (p11 : Vec F S8192x256 .f32) (p12 : Vec F S1024x256 .f32) (p13 : Vec F S1024x128 .f32) (g : arg13.view.ty.Contents (Elt F)) :
    arg13.view.read (Elt F) (arg13.view.writes (Elt F) g (runC c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11 p12 p13).2.2.1) = (low b x ⟨p11, p12, p13⟩).dv := by
  unfold runC; dsimp only; sl_unfold_words
  simp only [View.readAt_eq_ld, Memref.IsWhole.read_unread, View.ld_unit_zero (S := S1024x256) hz2, View.ld_unit_zero (S := S1024x128) hz2, read_unread_whole]
  exact View.read_writes_full _ _ _ _ _

include hw in
/-- A tile below the diagonal. -/
theorem pointC (ho : k0_off2 (rowWord T2 i) = ![1024 * b.val, 0]) (h1 : ¬k0_cond1 i = 1#1) (h2 : ¬k0_cond2 (rowWord T2 i) (keyWord T3 i) = 1#1) (h3 : k0_cond3 (rowWord T2 i) (keyWord T3 i) = 1#1) (h4 : ¬k0_cond4 (rowWord T2 i) (keyWord T3 i) = 1#1) (p11 : Vec F S8192x256 .f32) (p12 : Vec F S1024x256 .f32) (p13 : Vec F S1024x128 .f32) (E : Set ℕ) (K : PUnit → sProp 𝕄) :
    iprop(tables c T2 T3 ∗ holds c arg4 arg5 arg6 arg7 arg8 arg9 arg10 x ∗ owns (c : Thread nD τ) arg11 fullShare p11 ∗ owns (c : Thread nD τ) arg12 fullShare p12 ∗ owns (c : Thread nD τ) arg13 fullShare p13
        ∗ (iprop(tables c T2 T3 ∗ holds c arg4 arg5 arg6 arg7 arg8 arg9 arg10 x ∗ leaves c arg11 arg12 arg13 (low b x ⟨p11, p12, p13⟩)) -∗ K ⟨⟩))
      ⊢ wp frame (wpE (defs₀ (F := F)) Variants.none c none) E (cc0_attn_core_bwd_0 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13) K := by
  unfold tables holds leaves
  iintro ⟨⟨HT2, HT3⟩, ⟨H4, H5, H6, H7, H8, H9, H10⟩, H11, H12, H13, Hk⟩
  iapply ((runC c i arg4 harg4 arg5 harg5 arg6 harg6 arg7 harg7 arg8 harg8 arg9 harg9 arg10 harg10 arg11 harg11 arg12 harg12 arg13 harg13 T2 T3 hw h1 h2 h3 h4 x.q x.k x.v x.f x.o x.lse x.delta p11 p12 p13).2.2.2 E K)
  isplitl [HT2]; · iexact HT2
  isplitl [HT3]; · iexact HT3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨HT2, HT3, H4, H5, H6, H7, H8, H9, H10, H11, ⟨%g12, H12⟩, ⟨%g13, H13⟩⟩
  iapply Hk
  isplitl [HT2 HT3]
  · isplitl [HT2]; · iexact HT2
    iexact HT3
  isplitl [H4 H5 H6 H7 H8 H9 H10]
  · isplitl [H4]; · iexact H4
    isplitl [H5]; · iexact H5
    isplitl [H6]; · iexact H6
    isplitl [H7]; · iexact H7
    isplitl [H8]; · iexact H8
    isplitl [H9]; · iexact H9
    iexact H10
  isplitl [H11]
  · unfold owns; iexists _; isplitr
    swap; · iexact H11
    ipureintro; exact readC_dq c i arg4 harg4 arg5 harg5 arg6 harg6 arg7 harg7 arg8 harg8 arg9 harg9 arg10 harg10 arg11 harg11 arg12 harg12 arg13 harg13 T2 T3 hw x b ho h1 h2 h3 h4 p11 p12 p13
  isplitl [H12]
  · unfold owns; iexists _; isplitr
    swap; · iexact H12
    ipureintro; exact readC_dk c i arg4 harg4 arg5 harg5 arg6 harg6 arg7 harg7 arg8 harg8 arg9 harg9 arg10 harg10 arg11 harg11 arg12 harg12 arg13 harg13 T2 T3 hw x b ho h1 h2 h3 h4 p11 p12 p13 _
  unfold owns; iexists _; isplitr
  swap; · iexact H13
  ipureintro; exact readC_dv c i arg4 harg4 arg5 harg5 arg6 harg6 arg7 harg7 arg8 harg8 arg9 harg9 arg10 harg10 arg11 harg11 arg12 harg12 arg13 harg13 T2 T3 hw x b ho h1 h2 h3 h4 p11 p12 p13 _

end Cert.AttnBwdIdeal.Flash

end
-- ==== Proof.FlashTile.lean ====
/-
  What one tile of the walk adds, read over the extended reals: the sums over a tile's queries or keys of the
  gradient's entries, at every head, row and column.
-/
module

public import proofs.«01_k».proof.Proof.FlashPoint
public import proofs.«01_k».proof.Proof.Reals
public import Idealize.ShloMosaic.Lib.Pointwise
public import Idealize.ShloMosaic.PureOps.Ideal

@[expose] public section

set_option maxRecDepth 16384

noncomputable section

namespace Cert.AttnBwdIdeal.Flash

open Idealize.ShloMosaic Idealize.ShloMosaic.TcCoe
open Cert.AttnBwdIdeal.Gen Cert.Reals

/-- The operands of the backward pass as reals: the slotted queries, keys and values (row, column), the decay of a
key (row, head), the cotangent (row, column), the log-sum and the row sum of a query (head, row). -/
structure Data where
  q : ℕ → ℕ → ℝ
  k : ℕ → ℕ → ℝ
  v : ℕ → ℕ → ℝ
  f : ℕ → ℕ → ℝ
  o : ℕ → ℕ → ℝ
  lse : ℕ → ℕ → ℝ
  delta : ℕ → ℕ → ℝ

namespace Data

variable (A : Data)

/-- The exponential of head `e`, key `R` and query `T`, the mask left out. -/
def expo (e R T : ℕ) : ℝ := Real.rpow 2 (∑ l : Fin 128, A.k R (128 * e + l) * A.q T (128 * e + l) - A.f R e - A.lse e T)
/-- A key weighs for the queries from its own position on. -/
def prob (e R T : ℕ) : ℝ := if R ≤ T then A.expo e R T else 0
/-- The difference that the softmax's gradient multiplies a weight with. -/
def diff (e R T : ℕ) : ℝ := ∑ c : Fin 64, A.v R (128 * e + c) * A.o T (64 * e + c) - A.delta e T
/-- The gradient in the score. -/
def ds (e R T : ℕ) : ℝ := A.prob e R T * A.diff e R T

theorem prob_of_lt {e R T : ℕ} (h : T < R) : A.prob e R T = 0 := if_neg (by omega)
theorem ds_of_lt {e R T : ℕ} (h : T < R) : A.ds e R T = 0 := by rw [ds, A.prob_of_lt h, zero_mul]

end Data

/-- One head's operands at query tile `i` and key tile `j`. -/
structure Head (A : Data) (i j e : ℕ) (q k : Vec Ideal S1024x128 .bf16) (v o : Vec Ideal S1024x64 .bf16) (f : Vec Ideal S1024x128 .f32)
    (l d : Vec Ideal S1x1x1024 .f32) : Prop where
  q : ∀ r x, q (ix2 r x) = (A.q (1024 * i + r) (128 * e + x) : EReal)
  k : ∀ r x, k (ix2 r x) = (A.k (1024 * j + r) (128 * e + x) : EReal)
  v : ∀ r x, v (ix2 r x) = (A.v (1024 * j + r) (128 * e + x) : EReal)
  o : ∀ r x, o (ix2 r x) = (A.o (1024 * i + r) (64 * e + x) : EReal)
  f : ∀ r x, f (ix2 r x) = (A.f (1024 * j + r) e : EReal)
  l : ∀ t, l (ix3 0 0 t) = (A.lse e (1024 * i + t) : EReal)
  d : ∀ t, d (ix3 0 0 t) = (A.delta e (1024 * i + t) : EReal)

section Entries

variable {A : Data} {i j e : ℕ} {q k : Vec Ideal S1024x128 .bf16} {v o : Vec Ideal S1024x64 .bf16} {f : Vec Ideal S1024x128 .f32}
  {l d : Vec Ideal S1x1x1024 .f32} (H : Head A i j e q k v o f l d) (r t : Fin 1024)

/-- The comparison of two small positions as words. -/
theorem keep_iff (r t : Fin 1024) :
    IntOp.cmpi CmpIPredicate.sge (BitVec.ofNat 32 t.val) (BitVec.ofNat 32 r.val) = if r.val ≤ t.val then 1#1 else 0#1 := by
  have hr := r.isLt
  have ht := t.isLt
  have e : ∀ n : ℕ, n < 1024 → (BitVec.ofNat 32 n).toInt = n := fun n hn => by
    rw [BitVec.toInt_eq_toNat_of_lt (by rw [BitVec.toNat_ofNat]; omega), BitVec.toNat_ofNat]; omega
  simp only [IntOp.cmpi, BitVec.sle, e _ hr, e _ ht]
  by_cases h : r.val ≤ t.val <;> simp [h]

include H

theorem low_prob (h : j < i) : k0_pay10 (F := Ideal) q k f l (ix2 r t) = (A.prob e (1024 * j + r) (1024 * i + t) : EReal) := by
  have := r.isLt
  rw [Data.prob, if_pos (by omega)]
  pointwise [k0_pay10, k0_pay7, k0_pay8]
  simp only [H.q, H.k, H.f, H.l, dite_eq_ite, ite_self, ← EReal.coe_mul, ← coe_sum, ← EReal.coe_sub]
  rfl

theorem low_prob' (h : j < i) : k0_pay18 (F := Ideal) (k0_pay15 q) (k0_pay16 k) f l (ix2 r t) = (A.prob e (1024 * j + r) (1024 * i + t) : EReal) := by
  have := r.isLt
  rw [Data.prob, if_pos (by omega)]
  pointwise [k0_pay18, k0_pay15, k0_pay16]
  simp only [H.q, H.k, H.f, H.l, dite_eq_ite, ite_self, ← EReal.coe_mul, ← coe_sum, ← EReal.coe_sub]
  rfl

theorem low_ds (h : j < i) : k0_pay11 (F := Ideal) q k v o f l d (ix2 r t) = (A.ds e (1024 * j + r) (1024 * i + t) : EReal) := by
  pointwise [k0_pay11, k0_pay9]
  rw [low_prob H r t h]
  simp only [H.v, H.o, H.d, ← EReal.coe_mul, ← coe_sum, ← EReal.coe_sub]
  rfl

theorem low_ds' (h : j < i) :
    k0_pay19 (F := Ideal) (k0_pay15 q) (k0_pay16 k) v o f l d (ix2 r t) = (A.ds e (1024 * j + r) (1024 * i + t) : EReal) := by
  pointwise [k0_pay19, k0_pay17]
  rw [low_prob' H r t h]
  simp only [H.v, H.o, H.d, ← EReal.coe_mul, ← coe_sum, ← EReal.coe_sub]
  rfl

theorem diag_prob (hij : i = j) : k0_pay26 (F := Ideal) q k f l (ix2 r t) = (A.prob e (1024 * j + r) (1024 * i + t) : EReal) := by
  rw [Data.prob]
  pointwise [k0_pay26, k0_pay23, k0_pay24]
  simp only [keep_iff, H.q, H.k, H.f, H.l, dite_eq_ite, ite_self, ← EReal.coe_mul, ← coe_sum, ← EReal.coe_sub]
  by_cases h : r.val ≤ t.val
  · rw [if_pos h, if_pos (by omega)]; rfl
  · rw [if_neg h, if_neg (by omega)]; rfl

theorem diag_prob' (hij : i = j) : k0_pay34 (F := Ideal) (k0_pay31 q) k f l (ix2 r t) = (A.prob e (1024 * j + r) (1024 * i + t) : EReal) := by
  rw [Data.prob]
  pointwise [k0_pay34, k0_pay31, k0_pay32]
  simp only [keep_iff, H.q, H.k, H.f, H.l, dite_eq_ite, ite_self, ← EReal.coe_mul, ← coe_sum, ← EReal.coe_sub]
  by_cases h : r.val ≤ t.val
  · rw [if_pos h, if_pos (by omega)]; rfl
  · rw [if_neg h, if_neg (by omega)]; rfl

theorem diag_ds (hij : i = j) : k0_pay27 (F := Ideal) q k v o f l d (ix2 r t) = (A.ds e (1024 * j + r) (1024 * i + t) : EReal) := by
  pointwise [k0_pay27, k0_pay25]
  rw [diag_prob H r t hij]
  simp only [H.v, H.o, H.d, ← EReal.coe_mul, ← coe_sum, ← EReal.coe_sub]
  rfl

theorem diag_ds' (hij : i = j) :
    k0_pay35 (F := Ideal) (k0_pay31 q) k v o f l d (ix2 r t) = (A.ds e (1024 * j + r) (1024 * i + t) : EReal) := by
  pointwise [k0_pay35, k0_pay33]
  rw [diag_prob' H r t hij]
  simp only [H.v, H.o, H.d, ← EReal.coe_mul, ← coe_sum, ← EReal.coe_sub]
  rfl

end Entries

/-! ## The three sums of one head over one tile -/

namespace Data
variable (A : Data) (e i j : ℕ)

/-- What a tile adds to a query's gradient. -/
def tileQ (t l : ℕ) : ℝ := ∑ r : Fin 1024, A.ds e (1024 * j + r) (1024 * i + t) * A.k (1024 * j + r) (128 * e + l)
/-- What a tile adds to a key's gradient. -/
def tileK (r l : ℕ) : ℝ := ∑ t : Fin 1024, A.ds e (1024 * j + r) (1024 * i + t) * A.q (1024 * i + t) (128 * e + l)
/-- What a tile adds to a value's gradient. -/
def tileV (r c : ℕ) : ℝ := ∑ t : Fin 1024, A.prob e (1024 * j + r) (1024 * i + t) * A.o (1024 * i + t) (64 * e + c)

end Data

section Sums

variable {A : Data} {i j e : ℕ} {q k : Vec Ideal S1024x128 .bf16} {v o : Vec Ideal S1024x64 .bf16} {f : Vec Ideal S1024x128 .f32}
  {l d : Vec Ideal S1x1x1024 .f32} (H : Head A i j e q k v o f l d) (r : Fin 1024) (x : Fin 128) (z : Fin 64)

include H

theorem low_v (h : j < i) : k0_pay12 (F := Ideal) q k o f l (ix2 r z) = (A.tileV e i j r z : EReal) := by
  pointwise [k0_pay12, k0_pay9]
  simp only [low_prob H _ _ h, H.o, ← EReal.coe_mul, ← coe_sum]
  rfl
theorem low_k (h : j < i) : k0_pay13 (F := Ideal) q k v o f l d (ix2 r x) = (A.tileK e i j r x : EReal) := by
  pointwise [k0_pay13, k0_pay7]
  simp only [low_ds H _ _ h, H.q, ← EReal.coe_mul, ← coe_sum]
  rfl
theorem low_q (h : j < i) : k0_pay14 (F := Ideal) q k v o f l d (ix2 r x) = (A.tileQ e i j r x : EReal) := by
  pointwise [k0_pay14, k0_pay8]
  simp only [low_ds H _ _ h, H.k, ← EReal.coe_mul, ← coe_sum]
  rfl
theorem low_q' (h : j < i) : k0_pay20 (F := Ideal) (k0_pay15 q) (k0_pay16 k) v o f l d (ix2 r x) = (A.tileQ e i j r x : EReal) := by
  pointwise [k0_pay20]
  simp only [low_ds' H _ _ h, ← EReal.coe_mul, ← coe_sum]
  pointwise [k0_pay16]
  simp only [H.k, ← EReal.coe_mul, ← coe_sum]
  rfl
theorem diag_v (h : i = j) : k0_pay28 (F := Ideal) q k o f l (ix2 r z) = (A.tileV e i j r z : EReal) := by
  pointwise [k0_pay28, k0_pay25]
  simp only [diag_prob H _ _ h, H.o, ← EReal.coe_mul, ← coe_sum]
  rfl
theorem diag_k (h : i = j) : k0_pay29 (F := Ideal) q k v o f l d (ix2 r x) = (A.tileK e i j r x : EReal) := by
  pointwise [k0_pay29, k0_pay23]
  simp only [diag_ds H _ _ h, H.q, ← EReal.coe_mul, ← coe_sum]
  rfl
theorem diag_q (h : i = j) : k0_pay30 (F := Ideal) q k v o f l d (ix2 r x) = (A.tileQ e i j r x : EReal) := by
  pointwise [k0_pay30, k0_pay24]
  simp only [diag_ds H _ _ h, H.k, ← EReal.coe_mul, ← coe_sum]
  rfl
theorem diag_k' (h : i = j) : k0_pay36 (F := Ideal) (k0_pay31 q) k v o f l d (ix2 r x) = (A.tileK e i j r x : EReal) := by
  pointwise [k0_pay36]
  simp only [diag_ds' H _ _ h]
  pointwise [k0_pay31]
  simp only [H.q, ← EReal.coe_mul, ← coe_sum]
  rfl
theorem diag_q' (h : i = j) : k0_pay37 (F := Ideal) (k0_pay31 q) k v o f l d (ix2 r x) = (A.tileQ e i j r x : EReal) := by
  pointwise [k0_pay37, k0_pay32]
  simp only [diag_ds' H _ _ h, H.k, ← EReal.coe_mul, ← coe_sum]
  rfl

end Sums

/-! ## Both heads of a pair -/

/-- The tiles of head pair `p` at query tile `i` and key tile `j`. -/
structure Holds (A : Data) (i j p : ℕ) (x : Tiles Ideal) : Prop where
  q : ∀ r c, x.q (ix2 r c) = (A.q (1024 * i + r) (256 * p + c) : EReal)
  k : ∀ r c, x.k (ix2 r c) = (A.k (1024 * j + r) (256 * p + c) : EReal)
  v : ∀ r c, x.v (ix2 r c) = (A.v (1024 * j + r) (256 * p + c) : EReal)
  f : ∀ r (c : Fin 256), x.f (ix2 r c) = (A.f (1024 * j + r) (2 * p + c / 128) : EReal)
  o : ∀ r c, x.o (ix2 r c) = (A.o (1024 * i + r) (128 * p + c) : EReal)
  l : ∀ (b : Fin 2) t, x.lse (ix3 0 b t) = (A.lse (2 * p + b) (1024 * i + t) : EReal)
  d : ∀ (b : Fin 2) t, x.delta (ix3 0 b t) = (A.delta (2 * p + b) (1024 * i + t) : EReal)

/-- Of two heads' columns the left ones and the right ones. -/
theorem halves {n : ℕ} (hn : 0 < n) (g : ℕ → ℕ → ℝ) (p c : ℕ) (hc : c < 2 * n) :
    (if _ : c < n then ((g (2 * p) c : ℝ) : EReal) else ((g (2 * p + 1) (c - n) : ℝ) : EReal)) = ((g (2 * p + c / n) (c % n) : ℝ) : EReal) := by
  split
  · rename_i h; rw [Nat.div_eq_of_lt h, Nat.mod_eq_of_lt h]; rfl
  · rename_i h
    have h1 : c / n = 1 := by rw [Nat.div_eq_iff hn]; omega
    have h2 : c % n = c - n := by have := Nat.mod_add_div c n; rw [h1] at this; omega
    rw [h1, h2]

section Pair

variable {A : Data} {i j p : ℕ} {x : Tiles Ideal} (H : Holds A i j p x)

include H

theorem Holds.head0 : Head A i j (2 * p) x.q0 x.k0 x.v0 x.o0 x.f0 x.lse0 x.delta0 where
  q r c := by pointwise [Tiles.q0]; rw [H.q]; congr 2; show _ + c.val = _; omega
  k r c := by pointwise [Tiles.k0]; rw [H.k]; congr 2; show _ + c.val = _; omega
  v r c := by pointwise [Tiles.v0]; rw [H.v]; congr 2; show _ + c.val = _; omega
  o r c := by pointwise [Tiles.o0]; rw [H.o]; congr 2; show _ + c.val = _; omega
  f r c := by pointwise [Tiles.f0]; rw [H.f]; congr 2; have := c.isLt; show _ + c.val / 128 = _; omega
  l t := by pointwise [Tiles.lse0]; rw [H.l]; rfl
  d t := by pointwise [Tiles.delta0]; rw [H.d]; rfl

theorem Holds.head1 : Head A i j (2 * p + 1) x.q1 x.k1 x.v1 x.o1 x.f1 x.lse1 x.delta1 where
  q r c := by pointwise [Tiles.q1]; rw [H.q]; congr 2; show _ + (128 + c.val) = _; omega
  k r c := by pointwise [Tiles.k1]; rw [H.k]; congr 2; show _ + (128 + c.val) = _; omega
  v r c := by pointwise [Tiles.v1]; rw [H.v]; congr 2; show _ + (128 + c.val) = _; omega
  o r c := by pointwise [Tiles.o1]; rw [H.o]; congr 2; show _ + (64 + c.val) = _; omega
  f r c := by pointwise [Tiles.f1]; rw [H.f]; congr 2; have := c.isLt; show _ + (128 + c.val) / 128 = _; omega
  l t := by pointwise [Tiles.lse1]; rw [H.l]; rfl
  d t := by pointwise [Tiles.delta1]; rw [H.d]; rfl

variable (r : Fin 1024) (c : Fin 256) (z : Fin 128)

theorem lowDq_apply (h : j < i) (old : Vec Ideal S1024x256 .f32) :
    x.lowDq old (ix2 r c) = old (ix2 r c) + (A.tileQ (2 * p + c / 128) i j r (c % 128) : EReal) := by
  pointwise [Tiles.lowDq, k0_pay4]
  simp only [low_q H.head0 _ _ h, low_q' H.head1 _ _ h]
  congr 1
  exact halves (by norm_num) (fun e l => A.tileQ e i j r l) p c c.isLt
theorem lowDk_apply (h : j < i) (old : Vec Ideal S1024x256 .f32) :
    x.lowDk old (ix2 r c) = old (ix2 r c) + (A.tileK (2 * p + c / 128) i j r (c % 128) : EReal) := by
  pointwise [Tiles.lowDk, k0_pay22]
  simp only [low_k H.head0 _ _ h, low_ds' H.head1 _ _ h]
  pointwise [k0_pay15]
  simp only [H.head1.q, ← EReal.coe_mul, ← coe_sum]
  congr 1
  exact halves (by norm_num) (fun e l => A.tileK e i j r l) p c c.isLt
theorem lowDv_apply (h : j < i) (old : Vec Ideal S1024x128 .f32) :
    x.lowDv old (ix2 r z) = old (ix2 r z) + (A.tileV (2 * p + z / 64) i j r (z % 64) : EReal) := by
  pointwise [Tiles.lowDv, k0_pay21, k0_pay17]
  simp only [low_v H.head0 _ _ h, low_prob' H.head1 _ _ h, H.head1.o, ← EReal.coe_mul, ← coe_sum]
  congr 1
  exact halves (by norm_num) (fun e l => A.tileV e i j r l) p z z.isLt
theorem diagDq_apply (h : i = j) (old : Vec Ideal S1024x256 .f32) :
    x.diagDq old (ix2 r c) = old (ix2 r c) + (A.tileQ (2 * p + c / 128) i j r (c % 128) : EReal) := by
  pointwise [Tiles.diagDq, k0_pay6]
  simp only [diag_q H.head0 _ _ h, diag_q' H.head1 _ _ h]
  congr 1
  exact halves (by norm_num) (fun e l => A.tileQ e i j r l) p c c.isLt
theorem diagDk_apply (h : i = j) (old : Vec Ideal S1024x256 .f32) :
    x.diagDk old (ix2 r c) = old (ix2 r c) + (A.tileK (2 * p + c / 128) i j r (c % 128) : EReal) := by
  pointwise [Tiles.diagDk, k0_pay5]
  simp only [diag_k H.head0 _ _ h, diag_k' H.head1 _ _ h]
  congr 1
  exact halves (by norm_num) (fun e l => A.tileK e i j r l) p c c.isLt
theorem diagDv_apply (h : i = j) (old : Vec Ideal S1024x128 .f32) :
    x.diagDv old (ix2 r z) = old (ix2 r z) + (A.tileV (2 * p + z / 64) i j r (z % 64) : EReal) := by
  pointwise [Tiles.diagDv, k0_pay38, k0_pay33]
  simp only [diag_v H.head0 _ _ h, diag_prob' H.head1 _ _ h, H.head1.o, ← EReal.coe_mul, ← coe_sum]
  congr 1
  exact halves (by norm_num) (fun e l => A.tileV e i j r l) p z z.isLt

end Pair

end Cert.AttnBwdIdeal.Flash
end
-- ==== Proof.FlashSched.lean ====
module

public import proofs.«01_k».proof.Proof.FlashPoint
public import Idealize.ShloMosaic.Lib.Pipeline.TableIdle
public import Idealize.ShloMosaic.PureOps.Ideal

/-! The walk of the attention-gradient kernel: per pair of heads the 36 tiles on and below the diagonal,
    key tile by key tile, as the two tables list them. -/

@[expose] public section

set_option maxRecDepth 16384

noncomputable section

namespace Cert.AttnBwdIdeal.Flash

open Idealize.ShloMosaic Idealize.ShloMosaic.TcCoe
open Idealize.SL Idealize.SL.RA Idealize.SL.BI
open Idealize.ShloMosaic.Pipeline (Dat Cfg Window)
open Cert.AttnBwdIdeal.Gen

variable {F : FTy → Type} [FloatOps F]

/-- What the two tables hold. -/
def rowTab : Vec F S36 .i32 := fun i => lit0 (S36.rowMajor i)
def keyTab : Vec F S36 .i32 := fun i => lit1 (S36.rowMajor i)

/-- The tables' contents. -/
def tabs : pre0.Contents (Elt F) := fun
  | 0 => rowTab
  | 1 => keyTab
  | ⟨_ + 2, h⟩ => absurd h (Nat.not_lt.2 (Nat.le_add_left _ _))

/-- Every tile listed lies inside the arrays. -/
theorem ok_tabs_ideal : ok0 (F := Ideal) tabs := by decide +kernel
theorem ok_tabs : ok0 (F := F) tabs := ok_tabs_ideal

/-- The tables' contents, admissible. -/
def adm : (pcfg0 (F := F)).Adm := ⟨tabs, ok_tabs⟩

/-- The pipeline at these tables. -/
abbrev cfgT : Cfg sig Λ₀ := cfg0 (F := F) adm

/-- The query tile and the key tile of point `t`. -/
def rowOf (t : Fin 288) : Fin 8 := ⟨(lit0 ⟨t.val % 36, Nat.mod_lt _ (by decide)⟩).toNat % 8, Nat.mod_lt _ (by decide)⟩
def keyOf (t : Fin 288) : Fin 8 := ⟨(lit1 ⟨t.val % 36, Nat.mod_lt _ (by decide)⟩).toNat % 8, Nat.mod_lt _ (by decide)⟩

theorem words_chk_ideal : ∀ t : Fin 288, k0_chk1 (rowWord (F := Ideal) rowTab (grid0.coords t)) (keyWord (F := Ideal) keyTab (grid0.coords t)) := by decide +kernel
theorem words_chk : ∀ t : Fin 288, k0_chk1 (rowWord (F := F) rowTab (grid0.coords t)) (keyWord (F := F) keyTab (grid0.coords t)) := words_chk_ideal
theorem words_off2_ideal : ∀ t : Fin 288, k0_off2 (rowWord (F := Ideal) rowTab (grid0.coords t)) = ![1024 * (rowOf t).val, 0] := by decide +kernel
theorem words_off2 : ∀ t : Fin 288, k0_off2 (rowWord (F := F) rowTab (grid0.coords t)) = ![1024 * (rowOf t).val, 0] := words_off2_ideal
theorem words_off3_ideal : ∀ t : Fin 288, k0_off3 (rowWord (F := Ideal) rowTab (grid0.coords t)) = ![1024 * (rowOf t).val, 0] := by decide +kernel
theorem words_off3 : ∀ t : Fin 288, k0_off3 (rowWord (F := F) rowTab (grid0.coords t)) = ![1024 * (rowOf t).val, 0] := words_off3_ideal
theorem cond1_iff : ∀ t : Fin 288, k0_cond1 (grid0.coords t) = 1#1 ↔ t.val % 36 = 0 := by decide +kernel
theorem cond2_iff_ideal : ∀ t : Fin 288, k0_cond2 (rowWord (F := Ideal) rowTab (grid0.coords t)) (keyWord (F := Ideal) keyTab (grid0.coords t)) = 1#1 ↔ rowOf t = keyOf t := by decide +kernel
theorem cond2_iff : ∀ t : Fin 288, k0_cond2 (rowWord (F := F) rowTab (grid0.coords t)) (keyWord (F := F) keyTab (grid0.coords t)) = 1#1 ↔ rowOf t = keyOf t := cond2_iff_ideal
theorem cond3_iff_ideal : ∀ t : Fin 288, k0_cond3 (rowWord (F := Ideal) rowTab (grid0.coords t)) (keyWord (F := Ideal) keyTab (grid0.coords t)) = 1#1 ↔ rowOf t ≠ keyOf t := by decide +kernel
theorem cond3_iff : ∀ t : Fin 288, k0_cond3 (rowWord (F := F) rowTab (grid0.coords t)) (keyWord (F := F) keyTab (grid0.coords t)) = 1#1 ↔ rowOf t ≠ keyOf t := cond3_iff_ideal
theorem cond4_iff_ideal : ∀ t : Fin 288, k0_cond4 (rowWord (F := Ideal) rowTab (grid0.coords t)) (keyWord (F := Ideal) keyTab (grid0.coords t)) = 1#1 ↔ rowOf t = keyOf t := by decide +kernel
theorem cond4_iff : ∀ t : Fin 288, k0_cond4 (rowWord (F := F) rowTab (grid0.coords t)) (keyWord (F := F) keyTab (grid0.coords t)) = 1#1 ↔ rowOf t = keyOf t := cond4_iff_ideal
theorem first_diag : ∀ t : Fin 288, t.val % 36 = 0 → rowOf t = keyOf t := by decide +kernel

/-- No window is ever idle. -/
theorem never_idle_ideal : ∀ (w : Fin 10) (t : Fin 288), (cfgT (F := Ideal)).idle w (grid0.coords t) = false := by decide +kernel
theorem never_idle : ∀ (w : Fin 10) (t : Fin 288), (cfgT (F := F)).idle w (grid0.coords t) = false := never_idle_ideal

/-- The blocks of point `t`. -/
def at_q (t : Fin 288) : Fin 2 → ℕ := ((cfgT (F := Ideal)).win 0).index t
theorem place_q_ideal : ∀ t : Fin 288, at_q t = ![(rowOf t).val, t.val / 36] := by decide +kernel
theorem place_q : ∀ t : Fin 288, ((cfgT (F := F)).win 0).index t = ![(rowOf t).val, t.val / 36] := place_q_ideal
def at_k (t : Fin 288) : Fin 2 → ℕ := ((cfgT (F := Ideal)).win 1).index t
theorem place_k_ideal : ∀ t : Fin 288, at_k t = ![(keyOf t).val, t.val / 36] := by decide +kernel
theorem place_k : ∀ t : Fin 288, ((cfgT (F := F)).win 1).index t = ![(keyOf t).val, t.val / 36] := place_k_ideal
def at_v (t : Fin 288) : Fin 2 → ℕ := ((cfgT (F := Ideal)).win 2).index t
theorem place_v_ideal : ∀ t : Fin 288, at_v t = ![(keyOf t).val, t.val / 36] := by decide +kernel
theorem place_v : ∀ t : Fin 288, ((cfgT (F := F)).win 2).index t = ![(keyOf t).val, t.val / 36] := place_v_ideal
def at_f (t : Fin 288) : Fin 2 → ℕ := ((cfgT (F := Ideal)).win 3).index t
theorem place_f_ideal : ∀ t : Fin 288, at_f t = ![(keyOf t).val, t.val / 36] := by decide +kernel
theorem place_f : ∀ t : Fin 288, ((cfgT (F := F)).win 3).index t = ![(keyOf t).val, t.val / 36] := place_f_ideal
def at_o (t : Fin 288) : Fin 2 → ℕ := ((cfgT (F := Ideal)).win 4).index t
theorem place_o_ideal : ∀ t : Fin 288, at_o t = ![(rowOf t).val, t.val / 36] := by decide +kernel
theorem place_o : ∀ t : Fin 288, ((cfgT (F := F)).win 4).index t = ![(rowOf t).val, t.val / 36] := place_o_ideal
def at_lse (t : Fin 288) : Fin 3 → ℕ := ((cfgT (F := Ideal)).win 5).index t
theorem place_lse_ideal : ∀ t : Fin 288, at_lse t = ![t.val / 36, 0, (rowOf t).val] := by decide +kernel
theorem place_lse : ∀ t : Fin 288, ((cfgT (F := F)).win 5).index t = ![t.val / 36, 0, (rowOf t).val] := place_lse_ideal
def at_delta (t : Fin 288) : Fin 3 → ℕ := ((cfgT (F := Ideal)).win 6).index t
theorem place_delta_ideal : ∀ t : Fin 288, at_delta t = ![t.val / 36, 0, (rowOf t).val] := by decide +kernel
theorem place_delta : ∀ t : Fin 288, ((cfgT (F := F)).win 6).index t = ![t.val / 36, 0, (rowOf t).val] := place_delta_ideal
def at_dq (t : Fin 288) : Fin 2 → ℕ := ((cfgT (F := Ideal)).win 7).index t
theorem place_dq_ideal : ∀ t : Fin 288, at_dq t = ![0, t.val / 36] := by decide +kernel
theorem place_dq : ∀ t : Fin 288, ((cfgT (F := F)).win 7).index t = ![0, t.val / 36] := place_dq_ideal
def at_dk (t : Fin 288) : Fin 2 → ℕ := ((cfgT (F := Ideal)).win 8).index t
theorem place_dk_ideal : ∀ t : Fin 288, at_dk t = ![(keyOf t).val, t.val / 36] := by decide +kernel
theorem place_dk : ∀ t : Fin 288, ((cfgT (F := F)).win 8).index t = ![(keyOf t).val, t.val / 36] := place_dk_ideal
def at_dv (t : Fin 288) : Fin 2 → ℕ := ((cfgT (F := Ideal)).win 9).index t
theorem place_dv_ideal : ∀ t : Fin 288, at_dv t = ![(keyOf t).val, t.val / 36] := by decide +kernel
theorem place_dv : ∀ t : Fin 288, ((cfgT (F := F)).win 9).index t = ![(keyOf t).val, t.val / 36] := place_dv_ideal

/-- The query output is written back after a head pair's last tile, the key outputs after a key tile's last. -/
def flushes_dq (t : Fin 288) : Bool := ((cfgT (F := Ideal)).win 7).flushF t
theorem flush_dq_ideal : ∀ t : Fin 288, flushes_dq t = decide (t.val % 36 = 35) := by decide +kernel
theorem flush_dq (t : Fin 288) : ((cfgT (F := F)).win 7).flush t = decide (t.val % 36 = 35) :=
  (((cfgT (F := F)).win 7).flush_eq_flushF t).trans (flush_dq_ideal t)
def flushes_dk (t : Fin 288) : Bool := ((cfgT (F := Ideal)).win 8).flushF t
theorem flush_dk_ideal : ∀ t : Fin 288, flushes_dk t = decide ((rowOf t).val = 7) := by decide +kernel
theorem flush_dk (t : Fin 288) : ((cfgT (F := F)).win 8).flush t = decide ((rowOf t).val = 7) :=
  (((cfgT (F := F)).win 8).flush_eq_flushF t).trans (flush_dk_ideal t)
def flushes_dv (t : Fin 288) : Bool := ((cfgT (F := Ideal)).win 9).flushF t
theorem flush_dv_ideal : ∀ t : Fin 288, flushes_dv t = decide ((rowOf t).val = 7) := by decide +kernel
theorem flush_dv (t : Fin 288) : ((cfgT (F := F)).win 9).flush t = decide ((rowOf t).val = 7) :=
  (((cfgT (F := F)).win 9).flush_eq_flushF t).trans (flush_dv_ideal t)

/-- A tile on the diagonal past a head pair's first follows a key tile's last. -/
theorem diag_after : ∀ t : Fin 288, t.val ≠ 0 → rowOf t = keyOf t → (rowOf ⟨t.val - 1, by omega⟩).val = 7 := by decide +kernel
theorem low_after : ∀ t : Fin 288, rowOf t ≠ keyOf t → (rowOf ⟨t.val - 1, by omega⟩).val ≠ 7 := by decide +kernel

end Cert.AttnBwdIdeal.Flash

end
-- ==== Proof.FlashFrame.lean ====
module

public import proofs.«01_k».proof.Proof.FlashSched
public import proofs.«01_k».proof.Proof.Gen.AttnBwdIdeal.Launch
public import Idealize.ShloMosaic.Lib.Pipeline.FrameSuffix
public import Idealize.ShloMosaic.Lib.Pipeline.FrameBody

/-! The run of the attention-gradient program: the host lines before the call, the call's 288 points with what each
    output's buffer holds after each of them, and the host lines after it. It holds over any values, so both frames
    come from it. -/

@[expose] public section

set_option maxRecDepth 16384

noncomputable section

namespace Cert.AttnBwdIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- The host lines before the call. -/
abbrev before : List (List (HloOp τ sig (Elt F))) := [hostOps0, hostOps0_1, hostOps0_2, hostOps0_3, hostOps0_4, hostOps0_5, hostOps0_6, hostOps0_7, hostOps0_8]

/-- What the buffers hold when the call begins. -/
def V0 (c : Dev nD) : Valuation τ sig (Elt F) := StableHlo.after (List.flatten before) (fun b => m (c, b))
abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem before_fresh : (before (F := F)).Forall fun ops => ops.Forall fun op => op.fresh = ∅ := by
  simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main before [hostOps1] before_sub before_fresh main_chain

theorem tail_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl
  all_goals intro k; fin_cases k <;> simp only [StableHlo.unary_bufs, StableHlo.binary_bufs, StableHlo.reshape_bufs, Finset.mem_insert, Finset.mem_singleton, not_or]
  all_goals repeat' apply And.intro
  all_goals exact StableHlo.devRef_ne_of_ne (by decide)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- An argument no line before the call writes is found as launched. -/
theorem V_arg (b : Ref sig .tc) (hb : b = main_arg0 ∨ b = main_arg1 ∨ b = main_arg2 ∨ b = main_arg3 ∨ b = main_arg4) (c : Dev nD) :
    V m c b = m ((c : Thread nD τ).loc b) :=
  StableHlo.after_of_forall_not_mem (b := Proc.devRef .tc b) _ _ (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl | rfl
    all_goals repeat' apply And.intro
    all_goals exact StableHlo.devRef_ne_of_ne (by decide)))

theorem after_app (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The call finds the two tables as the first two lines wrote them. -/
theorem V_tab (k : Fin pre0.K) (c : Dev nD) : V0 m c (Proc.devRef .tc (pre0.ref k)) = tabs k := by
  have h := StableHlo.after_of_forall_not_mem (b := Proc.devRef .tc (pre0.ref k)) (List.flatten (before (F := F)) |>.drop 2)
    (StableHlo.after (List.flatten (before (F := F)) |>.take 2) (fun b => m (c, b))) (List.forall_iff_forall_mem.mp (by
    simp only [before, hostOps0, hostOps0_1, hostOps0_2, hostOps0_3, hostOps0_4, hostOps0_5, hostOps0_6, hostOps0_7, hostOps0_8, List.flatten_cons, List.flatten_nil, List.append_nil, List.cons_append,
      List.nil_append, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
    fin_cases k
    all_goals repeat' apply And.intro
    all_goals exact StableHlo.devRef_ne_of_ne (by decide)))
  have hs : StableHlo.after (List.flatten (before (F := F)) |>.drop 2)
    (StableHlo.after (List.flatten (before (F := F)) |>.take 2) (fun b => m (c, b))) = V0 m c := by
    unfold V0; rw [← after_app, List.take_append_drop]
  rw [hs] at h
  rw [h]
  fin_cases k
  · show StableHlo.after [_, _] _ (Proc.devRef .tc main_c) = _
    after_results_simp
    rfl
  · show StableHlo.after [_, _] _ (Proc.devRef .tc main_c_0) = _
    after_results_simp
    rfl

/-! ## The points -/

/-- Window `w`'s block at point `t`. -/
def iblk (c : Dev nD) (w : Fin 10) (t : Fin 288) : (((cfgT (F := F)).win w).xblock (grid0.coords t)).Idx → Elt F ((cfgT (F := F)).win w).elt :=
  (((cfgT (F := F)).win w).blk t).view.read (Elt F) (V m c (Pipeline.arrRef spec0 w))

/-- The operand tiles of point `t`. -/
def tilesAt (c : Dev nD) (t : Fin 288) : Tiles F :=
  ⟨iblk m c 0 t, iblk m c 1 t, iblk m c 2 t, iblk m c 3 t, iblk m c 4 t, iblk m c 5 t, iblk m c 6 t⟩

/-- What a point leaves in the three output buffers, from what the one before left. -/
def step (c : Dev nD) (t : Fin 288) (s : Outs F) : Outs F :=
  if t.val % 36 = 0 then diag (rowOf t) (tilesAt m c t) k0_pay1
  else if rowOf t = keyOf t then diag (rowOf t) (tilesAt m c t) s.dq
  else low (rowOf t) (tilesAt m c t) s

/-- What the three output buffers hold after point `n`. -/
def outsAt (c : Dev nD) : (n : ℕ) → n < 288 → Outs F
  | 0, h => step m c ⟨0, h⟩ ⟨k0_pay1, k0_pay2, k0_pay3⟩
  | n + 1, h => step m c ⟨n + 1, h⟩ (outsAt c n (by omega))

theorem outsAt_pos (c : Dev nD) (t : Fin 288) (h : t.val ≠ 0) :
    outsAt m c t.val t.isLt = step m c t (outsAt m c (t.val - 1) (by omega)) := by
  obtain ⟨n, hn⟩ := t
  match n, hn, h with
  | n + 1, _, _ => rfl

theorem outsAt_first (c : Dev nD) (t : Fin 288) (h : t.val % 36 = 0) :
    outsAt m c t.val t.isLt = diag (rowOf t) (tilesAt m c t) k0_pay1 := by
  obtain ⟨n, hn⟩ := t
  match n, hn, h with
  | 0, _, h => unfold outsAt step; rw [if_pos h]
  | n + 1, _, h => unfold outsAt step; rw [if_pos h]

theorem outsAt_diag (c : Dev nD) (t : Fin 288) (h : t.val % 36 ≠ 0) (hd : rowOf t = keyOf t) :
    outsAt m c t.val t.isLt = diag (rowOf t) (tilesAt m c t) (outsAt m c (t.val - 1) (by omega)).dq := by
  rw [outsAt_pos m c t (fun h0 => h (by omega))]; unfold step; rw [if_neg h, if_pos hd]

theorem outsAt_low (c : Dev nD) (t : Fin 288) (h : t.val % 36 ≠ 0) (hd : rowOf t ≠ keyOf t) :
    outsAt m c t.val t.isLt = low (rowOf t) (tilesAt m c t) (outsAt m c (t.val - 1) (by omega)) := by
  rw [outsAt_pos m c t (fun h0 => h (by omega))]; unfold step; rw [if_neg h, if_neg hd]

/-- The proof data: every input's buffer keeps its block, the outputs' hold `outsAt`; the tables ride along. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).dq
    | ⟨8, _⟩ => (outsAt m c t.val t.isLt).dk
    | ⟨9, _⟩ => (outsAt m c t.val t.isLt).dv
    | ⟨_ + 10, h⟩ => absurd h (Nat.not_lt.2 (Nat.le_add_left _ _))
  Φ _ := iprop(Pipeline.ΦA spec0 c ∗ Pipeline.ΦT pre0 tabs c)
  q _ := fullShare
  owed _ := 0

theorem A_eq (c : Dev nD) (w : Fin 10) : (dats m 0 c).A w = V m c (Pipeline.arrRef spec0 w) := by dsimp only [dats]

theorem idle_false_ideal : ∀ (w : Fin 10) (i : grid0.Coords), (cfgT (F := Ideal)).idle w i = false := by decide +kernel
theorem idle_false : ∀ (w : Fin 10) (i : grid0.Coords), (cfgT (F := F)).idle w i = false := idle_false_ideal
theorem uncut (w : Fin 10) (i : grid0.Coords) (a) : ((cfgT (F := F)).win w).clip i a = none := by
  fin_cases w <;> rfl

theorem after_q (c : Dev nD) (t : Fin 288) : (dats m 0 c).after 0 t = iblk m c 0 t := rfl
theorem after_k (c : Dev nD) (t : Fin 288) : (dats m 0 c).after 1 t = iblk m c 1 t := rfl
theorem after_v (c : Dev nD) (t : Fin 288) : (dats m 0 c).after 2 t = iblk m c 2 t := rfl
theorem after_f (c : Dev nD) (t : Fin 288) : (dats m 0 c).after 3 t = iblk m c 3 t := rfl
theorem after_o (c : Dev nD) (t : Fin 288) : (dats m 0 c).after 4 t = iblk m c 4 t := rfl
theorem after_lse (c : Dev nD) (t : Fin 288) : (dats m 0 c).after 5 t = iblk m c 5 t := rfl
theorem after_delta (c : Dev nD) (t : Fin 288) : (dats m 0 c).after 6 t = iblk m c 6 t := rfl
theorem after_dq (c : Dev nD) (t : Fin 288) : (dats m 0 c).after 7 t = (outsAt m c t.val t.isLt).dq := rfl
theorem after_dk (c : Dev nD) (t : Fin 288) : (dats m 0 c).after 8 t = (outsAt m c t.val t.isLt).dk := rfl
theorem after_dv (c : Dev nD) (t : Fin 288) : (dats m 0 c).after 9 t = (outsAt m c t.val t.isLt).dv := rfl

theorem before_q (c : Dev nD) (t : Fin 288) (d) : (dats m 0 c).before 0 t d = iblk m c 0 t :=
  ((dats m 0 c).before_in_eq_fetched 0 rfl (idle_false 0) (fun _ _ _ => rfl) (fun t => by rw [show (dats m 0 c).after 0 t = iblk m c 0 t from after_q m c t]; unfold Dat.blockOf iblk; rw [A_eq]; try rfl) t d).trans
    (by unfold Dat.fetched Dat.blockOf iblk; rw [A_eq]; try rfl)
theorem before_k (c : Dev nD) (t : Fin 288) (d) : (dats m 0 c).before 1 t d = iblk m c 1 t :=
  ((dats m 0 c).before_in_eq_fetched 1 rfl (idle_false 1) (fun _ _ _ => rfl) (fun t => by rw [show (dats m 0 c).after 1 t = iblk m c 1 t from after_k m c t]; unfold Dat.blockOf iblk; rw [A_eq]; try rfl) t d).trans
    (by unfold Dat.fetched Dat.blockOf iblk; rw [A_eq]; try rfl)
theorem before_v (c : Dev nD) (t : Fin 288) (d) : (dats m 0 c).before 2 t d = iblk m c 2 t :=
  ((dats m 0 c).before_in_eq_fetched 2 rfl (idle_false 2) (fun _ _ _ => rfl) (fun t => by rw [show (dats m 0 c).after 2 t = iblk m c 2 t from after_v m c t]; unfold Dat.blockOf iblk; rw [A_eq]; try rfl) t d).trans
    (by unfold Dat.fetched Dat.blockOf iblk; rw [A_eq]; try rfl)
theorem before_f (c : Dev nD) (t : Fin 288) (d) : (dats m 0 c).before 3 t d = iblk m c 3 t :=
  ((dats m 0 c).before_in_eq_fetched 3 rfl (idle_false 3) (fun _ _ _ => rfl) (fun t => by rw [show (dats m 0 c).after 3 t = iblk m c 3 t from after_f m c t]; unfold Dat.blockOf iblk; rw [A_eq]; try rfl) t d).trans
    (by unfold Dat.fetched Dat.blockOf iblk; rw [A_eq]; try rfl)
theorem before_o (c : Dev nD) (t : Fin 288) (d) : (dats m 0 c).before 4 t d = iblk m c 4 t :=
  ((dats m 0 c).before_in_eq_fetched 4 rfl (idle_false 4) (fun _ _ _ => rfl) (fun t => by rw [show (dats m 0 c).after 4 t = iblk m c 4 t from after_o m c t]; unfold Dat.blockOf iblk; rw [A_eq]; try rfl) t d).trans
    (by unfold Dat.fetched Dat.blockOf iblk; rw [A_eq]; try rfl)
theorem before_lse (c : Dev nD) (t : Fin 288) (d) : (dats m 0 c).before 5 t d = iblk m c 5 t :=
  ((dats m 0 c).before_in_eq_fetched 5 rfl (idle_false 5) (fun _ _ _ => rfl) (fun t => by rw [show (dats m 0 c).after 5 t = iblk m c 5 t from after_lse m c t]; unfold Dat.blockOf iblk; rw [A_eq]; try rfl) t d).trans
    (by unfold Dat.fetched Dat.blockOf iblk; rw [A_eq]; try rfl)
theorem before_delta (c : Dev nD) (t : Fin 288) (d) : (dats m 0 c).before 6 t d = iblk m c 6 t :=
  ((dats m 0 c).before_in_eq_fetched 6 rfl (idle_false 6) (fun _ _ _ => rfl) (fun t => by rw [show (dats m 0 c).after 6 t = iblk m c 6 t from after_delta m c t]; unfold Dat.blockOf iblk; rw [A_eq]; try rfl) t d).trans
    (by unfold Dat.fetched Dat.blockOf iblk; rw [A_eq]; try rfl)

/-- A tile that is not a head pair's first finds the query gradient as the tile before left it, -/
theorem before_dq (c : Dev nD) (t : Fin 288) (h : t.val % 36 ≠ 0) (d) :
    (dats m 0 c).before 7 t d = (outsAt m c (t.val - 1) (by omega)).dq :=
  ((dats m 0 c).before_out_kept 7 rfl t (fun h0 => h (by omega))
    ((flush_dq _).trans (decide_eq_false (by show ¬(t.val - 1) % 36 = 35; omega))) (idle_false 7) (uncut 7) d).trans (after_dq m c _)
/-- and one below the diagonal the key gradients. -/
theorem before_dk (c : Dev nD) (t : Fin 288) (h0 : t.val ≠ 0) (h : rowOf t ≠ keyOf t) (d) :
    (dats m 0 c).before 8 t d = (outsAt m c (t.val - 1) (by omega)).dk :=
  ((dats m 0 c).before_out_kept 8 rfl t h0
    ((flush_dk _).trans (decide_eq_false (low_after t h))) (idle_false 8) (uncut 8) d).trans (after_dk m c _)
theorem before_dv (c : Dev nD) (t : Fin 288) (h0 : t.val ≠ 0) (h : rowOf t ≠ keyOf t) (d) :
    (dats m 0 c).before 9 t d = (outsAt m c (t.val - 1) (by omega)).dv :=
  ((dats m 0 c).before_out_kept 9 rfl t h0
    ((flush_dv _).trans (decide_eq_false (low_after t h))) (idle_false 9) (uncut 9) d).trans (after_dv m c _)

/-- Window 0's buffer at point `t`. -/
abbrev buf0 (t : Fin 288) := ((cfgT (F := F)).win 0).stage ((cfgT (F := F)).slots t 0)
/-- Window 1's buffer at point `t`. -/
abbrev buf1 (t : Fin 288) := ((cfgT (F := F)).win 1).stage ((cfgT (F := F)).slots t 1)
/-- Window 2's buffer at point `t`. -/
abbrev buf2 (t : Fin 288) := ((cfgT (F := F)).win 2).stage ((cfgT (F := F)).slots t 2)
/-- Window 3's buffer at point `t`. -/
abbrev buf3 (t : Fin 288) := ((cfgT (F := F)).win 3).stage ((cfgT (F := F)).slots t 3)
/-- Window 4's buffer at point `t`. -/
abbrev buf4 (t : Fin 288) := ((cfgT (F := F)).win 4).stage ((cfgT (F := F)).slots t 4)
/-- Window 5's buffer at point `t`. -/
abbrev buf5 (t : Fin 288) := ((cfgT (F := F)).win 5).stage ((cfgT (F := F)).slots t 5)
/-- Window 6's buffer at point `t`. -/
abbrev buf6 (t : Fin 288) := ((cfgT (F := F)).win 6).stage ((cfgT (F := F)).slots t 6)
/-- Window 7's buffer at point `t`. -/
abbrev buf7 (t : Fin 288) := ((cfgT (F := F)).win 7).stage ((cfgT (F := F)).slots t 7)
/-- Window 8's buffer at point `t`. -/
abbrev buf8 (t : Fin 288) := ((cfgT (F := F)).win 8).stage ((cfgT (F := F)).slots t 8)
/-- Window 9's buffer at point `t`. -/
abbrev buf9 (t : Fin 288) := ((cfgT (F := F)).win 9).stage ((cfgT (F := F)).slots t 9)

/-- What the body is called with at point `t`, -/
def bodyPre (c : Dev nD) (t : Fin 288) : sProp 𝕄 :=
  iprop((dats m 0 c).Φ (Fin.castSucc (n := 288) t) ∗ (dats m 0 c).owesAt () (Fin.castSucc (n := 288) t)
    ∗ (∃ d, owns (c : Thread nD τ) (buf0 (F := F) t) fullShare ((dats m 0 c).before 0 t d))
    ∗ (∃ d, owns (c : Thread nD τ) (buf1 (F := F) t) fullShare ((dats m 0 c).before 1 t d))
    ∗ (∃ d, owns (c : Thread nD τ) (buf2 (F := F) t) fullShare ((dats m 0 c).before 2 t d))
    ∗ (∃ d, owns (c : Thread nD τ) (buf3 (F := F) t) fullShare ((dats m 0 c).before 3 t d))
    ∗ (∃ d, owns (c : Thread nD τ) (buf4 (F := F) t) fullShare ((dats m 0 c).before 4 t d))
    ∗ (∃ d, owns (c : Thread nD τ) (buf5 (F := F) t) fullShare ((dats m 0 c).before 5 t d))
    ∗ (∃ d, owns (c : Thread nD τ) (buf6 (F := F) t) fullShare ((dats m 0 c).before 6 t d))
    ∗ (∃ d, owns (c : Thread nD τ) (buf7 (F := F) t) fullShare ((dats m 0 c).before 7 t d))
    ∗ (∃ d, owns (c : Thread nD τ) (buf8 (F := F) t) fullShare ((dats m 0 c).before 8 t d))
    ∗ (∃ d, owns (c : Thread nD τ) (buf9 (F := F) t) fullShare ((dats m 0 c).before 9 t d)))
/-- and what it returns. -/
def bodyPost (c : Dev nD) (t : Fin 288) : sProp 𝕄 :=
  iprop((dats m 0 c).Φ (Fin.succ (n := 288) t) ∗ (dats m 0 c).owesAt () (Fin.succ (n := 288) t)
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem tables_eq (c : Dev nD) : (Pipeline.ΦT pre0 (tabs (F := F)) c : sProp 𝕄) = tables c rowTab keyTab := by
  unfold Pipeline.ΦT Pipeline.prefHeld
  rw [show (Finset.univ : Finset (Fin pre0.K)) = {(0 : Fin 2), (1 : Fin 2)} from by decide]
  rw [BI.bigSep_insert (by decide), BI.bigSep_singleton]
  rfl

theorem leaves_exact (c : Dev nD) (w : Fin 10) (t : Fin 288) :
    (dats m 0 c).leavesExact w t = owns (c : Thread nD τ) (((cfgT (F := F)).win w).stage ((cfgT (F := F)).slots t w)) fullShare ((dats m 0 c).after w t) := by
  unfold Dat.leavesExact
  have h : (cfgT (F := F)).idle w ((cfgT (F := F)).grid.coords t) = false := idle_false w _
  rw [h]

/-- The body at point `t`. -/
abbrev bodyAt (t : Fin 288) :=
  cc0_attn_core_bwd_0 (F := F) (grid0.coords t) (Memref.whole main_c) (Memref.isWhole_whole _) (Memref.whole main_c_0) (Memref.isWhole_whole _) (buf0 (F := F) t) (hstage0_0 (((cfgT (F := F)).slots t 0).cast nbuf0_0)) (buf1 (F := F) t) (hstage0_1 (((cfgT (F := F)).slots t 1).cast nbuf0_1)) (buf2 (F := F) t) (hstage0_2 (((cfgT (F := F)).slots t 2).cast nbuf0_2)) (buf3 (F := F) t) (hstage0_3 (((cfgT (F := F)).slots t 3).cast nbuf0_3)) (buf4 (F := F) t) (hstage0_4 (((cfgT (F := F)).slots t 4).cast nbuf0_4)) (buf5 (F := F) t) (hstage0_5 (((cfgT (F := F)).slots t 5).cast nbuf0_5)) (buf6 (F := F) t) (hstage0_6 (((cfgT (F := F)).slots t 6).cast nbuf0_6)) (buf7 (F := F) t) (hstage0_7 (((cfgT (F := F)).slots t 7).cast nbuf0_7)) (buf8 (F := F) t) (hstage0_8 (((cfgT (F := F)).slots t 8).cast nbuf0_8)) (buf9 (F := F) t) (hstage0_9 (((cfgT (F := F)).slots t 9).cast nbuf0_9))

set_option maxHeartbeats 1600000 in
theorem soundA (c : Dev nD) (t : Fin 288) (h : t.val % 36 = 0) :
    bodyPre m c t ⊢ wp frame (wpE (defs₀ (F := F)) Variants.none c none) Set.univ (bodyAt (F := F) t) fun _ => bodyPost m c t := by
  unfold bodyPre bodyPost
  rw [show (dats m 0 c).Φ (Fin.castSucc (n := 288) t) = iprop(Pipeline.ΦA spec0 c ∗ Pipeline.ΦT pre0 tabs c) from rfl,
    show (dats m 0 c).Φ (Fin.succ (n := 288) t) = iprop(Pipeline.ΦA spec0 c ∗ Pipeline.ΦT pre0 tabs c) from rfl, tables_eq,
    show (dats m 0 c).owesAt () (Fin.succ (n := 288) t) = (dats m 0 c).owesAt () (Fin.castSucc (n := 288) t) from rfl,
    leaves_exact m c 0,
    leaves_exact m c 1,
    leaves_exact m c 2,
    leaves_exact m c 3,
    leaves_exact m c 4,
    leaves_exact m c 5,
    leaves_exact m c 6,
    leaves_exact m c 7,
    leaves_exact m c 8,
    leaves_exact m c 9]
  rw [after_q, after_k, after_v, after_f, after_o, after_lse, after_delta, after_dq, after_dk, after_dv]
  simp only [before_q m c t, before_k m c t, before_v m c t, before_f m c t, before_o m c t, before_lse m c t, before_delta m c t]
  rw [outsAt_first m c t h]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (pointA c (grid0.coords t) (buf0 (F := F) t) (hstage0_0 (((cfgT (F := F)).slots t 0).cast nbuf0_0)) (buf1 (F := F) t) (hstage0_1 (((cfgT (F := F)).slots t 1).cast nbuf0_1)) (buf2 (F := F) t) (hstage0_2 (((cfgT (F := F)).slots t 2).cast nbuf0_2)) (buf3 (F := F) t) (hstage0_3 (((cfgT (F := F)).slots t 3).cast nbuf0_3)) (buf4 (F := F) t) (hstage0_4 (((cfgT (F := F)).slots t 4).cast nbuf0_4)) (buf5 (F := F) t) (hstage0_5 (((cfgT (F := F)).slots t 5).cast nbuf0_5)) (buf6 (F := F) t) (hstage0_6 (((cfgT (F := F)).slots t 6).cast nbuf0_6)) (buf7 (F := F) t) (hstage0_7 (((cfgT (F := F)).slots t 7).cast nbuf0_7)) (buf8 (F := F) t) (hstage0_8 (((cfgT (F := F)).slots t 8).cast nbuf0_8)) (buf9 (F := F) t) (hstage0_9 (((cfgT (F := F)).slots t 9).cast nbuf0_9)) rowTab keyTab (words_chk t) (tilesAt m c t) (rowOf t) (words_off3 t) ((cond1_iff t).2 h) ((cond2_iff t).2 (first_diag t h)) (fun h1 => (cond3_iff t).1 h1 (first_diag t h)) ((cond4_iff t).2 (first_diag t h))  Set.univ _)
  isplitl [HT]; · iexact HT
  isplitl [H0 H1 H2 H3 H4 H5 H6]
  · unfold holds
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  unfold holds leaves
  iintro ⟨HT, ⟨H0, H1, H2, H3, H4, H5, H6⟩, H7, H8, H9⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem soundB (c : Dev nD) (t : Fin 288) (h : t.val % 36 ≠ 0) (hd : rowOf t = keyOf t) :
    bodyPre m c t ⊢ wp frame (wpE (defs₀ (F := F)) Variants.none c none) Set.univ (bodyAt (F := F) t) fun _ => bodyPost m c t := by
  unfold bodyPre bodyPost
  rw [show (dats m 0 c).Φ (Fin.castSucc (n := 288) t) = iprop(Pipeline.ΦA spec0 c ∗ Pipeline.ΦT pre0 tabs c) from rfl,
    show (dats m 0 c).Φ (Fin.succ (n := 288) t) = iprop(Pipeline.ΦA spec0 c ∗ Pipeline.ΦT pre0 tabs c) from rfl, tables_eq,
    show (dats m 0 c).owesAt () (Fin.succ (n := 288) t) = (dats m 0 c).owesAt () (Fin.castSucc (n := 288) t) from rfl,
    leaves_exact m c 0,
    leaves_exact m c 1,
    leaves_exact m c 2,
    leaves_exact m c 3,
    leaves_exact m c 4,
    leaves_exact m c 5,
    leaves_exact m c 6,
    leaves_exact m c 7,
    leaves_exact m c 8,
    leaves_exact m c 9]
  rw [after_q, after_k, after_v, after_f, after_o, after_lse, after_delta, after_dq, after_dk, after_dv]
  simp only [before_q m c t, before_k m c t, before_v m c t, before_f m c t, before_o m c t, before_lse m c t, before_delta m c t]
  simp only [before_dq m c t h]
  rw [outsAt_diag m c t h hd]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (pointB c (grid0.coords t) (buf0 (F := F) t) (hstage0_0 (((cfgT (F := F)).slots t 0).cast nbuf0_0)) (buf1 (F := F) t) (hstage0_1 (((cfgT (F := F)).slots t 1).cast nbuf0_1)) (buf2 (F := F) t) (hstage0_2 (((cfgT (F := F)).slots t 2).cast nbuf0_2)) (buf3 (F := F) t) (hstage0_3 (((cfgT (F := F)).slots t 3).cast nbuf0_3)) (buf4 (F := F) t) (hstage0_4 (((cfgT (F := F)).slots t 4).cast nbuf0_4)) (buf5 (F := F) t) (hstage0_5 (((cfgT (F := F)).slots t 5).cast nbuf0_5)) (buf6 (F := F) t) (hstage0_6 (((cfgT (F := F)).slots t 6).cast nbuf0_6)) (buf7 (F := F) t) (hstage0_7 (((cfgT (F := F)).slots t 7).cast nbuf0_7)) (buf8 (F := F) t) (hstage0_8 (((cfgT (F := F)).slots t 8).cast nbuf0_8)) (buf9 (F := F) t) (hstage0_9 (((cfgT (F := F)).slots t 9).cast nbuf0_9)) rowTab keyTab (words_chk t) (tilesAt m c t) (rowOf t) (words_off3 t) (fun h1 => h ((cond1_iff t).1 h1)) ((cond2_iff t).2 (hd)) (fun h1 => (cond3_iff t).1 h1 (hd)) ((cond4_iff t).2 (hd)) (outsAt m c (t.val - 1) (by omega)).dq Set.univ _)
  isplitl [HT]; · iexact HT
  isplitl [H0 H1 H2 H3 H4 H5 H6]
  · unfold holds
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexists _; iexact H8
  isplitl [H9]; · iexists _; iexact H9
  unfold holds leaves
  iintro ⟨HT, ⟨H0, H1, H2, H3, H4, H5, H6⟩, H7, H8, H9⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem soundC (c : Dev nD) (t : Fin 288) (h : t.val % 36 ≠ 0) (hd : rowOf t ≠ keyOf t) :
    bodyPre m c t ⊢ wp frame (wpE (defs₀ (F := F)) Variants.none c none) Set.univ (bodyAt (F := F) t) fun _ => bodyPost m c t := by
  unfold bodyPre bodyPost
  rw [show (dats m 0 c).Φ (Fin.castSucc (n := 288) t) = iprop(Pipeline.ΦA spec0 c ∗ Pipeline.ΦT pre0 tabs c) from rfl,
    show (dats m 0 c).Φ (Fin.succ (n := 288) t) = iprop(Pipeline.ΦA spec0 c ∗ Pipeline.ΦT pre0 tabs c) from rfl, tables_eq,
    show (dats m 0 c).owesAt () (Fin.succ (n := 288) t) = (dats m 0 c).owesAt () (Fin.castSucc (n := 288) t) from rfl,
    leaves_exact m c 0,
    leaves_exact m c 1,
    leaves_exact m c 2,
    leaves_exact m c 3,
    leaves_exact m c 4,
    leaves_exact m c 5,
    leaves_exact m c 6,
    leaves_exact m c 7,
    leaves_exact m c 8,
    leaves_exact m c 9]
  rw [after_q, after_k, after_v, after_f, after_o, after_lse, after_delta, after_dq, after_dk, after_dv]
  simp only [before_q m c t, before_k m c t, before_v m c t, before_f m c t, before_o m c t, before_lse m c t, before_delta m c t]
  simp only [before_dq m c t h, before_dk m c t (fun h0 => h (by omega)) hd, before_dv m c t (fun h0 => h (by omega)) hd]
  rw [outsAt_low m c t h hd]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (pointC c (grid0.coords t) (buf0 (F := F) t) (hstage0_0 (((cfgT (F := F)).slots t 0).cast nbuf0_0)) (buf1 (F := F) t) (hstage0_1 (((cfgT (F := F)).slots t 1).cast nbuf0_1)) (buf2 (F := F) t) (hstage0_2 (((cfgT (F := F)).slots t 2).cast nbuf0_2)) (buf3 (F := F) t) (hstage0_3 (((cfgT (F := F)).slots t 3).cast nbuf0_3)) (buf4 (F := F) t) (hstage0_4 (((cfgT (F := F)).slots t 4).cast nbuf0_4)) (buf5 (F := F) t) (hstage0_5 (((cfgT (F := F)).slots t 5).cast nbuf0_5)) (buf6 (F := F) t) (hstage0_6 (((cfgT (F := F)).slots t 6).cast nbuf0_6)) (buf7 (F := F) t) (hstage0_7 (((cfgT (F := F)).slots t 7).cast nbuf0_7)) (buf8 (F := F) t) (hstage0_8 (((cfgT (F := F)).slots t 8).cast nbuf0_8)) (buf9 (F := F) t) (hstage0_9 (((cfgT (F := F)).slots t 9).cast nbuf0_9)) rowTab keyTab (words_chk t) (tilesAt m c t) (rowOf t) (words_off2 t) (fun h1 => h ((cond1_iff t).1 h1)) (fun h1 => hd ((cond2_iff t).1 h1)) ((cond3_iff t).2 hd) (fun h1 => hd ((cond4_iff t).1 h1)) (outsAt m c (t.val - 1) (by omega)).dq (outsAt m c (t.val - 1) (by omega)).dk (outsAt m c (t.val - 1) (by omega)).dv Set.univ _)
  isplitl [HT]; · iexact HT
  isplitl [H0 H1 H2 H3 H4 H5 H6]
  · unfold holds
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  unfold holds leaves
  iintro ⟨HT, ⟨H0, H1, H2, H3, H4, H5, H6⟩, H7, H8, H9⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin 288) :
    bodyPre m c t ⊢ wp frame (wpE (defs₀ (F := F)) Variants.none c none) Set.univ (bodyAt (F := F) t) fun _ => bodyPost m c t := by
  by_cases h : t.val % 36 = 0
  · exact soundA m c t h
  · by_cases hd : rowOf t = keyOf t
    · exact soundB m c t h hd
    · exact soundC m c t h hd

theorem defs₀_row (t : Fin 288) :
    defs₀ (F := F) .tc (cfgT (F := F)).body ((cfgT (F := F)).bodyArgs t ((cfgT (F := F)).slots t)) = bodyAt t := by
  unfold defs₀; rw [Defs.onTc_tc]; rfl

theorem body_obligation (c : Dev nD) : BodyObligation (dats (F := F) m 0 c) (defs₀ (F := F)) Variants.none () Set.univ := fun t => by
  rw [bigSep_W0, bigSep_W0]
  exact triple_restated (sound_body m c t) (congrArg (wp frame (wpE (defs₀ (F := F)) Variants.none c none) Set.univ) (defs₀_row (F := F) t).symm) .rfl fun _ => .rfl

/-! ## The run -/

set_option backward.isDefEq.respectTransparency.types false in
set_option maxHeartbeats 1600000 in
/-- Every execution ends, with the call's arrays at what the points left, every other buffer as the later lines leave
    it, and every semaphore counter at zero. -/
theorem run_main : θ_run defs (onTc (τ := τ) (main (F := F))) ⟨m, fun _ => 0, ρ⟩ (fun r =>
    Pipeline.FramePost (Pipeline.pin pcfgs fun _ => adm) (dats m) 0 (Pipeline.afterTail pcfgs (fun _ => adm) (dats m) 0 (V0 m) [hostOps1]) r ∧ r.2.sem = fun _ => 0) :=
  Pipeline.θ_run_frameP_around (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := fun c k => V_tab m k c) (hΦ := fun _ _ => rfl)

theorem not_arr (b : Ref sig .tc) (hb : b = main_arg0 ∨ b = main_arg1 ∨ b = main_arg2 ∨ b = main_arg3 ∨ b = main_arg4) :
    ∀ w, Pipeline.arrRef spec0 w ≠ b := by
  rcases hb with rfl | rfl | rfl | rfl | rfl
  all_goals decide

/-- An argument ends as launched. -/
theorem W_arg (b : Ref sig .tc) (hb : b = main_arg0 ∨ b = main_arg1 ∨ b = main_arg2 ∨ b = main_arg3 ∨ b = main_arg4) (c : Dev nD) :
    Pipeline.afterTail pcfgs (fun _ => adm) (dats m) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      rcases hb with rfl | rfl | rfl | rfl | rfl
      all_goals repeat' apply And.intro
      all_goals exact StableHlo.devRef_ne_of_ne (by decide))),
    Pipeline.withArrays_of_ne _ c (V0 m c) _ b (not_arr b hb)]
  exact V_arg m b hb c

theorem rest_arg (b : Ref sig .tc) (hb : b = main_arg0 ∨ b = main_arg1 ∨ b = main_arg2 ∨ b = main_arg3 ∨ b = main_arg4) :
    b ∈ Pipeline.restRefs sig spec0 := by
  rcases hb with rfl | rfl | rfl | rfl | rfl
  all_goals exact Pipeline.mem_restRefs_of _ (by decide) (by decide)

/-- The frame: termination, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have k (b : Ref sig .tc) (hb : b = main_arg0 ∨ b = main_arg1 ∨ b = main_arg2 ∨ b = main_arg3 ∨ b = main_arg4) :
        r.2.mem ((c.tc : Thread nD τ).loc b) = m ((c.tc : Thread nD τ).loc b) := ((h.1 c).2 b (rest_arg b hb)).trans (W_arg m b hb c)
    ⟨k _ (.inl rfl), k _ (.inr (.inl rfl)), k _ (.inr (.inr (.inl rfl))), k _ (.inr (.inr (.inr (.inl rfl)))), k _ (.inr (.inr (.inr (.inr rfl))))⟩, h.2⟩) (run_main m ρ)

end Cert.AttnBwdIdeal.Flash

end
-- ==== Proof.FlashSum.lean ====
/-
  The sums that the walk has gathered after each tile, and so at a key tile's and a head pair's last.
-/
module

public import proofs.«01_k».proof.Proof.FlashTile
public import proofs.«01_k».proof.Proof.FlashFrame

@[expose] public section

set_option maxRecDepth 16384

noncomputable section

namespace Cert.AttnBwdIdeal.Flash

open Idealize.ShloMosaic Idealize.ShloMosaic.TcCoe
open Cert.AttnBwdIdeal.Gen Cert.Reals

namespace Data
variable (A : Data) (e i j : ℕ)

/-- The gradient of query `T`'s column `l`, over the first `n` keys. -/
def sumQ (T l n : ℕ) : ℝ := ∑ R ∈ Finset.range n, A.ds e R T * A.k R (128 * e + l)
/-- The gradient of key `R`'s column `l`, over the first `n` queries. -/
def sumK (R l n : ℕ) : ℝ := ∑ T ∈ Finset.range n, A.ds e R T * A.q T (128 * e + l)
/-- The gradient of value `R`'s column `c`, over the first `n` queries. -/
def sumV (R c n : ℕ) : ℝ := ∑ T ∈ Finset.range n, A.prob e R T * A.o T (64 * e + c)

/-- One more tile of a sum. -/
theorem sum_tile (g : ℕ → ℝ) (n : ℕ) :
    ∑ x ∈ Finset.range (1024 * (n + 1)), g x = ∑ x ∈ Finset.range (1024 * n), g x + ∑ x : Fin 1024, g (1024 * n + x) := by
  rw [show 1024 * (n + 1) = 1024 * n + 1024 from by ring, Finset.sum_range_add, Fin.sum_univ_eq_sum_range (fun x => g (1024 * n + x)) 1024]

theorem sumQ_tile (t l : ℕ) : A.sumQ e (1024 * i + t) l (1024 * (j + 1)) = A.sumQ e (1024 * i + t) l (1024 * j) + A.tileQ e i j t l := sum_tile _ _
theorem sumK_tile (r l : ℕ) : A.sumK e (1024 * j + r) l (1024 * (i + 1)) = A.sumK e (1024 * j + r) l (1024 * i) + A.tileK e i j r l := sum_tile _ _
theorem sumV_tile (r c : ℕ) : A.sumV e (1024 * j + r) c (1024 * (i + 1)) = A.sumV e (1024 * j + r) c (1024 * i) + A.tileV e i j r c := sum_tile _ _

/-- Queries before a key add nothing to it. -/
theorem sumK_before (r l : ℕ) : A.sumK e (1024 * j + r) l (1024 * j) = 0 :=
  Finset.sum_eq_zero fun T hT => by rw [A.ds_of_lt (by have := Finset.mem_range.mp hT; omega), zero_mul]
theorem sumV_before (r c : ℕ) : A.sumV e (1024 * j + r) c (1024 * j) = 0 :=
  Finset.sum_eq_zero fun T hT => by rw [A.prob_of_lt (by have := Finset.mem_range.mp hT; omega), zero_mul]
/-- A key tile after a query adds nothing to it. -/
theorem sumQ_after (T l : ℕ) (h : T < 1024 * j) : A.sumQ e T l (1024 * (j + 1)) = A.sumQ e T l (1024 * j) := by
  rw [sumQ, sum_tile, Finset.sum_eq_zero (s := Finset.univ) fun x _ => by rw [A.ds_of_lt (by omega), zero_mul], add_zero]; rfl

end Data

/-- What the three outputs hold after the tile at query tile `i` and key tile `j`. -/
structure Reach (A : Data) (i j p : ℕ) (s : Outs Ideal) : Prop where
  dq : ∀ (T : Fin 8192) (c : Fin 256),
    s.dq (ix2 T c) = (A.sumQ (2 * p + c / 128) T (c % 128) (1024 * (if T.val / 1024 ≤ i then j + 1 else j)) : EReal)
  dk : ∀ (r : Fin 1024) (c : Fin 256), s.dk (ix2 r c) = (A.sumK (2 * p + c / 128) (1024 * j + r) (c % 128) (1024 * (i + 1)) : EReal)
  dv : ∀ (r : Fin 1024) (z : Fin 128), s.dv (ix2 r z) = (A.sumV (2 * p + z / 64) (1024 * j + r) (z % 64) (1024 * (i + 1)) : EReal)

/-- The rows of tile `b` change, the others stay. -/
theorem onRows_apply (b : Fin 8) (f : Vec Ideal S1024x256 .f32 → Vec Ideal S1024x256 .f32) (d : Vec Ideal S8192x256 .f32) (T : Fin 8192) (c : Fin 256) :
    onRows b f d (ix2 T c) = if T.val / 1024 = b then
        f (VecWindow.window d ![1024 * b.val, 0] S1024x256.size (inb_rows b)) (ix2 ⟨T.val % 1024, Nat.mod_lt _ (by norm_num)⟩ c)
      else d (ix2 T c) := by
  unfold onRows VecWindow.put
  by_cases h : T.val / 1024 = b
  · rw [if_pos h, dif_pos (by
      intro a
      match a with
      | ⟨0, _⟩ => show 1024 * b.val ≤ T.val ∧ T.val < 1024 * b.val + 1024; omega
      | ⟨1, _⟩ => show 0 ≤ c.val ∧ c.val < 0 + 256; have := c.isLt; omega)]
    refine congrArg _ ?_
    funext a
    apply Fin.ext
    match a with
    | ⟨0, _⟩ => show T.val - 1024 * b.val = T.val % 1024; omega
    | ⟨1, _⟩ => show c.val - 0 = c.val; omega
  · rw [if_neg h, dif_neg]
    intro hall
    have : 1024 * b.val ≤ T.val ∧ T.val < 1024 * b.val + 1024 := hall 0
    omega

theorem window_apply (b : Fin 8) (d : Vec Ideal S8192x256 .f32) (T : Fin 8192) (c : Fin 256) (h : T.val / 1024 = b) :
    VecWindow.window d ![1024 * b.val, 0] S1024x256.size (inb_rows b) (ix2 ⟨T.val % 1024, Nat.mod_lt _ (by norm_num)⟩ c) = d (ix2 T c) := by
  unfold VecWindow.window
  refine congrArg d ?_
  funext a
  apply Fin.ext
  match a with
  | ⟨0, _⟩ => show 1024 * b.val + 1 * (T.val % 1024) = T.val; omega
  | ⟨1, _⟩ => show 0 + 1 * c.val = c.val; omega

section Steps

variable {A : Data} {j p : ℕ} {x : Tiles Ideal} {s : Outs Ideal} (b : Fin 8)

/-- A tile below the diagonal, after the one above it. -/
theorem reach_low (H : Holds A b j p x) (h : j < b) (R : Reach A (b - 1) j p s) : Reach A b j p (low b x s) where
  dq T c := by
    show onRows b x.lowDq s.dq (ix2 T c) = _
    rw [onRows_apply]
    by_cases hT : T.val / 1024 = b
    · rw [if_pos hT, lowDq_apply H _ _ h, window_apply b s.dq T c hT, R.dq, if_neg (by omega), if_pos (by omega), ← EReal.coe_add]
      have e : T.val = 1024 * b.val + T.val % 1024 := by omega
      conv_rhs => rw [e, A.sumQ_tile, ← e]
    · rw [if_neg hT, R.dq]
      congr 3
      by_cases hb : T.val / 1024 ≤ b.val
      · rw [if_pos hb, if_pos (by omega)]
      · rw [if_neg hb, if_neg (by omega)]
  dk r c := by
    show x.lowDk s.dk (ix2 r c) = _
    rw [lowDk_apply H _ _ h, R.dk, Nat.sub_add_cancel (by omega), A.sumK_tile, EReal.coe_add]
  dv r z := by
    show x.lowDv s.dv (ix2 r z) = _
    rw [lowDv_apply H _ _ h, R.dv, Nat.sub_add_cancel (by omega), A.sumV_tile, EReal.coe_add]

theorem zero2 (y) : k0_pay2 (F := Ideal) y = 0 := by pointwise [k0_pay2]
theorem zero3 (y) : k0_pay3 (F := Ideal) y = 0 := by pointwise [k0_pay3]
theorem zero1 (y) : k0_pay1 (F := Ideal) y = 0 := by pointwise [k0_pay1]

/-- A tile on the diagonal, over query rows that hold the sums up to its key tile. -/
theorem reach_diag (H : Holds A b b p x) (d : Vec Ideal S8192x256 .f32)
    (hd : ∀ (T : Fin 8192) (c : Fin 256), d (ix2 T c) = (A.sumQ (2 * p + c / 128) T (c % 128) (1024 * b) : EReal)) :
    Reach A b b p (diag b x d) where
  dq T c := by
    show onRows b x.diagDq d (ix2 T c) = _
    rw [onRows_apply]
    by_cases hT : T.val / 1024 = b
    · rw [if_pos hT, diagDq_apply H _ _ rfl, window_apply b d T c hT, hd, if_pos (by omega), ← EReal.coe_add]
      have e : T.val = 1024 * b.val + T.val % 1024 := by omega
      conv_rhs => rw [e, A.sumQ_tile, ← e]
    · rw [if_neg hT, hd]
      by_cases hb : T.val / 1024 ≤ b.val
      · rw [if_pos hb, A.sumQ_after _ _ _ _ (by omega)]
      · rw [if_neg hb]
  dk r c := by
    show x.diagDk (k0_pay2 (F := Ideal)) (ix2 r c) = _
    rw [diagDk_apply H _ _ rfl, zero2, zero_add, A.sumK_tile, A.sumK_before, zero_add]
  dv r z := by
    show x.diagDv (k0_pay3 (F := Ideal)) (ix2 r z) = _
    rw [diagDv_apply H _ _ rfl, zero3, zero_add, A.sumV_tile, A.sumV_before, zero_add]

end Steps

/-! ## The walk -/

theorem low_prev : ∀ t : Fin 288, rowOf t ≠ keyOf t → t.val % 36 ≠ 0 ∧ (keyOf t).val < (rowOf t).val
    ∧ (rowOf ⟨t.val - 1, by omega⟩).val = (rowOf t).val - 1 ∧ keyOf ⟨t.val - 1, by omega⟩ = keyOf t ∧ (t.val - 1) / 36 = t.val / 36 := by decide +kernel
theorem diag_prev : ∀ t : Fin 288, t.val % 36 ≠ 0 → rowOf t = keyOf t →
    (rowOf ⟨t.val - 1, by omega⟩).val = 7 ∧ (keyOf ⟨t.val - 1, by omega⟩).val + 1 = (keyOf t).val ∧ (t.val - 1) / 36 = t.val / 36 := by decide +kernel
theorem first_row : ∀ t : Fin 288, t.val % 36 = 0 → (rowOf t).val = 0 := by decide +kernel
theorem last_tile : ∀ t : Fin 288, t.val % 36 = 35 → (rowOf t).val = 7 ∧ (keyOf t).val = 7 := by decide +kernel

variable (m : (ℓ : Loc nD τ sig) → Buf (Elt Ideal) ℓ) (c : Dev nD) (A : Data)

theorem reach (H : ∀ t : Fin 288, Holds A (rowOf t).val (keyOf t).val (t.val / 36) (tilesAt m c t)) :
    ∀ (n : ℕ) (hn : n < 288), Reach A (rowOf ⟨n, hn⟩).val (keyOf ⟨n, hn⟩).val (n / 36) (outsAt m c n hn) := by
  intro n
  induction n with
  | zero =>
    intro hn
    have e := outsAt_first m c ⟨0, hn⟩ rfl
    rw [show outsAt m c 0 hn = _ from e]
    have hd := first_diag ⟨0, hn⟩ rfl
    have h0 := H ⟨0, hn⟩
    rw [← hd] at h0 ⊢
    exact reach_diag _ h0 _ fun T c => by rw [zero1, first_row ⟨0, hn⟩ rfl]; simp [Data.sumQ]
  | succ n ih =>
    intro hn
    have ih := ih (by omega)
    have h1 := H ⟨n + 1, hn⟩
    by_cases h : (n + 1) % 36 = 0
    · rw [show outsAt m c (n + 1) hn = _ from outsAt_first m c ⟨n + 1, hn⟩ h]
      have hd := first_diag ⟨n + 1, hn⟩ h
      rw [← hd] at h1 ⊢
      exact reach_diag _ h1 _ fun T c => by rw [zero1, first_row ⟨n + 1, hn⟩ h]; simp [Data.sumQ]
    · by_cases hd : rowOf ⟨n + 1, hn⟩ = keyOf ⟨n + 1, hn⟩
      · obtain ⟨p1, p2, p3⟩ := diag_prev ⟨n + 1, hn⟩ h hd
        rw [show outsAt m c (n + 1) hn = _ from outsAt_diag m c ⟨n + 1, hn⟩ h hd]
        simp only [Nat.add_sub_cancel] at p1 p2 p3 ⊢
        rw [p1, p3] at ih
        rw [← hd] at h1 p2 ⊢
        exact reach_diag _ h1 _ fun T c => by
          have hT := T.isLt
          rw [ih.dq, if_pos (by omega), p2]
      · obtain ⟨_, p0, p1, p2, p3⟩ := low_prev ⟨n + 1, hn⟩ hd
        rw [show outsAt m c (n + 1) hn = _ from outsAt_low m c ⟨n + 1, hn⟩ h hd]
        simp only [Nat.add_sub_cancel] at p1 p2 p3 ⊢
        rw [p1, p2, p3] at ih
        exact reach_low _ h1 p0 ih

end Cert.AttnBwdIdeal.Flash
end
-- ==== Proof.FlashMath.lean ====
/-
  Causal attention with a decay, head by head, over the reals: its weights, and the gradients in queries, keys,
  values and decays. Head `e` owns the columns `64 e … 64 e + 63`.
-/
module

public import proofs.«01_k».proof.Proof.Reals
public import Idealize.ShloMosaic.PureOps.Ideal

@[expose] public section

noncomputable section

namespace Cert.Attn

open Idealize.ShloMosaic Cert.Reals

/-! ## A softmax over the positions up to one's own -/

section Row

variable {n : ℕ} (s : Fin n → ℝ) (T R : Fin n) (M : ℝ)

/-- The exponential of a score that the mask keeps. -/
def kept : ℝ := if R ≤ T then Real.exp (s R) else 0
/-- The sum of the kept exponentials. -/
def total : ℝ := ∑ R, kept s T R
/-- The weight of position `R` for position `T`. -/
def weight : ℝ := kept s T R / total s T

theorem kept_nonneg : 0 ≤ kept s T R := by unfold kept; split <;> positivity
theorem total_pos : 0 < total s T := by
  refine Finset.sum_pos' (fun R _ => kept_nonneg s T R) ⟨T, Finset.mem_univ _, ?_⟩
  unfold kept; rw [if_pos le_rfl]; positivity

/-- A shift of all the scores leaves the weights. -/
theorem kept_sub : kept (fun R => s R - M) T R = kept s T R * Real.exp (-M) := by
  unfold kept; split
  · rw [← Real.exp_add]; rfl
  · rw [zero_mul]
theorem total_sub : total (fun R => s R - M) T = total s T * Real.exp (-M) := by
  unfold total; rw [Finset.sum_mul]; exact Finset.sum_congr rfl fun R _ => kept_sub s T R M
theorem weight_sub : weight (fun R => s R - M) T R = weight s T R := by
  unfold weight; rw [kept_sub, total_sub, mul_div_mul_right _ _ (Real.exp_pos _).ne']

/-- A masked score among the extended reals. -/
def masked : EReal := if R ≤ T then (s R : EReal) else ⊥

/-- The largest kept score is a real. -/
theorem exists_max : ∃ M : ℝ, Finset.fold max ⊥ (fun R => masked s T R) Finset.univ = (M : EReal) := by
  have hlt : Finset.fold max ⊥ (fun R => masked s T R) Finset.univ < ⊤ :=
    (Finset.fold_max_lt _).mpr ⟨bot_lt_top, fun R _ => by unfold masked; split; exacts [EReal.coe_lt_top _, bot_lt_top]⟩
  have hgt : ⊥ < Finset.fold max ⊥ (fun R => masked s T R) Finset.univ :=
    (Finset.lt_fold_max _).mpr (Or.inr ⟨T, Finset.mem_univ _, by unfold masked; rw [if_pos le_rfl]; exact EReal.bot_lt_coe _⟩)
  generalize Finset.fold max ⊥ (fun R => masked s T R) Finset.univ = x at hlt hgt
  induction x with
  | bot => exact absurd hgt (lt_irrefl _)
  | top => exact absurd hlt (lt_irrefl _)
  | coe r => exact ⟨r, rfl⟩

/-- The exponential of a masked score less a real. -/
theorem exp_masked : Ideal.exp (masked s T R - (M : EReal)) = (kept (fun R => s R - M) T R : EReal) := by
  unfold masked kept; split
  · rw [← EReal.coe_sub, Ideal.exp_coe]
  · rw [sub_eq_add_neg, EReal.bot_add]; rfl

end Row

/-! ## The attention -/

/-- Queries, keys, values, the cotangent (position, column) and the decays (position, head). -/
structure Inputs where
  q : Fin 8192 → Fin 1024 → ℝ
  k : Fin 8192 → Fin 1024 → ℝ
  v : Fin 8192 → Fin 1024 → ℝ
  o : Fin 8192 → Fin 1024 → ℝ
  f : Fin 8192 → Fin 16 → ℝ

/-- Column `x` of head `e`. -/
abbrev col (e : Fin 16) (x : Fin 64) : Fin 1024 := ⟨e.val * 64 + x.val, by omega⟩
/-- The head and the place in it of a column. -/
abbrev headOf (c : Fin 1024) : Fin 16 := ⟨c.val / 64, by omega⟩

namespace Inputs

variable (I : Inputs) (e : Fin 16) (T R : Fin 8192)

/-- The score of key `R` for query `T`, the query's own decay left out. -/
def score : ℝ := ∑ x : Fin 64, I.q T (col e x) * I.k R (col e x) - I.f R e
def w : ℝ := weight (I.score e T) T R
/-- The gradient in a weight. -/
def dw : ℝ := ∑ x : Fin 64, I.o T (col e x) * I.v R (col e x)
/-- The mean of the gradient in the weights of a query. -/
def mean : ℝ := ∑ R : Fin 8192, I.w e T R * I.dw e T R
/-- The gradient in a score. -/
def ds : ℝ := I.w e T R * (I.dw e T R - I.mean e T)

def gradQ (T : Fin 8192) (c : Fin 1024) : ℝ := ∑ R : Fin 8192, I.ds (headOf c) T R * I.k R c
def gradK (R : Fin 8192) (c : Fin 1024) : ℝ := ∑ T : Fin 8192, I.ds (headOf c) T R * I.q T c
def gradV (R : Fin 8192) (c : Fin 1024) : ℝ := ∑ T : Fin 8192, I.w (headOf c) T R * I.o T c
def gradF (T : Fin 8192) (e : Fin 16) : ℝ := ∑ R : Fin 8192, I.ds e T R - ∑ Q : Fin 8192, I.ds e Q T

theorem w_of_lt (h : T < R) : I.w e T R = 0 := by
  unfold w weight kept; rw [if_neg (not_le.mpr h), zero_div]
theorem ds_of_lt (h : T < R) : I.ds e T R = 0 := by unfold ds; rw [I.w_of_lt e T R h, zero_mul]

end Inputs

/-! ## Words that compare positions, and the constants -/

/-- The mask's comparison of two positions. -/
theorem select_keep {α : Type} (T R : Fin 8192) (a b : α) :
    Scalar.select (IntOp.cmpi CmpIPredicate.sge (BitVec.ofNat 32 T.val) (BitVec.ofNat 32 R.val)) a b = if R ≤ T then a else b := by
  have hr := R.isLt
  have ht := T.isLt
  have e : ∀ n : ℕ, n < 8192 → (BitVec.ofNat 32 n).toInt = n := fun n hn => by
    rw [BitVec.toInt_eq_toNat_of_lt (by rw [BitVec.toNat_ofNat]; omega), BitVec.toNat_ofNat]; omega
  simp only [IntOp.cmpi, BitVec.sle, e _ hr, e _ ht, Fin.le_def]
  by_cases h : R.val ≤ T.val <;> simp [h, Scalar.select]

theorem ofBits_neg_inf : Ideal.ofBits .f32 4286578688#32 = ⊥ := by
  simp [Ideal.ofBits, Ideal.ieee]

theorem ofBits_two : Ideal.ofBits .f32 1073741824#32 = ((2 : ℝ) : EReal) := by
  simp [Ideal.ofBits, Ideal.ieee]; rw [← EReal.coe_mul]; norm_num

theorem log_two : Ideal.log (Ideal.ofBits .f32 1073741824#32) = (Real.log 2 : EReal) := by
  rw [ofBits_two, Ideal.log_coe, if_neg (by norm_num)]

theorem log_two_ne : Real.log 2 ≠ 0 := (Real.log_pos (by norm_num)).ne'

theorem inv_log_two : Ideal.div 1 (Ideal.log (Ideal.ofBits .f32 1073741824#32)) = ((1 / Real.log 2 : ℝ) : EReal) := by
  rw [log_two, ← EReal.coe_one, div_coe _ log_two_ne]

end Cert.Attn
end
-- ==== Proof.FlashHost.lean ====
/-
  The kernel's operands, as the host lines before it prepare them: over real arguments each is a real, and at every
  tile of the walk they are the tiles of one set of data.
-/
module

public import proofs.«01_k».proof.Proof.FlashSum
public import proofs.«01_k».proof.Proof.FlashMath
public import Idealize.ShloMosaic.Lib.StableHlo.ReadAt

@[expose] public section

set_option maxRecDepth 16384

noncomputable section

namespace Cert.AttnBwdIdeal.Flash

open Idealize.ShloMosaic Idealize.ShloMosaic.TcCoe
open Cert.AttnBwdIdeal.Gen Cert.Reals Cert.Attn

/-- An array of reals, read at any two numbers. -/
def at2 {a b : ℕ} (f : Fin a → Fin b → ℝ) (i j : ℕ) : ℝ := if h : i < a ∧ j < b then f ⟨i, h.1⟩ ⟨j, h.2⟩ else 0

theorem at2_fin {a b : ℕ} (f : Fin a → Fin b → ℝ) (i : Fin a) (j : Fin b) : at2 f i j = f i j := by
  unfold at2; rw [dif_pos ⟨i.isLt, j.isLt⟩]

theorem at2_of {a b : ℕ} (f : Fin a → Fin b → ℝ) {i j : ℕ} (hi : i < a) (hj : j < b) : at2 f i j = f ⟨i, hi⟩ ⟨j, hj⟩ := by
  unfold at2; rw [dif_pos ⟨hi, hj⟩]

/-- Each head's 64 columns in 128, a one in column `o` of them. -/
def slotted (f : Fin 8192 → Fin 1024 → ℝ) (s : ℝ) (o : ℕ) (T : Fin 8192) (c : Fin 2048) : ℝ :=
  (if h : c.val % 128 < 64 then f T ⟨c.val / 128 * 64 + c.val % 128, by omega⟩ else 0) * s + if c.val % 128 = o then 1 else 0

/-- The kernel's operands. -/
def dataOf (I : Inputs) : Data where
  q := at2 (slotted I.q (1 / Real.log 2) 64)
  k := at2 (slotted I.k 1 65)
  v := at2 (slotted I.v 1 64)
  f := at2 fun R e => I.f R e * (1 / Real.log 2)
  o := at2 I.o
  lse := at2 fun (e : Fin 16) (T : Fin 8192) => Real.log (total (I.score e T) T) * (1 / Real.log 2)
  delta := at2 fun (e : Fin 16) (T : Fin 8192) => I.mean e T

section
variable (I : Inputs) {i j : ℕ}
theorem dataOf_q (hi : i < 8192) (hj : j < 2048) : (dataOf I).q i j = slotted I.q (1 / Real.log 2) 64 ⟨i, hi⟩ ⟨j, hj⟩ := at2_of _ hi hj
theorem dataOf_k (hi : i < 8192) (hj : j < 2048) : (dataOf I).k i j = slotted I.k 1 65 ⟨i, hi⟩ ⟨j, hj⟩ := at2_of _ hi hj
theorem dataOf_v (hi : i < 8192) (hj : j < 2048) : (dataOf I).v i j = slotted I.v 1 64 ⟨i, hi⟩ ⟨j, hj⟩ := at2_of _ hi hj
theorem dataOf_f (hi : i < 8192) (hj : j < 16) : (dataOf I).f i j = I.f ⟨i, hi⟩ ⟨j, hj⟩ * (1 / Real.log 2) :=
  at2_of (fun R e => I.f R e * (1 / Real.log 2)) hi hj
theorem dataOf_o (hi : i < 8192) (hj : j < 1024) : (dataOf I).o i j = I.o ⟨i, hi⟩ ⟨j, hj⟩ := at2_of _ hi hj
theorem dataOf_lse (hi : i < 16) (hj : j < 8192) : (dataOf I).lse i j = Real.log (total (I.score ⟨i, hi⟩ ⟨j, hj⟩) ⟨j, hj⟩) * (1 / Real.log 2) :=
  at2_of (fun (e : Fin 16) (T : Fin 8192) => Real.log (total (I.score e T) T) * (1 / Real.log 2)) hi hj
theorem dataOf_delta (hi : i < 16) (hj : j < 8192) : (dataOf I).delta i j = I.mean ⟨i, hi⟩ ⟨j, hj⟩ :=
  at2_of (fun (e : Fin 16) (T : Fin 8192) => I.mean e T) hi hj
end

/-- The shift drops out of the rows' logarithm, -/
theorem lse_eq {n : ℕ} (s : Fin n → ℝ) (T : Fin n) (M z : ℝ) : (M + Real.log (total (fun R => s R - M) T)) * z = Real.log (total s T) * z := by
  rw [total_sub, Real.log_mul (total_pos s T).ne' (Real.exp_pos _).ne', Real.log_exp]; ring

/-- and the output times its cotangent, summed over a row, is the mean of the gradient in the weights. -/
theorem mean_eq (I : Inputs) (e : Fin 16) (T : Fin 8192) (M : ℝ) :
    (∑ x : Fin 64, I.o T (col e x) * ((∑ R, kept (fun R => I.score e T R - M) T R * I.v R (col e x)) / total (fun R => I.score e T R - M) T)) = I.mean e T := by
  simp only [Finset.sum_div, Finset.mul_sum]
  rw [Finset.sum_comm]
  refine Finset.sum_congr rfl fun R _ => ?_
  rw [Inputs.w, ← weight_sub (I.score e T) T R M, Inputs.dw, Finset.mul_sum]
  exact Finset.sum_congr rfl fun x _ => by unfold weight; ring

variable (m : (ℓ : Loc nD τ sig) → Buf (Elt Ideal) ℓ) (c : Dev nD) (I : Inputs)

/-- The arguments are the reals `I`. -/
structure Args : Prop where
  q : ∀ T x, @Eq EReal (m (c, Proc.tc.devRef main_arg0) (ix2 T x)) (I.q T x : EReal)
  k : ∀ T x, @Eq EReal (m (c, Proc.tc.devRef main_arg1) (ix2 T x)) (I.k T x : EReal)
  v : ∀ T x, @Eq EReal (m (c, Proc.tc.devRef main_arg2) (ix2 T x)) (I.v T x : EReal)
  f : ∀ T x, @Eq EReal (m (c, Proc.tc.devRef main_arg3) (ix2 T x)) (I.f T x : EReal)
  o : ∀ T x, @Eq EReal (m (c, Proc.tc.devRef main_arg4) (ix2 T x)) (I.o T x : EReal)

theorem lane_eq (x o : ℕ) (hx : x < 128) (ho : o < 128) :
    FloatOps.uitofp (F := Ideal) .f32 (IntOp.cmpi CmpIPredicate.eq (BitVec.ofNat 32 x) (BitVec.ofNat 32 o)) = ((if x = o then 1 else 0 : ℝ) : EReal) := by
  have e : BitVec.ofNat 32 x = BitVec.ofNat 32 o ↔ x = o := by
    refine ⟨fun h => ?_, fun h => by rw [h]⟩
    have := congrArg BitVec.toNat h
    simpa only [BitVec.toNat_ofNat, Nat.mod_eq_of_lt (show x < 2 ^ 32 by omega), Nat.mod_eq_of_lt (show o < 2 ^ 32 by omega)] using this
  by_cases h : x = o <;> simp [IntOp.cmpi, e, h, FloatOps.uitofp]

theorem zero_word : FloatOps.sitofp (F := Ideal) .f32 0#32 = ((0 : ℝ) : EReal) := by simp [FloatOps.sitofp]

/-- A slotted operand at a place. -/
theorem slot_eq {A : S8192x1024.Idx → EReal} {g : Fin 8192 → Fin 1024 → ℝ} (h : ∀ T x, A (ix2 T x) = (g T x : EReal)) (T : Fin 8192) (x : Fin 2048)
    (s : ℝ) {o : ℕ} (ho : o < 128) :
    (if h : x.val / 128 < 16 ∧ x.val % 128 < 64 then A (ix2 T ⟨x.val / 128 * 64 + x.val % 128, by omega⟩) else FloatOps.sitofp (F := Ideal) FTy.f32 0#32) * (s : EReal)
        + FloatOps.uitofp (F := Ideal) FTy.f32 (IntOp.cmpi CmpIPredicate.eq (BitVec.ofNat 32 (x.val % 128)) (BitVec.ofNat 32 o))
      = (slotted g s o T x : EReal) := by
  rw [zero_word, lane_eq _ _ (Nat.mod_lt _ (by norm_num)) ho, slotted, EReal.coe_add, EReal.coe_mul]
  congr 2
  by_cases hx : x.val % 128 < 64
  · rw [dif_pos ⟨by omega, hx⟩, dif_pos hx, h]
  · rw [dif_neg (fun h => hx h.2), dif_neg hx]

/-- The same without a factor. -/
theorem slot_one {A : S8192x1024.Idx → EReal} {g : Fin 8192 → Fin 1024 → ℝ} (h : ∀ T x, A (ix2 T x) = (g T x : EReal)) (T : Fin 8192) (x : Fin 2048)
    {o : ℕ} (ho : o < 128) :
    (if h : x.val / 128 < 16 ∧ x.val % 128 < 64 then A (ix2 T ⟨x.val / 128 * 64 + x.val % 128, by omega⟩) else FloatOps.sitofp (F := Ideal) FTy.f32 0#32)
        + FloatOps.uitofp (F := Ideal) FTy.f32 (IntOp.cmpi CmpIPredicate.eq (BitVec.ofNat 32 (x.val % 128)) (BitVec.ofNat 32 o))
      = (slotted g 1 o T x : EReal) := by
  rw [← slot_eq h T x 1 ho, EReal.coe_one, mul_one]

theorem neg_inf_cell : FloatOps.ofBits (F := Ideal) FTy.f32 4286578688#32 = (⊥ : EReal) := ofBits_neg_inf

/-- The mask and the score, folded. -/
theorem masked_fold (I : Inputs) (e : Fin 16) (T R : Fin 8192) :
    (if R ≤ T then ((∑ x : Fin 64, I.q T ⟨e.val * 64 + x.val, by omega⟩ * I.k R ⟨e.val * 64 + x.val, by omega⟩ - I.f R e : ℝ) : EReal) else ⊥)
      = masked (I.score e T) T R := rfl

variable {m c I}

/-- The host's last lines for the rows' logarithm. -/
def lseOf (A B : FVec Ideal S16x8192 .f32) (C : FVec Ideal S_ .f32) : FVec Ideal S8x2x8192 .f32 :=
  shapeCast S8x2x8192 (mulf (addf (broadcastInDim S16x8192x1 ![0, 1] bcast_S16x8192_S16x8192x1_0_1 A)
      (Host.log (broadcastInDim S16x8192x1 ![0, 1] bcast_S16x8192_S16x8192x1_0_1 B)))
    (broadcastInDim S16x8192x1 ![] bcast_S_S16x8192x1 C) : FVec Ideal S16x8192x1 .f32) shapeCasts_S16x8192x1_S8x2x8192

theorem lseOf_apply (A B : FVec Ideal S16x8192 .f32) (C : FVec Ideal S_ .f32) (p : Fin 8) (b : Fin 2) (T : Fin 8192) :
    @Eq EReal (lseOf A B C (ix3 p b T))
      (HMul.hMul (α := EReal) (HAdd.hAdd (α := EReal) (A (ix2 ⟨p.val * 2 + b.val, by omega⟩ T)) (Ideal.log (B (ix2 ⟨p.val * 2 + b.val, by omega⟩ T)))) (C Idealize.ShloMosaic.ix0)) := by
  unfold lseOf
  pointwise

theorem lse_stages : @Eq (FVec Ideal S8x2x8192 .f32) (V m c main_v83) (lseOf (V m c main_v67) (V m c main_v72) (V m c main_v1)) := by
  unfold V V0 before lseOf
  simp only [List.flatten_cons, List.flatten_nil, List.append_nil, hostOps0, hostOps0_1, hostOps0_2, hostOps0_3, hostOps0_4, hostOps0_5, hostOps0_6, hostOps0_7, hostOps0_8, List.cons_append, List.nil_append]
  after_reads_simp
  rfl
/-- The host's last line for the rows' sums of the output times its cotangent. -/
def deltaOf (A : FVec Ideal S16x8192 .f32) : FVec Ideal S8x2x8192 .f32 := shapeCast S8x2x8192 A shapeCasts_S16x8192_S8x2x8192

theorem deltaOf_apply (A : FVec Ideal S16x8192 .f32) (p : Fin 8) (b : Fin 2) (T : Fin 8192) :
    @Eq EReal (deltaOf A (ix3 p b T)) (A (ix2 ⟨p.val * 2 + b.val, by omega⟩ T)) := by
  unfold deltaOf
  pointwise

theorem delta_stages : @Eq (FVec Ideal S8x2x8192 .f32) (V m c main_v88) (deltaOf (V m c main_v87)) := by
  unfold V V0 before deltaOf
  simp only [List.flatten_cons, List.flatten_nil, List.append_nil, hostOps0, hostOps0_1, hostOps0_2, hostOps0_3, hostOps0_4, hostOps0_5, hostOps0_6, hostOps0_7, hostOps0_8, List.cons_append, List.nil_append]
  after_reads_simp
  rfl

theorem V_one : @Eq EReal (V m c main_v1 Idealize.ShloMosaic.ix0) ((1 / Real.log 2 : ℝ) : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  exact inv_log_two

section
variable (H : Args m c I) (T : Fin 8192) (x : Fin 2048)
include H

theorem V_q : @Eq EReal (V m c main_v17 (ix2 T x)) (slotted I.q (1 / Real.log 2) 64 T x : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  refine (congrArg (fun z => _ * z + _) inv_log_two).trans ?_
  have := slot_eq (A := m (c, Proc.tc.devRef main_arg0)) H.q T x (1 / Real.log 2) (o := 64) (by norm_num)
  exact this

theorem V_k : @Eq EReal (V m c main_v31 (ix2 T x)) (slotted I.k 1 65 T x : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  have := slot_one (A := m (c, Proc.tc.devRef main_arg1)) H.k T x (o := 65) (by norm_num)
  exact this

theorem V_v : @Eq EReal (V m c main_v45 (ix2 T x)) (slotted I.v 1 64 T x : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  have := slot_one (A := m (c, Proc.tc.devRef main_arg2)) H.v T x (o := 64) (by norm_num)
  exact this

theorem V_f (x : Fin 2048) : @Eq EReal (V m c main_v49 (ix2 T x)) ((dataOf I).f T (x / 128) : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  rw [H.f, inv_log_two, ← EReal.coe_mul, dataOf_f I T.isLt (by omega)]
theorem V_o (x : Fin 1024) : @Eq EReal (V m c main_v89 (ix2 T x)) (I.o T x : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  exact H.o T x

theorem V_max (e : Fin 16) {M : ℝ} (hM : Finset.fold max ⊥ (fun R => masked (I.score e T) T R) Finset.univ = (M : EReal)) :
    @Eq EReal (V m c main_v67 (ix2 e T)) (M : EReal) := by
  rw [← hM]
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  simp only [H.q, H.k, H.f, select_keep, ← EReal.coe_mul, ← coe_sum, ← EReal.coe_sub, id_eq, constant, neg_inf_cell, ofBits_neg_inf, masked_fold]

theorem V_total (e : Fin 16) {M : ℝ} (hM : Finset.fold max ⊥ (fun R => masked (I.score e T) T R) Finset.univ = (M : EReal)) :
    @Eq EReal (V m c main_v72 (ix2 e T)) (total (fun R => I.score e T R - M) T : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  simp only [H.q, H.k, H.f, select_keep, ← EReal.coe_mul, ← coe_sum, ← EReal.coe_sub, id_eq, constant, neg_inf_cell, ofBits_neg_inf, masked_fold, hM, exp_masked]
  rfl

theorem V_mean (e : Fin 16) : @Eq EReal (V m c main_v87 (ix2 e T)) (I.mean e T : EReal) := by
  obtain ⟨M, hM⟩ := exists_max (I.score e T) T
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  simp only [H.q, H.k, H.f, H.o, H.v, select_keep, ← EReal.coe_mul, ← coe_sum, ← EReal.coe_sub, id_eq, constant, neg_inf_cell, ofBits_neg_inf, masked_fold, hM, exp_masked]
  refine Eq.trans ?_ (congrArg Real.toEReal (mean_eq I e T M))
  rw [coe_sum (Finset.univ : Finset (Fin 64))]
  refine Finset.sum_congr rfl fun x _ => ?_
  rw [EReal.coe_mul, ← div_coe _ (total_pos _ T).ne']
  rfl

theorem V_lse (p : Fin 8) (b : Fin 2) : @Eq EReal (V m c main_v83 (ix3 p b T)) ((dataOf I).lse (2 * p + b) T : EReal) := by
  obtain ⟨M, hM⟩ := exists_max (I.score ⟨p.val * 2 + b.val, by omega⟩ T) T
  rw [lse_stages]
  refine (lseOf_apply _ _ _ p b T).trans ?_
  refine (congr (congrArg HMul.hMul (congr (congrArg HAdd.hAdd (V_max H T _ hM)) (congrArg Ideal.log (V_total H T _ hM)))) (V_one (m := m) (c := c))).trans ?_
  rw [Ideal.log_coe, if_neg (not_le.mpr (total_pos _ T)), ← EReal.coe_add, ← EReal.coe_mul, lse_eq]
  rw [dataOf_lse I (show 2 * p.val + b.val < 16 by omega) T.isLt]
  simp only [Nat.mul_comm p.val 2]

theorem V_delta (p : Fin 8) (b : Fin 2) : @Eq EReal (V m c main_v88 (ix3 p b T)) ((dataOf I).delta (2 * p + b) T : EReal) := by
  rw [delta_stages]
  refine (deltaOf_apply _ p b T).trans ((V_mean H T _).trans ?_)
  rw [dataOf_delta I (show 2 * p.val + b.val < 16 by omega) T.isLt]
  simp only [Nat.mul_comm p.val 2]
end

/-! ## The blocks that a point reads -/

theorem blk_q (A : Buf (Elt Ideal) ((c.tc : Thread nD τ).loc (Pipeline.arrRef spec0 0))) (t : Fin 288) (r : Fin 1024) (x : Fin 256) :
    @Eq EReal ((((cfgT (F := Ideal)).win 0).blk t).view.read (Elt Ideal) A (ix2 r x)) (A (ix2 ⟨1024 * (rowOf t).val + r.val, by omega⟩ ⟨256 * (t.val / 36) + x.val, by omega⟩)) := by
  rw [View.read_apply]
  show A _ = A _
  congr 1; funext i; apply Fin.ext
  match i with
  | ⟨0, _⟩ =>
    show ((cfgT (F := Ideal)).win 0).index t 0 * 1024 + 1 * r.val = _
    rw [place_q]; show (rowOf t).val * 1024 + 1 * r.val = 1024 * (rowOf t).val + r.val; omega
  | ⟨1, _⟩ =>
    show ((cfgT (F := Ideal)).win 0).index t 1 * 256 + 1 * x.val = _
    rw [place_q]; show t.val / 36 * 256 + 1 * x.val = 256 * (t.val / 36) + x.val; omega
theorem read_q (t : Fin 288) (r : Fin 1024) (x : Fin 256) :
    @Eq EReal (iblk m c 0 t (ix2 r x)) (V m c main_v17 (ix2 ⟨1024 * (rowOf t).val + r.val, by omega⟩ ⟨256 * (t.val / 36) + x.val, by omega⟩)) := blk_q (V m c main_v17) t r x

theorem blk_k (A : Buf (Elt Ideal) ((c.tc : Thread nD τ).loc (Pipeline.arrRef spec0 1))) (t : Fin 288) (r : Fin 1024) (x : Fin 256) :
    @Eq EReal ((((cfgT (F := Ideal)).win 1).blk t).view.read (Elt Ideal) A (ix2 r x)) (A (ix2 ⟨1024 * (keyOf t).val + r.val, by omega⟩ ⟨256 * (t.val / 36) + x.val, by omega⟩)) := by
  rw [View.read_apply]
  show A _ = A _
  congr 1; funext i; apply Fin.ext
  match i with
  | ⟨0, _⟩ =>
    show ((cfgT (F := Ideal)).win 1).index t 0 * 1024 + 1 * r.val = _
    rw [place_k]; show (keyOf t).val * 1024 + 1 * r.val = 1024 * (keyOf t).val + r.val; omega
  | ⟨1, _⟩ =>
    show ((cfgT (F := Ideal)).win 1).index t 1 * 256 + 1 * x.val = _
    rw [place_k]; show t.val / 36 * 256 + 1 * x.val = 256 * (t.val / 36) + x.val; omega
theorem read_k (t : Fin 288) (r : Fin 1024) (x : Fin 256) :
    @Eq EReal (iblk m c 1 t (ix2 r x)) (V m c main_v31 (ix2 ⟨1024 * (keyOf t).val + r.val, by omega⟩ ⟨256 * (t.val / 36) + x.val, by omega⟩)) := blk_k (V m c main_v31) t r x

theorem blk_v (A : Buf (Elt Ideal) ((c.tc : Thread nD τ).loc (Pipeline.arrRef spec0 2))) (t : Fin 288) (r : Fin 1024) (x : Fin 256) :
    @Eq EReal ((((cfgT (F := Ideal)).win 2).blk t).view.read (Elt Ideal) A (ix2 r x)) (A (ix2 ⟨1024 * (keyOf t).val + r.val, by omega⟩ ⟨256 * (t.val / 36) + x.val, by omega⟩)) := by
  rw [View.read_apply]
  show A _ = A _
  congr 1; funext i; apply Fin.ext
  match i with
  | ⟨0, _⟩ =>
    show ((cfgT (F := Ideal)).win 2).index t 0 * 1024 + 1 * r.val = _
    rw [place_v]; show (keyOf t).val * 1024 + 1 * r.val = 1024 * (keyOf t).val + r.val; omega
  | ⟨1, _⟩ =>
    show ((cfgT (F := Ideal)).win 2).index t 1 * 256 + 1 * x.val = _
    rw [place_v]; show t.val / 36 * 256 + 1 * x.val = 256 * (t.val / 36) + x.val; omega
theorem read_v (t : Fin 288) (r : Fin 1024) (x : Fin 256) :
    @Eq EReal (iblk m c 2 t (ix2 r x)) (V m c main_v45 (ix2 ⟨1024 * (keyOf t).val + r.val, by omega⟩ ⟨256 * (t.val / 36) + x.val, by omega⟩)) := blk_v (V m c main_v45) t r x

theorem blk_f (A : Buf (Elt Ideal) ((c.tc : Thread nD τ).loc (Pipeline.arrRef spec0 3))) (t : Fin 288) (r : Fin 1024) (x : Fin 256) :
    @Eq EReal ((((cfgT (F := Ideal)).win 3).blk t).view.read (Elt Ideal) A (ix2 r x)) (A (ix2 ⟨1024 * (keyOf t).val + r.val, by omega⟩ ⟨256 * (t.val / 36) + x.val, by omega⟩)) := by
  rw [View.read_apply]
  show A _ = A _
  congr 1; funext i; apply Fin.ext
  match i with
  | ⟨0, _⟩ =>
    show ((cfgT (F := Ideal)).win 3).index t 0 * 1024 + 1 * r.val = _
    rw [place_f]; show (keyOf t).val * 1024 + 1 * r.val = 1024 * (keyOf t).val + r.val; omega
  | ⟨1, _⟩ =>
    show ((cfgT (F := Ideal)).win 3).index t 1 * 256 + 1 * x.val = _
    rw [place_f]; show t.val / 36 * 256 + 1 * x.val = 256 * (t.val / 36) + x.val; omega
theorem read_f (t : Fin 288) (r : Fin 1024) (x : Fin 256) :
    @Eq EReal (iblk m c 3 t (ix2 r x)) (V m c main_v49 (ix2 ⟨1024 * (keyOf t).val + r.val, by omega⟩ ⟨256 * (t.val / 36) + x.val, by omega⟩)) := blk_f (V m c main_v49) t r x

theorem blk_o (A : Buf (Elt Ideal) ((c.tc : Thread nD τ).loc (Pipeline.arrRef spec0 4))) (t : Fin 288) (r : Fin 1024) (x : Fin 128) :
    @Eq EReal ((((cfgT (F := Ideal)).win 4).blk t).view.read (Elt Ideal) A (ix2 r x)) (A (ix2 ⟨1024 * (rowOf t).val + r.val, by omega⟩ ⟨128 * (t.val / 36) + x.val, by omega⟩)) := by
  rw [View.read_apply]
  show A _ = A _
  congr 1; funext i; apply Fin.ext
  match i with
  | ⟨0, _⟩ =>
    show ((cfgT (F := Ideal)).win 4).index t 0 * 1024 + 1 * r.val = _
    rw [place_o]; show (rowOf t).val * 1024 + 1 * r.val = 1024 * (rowOf t).val + r.val; omega
  | ⟨1, _⟩ =>
    show ((cfgT (F := Ideal)).win 4).index t 1 * 128 + 1 * x.val = _
    rw [place_o]; show t.val / 36 * 128 + 1 * x.val = 128 * (t.val / 36) + x.val; omega
theorem read_o (t : Fin 288) (r : Fin 1024) (x : Fin 128) :
    @Eq EReal (iblk m c 4 t (ix2 r x)) (V m c main_v89 (ix2 ⟨1024 * (rowOf t).val + r.val, by omega⟩ ⟨128 * (t.val / 36) + x.val, by omega⟩)) := blk_o (V m c main_v89) t r x

theorem blk_lse (A : Buf (Elt Ideal) ((c.tc : Thread nD τ).loc (Pipeline.arrRef spec0 5))) (t : Fin 288) (b : Fin 2) (r : Fin 1024) :
    @Eq EReal ((((cfgT (F := Ideal)).win 5).blk t).view.read (Elt Ideal) A (ix3 0 b r)) (A (ix3 ⟨t.val / 36, by omega⟩ b ⟨1024 * (rowOf t).val + r.val, by omega⟩)) := by
  rw [View.read_apply]
  show A _ = A _
  congr 1; funext i; apply Fin.ext
  match i with
  | ⟨0, _⟩ =>
    show ((cfgT (F := Ideal)).win 5).index t 0 * 1 + 1 * 0 = _
    rw [place_lse]; show t.val / 36 * 1 + 1 * 0 = t.val / 36; omega
  | ⟨1, _⟩ =>
    show ((cfgT (F := Ideal)).win 5).index t 1 * 2 + 1 * b.val = _
    rw [place_lse]; show 0 * 2 + 1 * b.val = b.val; omega
  | ⟨2, _⟩ =>
    show ((cfgT (F := Ideal)).win 5).index t 2 * 1024 + 1 * r.val = _
    rw [place_lse]; show (rowOf t).val * 1024 + 1 * r.val = 1024 * (rowOf t).val + r.val; omega
theorem read_lse (t : Fin 288) (b : Fin 2) (r : Fin 1024) :
    @Eq EReal (iblk m c 5 t (ix3 0 b r)) (V m c main_v83 (ix3 ⟨t.val / 36, by omega⟩ b ⟨1024 * (rowOf t).val + r.val, by omega⟩)) := blk_lse (V m c main_v83) t b r

theorem blk_delta (A : Buf (Elt Ideal) ((c.tc : Thread nD τ).loc (Pipeline.arrRef spec0 6))) (t : Fin 288) (b : Fin 2) (r : Fin 1024) :
    @Eq EReal ((((cfgT (F := Ideal)).win 6).blk t).view.read (Elt Ideal) A (ix3 0 b r)) (A (ix3 ⟨t.val / 36, by omega⟩ b ⟨1024 * (rowOf t).val + r.val, by omega⟩)) := by
  rw [View.read_apply]
  show A _ = A _
  congr 1; funext i; apply Fin.ext
  match i with
  | ⟨0, _⟩ =>
    show ((cfgT (F := Ideal)).win 6).index t 0 * 1 + 1 * 0 = _
    rw [place_delta]; show t.val / 36 * 1 + 1 * 0 = t.val / 36; omega
  | ⟨1, _⟩ =>
    show ((cfgT (F := Ideal)).win 6).index t 1 * 2 + 1 * b.val = _
    rw [place_delta]; show 0 * 2 + 1 * b.val = b.val; omega
  | ⟨2, _⟩ =>
    show ((cfgT (F := Ideal)).win 6).index t 2 * 1024 + 1 * r.val = _
    rw [place_delta]; show (rowOf t).val * 1024 + 1 * r.val = 1024 * (rowOf t).val + r.val; omega
theorem read_delta (t : Fin 288) (b : Fin 2) (r : Fin 1024) :
    @Eq EReal (iblk m c 6 t (ix3 0 b r)) (V m c main_v88 (ix3 ⟨t.val / 36, by omega⟩ b ⟨1024 * (rowOf t).val + r.val, by omega⟩)) := blk_delta (V m c main_v88) t b r

section
variable (H : Args m c I) (t : Fin 288)
include H
theorem hold_q (r : Fin 1024) (x : Fin 256) : @Eq EReal (iblk m c 0 t (ix2 r x)) ((dataOf I).q (1024 * (rowOf t).val + r.val) (256 * (t.val / 36) + x.val) : EReal) := by
  rw [read_q, V_q H, dataOf_q I]
theorem hold_k (r : Fin 1024) (x : Fin 256) : @Eq EReal (iblk m c 1 t (ix2 r x)) ((dataOf I).k (1024 * (keyOf t).val + r.val) (256 * (t.val / 36) + x.val) : EReal) := by
  rw [read_k, V_k H, dataOf_k I]
theorem hold_v (r : Fin 1024) (x : Fin 256) : @Eq EReal (iblk m c 2 t (ix2 r x)) ((dataOf I).v (1024 * (keyOf t).val + r.val) (256 * (t.val / 36) + x.val) : EReal) := by
  rw [read_v, V_v H, dataOf_v I]
theorem hold_f (r : Fin 1024) (x : Fin 256) : @Eq EReal (iblk m c 3 t (ix2 r x)) ((dataOf I).f (1024 * (keyOf t).val + r.val) (2 * (t.val / 36) + x.val / 128) : EReal) := by
  rw [read_f, V_f H, show 2 * (t.val / 36) + x.val / 128 = (256 * (t.val / 36) + x.val) / 128 by omega]
theorem hold_o (r : Fin 1024) (x : Fin 128) : @Eq EReal (iblk m c 4 t (ix2 r x)) ((dataOf I).o (1024 * (rowOf t).val + r.val) (128 * (t.val / 36) + x.val) : EReal) := by
  rw [read_o, V_o H, dataOf_o I]
theorem hold_lse (b : Fin 2) (r : Fin 1024) : @Eq EReal (iblk m c 5 t (ix3 0 b r)) ((dataOf I).lse (2 * (t.val / 36) + b.val) (1024 * (rowOf t).val + r.val) : EReal) := by
  rw [read_lse, V_lse H]
theorem hold_delta (b : Fin 2) (r : Fin 1024) : @Eq EReal (iblk m c 6 t (ix3 0 b r)) ((dataOf I).delta (2 * (t.val / 36) + b.val) (1024 * (rowOf t).val + r.val) : EReal) := by
  rw [read_delta, V_delta H]

theorem tile_q : ∀ (r : Fin 1024) (x : Fin 256), (tilesAt m c t).q (ix2 r x) = ((dataOf I).q (1024 * (rowOf t).val + r.val) (256 * (t.val / 36) + x.val) : EReal) := fun a b => hold_q H t a b
theorem tile_k : ∀ (r : Fin 1024) (x : Fin 256), (tilesAt m c t).k (ix2 r x) = ((dataOf I).k (1024 * (keyOf t).val + r.val) (256 * (t.val / 36) + x.val) : EReal) := fun a b => hold_k H t a b
theorem tile_v : ∀ (r : Fin 1024) (x : Fin 256), (tilesAt m c t).v (ix2 r x) = ((dataOf I).v (1024 * (keyOf t).val + r.val) (256 * (t.val / 36) + x.val) : EReal) := fun a b => hold_v H t a b
theorem tile_f : ∀ (r : Fin 1024) (x : Fin 256), (tilesAt m c t).f (ix2 r x) = ((dataOf I).f (1024 * (keyOf t).val + r.val) (2 * (t.val / 36) + x.val / 128) : EReal) := fun a b => hold_f H t a b
theorem tile_o : ∀ (r : Fin 1024) (x : Fin 128), (tilesAt m c t).o (ix2 r x) = ((dataOf I).o (1024 * (rowOf t).val + r.val) (128 * (t.val / 36) + x.val) : EReal) := fun a b => hold_o H t a b
theorem tile_lse : ∀ (b : Fin 2) (r : Fin 1024), (tilesAt m c t).lse (ix3 0 b r) = ((dataOf I).lse (2 * (t.val / 36) + b.val) (1024 * (rowOf t).val + r.val) : EReal) := fun a b => hold_lse H t a b
theorem tile_delta : ∀ (b : Fin 2) (r : Fin 1024), (tilesAt m c t).delta (ix3 0 b r) = ((dataOf I).delta (2 * (t.val / 36) + b.val) (1024 * (rowOf t).val + r.val) : EReal) := fun a b => hold_delta H t a b

/-- The operand tiles hold the operands. -/
theorem holdsAt : Holds (dataOf I) (rowOf t).val (keyOf t).val (t.val / 36) (tilesAt m c t) :=
  ⟨tile_q H t, tile_k H t, tile_v H t, tile_f H t, tile_o H t, tile_lse H t, tile_delta H t⟩
end

end Cert.AttnBwdIdeal.Flash
end
-- ==== Proof.FlashGrad.lean ====
/-
  The sums that the kernel forms, over the operands of an attention, are the attention's gradients.
-/
module

public import proofs.«01_k».proof.Proof.FlashHost

@[expose] public section

set_option maxRecDepth 16384

noncomputable section

namespace Cert.AttnBwdIdeal.Flash

open Idealize.ShloMosaic
open Cert.Reals Cert.Attn

/-- A slot's first 64 lanes hold the head's columns, -/
theorem slotted_low (g : Fin 8192 → Fin 1024 → ℝ) (s : ℝ) {o : ℕ} (ho : 64 ≤ o) (T : Fin 8192) (e : Fin 16) (x : Fin 64) (h : 128 * e.val + x.val < 2048) :
    slotted g s o T ⟨128 * e.val + x.val, h⟩ = g T (col e x) * s := by
  have hm : (128 * e.val + x.val) % 128 = x.val := by omega
  have hd : (128 * e.val + x.val) / 128 = e.val := by omega
  unfold slotted
  simp only [hm, hd]
  rw [dif_pos x.isLt, if_neg (by omega), add_zero]

/-- and the others a one in the lane set apart. -/
theorem slotted_high (g : Fin 8192 → Fin 1024 → ℝ) (s : ℝ) {o : ℕ} (T : Fin 8192) (e : Fin 16) (l : ℕ) (h1 : 64 ≤ l) (h2 : l < 128) (h : 128 * e.val + l < 2048) :
    slotted g s o T ⟨128 * e.val + l, h⟩ = if l = o then 1 else 0 := by
  have hm : (128 * e.val + l) % 128 = l := by omega
  unfold slotted
  simp only [hm]
  rw [dif_neg (by omega), zero_mul, zero_add]

variable (I : Inputs) (e : Fin 16) (T R : Fin 8192)

/-- The lanes set apart meet zeros, so a product of slots is the product of the columns. -/
theorem slots_dot : ∑ l : Fin 128, (dataOf I).k R (128 * e.val + l.val) * (dataOf I).q T (128 * e.val + l.val)
    = (∑ x : Fin 64, I.q T (col e x) * I.k R (col e x)) * (1 / Real.log 2) := by
  rw [Fin.sum_univ_add (a := 64) (b := 64), Finset.sum_mul]
  have hz : ∑ i : Fin 64, (dataOf I).k R (128 * e.val + (Fin.natAdd 64 i).val) * (dataOf I).q T (128 * e.val + (Fin.natAdd 64 i).val) = 0 := by
    refine Finset.sum_eq_zero fun i _ => ?_
    have hi : (Fin.natAdd 64 i).val = 64 + i.val := rfl
    rw [hi, dataOf_k I R.isLt (by omega), dataOf_q I T.isLt (by omega), slotted_high _ _ _ e _ (by omega) (by omega), slotted_high _ _ _ e _ (by omega) (by omega)]
    split <;> split <;> first | omega | simp
  rw [hz, add_zero]
  refine Finset.sum_congr rfl fun x _ => ?_
  have hx : (Fin.castAdd 64 x).val = x.val := rfl
  rw [hx, dataOf_k I R.isLt (by omega), dataOf_q I T.isLt (by omega), slotted_low _ _ (by norm_num) _ e x, slotted_low _ _ (by norm_num) _ e x]
  ring

/-- A power of two is an exponential. -/
theorem rpow_two (y : ℝ) : Real.rpow 2 (y * (1 / Real.log 2)) = Real.exp y := by
  show (2 : ℝ) ^ (y * (1 / Real.log 2)) = _
  rw [Real.rpow_def_of_pos (by norm_num)]
  congr 1
  have := log_two_ne
  field_simp

theorem expo_eq : (dataOf I).expo e.val R.val T.val = Real.exp (I.score e T R) / total (I.score e T) T := by
  unfold Data.expo
  rw [slots_dot, dataOf_f I R.isLt e.isLt, dataOf_lse I e.isLt T.isLt, ← sub_mul, ← sub_mul, rpow_two, Real.exp_sub, Real.exp_log (total_pos _ _)]
  rfl

theorem prob_eq : (dataOf I).prob e.val R.val T.val = I.w e T R := by
  unfold Data.prob Inputs.w weight kept
  rw [expo_eq]
  by_cases h : R ≤ T
  · rw [if_pos (Fin.le_def.mp h), if_pos h]
  · rw [if_neg (fun h' => h (Fin.le_def.mpr h')), if_neg h, zero_div]

theorem diff_eq : (dataOf I).diff e.val R.val T.val = I.dw e T R - I.mean e T := by
  unfold Data.diff Inputs.dw
  rw [dataOf_delta I e.isLt T.isLt]
  refine congrArg (· - _) (Finset.sum_congr rfl fun x _ => ?_)
  rw [dataOf_v I R.isLt (by omega), dataOf_o I T.isLt (by omega), slotted_low _ _ (by norm_num) _ e x, mul_one, mul_comm]
  exact congrArg (fun z => I.o T z * _) (Fin.ext (by show 64 * e.val + x.val = e.val * 64 + x.val; omega))

theorem ds_eq : (dataOf I).ds e.val R.val T.val = I.ds e T R := by
  unfold Data.ds Inputs.ds; rw [prob_eq, diff_eq]

variable (x : Fin 64)

theorem sumQ_eq : (dataOf I).sumQ e.val T.val x.val 8192 = ∑ R : Fin 8192, I.ds e T R * I.k R (col e x) := by
  unfold Data.sumQ
  rw [← Fin.sum_univ_eq_sum_range (fun R => (dataOf I).ds e.val R T.val * (dataOf I).k R (128 * e.val + x.val)) 8192]
  refine Finset.sum_congr rfl fun R _ => ?_
  rw [ds_eq, dataOf_k I R.isLt (by omega), slotted_low _ _ (by norm_num) _ e x, mul_one]

theorem sumQ_ones : (dataOf I).sumQ e.val T.val 65 8192 = ∑ R : Fin 8192, I.ds e T R := by
  unfold Data.sumQ
  rw [← Fin.sum_univ_eq_sum_range (fun R => (dataOf I).ds e.val R T.val * (dataOf I).k R (128 * e.val + 65)) 8192]
  refine Finset.sum_congr rfl fun R _ => ?_
  rw [ds_eq, dataOf_k I R.isLt (by omega), slotted_high _ _ _ e _ (by norm_num) (by norm_num), if_pos rfl, mul_one]

theorem sumK_eq : (dataOf I).sumK e.val R.val x.val 8192 * Real.log 2 = ∑ T : Fin 8192, I.ds e T R * I.q T (col e x) := by
  unfold Data.sumK
  rw [← Fin.sum_univ_eq_sum_range (fun T => (dataOf I).ds e.val R.val T * (dataOf I).q T (128 * e.val + x.val)) 8192, Finset.sum_mul]
  refine Finset.sum_congr rfl fun T _ => ?_
  rw [ds_eq, dataOf_q I T.isLt (by omega), slotted_low _ _ (by norm_num) _ e x]
  have := log_two_ne
  field_simp

theorem sumK_ones : (dataOf I).sumK e.val R.val 64 8192 = ∑ T : Fin 8192, I.ds e T R := by
  unfold Data.sumK
  rw [← Fin.sum_univ_eq_sum_range (fun T => (dataOf I).ds e.val R.val T * (dataOf I).q T (128 * e.val + 64)) 8192]
  refine Finset.sum_congr rfl fun T _ => ?_
  rw [ds_eq, dataOf_q I T.isLt (by omega), slotted_high _ _ _ e _ (by norm_num) (by norm_num), if_pos rfl, mul_one]

theorem sumV_eq : (dataOf I).sumV e.val R.val x.val 8192 = ∑ T : Fin 8192, I.w e T R * I.o T (col e x) := by
  unfold Data.sumV
  rw [← Fin.sum_univ_eq_sum_range (fun T => (dataOf I).prob e.val R.val T * (dataOf I).o T (64 * e.val + x.val)) 8192]
  refine Finset.sum_congr rfl fun T _ => ?_
  rw [prob_eq, dataOf_o I T.isLt (by omega)]
  exact congrArg (fun z => _ * I.o T z) (Fin.ext (by show 64 * e.val + x.val = e.val * 64 + x.val; omega))

end Cert.AttnBwdIdeal.Flash

end
-- ==== Proof.FlashTail.lean ====
/-
  The host lines after the call: each result is a column, or a scaled column, of what the call wrote.
-/
module

public import proofs.«01_k».proof.Proof.FlashGrad

@[expose] public section

set_option maxRecDepth 16384

noncomputable section

namespace Cert.AttnBwdIdeal.Flash

open Idealize.ShloMosaic Idealize.ShloMosaic.TcCoe
open Cert.AttnBwdIdeal.Gen Cert.Reals Cert.Attn

variable (W : Valuation τ sig (Elt Ideal)) (T : Fin 8192)

theorem tail_dq (x : Fin 1024) : @Eq EReal (StableHlo.after (List.flatten [hostOps1]) W (Proc.tc.devRef main_v100) (ix2 T x))
    (W (Proc.tc.devRef main_v90_0) (ix2 T ⟨x.val / 64 * 128 + x.val % 64, by omega⟩)) := by
  simp only [List.flatten_cons, List.flatten_nil, List.append_nil, hostOps1]
  after_reads_at

theorem tail_dk (x : Fin 1024) {l : EReal} (hl : @Eq EReal (W (Proc.tc.devRef main_v0) Idealize.ShloMosaic.ix0) l) :
    @Eq EReal (StableHlo.after (List.flatten [hostOps1]) W (Proc.tc.devRef main_v105) (ix2 T x))
    (HMul.hMul (α := EReal) (W (Proc.tc.devRef main_v90_1) (ix2 T ⟨x.val / 64 * 128 + x.val % 64, by omega⟩)) l) := by
  simp only [List.flatten_cons, List.flatten_nil, List.append_nil, hostOps1]
  after_reads_at
  exact congrArg (fun z : EReal => _ * z) hl

theorem tail_dcum (e : Fin 16) : @Eq EReal (StableHlo.after (List.flatten [hostOps1]) W (Proc.tc.devRef main_v97) (ix2 T e))
    (HSub.hSub (α := EReal) (W (Proc.tc.devRef main_v90_0) (ix2 T ⟨e.val * 128 + 65, by omega⟩)) (W (Proc.tc.devRef main_v90_1) (ix2 T ⟨e.val * 128 + 64, by omega⟩))) := by
  simp only [List.flatten_cons, List.flatten_nil, List.append_nil, hostOps1]
  after_reads_at

theorem tail_dv : StableHlo.after (List.flatten [hostOps1]) W (Proc.tc.devRef main_v90_2) = W (Proc.tc.devRef main_v90_2) := by
  simp only [List.flatten_cons, List.flatten_nil, List.append_nil, hostOps1]
  after_reads_simp

end Cert.AttnBwdIdeal.Flash
end
-- ==== Proof.FlashOut.lean ====
/-
  What the call's three output arrays hold after it: each block is written back once, after the last of the tiles that
  add to it, and by then holds the whole sums.
-/
module

public import proofs.«01_k».proof.Proof.FlashTail
public import Idealize.ShloMosaic.Lib.Pipeline.Value

@[expose] public section

set_option maxRecDepth 16384

noncomputable section

namespace Cert.AttnBwdIdeal.Flash

open Idealize.ShloMosaic Idealize.ShloMosaic.TcCoe Idealize.ShloMosaic.Pipeline
open Cert.AttnBwdIdeal.Gen Cert.Reals Cert.Attn

/-- A head pair's last tile. -/
theorem last_of : ∀ p : Fin 8, ∃ t : Fin 288, t.val % 36 = 35 ∧ t.val / 36 = p.val := by decide +kernel
/-- A key tile's last tile of a head pair. -/
theorem last_key : ∀ p j : Fin 8, ∃ t : Fin 288, (rowOf t).val = 7 ∧ (keyOf t).val = j.val ∧ t.val / 36 = p.val := by decide +kernel

variable (m : (ℓ : Loc nD τ sig) → Buf (Elt Ideal) ℓ) (c : Dev nD) {A : Data}

/-- The array of window 7. -/
def full_dq (A : Data) : Buf (Elt Ideal) ((c.tc : Thread nD τ).loc main_v90_0) := fun (i : S8192x2048.Idx) => (A.sumQ ((i 1).val / 128) ((i 0).val) ((i 1).val % 128) 8192 : EReal)

theorem mem_dq (t : Fin 288) (i : S8192x2048.Idx) : i ∈ (((cfgT (F := Ideal)).win 7).blk t).view.set ↔
    ∀ a : Fin 2, at_dq t a * S8192x256.size a ≤ (i a).val ∧ (i a).val < at_dq t a * S8192x256.size a + S8192x256.size a := by
  show i ∈ ((View.whole main_v90_0).slice (((cfgT (F := Ideal)).win 7).rect t)).set ↔ _
  rw [View.set_slice_whole, Rect.mem_set_unit]
  exact Iff.rfl

theorem cover_dq (i : S8192x2048.Idx) : ∃ t : Fin 288, ((cfgT (F := Ideal)).win 7).flush t = true ∧ i ∈ (((cfgT (F := Ideal)).win 7).blk t).view.set := by
  have h0 : (i 0).val < 8192 := (i 0).isLt
  have h1 : (i 1).val < 2048 := (i 1).isLt
  obtain ⟨t, ht, hp⟩ := last_of ⟨(i 1).val / 256, by omega⟩
  have hp' : t.val / 36 = (i 1).val / 256 := hp
  refine ⟨t, (flush_dq t).trans (decide_eq_true ht), ?_⟩
  rw [mem_dq]
  intro a
  match a with
  | ⟨0, _⟩ =>
    rw [place_dq_ideal]
    show 0 * 8192 ≤ (i 0).val ∧ (i 0).val < 0 * 8192 + 8192; omega
  | ⟨1, _⟩ =>
    rw [place_dq_ideal]
    show t.val / 36 * 256 ≤ (i 1).val ∧ (i 1).val < t.val / 36 * 256 + 256; omega

theorem write_dq (A : Data) (t : Fin 288) (y : S8192x256.Idx) :
    (((cfgT (F := Ideal)).win 7).blk t).view.read (Elt Ideal) (full_dq c A) y = (A.sumQ ((t.val / 36 * 256 + 1 * (y 1).val) / 128) (0 * 8192 + 1 * (y 0).val) ((t.val / 36 * 256 + 1 * (y 1).val) % 128) 8192 : EReal) := by
  rw [View.read_apply]
  have e0 : ((((cfgT (F := Ideal)).win 7).blk t).view.emb y 0).val = at_dq t 0 * 8192 + 1 * (y 0).val := rfl
  have e1 : ((((cfgT (F := Ideal)).win 7).blk t).view.emb y 1).val = at_dq t 1 * 256 + 1 * (y 1).val := rfl
  rw [place_dq_ideal] at e0 e1
  show (A.sumQ (((((cfgT (F := Ideal)).win 7).blk t).view.emb y 1).val / 128) (((((cfgT (F := Ideal)).win 7).blk t).view.emb y 0).val) (((((cfgT (F := Ideal)).win 7).blk t).view.emb y 1).val % 128) 8192 : EReal) = _
  rw [e0, e1]
  rfl

theorem last_dq (H : ∀ (n : ℕ) (hn : n < 288), Reach A (rowOf ⟨n, hn⟩).val (keyOf ⟨n, hn⟩).val (n / 36) (outsAt m c n hn))
    (t : Fin 288) (hf : t.val % 36 = 35) (y0 : Fin 8192) (y1 : Fin 256) :
    (outsAt m c t.val t.isLt).dq (ix2 y0 y1) = (A.sumQ ((t.val / 36 * 256 + 1 * y1.val) / 128) (0 * 8192 + 1 * y0.val) ((t.val / 36 * 256 + 1 * y1.val) % 128) 8192 : EReal) := by
  have R : Reach A (rowOf t).val (keyOf t).val (t.val / 36) (outsAt m c t.val t.isLt) := H t.val t.isLt
  obtain ⟨hr, hk⟩ := last_tile t hf
  refine (R.dq y0 y1).trans (congrArg Real.toEReal ?_)
  rw [if_pos (by rw [hr]; omega), hk]
  show A.sumQ (2 * (t.val / 36) + y1.val / 128) y0.val (y1.val % 128) 8192
    = A.sumQ ((t.val / 36 * 256 + 1 * y1.val) / 128) (0 * 8192 + 1 * y0.val) ((t.val / 36 * 256 + 1 * y1.val) % 128) 8192
  congr 1 <;> omega

theorem final_dq (H : ∀ (n : ℕ) (hn : n < 288), Reach A (rowOf ⟨n, hn⟩).val (keyOf ⟨n, hn⟩).val (n / 36) (outsAt m c n hn)) :
    (dats m 0 c).arrAt 7 288 = full_dq c A := by
  refine (dats m 0 c).arrAt_eq_of_cover 7 (full_dq c A) (fun t ht => ?_) (cover_dq)
  have hf := of_decide_eq_true ((flush_dq t).symm.trans ht)
  show ((cfgT (F := Ideal)).win 7).cut (grid0.coords t) ((dats m 0 c).after 7 t) = _
  refine (congrArg (((cfgT (F := Ideal)).win 7).cut (grid0.coords t)) (after_dq m c t)).trans ?_
  funext (y : S8192x256.Idx)
  refine Eq.trans ?_ (write_dq c A t y).symm
  show (outsAt m c t.val t.isLt).dq y = _
  rw [eq_ix2 y]
  exact last_dq m c H t hf (y 0) (y 1)

/-- The array of window 8. -/
def full_dk (A : Data) : Buf (Elt Ideal) ((c.tc : Thread nD τ).loc main_v90_1) := fun (i : S8192x2048.Idx) => (A.sumK ((i 1).val / 128) ((i 0).val) ((i 1).val % 128) 8192 : EReal)

theorem mem_dk (t : Fin 288) (i : S8192x2048.Idx) : i ∈ (((cfgT (F := Ideal)).win 8).blk t).view.set ↔
    ∀ a : Fin 2, at_dk t a * S1024x256.size a ≤ (i a).val ∧ (i a).val < at_dk t a * S1024x256.size a + S1024x256.size a := by
  show i ∈ ((View.whole main_v90_1).slice (((cfgT (F := Ideal)).win 8).rect t)).set ↔ _
  rw [View.set_slice_whole, Rect.mem_set_unit]
  exact Iff.rfl

theorem cover_dk (i : S8192x2048.Idx) : ∃ t : Fin 288, ((cfgT (F := Ideal)).win 8).flush t = true ∧ i ∈ (((cfgT (F := Ideal)).win 8).blk t).view.set := by
  have h0 : (i 0).val < 8192 := (i 0).isLt
  have h1 : (i 1).val < 2048 := (i 1).isLt
  obtain ⟨t, ht, hj, hp⟩ := last_key ⟨(i 1).val / 256, by omega⟩ ⟨(i 0).val / 1024, by omega⟩
  have hp' : t.val / 36 = (i 1).val / 256 := hp
  have hj' : (keyOf t).val = (i 0).val / 1024 := hj
  refine ⟨t, (flush_dk t).trans (decide_eq_true ht), ?_⟩
  rw [mem_dk]
  intro a
  match a with
  | ⟨0, _⟩ =>
    rw [place_dk_ideal]
    show (keyOf t).val * 1024 ≤ (i 0).val ∧ (i 0).val < (keyOf t).val * 1024 + 1024; omega
  | ⟨1, _⟩ =>
    rw [place_dk_ideal]
    show t.val / 36 * 256 ≤ (i 1).val ∧ (i 1).val < t.val / 36 * 256 + 256; omega

theorem write_dk (A : Data) (t : Fin 288) (y : S1024x256.Idx) :
    (((cfgT (F := Ideal)).win 8).blk t).view.read (Elt Ideal) (full_dk c A) y = (A.sumK ((t.val / 36 * 256 + 1 * (y 1).val) / 128) ((keyOf t).val * 1024 + 1 * (y 0).val) ((t.val / 36 * 256 + 1 * (y 1).val) % 128) 8192 : EReal) := by
  rw [View.read_apply]
  have e0 : ((((cfgT (F := Ideal)).win 8).blk t).view.emb y 0).val = at_dk t 0 * 1024 + 1 * (y 0).val := rfl
  have e1 : ((((cfgT (F := Ideal)).win 8).blk t).view.emb y 1).val = at_dk t 1 * 256 + 1 * (y 1).val := rfl
  rw [place_dk_ideal] at e0 e1
  show (A.sumK (((((cfgT (F := Ideal)).win 8).blk t).view.emb y 1).val / 128) (((((cfgT (F := Ideal)).win 8).blk t).view.emb y 0).val) (((((cfgT (F := Ideal)).win 8).blk t).view.emb y 1).val % 128) 8192 : EReal) = _
  rw [e0, e1]
  rfl

theorem last_dk (H : ∀ (n : ℕ) (hn : n < 288), Reach A (rowOf ⟨n, hn⟩).val (keyOf ⟨n, hn⟩).val (n / 36) (outsAt m c n hn))
    (t : Fin 288) (hf : (rowOf t).val = 7) (y0 : Fin 1024) (y1 : Fin 256) :
    (outsAt m c t.val t.isLt).dk (ix2 y0 y1) = (A.sumK ((t.val / 36 * 256 + 1 * y1.val) / 128) ((keyOf t).val * 1024 + 1 * y0.val) ((t.val / 36 * 256 + 1 * y1.val) % 128) 8192 : EReal) := by
  have R : Reach A (rowOf t).val (keyOf t).val (t.val / 36) (outsAt m c t.val t.isLt) := H t.val t.isLt
  refine (R.dk y0 y1).trans (congrArg Real.toEReal ?_)
  rw [hf]
  show A.sumK (2 * (t.val / 36) + y1.val / 128) (1024 * (keyOf t).val + y0.val) (y1.val % 128) 8192
    = A.sumK ((t.val / 36 * 256 + 1 * y1.val) / 128) ((keyOf t).val * 1024 + 1 * y0.val) ((t.val / 36 * 256 + 1 * y1.val) % 128) 8192
  congr 1 <;> omega

theorem final_dk (H : ∀ (n : ℕ) (hn : n < 288), Reach A (rowOf ⟨n, hn⟩).val (keyOf ⟨n, hn⟩).val (n / 36) (outsAt m c n hn)) :
    (dats m 0 c).arrAt 8 288 = full_dk c A := by
  refine (dats m 0 c).arrAt_eq_of_cover 8 (full_dk c A) (fun t ht => ?_) (cover_dk)
  have hf := of_decide_eq_true ((flush_dk t).symm.trans ht)
  show ((cfgT (F := Ideal)).win 8).cut (grid0.coords t) ((dats m 0 c).after 8 t) = _
  refine (congrArg (((cfgT (F := Ideal)).win 8).cut (grid0.coords t)) (after_dk m c t)).trans ?_
  funext (y : S1024x256.Idx)
  refine Eq.trans ?_ (write_dk c A t y).symm
  show (outsAt m c t.val t.isLt).dk y = _
  rw [eq_ix2 y]
  exact last_dk m c H t hf (y 0) (y 1)

/-- The array of window 9. -/
def full_dv (A : Data) : Buf (Elt Ideal) ((c.tc : Thread nD τ).loc main_v90_2) := fun (i : S8192x1024.Idx) => (A.sumV ((i 1).val / 64) ((i 0).val) ((i 1).val % 64) 8192 : EReal)

theorem mem_dv (t : Fin 288) (i : S8192x1024.Idx) : i ∈ (((cfgT (F := Ideal)).win 9).blk t).view.set ↔
    ∀ a : Fin 2, at_dv t a * S1024x128.size a ≤ (i a).val ∧ (i a).val < at_dv t a * S1024x128.size a + S1024x128.size a := by
  show i ∈ ((View.whole main_v90_2).slice (((cfgT (F := Ideal)).win 9).rect t)).set ↔ _
  rw [View.set_slice_whole, Rect.mem_set_unit]
  exact Iff.rfl

theorem cover_dv (i : S8192x1024.Idx) : ∃ t : Fin 288, ((cfgT (F := Ideal)).win 9).flush t = true ∧ i ∈ (((cfgT (F := Ideal)).win 9).blk t).view.set := by
  have h0 : (i 0).val < 8192 := (i 0).isLt
  have h1 : (i 1).val < 1024 := (i 1).isLt
  obtain ⟨t, ht, hj, hp⟩ := last_key ⟨(i 1).val / 128, by omega⟩ ⟨(i 0).val / 1024, by omega⟩
  have hp' : t.val / 36 = (i 1).val / 128 := hp
  have hj' : (keyOf t).val = (i 0).val / 1024 := hj
  refine ⟨t, (flush_dv t).trans (decide_eq_true ht), ?_⟩
  rw [mem_dv]
  intro a
  match a with
  | ⟨0, _⟩ =>
    rw [place_dv_ideal]
    show (keyOf t).val * 1024 ≤ (i 0).val ∧ (i 0).val < (keyOf t).val * 1024 + 1024; omega
  | ⟨1, _⟩ =>
    rw [place_dv_ideal]
    show t.val / 36 * 128 ≤ (i 1).val ∧ (i 1).val < t.val / 36 * 128 + 128; omega

theorem write_dv (A : Data) (t : Fin 288) (y : S1024x128.Idx) :
    (((cfgT (F := Ideal)).win 9).blk t).view.read (Elt Ideal) (full_dv c A) y = (A.sumV ((t.val / 36 * 128 + 1 * (y 1).val) / 64) ((keyOf t).val * 1024 + 1 * (y 0).val) ((t.val / 36 * 128 + 1 * (y 1).val) % 64) 8192 : EReal) := by
  rw [View.read_apply]
  have e0 : ((((cfgT (F := Ideal)).win 9).blk t).view.emb y 0).val = at_dv t 0 * 1024 + 1 * (y 0).val := rfl
  have e1 : ((((cfgT (F := Ideal)).win 9).blk t).view.emb y 1).val = at_dv t 1 * 128 + 1 * (y 1).val := rfl
  rw [place_dv_ideal] at e0 e1
  show (A.sumV (((((cfgT (F := Ideal)).win 9).blk t).view.emb y 1).val / 64) (((((cfgT (F := Ideal)).win 9).blk t).view.emb y 0).val) (((((cfgT (F := Ideal)).win 9).blk t).view.emb y 1).val % 64) 8192 : EReal) = _
  rw [e0, e1]
  rfl

theorem last_dv (H : ∀ (n : ℕ) (hn : n < 288), Reach A (rowOf ⟨n, hn⟩).val (keyOf ⟨n, hn⟩).val (n / 36) (outsAt m c n hn))
    (t : Fin 288) (hf : (rowOf t).val = 7) (y0 : Fin 1024) (y1 : Fin 128) :
    (outsAt m c t.val t.isLt).dv (ix2 y0 y1) = (A.sumV ((t.val / 36 * 128 + 1 * y1.val) / 64) ((keyOf t).val * 1024 + 1 * y0.val) ((t.val / 36 * 128 + 1 * y1.val) % 64) 8192 : EReal) := by
  have R : Reach A (rowOf t).val (keyOf t).val (t.val / 36) (outsAt m c t.val t.isLt) := H t.val t.isLt
  refine (R.dv y0 y1).trans (congrArg Real.toEReal ?_)
  rw [hf]
  show A.sumV (2 * (t.val / 36) + y1.val / 64) (1024 * (keyOf t).val + y0.val) (y1.val % 64) 8192
    = A.sumV ((t.val / 36 * 128 + 1 * y1.val) / 64) ((keyOf t).val * 1024 + 1 * y0.val) ((t.val / 36 * 128 + 1 * y1.val) % 64) 8192
  congr 1 <;> omega

theorem final_dv (H : ∀ (n : ℕ) (hn : n < 288), Reach A (rowOf ⟨n, hn⟩).val (keyOf ⟨n, hn⟩).val (n / 36) (outsAt m c n hn)) :
    (dats m 0 c).arrAt 9 288 = full_dv c A := by
  refine (dats m 0 c).arrAt_eq_of_cover 9 (full_dv c A) (fun t ht => ?_) (cover_dv)
  have hf := of_decide_eq_true ((flush_dv t).symm.trans ht)
  show ((cfgT (F := Ideal)).win 9).cut (grid0.coords t) ((dats m 0 c).after 9 t) = _
  refine (congrArg (((cfgT (F := Ideal)).win 9).cut (grid0.coords t)) (after_dv m c t)).trans ?_
  funext (y : S1024x128.Idx)
  refine Eq.trans ?_ (write_dv c A t y).symm
  show (outsAt m c t.val t.isLt).dv y = _
  rw [eq_ix2 y]
  exact last_dv m c H t hf (y 0) (y 1)

end Cert.AttnBwdIdeal.Flash
end
-- ==== Proof.FlashEnd.lean ====
/-
  What the attention's backward call and the lines after it leave in the four results.
-/
module

public import proofs.«01_k».proof.Proof.FlashOut

@[expose] public section

set_option maxRecDepth 16384

noncomputable section

namespace Cert.AttnBwdIdeal.Flash

open Idealize.ShloMosaic Idealize.ShloMosaic.TcCoe
open Cert.AttnBwdIdeal.Gen Cert.Reals Cert.Attn

variable (m : (ℓ : Loc nD τ sig) → Buf (Elt Ideal) ℓ) (c : Dev nD)

/-- The buffers when the call has ended. -/
def W1 : Valuation τ sig (Elt Ideal) :=
  Pipeline.withArrays spec0 c (V0 m c) fun w : Fin 10 => (dats (F := Ideal) m 0 c).arrAt w 288

theorem after_tail (b : Ref sig .tc) : Pipeline.afterTail pcfgs (fun _ => adm) (dats m) 0 (V0 m) [hostOps1] c b
    = StableHlo.after (List.flatten [hostOps1]) (W1 m c) (Proc.tc.devRef b) := by unfold Pipeline.afterTail W1; rfl

theorem arrays_apart : Function.Injective (Pipeline.arrRef spec0) := by decide

theorem W1_dq : W1 m c (Proc.tc.devRef main_v90_0) = (dats m 0 c).arrAt 7 288 := Pipeline.withArrays_arr spec0 arrays_apart c _ _ 7
theorem W1_dk : W1 m c (Proc.tc.devRef main_v90_1) = (dats m 0 c).arrAt 8 288 := Pipeline.withArrays_arr spec0 arrays_apart c _ _ 8
theorem W1_dv : W1 m c (Proc.tc.devRef main_v90_2) = (dats m 0 c).arrAt 9 288 := Pipeline.withArrays_arr spec0 arrays_apart c _ _ 9
theorem W1_ln : W1 m c (Proc.tc.devRef main_v0) = V m c main_v0 := Pipeline.withArrays_of_ne spec0 c _ _ main_v0 (by decide)

theorem V_ln : @Eq EReal (V m c main_v0 Idealize.ShloMosaic.ix0) (Real.log 2 : EReal) := by
  unfold V V0 before
  simp only [List.flatten_cons, List.flatten_nil, List.append_nil, hostOps0, hostOps0_1, hostOps0_2, hostOps0_3, hostOps0_4, hostOps0_5, hostOps0_6, hostOps0_7, hostOps0_8, List.cons_append, List.nil_append]
  after_reads_at
  exact log_two

theorem W1_log : @Eq EReal (W1 m c (Proc.tc.devRef main_v0) Idealize.ShloMosaic.ix0) (Real.log 2 : EReal) := (congrFun (W1_ln m c) Idealize.ShloMosaic.ix0).trans (V_ln m c)

variable {m c} {I : Inputs} (H : Args m c I)
include H

theorem W1_at_dq (T : Fin 8192) (x : Fin 2048) : @Eq EReal (W1 m c (Proc.tc.devRef main_v90_0) (ix2 T x)) ((dataOf I).sumQ (x.val / 128) T.val (x.val % 128) 8192 : EReal) :=
  congrFun ((W1_dq m c).trans (final_dq m c (reach m c (dataOf I) (fun t => holdsAt H t)))) (ix2 T x)
theorem W1_at_dk (T : Fin 8192) (x : Fin 2048) : @Eq EReal (W1 m c (Proc.tc.devRef main_v90_1) (ix2 T x)) ((dataOf I).sumK (x.val / 128) T.val (x.val % 128) 8192 : EReal) :=
  congrFun ((W1_dk m c).trans (final_dk m c (reach m c (dataOf I) (fun t => holdsAt H t)))) (ix2 T x)
theorem W1_at_dv (T : Fin 8192) (x : Fin 1024) : @Eq EReal (W1 m c (Proc.tc.devRef main_v90_2) (ix2 T x)) ((dataOf I).sumV (x.val / 64) T.val (x.val % 64) 8192 : EReal) :=
  congrFun ((W1_dv m c).trans (final_dv m c (reach m c (dataOf I) (fun t => holdsAt H t)))) (ix2 T x)

omit H in
theorem col_self (x : Fin 1024) : col (headOf x) ⟨x.val % 64, by omega⟩ = x := Fin.ext (by show x.val / 64 * 64 + x.val % 64 = x.val; omega)

theorem end_dq (T : Fin 8192) (x : Fin 1024) : @Eq EReal (Pipeline.afterTail pcfgs (fun _ => adm) (dats m) 0 (V0 m) [hostOps1] c main_v100 (ix2 T x)) (I.gradQ T x : EReal) := by
  rw [after_tail]
  refine (tail_dq _ T x).trans ((W1_at_dq H T _).trans (congrArg Real.toEReal ?_))
  have h1 : (x.val / 64 * 128 + x.val % 64) / 128 = (headOf x).val := by show _ = x.val / 64; omega
  have h2 : (x.val / 64 * 128 + x.val % 64) % 128 = x.val % 64 := by omega
  refine ((congr (congrFun (congrArg (dataOf I).sumQ h1) T.val) h2 : _) ▸ rfl : (dataOf I).sumQ _ T.val _ 8192 = (dataOf I).sumQ (headOf x).val T.val (x.val % 64) 8192).trans ?_
  refine (sumQ_eq I (headOf x) T ⟨x.val % 64, by omega⟩).trans ?_
  exact Finset.sum_congr rfl fun n _ => congrArg (fun z => _ * I.k n z) (col_self x)

theorem end_dk (R : Fin 8192) (x : Fin 1024) : @Eq EReal (Pipeline.afterTail pcfgs (fun _ => adm) (dats m) 0 (V0 m) [hostOps1] c main_v105 (ix2 R x)) (I.gradK R x : EReal) := by
  rw [after_tail]
  refine (tail_dk _ R x (W1_log m c)).trans ((congrArg (fun z : EReal => z * (Real.log 2 : EReal)) (W1_at_dk H R _)).trans ?_)
  have h1 : (x.val / 64 * 128 + x.val % 64) / 128 = (headOf x).val := by show _ = x.val / 64; omega
  have h2 : (x.val / 64 * 128 + x.val % 64) % 128 = x.val % 64 := by omega
  simp only [h1, h2]
  rw [← EReal.coe_mul]
  refine congrArg Real.toEReal ((sumK_eq I (headOf x) R ⟨x.val % 64, by omega⟩).trans ?_)
  exact Finset.sum_congr rfl fun n _ => congrArg (fun z => _ * I.q n z) (col_self x)

theorem end_dv (R : Fin 8192) (x : Fin 1024) : @Eq EReal (Pipeline.afterTail pcfgs (fun _ => adm) (dats m) 0 (V0 m) [hostOps1] c main_v90_2 (ix2 R x)) (I.gradV R x : EReal) := by
  rw [after_tail, tail_dv]
  refine (W1_at_dv H R x).trans (congrArg Real.toEReal ((sumV_eq I (headOf x) R ⟨x.val % 64, by omega⟩).trans ?_))
  exact Finset.sum_congr rfl fun n _ => congrArg (fun z => _ * I.o n z) (col_self x)

theorem end_dcum (T : Fin 8192) (e : Fin 16) : @Eq EReal (Pipeline.afterTail pcfgs (fun _ => adm) (dats m) 0 (V0 m) [hostOps1] c main_v97 (ix2 T e)) (I.gradF T e : EReal) := by
  rw [after_tail]
  refine (tail_dcum _ T e).trans ((congr (congrArg HSub.hSub (W1_at_dq H T _)) (W1_at_dk H T _)).trans ?_)
  have h1 : (e.val * 128 + 65) / 128 = e.val := by omega
  have h2 : (e.val * 128 + 65) % 128 = 65 := by omega
  have h3 : (e.val * 128 + 64) / 128 = e.val := by omega
  have h4 : (e.val * 128 + 64) % 128 = 64 := by omega
  simp only [h1, h2, h3, h4]
  rw [sumQ_ones, sumK_ones, ← EReal.coe_sub]
  rfl

end Cert.AttnBwdIdeal.Flash
end
-- ==== Proof.FlashRef.lean ====
/-
  The derivative of the attention's forward lines, line by line: at finite arguments it holds the gradients of the
  attention over the reals.
-/
module

public import proofs.«01_k».proof.Proof.FlashMath
public import proofs.«01_k».proof.Proof.Gen.AttnBwdRefIdeal.Read
public import Idealize.ShloMosaic.Lib.Pointwise

@[expose] public section

set_option maxRecDepth 16384

noncomputable section

namespace Cert.AttnBwdRefIdeal.Stages

open Idealize.ShloMosaic Cert.AttnBwdRefIdeal Cert.AttnBwdRefIdeal.Read Cert.Reals Cert.Attn

abbrev Mat : Type := (⟨S8192x1024, .f32⟩ : BufTy).Contents (Elt Ideal)
abbrev Rows : Type := (⟨S8192x16, .f32⟩ : BufTy).Contents (Elt Ideal)

/-- The five arguments hold the reals `I`. -/
structure Args (I : Inputs) (q k v : Mat) (f : Rows) (o : Mat) : Prop where
  q : ∀ T x, @Eq EReal (q (ix2 T x)) (I.q T x : EReal)
  k : ∀ T x, @Eq EReal (k (ix2 T x)) (I.k T x : EReal)
  v : ∀ T x, @Eq EReal (v (ix2 T x)) (I.v T x : EReal)
  f : ∀ T x, @Eq EReal (f (ix2 T x)) (I.f T x : EReal)
  o : ∀ T x, @Eq EReal (o (ix2 T x)) (I.o T x : EReal)

section Real
variable (I : Inputs) (e : Fin 16) (T R : Fin 8192)

/-- The score with the query's own decay. -/
def whole (R : Fin 8192) : ℝ := I.score e T R - -I.f T e
/-- A query's largest kept score. -/
def top : ℝ := (exists_max (whole I e T) T).choose
theorem top_spec : Finset.fold max ⊥ (fun R => masked (whole I e T) T R) Finset.univ = (top I e T : EReal) := (exists_max (whole I e T) T).choose_spec
/-- The exponential of a kept score, less the largest. -/
def ex : ℝ := kept (fun R => whole I e T R - top I e T) T R
def sm : ℝ := ∑ R, ex I e T R
theorem sm_pos : 0 < sm I e T := total_pos (fun R => whole I e T R - top I e T) T
theorem w_eq : I.w e T R = ex I e T R / sm I e T := by
  unfold Inputs.w
  rw [← weight_sub (I.score e T) T R (-I.f T e), ← weight_sub (fun R => I.score e T R - -I.f T e) T R (top I e T)]
  rfl
theorem ds_form : ((I.dw e T R / sm I e T + -∑ R', I.dw e T R' * (1 / (sm I e T * sm I e T)) * ex I e T R') * ex I e T R) = I.ds e T R := by
  have h := (sm_pos I e T).ne'
  unfold Inputs.ds Inputs.mean
  simp only [w_eq]
  have : ∑ R', I.dw e T R' * (1 / (sm I e T * sm I e T)) * ex I e T R' = (∑ R', ex I e T R' / sm I e T * I.dw e T R') / sm I e T := by
    rw [Finset.sum_div]
    exact Finset.sum_congr rfl fun R' _ => by field_simp
  rw [this]
  field_simp
  ring
end Real

variable {I : Inputs} {q k v : Mat} {f : Rows} {o : Mat} (H : Args I q k v f o) (e : Fin 16) (T R : Fin 8192)
include H

theorem score_apply : @Eq EReal (val_main_v11 (F := Ideal) q k f (ix3 e T R)) (whole I e T R : EReal) := by
  pointwise [val_main_v11, val_main_v10, val_main_v9, val_main_v8, val_main_v7, val_main_v6, val_main_v5, val_main_v4, val_main_v3, val_main_v2, val_main_v1, val_main_v0]
  simp only [H.q, H.k, H.f, ← EReal.coe_mul, ← coe_sum, ← EReal.coe_sub, ← EReal.coe_add]
  refine congrArg Real.toEReal ?_
  unfold whole Inputs.score
  ring

theorem masked_apply : @Eq EReal (val_main_v19_0 (F := Ideal) q k f (ix3 e T R)) (masked (whole I e T) T R) := by
  pointwise [val_main_v19_0, val_main_v19_1, val_main_v18, val_main_v17, val_main_v16, val_main_v15, val_main_v14, val_main_v13, val_main_v12, val_main_call0_v2, val_main_call0_v0, val_main_cst]
  have := score_apply H e T R
  simp only [this, select_keep, ofBits_neg_inf]
  rfl

theorem fold_apply : @Eq EReal (val_main_v20 (F := Ideal) q k f (ix2 e T)) (top I e T : EReal) := by
  have h : ∀ R, @Eq EReal (val_main_v19_0 (F := Ideal) q k f (ix3 e T R)) (masked (whole I e T) T R) := masked_apply H e T
  rw [← top_spec]
  pointwise [val_main_v20, val_main_cst_0]
  simp only [h, ofBits_neg_inf]

theorem max_apply : @Eq EReal (val_main_v27 (F := Ideal) q k f (ix2 e T)) (top I e T : EReal) := by
  refine (val_main_v27_apply q k f (ix2 e T)).trans ?_
  have hb : @Eq EReal (val_main_v26 (F := Ideal) (ix2 e T)) ⊥ :=
    (val_main_v26_apply (ix2 e T)).trans ((val_main_cst_2_apply _).trans ofBits_neg_inf)
  exact (congr (congrArg max hb) (fold_apply H e T)).trans (max_eq_right bot_le)

theorem exp_apply : @Eq EReal (val_main_v40 (F := Ideal) q k f (ix3 e T R)) (ex I e T R : EReal) := by
  have h := masked_apply H e T R
  have h' := max_apply H e T
  pointwise [val_main_v40, val_main_v39, val_main_v38, val_main_v37]
  simp only [h, h', exp_masked]
  rfl

theorem total_apply : @Eq EReal (val_main_v41 (F := Ideal) q k f (ix2 e T)) (sm I e T : EReal) := by
  have h : ∀ R, @Eq EReal (val_main_v40 (F := Ideal) q k f (ix3 e T R)) (ex I e T R : EReal) := exp_apply H e T
  pointwise [val_main_v41, val_main_cst_8]
  simp only [h, ← coe_sum]
  rfl

theorem weight_apply : @Eq EReal (val_main_v44 (F := Ideal) q k f (ix3 e T R)) (I.w e T R : EReal) := by
  have h := exp_apply H e T R
  have h' := total_apply H e T
  pointwise [val_main_v44, val_main_v43, val_main_v42]
  simp only [h, h', div_coe _ (sm_pos I e T).ne', w_eq]

theorem square_apply : @Eq EReal (val_main_v47 (F := Ideal) q k f (ix3 e T 0)) ((1 / (sm I e T * sm I e T) : ℝ) : EReal) := by
  have h' := total_apply H e T
  pointwise [val_main_v47, val_main_v46, val_main_cst_9, val_main_v45, val_main_v42]
  have h := (sm_pos I e T).ne'
  simp only [h', ← EReal.coe_mul, ← EReal.coe_one, div_coe _ (mul_ne_zero h h)]

theorem dw_apply : @Eq EReal (val_main_v57 (F := Ideal) v o (ix3 e T R)) (I.dw e T R : EReal) := by
  pointwise [val_main_v57, val_main_v54, val_main_v53, val_main_v49, val_main_v48]
  simp only [H.o, H.v, ← EReal.coe_mul, ← coe_sum]
  rfl

theorem shift_apply : @Eq EReal (val_main_v65 (F := Ideal) q k v f o (ix3 e T 0)) ((-∑ R', I.dw e T R' * (1 / (sm I e T * sm I e T)) * ex I e T R' : ℝ) : EReal) := by
  have h : ∀ R, @Eq EReal (val_main_v57 (F := Ideal) v o (ix3 e T R)) (I.dw e T R : EReal) := dw_apply H e T
  have h2 : ∀ R, @Eq EReal (val_main_v40 (F := Ideal) q k f (ix3 e T R)) (ex I e T R : EReal) := exp_apply H e T
  have h3 := square_apply H e T
  pointwise [val_main_v65, val_main_v64, val_main_v63, val_main_cst_10, val_main_v62, val_main_v61, val_main_v60]
  simp only [h, h2, h3, ← EReal.coe_mul, ← coe_sum]
  rfl

theorem ds_apply : @Eq EReal (val_main_v72 (F := Ideal) q k v f o (ix3 e T R)) (I.ds e T R : EReal) := by
  have h1 := dw_apply H e T R
  have h2 := exp_apply H e T R
  have h3 := total_apply H e T
  have h4 := shift_apply H e T
  pointwise [val_main_v72, val_main_v19_1, val_main_v18, val_main_v17, val_main_v16, val_main_v15, val_main_v14, val_main_v13, val_main_v12, val_main_call1_v0, val_main_call1_cst,
    val_main_v71, val_main_v70, val_main_v69, val_main_v68, val_main_cst_11, val_main_v67, val_main_v66, val_main_v42]
  simp only [h1, h2, h3, Fin.sum_univ_one, h4, div_coe _ (sm_pos I e T).ne', ← EReal.coe_mul, ← EReal.coe_add, select_keep, ds_form]
  split
  · rfl
  · rw [I.ds_of_lt e T R (by omega)]; rfl

/-! ## The results -/

theorem q_result (x : Fin 1024) : @Eq EReal (val_main_v86 (F := Ideal) q k v f o (ix2 T x)) (I.gradQ T x : EReal) := by
  have h : ∀ e T R, @Eq EReal (val_main_v72 (F := Ideal) q k v f o (ix3 e T R)) (I.ds e T R : EReal) := ds_apply H
  pointwise [val_main_v86, val_main_v85, val_main_v82, val_main_v4, val_main_v3]
  simp only [h, H.k, ← EReal.coe_mul, ← coe_sum]
  rfl

theorem k_result (x : Fin 1024) : @Eq EReal (val_main_v84 (F := Ideal) q k v f o (ix2 R x)) (I.gradK R x : EReal) := by
  have h : ∀ e T R, @Eq EReal (val_main_v72 (F := Ideal) q k v f o (ix3 e T R)) (I.ds e T R : EReal) := ds_apply H
  pointwise [val_main_v84, val_main_v83, val_main_v81, val_main_v2, val_main_v1]
  simp only [h, H.q, ← EReal.coe_mul, ← coe_sum]
  rfl

theorem v_result (x : Fin 1024) : @Eq EReal (val_main_v59 (F := Ideal) q k f o (ix2 R x)) (I.gradV R x : EReal) := by
  have h : ∀ e T R, @Eq EReal (val_main_v44 (F := Ideal) q k f (ix3 e T R)) (I.w e T R : EReal) := weight_apply H
  pointwise [val_main_v59, val_main_v58, val_main_v56, val_main_v55, val_main_v54, val_main_v53]
  simp only [h, H.o, ← EReal.coe_mul, ← coe_sum]
  refine congrArg Real.toEReal (Finset.sum_congr rfl fun T _ => ?_)
  exact mul_comm _ _

theorem f_result : @Eq EReal (val_main_v87 (F := Ideal) q k v f o (ix2 T e)) (I.gradF T e : EReal) := by
  have h : ∀ e T R, @Eq EReal (val_main_v72 (F := Ideal) q k v f o (ix3 e T R)) (I.ds e T R : EReal) := ds_apply H
  pointwise [val_main_v87, val_main_v80, val_main_v79, val_main_v78, val_main_v77, val_main_v76, val_main_v75, val_main_v74, val_main_v73, val_main_cst_12, val_main_cst_13, val_main_cst_14, val_main_cst_15]
  simp only [h, Fin.sum_univ_one, ← EReal.coe_neg, ← coe_sum, ← EReal.coe_add]
  refine congrArg Real.toEReal ?_
  unfold Inputs.gradF
  rw [Finset.sum_neg_distrib, add_comm, sub_eq_add_neg]

end Cert.AttnBwdRefIdeal.Stages
end
-- ==== Proof.FlashClaim.lean ====
/-
  The attention's backward call: the kernel and the derivative of the forward lines end with equal gradients.
-/
module

public import proofs.«01_k».proof.Defs
public import proofs.«01_k».proof.Proof.FlashEnd
public import proofs.«01_k».proof.Proof.FlashRef
public import proofs.«01_k».proof.Proof.Gen.AttnBwdRefIdeal.Run
public import proofs.«01_k».proof.Proof.Gen.AttnBwd
public import proofs.«01_k».proof.Proof.Gen.Pre_attn_finite
public import Idealize.ShloMosaic.Lib.Quiescent

@[expose] public section

set_option maxRecDepth 16384

noncomputable section

namespace Cert.FlashClaim

open Idealize.ShloMosaic Idealize.ShloMosaic.TcCoe Idealize.SL.Sem Cert.Reals Cert.Attn
open Cert.AttnBwdIdeal (τ sig nD)
open Cert.AttnBwdIdeal.Flash (dats V0 run_main)

/-- The reals that the arguments hold. -/
def inputs (m : (ℓ : Loc nD τ sig) → Buf (Elt Ideal) ℓ) (c : Dev nD) : Inputs where
  q T x := EReal.toReal (m (c, Proc.tc.devRef Cert.AttnBwdIdeal.main_arg0) (ix2 T x))
  k T x := EReal.toReal (m (c, Proc.tc.devRef Cert.AttnBwdIdeal.main_arg1) (ix2 T x))
  v T x := EReal.toReal (m (c, Proc.tc.devRef Cert.AttnBwdIdeal.main_arg2) (ix2 T x))
  f T x := EReal.toReal (m (c, Proc.tc.devRef Cert.AttnBwdIdeal.main_arg3) (ix2 T x))
  o T x := EReal.toReal (m (c, Proc.tc.devRef Cert.AttnBwdIdeal.main_arg4) (ix2 T x))

/-- The precondition, read: the five arrays hold reals. -/
theorem args_hold (m : (ℓ : Loc nD τ sig) → Buf (Elt Ideal) ℓ) (hpre : Cert.Pre_AttnBwdIdeal_attn_finite m) (c : Dev nD) :
    Cert.AttnBwdIdeal.Flash.Args m c (inputs m c) where
  q T x := (coe_toReal (congrFun (hpre c).1 (ix2 T x))).symm
  k T x := (coe_toReal (congrFun (hpre c).2.1 (ix2 T x))).symm
  v T x := (coe_toReal (congrFun (hpre c).2.2.1 (ix2 T x))).symm
  f T x := (coe_toReal (congrFun (hpre c).2.2.2.1 (ix2 T x))).symm
  o T x := (coe_toReal (congrFun (hpre c).2.2.2.2 (ix2 T x))).symm

theorem same_main (c : Dev nD) : Cert.AttnBwd.main (F := Bits) c = Cert.AttnBwdIdeal.main (F := Bits) c := by sl_kernel_rfl
theorem same_defs : Cert.AttnBwd.defs (F := Bits) = Cert.AttnBwdIdeal.defs (F := Bits) := by sl_kernel_rfl

theorem frame_kernel : Cert.quiescent_AttnBwd := fun m ρ _ => by
  have h := Cert.AttnBwdIdeal.Flash.frame (F := Bits) m ρ
  rw [← same_defs, ← funext same_main] at h
  exact h

theorem frame_ideal : Cert.quiescent_AttnBwdIdeal := fun m ρ _ => Cert.AttnBwdIdeal.Flash.frame m ρ

theorem frame_ref : Cert.quiescent_AttnBwdRefIdeal := fun m ρ _ =>
  (θ_run Cert.AttnBwdRefIdeal.defs _ _).mono (fun r h => ⟨fun c => (h c).2.2.2.2, sem_eq_zero_of_no_sems (by decide) r.2⟩)
    (Cert.AttnBwdRefIdeal.Value.run m ρ)

/-- What a result of the kernel holds at the end. -/
abbrev ends (m : (ℓ : Loc nD τ sig) → Buf (Elt Ideal) ℓ) (c : Dev nD) (b : Ref sig .tc) : Buf (Elt Ideal) ((c : Thread nD τ).loc b) :=
  Pipeline.afterTail Cert.AttnBwdIdeal.pcfgs (fun _ => Cert.AttnBwdIdeal.Flash.adm) (dats m) 0 (V0 m) [Cert.AttnBwdIdeal.Gen.hostOps1] c b

theorem rest_dq : Cert.AttnBwdIdeal.main_v100 ∈ Pipeline.restRefs sig Cert.AttnBwdIdeal.spec0 := Pipeline.mem_restRefs_of _ (by decide) (by decide)
theorem rest_dk : Cert.AttnBwdIdeal.main_v105 ∈ Pipeline.restRefs sig Cert.AttnBwdIdeal.spec0 := Pipeline.mem_restRefs_of _ (by decide) (by decide)
theorem rest_dcum : Cert.AttnBwdIdeal.main_v97 ∈ Pipeline.restRefs sig Cert.AttnBwdIdeal.spec0 := Pipeline.mem_restRefs_of _ (by decide) (by decide)

theorem dv_rest : ∀ m c, ends m c Cert.AttnBwdIdeal.main_v90_2 = (dats m 0 c).arrAt 9 288 := fun m c => by
  unfold ends
  rw [Cert.AttnBwdIdeal.Flash.after_tail, Cert.AttnBwdIdeal.Flash.tail_dv]
  exact Cert.AttnBwdIdeal.Flash.W1_dv m c

theorem algebraic : Cert.algebraic_AttnBwdIdeal_AttnBwdRefIdeal_pre_attn_finite := fun m ρ m' ρ' hpre hag =>
  ⟨fun c => ends m c Cert.AttnBwdIdeal.main_v100, fun c => ends m c Cert.AttnBwdIdeal.main_v105,
    fun c => ends m c Cert.AttnBwdIdeal.main_v90_2, fun c => ends m c Cert.AttnBwdIdeal.main_v97,
    (θ_run Cert.AttnBwdIdeal.defs _ _).mono (fun r h c =>
      have k (b : Ref sig .tc) (hb : b = Cert.AttnBwdIdeal.main_arg0 ∨ b = Cert.AttnBwdIdeal.main_arg1 ∨ b = Cert.AttnBwdIdeal.main_arg2 ∨ b = Cert.AttnBwdIdeal.main_arg3 ∨ b = Cert.AttnBwdIdeal.main_arg4) :
          r.2.mem ((c : Thread nD τ).loc b) = m ((c : Thread nD τ).loc b) :=
        ((h.1 c).2 b (Cert.AttnBwdIdeal.Flash.rest_arg b hb)).trans (Cert.AttnBwdIdeal.Flash.W_arg m b hb c)
      ⟨(h.1 c).2 _ rest_dq, (h.1 c).2 _ rest_dk,
        ((h.1 c).1 9).trans (dv_rest m c).symm, (h.1 c).2 _ rest_dcum,
        k _ (.inl rfl), k _ (.inr (.inl rfl)), k _ (.inr (.inr (.inl rfl))), k _ (.inr (.inr (.inr (.inl rfl)))), k _ (.inr (.inr (.inr (.inr rfl))))⟩)
      (run_main m ρ),
    (θ_run _ _ _).mono (fun _ h c => by
      have H := args_hold m hpre c
      have R : Cert.AttnBwdRefIdeal.Stages.Args (inputs m c) (m (c, Proc.tc.devRef Cert.AttnBwdIdeal.main_arg0)) (m (c, Proc.tc.devRef Cert.AttnBwdIdeal.main_arg1))
          (m (c, Proc.tc.devRef Cert.AttnBwdIdeal.main_arg2)) (m (c, Proc.tc.devRef Cert.AttnBwdIdeal.main_arg3)) (m (c, Proc.tc.devRef Cert.AttnBwdIdeal.main_arg4)) :=
        ⟨H.q, H.k, H.v, H.f, H.o⟩
      obtain ⟨a0, a1, a2, a3, a4⟩ := hag c
      refine ⟨(h c).1.trans ?_, (h c).2.1.trans ?_, (h c).2.2.1.trans ?_, (h c).2.2.2.1.trans ?_, (h c).2.2.2.2⟩
      · rw [Cert.AttnBwdRefIdeal.Read.val_main_v86_eq, a0, a1, a2, a3, a4]
        refine funext fun (i : Cert.AttnBwdIdeal.S8192x1024.Idx) => ?_
        rw [eq_ix2 i]
        exact (Cert.AttnBwdRefIdeal.Stages.q_result R _ _).trans (Cert.AttnBwdIdeal.Flash.end_dq H _ _).symm
      · rw [Cert.AttnBwdRefIdeal.Read.val_main_v84_eq, a0, a1, a2, a3, a4]
        refine funext fun (i : Cert.AttnBwdIdeal.S8192x1024.Idx) => ?_
        rw [eq_ix2 i]
        exact (Cert.AttnBwdRefIdeal.Stages.k_result R _ _).trans (Cert.AttnBwdIdeal.Flash.end_dk H _ _).symm
      · rw [Cert.AttnBwdRefIdeal.Read.val_main_v59_eq, a0, a1, a3, a4]
        refine funext fun (i : Cert.AttnBwdIdeal.S8192x1024.Idx) => ?_
        rw [eq_ix2 i]
        exact (Cert.AttnBwdRefIdeal.Stages.v_result R _ _).trans (Cert.AttnBwdIdeal.Flash.end_dv H _ _).symm
      · rw [Cert.AttnBwdRefIdeal.Read.val_main_v87_eq, a0, a1, a2, a3, a4]
        refine funext fun (i : Cert.AttnBwdIdeal.S8192x16.Idx) => ?_
        rw [eq_ix2 i]
        exact (Cert.AttnBwdRefIdeal.Stages.f_result R _ _).trans (Cert.AttnBwdIdeal.Flash.end_dcum H _ _).symm)
    (Cert.AttnBwdRefIdeal.Value.run m' ρ')⟩

end Cert.FlashClaim

end
-- ==== Proof.LossBlock.lean ====
/-
  What one grid point of the loss computes, of finite inputs: 512 rows of the gradient in the last state, and what the
  point adds to the loss and to the gain's gradient.
-/
module

public import proofs.«01_k».proof.Proof.Reals
public import proofs.«01_k».proof.Proof.Gen.LossHeadIdeal.Value
public import Idealize.ShloMosaic.Lib.Pipeline.ReadBack

@[expose] public section

set_option maxRecDepth 16384

noncomputable section

namespace Cert.LossHeadIdeal.Block

open Cert.LossHeadIdeal Cert.LossHeadIdeal.Gen Cert.Reals Idealize.ShloMosaic Idealize.SL.Sem

theorem ofBits_inv_1024 : Ideal.ofBits .f32 0x3A800000#32 = ((1 / 1024 : ℝ) : EReal) := by
  simp [Ideal.ofBits, Ideal.ieee]; rw [← EReal.coe_mul]; norm_num

theorem ofBits_inv_2048 : Ideal.ofBits .f32 0x3A000000#32 = ((1 / 2048 : ℝ) : EReal) := by
  simp [Ideal.ofBits, Ideal.ieee]; rw [← EReal.coe_mul]; norm_num

/-- The error of a normalised row, at one entry. -/
def errAt {n : ℕ} (h g t : Fin n → ℝ) (k : Fin n) : ℝ := h k * rowScale h * g k - t k

section Real

variable (G : S1x1024.Idx → ℝ) (H T : S512x1024.Idx → ℝ) (r : Fin 512) (k : Fin 1024)

theorem pay8_apply : k0_pay8 (F := Ideal) (fun y => (H y : EReal)) (ix2 r 0)
      = ((rowScale (fun l => H (ix2 r l)) : ℝ) : EReal) := by
  pointwise [k0_pay8]
  simp only [← EReal.coe_mul, ← coe_sum, ofBits_1024, ofBits_eps, div_coe _ (by norm_num : (1024 : ℝ) ≠ 0), ← EReal.coe_add]
  exact rsqrt_coe (meanSq_pos fun l => H (ix2 r l))

theorem pay9_apply : k0_pay9 (F := Ideal) (fun y => (H y : EReal)) (ix2 r k)
      = ((H (ix2 r k) * rowScale (fun l => H (ix2 r l)) : ℝ) : EReal) := by
  pointwise [k0_pay9]
  rw [pay8_apply, EReal.coe_mul]

theorem pay7_apply : k0_pay7 (F := Ideal) (fun y => (G y : EReal)) (ix2 0 k) = (G (ix2 0 k) : EReal) := by
  pointwise [k0_pay7]

/-- The error. -/
theorem pay10_apply : k0_pay10 (F := Ideal) (fun y => (G y : EReal)) (fun y => (H y : EReal)) (fun y => (T y : EReal)) (ix2 r k)
      = ((errAt (fun l => H (ix2 r l)) (fun l => G (ix2 0 l)) (fun l => T (ix2 r l)) k : ℝ) : EReal) := by
  pointwise [k0_pay10]
  rw [pay9_apply, pay7_apply, ← EReal.coe_mul, ← EReal.coe_sub]
  rfl

/-- The cotangent that the loss gives the normalised row. -/
theorem pay12_apply : k0_pay12 (F := Ideal) (fun y => (G y : EReal)) (fun y => (H y : EReal)) (fun y => (T y : EReal)) (ix2 r k)
      = ((errAt (fun l => H (ix2 r l)) (fun l => G (ix2 0 l)) (fun l => T (ix2 r l)) k * (1 / 1024) : ℝ) : EReal) := by
  pointwise [k0_pay12]
  rw [pay10_apply, ofBits_inv_1024, ← EReal.coe_mul]

/-- A row of the gradient in the last state. -/
theorem row_apply : k0_pay1 (F := Ideal) (k0_pay8 fun y => (H y : EReal)) (k0_pay9 fun y => (H y : EReal))
      (k0_pay13 (fun y => (G y : EReal)) (fun y => (H y : EReal)) (fun y => (T y : EReal)))
      (k0_pay14 (fun y => (G y : EReal)) (fun y => (H y : EReal)) (fun y => (T y : EReal))) (ix2 r k)
      = ((normGrad (fun l => H (ix2 r l)) (fun l => G (ix2 0 l))
          (fun l => errAt (fun l => H (ix2 r l)) (fun l => G (ix2 0 l)) (fun l => T (ix2 r l)) l * (1 / 1024)) k : ℝ) : EReal) := by
  pointwise [k0_pay1, k0_pay13, k0_pay14]
  simp only [pay8_apply, pay9_apply, pay12_apply, pay7_apply, ← EReal.coe_mul, ← coe_sum, ofBits_1024,
    div_coe _ (by norm_num : (1024 : ℝ) ≠ 0), ← EReal.coe_sub]
  rfl

/-- What a point adds to the eight partial sums of the gain's gradient. -/
theorem gain_apply (a : Vec Ideal S8x1024 .f32) (r : Fin 8) :
    k0_pay2 (F := Ideal) (k0_pay9 fun y => (H y : EReal))
      (k0_pay12 (fun y => (G y : EReal)) (fun y => (H y : EReal)) (fun y => (T y : EReal))) a (ix2 r k)
      = a (ix2 r k) + ((∑ x : Fin 64, errAt (fun l => H (ix2 ⟨x.val * 8 + r.val, by omega⟩ l)) (fun l => G (ix2 0 l))
            (fun l => T (ix2 ⟨x.val * 8 + r.val, by omega⟩ l)) k * (1 / 1024)
          * (H (ix2 ⟨x.val * 8 + r.val, by omega⟩ k) * rowScale (fun l => H (ix2 ⟨x.val * 8 + r.val, by omega⟩ l))) : ℝ) : EReal) := by
  pointwise [k0_pay2]
  simp only [pay9_apply, pay12_apply, ← EReal.coe_mul, ← coe_sum]

/-- What a point adds to the partial sums of the squared error. -/
theorem square_apply (a : Vec Ideal S8x1024 .f32) (r : Fin 8) :
    k0_pay11 (F := Ideal) (fun y => (G y : EReal)) (fun y => (H y : EReal)) (fun y => (T y : EReal)) a (ix2 r k)
      = a (ix2 r k) + ((∑ x : Fin 64, errAt (fun l => H (ix2 ⟨x.val * 8 + r.val, by omega⟩ l)) (fun l => G (ix2 0 l))
            (fun l => T (ix2 ⟨x.val * 8 + r.val, by omega⟩ l)) k
          * errAt (fun l => H (ix2 ⟨x.val * 8 + r.val, by omega⟩ l)) (fun l => G (ix2 0 l))
            (fun l => T (ix2 ⟨x.val * 8 + r.val, by omega⟩ l)) k : ℝ) : EReal) := by
  pointwise [k0_pay11]
  simp only [pay10_apply, ← EReal.coe_mul, ← coe_sum]

end Real

/-- The loss, of the partial sums. -/
theorem pay3_apply (A : S8x1024.Idx → ℝ) (k : Fin 128) :
    k0_pay3 (F := Ideal) (fun y => (A y : EReal)) (ix2 0 k) = (((∑ r : Fin 8, ∑ l : Fin 1024, A (ix2 r l)) * (1 / 2048) : ℝ) : EReal) := by
  pointwise [k0_pay3]
  simp only [ofBits_inv_2048, ← coe_sum, ← EReal.coe_mul]

/-- The sum of the eight partial sums. -/
theorem pay4_apply (a : Vec Ideal S8x1024 .f32) (k : Fin 1024) :
    k0_pay4 (F := Ideal) a (ix2 0 k) = ∑ r : Fin 8, a (ix2 r k) := by
  pointwise [k0_pay4]

theorem pay5_apply (r : Fin 8) (k : Fin 1024) : k0_pay5 (F := Ideal) (ix2 r k) = 0 := by
  pointwise [k0_pay5]

theorem pay6_apply (r : Fin 8) (k : Fin 1024) : k0_pay6 (F := Ideal) (ix2 r k) = 0 := by
  pointwise [k0_pay6]

theorem hz : (![0, 0] : Fin 2 → Nat) = fun _ => 0 := funext fun a => by fin_cases a <;> rfl

end Cert.LossHeadIdeal.Block

end
-- ==== Proof.LossPoint.lean ====
/-
  What each grid point of the loss leaves in its blocks and in its two accumulators, over what the point before left.
-/
module

public import proofs.«01_k».proof.Proof.LossBlock

@[expose] public section

set_option maxRecDepth 16384

noncomputable section

namespace Cert.LossHeadIdeal.Block

open Cert.LossHeadIdeal Cert.LossHeadIdeal.Gen Cert.Reals Idealize.ShloMosaic Idealize.SL.Sem

variable {F : FTy → Type} [FloatOps F]

/-- The row block of the gradient in the last state, of the blocks of the gain, the state and the target. -/
def rowOf (g : Vec F S1x1024 .f32) (h t : Vec F S512x1024 .f32) : Vec F S512x1024 .f32 :=
  k0_pay1 (k0_pay8 h) (k0_pay9 h) (k0_pay13 g h t) (k0_pay14 g h t)

/-- The partial sums of the gain's gradient after a point. -/
def gainOf (g : Vec F S1x1024 .f32) (h t : Vec F S512x1024 .f32) (a : Vec F S8x1024 .f32) : Vec F S8x1024 .f32 :=
  k0_pay2 (k0_pay9 h) (k0_pay12 g h t) a

variable (m : (ℓ : Loc nD τ sig) → Buf (Elt F) ℓ) (c : Dev nD) (t : Fin cfg0.N)
  (acc : Vec F S512x1024 .f32 × Vec F S1x128 .f32 × Vec F S1x1024 .f32 × Vec F S8x1024 .f32 × Vec F S8x1024 .f32)

/-- Every point leaves its 512 rows of the gradient. -/
theorem rows : (Value.stAt0 m c t.val t.isLt acc).1 = rowOf (iblk m c 2 t) (iblk m c 0 t) (iblk m c 1 t) := by
  unfold rowOf
  by_cases h0 : t.val % 16 = 0
  · have h1 : ¬t.val % 16 = 15 := by omega
    rw [Value.stAt0_A m c t acc h0 h1]
    dsimp only
    unfold out0_A_3
    rw [View.read_writes_eq_canon _ _ _ (fun _ => cover0_A_3 ..)]
    unfold kernelRun0_A
    dsimp only
    sl_unfold_words
    rw [View.canon_unit_zero (S := S512x1024) hz]
    simp only [View.readAt_eq_ld, Memref.IsWhole.read_unread, View.ld_unit_zero (S := S512x1024) hz, View.ld_unit_zero (S := S1x1024) hz,
      View.ld_unit_zero (S := S8x1024) hz, read_unread_whole]
  · by_cases h1 : t.val % 16 = 15
    · rw [Value.stAt0_C m c t acc h0 h1]
      dsimp only
      unfold out0_C_3
      rw [View.read_writes_eq_canon _ _ _ (fun _ => cover0_C_3 ..)]
      unfold kernelRun0_C
      dsimp only
      sl_unfold_words
      rw [View.canon_unit_zero (S := S512x1024) hz]
      simp only [View.readAt_eq_ld, Memref.IsWhole.read_unread, View.ld_unit_zero (S := S512x1024) hz, View.ld_unit_zero (S := S1x1024) hz,
        View.ld_unit_zero (S := S8x1024) hz, read_unread_whole]
    · rw [Value.stAt0_B m c t acc h0 h1]
      dsimp only
      unfold out0_B_3
      rw [View.read_writes_eq_canon _ _ _ (fun _ => cover0_B_3 ..)]
      unfold kernelRun0_B
      dsimp only
      sl_unfold_words
      rw [View.canon_unit_zero (S := S512x1024) hz]
      simp only [View.readAt_eq_ld, Memref.IsWhole.read_unread, View.ld_unit_zero (S := S512x1024) hz, View.ld_unit_zero (S := S1x1024) hz,
        View.ld_unit_zero (S := S8x1024) hz, read_unread_whole]

/-- The first point starts the partial sums of the squared error from zero. -/
theorem square_first (h0 : t.val % 16 = 0) :
    (Value.stAt0 m c t.val t.isLt acc).2.2.2.1 = k0_pay11 (iblk m c 2 t) (iblk m c 0 t) (iblk m c 1 t) k0_pay5 := by
  have h1 : ¬t.val % 16 = 15 := by omega
  rw [Value.stAt0_A m c t acc h0 h1]
  dsimp only
  unfold sout0_A_0
  rw [View.read_writes_eq_canon _ _ _ (fun _ => scover0_A_0 ..)]
  unfold kernelRun0_A
  dsimp only
  sl_unfold_words
  rw [View.canon_cons_unit_zero (S := S8x1024) hz, View.readCov_unit_zero (S := S8x1024) _ hz]
  simp only [View.readAt_eq_ld, Memref.IsWhole.read_unread, View.ld_unit_zero (S := S512x1024) hz, View.ld_unit_zero (S := S1x1024) hz,
  View.ld_unit_zero (S := S8x1024) hz, read_unread_whole]

/-- Every later point adds to them. -/
theorem square_later (h0 : ¬t.val % 16 = 0) :
    (Value.stAt0 m c t.val t.isLt acc).2.2.2.1 = k0_pay11 (iblk m c 2 t) (iblk m c 0 t) (iblk m c 1 t) acc.2.2.2.1 := by
  by_cases h1 : t.val % 16 = 15
  · rw [Value.stAt0_C m c t acc h0 h1]
    dsimp only
    unfold sout0_C_0
    rw [View.read_writes_eq_canon _ _ _ (fun _ => scover0_C_0 ..)]
    unfold kernelRun0_C
    dsimp only
    sl_unfold_words
    rw [View.canon_unit_zero (S := S8x1024) hz]
    simp only [View.readAt_eq_ld, Memref.IsWhole.read_unread, View.ld_unit_zero (S := S512x1024) hz, View.ld_unit_zero (S := S1x1024) hz,
      View.ld_unit_zero (S := S8x1024) hz, read_unread_whole]
  · rw [Value.stAt0_B m c t acc h0 h1]
    dsimp only
    unfold sout0_B_0
    rw [View.read_writes_eq_canon _ _ _ (fun _ => scover0_B_0 ..)]
    unfold kernelRun0_B
    dsimp only
    sl_unfold_words
    rw [View.canon_unit_zero (S := S8x1024) hz]
    simp only [View.readAt_eq_ld, Memref.IsWhole.read_unread, View.ld_unit_zero (S := S512x1024) hz, View.ld_unit_zero (S := S1x1024) hz,
      View.ld_unit_zero (S := S8x1024) hz, read_unread_whole]

/-- The first point starts the partial sums of the gain's gradient from zero. -/
theorem gain_first (h0 : t.val % 16 = 0) :
    (Value.stAt0 m c t.val t.isLt acc).2.2.2.2 = gainOf (iblk m c 2 t) (iblk m c 0 t) (iblk m c 1 t) k0_pay6 := by
  unfold gainOf
  have h1 : ¬t.val % 16 = 15 := by omega
  rw [Value.stAt0_A m c t acc h0 h1]
  dsimp only
  unfold sout0_A_1
  rw [View.read_writes_eq_canon _ _ _ (fun _ => scover0_A_1 ..)]
  unfold kernelRun0_A
  dsimp only
  sl_unfold_words
  rw [View.canon_cons_unit_zero (S := S8x1024) hz, View.readCov_unit_zero (S := S8x1024) _ hz]
  simp only [View.readAt_eq_ld, Memref.IsWhole.read_unread, View.ld_unit_zero (S := S512x1024) hz, View.ld_unit_zero (S := S1x1024) hz,
  View.ld_unit_zero (S := S8x1024) hz, read_unread_whole]

/-- Every later point adds to them. -/
theorem gain_later (h0 : ¬t.val % 16 = 0) :
    (Value.stAt0 m c t.val t.isLt acc).2.2.2.2 = gainOf (iblk m c 2 t) (iblk m c 0 t) (iblk m c 1 t) acc.2.2.2.2 := by
  unfold gainOf
  by_cases h1 : t.val % 16 = 15
  · rw [Value.stAt0_C m c t acc h0 h1]
    dsimp only
    unfold sout0_C_1
    rw [View.read_writes_eq_canon _ _ _ (fun _ => scover0_C_1 ..)]
    unfold kernelRun0_C
    dsimp only
    sl_unfold_words
    rw [View.canon_unit_zero (S := S8x1024) hz]
    simp only [View.readAt_eq_ld, Memref.IsWhole.read_unread, View.ld_unit_zero (S := S512x1024) hz, View.ld_unit_zero (S := S1x1024) hz,
      View.ld_unit_zero (S := S8x1024) hz, read_unread_whole]
  · rw [Value.stAt0_B m c t acc h0 h1]
    dsimp only
    unfold sout0_B_1
    rw [View.read_writes_eq_canon _ _ _ (fun _ => scover0_B_1 ..)]
    unfold kernelRun0_B
    dsimp only
    sl_unfold_words
    rw [View.canon_unit_zero (S := S8x1024) hz]
    simp only [View.readAt_eq_ld, Memref.IsWhole.read_unread, View.ld_unit_zero (S := S512x1024) hz, View.ld_unit_zero (S := S1x1024) hz,
      View.ld_unit_zero (S := S8x1024) hz, read_unread_whole]

/-- The last point writes the loss out. -/
theorem loss_last (h1 : t.val % 16 = 15) :
    (Value.stAt0 m c t.val t.isLt acc).2.1 = k0_pay3 (k0_pay11 (iblk m c 2 t) (iblk m c 0 t) (iblk m c 1 t) acc.2.2.2.1) := by
  have h0 : ¬t.val % 16 = 0 := by omega
  rw [Value.stAt0_C m c t acc h0 h1]
  dsimp only
  unfold out0_C_4
  rw [View.read_writes_eq_canon _ _ _ (fun _ => cover0_C_4 ..)]
  unfold kernelRun0_C
  dsimp only
  sl_unfold_words
  rw [View.canon_unit_zero (S := S1x128) hz, View.readCov_unit_zero (S := S8x1024) _ hz]
  simp only [View.readAt_eq_ld, Memref.IsWhole.read_unread, View.ld_unit_zero (S := S512x1024) hz, View.ld_unit_zero (S := S1x1024) hz,
  View.ld_unit_zero (S := S8x1024) hz, read_unread_whole]

/-- The last point writes the gain gradient out. -/
theorem gain_last (h1 : t.val % 16 = 15) :
    (Value.stAt0 m c t.val t.isLt acc).2.2.1 = k0_pay4 (gainOf (iblk m c 2 t) (iblk m c 0 t) (iblk m c 1 t) acc.2.2.2.2) := by
  unfold gainOf
  have h0 : ¬t.val % 16 = 0 := by omega
  rw [Value.stAt0_C m c t acc h0 h1]
  dsimp only
  unfold out0_C_5
  rw [View.read_writes_eq_canon _ _ _ (fun _ => cover0_C_5 ..)]
  unfold kernelRun0_C
  dsimp only
  sl_unfold_words
  rw [View.canon_unit_zero (S := S1x1024) hz, View.readCov_unit_zero (S := S8x1024) _ hz]
  simp only [View.readAt_eq_ld, Memref.IsWhole.read_unread, View.ld_unit_zero (S := S512x1024) hz, View.ld_unit_zero (S := S1x1024) hz,
  View.ld_unit_zero (S := S8x1024) hz, read_unread_whole]

end Cert.LossHeadIdeal.Block

end
-- ==== Proof.LossArray.lean ====
/-
  What the three result arrays of the loss hold, of finite inputs: point `t` works on rows `512 t` and on; the loss and the
  gain's gradient are sums over all 8192 rows, which the kernel takes in 8 interleaved partial sums over its 16 points.
-/
module

public import proofs.«01_k».proof.Proof.LossPoint
public import Idealize.ShloMosaic.Lib.Claim

@[expose] public section

set_option maxRecDepth 16384

noncomputable section

namespace Cert.LossHeadIdeal.Block

open Cert.LossHeadIdeal Cert.LossHeadIdeal.Gen Cert.Reals Idealize.ShloMosaic Idealize.ShloMosaic.TcCoe Idealize.SL.Sem

theorem place_rows : ∀ t : Fin cfg0.N, win0_0.index t = ![t.val, 0] ∧ win0_1.index t = ![t.val, 0] ∧ win0_2.index t = ![0, 0] := by
  decide +kernel

/-- The gain as the kernel's one row. -/
theorem V_gain {F : FTy → Type} [FloatOps F] (m : (ℓ : Loc nD τ sig) → Buf (Elt F) ℓ) (c : Dev nD) :
    V m c main_v0 = shapeCast _ (m ((c : Thread nD τ).loc main_arg2)) shapeCasts_S1024_S1x1024 := by
  entry_read
  rfl

theorem rowlt (t : Fin cfg0.N) (r : Fin 512) : 512 * t.val + r.val < 8192 := by
  have := lt_of_lt_of_eq t.isLt (show cfg0.N = 16 from N_0)
  omega

/-- The rows of an array that point `t` works on. -/
def rowsAt (X : S8192x1024.Idx → ℝ) (t : Fin cfg0.N) (y : S512x1024.Idx) : ℝ := X (ix2 ⟨512 * t.val + (y 0).val, rowlt t (y 0)⟩ (y 1))

section

variable (m : (ℓ : Loc nD τ sig) → Buf (Elt Ideal) ℓ) (c : Dev nD) (T H : S8192x1024.Idx → ℝ) (G : S1024.Idx → ℝ)
  (hH : m ((c : Thread nD τ).loc main_arg0) = fun i => (H i : EReal)) (hT : m ((c : Thread nD τ).loc main_arg1) = fun i => (T i : EReal))
  (hG : m ((c : Thread nD τ).loc main_arg2) = fun i => (G i : EReal))

include hH in
theorem blk_h (t : Fin cfg0.N) : @Eq (Vec Ideal S512x1024 .f32) (iblk m c 0 t) fun y => (rowsAt H t y : EReal) := by
  funext y
  unfold iblk
  rw [View.read_apply]
  show V m c main_arg0 _ = _
  rw [V_main_arg0]
  refine (congrFun hH _).trans (congrArg (fun i => (H i : EReal)) ?_)
  funext a
  apply Fin.ext
  match a with
  | ⟨0, _⟩ => show win0_0.index t 0 * 512 + 1 * (y 0).val = _; rw [(place_rows t).1]; show t.val * 512 + 1 * (y 0).val = 512 * t.val + (y 0).val; omega
  | ⟨1, _⟩ => show win0_0.index t 1 * 1024 + 1 * (y 1).val = _; rw [(place_rows t).1]; show 0 * 1024 + 1 * (y 1).val = (y 1).val; omega

include hT in
theorem blk_t (t : Fin cfg0.N) : @Eq (Vec Ideal S512x1024 .f32) (iblk m c 1 t) fun y => (rowsAt T t y : EReal) := by
  funext y
  unfold iblk
  rw [View.read_apply]
  show V m c main_arg1 _ = _
  rw [V_main_arg1]
  refine (congrFun hT _).trans (congrArg (fun i => (T i : EReal)) ?_)
  funext a
  apply Fin.ext
  match a with
  | ⟨0, _⟩ => show win0_1.index t 0 * 512 + 1 * (y 0).val = _; rw [(place_rows t).2.1]; show t.val * 512 + 1 * (y 0).val = 512 * t.val + (y 0).val; omega
  | ⟨1, _⟩ => show win0_1.index t 1 * 1024 + 1 * (y 1).val = _; rw [(place_rows t).2.1]; show 0 * 1024 + 1 * (y 1).val = (y 1).val; omega

include hG in
theorem blk_g (t : Fin cfg0.N) : @Eq (Vec Ideal S1x1024 .f32) (iblk m c 2 t) fun y => (G (ix1 (y 1)) : EReal) := by
  refine funext fun (y : S1x1024.Idx) => ?_
  rw [eq_ix2 y, show y 0 = (0 : Fin 1) from Subsingleton.elim (α := Fin 1) _ _]
  unfold iblk
  rw [View.read_apply]
  show V m c main_v0 _ = _
  rw [V_gain]
  trans shapeCast _ (m ((c : Thread nD τ).loc main_arg2)) shapeCasts_S1024_S1x1024 (ix2 0 (y 1))
  · congr 1
    funext a
    apply Fin.ext
    match a with
    | ⟨0, _⟩ => show win0_2.index t 0 * 1 + 1 * 0 = _; rw [(place_rows t).2.2]; rfl
    | ⟨1, _⟩ => show win0_2.index t 1 * 1024 + 1 * (y 1).val = _; rw [(place_rows t).2.2]; show 0 * 1024 + 1 * (y 1).val = (y 1).val; omega
  · rw [hG]; pointwise

/-- The step at a point is the generated recursion's, the first point included. -/
theorem outs_eq : ∀ (n : ℕ) (h : n < cfg0.N), ∃ acc, outsAt0 m c n h = Value.stAt0 m c n h acc
  | 0, h => ⟨_, Value.outsAt0_zero m c h⟩
  | n + 1, h => ⟨_, Value.outsAt0_succ m c n h⟩

/-- The error at an entry. -/
def err (i : Fin 8192) (k : Fin 1024) : ℝ := errAt (fun l => H (ix2 i l)) (fun l => G (ix1 l)) (fun l => T (ix2 i l)) k

/-- What row `i` adds to the gain's gradient. -/
def gainTerm (k : Fin 1024) (i : Fin 8192) : ℝ := err T H G i k * (1 / 1024) * (H (ix2 i k) * rowScale fun l => H (ix2 i l))

/-- What row `i` adds to the squared error of column `k`. -/
def squareTerm (k : Fin 1024) (i : Fin 8192) : ℝ := err T H G i k * err T H G i k

include hH hT hG

theorem gain_step (t : Fin cfg0.N) (a : Vec Ideal S8x1024 .f32) (r : Fin 8) (k : Fin 1024) :
    gainOf (iblk m c 2 t) (iblk m c 0 t) (iblk m c 1 t) a (ix2 r k)
      = a (ix2 r k) + ((∑ x : Fin 64, upTo (gainTerm T H G k) (512 * t.val + (x.val * 8 + r.val)) : ℝ) : EReal) := by
  rw [blk_h m c H hH t, blk_t m c T hT t, blk_g m c G hG t]
  unfold gainOf
  rw [gain_apply]
  congr 2
  refine Finset.sum_congr rfl fun x _ => ?_
  rw [upTo_lt _ (rowlt t ⟨x.val * 8 + r.val, by omega⟩)]
  rfl

theorem square_step (t : Fin cfg0.N) (a : Vec Ideal S8x1024 .f32) (r : Fin 8) (k : Fin 1024) :
    k0_pay11 (iblk m c 2 t) (iblk m c 0 t) (iblk m c 1 t) a (ix2 r k)
      = a (ix2 r k) + ((∑ x : Fin 64, upTo (squareTerm T H G k) (512 * t.val + (x.val * 8 + r.val)) : ℝ) : EReal) := by
  rw [blk_h m c H hH t, blk_t m c T hT t, blk_g m c G hG t, square_apply]
  congr 2
  refine Finset.sum_congr rfl fun x _ => ?_
  rw [upTo_lt _ (rowlt t ⟨x.val * 8 + r.val, by omega⟩)]
  rfl

theorem gain_sums (r : Fin 8) (k : Fin 1024) : ∀ (n : ℕ) (h : n < cfg0.N), (outsAt0 m c n h).2.2.2.2 (ix2 r k)
    = ((∑ t ∈ Finset.range (n + 1), ∑ x : Fin 64, upTo (gainTerm T H G k) (512 * t + (x.val * 8 + r.val)) : ℝ) : EReal)
  | 0, h => by
    rw [Value.outsAt0_zero m c h, gain_first m c ⟨0, h⟩ _ rfl, gain_step m c T H G hH hT hG, pay6_apply]
    simp
  | n + 1, h => by
    rw [Value.outsAt0_succ m c n h, gain_later m c ⟨n + 1, h⟩ _ (by have := lt_of_lt_of_eq h (show cfg0.N = 16 from N_0); dsimp only; omega),
      gain_step m c T H G hH hT hG, gain_sums r k n, Finset.sum_range_succ _ (n + 1), EReal.coe_add]

theorem square_sums (r : Fin 8) (k : Fin 1024) : ∀ (n : ℕ) (h : n < cfg0.N), (outsAt0 m c n h).2.2.2.1 (ix2 r k)
    = ((∑ t ∈ Finset.range (n + 1), ∑ x : Fin 64, upTo (squareTerm T H G k) (512 * t + (x.val * 8 + r.val)) : ℝ) : EReal)
  | 0, h => by
    rw [Value.outsAt0_zero m c h, square_first m c ⟨0, h⟩ _ rfl, square_step m c T H G hH hT hG, pay5_apply]
    simp
  | n + 1, h => by
    rw [Value.outsAt0_succ m c n h, square_later m c ⟨n + 1, h⟩ _ (by have := lt_of_lt_of_eq h (show cfg0.N = 16 from N_0); dsimp only; omega),
      square_step m c T H G hH hT hG, square_sums r k n, Finset.sum_range_succ _ (n + 1), EReal.coe_add]

/-- The gradient in the last state. -/
theorem G3_eq (i : Fin 8192) (k : Fin 1024) : Value.G3 m c (ix2 i k)
    = ((normGrad (fun l => H (ix2 i l)) (fun l => G (ix1 l)) (fun l => err T H G i l * (1 / 1024)) k : ℝ) : EReal) := by
  have hp : Value.pt3Of (ix2 i k) < cfg0.N := lt_of_lt_of_eq (show 1 * (i.val / 512 - 0) + 1 * (k.val / 1024 - 0) < 16 by omega) N_0.symm
  unfold Value.G3
  rw [dif_pos hp, ← Value.outsAt0_sweep m c _ hp]
  obtain ⟨acc, e⟩ := outs_eq m c _ hp
  rw [e, rows m c ⟨_, hp⟩, blk_h m c H hH, blk_t m c T hT, blk_g m c G hG]
  have hl : Value.loc3Of (ix2 i k) = ix2 ⟨i.val % 512, by omega⟩ k := by
    funext a; apply Fin.ext
    match a with
    | ⟨0, _⟩ => rfl
    | ⟨1, _⟩ => show k.val % 1024 = k.val; omega
  have hr : (⟨512 * Value.pt3Of (ix2 i k) + i.val % 512, rowlt ⟨_, hp⟩ ⟨i.val % 512, by omega⟩⟩ : Fin 8192) = i := by
    apply Fin.ext
    show 512 * (1 * (i.val / 512 - 0) + 1 * (k.val / 1024 - 0)) + i.val % 512 = i.val
    omega
  unfold rowOf
  rw [hl, row_apply]
  have hrow : ∀ X : S8192x1024.Idx → ℝ, (fun l => rowsAt X ⟨Value.pt3Of (ix2 i k), hp⟩ (ix2 ⟨i.val % 512, by omega⟩ l)) = fun l => X (ix2 i l) :=
    fun X => funext fun l => congrArg (fun z => X (ix2 z l)) hr
  rw [hrow, hrow]
  rfl

/-- The gain's gradient. -/
theorem G5_eq (k : Fin 1024) : Value.G5 m c (ix2 0 k) = ((∑ i : Fin 8192, gainTerm T H G k i : ℝ) : EReal) := by
  have hp : 15 < cfg0.N := lt_of_lt_of_eq (by decide) N_0.symm
  rw [Value.G5_last, ← Value.outsAt0_sweep m c 15 hp, Value.outsAt0_succ m c 14 hp, gain_last m c ⟨15, hp⟩ _ rfl, pay4_apply]
  simp only [gain_step m c T H G hH hT hG, gain_sums m c T H G hH hT hG]
  simp only [← EReal.coe_add, ← Finset.sum_range_succ (fun t => ∑ x : Fin 64, upTo (gainTerm T H G k) (512 * t + (x.val * 8 + _))) 15, ← coe_sum]
  exact congrArg _ ((sum_fold _ 16 64).trans (sum_upTo _))

/-- The partial sums of the squared error that the last point leaves. -/
def allSquares (y : S8x1024.Idx) : ℝ := ∑ t ∈ Finset.range 16, ∑ x : Fin 64, upTo (squareTerm T H G (y 1)) (512 * t + (x.val * 8 + (y 0).val))

theorem square_last (hp : 15 < cfg0.N) (h4 : 14 < cfg0.N) (r : Fin 8) (k : Fin 1024) :
    k0_pay11 (iblk m c 2 ⟨15, hp⟩) (iblk m c 0 ⟨15, hp⟩) (iblk m c 1 ⟨15, hp⟩) (outsAt0 m c 14 h4).2.2.2.1 (ix2 r k)
      = (allSquares T H G (ix2 r k) : EReal) := by
  rw [square_step m c T H G hH hT hG, square_sums m c T H G hH hT hG, ← EReal.coe_add,
    ← Finset.sum_range_succ (fun t => ∑ x : Fin 64, upTo (squareTerm T H G k) (512 * t + (x.val * 8 + r.val))) 15]
  rfl

omit hH hT hG in
theorem allSquares_sum (l : Fin 1024) : ∑ r : Fin 8, allSquares T H G (ix2 r l) = ∑ i : Fin 8192, squareTerm T H G l i :=
  by
  unfold allSquares
  exact (sum_fold (upTo (squareTerm T H G l)) 16 64).trans (sum_upTo _)

/-- The loss, in every lane of its row. -/
theorem G4_eq (k : Fin 128) : Value.G4 m c (ix2 0 k) = (((∑ l : Fin 1024, ∑ i : Fin 8192, squareTerm T H G l i) * (1 / 2048) : ℝ) : EReal) := by
  have hp : 15 < cfg0.N := lt_of_lt_of_eq (by decide) N_0.symm
  have h4 : 14 < cfg0.N := lt_of_lt_of_eq (by decide) N_0.symm
  rw [Value.G4_last, ← Value.outsAt0_sweep m c 15 hp, Value.outsAt0_succ m c 14 hp, loss_last m c ⟨15, hp⟩ _ rfl]
  have e : @Eq (Vec Ideal S8x1024 .f32) (k0_pay11 (iblk m c 2 ⟨15, hp⟩) (iblk m c 0 ⟨15, hp⟩) (iblk m c 1 ⟨15, hp⟩) (outsAt0 m c 14 h4).2.2.2.1)
      fun y => (allSquares T H G y : EReal) := by
    refine funext fun (y : S8x1024.Idx) => ?_
    rw [eq_ix2 y]
    exact square_last m c T H G hH hT hG hp h4 (y 0) (y 1)
  rw [e, pay3_apply, Finset.sum_comm]
  simp only [allSquares_sum]

end

end Cert.LossHeadIdeal.Block

end
-- ==== Proof.LossRef.lean ====
/-
  What the loss's forward lines and their derivative compute, of finite inputs.
-/
module

public import proofs.«01_k».proof.Proof.LossArray
public import proofs.«01_k».proof.Proof.Gen.LossHeadRefIdeal.Read

@[expose] public section

set_option maxRecDepth 16384

noncomputable section

namespace Cert.LossHeadRefIdeal.Stages

open Cert.LossHeadRefIdeal Cert.LossHeadRefIdeal.Gen Cert.LossHeadRefIdeal.Read Cert.Reals Idealize.ShloMosaic Idealize.SL.Sem
open Cert.LossHeadIdeal.Block (err errAt)

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

variable (T H : S8192x1024.Idx → ℝ) (G : S1024.Idx → ℝ) (i : Fin 8192) (k : Fin 1024)

theorem mean_apply : @Eq EReal (val_main_v6 (F := Ideal) (fun y => (H y : EReal)) (ix2 i 0)) ((meanSq fun l => H (ix2 i l) : ℝ) : EReal) := by
  pointwise [val_main_v6, val_main_v5, val_main_v4, val_main_v3, val_main_v2, val_main_v1, val_main_v0, val_main_cst, val_main_cst_0, val_main_cst_1]
  simp only [← EReal.coe_mul, ← coe_sum, ofBits_1024, ofBits_eps, div_coe _ (by norm_num : (1024 : ℝ) ≠ 0), ← EReal.coe_add]
  rfl

theorem scale_apply : @Eq EReal (val_main_v7 (F := Ideal) (fun y => (H y : EReal)) (ix2 i 0)) ((rowScale fun l => H (ix2 i l) : ℝ) : EReal) := by
  pointwise [val_main_v7]
  rw [mean_apply]
  exact rsqrt_coe (meanSq_pos _)

theorem err_apply : @Eq EReal (val_main_v16 (F := Ideal) (fun y => (H y : EReal)) (fun y => (T y : EReal)) (fun y => (G y : EReal)) (ix2 i k))
    (err T H G i k : EReal) := by
  pointwise [val_main_v16, val_main_v15, val_main_v14, val_main_v13, val_main_v12, val_main_v11]
  rw [scale_apply, ← EReal.coe_mul, ← EReal.coe_mul, ← EReal.coe_sub]
  rfl

theorem cot_apply : @Eq EReal (val_main_v30 (F := Ideal) (fun y => (H y : EReal)) (fun y => (T y : EReal)) (fun y => (G y : EReal)) (ix2 i k))
    ((err T H G i k * (1 / 1024) : ℝ) : EReal) := by
  pointwise [val_main_v30, val_main_v29, val_main_v28, val_main_v27, val_main_v26, val_main_v25, val_main_v19, val_main_v18, val_main_cst_3,
    val_main_cst_8, val_main_cst_9, val_main_cst_10]
  rw [err_apply, ofBits_half, ofBits_two, ofBits_1024, div_coe _ (by norm_num : (1024 : ℝ) ≠ 0), ← EReal.coe_mul,
    ← EReal.coe_mul]
  exact congrArg _ (by ring)

/-- The loss. -/
theorem loss_apply (k : Fin 128) : @Eq EReal (val_main_v51 (F := Ideal) (fun y => (H y : EReal)) (fun y => (T y : EReal)) (fun y => (G y : EReal)) (ix2 0 k))
    ((1 / 2 * ∑ i : Fin 8192, (∑ l : Fin 1024, err T H G i l * err T H G i l) / 1024 : ℝ) : EReal) := by
  pointwise [val_main_v51, val_main_v24, val_main_v23, val_main_v22, val_main_v21, val_main_v20, val_main_v17, val_main_cst_4, val_main_cst_5,
    val_main_cst_6, val_main_cst_7]
  simp only [err_apply, ofBits_half, ofBits_1024, ← EReal.coe_mul, ← coe_sum, div_coe _ (by norm_num : (1024 : ℝ) ≠ 0)]

/-- The gain's gradient. -/
theorem gain_apply : @Eq EReal (val_main_v52 (F := Ideal) (fun y => (H y : EReal)) (fun y => (T y : EReal)) (fun y => (G y : EReal)) (ix2 0 k))
    ((∑ i : Fin 8192, H (ix2 i k) * (rowScale fun l => H (ix2 i l)) * (err T H G i k * (1 / 1024)) : ℝ) : EReal) := by
  pointwise [val_main_v52, val_main_v36, val_main_v33, val_main_v32, val_main_v31, val_main_v12, val_main_v11, val_main_cst_11, val_main_cst_12]
  simp only [Fin.sum_univ_one, scale_apply, cot_apply, ← EReal.coe_mul, ← coe_sum]

theorem back_apply : @Eq EReal (val_main_v45 (F := Ideal) (fun y => (H y : EReal)) (fun y => (T y : EReal)) (fun y => (G y : EReal)) (ix1 i))
    (((∑ l, H (ix2 i l) * (err T H G i l * (1 / 1024) * G (ix1 l))) * (-(1 / 2) * (rowScale (fun l => H (ix2 i l)) / meanSq fun l => H (ix2 i l))) / 1024 : ℝ) : EReal) := by
  pointwise [val_main_v45, val_main_v44, val_main_v43, val_main_v42, val_main_v39, val_main_v38, val_main_v37, val_main_v35, val_main_v34, val_main_v13,
    val_main_v10, val_main_v9, val_main_v8, val_main_cst_2, val_main_cst_13, val_main_cst_14, val_main_cst_15]
  simp only [Fin.sum_univ_one, scale_apply, mean_apply, cot_apply, ← EReal.coe_mul, ← coe_sum, ofBits_1024, ofBits_neg_half, div_coe _ (by norm_num : (1024 : ℝ) ≠ 0),
    div_coe _ (meanSq_pos fun l => H (ix2 i l)).ne']

/-- The gradient in the last state. -/
theorem row_apply : @Eq EReal (val_main_v50 (F := Ideal) (fun y => (H y : EReal)) (fun y => (T y : EReal)) (fun y => (G y : EReal)) (ix2 i k))
    ((normGrad (fun l => H (ix2 i l)) (fun l => G (ix1 l)) (fun l => err T H G i l * (1 / 1024)) k : ℝ) : EReal) := by
  pointwise [val_main_v50, val_main_v49, val_main_v48, val_main_v47, val_main_v46, val_main_v41, val_main_v40, val_main_v35, val_main_v34, val_main_v13]
  simp only [back_apply, scale_apply, cot_apply, ← EReal.coe_mul, ← EReal.coe_add]
  rw [normGrad_eq]

end Cert.LossHeadRefIdeal.Stages

end
-- ==== Proof.LossClaim.lean ====
/-
  The loss and its gradients: the kernel and the forward lines with their derivative end with equal results.
-/
module

public import proofs.«01_k».proof.Defs
public import proofs.«01_k».proof.Proof.LossRef
public import proofs.«01_k».proof.Proof.Gen.LossHeadRefIdeal.Run
public import proofs.«01_k».proof.Proof.Gen.Pre_loss_finite
public import Idealize.ShloMosaic.Lib.Quiescent

@[expose] public section

set_option maxRecDepth 16384

noncomputable section

namespace Cert.LossClaim

open Idealize.ShloMosaic Idealize.ShloMosaic.TcCoe Idealize.SL.Sem Cert.Reals
open Cert.LossHeadIdeal (nD τ sig main_arg0 main_arg1 main_arg2)
open Cert.LossHeadIdeal.Block (err squareTerm gainTerm)

/-- The precondition, read: the three arrays hold reals. -/
theorem reals (m : (ℓ : Loc nD τ sig) → Buf (Elt Ideal) ℓ) (hpre : Cert.Pre_LossHeadIdeal_loss_finite m) (c : Dev nD) :
    ∃ (H T : (Shape.mk 2 ![8192, 1024]).Idx → ℝ) (G : (Shape.mk 1 ![1024]).Idx → ℝ),
      (m ((c : Thread nD τ).loc main_arg0) = fun i => (H i : EReal)) ∧ (m ((c : Thread nD τ).loc main_arg1) = fun i => (T i : EReal))
      ∧ (m ((c : Thread nD τ).loc main_arg2) = fun i => (G i : EReal)) :=
  ⟨fun i => EReal.toReal (m (c.tc.loc main_arg0) i), fun i => EReal.toReal (m (c.tc.loc main_arg1) i),
    fun i => EReal.toReal (m (c.tc.loc main_arg2) i),
    funext fun i => (coe_toReal (congrFun (hpre c).1 i)).symm, funext fun i => (coe_toReal (congrFun (hpre c).2.1 i)).symm,
    funext fun i => (coe_toReal (congrFun (hpre c).2.2 i)).symm⟩

theorem frame_ref : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run m ρ)

/-- Both ways to scale the squared error. -/
theorem loss_eq (T H : (Shape.mk 2 ![8192, 1024]).Idx → ℝ) (G : (Shape.mk 1 ![1024]).Idx → ℝ) :
    1 / 2 * ∑ i : Fin 8192, (∑ l : Fin 1024, err T H G i l * err T H G i l) / 1024
      = (∑ l : Fin 1024, ∑ i : Fin 8192, squareTerm T H G l i) * (1 / 2048) := by
  rw [← Finset.sum_div, Finset.sum_comm]
  unfold squareTerm
  ring

theorem algebraic : Cert.algebraic_LossHeadIdeal_LossHeadRefIdeal_pre_loss_finite := fun m ρ m' ρ' hpre hag =>
  ⟨fun c => Cert.LossHeadIdeal.Value.G3 m c, fun c => Cert.LossHeadIdeal.Value.G4 m c, fun c => Cert.LossHeadIdeal.Value.G5 m c, Cert.LossHeadIdeal.Value.run m ρ,
    (θ_run _ _ _).mono (fun _ h c => by
      obtain ⟨H, T, G, hH, hT, hG⟩ := reals m hpre c
      obtain ⟨a0, a1, a2⟩ := hag c
      refine ⟨(h c).1.trans ?_, (h c).2.1.trans ?_, (h c).2.2.1.trans ?_, (h c).2.2.2⟩
      · rw [Cert.LossHeadRefIdeal.Read.val_main_v50_eq, a0, a1, a2, hH, hT, hG]
        refine funext fun (i : Cert.LossHeadIdeal.S8192x1024.Idx) => ?_
        rw [eq_ix2 i]
        exact (Cert.LossHeadRefIdeal.Stages.row_apply T H G _ _).trans (Cert.LossHeadIdeal.Block.G3_eq m c T H G hH hT hG _ _).symm
      · rw [Cert.LossHeadRefIdeal.Read.val_main_v51_eq, a0, a1, a2, hH, hT, hG]
        refine funext fun (i : Cert.LossHeadIdeal.S1x128.Idx) => ?_
        rw [eq_ix2 i, show i 0 = (0 : Fin 1) from Subsingleton.elim (α := Fin 1) _ _]
        exact (Cert.LossHeadRefIdeal.Stages.loss_apply T H G _).trans
          ((congrArg _ (loss_eq T H G)).trans (Cert.LossHeadIdeal.Block.G4_eq m c T H G hH hT hG _).symm)
      · rw [Cert.LossHeadRefIdeal.Read.val_main_v52_eq, a0, a1, a2, hH, hT, hG]
        refine funext fun (i : Cert.LossHeadIdeal.S1x1024.Idx) => ?_
        rw [eq_ix2 i, show i 0 = (0 : Fin 1) from Subsingleton.elim (α := Fin 1) _ _]
        refine (Cert.LossHeadRefIdeal.Stages.gain_apply T H G _).trans (Eq.trans ?_ (Cert.LossHeadIdeal.Block.G5_eq m c T H G hH hT hG _).symm)
        exact congrArg _ (Finset.sum_congr rfl fun i _ => mul_comm _ _))
    (Cert.LossHeadRefIdeal.Value.run m' ρ')⟩

end Cert.LossClaim

end
-- ==== Proof.OBlock.lean ====
/-
  What one grid point of the output projection's gradient computes, of finite inputs: 512 rows of the gradient in the
  attention's output, and each head's row sums of that gradient times the output.
-/
module

public import proofs.«01_k».proof.Proof.Reals
public import proofs.«01_k».proof.Proof.Gen.OBwdIdeal.Value
public import Idealize.ShloMosaic.Lib.Pipeline.ReadBack
public import Idealize.ShloMosaic.Lib.StableHlo.ReadAt
public import Idealize.ShloMosaic.Lib.Claim

@[expose] public section

set_option maxRecDepth 16384

noncomputable section

namespace Cert.OBwdIdeal.Block

open Cert.OBwdIdeal Cert.OBwdIdeal.Gen Cert.Reals Idealize.ShloMosaic Idealize.ShloMosaic.TcCoe Idealize.SL.Sem

/-- Rows of the gradient in the attention's output. -/
theorem pay1_apply (D : S512x1024.Idx → ℝ) (W : S1024x1024.Idx → ℝ) (r : Fin 512) (k : Fin 1024) :
    @Eq EReal (k0_pay1 (F := Ideal) (fun y => (D y : EReal)) (fun y => (W y : EReal)) (ix2 r k)) ((∑ l : Fin 1024, D (ix2 r l) * W (ix2 k l) : ℝ) : EReal) := by
  pointwise [k0_pay1]
  simp only [← EReal.coe_mul, ← coe_sum]

/-- A product with the selector, the other factor taken in three pieces that add up to it. -/
def three (e : FVec Ideal S16x1024 .bf16) (x : FVec Ideal S512x1024 .f32) : FVec Ideal S16x512 .f32 :=
  have a : FVec Ideal S512x1024 .bf16 := truncf .bf16 x bitsLt_bf16_f32
  have y : FVec Ideal S512x1024 .f32 := subf x (extf .f32 a bitsLt_bf16_f32)
  have b : FVec Ideal S512x1024 .bf16 := truncf .bf16 y bitsLt_bf16_f32
  have z : FVec Ideal S512x1024 .f32 := subf y (extf .f32 b bitsLt_bf16_f32)
  addf (addf (matmul dot_S16x1024_S512x1024_S16x512_1_1_0_0_n_n none e a (constant S16x512 .f32 0x00000000#32))
      (matmul dot_S16x1024_S512x1024_S16x512_1_1_0_0_n_n none e b (constant S16x512 .f32 0x00000000#32)))
    (matmul dot_S16x1024_S512x1024_S16x512_1_1_0_0_n_n none e (truncf .bf16 z bitsLt_bf16_f32) (constant S16x512 .f32 0x00000000#32))

theorem three_apply (E : S16x1024.Idx → ℝ) (X : S512x1024.Idx → ℝ) (h : Fin 16) (r : Fin 512) :
    @Eq EReal (three (fun y => (E y : EReal)) (fun y => (X y : EReal)) (ix2 h r)) ((∑ k : Fin 1024, E (ix2 h k) * X (ix2 r k) : ℝ) : EReal) := by
  pointwise [three]
  simp only [← EReal.coe_mul, ← EReal.coe_sub, ← coe_sum, ← EReal.coe_add, sub_self, mul_zero, Finset.sum_const_zero, add_zero]

theorem pay2_eq (d : Vec Ideal S512x1024 .f32) (w : Vec Ideal S1024x1024 .bf16) (e : Vec Ideal S16x1024 .bf16) (o : Vec Ideal S512x1024 .bf16) :
    k0_pay2 (F := Ideal) d w e o = three e (fun y => k0_pay1 (F := Ideal) d w y * o y) := by
  unfold k0_pay2
  rw [shapeCast_self, shapeCast_self]
  rfl

theorem pay2_apply (D O : S512x1024.Idx → ℝ) (W : S1024x1024.Idx → ℝ) (E : S16x1024.Idx → ℝ) (h : Fin 16) (r : Fin 512) :
    @Eq EReal (k0_pay2 (F := Ideal) (fun y => (D y : EReal)) (fun y => (W y : EReal)) (fun y => (E y : EReal)) (fun y => (O y : EReal)) (ix2 h r))
      ((∑ k : Fin 1024, E (ix2 h k) * ((∑ l : Fin 1024, D (ix2 r l) * W (ix2 k l)) * O (ix2 r k)) : ℝ) : EReal) := by
  rw [pay2_eq]
  refine Eq.trans (congrArg (fun x => three (fun y => (E y : EReal)) x (ix2 h r)) (funext fun (y : S512x1024.Idx) => ?_))
    (three_apply E (fun y => (∑ l : Fin 1024, D (ix2 (y 0) l) * W (ix2 (y 1) l)) * O y) h r)
  rw [EReal.coe_mul, eq_ix2 y]
  exact congrArg (· * _) (pay1_apply D W (y 0) (y 1))

/-- The number of a column's head, as the host's floor division gives it. -/
theorem head_word : ∀ k : Fin 1024, Scalar.select
          (IntOp.andi
            (IntOp.cmpi CmpIPredicate.ne
              (if BitVec.ofNat 32 k.val = 0 then 0 else if (BitVec.ofNat 32 k.val).msb = true then -1 else 1)
              (if id (constantI S_ 32 64#32) ix0 = 0 then 0
              else if BitVec.msb (id (constantI S_ 32 64#32) ix0) = true then -1 else (1 : BitVec 32)))
            (IntOp.cmpi CmpIPredicate.ne
              (IntOp.remsi ArithUnit.host (BitVec.ofNat 32 k.val) (id (constantI S_ 32 64#32) ix0)) 0#32))
          (IntOp.subi (IntOp.divsi ArithUnit.host (BitVec.ofNat 32 k.val) (id (constantI S_ 32 64#32) ix0)) 1#32)
          (IntOp.divsi ArithUnit.host (BitVec.ofNat 32 k.val) (id (constantI S_ 32 64#32) ix0)) = BitVec.ofNat 32 (k.val / 64) := by
  decide +kernel

theorem same_word : ∀ (h a : Fin 16), IntOp.cmpi CmpIPredicate.eq (BitVec.ofNat 32 h.val) (BitVec.ofNat 32 a.val) = if h.val = a.val then 1#1 else 0#1 := by
  decide +kernel

theorem V_sel (m : (ℓ : Loc nD τ sig) → Buf (Elt Ideal) ℓ) (c : Dev nD) (h : Fin 16) (k : Fin 1024) :
    @Eq EReal (V m c main_v8 (ix2 h k)) ((if h.val = k.val / 64 then 1 else 0 : ℝ) : EReal) := by
  unfold V
  simp only [List.flatten_cons, List.flatten_nil, List.append_nil, hostOps0, hostOps0_1, hostOps0_2, List.cons_append, List.nil_append]
  after_reads_at
  rw [head_word k, same_word h ⟨k.val / 64, by omega⟩]
  split <;> simp [FloatOps.uitofp]

theorem V_o (m : (ℓ : Loc nD τ sig) → Buf (Elt Ideal) ℓ) (c : Dev nD) (i : Fin 8192) (k : Fin 1024) :
    @Eq EReal (V m c main_v9 (ix2 i k)) (m ((c : Thread nD τ).loc main_arg1) (ix2 i k)) := by
  unfold V
  simp only [List.flatten_cons, List.flatten_nil, List.append_nil, hostOps0, hostOps0_1, hostOps0_2, List.cons_append, List.nil_append]
  after_reads_at

theorem V_w (m : (ℓ : Loc nD τ sig) → Buf (Elt Ideal) ℓ) (c : Dev nD) (i : Fin 1024) (k : Fin 1024) :
    @Eq EReal (V m c main_v10 (ix2 i k)) (m ((c : Thread nD τ).loc main_arg2) (ix2 i k)) := by
  unfold V
  simp only [List.flatten_cons, List.flatten_nil, List.append_nil, hostOps0, hostOps0_1, hostOps0_2, List.cons_append, List.nil_append]
  after_reads_at

end Cert.OBwdIdeal.Block

end
-- ==== Proof.OArray.lean ====
/-
  What the two result arrays of the output projection's gradient hold, of finite inputs: point `t` works on rows `512 t`
  and on.
-/
module

public import proofs.«01_k».proof.Proof.OBlock

@[expose] public section

set_option maxRecDepth 16384

noncomputable section

namespace Cert.OBwdIdeal.Block

open Cert.OBwdIdeal Cert.OBwdIdeal.Gen Cert.Reals Idealize.ShloMosaic Idealize.ShloMosaic.TcCoe Idealize.SL.Sem

theorem place : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, t.val] := by
  decide +kernel

theorem rowlt (t : Fin cfg0.N) (r : Fin 512) : 512 * t.val + r.val < 8192 := by
  have := lt_of_lt_of_eq t.isLt (show cfg0.N = 16 from N_0)
  omega

/-- The rows of an array that point `t` works on. -/
def rowsAt (X : S8192x1024.Idx → ℝ) (t : Fin cfg0.N) (y : S512x1024.Idx) : ℝ := X (ix2 ⟨512 * t.val + (y 0).val, rowlt t (y 0)⟩ (y 1))

theorem hz : (![0, 0] : Fin 2 → Nat) = fun _ => 0 := funext fun a => by fin_cases a <;> rfl

/-- The entries of one head among the 1024 columns. -/
theorem sum_head (f : Fin 1024 → ℝ) (h : Fin 16) :
    ∑ k : Fin 1024, (if h.val = k.val / 64 then 1 else 0) * f k = ∑ j : Fin 64, f ⟨h.val * 64 + j.val, by omega⟩ := by
  rw [← (finProdFinEquiv : Fin 16 × Fin 64 ≃ Fin 1024).sum_comp, Fintype.sum_prod_type, Finset.sum_eq_single h]
  · refine Finset.sum_congr rfl fun j _ => ?_
    have e : (finProdFinEquiv (h, j) : Fin 1024) = ⟨h.val * 64 + j.val, by omega⟩ := Fin.ext (by show j.val + 64 * h.val = h.val * 64 + j.val; omega)
    rw [e, if_pos (by show h.val = (h.val * 64 + j.val) / 64; omega), one_mul]
  · intro b _ hb
    refine Finset.sum_eq_zero fun j _ => ?_
    rw [if_neg (by show ¬h.val = (j.val + 64 * b.val) / 64; intro e; exact hb (Fin.ext (by omega))), zero_mul]
  · intro hh; exact absurd (Finset.mem_univ h) hh

variable (m : (ℓ : Loc nD τ sig) → Buf (Elt Ideal) ℓ) (c : Dev nD) (D O : S8192x1024.Idx → ℝ) (W : S1024x1024.Idx → ℝ)
  (hD : m ((c : Thread nD τ).loc main_arg0) = fun i => (D i : EReal)) (hO : m ((c : Thread nD τ).loc main_arg1) = fun i => (O i : EReal))
  (hW : m ((c : Thread nD τ).loc main_arg2) = fun i => (W i : EReal))

include hD in
theorem blk_d (t : Fin cfg0.N) : @Eq (Vec Ideal S512x1024 .f32) (iblk m c 0 t) fun y => (rowsAt D t y : EReal) := by
  funext y
  unfold iblk
  rw [View.read_apply]
  show V m c main_arg0 _ = _
  rw [V_main_arg0]
  refine (congrFun hD _).trans (congrArg (fun i => (D i : EReal)) ?_)
  funext a
  apply Fin.ext
  match a with
  | ⟨0, _⟩ => show win0_0.index t 0 * 512 + 1 * (y 0).val = _; rw [(place t).1]; show t.val * 512 + 1 * (y 0).val = 512 * t.val + (y 0).val; omega
  | ⟨1, _⟩ => show win0_0.index t 1 * 1024 + 1 * (y 1).val = _; rw [(place t).1]; show 0 * 1024 + 1 * (y 1).val = (y 1).val; omega

include hO in
theorem blk_o (t : Fin cfg0.N) : @Eq (Vec Ideal S512x1024 .bf16) (iblk m c 1 t) fun y => (rowsAt O t y : EReal) := by
  funext y
  unfold iblk
  rw [View.read_apply]
  have e : ((cfg0.win 1).blk t).view.emb y = ix2 (⟨512 * t.val + (y 0).val, rowlt t (y 0)⟩ : Fin 8192) (y 1) := by
    funext a
    apply Fin.ext
    match a with
    | ⟨0, _⟩ => show win0_1.index t 0 * 512 + 1 * (y 0).val = _; rw [(place t).2.1]; show t.val * 512 + 1 * (y 0).val = 512 * t.val + (y 0).val; omega
    | ⟨1, _⟩ => show win0_1.index t 1 * 1024 + 1 * (y 1).val = _; rw [(place t).2.1]; show 0 * 1024 + 1 * (y 1).val = (y 1).val; omega
  show V m c main_v9 (((cfg0.win 1).blk t).view.emb y) = _
  rw [e]
  exact (V_o m c _ _).trans (congrFun hO _)

include hW in
theorem blk_w (t : Fin cfg0.N) : @Eq (Vec Ideal S1024x1024 .bf16) (iblk m c 2 t) fun y => (W y : EReal) := by
  funext y
  unfold iblk
  rw [View.read_apply]
  have e : ((cfg0.win 2).blk t).view.emb y = ix2 (y 0) (y 1) := by
    funext a
    apply Fin.ext
    match a with
    | ⟨0, _⟩ => show win0_2.index t 0 * 1024 + 1 * (y 0).val = _; rw [(place t).2.2.1]; show 0 * 1024 + 1 * (y 0).val = (y 0).val; omega
    | ⟨1, _⟩ => show win0_2.index t 1 * 1024 + 1 * (y 1).val = _; rw [(place t).2.2.1]; show 0 * 1024 + 1 * (y 1).val = (y 1).val; omega
  show V m c main_v10 (((cfg0.win 2).blk t).view.emb y) = _
  rw [e]
  refine (V_w m c _ _).trans ((congrFun hW _).trans ?_)
  exact congrArg (fun i => (W i : EReal)) (eq_ix2 y).symm

theorem blk_e (t : Fin cfg0.N) : @Eq (Vec Ideal S16x1024 .bf16) (iblk m c 3 t) fun y => ((if (y 0).val = (y 1).val / 64 then 1 else 0 : ℝ) : EReal) := by
  funext y
  unfold iblk
  rw [View.read_apply]
  have e : ((cfg0.win 3).blk t).view.emb y = ix2 (y 0) (y 1) := by
    funext a
    apply Fin.ext
    match a with
    | ⟨0, _⟩ => show win0_3.index t 0 * 16 + 1 * (y 0).val = _; rw [(place t).2.2.2.1]; show 0 * 16 + 1 * (y 0).val = (y 0).val; omega
    | ⟨1, _⟩ => show win0_3.index t 1 * 1024 + 1 * (y 1).val = _; rw [(place t).2.2.2.1]; show 0 * 1024 + 1 * (y 1).val = (y 1).val; omega
  show V m c main_v8 (((cfg0.win 3).blk t).view.emb y) = _
  rw [e]
  exact V_sel m c _ _

/-- The gradient in the attention's output, at an entry. -/
def grad (i : Fin 8192) (k : Fin 1024) : ℝ := ∑ l : Fin 1024, D (ix2 i l) * W (ix2 k l)

include hD hW in
/-- The gradient in the attention's output. -/
theorem G4_eq (i : Fin 8192) (k : Fin 1024) : @Eq EReal ((dats m 0 c).arrAt 4 cfg0.N (ix2 i k)) (grad D W i k : EReal) := by
  have ht : i.val / 512 < cfg0.N := lt_of_lt_of_eq (show i.val / 512 < 16 by omega) N_0.symm
  have b := congrFun ((Value.blocks4 m c ⟨_, ht⟩ (flush0_4 ⟨_, ht⟩)).trans (Value.flushed4 m c ⟨_, ht⟩)) (ix2 (⟨i.val % 512, by omega⟩ : Fin 512) k)
  rw [View.read_apply] at b
  have e : ((cfg0.win 4).blk ⟨_, ht⟩).view.emb (ix2 (⟨i.val % 512, by omega⟩ : Fin 512) k) = ix2 i k := by
    funext a
    apply Fin.ext
    match a with
    | ⟨0, _⟩ => show win0_4.index ⟨_, ht⟩ 0 * 512 + 1 * (i.val % 512) = _; rw [(place ⟨_, ht⟩).2.2.2.2.1]; show i.val / 512 * 512 + 1 * (i.val % 512) = i.val; omega
    | ⟨1, _⟩ => show win0_4.index ⟨_, ht⟩ 1 * 1024 + 1 * k.val = _; rw [(place ⟨_, ht⟩).2.2.2.2.1]; show 0 * 1024 + 1 * k.val = k.val; omega
  refine (congrArg ((dats m 0 c).arrAt 4 cfg0.N) e.symm).trans (b.trans ?_)
  show out0_4 _ _ _ _ (ix2 (⟨i.val % 512, by omega⟩ : Fin 512) k) = _
  unfold out0_4
  rw [View.canon_unit_zero hz, View.ld_unit_zero (S := S512x1024) hz, View.ld_unit_zero (S := S1024x1024) hz, blk_d m c D hD, blk_w m c W hW, pay1_apply]
  have hr : (⟨512 * (i.val / 512) + i.val % 512, by omega⟩ : Fin 8192) = i := Fin.ext (by show 512 * (i.val / 512) + i.val % 512 = i.val; omega)
  show ((∑ l : Fin 1024, D (ix2 (⟨512 * (i.val / 512) + i.val % 512, by omega⟩ : Fin 8192) l) * W (ix2 k l) : ℝ) : EReal) = _
  rw [hr]
  rfl

include hD hO hW in
/-- Each head's row sums of the gradient times the output. -/
theorem G5_eq (h : Fin 16) (i : Fin 8192) : @Eq EReal ((dats m 0 c).arrAt 5 cfg0.N (ix2 h i))
    ((∑ j : Fin 64, grad D W i ⟨h.val * 64 + j.val, by omega⟩ * O (ix2 i ⟨h.val * 64 + j.val, by omega⟩) : ℝ) : EReal) := by
  have ht : i.val / 512 < cfg0.N := lt_of_lt_of_eq (show i.val / 512 < 16 by omega) N_0.symm
  have b := congrFun ((Value.blocks5 m c ⟨_, ht⟩ (flush0_5 ⟨_, ht⟩)).trans (Value.flushed5 m c ⟨_, ht⟩)) (ix2 h (⟨i.val % 512, by omega⟩ : Fin 512))
  rw [View.read_apply] at b
  have e : ((cfg0.win 5).blk ⟨_, ht⟩).view.emb (ix2 h (⟨i.val % 512, by omega⟩ : Fin 512)) = ix2 h i := by
    funext a
    apply Fin.ext
    match a with
    | ⟨0, _⟩ => show win0_5.index ⟨_, ht⟩ 0 * 16 + 1 * h.val = _; rw [(place ⟨_, ht⟩).2.2.2.2.2]; show 0 * 16 + 1 * h.val = h.val; omega
    | ⟨1, _⟩ => show win0_5.index ⟨_, ht⟩ 1 * 512 + 1 * (i.val % 512) = _; rw [(place ⟨_, ht⟩).2.2.2.2.2]; show i.val / 512 * 512 + 1 * (i.val % 512) = i.val; omega
  refine (congrArg ((dats m 0 c).arrAt 5 cfg0.N) e.symm).trans (b.trans ?_)
  show out0_5 _ _ _ _ (ix2 h (⟨i.val % 512, by omega⟩ : Fin 512)) = _
  unfold out0_5
  rw [View.canon_unit_zero hz, View.ld_unit_zero (S := S512x1024) hz, View.ld_unit_zero (S := S512x1024) hz, View.ld_unit_zero (S := S1024x1024) hz,
    View.ld_unit_zero (S := S16x1024) hz, blk_d m c D hD, blk_o m c O hO, blk_w m c W hW, blk_e m c, pay2_apply]
  have hr : (⟨512 * (i.val / 512) + i.val % 512, by omega⟩ : Fin 8192) = i := Fin.ext (by show 512 * (i.val / 512) + i.val % 512 = i.val; omega)
  refine congrArg Real.toEReal ?_
  show ∑ k : Fin 1024, (if h.val = k.val / 64 then 1 else 0) * ((∑ l : Fin 1024, D (ix2 (⟨512 * (i.val / 512) + i.val % 512, by omega⟩ : Fin 8192) l) * W (ix2 k l))
      * O (ix2 (⟨512 * (i.val / 512) + i.val % 512, by omega⟩ : Fin 8192) k)) = _
  rw [hr, sum_head]
  rfl

end Cert.OBwdIdeal.Block

end
-- ==== Proof.OClaim.lean ====
/-
  The output projection's gradient: the kernel and the derivative of the forward line end with equal results.
-/
module

public import proofs.«01_k».proof.Defs
public import proofs.«01_k».proof.Proof.OArray
public import proofs.«01_k».proof.Proof.Gen.OBwdRefIdeal.Run
public import proofs.«01_k».proof.Proof.Gen.OBwdRefIdeal.Read
public import proofs.«01_k».proof.Proof.Gen.Pre_o_finite
public import Idealize.ShloMosaic.Lib.Quiescent

@[expose] public section

set_option maxRecDepth 16384

noncomputable section

namespace Cert.OBwdRefIdeal.Stages

open Cert.OBwdRefIdeal Cert.OBwdRefIdeal.Gen Cert.OBwdRefIdeal.Read Cert.Reals Idealize.ShloMosaic Idealize.SL.Sem
open Cert.OBwdIdeal.Block (grad)

variable (D O : S8192x1024.Idx → ℝ) (W : S1024x1024.Idx → ℝ)

theorem grad_apply (i : Fin 8192) (k : Fin 1024) : @Eq EReal (val_main_v1 (F := Ideal) (fun y => (D y : EReal)) (fun y => (W y : EReal)) (ix2 i k)) (grad D W i k : EReal) := by
  pointwise [val_main_v1]
  simp only [← EReal.coe_mul, ← coe_sum]
  rfl

theorem cast_apply (i : Fin 8192) (k : Fin 1024) : @Eq EReal (val_main_v5 (F := Ideal) (fun y => (D y : EReal)) (fun y => (W y : EReal)) (ix2 i k)) (grad D W i k : EReal) := by
  pointwise [val_main_v5]
  exact grad_apply D W i k

theorem sums_apply (h : Fin 16) (i : Fin 8192) : @Eq EReal (val_main_v6 (F := Ideal) (fun y => (D y : EReal)) (fun y => (O y : EReal)) (fun y => (W y : EReal)) (ix2 h i))
    ((∑ j : Fin 64, grad D W i ⟨h.val * 64 + j.val, by omega⟩ * O (ix2 i ⟨h.val * 64 + j.val, by omega⟩) : ℝ) : EReal) := by
  pointwise [val_main_v6, val_main_v4, val_main_v3, val_main_v2, val_main_cst]
  simp only [grad_apply, ← EReal.coe_mul, ← coe_sum]

end Cert.OBwdRefIdeal.Stages

namespace Cert.OClaim

open Idealize.ShloMosaic Idealize.ShloMosaic.TcCoe Idealize.SL.Sem Cert.Reals
open Cert.OBwdIdeal (nD τ sig main_arg0 main_arg1 main_arg2)

/-- The precondition, read: the three arrays hold reals. -/
theorem reals (m : (ℓ : Loc nD τ sig) → Buf (Elt Ideal) ℓ) (hpre : Cert.Pre_OBwdIdeal_o_finite m) (c : Dev nD) :
    ∃ (D O : (Shape.mk 2 ![8192, 1024]).Idx → ℝ) (W : (Shape.mk 2 ![1024, 1024]).Idx → ℝ),
      (m ((c : Thread nD τ).loc main_arg0) = fun i => (D i : EReal)) ∧ (m ((c : Thread nD τ).loc main_arg1) = fun i => (O i : EReal))
      ∧ (m ((c : Thread nD τ).loc main_arg2) = fun i => (W i : EReal)) :=
  ⟨fun i => EReal.toReal (m (c.tc.loc main_arg0) i), fun i => EReal.toReal (m (c.tc.loc main_arg1) i),
    fun i => EReal.toReal (m (c.tc.loc main_arg2) i),
    funext fun i => (coe_toReal (congrFun (hpre c).1 i)).symm, funext fun i => (coe_toReal (congrFun (hpre c).2.1 i)).symm,
    funext fun i => (coe_toReal (congrFun (hpre c).2.2 i)).symm⟩

theorem frame_ref : Cert.quiescent_OBwdRefIdeal := fun m ρ _ =>
  (θ_run Cert.OBwdRefIdeal.defs _ _).mono (fun r h => ⟨fun c => (h c).2.2, sem_eq_zero_of_no_sems (by decide) r.2⟩)
    (Cert.OBwdRefIdeal.Value.run m ρ)

theorem algebraic : Cert.algebraic_OBwdIdeal_OBwdRefIdeal_pre_o_finite := fun m ρ m' ρ' hpre hag =>
  ⟨fun c => (Cert.OBwdIdeal.Gen.dats m 0 c).arrAt 4 Cert.OBwdIdeal.cfg0.N, fun c => (Cert.OBwdIdeal.Gen.dats m 0 c).arrAt 5 Cert.OBwdIdeal.cfg0.N,
    Cert.OBwdIdeal.Value.run_blocks m ρ,
    (θ_run _ _ _).mono (fun _ h c => by
      obtain ⟨D, O, W, hD, hO, hW⟩ := reals m hpre c
      obtain ⟨a0, a1, a2⟩ := hag c
      refine ⟨(h c).1.trans ?_, (h c).2.1.trans ?_, (h c).2.2⟩
      · rw [Cert.OBwdRefIdeal.Read.val_main_v5_eq, a0, a2, hD, hW]
        refine funext fun (i : Cert.OBwdIdeal.S8192x1024.Idx) => ?_
        rw [eq_ix2 i]
        exact (Cert.OBwdRefIdeal.Stages.cast_apply D W _ _).trans (Cert.OBwdIdeal.Block.G4_eq m c D W hD hW _ _).symm
      · rw [Cert.OBwdRefIdeal.Read.val_main_v6_eq, a0, a1, a2, hD, hO, hW]
        refine funext fun (i : Cert.OBwdIdeal.S16x8192.Idx) => ?_
        rw [eq_ix2 i]
        exact (Cert.OBwdRefIdeal.Stages.sums_apply D O W _ _).trans (Cert.OBwdIdeal.Block.G5_eq m c D O W hD hO hW _ _).symm)
    (Cert.OBwdRefIdeal.Value.run m' ρ')⟩

end Cert.OClaim

end
-- ==== Proof.QBlock.lean ====
/-
  What one grid point of the query projection's gradient computes, of finite inputs: 512 rows of the normed stream, of the
  scaled cotangent, of the gradient that goes on, and what the point adds to the gain's gradient.
-/
module

public import proofs.«01_k».proof.Proof.Reals
public import proofs.«01_k».proof.Proof.Gen.QBwdIdeal.Frame
public import Idealize.ShloMosaic.Lib.Pipeline.ReadBack
public import Idealize.ShloMosaic.Lib.Pointwise

@[expose] public section

set_option maxRecDepth 16384

noncomputable section

namespace Cert.QBwdIdeal.Block

open Cert.QBwdIdeal Cert.QBwdIdeal.Gen Cert.Reals Idealize.ShloMosaic Idealize.SL.Sem

theorem ofBits_eighth : Ideal.ofBits .f32 0x3E000000#32 = ((1 / 8 : ℝ) : EReal) := by
  simp [Ideal.ofBits, Ideal.ieee]
  rw [← EReal.coe_mul]
  norm_num

/-- The factor that normalises a row. -/
theorem pay6_apply (H : S512x1024.Idx → ℝ) (r : Fin 512) :
    @Eq EReal (k0_pay6 (F := Ideal) (fun y => (H y : EReal)) (ix2 r 0)) ((rowScale (fun l => H (ix2 r l)) : ℝ) : EReal) := by
  pointwise [k0_pay6]
  simp only [← EReal.coe_mul, ← coe_sum, ofBits_1024, ofBits_eps, div_coe _ (by norm_num : (1024 : ℝ) ≠ 0), ← EReal.coe_add]
  exact rsqrt_coe (meanSq_pos fun l => H (ix2 r l))

/-- A normalised row. -/
theorem pay7_apply (H : S512x1024.Idx → ℝ) (r : Fin 512) (k : Fin 1024) :
    @Eq EReal (k0_pay7 (F := Ideal) (fun y => (H y : EReal)) (ix2 r k)) ((H (ix2 r k) * rowScale (fun l => H (ix2 r l)) : ℝ) : EReal) := by
  pointwise [k0_pay7]
  rw [pay6_apply, EReal.coe_mul]

/-- The same times the gain. -/
theorem pay8_apply (G : S1x1024.Idx → ℝ) (H : S512x1024.Idx → ℝ) (r : Fin 512) (k : Fin 1024) :
    @Eq EReal (k0_pay8 (F := Ideal) (fun y => (G y : EReal)) (fun y => (H y : EReal)) (ix2 r k))
      ((H (ix2 r k) * rowScale (fun l => H (ix2 r l)) * G (ix2 0 k) : ℝ) : EReal) := by
  pointwise [k0_pay8, k0_pay5]
  rw [pay7_apply, ← EReal.coe_mul]

/-- The scaled cotangent. -/
theorem pay9_apply (P : S512x2048.Idx → ℝ) (r : Fin 512) (s : Fin 2048) :
    @Eq EReal (k0_pay9 (F := Ideal) (fun y => (P y : EReal)) (ix2 r s)) ((P (ix2 r s) * (1 / 8) : ℝ) : EReal) := by
  pointwise [k0_pay9]
  rw [ofBits_eighth, ← EReal.coe_mul]

/-- Its product with the weights. -/
def back (P : S512x2048.Idx → ℝ) (W : S1024x2048.Idx → ℝ) (r : Fin 512) (k : Fin 1024) : ℝ := ∑ s : Fin 2048, P (ix2 r s) * (1 / 8) * W (ix2 k s)

theorem pay10_apply (P : S512x2048.Idx → ℝ) (W : S1024x2048.Idx → ℝ) (r : Fin 512) (k : Fin 1024) :
    @Eq EReal (k0_pay10 (F := Ideal) (fun y => (P y : EReal)) (fun y => (W y : EReal)) (ix2 r k)) (back P W r k : EReal) := by
  pointwise [k0_pay10]
  simp only [pay9_apply, ← EReal.coe_mul, ← coe_sum]
  rfl

theorem pay11_apply (G : S1x1024.Idx → ℝ) (P : S512x2048.Idx → ℝ) (W : S1024x2048.Idx → ℝ) (r : Fin 512) (k : Fin 1024) :
    @Eq EReal (k0_pay11 (F := Ideal) (fun y => (G y : EReal)) (fun y => (P y : EReal)) (fun y => (W y : EReal)) (ix2 r k)) ((back P W r k * G (ix2 0 k) : ℝ) : EReal) := by
  pointwise [k0_pay11, k0_pay5]
  rw [pay10_apply, ← EReal.coe_mul]

theorem pay12_apply (G : S1x1024.Idx → ℝ) (H : S512x1024.Idx → ℝ) (P : S512x2048.Idx → ℝ) (W : S1024x2048.Idx → ℝ) (r : Fin 512) :
    @Eq EReal (k0_pay12 (F := Ideal) (fun y => (G y : EReal)) (fun y => (H y : EReal)) (fun y => (P y : EReal)) (fun y => (W y : EReal)) (ix2 r 0))
      ((∑ l, back P W r l * G (ix2 0 l) * (H (ix2 r l) * rowScale (fun l => H (ix2 r l))) : ℝ) : EReal) := by
  pointwise [k0_pay12]
  simp only [pay11_apply, pay7_apply, ← EReal.coe_mul, ← coe_sum]

/-- The gradient that goes on, as the kernel puts it together. -/
abbrev rowOf {F : FTy → Type} [FloatOps F] (g : Vec F S1x1024 .f32) (h : Vec F S512x1024 .f32) (p : Vec F S512x2048 .f32) (w : Vec F S1024x2048 .bf16) (d : Vec F S512x1024 .f32) :
    FVec F S512x1024 .f32 :=
  k0_pay1 (k0_pay6 h) (k0_pay7 h) (k0_pay11 g p w) (k0_pay12 g h p w) k0_pay13 d

/-- A row of the gradient that goes on. -/
theorem row_apply (G : S1x1024.Idx → ℝ) (H : S512x1024.Idx → ℝ) (P : S512x2048.Idx → ℝ) (W : S1024x2048.Idx → ℝ) (d : Vec Ideal S512x1024 .f32)
    (r : Fin 512) (k : Fin 1024) :
    @Eq EReal (rowOf (F := Ideal) (fun y => (G y : EReal)) (fun y => (H y : EReal)) (fun y => (P y : EReal)) (fun y => (W y : EReal)) d (ix2 r k))
      (d (ix2 r k) + ((normGrad (fun l => H (ix2 r l)) (fun l => G (ix2 0 l)) (back P W r) k : ℝ) : EReal)) := by
  pointwise [k0_pay1, k0_pay13]
  simp only [pay6_apply, pay7_apply, pay11_apply, pay12_apply, ← EReal.coe_mul, ← coe_sum, ofBits_1024, div_coe _ (by norm_num : (1024 : ℝ) ≠ 0),
    ← EReal.coe_sub]
  rfl

/-- The eight partial sums of the gain's gradient, a point's rows added. -/
abbrev gainOf {F : FTy → Type} [FloatOps F] (h : Vec F S512x1024 .f32) (p : Vec F S512x2048 .f32) (w : Vec F S1024x2048 .bf16) (a : Vec F S8x1024 .f32) : FVec F S8x1024 .f32 :=
  k0_pay2 (k0_pay7 h) (k0_pay10 p w) a

theorem gain_apply (H : S512x1024.Idx → ℝ) (P : S512x2048.Idx → ℝ) (W : S1024x2048.Idx → ℝ) (a : Vec Ideal S8x1024 .f32) (r : Fin 8) (k : Fin 1024) :
    @Eq EReal (gainOf (F := Ideal) (fun y => (H y : EReal)) (fun y => (P y : EReal)) (fun y => (W y : EReal)) a (ix2 r k))
      (a (ix2 r k) + ((∑ x : Fin 64, back P W ⟨x.val * 8 + r.val, by omega⟩ k
          * (H (ix2 ⟨x.val * 8 + r.val, by omega⟩ k) * rowScale (fun l => H (ix2 ⟨x.val * 8 + r.val, by omega⟩ l))) : ℝ) : EReal)) := by
  pointwise [k0_pay2]
  simp only [pay7_apply, pay10_apply, ← EReal.coe_mul, ← coe_sum]

/-- The sum of the eight partial sums. -/
theorem pay3_apply (a : Vec Ideal S8x1024 .f32) (k : Fin 1024) : @Eq EReal (k0_pay3 (F := Ideal) a (ix2 0 k)) (∑ r : Fin 8, a (ix2 r k)) := by
  pointwise [k0_pay3]

theorem pay4_apply (r : Fin 8) (k : Fin 1024) : @Eq EReal (k0_pay4 (F := Ideal) (ix2 r k)) 0 := by
  pointwise [k0_pay4]

theorem hz : (![0, 0] : Fin 2 → Nat) = fun _ => 0 := funext fun a => by fin_cases a <;> rfl

/-! ## What a point leaves, over what the point before left -/

section Point

variable {F : FTy → Type} [FloatOps F]
variable (m : (ℓ : Loc nD τ sig) → Buf (Elt F) ℓ) (c : Dev nD) (t : Fin cfg0.N)

/-- What every point leaves in the three blocks of rows. -/
def RowsHold (o : Vec F S512x1024 .f32 × Vec F S512x1024 .bf16 × Vec F S512x2048 .bf16 × Vec F S1x1024 .f32 × Vec F S8x1024 .f32) : Prop :=
  o.1 = rowOf (iblk m c 3 t) (iblk m c 1 t) (iblk m c 2 t) (iblk m c 4 t) (iblk m c 0 t) ∧ o.2.1 = k0_pay8 (iblk m c 3 t) (iblk m c 1 t) ∧ o.2.2.1 = k0_pay9 (iblk m c 2 t)

set_option maxHeartbeats 1000000 in
theorem first_point (h0 : t.val % 16 = 0) : RowsHold m c t (outsAt0 m c t.val t.isLt)
    ∧ (outsAt0 m c t.val t.isLt).2.2.2.2 = gainOf (iblk m c 1 t) (iblk m c 2 t) (iblk m c 4 t) k0_pay4 := by
  have h1 : ¬t.val % 16 = 15 := by omega
  unfold RowsHold rowOf gainOf
  rw [outsAt0_A m c t h0 h1]
  dsimp only
  unfold out0_A_5 out0_A_6 out0_A_7 sout0_A_0
  rw [View.read_writes_eq_canon _ _ _ (fun _ => cover0_A_5 ..), View.read_writes_eq_canon _ _ _ (fun _ => cover0_A_6 ..), View.read_writes_eq_canon _ _ _ (fun _ => cover0_A_7 ..),
    View.read_writes_eq_canon _ _ _ (fun _ => scover0_A_0 ..)]
  unfold kernelRun0_A
  dsimp only
  sl_unfold_words
  rw [View.canon_unit_zero (S := S512x1024) hz, View.canon_unit_zero (S := S512x1024) hz, View.canon_unit_zero (S := S512x2048) hz, View.canon_cons_unit_zero (S := S8x1024) hz, View.readCov_unit_zero (S := S8x1024) _ hz]
  simp only [View.readAt_eq_ld, Memref.IsWhole.read_unread, View.ld_unit_zero (S := S512x1024) hz, View.ld_unit_zero (S := S1x1024) hz,
    View.ld_unit_zero (S := S512x2048) hz, View.ld_unit_zero (S := S1024x2048) hz, View.ld_unit_zero (S := S8x1024) hz, read_unread_whole, and_self]

set_option maxHeartbeats 1000000 in
theorem middle_point (h0 : ¬t.val % 16 = 0) (h1 : ¬t.val % 16 = 15) : RowsHold m c t (outsAt0 m c t.val t.isLt)
    ∧ (outsAt0 m c t.val t.isLt).2.2.2.2 = gainOf (iblk m c 1 t) (iblk m c 2 t) (iblk m c 4 t) (outsAt0 m c (t.val - 1) (Nat.lt_of_le_of_lt (Nat.sub_le _ _) t.isLt)).2.2.2.2 := by
  unfold RowsHold rowOf gainOf
  rw [outsAt0_B m c t h0 h1]
  dsimp only
  unfold out0_B_5 out0_B_6 out0_B_7 sout0_B_0
  rw [View.read_writes_eq_canon _ _ _ (fun _ => cover0_B_5 ..), View.read_writes_eq_canon _ _ _ (fun _ => cover0_B_6 ..), View.read_writes_eq_canon _ _ _ (fun _ => cover0_B_7 ..),
    View.read_writes_eq_canon _ _ _ (fun _ => scover0_B_0 ..)]
  unfold kernelRun0_B
  dsimp only
  sl_unfold_words
  rw [View.canon_unit_zero (S := S512x1024) hz, View.canon_unit_zero (S := S512x1024) hz, View.canon_unit_zero (S := S512x2048) hz, View.canon_unit_zero (S := S8x1024) hz]
  simp only [View.readAt_eq_ld, Memref.IsWhole.read_unread, View.ld_unit_zero (S := S512x1024) hz, View.ld_unit_zero (S := S1x1024) hz,
    View.ld_unit_zero (S := S512x2048) hz, View.ld_unit_zero (S := S1024x2048) hz, View.ld_unit_zero (S := S8x1024) hz, read_unread_whole, and_self]

set_option maxHeartbeats 1000000 in
theorem last_point (h1 : t.val % 16 = 15) : RowsHold m c t (outsAt0 m c t.val t.isLt)
    ∧ (outsAt0 m c t.val t.isLt).2.2.2.1 = k0_pay3 (gainOf (iblk m c 1 t) (iblk m c 2 t) (iblk m c 4 t) (outsAt0 m c (t.val - 1) (Nat.lt_of_le_of_lt (Nat.sub_le _ _) t.isLt)).2.2.2.2) := by
  have h0 : ¬t.val % 16 = 0 := by omega
  unfold RowsHold rowOf gainOf
  rw [outsAt0_C m c t h0 h1]
  dsimp only
  unfold out0_C_5 out0_C_6 out0_C_7 out0_C_8
  rw [View.read_writes_eq_canon _ _ _ (fun _ => cover0_C_5 ..), View.read_writes_eq_canon _ _ _ (fun _ => cover0_C_6 ..), View.read_writes_eq_canon _ _ _ (fun _ => cover0_C_7 ..),
    View.read_writes_eq_canon _ _ _ (fun _ => cover0_C_8 ..)]
  unfold kernelRun0_C
  dsimp only
  sl_unfold_words
  rw [View.canon_unit_zero (S := S512x1024) hz, View.canon_unit_zero (S := S512x1024) hz, View.canon_unit_zero (S := S512x2048) hz, View.canon_unit_zero (S := S1x1024) hz, View.readCov_unit_zero (S := S8x1024) _ hz]
  simp only [View.readAt_eq_ld, Memref.IsWhole.read_unread, View.ld_unit_zero (S := S512x1024) hz, View.ld_unit_zero (S := S1x1024) hz,
    View.ld_unit_zero (S := S512x2048) hz, View.ld_unit_zero (S := S1024x2048) hz, View.ld_unit_zero (S := S8x1024) hz, read_unread_whole, and_self]

/-- Every point leaves its rows. -/
theorem rows_hold : RowsHold m c t (outsAt0 m c t.val t.isLt) := by
  by_cases h0 : t.val % 16 = 0
  · exact (first_point m c t h0).1
  · by_cases h1 : t.val % 16 = 15
    · exact (last_point m c t h1).1
    · exact (middle_point m c t h0 h1).1

end Point

end Cert.QBwdIdeal.Block

end
-- ==== Proof.QArray.lean ====
/-
  What the query projection's gradient leaves in its arrays, of finite inputs. The host spreads each head's 64 columns over 128
  before the call and takes them back afterwards; the kernel's sums over the spread columns are the sums over the columns.
-/
module

public import proofs.«01_k».proof.Proof.QBlock
public import Idealize.ShloMosaic.Lib.StableHlo.ReadAt
public import Idealize.ShloMosaic.Lib.Claim

@[expose] public section

set_option maxRecDepth 16384

noncomputable section

namespace Cert.QBwdIdeal.Block

open Cert.QBwdIdeal Cert.QBwdIdeal.Gen Cert.Reals Idealize.ShloMosaic Idealize.ShloMosaic.TcCoe Idealize.SL.Sem

/-- Each head's 64 columns in 128. -/
def spread {n : ℕ} (f : (Shape.mk 2 ![n, 1024]).Idx → ℝ) (i : Fin n) (s : Fin 2048) : ℝ :=
  if h : s.val % 128 < 64 then f (ix2 i ⟨s.val / 128 * 64 + s.val % 128, by omega⟩) else 0

/-- A sum over the spread columns is the sum over the columns. -/
theorem sum_spread {n n' : ℕ} (f : (Shape.mk 2 ![n, 1024]).Idx → ℝ) (g : (Shape.mk 2 ![n', 1024]).Idx → ℝ) (i : Fin n) (j : Fin n') :
    ∑ s : Fin 2048, spread f i s * (1 / 8) * spread g j s = ∑ k : Fin 1024, f (ix2 i k) * (1 / 8) * g (ix2 j k) := by
  rw [← (finProdFinEquiv : Fin 16 × Fin 128 ≃ Fin 2048).sum_comp, ← (finProdFinEquiv : Fin 16 × Fin 64 ≃ Fin 1024).sum_comp, Fintype.sum_prod_type, Fintype.sum_prod_type]
  refine Finset.sum_congr rfl fun a _ => ?_
  refine (Fin.sum_univ_add (a := 64) (b := 64) fun y => spread f i (finProdFinEquiv (a, y)) * (1 / 8) * spread g j (finProdFinEquiv (a, y))).trans ?_
  refine Eq.trans (congrArg₂ (· + ·) (Finset.sum_congr rfl fun b _ => ?_) (Finset.sum_eq_zero fun b _ => ?_)) (add_zero _)
  · have e : ∀ {n : ℕ} (f : (Shape.mk 2 ![n, 1024]).Idx → ℝ) (i : Fin n), spread f i (finProdFinEquiv (a, Fin.castAdd 64 b)) = f (ix2 i (finProdFinEquiv (a, b))) := by
      intro n f i
      unfold spread
      have h : (finProdFinEquiv (a, Fin.castAdd 64 b) : Fin 2048).val = b.val + 128 * a.val := rfl
      rw [dif_pos (by rw [h]; omega)]
      congr 2
      apply Fin.ext
      show (finProdFinEquiv (a, Fin.castAdd 64 b) : Fin 2048).val / 128 * 64 + (finProdFinEquiv (a, Fin.castAdd 64 b) : Fin 2048).val % 128 = b.val + 64 * a.val
      rw [h]; omega
    rw [e, e]
  · have h : (finProdFinEquiv (a, Fin.natAdd 64 b) : Fin 2048).val = (64 + b.val) + 128 * a.val := rfl
    have e : spread f i (finProdFinEquiv (a, Fin.natAdd 64 b)) = 0 := by
      unfold spread
      rw [dif_neg (by rw [h]; omega)]
    rw [e]; ring

theorem zero_word : FloatOps.sitofp (F := Ideal) .f32 0#32 = ((0 : ℝ) : EReal) := by simp [FloatOps.sitofp]
theorem zero_half : FloatOps.sitofp (F := Ideal) .bf16 0#32 = ((0 : ℝ) : EReal) := by simp [FloatOps.sitofp]

theorem spread_eq {n : ℕ} {A : (Shape.mk 2 ![n, 1024]).Idx → EReal} {f : (Shape.mk 2 ![n, 1024]).Idx → ℝ} (h : A = fun i => (f i : EReal)) (i : Fin n) (s : Fin 2048) :
    (if h : s.val / 128 < 16 ∧ s.val % 128 < 64 then A (ix2 i ⟨s.val / 128 * 64 + s.val % 128, by omega⟩) else ((0 : ℝ) : EReal)) = (spread f i s : EReal) := by
  subst h
  unfold spread
  by_cases hx : s.val % 128 < 64
  · rw [dif_pos ⟨by omega, hx⟩, dif_pos hx]
  · rw [dif_neg (fun h => hx h.2), dif_neg hx]

theorem place : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![0, 0] := by
  decide +kernel

theorem rowlt (t : Fin cfg0.N) (r : Fin 512) : 512 * t.val + r.val < 8192 := by
  have := lt_of_lt_of_eq t.isLt (show cfg0.N = 16 from N_0)
  omega

/-- The rows of an array that point `t` works on. -/
def rowsAt (X : S8192x1024.Idx → ℝ) (t : Fin cfg0.N) (y : S512x1024.Idx) : ℝ := X (ix2 ⟨512 * t.val + (y 0).val, rowlt t (y 0)⟩ (y 1))

variable (m : (ℓ : Loc nD τ sig) → Buf (Elt Ideal) ℓ) (c : Dev nD) (A : S8192x1024.Idx → EReal) (P H : S8192x1024.Idx → ℝ) (G : S1024.Idx → ℝ) (W : S1024x1024.Idx → ℝ)

/-- What the arguments hold. -/
structure Args : Prop where
  a : m ((c : Thread nD τ).loc main_arg0) = A
  p : m ((c : Thread nD τ).loc main_arg1) = fun i => (P i : EReal)
  h : m ((c : Thread nD τ).loc main_arg2) = fun i => (H i : EReal)
  g : m ((c : Thread nD τ).loc main_arg3) = fun i => (G i : EReal)
  w : m ((c : Thread nD τ).loc main_arg4) = fun i => (W i : EReal)

variable {m c A P H G W}
variable (I : Args m c A P H G W)

theorem V_gain : V m c main_v3 = shapeCast _ (m ((c : Thread nD τ).loc main_arg3)) shapeCasts_S1024_S1x1024 := by
  entry_read
  rfl

include I in
theorem V_cot (i : Fin 8192) (s : Fin 2048) : @Eq EReal (V m c main_v2 (ix2 i s)) (spread P i s : EReal) := by
  unfold V V0
  simp only [List.flatten_cons, List.flatten_nil, List.append_nil, hostOps0, hostOps0_1, hostOps0_2, hostOps0_3, hostOps0_4, List.cons_append, List.nil_append]
  after_reads_at
  have := spread_eq I.p i s
  rw [← zero_word] at this
  exact this

include I in
theorem V_w (i : Fin 1024) (s : Fin 2048) : @Eq EReal (V m c main_v7 (ix2 i s)) (spread W i s : EReal) := by
  unfold V V0
  simp only [List.flatten_cons, List.flatten_nil, List.append_nil, hostOps0, hostOps0_1, hostOps0_2, hostOps0_3, hostOps0_4, List.cons_append, List.nil_append]
  after_reads_at
  have := spread_eq I.w i s
  rw [← zero_half] at this
  exact this

include I

theorem blk_a (t : Fin cfg0.N) (r : Fin 512) (k : Fin 1024) : @Eq EReal (iblk m c 0 t (ix2 r k)) (A (ix2 ⟨512 * t.val + r.val, rowlt t r⟩ k)) := by
  unfold iblk
  rw [View.read_apply]
  show V m c main_arg0 _ = _
  rw [V_main_arg0]
  refine (congrFun I.a _).trans (congrArg A ?_)
  funext a
  apply Fin.ext
  match a with
  | ⟨0, _⟩ => show win0_0.index t 0 * 512 + 1 * r.val = _; rw [(place t).1]; show t.val * 512 + 1 * r.val = 512 * t.val + r.val; omega
  | ⟨1, _⟩ => show win0_0.index t 1 * 1024 + 1 * k.val = _; rw [(place t).1]; show 0 * 1024 + 1 * k.val = k.val; omega

theorem blk_h (t : Fin cfg0.N) : @Eq (Vec Ideal S512x1024 .f32) (iblk m c 1 t) fun y => (rowsAt H t y : EReal) := by
  funext y
  unfold iblk
  rw [View.read_apply]
  show V m c main_arg2 _ = _
  rw [V_main_arg2]
  refine (congrFun I.h _).trans (congrArg (fun i => (H i : EReal)) ?_)
  funext a
  apply Fin.ext
  match a with
  | ⟨0, _⟩ => show win0_1.index t 0 * 512 + 1 * (y 0).val = _; rw [(place t).2.1]; show t.val * 512 + 1 * (y 0).val = 512 * t.val + (y 0).val; omega
  | ⟨1, _⟩ => show win0_1.index t 1 * 1024 + 1 * (y 1).val = _; rw [(place t).2.1]; show 0 * 1024 + 1 * (y 1).val = (y 1).val; omega

theorem blk_p (t : Fin cfg0.N) : @Eq (Vec Ideal S512x2048 .f32) (iblk m c 2 t) fun y => (spread P ⟨512 * t.val + (y 0).val, rowlt t (y 0)⟩ (y 1) : EReal) := by
  funext y
  unfold iblk
  rw [View.read_apply]
  have e : ((cfg0.win 2).blk t).view.emb y = ix2 (⟨512 * t.val + (y 0).val, rowlt t (y 0)⟩ : Fin 8192) (y 1) := by
    funext a
    apply Fin.ext
    match a with
    | ⟨0, _⟩ => show win0_2.index t 0 * 512 + 1 * (y 0).val = _; rw [(place t).2.2.1]; show t.val * 512 + 1 * (y 0).val = 512 * t.val + (y 0).val; omega
    | ⟨1, _⟩ => show win0_2.index t 1 * 2048 + 1 * (y 1).val = _; rw [(place t).2.2.1]; show 0 * 2048 + 1 * (y 1).val = (y 1).val; omega
  show V m c main_v2 (((cfg0.win 2).blk t).view.emb y) = _
  rw [e]
  exact V_cot I _ _

theorem blk_g (t : Fin cfg0.N) : @Eq (Vec Ideal S1x1024 .f32) (iblk m c 3 t) fun y => (G (ix1 (y 1)) : EReal) := by
  refine funext fun (y : S1x1024.Idx) => ?_
  unfold iblk
  rw [View.read_apply]
  have e : ((cfg0.win 3).blk t).view.emb y = ix2 (0 : Fin 1) (y 1) := by
    funext a
    apply Fin.ext
    match a with
    | ⟨0, _⟩ => show win0_3.index t 0 * 1 + 1 * (y 0).val = _; rw [(place t).2.2.2.1]; show 0 * 1 + 1 * (y 0).val = 0; have : (y 0).val < 1 := (y 0).isLt; omega
    | ⟨1, _⟩ => show win0_3.index t 1 * 1024 + 1 * (y 1).val = _; rw [(place t).2.2.2.1]; show 0 * 1024 + 1 * (y 1).val = (y 1).val; omega
  show V m c main_v3 (((cfg0.win 3).blk t).view.emb y) = _
  rw [e, V_gain, I.g]
  pointwise

theorem blk_w (t : Fin cfg0.N) : @Eq (Vec Ideal S1024x2048 .bf16) (iblk m c 4 t) fun y => (spread W (y 0) (y 1) : EReal) := by
  funext y
  unfold iblk
  rw [View.read_apply]
  have e : ((cfg0.win 4).blk t).view.emb y = ix2 (y 0) (y 1) := by
    funext a
    apply Fin.ext
    match a with
    | ⟨0, _⟩ => show win0_4.index t 0 * 1024 + 1 * (y 0).val = _; rw [(place t).2.2.2.2.1]; show 0 * 1024 + 1 * (y 0).val = (y 0).val; omega
    | ⟨1, _⟩ => show win0_4.index t 1 * 2048 + 1 * (y 1).val = _; rw [(place t).2.2.2.2.1]; show 0 * 2048 + 1 * (y 1).val = (y 1).val; omega
  show V m c main_v7 (((cfg0.win 4).blk t).view.emb y) = _
  rw [e]
  exact V_w I _ _

omit I in
variable (P W) in
/-- The cotangent in the normed stream. -/
def cot (i : Fin 8192) (k : Fin 1024) : ℝ := ∑ l : Fin 1024, P (ix2 i l) * (1 / 8) * W (ix2 k l)

omit I in
theorem back_eq (t : Fin cfg0.N) (r : Fin 512) (k : Fin 1024) :
    back (fun y => spread P ⟨512 * t.val + (y 0).val, rowlt t (y 0)⟩ (y 1)) (fun y => spread W (y 0) (y 1)) r k = cot P W ⟨512 * t.val + r.val, rowlt t r⟩ k :=
  sum_spread P W _ _

/-! ## The arrays at the end -/

omit I in
theorem pt_lt (i : Fin 8192) : i.val / 512 < cfg0.N := lt_of_lt_of_eq (show i.val / 512 < 16 by omega) N_0.symm

omit I in
theorem pt_row (i : Fin 8192) (h : 512 * (i.val / 512) + i.val % 512 < 8192) : (⟨512 * (i.val / 512) + i.val % 512, h⟩ : Fin 8192) = i :=
  Fin.ext (by show 512 * (i.val / 512) + i.val % 512 = i.val; omega)

omit I in
theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (congrFun (((place t).2.2.2.2.2.1).symm.trans (h.trans (place t').2.2.2.2.2.1)) 0))

omit I in
theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (congrFun (((place t).2.2.2.2.2.2.1).symm.trans (h.trans (place t').2.2.2.2.2.2.1)) 0))

omit I in
theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (congrFun (((place t).2.2.2.2.2.2.2.1).symm.trans (h.trans (place t').2.2.2.2.2.2.2.1)) 0))

omit I in
theorem apart8 : ∀ t t' : Fin cfg0.N, (cfg0.win 8).flush t = true → (cfg0.win 8).flush t' = true → t ≠ t' →
    Disjoint ((cfg0.win 8).blk t).view.set ((cfg0.win 8).blk t').view.set :=
  fun t t' h h' hne => absurd (Fin.ext (by
    have a := (flush0_8 t).mp h
    have b := (flush0_8 t').mp h'
    have := lt_of_lt_of_eq t.isLt (show cfg0.N = 16 from N_0)
    have := lt_of_lt_of_eq t'.isLt (show cfg0.N = 16 from N_0)
    omega)) hne

/-- The gradient that goes on. -/
theorem G5_eq (i : Fin 8192) (k : Fin 1024) : @Eq EReal ((dats m 0 c).arrAt 5 cfg0.N (ix2 i k))
    (A (ix2 i k) + ((normGrad (fun l => H (ix2 i l)) (fun l => G (ix1 l)) (cot P W i) k : ℝ) : EReal)) := by
  have b := congrFun ((dats m 0 c).read_blk_arrAt_eq_flushed 5 apart5 cfg0.N ⟨_, pt_lt i⟩ (pt_lt i) (flush0_5 _)) (ix2 (⟨i.val % 512, by omega⟩ : Fin 512) k)
  rw [View.read_apply] at b
  have e : ((cfg0.win 5).blk ⟨_, pt_lt i⟩).view.emb (ix2 (⟨i.val % 512, by omega⟩ : Fin 512) k) = ix2 i k := by
    funext a
    apply Fin.ext
    match a with
    | ⟨0, _⟩ => show win0_5.index ⟨_, pt_lt i⟩ 0 * 512 + 1 * (i.val % 512) = _; rw [(place ⟨_, pt_lt i⟩).2.2.2.2.2.1]; show i.val / 512 * 512 + 1 * (i.val % 512) = i.val; omega
    | ⟨1, _⟩ => show win0_5.index ⟨_, pt_lt i⟩ 1 * 1024 + 1 * k.val = _; rw [(place ⟨_, pt_lt i⟩).2.2.2.2.2.1]; show 0 * 1024 + 1 * k.val = k.val; omega
  refine (congrArg ((dats m 0 c).arrAt 5 cfg0.N) e.symm).trans (b.trans ?_)
  show (dats m 0 c).after 5 ⟨_, pt_lt i⟩ (ix2 (⟨i.val % 512, by omega⟩ : Fin 512) k) = _
  rw [after0_5, (rows_hold m c ⟨_, pt_lt i⟩).1, blk_h I, blk_p I, blk_g I, blk_w I]
  refine (row_apply _ _ _ _ _ _ _).trans ?_
  rw [show back _ _ _ = cot P W i from funext fun l => (back_eq ⟨_, pt_lt i⟩ _ l).trans (congrArg (cot P W · l) (pt_row i _))]
  refine congrArg₂ (· + ·) ((blk_a I _ _ _).trans (congrArg (fun z => A (ix2 z k)) (pt_row i _))) (congrArg Real.toEReal ?_)
  exact congrArg (fun z : Fin 8192 => normGrad (fun l => H (ix2 z l)) (fun l => G (ix1 l)) (cot P W i) k) (pt_row i (rowlt ⟨_, pt_lt i⟩ ⟨i.val % 512, by omega⟩))

/-- The normed stream. -/
theorem G6_eq (i : Fin 8192) (k : Fin 1024) : @Eq EReal ((dats m 0 c).arrAt 6 cfg0.N (ix2 i k))
    ((H (ix2 i k) * rowScale (fun l => H (ix2 i l)) * G (ix1 k) : ℝ) : EReal) := by
  have b := congrFun ((dats m 0 c).read_blk_arrAt_eq_flushed 6 apart6 cfg0.N ⟨_, pt_lt i⟩ (pt_lt i) (flush0_6 _)) (ix2 (⟨i.val % 512, by omega⟩ : Fin 512) k)
  rw [View.read_apply] at b
  have e : ((cfg0.win 6).blk ⟨_, pt_lt i⟩).view.emb (ix2 (⟨i.val % 512, by omega⟩ : Fin 512) k) = ix2 i k := by
    funext a
    apply Fin.ext
    match a with
    | ⟨0, _⟩ => show win0_6.index ⟨_, pt_lt i⟩ 0 * 512 + 1 * (i.val % 512) = _; rw [(place ⟨_, pt_lt i⟩).2.2.2.2.2.2.1]; show i.val / 512 * 512 + 1 * (i.val % 512) = i.val; omega
    | ⟨1, _⟩ => show win0_6.index ⟨_, pt_lt i⟩ 1 * 1024 + 1 * k.val = _; rw [(place ⟨_, pt_lt i⟩).2.2.2.2.2.2.1]; show 0 * 1024 + 1 * k.val = k.val; omega
  refine (congrArg ((dats m 0 c).arrAt 6 cfg0.N) e.symm).trans (b.trans ?_)
  show (dats m 0 c).after 6 ⟨_, pt_lt i⟩ (ix2 (⟨i.val % 512, by omega⟩ : Fin 512) k) = _
  rw [after0_6, (rows_hold m c ⟨_, pt_lt i⟩).2.1, blk_h I, blk_g I]
  refine (pay8_apply _ _ _ _).trans (congrArg Real.toEReal ?_)
  exact congrArg (fun z : Fin 8192 => H (ix2 z k) * rowScale (fun l => H (ix2 z l)) * G (ix1 k)) (pt_row i (rowlt ⟨_, pt_lt i⟩ ⟨i.val % 512, by omega⟩))

/-- The scaled cotangent, spread. -/
theorem G7_eq (i : Fin 8192) (s : Fin 2048) : @Eq EReal ((dats m 0 c).arrAt 7 cfg0.N (ix2 i s)) ((spread P i s * (1 / 8) : ℝ) : EReal) := by
  have b := congrFun ((dats m 0 c).read_blk_arrAt_eq_flushed 7 apart7 cfg0.N ⟨_, pt_lt i⟩ (pt_lt i) (flush0_7 _)) (ix2 (⟨i.val % 512, by omega⟩ : Fin 512) s)
  rw [View.read_apply] at b
  have e : ((cfg0.win 7).blk ⟨_, pt_lt i⟩).view.emb (ix2 (⟨i.val % 512, by omega⟩ : Fin 512) s) = ix2 i s := by
    funext a
    apply Fin.ext
    match a with
    | ⟨0, _⟩ => show win0_7.index ⟨_, pt_lt i⟩ 0 * 512 + 1 * (i.val % 512) = _; rw [(place ⟨_, pt_lt i⟩).2.2.2.2.2.2.2.1]; show i.val / 512 * 512 + 1 * (i.val % 512) = i.val; omega
    | ⟨1, _⟩ => show win0_7.index ⟨_, pt_lt i⟩ 1 * 2048 + 1 * s.val = _; rw [(place ⟨_, pt_lt i⟩).2.2.2.2.2.2.2.1]; show 0 * 2048 + 1 * s.val = s.val; omega
  refine (congrArg ((dats m 0 c).arrAt 7 cfg0.N) e.symm).trans (b.trans ?_)
  show (dats m 0 c).after 7 ⟨_, pt_lt i⟩ (ix2 (⟨i.val % 512, by omega⟩ : Fin 512) s) = _
  rw [after0_7, (rows_hold m c ⟨_, pt_lt i⟩).2.2, blk_p I]
  refine (pay9_apply _ _ _).trans (congrArg Real.toEReal ?_)
  exact congrArg (fun z : Fin 8192 => spread P z s * (1 / 8)) (pt_row i (rowlt ⟨_, pt_lt i⟩ ⟨i.val % 512, by omega⟩))

omit I in
variable (P H W) in
/-- What row `i` adds to the gain's gradient. -/
def gainTerm (k : Fin 1024) (i : Fin 8192) : ℝ := cot P W i k * (H (ix2 i k) * rowScale fun l => H (ix2 i l))

theorem sums_step (t : Fin cfg0.N) (a : Vec Ideal S8x1024 .f32) (r : Fin 8) (k : Fin 1024) :
    @Eq EReal (gainOf (iblk m c 1 t) (iblk m c 2 t) (iblk m c 4 t) a (ix2 r k))
      (a (ix2 r k) + ((∑ x : Fin 64, upTo (gainTerm P H W k) (512 * t.val + (x.val * 8 + r.val)) : ℝ) : EReal)) := by
  rw [blk_h I, blk_p I, blk_w I]
  refine (gain_apply _ _ _ _ _ _).trans (congrArg (a (ix2 r k) + ·) (congrArg Real.toEReal (Finset.sum_congr rfl fun x _ => ?_)))
  rw [upTo_lt _ (rowlt t ⟨x.val * 8 + r.val, by omega⟩), back_eq]
  rfl

theorem sums_eq (r : Fin 8) (k : Fin 1024) : ∀ (n : ℕ) (h : n < cfg0.N), n < 15 → @Eq EReal ((outsAt0 m c n h).2.2.2.2 (ix2 r k))
    ((∑ t ∈ Finset.range (n + 1), ∑ x : Fin 64, upTo (gainTerm P H W k) (512 * t + (x.val * 8 + r.val)) : ℝ) : EReal)
  | 0, h, _ => by
    rw [(first_point m c ⟨0, h⟩ rfl).2]
    refine (sums_step I _ _ _ _).trans ?_
    rw [pay4_apply]
    simp
  | n + 1, h, hn => by
    rw [(middle_point m c ⟨n + 1, h⟩ (by show ¬(n + 1) % 16 = 0; omega) (by show ¬(n + 1) % 16 = 15; omega)).2]
    refine (sums_step I _ _ _ _).trans ?_
    rw [Finset.sum_range_succ _ (n + 1), EReal.coe_add]
    exact congrArg (· + _) (sums_eq r k n _ (by omega))

/-- The gain's gradient. -/
theorem G8_eq (k : Fin 1024) : @Eq EReal ((dats m 0 c).arrAt 8 cfg0.N (ix2 0 k)) ((∑ i : Fin 8192, gainTerm P H W k i : ℝ) : EReal) := by
  have hp : 15 < cfg0.N := lt_of_lt_of_eq (by decide) N_0.symm
  have b := congrFun ((dats m 0 c).read_blk_arrAt_eq_flushed 8 apart8 cfg0.N ⟨15, hp⟩ hp ((flush0_8 _).mpr rfl)) (ix2 (0 : Fin 1) k)
  rw [View.read_apply] at b
  have e : ((cfg0.win 8).blk ⟨15, hp⟩).view.emb (ix2 (0 : Fin 1) k) = ix2 0 k := by
    funext a
    apply Fin.ext
    match a with
    | ⟨0, _⟩ => show win0_8.index ⟨15, hp⟩ 0 * 1 + 1 * 0 = _; rw [(place ⟨15, hp⟩).2.2.2.2.2.2.2.2]; rfl
    | ⟨1, _⟩ => show win0_8.index ⟨15, hp⟩ 1 * 1024 + 1 * k.val = _; rw [(place ⟨15, hp⟩).2.2.2.2.2.2.2.2]; show 0 * 1024 + 1 * k.val = k.val; omega
  refine (congrArg ((dats m 0 c).arrAt 8 cfg0.N) e.symm).trans (b.trans ?_)
  show (dats m 0 c).after 8 ⟨15, hp⟩ (ix2 (0 : Fin 1) k) = _
  rw [after0_8]
  refine (congrFun (last_point m c ⟨15, hp⟩ rfl).2 _).trans ?_
  refine (pay3_apply _ _).trans ?_
  have s : ∀ r : Fin 8, @Eq EReal (gainOf (iblk m c 1 ⟨15, hp⟩) (iblk m c 2 ⟨15, hp⟩) (iblk m c 4 ⟨15, hp⟩) (outsAt0 m c 14 (Nat.lt_of_succ_lt hp)).2.2.2.2 (ix2 r k))
      ((∑ t ∈ Finset.range 16, ∑ x : Fin 64, upTo (gainTerm P H W k) (512 * t + (x.val * 8 + r.val)) : ℝ) : EReal) := fun r => by
    refine (sums_step I ⟨15, hp⟩ _ _ _).trans ?_
    rw [Finset.sum_range_succ _ 15, EReal.coe_add]
    exact congrArg₂ (· + ·) (sums_eq I r k 14 (Nat.lt_of_succ_lt hp) (by norm_num)) rfl
  refine (Finset.sum_congr rfl fun r _ => s r).trans ((coe_sum _ _).symm.trans ?_)
  exact congrArg Real.toEReal ((sum_fold (upTo (gainTerm P H W k)) 16 64).trans (sum_upTo _))

end Cert.QBwdIdeal.Block

end
-- ==== Proof.QEnd.lean ====
/-
  The results of the query projection's gradient, after the host lines that follow the call.
-/
module

public import proofs.«01_k».proof.Proof.QArray

@[expose] public section

set_option maxRecDepth 16384

noncomputable section

namespace Cert.QBwdIdeal.Block

open Cert.QBwdIdeal Cert.QBwdIdeal.Gen Cert.Reals Idealize.ShloMosaic Idealize.ShloMosaic.TcCoe Idealize.SL.Sem

/-- The arrays after the call. -/
def W1 (m : (ℓ : Loc nD τ sig) → Buf (Elt Ideal) ℓ) (c : Dev nD) : Valuation τ sig (Elt Ideal) :=
  Pipeline.withArrays spec0 c (V0 m c) fun w : Fin 9 => (dats m 0 c).arrAt w cfg0.N

theorem after_tail (m : (ℓ : Loc nD τ sig) → Buf (Elt Ideal) ℓ) (c : Dev nD) (b : Ref sig .tc) :
    Pipeline.afterTail₀ cfgs (dats m) 0 (V0 m) [hostOps1] c b = StableHlo.after (List.flatten [hostOps1]) (W1 m c) (Proc.tc.devRef b) := by
  unfold Pipeline.afterTail₀ W1
  rfl

theorem arrays_apart : Function.Injective (Pipeline.arrRef spec0) := by decide

theorem tail_dqs (W : Valuation τ sig (Elt Ideal)) (i : Fin 8192) (x : Fin 1024) : @Eq EReal (StableHlo.after (List.flatten [hostOps1]) W (Proc.tc.devRef main_v11) (ix2 i x))
    (W (Proc.tc.devRef main_v8_2) (ix2 i ⟨x.val / 64 * 128 + x.val % 64, by omega⟩)) := by
  simp only [List.flatten_cons, List.flatten_nil, List.append_nil, hostOps1]
  after_reads_at

theorem tail_rest {b : Ref sig .tc} (hb : b = main_v8_0 ∨ b = main_v8_1 ∨ b = main_v8_3) (W : Valuation τ sig (Elt Ideal)) :
    StableHlo.after (List.flatten [hostOps1]) W (Proc.tc.devRef b) = W (Proc.tc.devRef b) := by
  simp only [List.flatten_cons, List.flatten_nil, List.append_nil, hostOps1]
  rcases hb with rfl | rfl | rfl <;> after_reads_simp

variable (m : (ℓ : Loc nD τ sig) → Buf (Elt Ideal) ℓ) (c : Dev nD)

theorem W1_dqs : W1 m c (Proc.tc.devRef main_v8_2) = (dats m 0 c).arrAt 7 cfg0.N := Pipeline.withArrays_arr spec0 arrays_apart c _ _ 7

variable {m c} {A : S8192x1024.Idx → EReal} {P H : S8192x1024.Idx → ℝ} {G : S1024.Idx → ℝ} {W : S1024x1024.Idx → ℝ} (I : Args m c A P H G W)

include I in
/-- The scaled cotangent, with the columns together again. -/
theorem end_dqs (i : Fin 8192) (x : Fin 1024) : @Eq EReal (Pipeline.afterTail₀ cfgs (dats m) 0 (V0 m) [hostOps1] c main_v11 (ix2 i x)) ((P (ix2 i x) * (1 / 8) : ℝ) : EReal) := by
  rw [after_tail]
  refine (tail_dqs _ i x).trans ?_
  rw [W1_dqs]
  refine (G7_eq I i _).trans (congrArg Real.toEReal ?_)
  have h : (x.val / 64 * 128 + x.val % 64) % 128 = x.val % 64 := by omega
  unfold spread
  rw [dif_pos (by show (x.val / 64 * 128 + x.val % 64) % 128 < 64; omega)]
  refine congrArg (fun z : Fin 1024 => P (ix2 i z) * (1 / 8)) (Fin.ext ?_)
  show (x.val / 64 * 128 + x.val % 64) / 128 * 64 + (x.val / 64 * 128 + x.val % 64) % 128 = x.val
  omega

end Cert.QBwdIdeal.Block

end
-- ==== Proof.QRef.lean ====
/-
  What the derivative of the norm and the query projection computes, of finite inputs.
-/
module

public import proofs.«01_k».proof.Proof.QArray
public import proofs.«01_k».proof.Proof.Gen.QBwdRefIdeal.Read

@[expose] public section

set_option maxRecDepth 16384

noncomputable section

namespace Cert.QBwdRefIdeal.Stages

open Cert.QBwdRefIdeal Cert.QBwdRefIdeal.Gen Cert.QBwdRefIdeal.Read Cert.Reals Idealize.ShloMosaic Idealize.SL.Sem
open Cert.QBwdIdeal.Block (cot gainTerm ofBits_eighth)

variable (A : S8192x1024.Idx → EReal) (P H : S8192x1024.Idx → ℝ) (G : S1024.Idx → ℝ) (W : S1024x1024.Idx → ℝ) (i : Fin 8192) (k : Fin 1024)

theorem mean_apply : @Eq EReal (val_main_v6 (F := Ideal) (fun y => (H y : EReal)) (ix2 i 0)) ((meanSq fun l => H (ix2 i l) : ℝ) : EReal) := by
  pointwise [val_main_v6, val_main_v5, val_main_v4, val_main_v3, val_main_v2, val_main_v1, val_main_v0, val_main_cst, val_main_cst_0, val_main_cst_1]
  simp only [← EReal.coe_mul, ← coe_sum, ofBits_1024, ofBits_eps, div_coe _ (by norm_num : (1024 : ℝ) ≠ 0), ← EReal.coe_add]
  rfl

theorem scale_apply : @Eq EReal (val_main_v7 (F := Ideal) (fun y => (H y : EReal)) (ix2 i 0)) ((rowScale fun l => H (ix2 i l) : ℝ) : EReal) := by
  pointwise [val_main_v7]
  rw [mean_apply]
  exact rsqrt_coe (meanSq_pos _)

theorem cot_apply : @Eq EReal (val_main_v21 (F := Ideal) (fun y => (P y : EReal)) (fun y => (W y : EReal)) (ix2 i k)) (cot P W i k : EReal) := by
  pointwise [val_main_v21, val_main_v20, val_main_v19, val_main_cst_4]
  simp only [ofBits_eighth, ← EReal.coe_mul, ← coe_sum]
  rfl

theorem gain_apply : @Eq EReal (val_main_v63 (F := Ideal) (fun y => (P y : EReal)) (fun y => (H y : EReal)) (fun y => (W y : EReal)) (ix2 0 k))
    ((∑ i : Fin 8192, gainTerm P H W k i : ℝ) : EReal) := by
  pointwise [val_main_v63, val_main_v27, val_main_v24, val_main_v23, val_main_v22, val_main_v12, val_main_v11, val_main_cst_5, val_main_cst_6]
  simp only [Fin.sum_univ_one, scale_apply, cot_apply, ← EReal.coe_mul, ← coe_sum]
  exact congrArg Real.toEReal (Finset.sum_congr rfl fun i _ => by unfold gainTerm; ring)

theorem back_apply : @Eq EReal (val_main_v37 (F := Ideal) (fun y => (P y : EReal)) (fun y => (H y : EReal)) (fun y => (G y : EReal)) (fun y => (W y : EReal)) (ix1 i))
    (((∑ l, H (ix2 i l) * (cot P W i l * G (ix1 l))) * (-(1 / 2) * (rowScale (fun l => H (ix2 i l)) / meanSq fun l => H (ix2 i l))) / 1024 : ℝ) : EReal) := by
  pointwise [val_main_v37, val_main_v36, val_main_v35, val_main_v34, val_main_v30, val_main_v29, val_main_v28, val_main_v26, val_main_v25, val_main_v13,
    val_main_v10, val_main_v9, val_main_v8, val_main_cst_2, val_main_cst_7, val_main_cst_8, val_main_cst_9]
  simp only [Fin.sum_univ_one, scale_apply, mean_apply, cot_apply, ← EReal.coe_mul, ← coe_sum, ofBits_1024, ofBits_neg_half, div_coe _ (by norm_num : (1024 : ℝ) ≠ 0),
    div_coe _ (meanSq_pos fun l => H (ix2 i l)).ne']

theorem row_apply : @Eq EReal (val_main_v42 (F := Ideal) A (fun y => (P y : EReal)) (fun y => (H y : EReal)) (fun y => (G y : EReal)) (fun y => (W y : EReal)) (ix2 i k))
    (A (ix2 i k) + ((normGrad (fun l => H (ix2 i l)) (fun l => G (ix1 l)) (cot P W i) k : ℝ) : EReal)) := by
  pointwise [val_main_v42, val_main_v41, val_main_v40, val_main_v39, val_main_v38, val_main_v33, val_main_v32, val_main_v31, val_main_v26, val_main_v25, val_main_v13]
  simp only [back_apply, scale_apply, cot_apply, ← EReal.coe_mul, add_assoc, ← EReal.coe_add]
  rw [normGrad_eq, add_assoc]

theorem mean2_apply : @Eq EReal (val_main_v49 (F := Ideal) (fun y => (H y : EReal)) (ix2 i 0)) ((meanSq fun l => H (ix2 i l) : ℝ) : EReal) := by
  pointwise [val_main_v49, val_main_v48, val_main_v47, val_main_v46, val_main_v45, val_main_v44, val_main_v43, val_main_cst_10, val_main_cst_11, val_main_cst_12]
  simp only [← EReal.coe_mul, ← coe_sum, ofBits_1024, ofBits_eps, div_coe _ (by norm_num : (1024 : ℝ) ≠ 0), ← EReal.coe_add]
  rfl

theorem scale2_apply : @Eq EReal (val_main_v50 (F := Ideal) (fun y => (H y : EReal)) (ix2 i 0)) ((rowScale fun l => H (ix2 i l) : ℝ) : EReal) := by
  pointwise [val_main_v50]
  rw [mean2_apply]
  exact rsqrt_coe (meanSq_pos _)

theorem normed_apply : @Eq EReal (val_main_v61 (F := Ideal) (fun y => (H y : EReal)) (fun y => (G y : EReal)) (ix2 i k)) ((H (ix2 i k) * rowScale (fun l => H (ix2 i l)) * G (ix1 k) : ℝ) : EReal) := by
  pointwise [val_main_v61, val_main_v55, val_main_v54, val_main_v53, val_main_v52, val_main_v51]
  simp only [scale2_apply, ← EReal.coe_mul]

theorem scaled_apply : @Eq EReal (val_main_v62 (F := Ideal) (fun y => (P y : EReal)) (ix2 i k)) ((P (ix2 i k) * (1 / 8) : ℝ) : EReal) := by
  pointwise [val_main_v62, val_main_v60, val_main_v59, val_main_cst_14]
  simp only [ofBits_eighth, ← EReal.coe_mul]

end Cert.QBwdRefIdeal.Stages

end
-- ==== Proof.QClaim.lean ====
/-
  The query projection's gradient: the kernel and the derivative of the forward lines end with equal results.
-/
module

public import proofs.«01_k».proof.Defs
public import proofs.«01_k».proof.Proof.QEnd
public import proofs.«01_k».proof.Proof.QRef
public import proofs.«01_k».proof.Proof.Gen.QBwdRefIdeal.Run
public import proofs.«01_k».proof.Proof.Gen.Pre_q_finite
public import Idealize.ShloMosaic.Lib.Quiescent

@[expose] public section

set_option maxRecDepth 16384

noncomputable section

namespace Cert.QClaim

open Idealize.ShloMosaic Idealize.ShloMosaic.TcCoe Idealize.SL.Sem Cert.Reals
open Cert.QBwdIdeal (nD τ sig main_arg0 main_arg1 main_arg2 main_arg3 main_arg4)
open Cert.QBwdIdeal.Gen (dats V0)

/-- The precondition, read: the four arrays that it speaks of hold reals. -/
theorem reals (m : (ℓ : Loc nD τ sig) → Buf (Elt Ideal) ℓ) (hpre : Cert.Pre_QBwdIdeal_q_finite m) (c : Dev nD) :
    ∃ A P H G W, Cert.QBwdIdeal.Block.Args m c A P H G W :=
  ⟨m (c.tc.loc main_arg0), fun i => EReal.toReal (m (c.tc.loc main_arg1) i), fun i => EReal.toReal (m (c.tc.loc main_arg2) i),
    fun i => EReal.toReal (m (c.tc.loc main_arg3) i), fun i => EReal.toReal (m (c.tc.loc main_arg4) i), rfl,
    funext fun i => (coe_toReal (congrFun (hpre c).1 i)).symm, funext fun i => (coe_toReal (congrFun (hpre c).2.1 i)).symm,
    funext fun i => (coe_toReal (congrFun (hpre c).2.2.1 i)).symm, funext fun i => (coe_toReal (congrFun (hpre c).2.2.2 i)).symm⟩

theorem frame_ref : Cert.quiescent_QBwdRefIdeal := fun m ρ _ =>
  (θ_run Cert.QBwdRefIdeal.defs _ _).mono (fun r h => ⟨fun c => (h c).2.2.2.2, sem_eq_zero_of_no_sems (by decide) r.2⟩)
    (Cert.QBwdRefIdeal.Value.run m ρ)

theorem rest_dqs : Cert.QBwdIdeal.main_v11 ∈ Pipeline.restRefs sig Cert.QBwdIdeal.spec0 := Pipeline.mem_restRefs_of _ (by decide) (by decide)

theorem algebraic : Cert.algebraic_QBwdIdeal_QBwdRefIdeal_pre_q_finite := fun m ρ m' ρ' hpre hag =>
  ⟨fun c => (dats m 0 c).arrAt 5 Cert.QBwdIdeal.cfg0.N, fun c => (dats m 0 c).arrAt 6 Cert.QBwdIdeal.cfg0.N,
    fun c => Pipeline.afterTail₀ Cert.QBwdIdeal.cfgs (dats m) 0 (V0 m) [Cert.QBwdIdeal.Gen.hostOps1] c Cert.QBwdIdeal.main_v11,
    fun c => (dats m 0 c).arrAt 8 Cert.QBwdIdeal.cfg0.N,
    (θ_run Cert.QBwdIdeal.defs _ _).mono (fun r h c => ⟨(h.1 c).1 5, (h.1 c).1 6, (h.1 c).2 _ rest_dqs, (h.1 c).1 8, h.2 c⟩)
      (θ_run_and (Cert.QBwdIdeal.Gen.run_main m ρ) (Cert.QBwdIdeal.Gen.unchanged m ρ)),
    (θ_run _ _ _).mono (fun _ h c => by
      obtain ⟨A, P, H, G, W, I⟩ := reals m hpre c
      obtain ⟨a0, a1, a2, a3, a4⟩ := hag c
      refine ⟨(h c).1.trans ?_, (h c).2.1.trans ?_, (h c).2.2.1.trans ?_, (h c).2.2.2.1.trans ?_, (h c).2.2.2.2⟩
      · rw [Cert.QBwdRefIdeal.Read.val_main_v42_eq, a0, a1, a2, a3, a4, I.a, I.p, I.h, I.g, I.w]
        refine funext fun (i : Cert.QBwdIdeal.S8192x1024.Idx) => ?_
        rw [eq_ix2 i]
        exact (Cert.QBwdRefIdeal.Stages.row_apply A P H G W _ _).trans (Cert.QBwdIdeal.Block.G5_eq I _ _).symm
      · rw [Cert.QBwdRefIdeal.Read.val_main_v61_eq, a2, a3, I.h, I.g]
        refine funext fun (i : Cert.QBwdIdeal.S8192x1024.Idx) => ?_
        rw [eq_ix2 i]
        exact (Cert.QBwdRefIdeal.Stages.normed_apply H G _ _).trans (Cert.QBwdIdeal.Block.G6_eq I _ _).symm
      · rw [Cert.QBwdRefIdeal.Read.val_main_v62_eq, a1, I.p]
        refine funext fun (i : Cert.QBwdIdeal.S8192x1024.Idx) => ?_
        rw [eq_ix2 i]
        exact (Cert.QBwdRefIdeal.Stages.scaled_apply P _ _).trans (Cert.QBwdIdeal.Block.end_dqs I _ _).symm
      · rw [Cert.QBwdRefIdeal.Read.val_main_v63_eq, a1, a2, a4, I.p, I.h, I.w]
        refine funext fun (i : Cert.QBwdIdeal.S1x1024.Idx) => ?_
        rw [eq_ix2 i, show i 0 = (0 : Fin 1) from Subsingleton.elim (α := Fin 1) _ _]
        exact (Cert.QBwdRefIdeal.Stages.gain_apply P H W _).trans (Cert.QBwdIdeal.Block.G8_eq I _).symm)
    (Cert.QBwdRefIdeal.Value.run m' ρ')⟩

end Cert.QClaim

end
-- ==== Proof.S5Block.lean ====
/-
  What one grid point of the gated linear unit and of its gradient computes, of finite inputs: 512 rows of the layer's output, of the
  activation, of the two gradients.
-/
module

public import proofs.«01_k».proof.Proof.Reals
public import proofs.«01_k».proof.Proof.Gen.S5PostIdeal.Skeleton
public import Idealize.ShloMosaic.Lib.Pointwise

@[expose] public section

set_option maxRecDepth 16384

noncomputable section

namespace Cert.S5PostIdeal.Block

open Cert.S5PostIdeal Cert.S5PostIdeal.Gen Cert.Reals Idealize.ShloMosaic Idealize.ShloMosaic.TcCoe Idealize.SL.Sem

/-- The rounded root of 2/π that both programs hold. -/
def root : ℝ := 6693141 / 8388608

/-- The tangent in the activation. -/
def bend (y : ℝ) : ℝ := Real.tanh (root * (y + 8943 / 200000 * y * y * y))

/-- The activation. -/
def gelu (y : ℝ) : ℝ := 1 / 2 * y * (1 + bend y)

/-- The activation's derivative. -/
def slope (y : ℝ) : ℝ := 1 / 2 * (1 + bend y) + 1 / 2 * y * (1 - bend y * bend y) * root * (1 + 26829 / 200000 * y * y)

/-- The gate. -/
def gate (x : ℝ) : ℝ := 1 / (1 + Real.exp (-x))

theorem one_exp_ne (x : ℝ) : 1 + Real.exp (-x) ≠ 0 := (add_pos one_pos (Real.exp_pos _)).ne'

theorem gate_coe (x : ℝ) : Ideal.div 1 (1 + Ideal.exp (0 - (x : EReal))) = (gate x : EReal) := by
  rw [zero_sub, ← EReal.coe_neg, Ideal.exp_coe, ← EReal.coe_one, ← EReal.coe_add, div_coe _ (one_exp_ne x), gate]

theorem ofBits_root : Ideal.ofBits .f32 0x3F4C422A#32 = (root : EReal) := by
  simp [Ideal.ofBits, Ideal.ieee, root]
  rw [← EReal.coe_mul]
  norm_num

theorem ofBits_half : Ideal.ofBits .f32 0x3F000000#32 = ((1 / 2 : ℝ) : EReal) := by
  simp [Ideal.ofBits, Ideal.ieee]
  rw [← EReal.coe_mul]
  norm_num

theorem ofBits_one : Ideal.ofBits .f32 0x3F800000#32 = ((1 : ℝ) : EReal) := by
  simp [Ideal.ofBits, Ideal.ieee]; rw [← EReal.coe_mul]; norm_num

theorem named_a : Named.named (F := Ideal) κ "gelu_a" (φ := .f32) 0x3D372713#32 = ((8943 / 200000 : ℝ) : EReal) :=
  IdealRules.named_const.ideal_named_scalar _ _ _ _ rfl

theorem named_3a : Named.named (F := Ideal) κ "gelu_3a" (φ := .f32) 0x3E095D4F#32 = ((26829 / 200000 : ℝ) : EReal) :=
  IdealRules.named_const.ideal_named_scalar _ _ _ _ rfl

/-- The activation's product with the weights. -/
def mix (y : Fin 1024 → ℝ) (W : S1024x2048.Idx → ℝ) (s : Fin 2048) : ℝ := ∑ k : Fin 1024, gelu (y k) * W (ix2 k s)

theorem pay1_apply (Y : S512x1024.Idx → ℝ) (W : S1024x2048.Idx → ℝ) (r : Fin 512) (s : Fin 2048) :
    @Eq EReal (k0_pay1 (F := Ideal) (fun y => (Y y : EReal)) (fun y => (W y : EReal)) (ix2 r s)) (mix (fun k => Y (ix2 r k)) W s : EReal) := by
  pointwise [k0_pay1]
  simp only [named_a, ofBits_root, ofBits_half, ← EReal.coe_one, Ideal.tanh_coe, ← EReal.coe_mul, ← EReal.coe_add, ← coe_sum]
  rfl

theorem pay2_apply (Y : S512x1024.Idx → ℝ) (W : S1024x2048.Idx → ℝ) (r : Fin 512) (s : Fin 2048) :
    @Eq EReal (k0_pay2 (F := Ideal) (fun y => (Y y : EReal)) (fun y => (W y : EReal)) (ix2 r s)) (mix (fun k => Y (ix2 r k)) W s : EReal) :=
  pay1_apply Y W r s

/-- The left and the right half of the 2048 columns. -/
def left (k : Fin 1024) : Fin 2048 := ⟨k.val, by omega⟩
def right (k : Fin 1024) : Fin 2048 := ⟨1024 + k.val, by omega⟩

theorem pay3_apply (Y : S512x1024.Idx → ℝ) (W : S1024x2048.Idx → ℝ) (h : Vec Ideal S512x1024 .f32) (r : Fin 512) (k : Fin 1024) :
    @Eq EReal (k0_pay3 (F := Ideal) (fun y => (Y y : EReal)) (fun y => (W y : EReal)) h (ix2 r k))
      (h (ix2 r k) + ((mix (fun k => Y (ix2 r k)) W (left k) * gate (mix (fun k => Y (ix2 r k)) W (right k)) : ℝ) : EReal)) := by
  pointwise [k0_pay3]
  refine congrArg (h (ix2 r k) + ·) ?_
  rw [EReal.coe_mul]
  refine congrArg₂ (· * ·) (pay1_apply Y W r (left k)) ?_
  refine (congrArg (fun z => Ideal.div 1 (1 + Ideal.exp (0 - z))) (pay1_apply Y W r (right k))).trans ?_
  exact gate_coe _

theorem z_apply (Y : S512x1024.Idx → ℝ) (r : Fin 512) (k : Fin 1024) :
    @Eq EReal (k1_pay2 (F := Ideal) (fun y => (Y y : EReal)) (ix2 r k)) (gelu (Y (ix2 r k)) : EReal) := by
  pointwise [k1_pay2]
  simp only [named_a, ofBits_root, ofBits_half, ← EReal.coe_one, Ideal.tanh_coe, ← EReal.coe_mul, ← EReal.coe_add, ← coe_sum]
  rfl

theorem bend_apply (Y : S512x1024.Idx → ℝ) (r : Fin 512) (k : Fin 1024) :
    @Eq EReal (k1_pay5 (F := Ideal) (fun y => (Y y : EReal)) (ix2 r k)) (bend (Y (ix2 r k)) : EReal) := by
  pointwise [k1_pay5]
  simp only [named_a, ofBits_root, ofBits_half, ← EReal.coe_one, Ideal.tanh_coe, ← EReal.coe_mul, ← EReal.coe_add, ← coe_sum]
  rfl

/-- The gradient in the product with the weights: of its left half and of its right half. -/
def push (d : Fin 1024 → ℝ) (l r : Fin 1024 → ℝ) (s : Fin 2048) : ℝ :=
  if h : s.val < 1024 then d ⟨s.val, h⟩ * gate (r ⟨s.val, h⟩)
  else d ⟨s.val - 1024, by omega⟩ * l ⟨s.val - 1024, by omega⟩ * gate (r ⟨s.val - 1024, by omega⟩) * (1 - gate (r ⟨s.val - 1024, by omega⟩))

theorem push_apply (D L R : S512x1024.Idx → ℝ) (r : Fin 512) (s : Fin 2048) :
    @Eq EReal (k1_pay3 (F := Ideal) (fun y => (D y : EReal)) (fun y => (L y : EReal)) (fun y => (R y : EReal)) (ix2 r s))
      (push (fun k => D (ix2 r k)) (fun k => L (ix2 r k)) (fun k => R (ix2 r k)) s : EReal) := by
  pointwise [k1_pay3]
  simp only [gate_coe]
  simp only [← EReal.coe_one, ← EReal.coe_mul, ← EReal.coe_sub]
  unfold push
  split <;> rfl

theorem pull_apply (D L R : S512x1024.Idx → ℝ) (W : S1024x2048.Idx → ℝ) (r : Fin 512) (k : Fin 1024) :
    @Eq EReal (k1_pay4 (F := Ideal) (fun y => (D y : EReal)) (fun y => (L y : EReal)) (fun y => (R y : EReal)) (fun y => (W y : EReal)) (ix2 r k))
      ((∑ s : Fin 2048, push (fun k => D (ix2 r k)) (fun k => L (ix2 r k)) (fun k => R (ix2 r k)) s * W (ix2 k s) : ℝ) : EReal) := by
  pointwise [k1_pay4]
  simp only [push_apply, ← EReal.coe_mul, ← coe_sum]

theorem dy_apply (Y Z T U : S512x1024.Idx → ℝ) (r : Fin 512) (k : Fin 1024) :
    @Eq EReal (k1_pay1 (F := Ideal) (fun y => (Y y : EReal)) (fun y => (Z y : EReal)) (fun y => (T y : EReal)) (fun y => (U y : EReal))
        (Scalar.ofBits .f32 0x3F000000#32) (ix2 r k))
      ((Z (ix2 r k) * (1 / 2 * U (ix2 r k) + 1 / 2 * Y (ix2 r k) * (1 - T (ix2 r k) * T (ix2 r k)) * root * (1 + 26829 / 200000 * Y (ix2 r k) * Y (ix2 r k))) : ℝ) : EReal) := by
  pointwise [k1_pay1]
  simp only [named_3a, ofBits_root, ofBits_half, ← EReal.coe_one, ← EReal.coe_mul, ← EReal.coe_sub, ← EReal.coe_add]

theorem one_bend_apply (Y : S512x1024.Idx → ℝ) (r : Fin 512) (k : Fin 1024) :
    @Eq EReal (k1_pay6 (F := Ideal) (fun y => (Y y : EReal)) (ix2 r k)) ((1 + bend (Y (ix2 r k)) : ℝ) : EReal) := by
  pointwise [k1_pay6]
  rw [EReal.coe_add]
  exact congrArg (1 + ·) (bend_apply Y r k)

/-- The gradient in the scan's output. -/
theorem grad_block (D Y L R : S512x1024.Idx → ℝ) (W : S1024x2048.Idx → ℝ) (r : Fin 512) (k : Fin 1024) :
    @Eq EReal (k1_pay1 (F := Ideal) (fun y => (Y y : EReal)) (k1_pay4 (F := Ideal) (fun y => (D y : EReal)) (fun y => (L y : EReal)) (fun y => (R y : EReal)) (fun y => (W y : EReal)))
        (k1_pay5 (F := Ideal) (fun y => (Y y : EReal))) (k1_pay6 (F := Ideal) (fun y => (Y y : EReal))) (Scalar.ofBits .f32 0x3F000000#32) (ix2 r k))
      (((∑ s : Fin 2048, push (fun k => D (ix2 r k)) (fun k => L (ix2 r k)) (fun k => R (ix2 r k)) s * W (ix2 k s)) * slope (Y (ix2 r k)) : ℝ) : EReal) := by
  have h4 : k1_pay4 (F := Ideal) (fun y => (D y : EReal)) (fun y => (L y : EReal)) (fun y => (R y : EReal)) (fun y => (W y : EReal))
      = fun y => ((∑ s : Fin 2048, push (fun k => D (ix2 (y 0) k)) (fun k => L (ix2 (y 0) k)) (fun k => R (ix2 (y 0) k)) s * W (ix2 (y 1) s) : ℝ) : EReal) :=
    funext fun (y : S512x1024.Idx) => (congrArg _ (eq_ix2 y)).trans (pull_apply D L R W (y 0) (y 1))
  have h5 : k1_pay5 (F := Ideal) (fun y => (Y y : EReal)) = fun y => (bend (Y y) : EReal) :=
    funext fun (y : S512x1024.Idx) => ((congrArg _ (eq_ix2 y)).trans (bend_apply Y (y 0) (y 1))).trans (congrArg (fun z => (bend (Y z) : EReal)) (eq_ix2 y).symm)
  have h6 : k1_pay6 (F := Ideal) (fun y => (Y y : EReal)) = fun y => ((1 + bend (Y y) : ℝ) : EReal) :=
    funext fun (y : S512x1024.Idx) => ((congrArg _ (eq_ix2 y)).trans (one_bend_apply Y (y 0) (y 1))).trans (congrArg (fun z => ((1 + bend (Y z) : ℝ) : EReal)) (eq_ix2 y).symm)
  rw [h4, h5, h6]
  exact dy_apply Y (fun y => ∑ s : Fin 2048, push (fun k => D (ix2 (y 0) k)) (fun k => L (ix2 (y 0) k)) (fun k => R (ix2 (y 0) k)) s * W (ix2 (y 1) s))
    (fun y => bend (Y y)) (fun y => 1 + bend (Y y)) r k

end Cert.S5PostIdeal.Block

end
-- ==== Proof.S5Array.lean ====
/-
  What the gated linear unit's two grids leave in their arrays, of finite inputs: the layer's output and the activation's product with the
  weights; then the gradient in the scan's output, the activation and the gradient in the product.
-/
module

public import proofs.«01_k».proof.Proof.S5Block
public import proofs.«01_k».proof.Proof.Gen.S5PostIdeal.Frame
public import Idealize.ShloMosaic.Lib.Pipeline.ReadBack
public import Idealize.ShloMosaic.Lib.Claim

@[expose] public section

set_option maxRecDepth 16384

noncomputable section

namespace Cert.S5PostIdeal.Block

open Cert.S5PostIdeal Cert.S5PostIdeal.Gen Cert.Reals Idealize.ShloMosaic Idealize.ShloMosaic.TcCoe Idealize.SL.Sem

theorem place0 : ∀ t : Fin cfg0.N, win0_0.index t = ![t.val, 0] ∧ win0_1.index t = ![t.val, 0] ∧ win0_2.index t = ![0, 0] ∧ win0_3.index t = ![t.val, 0]
    ∧ win0_4.index t = ![t.val, 0] := by
  decide +kernel

theorem place1 : ∀ t : Fin cfg1.N, win1_0.index t = ![t.val, 0] ∧ win1_1.index t = ![t.val, 0] ∧ win1_2.index t = ![t.val, 0] ∧ win1_3.index t = ![0, 0]
    ∧ win1_4.index t = ![t.val, 0] ∧ win1_5.index t = ![t.val, 0] ∧ win1_6.index t = ![t.val, 0] := by
  decide +kernel

theorem lt0 (i : Fin 8192) : i.val / 512 < cfg0.N := lt_of_lt_of_eq (show i.val / 512 < 16 by omega) N_0.symm
theorem lt1 (i : Fin 8192) : i.val / 512 < cfg1.N := lt_of_lt_of_eq (show i.val / 512 < 16 by omega) N_1.symm

/-- A row's place in its block of 512 rows. -/
def spot (i : Fin 8192) : Fin 512 := ⟨i.val % 512, by omega⟩

/-- The rows of the block that holds row `i`. -/
def near {n : ℕ} {α : Type} (X : (⟨2, ![8192, n]⟩ : Shape).Idx → α) (i : Fin 8192) (y : (⟨2, ![512, n]⟩ : Shape).Idx) : α :=
  X (ix2 ⟨i.val / 512 * 512 + (y 0).val, by have := (y 0).isLt; have h : (y 0).val < 512 := this; omega⟩ (y 1))

theorem near_spot {n : ℕ} {α : Type} (X : (⟨2, ![8192, n]⟩ : Shape).Idx → α) (i : Fin 8192) (k : Fin n) : near X i (ix2 (spot i) k) = X (ix2 i k) :=
  congrArg (fun j => X (ix2 j k)) (Fin.ext (by show i.val / 512 * 512 + i.val % 512 = i.val; omega))

theorem hz : (![0, 0] : Fin 2 → Nat) = fun _ => 0 := funext fun a => by fin_cases a <;> rfl

variable (V : (c : Dev nD) → (b : Ref sig .tc) → Buf (Elt Ideal) ((c : Thread nD τ).loc b)) (c : Dev nD) (D Y : S8192x1024.Idx → ℝ)
  (Z : S8192x2048.Idx → ℝ) (W : S1024x2048.Idx → ℝ)
  (hD : V c main_arg0 = fun i => (D i : EReal)) (hY : V c main_arg2 = fun i => (Y i : EReal))
  (hZ : V c main_v1_1 = fun i => (Z i : EReal)) (hW : V c main_v0 = fun i => (W i : EReal))

theorem blk0_0 (i : Fin 8192) : @Eq (Vec Ideal S512x1024 .f32) (iblk0 V c 0 ⟨i.val / 512, lt0 i⟩) (near (V c main_arg1) i) := by
  funext y
  unfold iblk0
  rw [View.read_apply]
  refine congrArg (V c main_arg1) ?_
  funext a
  apply Fin.ext
  match a with
  | ⟨0, _⟩ => show win0_0.index _ 0 * 512 + 1 * (y 0).val = _; rw [(place0 ⟨i.val / 512, lt0 i⟩).1]; show i.val / 512 * 512 + 1 * (y 0).val = i.val / 512 * 512 + (y 0).val; omega
  | ⟨1, _⟩ => show win0_0.index _ 1 * 1024 + 1 * (y 1).val = _; rw [(place0 ⟨i.val / 512, lt0 i⟩).1]; show 0 * 1024 + 1 * (y 1).val = (y 1).val; omega

include hY in
theorem blk0_1 (i : Fin 8192) : @Eq (Vec Ideal S512x1024 .f32) (iblk0 V c 1 ⟨i.val / 512, lt0 i⟩) fun y => ((near Y i y : ℝ) : EReal) := by
  funext y
  unfold iblk0
  rw [View.read_apply]
  refine (congrFun hY _).trans (congrArg (fun j => (Y j : EReal)) ?_)
  funext a
  apply Fin.ext
  match a with
  | ⟨0, _⟩ => show win0_1.index _ 0 * 512 + 1 * (y 0).val = _; rw [(place0 ⟨i.val / 512, lt0 i⟩).2.1]; show i.val / 512 * 512 + 1 * (y 0).val = i.val / 512 * 512 + (y 0).val; omega
  | ⟨1, _⟩ => show win0_1.index _ 1 * 1024 + 1 * (y 1).val = _; rw [(place0 ⟨i.val / 512, lt0 i⟩).2.1]; show 0 * 1024 + 1 * (y 1).val = (y 1).val; omega

include hW in
theorem blk0_2 (i : Fin 8192) : @Eq (Vec Ideal S1024x2048 .bf16) (iblk0 V c 2 ⟨i.val / 512, lt0 i⟩) fun y => (W y : EReal) := by
  funext y
  unfold iblk0
  rw [View.read_apply]
  refine (congrFun hW _).trans (congrArg (fun j => (W j : EReal)) ?_)
  funext a
  apply Fin.ext
  match a with
  | ⟨0, _⟩ => show win0_2.index _ 0 * 1024 + 1 * (y 0).val = _; rw [(place0 ⟨i.val / 512, lt0 i⟩).2.2.1]; show 0 * 1024 + 1 * (y 0).val = (y 0).val; omega
  | ⟨1, _⟩ => show win0_2.index _ 1 * 2048 + 1 * (y 1).val = _; rw [(place0 ⟨i.val / 512, lt0 i⟩).2.2.1]; show 0 * 2048 + 1 * (y 1).val = (y 1).val; omega

include hD in
theorem blk1_0 (i : Fin 8192) : @Eq (Vec Ideal S512x1024 .f32) (iblk1 V c 0 ⟨i.val / 512, lt1 i⟩) fun y => ((near D i y : ℝ) : EReal) := by
  funext y
  unfold iblk1
  rw [View.read_apply]
  refine (congrFun hD _).trans (congrArg (fun j => (D j : EReal)) ?_)
  funext a
  apply Fin.ext
  match a with
  | ⟨0, _⟩ => show win1_0.index _ 0 * 512 + 1 * (y 0).val = _; rw [(place1 ⟨i.val / 512, lt1 i⟩).1]; show i.val / 512 * 512 + 1 * (y 0).val = i.val / 512 * 512 + (y 0).val; omega
  | ⟨1, _⟩ => show win1_0.index _ 1 * 1024 + 1 * (y 1).val = _; rw [(place1 ⟨i.val / 512, lt1 i⟩).1]; show 0 * 1024 + 1 * (y 1).val = (y 1).val; omega

include hY in
theorem blk1_1 (i : Fin 8192) : @Eq (Vec Ideal S512x1024 .f32) (iblk1 V c 1 ⟨i.val / 512, lt1 i⟩) fun y => ((near Y i y : ℝ) : EReal) := by
  funext y
  unfold iblk1
  rw [View.read_apply]
  refine (congrFun hY _).trans (congrArg (fun j => (Y j : EReal)) ?_)
  funext a
  apply Fin.ext
  match a with
  | ⟨0, _⟩ => show win1_1.index _ 0 * 512 + 1 * (y 0).val = _; rw [(place1 ⟨i.val / 512, lt1 i⟩).2.1]; show i.val / 512 * 512 + 1 * (y 0).val = i.val / 512 * 512 + (y 0).val; omega
  | ⟨1, _⟩ => show win1_1.index _ 1 * 1024 + 1 * (y 1).val = _; rw [(place1 ⟨i.val / 512, lt1 i⟩).2.1]; show 0 * 1024 + 1 * (y 1).val = (y 1).val; omega

include hZ in
theorem blk1_2 (i : Fin 8192) : @Eq (Vec Ideal S512x2048 .bf16) (iblk1 V c 2 ⟨i.val / 512, lt1 i⟩) fun y => ((near Z i y : ℝ) : EReal) := by
  funext y
  unfold iblk1
  rw [View.read_apply]
  refine (congrFun hZ _).trans (congrArg (fun j => (Z j : EReal)) ?_)
  funext a
  apply Fin.ext
  match a with
  | ⟨0, _⟩ => show win1_2.index _ 0 * 512 + 1 * (y 0).val = _; rw [(place1 ⟨i.val / 512, lt1 i⟩).2.2.1]; show i.val / 512 * 512 + 1 * (y 0).val = i.val / 512 * 512 + (y 0).val; omega
  | ⟨1, _⟩ => show win1_2.index _ 1 * 2048 + 1 * (y 1).val = _; rw [(place1 ⟨i.val / 512, lt1 i⟩).2.2.1]; show 0 * 2048 + 1 * (y 1).val = (y 1).val; omega

include hW in
theorem blk1_3 (i : Fin 8192) : @Eq (Vec Ideal S1024x2048 .bf16) (iblk1 V c 3 ⟨i.val / 512, lt1 i⟩) fun y => (W y : EReal) := by
  funext y
  unfold iblk1
  rw [View.read_apply]
  refine (congrFun hW _).trans (congrArg (fun j => (W j : EReal)) ?_)
  funext a
  apply Fin.ext
  match a with
  | ⟨0, _⟩ => show win1_3.index _ 0 * 1024 + 1 * (y 0).val = _; rw [(place1 ⟨i.val / 512, lt1 i⟩).2.2.2.1]; show 0 * 1024 + 1 * (y 0).val = (y 0).val; omega
  | ⟨1, _⟩ => show win1_3.index _ 1 * 2048 + 1 * (y 1).val = _; rw [(place1 ⟨i.val / 512, lt1 i⟩).2.2.2.1]; show 0 * 2048 + 1 * (y 1).val = (y 1).val; omega

theorem apart0_3 (t t' : Fin cfg0.N) (hne : t ≠ t') : Disjoint ((cfg0.win 3).blk t).view.set ((cfg0.win 3).blk t').view.set :=
  (cfg0.win 3).disjoint_blk fun h => hne (Fin.ext (congrFun ((place0 t).2.2.2.1.symm.trans (h.trans (place0 t').2.2.2.1)) 0))

theorem apart0_4 (t t' : Fin cfg0.N) (hne : t ≠ t') : Disjoint ((cfg0.win 4).blk t).view.set ((cfg0.win 4).blk t').view.set :=
  (cfg0.win 4).disjoint_blk fun h => hne (Fin.ext (congrFun ((place0 t).2.2.2.2.symm.trans (h.trans (place0 t').2.2.2.2)) 0))

theorem apart1_4 (t t' : Fin cfg1.N) (hne : t ≠ t') : Disjoint ((cfg1.win 4).blk t).view.set ((cfg1.win 4).blk t').view.set :=
  (cfg1.win 4).disjoint_blk fun h => hne (Fin.ext (congrFun ((place1 t).2.2.2.2.1.symm.trans (h.trans (place1 t').2.2.2.2.1)) 0))

theorem apart1_5 (t t' : Fin cfg1.N) (hne : t ≠ t') : Disjoint ((cfg1.win 5).blk t).view.set ((cfg1.win 5).blk t').view.set :=
  (cfg1.win 5).disjoint_blk fun h => hne (Fin.ext (congrFun ((place1 t).2.2.2.2.2.1.symm.trans (h.trans (place1 t').2.2.2.2.2.1)) 0))

theorem apart1_6 (t t' : Fin cfg1.N) (hne : t ≠ t') : Disjoint ((cfg1.win 6).blk t).view.set ((cfg1.win 6).blk t').view.set :=
  (cfg1.win 6).disjoint_blk fun h => hne (Fin.ext (congrFun ((place1 t).2.2.2.2.2.2.symm.trans (h.trans (place1 t').2.2.2.2.2.2)) 0))

/-- The first output array, by its blocks. -/
theorem arr0_3 (i : Fin 8192) (k : Fin 1024) :
    (dat0 V c).arrAt 3 cfg0.N (ix2 i k) = (dat0 V c).after 3 ⟨i.val / 512, lt0 i⟩ (ix2 (spot i) k) := by
  have b := congrFun ((dat0 V c).read_blk_arrAt_eq_flushed 3 (fun t t' _ _ => apart0_3 t t') cfg0.N ⟨_, lt0 i⟩ (lt0 i) (flush0_3 _)) (ix2 (spot i) k)
  rw [View.read_apply] at b
  refine (congrArg ((dat0 V c).arrAt 3 cfg0.N) ?_).trans b
  funext a
  apply Fin.ext
  match a with
  | ⟨0, _⟩ => show i.val = win0_3.index _ 0 * 512 + 1 * (i.val % 512); rw [(place0 ⟨_, lt0 i⟩).2.2.2.1]; show i.val = i.val / 512 * 512 + 1 * (i.val % 512); omega
  | ⟨1, _⟩ => show k.val = win0_3.index _ 1 * 1024 + 1 * k.val; rw [(place0 ⟨_, lt0 i⟩).2.2.2.1]; show k.val = 0 * 1024 + 1 * k.val; omega

/-- The product's array, by its blocks. -/
theorem arr0_4 (i : Fin 8192) (k : Fin 2048) :
    (dat0 V c).arrAt 4 cfg0.N (ix2 i k) = (dat0 V c).after 4 ⟨i.val / 512, lt0 i⟩ (ix2 (spot i) k) := by
  have b := congrFun ((dat0 V c).read_blk_arrAt_eq_flushed 4 (fun t t' _ _ => apart0_4 t t') cfg0.N ⟨_, lt0 i⟩ (lt0 i) (flush0_4 _)) (ix2 (spot i) k)
  rw [View.read_apply] at b
  refine (congrArg ((dat0 V c).arrAt 4 cfg0.N) ?_).trans b
  funext a
  apply Fin.ext
  match a with
  | ⟨0, _⟩ => show i.val = win0_4.index _ 0 * 512 + 1 * (i.val % 512); rw [(place0 ⟨_, lt0 i⟩).2.2.2.2]; show i.val = i.val / 512 * 512 + 1 * (i.val % 512); omega
  | ⟨1, _⟩ => show k.val = win0_4.index _ 1 * 2048 + 1 * k.val; rw [(place0 ⟨_, lt0 i⟩).2.2.2.2]; show k.val = 0 * 2048 + 1 * k.val; omega

/-- The gradient's array, by its blocks. -/
theorem arr1_4 (i : Fin 8192) (k : Fin 1024) :
    (dat1 V c).arrAt 4 cfg1.N (ix2 i k) = (dat1 V c).after 4 ⟨i.val / 512, lt1 i⟩ (ix2 (spot i) k) := by
  have b := congrFun ((dat1 V c).read_blk_arrAt_eq_flushed 4 (fun t t' _ _ => apart1_4 t t') cfg1.N ⟨_, lt1 i⟩ (lt1 i) (flush1_4 _)) (ix2 (spot i) k)
  rw [View.read_apply] at b
  refine (congrArg ((dat1 V c).arrAt 4 cfg1.N) ?_).trans b
  funext a
  apply Fin.ext
  match a with
  | ⟨0, _⟩ => show i.val = win1_4.index _ 0 * 512 + 1 * (i.val % 512); rw [(place1 ⟨_, lt1 i⟩).2.2.2.2.1]; show i.val = i.val / 512 * 512 + 1 * (i.val % 512); omega
  | ⟨1, _⟩ => show k.val = win1_4.index _ 1 * 1024 + 1 * k.val; rw [(place1 ⟨_, lt1 i⟩).2.2.2.2.1]; show k.val = 0 * 1024 + 1 * k.val; omega

/-- The activation's array, by its blocks. -/
theorem arr1_5 (i : Fin 8192) (k : Fin 1024) :
    (dat1 V c).arrAt 5 cfg1.N (ix2 i k) = (dat1 V c).after 5 ⟨i.val / 512, lt1 i⟩ (ix2 (spot i) k) := by
  have b := congrFun ((dat1 V c).read_blk_arrAt_eq_flushed 5 (fun t t' _ _ => apart1_5 t t') cfg1.N ⟨_, lt1 i⟩ (lt1 i) (flush1_5 _)) (ix2 (spot i) k)
  rw [View.read_apply] at b
  refine (congrArg ((dat1 V c).arrAt 5 cfg1.N) ?_).trans b
  funext a
  apply Fin.ext
  match a with
  | ⟨0, _⟩ => show i.val = win1_5.index _ 0 * 512 + 1 * (i.val % 512); rw [(place1 ⟨_, lt1 i⟩).2.2.2.2.2.1]; show i.val = i.val / 512 * 512 + 1 * (i.val % 512); omega
  | ⟨1, _⟩ => show k.val = win1_5.index _ 1 * 1024 + 1 * k.val; rw [(place1 ⟨_, lt1 i⟩).2.2.2.2.2.1]; show k.val = 0 * 1024 + 1 * k.val; omega

/-- The array of the gradient in the product, by its blocks. -/
theorem arr1_6 (i : Fin 8192) (k : Fin 2048) :
    (dat1 V c).arrAt 6 cfg1.N (ix2 i k) = (dat1 V c).after 6 ⟨i.val / 512, lt1 i⟩ (ix2 (spot i) k) := by
  have b := congrFun ((dat1 V c).read_blk_arrAt_eq_flushed 6 (fun t t' _ _ => apart1_6 t t') cfg1.N ⟨_, lt1 i⟩ (lt1 i) (flush1_6 _)) (ix2 (spot i) k)
  rw [View.read_apply] at b
  refine (congrArg ((dat1 V c).arrAt 6 cfg1.N) ?_).trans b
  funext a
  apply Fin.ext
  match a with
  | ⟨0, _⟩ => show i.val = win1_6.index _ 0 * 512 + 1 * (i.val % 512); rw [(place1 ⟨_, lt1 i⟩).2.2.2.2.2.2]; show i.val = i.val / 512 * 512 + 1 * (i.val % 512); omega
  | ⟨1, _⟩ => show k.val = win1_6.index _ 1 * 2048 + 1 * k.val; rw [(place1 ⟨_, lt1 i⟩).2.2.2.2.2.2]; show k.val = 0 * 2048 + 1 * k.val; omega

end Cert.S5PostIdeal.Block

end
-- ==== Proof.S5Run.lean ====
/-
  The gated linear unit's program runs to an end at which every array holds what its two grids leave.
-/
module

public import proofs.«01_k».proof.Proof.Gen.S5PostIdeal.Frame

@[expose] public section

set_option maxRecDepth 16384

noncomputable section

namespace Cert.S5PostIdeal.Block

open Cert.S5PostIdeal Cert.S5PostIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (ρ : Dev nD → PrngReg)

set_option backward.isDefEq.respectTransparency.types false in
/-- Every array outside the grids' own buffers ends with the contents of the last boundary. -/
theorem run_end : θ_run defs (onTc (τ := τ) (main (F := F))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact H
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hg, -⟩, -⟩
      imodintro
      isplitl [Hb]; · iexact Hb
      isplitl [Hg]; · iexists _; iexact Hg
      iexists ∅; iexact Ho)
    (QY := fun c s => ∀ b ∈ Pipeline.ucRefs τ sig, s.mem (((c : Thread nD τ)).1, b) = W3 m ρ c b)
    (hfin := fun c s' => by
      iintro ⟨⟨Hb, -⟩, Hs⟩
      unfold StableHlo.held
      imodintro
      iapply (pointsTo_read_all (Pipeline.ucRefs τ sig) (fun b => (((c : Thread nD τ)).1, b)) (W3 m ρ c) s')
      isplitl [Hb] <;> iassumption)
    (hQ := fun _ h _ => h)

end Cert.S5PostIdeal.Block

end
-- ==== Proof.S5End.lean ====
/-
  The gated linear unit's four results, of finite cotangent, scan output and weights.
-/
module

public import proofs.«01_k».proof.Proof.S5Array
public import proofs.«01_k».proof.Proof.S5Run

@[expose] public section

set_option maxRecDepth 16384

noncomputable section

namespace Cert.S5PostIdeal.Block

open Cert.S5PostIdeal Cert.S5PostIdeal.Gen Cert.Reals Idealize.ShloMosaic Idealize.ShloMosaic.TcCoe Idealize.SL.Sem

theorem ld_left (x : Vec Ideal S512x2048 .bf16) : View.ld x r1_1 = fun y => x (ix2 (y 0) (left (y 1))) := by
  funext y
  refine congrArg x ?_
  funext a
  apply Fin.ext
  match a with
  | ⟨0, _⟩ => show 0 + 1 * (y 0).val = (y 0).val; omega
  | ⟨1, _⟩ => show 0 + 1 * (y 1).val = (y 1).val; omega

theorem ld_right (x : Vec Ideal S512x2048 .bf16) : View.ld x r1_2 = fun y => x (ix2 (y 0) (right (y 1))) := by
  funext y
  refine congrArg x ?_
  funext a
  apply Fin.ext
  match a with
  | ⟨0, _⟩ => show 0 + 1 * (y 0).val = (y 0).val; omega
  | ⟨1, _⟩ => show 1024 + 1 * (y 1).val = 1024 + (y 1).val; omega

/-- The arguments: the cotangent, the scan's output and the weights hold reals. -/
structure Args (m : (ℓ : Loc nD τ sig) → Buf (Elt Ideal) ℓ) (c : Dev nD) (A : S8192x1024.Idx → EReal) (D Y : S8192x1024.Idx → ℝ) (W : S1024x2048.Idx → ℝ) : Prop where
  a : m ((c : Thread nD τ).loc main_arg1) = A
  d : m ((c : Thread nD τ).loc main_arg0) = fun i => (D i : EReal)
  y : m ((c : Thread nD τ).loc main_arg2) = fun i => (Y i : EReal)
  w : m ((c : Thread nD τ).loc main_arg3) = fun i => (W i : EReal)

/-- The product at an entry. -/
def prod (Y : S8192x1024.Idx → ℝ) (W : S1024x2048.Idx → ℝ) (i : Fin 8192) (s : Fin 2048) : ℝ := mix (fun k => Y (ix2 i k)) W s

/-- The product's array. -/
def prods (Y : S8192x1024.Idx → ℝ) (W : S1024x2048.Idx → ℝ) (i : S8192x2048.Idx) : ℝ := prod Y W (i 0) (i 1)

/-- The halves of the product in the block that holds row `i`. -/
def lefts (Y : S8192x1024.Idx → ℝ) (W : S1024x2048.Idx → ℝ) (i : Fin 8192) (y : S512x1024.Idx) : ℝ := near (prods Y W) i (ix2 (y 0) (left (y 1)))
def rights (Y : S8192x1024.Idx → ℝ) (W : S1024x2048.Idx → ℝ) (i : Fin 8192) (y : S512x1024.Idx) : ℝ := near (prods Y W) i (ix2 (y 0) (right (y 1)))

/-- The gradient in the product, at an entry. -/
def back (D Y : S8192x1024.Idx → ℝ) (W : S1024x2048.Idx → ℝ) (i : Fin 8192) (s : Fin 2048) : ℝ :=
  push (fun k => D (ix2 i k)) (fun k => prod Y W i (left k)) (fun k => prod Y W i (right k)) s

variable {m : (ℓ : Loc nD τ sig) → Buf (Elt Ideal) ℓ} (ρ : Dev nD → PrngReg) {c : Dev nD} {A : S8192x1024.Idx → EReal} {D Y : S8192x1024.Idx → ℝ} {W : S1024x2048.Idx → ℝ}
  (I : Args m c A D Y W)

include I in
theorem weights1 : V1 m ρ c main_v0 = fun i => (W i : EReal) := by
  funext i
  refine Eq.trans ?_ (congrFun I.w i)
  show StableHlo.after hostOps0 (W0 m ρ c) main_v0 i = _
  entry_read
  rfl

include I in
theorem scan1 : V1 m ρ c main_arg2 = fun i => (Y i : EReal) := (W1_args m ρ c main_arg2 (by decide)).trans I.y

include I in
theorem stream1 : V1 m ρ c main_arg1 = A := (W1_args m ρ c main_arg1 (by decide)).trans I.a

include I in
/-- The layer's output. -/
theorem out_eq (i : Fin 8192) (k : Fin 1024) : @Eq EReal (W3 m ρ c main_v1_0 (ix2 i k))
    (A (ix2 i k) + ((prod Y W i (left k) * gate (prod Y W i (right k)) : ℝ) : EReal)) := by
  refine (congrFun ((W3_of_ne m ρ c main_v1_0 (by decide)).trans (W2_arr m ρ c 3)) _).trans ?_
  rw [arr0_3, after0_3]
  unfold out0_3
  rw [View.canon_unit_zero hz, View.ld_unit_zero (S := S512x1024) hz, View.ld_unit_zero (S := S1024x2048) hz, View.ld_unit_zero (S := S512x1024) hz,
    blk0_0, blk0_1 _ c Y (scan1 ρ I), blk0_2 _ c W (weights1 ρ I), stream1 ρ I, pay3_apply]
  simp only [near_spot]
  rfl

include I in
theorem prod_at (i : Fin 8192) (s : Fin 2048) : @Eq EReal (V2 m ρ c main_v1_1 (ix2 i s)) (prod Y W i s : EReal) := by
  refine (congrFun (W2_arr m ρ c 4) _).trans ?_
  rw [arr0_4, after0_4]
  unfold out0_4
  rw [View.canon_unit_zero hz, View.ld_unit_zero (S := S512x1024) hz, View.ld_unit_zero (S := S1024x2048) hz,
    blk0_1 _ c Y (scan1 ρ I), blk0_2 _ c W (weights1 ρ I), pay2_apply]
  simp only [near_spot]
  rfl

include I in
theorem prod_eq : V2 m ρ c main_v1_1 = fun i => (prods Y W i : EReal) :=
  funext fun (i : S8192x2048.Idx) => (congrArg (V2 m ρ c main_v1_1) (eq_ix2 i)).trans (prod_at ρ I _ _)

include I in
theorem weights2 : V2 m ρ c main_v0 = fun i => (W i : EReal) := (W2_of m ρ c main_v0 (by decide)).trans (weights1 ρ I)

include I in
theorem scan2 : V2 m ρ c main_arg2 = fun i => (Y i : EReal) := (W2_args m ρ c main_arg2 (by decide)).trans I.y

include I in
theorem cotangent2 : V2 m ρ c main_arg0 = fun i => (D i : EReal) := (W2_args m ρ c main_arg0 (by decide)).trans I.d

include I in
/-- The activation. -/
theorem act_eq (i : Fin 8192) (k : Fin 1024) : @Eq EReal (W3 m ρ c main_v2_1 (ix2 i k)) (gelu (Y (ix2 i k)) : EReal) := by
  refine (congrFun (W3_arr m ρ c 5) _).trans ?_
  rw [arr1_5, after1_5]
  unfold out1_5
  rw [View.canon_unit_zero hz, View.ld_unit_zero (S := S512x1024) hz, blk1_1 _ c Y (scan2 ρ I), z_apply]
  simp only [near_spot]

theorem push_near (i : Fin 8192) (s : Fin 2048) :
    push (fun k => near D i (ix2 (spot i) k)) (fun k => lefts Y W i (ix2 (spot i) k)) (fun k => rights Y W i (ix2 (spot i) k)) s = back D Y W i s := by
  unfold back
  refine congrFun (congr (congr (congrArg push (funext fun k => near_spot D i k)) (funext fun k => ?_)) (funext fun k => ?_)) s
  · exact near_spot (prods Y W) i (left k)
  · exact near_spot (prods Y W) i (right k)

include I in
/-- The gradient in the product. -/
theorem back_eq (i : Fin 8192) (s : Fin 2048) : @Eq EReal (W3 m ρ c main_v2_2 (ix2 i s)) (back D Y W i s : EReal) := by
  refine (congrFun (W3_arr m ρ c 6) _).trans ?_
  rw [arr1_6, after1_6]
  unfold out1_6
  rw [View.canon_unit_zero hz, View.ld_unit_zero (S := S512x1024) hz, ld_left, ld_right, blk1_0 _ c D (cotangent2 ρ I), blk1_2 _ c (prods Y W) (prod_eq ρ I)]
  exact (push_apply (near D i) (lefts Y W i) (rights Y W i) _ _).trans (congrArg Real.toEReal (push_near i s))

include I in
/-- The gradient in the scan's output. -/
theorem grad_eq (i : Fin 8192) (k : Fin 1024) : @Eq EReal (W3 m ρ c main_v2_0 (ix2 i k))
    (((∑ s : Fin 2048, back D Y W i s * W (ix2 k s)) * slope (Y (ix2 i k)) : ℝ) : EReal) := by
  refine (congrFun (W3_arr m ρ c 4) _).trans ?_
  rw [arr1_4, after1_4]
  unfold out1_4
  rw [View.canon_unit_zero hz, View.ld_unit_zero (S := S512x1024) hz, View.ld_unit_zero (S := S512x1024) hz, View.ld_unit_zero (S := S1024x2048) hz, ld_left, ld_right,
    blk1_0 _ c D (cotangent2 ρ I), blk1_1 _ c Y (scan2 ρ I), blk1_2 _ c (prods Y W) (prod_eq ρ I), blk1_3 _ c W (weights2 ρ I)]
  refine (grad_block (near D i) (near Y i) (lefts Y W i) (rights Y W i) W (spot i) k).trans (congrArg Real.toEReal ?_)
  rw [near_spot]
  refine congrArg (· * _) (Finset.sum_congr rfl fun s _ => congrArg (· * _) (push_near i s))

end Cert.S5PostIdeal.Block

end
-- ==== Proof.S5Ref.lean ====
/-
  The derivative of the gated linear unit's forward lines, of finite inputs, stage by stage.
-/
module

public import proofs.«01_k».proof.Proof.S5End
public import proofs.«01_k».proof.Proof.Gen.S5PostRefIdeal.Read

@[expose] public section

set_option maxRecDepth 16384

noncomputable section

namespace Cert.S5PostRefIdeal.Stages

open Cert.S5PostRefIdeal Cert.S5PostRefIdeal.Read Cert.Reals Idealize.ShloMosaic Idealize.ShloMosaic.TcCoe Idealize.SL.Sem
open Cert.S5PostIdeal.Block (root bend gelu gate mix left right push prod back ofBits_root ofBits_half one_exp_ne)

theorem ofBits_a : Ideal.ofBits .f32 0x472EAB00#32 = ((44715 : ℝ) : EReal) := by
  simp [Ideal.ofBits, Ideal.ieee]; rw [← EReal.coe_mul]; norm_num

theorem ofBits_million : Ideal.ofBits .f32 0x49742400#32 = ((1000000 : ℝ) : EReal) := by
  simp [Ideal.ofBits, Ideal.ieee]; rw [← EReal.coe_mul]; norm_num

theorem ofBits_three : Ideal.ofBits .f32 0x40400000#32 = ((3 : ℝ) : EReal) := by
  simp [Ideal.ofBits, Ideal.ieee]; rw [← EReal.coe_mul]; norm_num

variable (D Y : S8192x1024.Idx → ℝ) (A : S8192x1024.Idx → EReal) (W : S1024x2048.Idx → ℝ) (i : Fin 8192) (k : Fin 1024) (s : Fin 2048)

theorem bend_apply : @Eq EReal (val_main_v11 (F := Ideal) (fun j => (Y j : EReal)) (ix2 i k)) (bend (Y (ix2 i k)) : EReal) := by
  pointwise [val_main_v11, val_main_v10, val_main_v9, val_main_v8, val_main_v7, val_main_v6, val_main_v2, val_main_v1, val_main_v0, val_main_cst, val_main_cst_0, val_main_cst_2]
  rw [ofBits_root, ofBits_a, ofBits_million, div_coe _ (by norm_num)]
  simp only [← EReal.coe_mul, ← EReal.coe_add, Ideal.tanh_coe]
  unfold bend
  refine congrArg (fun z => ((Real.tanh z : ℝ) : EReal)) ?_
  ring

/-- Half of one plus the tangent. -/
theorem half_apply : @Eq EReal (val_main_v20 (F := Ideal) (fun j => (Y j : EReal)) (ix2 i k)) ((1 / 2 * (1 + bend (Y (ix2 i k))) : ℝ) : EReal) := by
  pointwise [val_main_v20, val_main_v19, val_main_v18, val_main_v17, val_main_cst_5, val_main_cst_6]
  simp only [bend_apply, ofBits_half, ← EReal.coe_one, ← EReal.coe_mul, ← EReal.coe_add]

theorem gelu_apply : @Eq EReal (val_main_v21 (F := Ideal) (fun j => (Y j : EReal)) (ix2 i k)) (gelu (Y (ix2 i k)) : EReal) := by
  pointwise [val_main_v21]
  rw [half_apply, ← EReal.coe_mul]
  refine congrArg Real.toEReal ?_
  unfold gelu
  ring

theorem prod_apply : @Eq EReal (val_main_v22 (F := Ideal) (fun j => (Y j : EReal)) (fun j => (W j : EReal)) (ix2 i s)) (prod Y W i s : EReal) := by
  pointwise [val_main_v22]
  simp only [gelu_apply, ← EReal.coe_mul, ← coe_sum]
  rfl

theorem left_apply : @Eq EReal (val_main_v23 (F := Ideal) (fun j => (Y j : EReal)) (fun j => (W j : EReal)) (ix2 i k)) (prod Y W i (left k) : EReal) := by
  pointwise [val_main_v23]
  exact prod_apply Y W i (left k)

theorem gate_apply : @Eq EReal (val_main_v30 (F := Ideal) (fun j => (Y j : EReal)) (fun j => (W j : EReal)) (ix2 i k)) (gate (prod Y W i (right k)) : EReal) := by
  pointwise [val_main_v30, val_main_v29, val_main_v28, val_main_v27, val_main_v26, val_main_v25, val_main_v24, val_main_cst_7, val_main_cst_8]
  refine (congrArg (fun z => Ideal.div 1 (1 + Ideal.exp (-z))) (prod_apply Y W i (right k))).trans ?_
  rw [← EReal.coe_neg, Ideal.exp_coe, ← EReal.coe_one, ← EReal.coe_add, div_coe _ (one_exp_ne _), gate]

theorem out_apply : @Eq EReal (val_main_v35 (F := Ideal) A (fun j => (Y j : EReal)) (fun j => (W j : EReal)) (ix2 i k))
    (A (ix2 i k) + ((prod Y W i (left k) * gate (prod Y W i (right k)) : ℝ) : EReal)) := by
  pointwise [val_main_v35, val_main_v34]
  rw [left_apply, gate_apply, ← EReal.coe_mul]

theorem back_apply : @Eq EReal (val_main_v41 (F := Ideal) (fun j => (D j : EReal)) (fun j => (Y j : EReal)) (fun j => (W j : EReal)) (ix2 i s)) (back D Y W i s : EReal) := by
  pointwise [val_main_v41, val_main_v40, val_main_v39, val_main_v38, val_main_v37, val_main_v36, val_main_v33, val_main_v32, val_main_v31, val_main_cst_9, val_main_cst_10, val_main_cst_11]
  simp only [left_apply, gate_apply, ← EReal.coe_one, ← EReal.coe_mul, ← EReal.coe_sub]
  unfold back push
  by_cases h : s.val < 1024
  · rw [dif_neg (fun e => absurd e.1 (by omega)), dif_pos h, dif_pos h, zero_add]
  · rw [dif_pos ⟨by omega, by omega⟩, dif_neg h, dif_neg h, add_zero]
    refine congrArg Real.toEReal ?_
    ring

theorem pull_apply : @Eq EReal (val_main_v42 (F := Ideal) (fun j => (D j : EReal)) (fun j => (Y j : EReal)) (fun j => (W j : EReal)) (ix2 i k))
    ((∑ s : Fin 2048, back D Y W i s * W (ix2 k s) : ℝ) : EReal) := by
  pointwise [val_main_v42]
  simp only [back_apply, ← EReal.coe_mul, ← coe_sum]

theorem grad_apply : @Eq EReal (val_main_v54 (F := Ideal) (fun j => (D j : EReal)) (fun j => (Y j : EReal)) (fun j => (W j : EReal)) (ix2 i k))
    (((∑ s : Fin 2048, back D Y W i s * W (ix2 k s)) * Cert.S5PostIdeal.Block.slope (Y (ix2 i k)) : ℝ) : EReal) := by
  pointwise [val_main_v54, val_main_v53, val_main_v52, val_main_v51, val_main_v50, val_main_v49, val_main_v48, val_main_v47, val_main_v46, val_main_v45, val_main_v44,
    val_main_v43, val_main_v16, val_main_v15, val_main_v14, val_main_v13, val_main_v12, val_main_v5, val_main_v4, val_main_v3, val_main_v0,
    val_main_cst, val_main_cst_0, val_main_cst_1, val_main_cst_3, val_main_cst_4, val_main_cst_12, val_main_cst_13]
  rw [ofBits_root, ofBits_half, ofBits_three, ofBits_a, ofBits_million, div_coe _ (by norm_num)]
  simp only [pull_apply, half_apply, bend_apply, ← EReal.coe_one, ← EReal.coe_mul, ← EReal.coe_add, ← EReal.coe_sub]
  refine congrArg Real.toEReal ?_
  unfold Cert.S5PostIdeal.Block.slope
  ring

/-- The activation and the gradient in the product, written once more for the weights' gradient. -/
theorem act_apply : @Eq EReal (val_main_v88 (F := Ideal) (fun j => (Y j : EReal)) (ix2 i k)) (gelu (Y (ix2 i k)) : EReal) := by
  have h : val_main_v68 (F := Ideal) (fun j => (Y j : EReal)) = val_main_v21 (F := Ideal) (fun j => (Y j : EReal)) := rfl
  pointwise [val_main_v88]
  rw [h]
  exact gelu_apply Y i k

theorem back_again : @Eq EReal (val_main_v89 (F := Ideal) (fun j => (D j : EReal)) (fun j => (Y j : EReal)) (fun j => (W j : EReal)) (ix2 i s)) (back D Y W i s : EReal) := by
  have h : val_main_v87 (F := Ideal) (fun j => (D j : EReal)) (fun j => (Y j : EReal)) (fun j => (W j : EReal))
      = val_main_v41 (F := Ideal) (fun j => (D j : EReal)) (fun j => (Y j : EReal)) (fun j => (W j : EReal)) := rfl
  pointwise [val_main_v89]
  rw [h]
  exact back_apply D Y W i s

end Cert.S5PostRefIdeal.Stages

end
-- ==== Proof.S5Claim.lean ====
/-
  The gated linear unit and its gradient: the kernel and the forward lines with their derivative end with equal results.
-/
module

public import proofs.«01_k».proof.Defs
public import proofs.«01_k».proof.Proof.S5End
public import proofs.«01_k».proof.Proof.S5Ref
public import proofs.«01_k».proof.Proof.Gen.S5PostRefIdeal.Run
public import proofs.«01_k».proof.Proof.Gen.Pre_s5_post_finite
public import Idealize.ShloMosaic.Lib.Quiescent

@[expose] public section

set_option maxRecDepth 16384

noncomputable section

namespace Cert.S5Claim

open Idealize.ShloMosaic Idealize.ShloMosaic.TcCoe Idealize.SL.Sem Cert.Reals
open Cert.S5PostIdeal (nD τ sig main_arg0 main_arg1 main_arg2 main_arg3 main_v1_0 main_v2_0 main_v2_1 main_v2_2)
open Cert.S5PostIdeal.Gen (W3 mem_uc unchanged)
open Cert.S5PostIdeal.Block (Args run_end)

/-- The precondition, read: the three arrays that it speaks of hold reals. -/
theorem reals (m : (ℓ : Loc nD τ sig) → Buf (Elt Ideal) ℓ) (hpre : Cert.Pre_S5PostIdeal_s5_post_finite m) (c : Dev nD) :
    ∃ A D Y W, Args m c A D Y W :=
  ⟨m (c.tc.loc main_arg1), fun i => EReal.toReal (m (c.tc.loc main_arg0) i), fun i => EReal.toReal (m (c.tc.loc main_arg2) i),
    fun i => EReal.toReal (m (c.tc.loc main_arg3) i), rfl,
    funext fun i => (coe_toReal (congrFun (hpre c).1 i)).symm, funext fun i => (coe_toReal (congrFun (hpre c).2.1 i)).symm,
    funext fun i => (coe_toReal (congrFun (hpre c).2.2 i)).symm⟩

theorem frame_ref : Cert.quiescent_S5PostRefIdeal := fun m ρ _ =>
  (θ_run Cert.S5PostRefIdeal.defs _ _).mono (fun r h => ⟨fun c => (h c).2.2.2.2, sem_eq_zero_of_no_sems (by decide) r.2⟩)
    (Cert.S5PostRefIdeal.Value.run m ρ)

theorem preserves : Cert.preserves_S5Post_S5PostIdeal :=
  ⟨IdealRules.named_const.statement Cert.S5PostIdeal.κ "gelu_a" .f32 0x3D372713#32 _ rfl, IdealRules.named_const.statement Cert.S5PostIdeal.κ "gelu_3a" .f32 0x3E095D4F#32 _ rfl⟩

theorem algebraic : Cert.algebraic_S5PostIdeal_S5PostRefIdeal_pre_s5_post_finite := fun m ρ m' ρ' hpre hag =>
  ⟨fun c => W3 m ρ c main_v1_0, fun c => W3 m ρ c main_v2_0, fun c => W3 m ρ c main_v2_1, fun c => W3 m ρ c main_v2_2,
    (θ_run Cert.S5PostIdeal.defs _ _).mono (fun r h c => ⟨h.1 c _ (mem_uc main_v1_0 (by decide)), h.1 c _ (mem_uc main_v2_0 (by decide)),
        h.1 c _ (mem_uc main_v2_1 (by decide)), h.1 c _ (mem_uc main_v2_2 (by decide)), h.2 c⟩)
      (θ_run_and (run_end m ρ) (unchanged m ρ)),
    (θ_run _ _ _).mono (fun _ h c => by
      obtain ⟨A, D, Y, W, I⟩ := reals m hpre c
      obtain ⟨a0, a1, a2, a3⟩ := hag c
      refine ⟨(h c).1.trans ?_, (h c).2.1.trans ?_, (h c).2.2.1.trans ?_, (h c).2.2.2.1.trans ?_, (h c).2.2.2.2⟩
      · rw [Cert.S5PostRefIdeal.Read.val_main_v35_eq, a1, a2, a3, I.a, I.y, I.w]
        refine funext fun (i : Cert.S5PostIdeal.S8192x1024.Idx) => ?_
        rw [eq_ix2 i]
        exact (Cert.S5PostRefIdeal.Stages.out_apply Y A W _ _).trans (Cert.S5PostIdeal.Block.out_eq ρ I _ _).symm
      · rw [Cert.S5PostRefIdeal.Read.val_main_v54_eq, a0, a2, a3, I.d, I.y, I.w]
        refine funext fun (i : Cert.S5PostIdeal.S8192x1024.Idx) => ?_
        rw [eq_ix2 i]
        exact (Cert.S5PostRefIdeal.Stages.grad_apply D Y W _ _).trans (Cert.S5PostIdeal.Block.grad_eq ρ I _ _).symm
      · rw [Cert.S5PostRefIdeal.Read.val_main_v88_eq, a2, I.y]
        refine funext fun (i : Cert.S5PostIdeal.S8192x1024.Idx) => ?_
        rw [eq_ix2 i]
        exact (Cert.S5PostRefIdeal.Stages.act_apply Y _ _).trans (Cert.S5PostIdeal.Block.act_eq ρ I _ _).symm
      · rw [Cert.S5PostRefIdeal.Read.val_main_v89_eq, a0, a2, a3, I.d, I.y, I.w]
        refine funext fun (i : Cert.S5PostIdeal.S8192x2048.Idx) => ?_
        rw [eq_ix2 i]
        exact (Cert.S5PostRefIdeal.Stages.back_again D Y W _ _).trans (Cert.S5PostIdeal.Block.back_eq ρ I _ _).symm)
    (Cert.S5PostRefIdeal.Value.run m' ρ')⟩

end Cert.S5Claim

end
-- ==== Proof.MlpSums.lean ====
/-
  A sum over the 4096 hidden columns, taken in four chunks of 1024.
-/
module

public import Mathlib.Algebra.BigOperators.Fin
public import Mathlib.Logic.Equiv.Fin.Basic

@[expose] public section

namespace Cert.MlpSums

theorem sum_chunks {M : Type} [AddCommMonoid M] (f : Fin 4096 → M) :
    ∑ s, f s = (((∑ l : Fin 1024, f ⟨0 + l.val, by omega⟩) + ∑ l : Fin 1024, f ⟨1024 + l.val, by omega⟩) + ∑ l : Fin 1024, f ⟨2048 + l.val, by omega⟩)
      + ∑ l : Fin 1024, f ⟨3072 + l.val, by omega⟩ := by
  rw [← (finProdFinEquiv : Fin 4 × Fin 1024 ≃ Fin 4096).sum_comp, Fintype.sum_prod_type, Fin.sum_univ_four]
  have e : ∀ (j : Fin 4) (o : ℕ) (h : ∀ l : Fin 1024, o + l.val < 4096), 1024 * j.val = o →
      (∑ l : Fin 1024, f (finProdFinEquiv (j, l))) = ∑ l : Fin 1024, f ⟨o + l.val, h l⟩ := by
    intro j o h ho
    refine Finset.sum_congr rfl fun l _ => congrArg f (Fin.ext ?_)
    show l.val + 1024 * j.val = o + l.val
    omega
  rw [e 0 0 (fun l => by omega) rfl, e 1 1024 (fun l => by omega) rfl, e 2 2048 (fun l => by omega) rfl, e 3 3072 (fun l => by omega) rfl]

end Cert.MlpSums

end
-- ==== Proof.MlpFwdBlock.lean ====
/-
  What one grid point of the squared-ReLU layer's forward call computes: 256 rows of the layer's output and of the saved product,
  the 4096 hidden columns taken in four chunks of 1024.
-/
module

public import proofs.«01_k».proof.Proof.MlpSums
public import proofs.«01_k».proof.Proof.Gen.MlpFwdIdeal.Value
public import Idealize.ShloMosaic.Lib.Pipeline.ReadBack
public import Idealize.ShloMosaic.Lib.Pipeline.ValueKit.Tiles
public import Idealize.ShloMosaic.Lib.Pointwise

@[expose] public section

set_option maxRecDepth 16384

noncomputable section

namespace Cert.MlpFwdIdeal.Block

open Cert.MlpFwdIdeal Cert.MlpFwdIdeal.Gen Idealize.ShloMosaic Idealize.SL.Sem

/-- A row of the stream, normalised and times the gain. -/
def norm (h g : Fin 1024 → EReal) (k : Fin 1024) : EReal :=
  h k * Ideal.rsqrt (Ideal.div (∑ l, h l * h l) (Ideal.ofBits .f32 0x44800000#32) + Ideal.ofBits .f32 0x358637BD#32) * g k

theorem pay1_apply (h : S256x1024.Idx → EReal) (g : S1x1024.Idx → EReal) (r : Fin 256) (k : Fin 1024) :
    @Eq EReal (k0_pay1 (F := Ideal) h g (ix2 r k)) (norm (fun l => h (ix2 r l)) (fun l => g (ix2 0 l)) k) := by
  pointwise [k0_pay1]
  rfl

/-- One hidden entry of a chunk. -/
def hid (u : Fin 1024 → EReal) (w : S1024x1024.Idx → EReal) (k : Fin 1024) : EReal := ∑ l : Fin 1024, u l * w (ix2 l k)

theorem pay2_apply (h : S256x1024.Idx → EReal) (g : S1x1024.Idx → EReal) (w : S1024x1024.Idx → EReal) (r : Fin 256) (k : Fin 1024) :
    @Eq EReal (k0_pay2 (F := Ideal) h g w (ix2 r k)) (hid (norm (fun l => h (ix2 r l)) (fun l => g (ix2 0 l))) w k) := by
  pointwise [k0_pay2]
  simp only [pay1_apply]
  rfl

theorem pay8_apply (u : S256x1024.Idx → EReal) (w : S1024x1024.Idx → EReal) (r : Fin 256) (k : Fin 1024) :
    @Eq EReal (k0_pay8 (F := Ideal) u w (ix2 r k)) (hid (fun l => u (ix2 r l)) w k) := by
  pointwise [k0_pay8]
  rfl

theorem pay5_apply (h : S256x1024.Idx → EReal) (g : S1x1024.Idx → EReal) (w : S1024x1024.Idx → EReal) (r : Fin 256) (k : Fin 1024) :
    @Eq EReal (k0_pay5 (F := Ideal) h g w (ix2 r k)) (hid (norm (fun l => h (ix2 r l)) (fun l => g (ix2 0 l))) w k) :=
  pay2_apply h g w r k

theorem pay10_apply (u : S256x1024.Idx → EReal) (w : S1024x1024.Idx → EReal) (r : Fin 256) (k : Fin 1024) :
    @Eq EReal (k0_pay10 (F := Ideal) u w (ix2 r k)) (hid (fun l => u (ix2 r l)) w k) :=
  pay8_apply u w r k

/-- What a chunk adds to the output. -/
def chunk (z : Fin 1024 → EReal) (w : S1024x1024.Idx → EReal) (k : Fin 1024) : EReal := ∑ l : Fin 1024, max (z l) 0 * max (z l) 0 * w (ix2 l k)

/-- The square of the positive part, times the second weight. -/
def act (z : FVec Ideal S256x1024 .f32) (w : FVec Ideal S1024x1024 .bf16) : FVec Ideal S256x1024 .f32 :=
  matmul dot_S256x1024_S1024x1024_S256x1024_1_0_0_1_n_n none
    (truncf .bf16 (mulf (maximumf z (broadcast S256x1024 (FloatOps.ofBits (F := Ideal) .f32 0x00000000#32))) (maximumf z (broadcast S256x1024 (FloatOps.ofBits (F := Ideal) .f32 0x00000000#32)))) bitsLt_bf16_f32)
    w (constant S256x1024 .f32 0x00000000#32)

theorem act_apply (z : S256x1024.Idx → EReal) (w : S1024x1024.Idx → EReal) (r : Fin 256) (k : Fin 1024) :
    @Eq EReal (act z w (ix2 r k)) (chunk (fun l => z (ix2 r l)) w k) := by
  pointwise [act]
  rfl

theorem pay4_eq (h : S256x1024.Idx → EReal) (g : S1x1024.Idx → EReal) (w v : S1024x1024.Idx → EReal) :
    k0_pay4 (F := Ideal) h g w v = addf (F := Ideal) (φ := .f32) h (act (k0_pay2 (F := Ideal) h g w) v) := by
  unfold k0_pay4
  rw [shapeCast_self]
  rfl

theorem pay12_eq (u : S256x1024.Idx → EReal) (a z : S256x1024.Idx → EReal) (v1 w2 v2 w3 v3 : S1024x1024.Idx → EReal) :
    k0_pay12 (F := Ideal) u a z (k0_pay7 (F := Ideal)) v1 w2 v2 w3 v3
      = addf (F := Ideal) (φ := .f32) (addf (F := Ideal) (φ := .f32) (addf (F := Ideal) (φ := .f32) a (act z v1)) (act (k0_pay8 (F := Ideal) u w2) v2)) (act (k0_pay10 (F := Ideal) u w3) v3) := by
  unfold k0_pay12
  rw [shapeCast_self, shapeCast_self, shapeCast_self]
  rfl

/-! ## The chunks' places in the two weights and in the saved product -/

theorem ld_cols (X : S1024x4096.Idx → EReal) (o : ℕ) (inb) (l k : Fin 1024) (h : o + k.val < 4096) :
    @Eq EReal (View.ld (Val := Elt Ideal) (e' := .bf16) X (Rect.unit (s := S1024x4096) ![0, o] S1024x1024.size inb) (ix2 l k)) (X (ix2 l ⟨o + k.val, h⟩)) :=
  View.ld_unit_apply_of (Val := Elt Ideal) (e := .bf16) X _ _ _ _ _ fun a => match a with
    | ⟨0, _⟩ => (Nat.zero_add _).symm
    | ⟨1, _⟩ => rfl

theorem ld_rows (X : S4096x1024.Idx → EReal) (o : ℕ) (inb) (l k : Fin 1024) (h : o + l.val < 4096) :
    @Eq EReal (View.ld (Val := Elt Ideal) (e' := .bf16) X (Rect.unit (s := S4096x1024) ![o, 0] S1024x1024.size inb) (ix2 l k)) (X (ix2 ⟨o + l.val, h⟩ k)) :=
  View.ld_unit_apply_of (Val := Elt Ideal) (e := .bf16) X _ _ _ _ _ fun a => match a with
    | ⟨0, _⟩ => rfl
    | ⟨1, _⟩ => (Nat.zero_add _).symm

theorem hz : (![0, 0] : Fin 2 → Nat) = fun _ => 0 := funext fun a => by fin_cases a <;> rfl

/-- A hidden entry. -/
def hidden (u : Fin 1024 → EReal) (w : S1024x4096.Idx → EReal) (s : Fin 4096) : EReal := ∑ l : Fin 1024, u l * w (ix2 l s)

/-- What the hidden columns add to an entry of the output. -/
def added (u : Fin 1024 → EReal) (w : S1024x4096.Idx → EReal) (v : S4096x1024.Idx → EReal) (k : Fin 1024) : EReal :=
  ∑ s : Fin 4096, max (hidden u w s) 0 * max (hidden u w s) 0 * v (ix2 s k)

variable (h : S256x1024.Idx → EReal) (g : S1x1024.Idx → EReal) (w : S1024x4096.Idx → EReal) (v : S4096x1024.Idx → EReal)

theorem hid_ld (u : Fin 1024 → EReal) (o : ℕ) (inb) (k : Fin 1024) (ho : o + k.val < 4096) :
    hid u (View.ld (Val := Elt Ideal) (e' := .bf16) w (Rect.unit (s := S1024x4096) ![0, o] S1024x1024.size inb)) k = hidden u w ⟨o + k.val, ho⟩ :=
  Finset.sum_congr rfl fun l _ => congrArg (u l * ·) (ld_cols w o inb l k ho)

theorem chunk_ld (z : Fin 1024 → EReal) (u : Fin 1024 → EReal) (o : ℕ) (inb) (k : Fin 1024) (ho : ∀ l : Fin 1024, o + l.val < 4096)
    (hz : ∀ l, z l = hidden u w ⟨o + l.val, ho l⟩) :
    chunk z (View.ld (Val := Elt Ideal) (e' := .bf16) v (Rect.unit (s := S4096x1024) ![o, 0] S1024x1024.size inb)) k
      = ∑ l : Fin 1024, max (hidden u w ⟨o + l.val, ho l⟩) 0 * max (hidden u w ⟨o + l.val, ho l⟩) 0 * v (ix2 ⟨o + l.val, ho l⟩ k) := by
  unfold chunk
  refine Finset.sum_congr rfl fun l _ => ?_
  rw [ld_rows v o inb l k (ho l), hz l]

/-- A row of the output. -/
theorem out_apply (r : Fin 256) (k : Fin 1024) :
    @Eq EReal (out0_4 (F := Ideal) h g w v (ix2 r k)) (h (ix2 r k) + added (norm (fun l => h (ix2 r l)) (fun l => g (ix2 0 l))) w v k) := by
  unfold out0_4 k0_pay13
  rw [View.canon_unit_zero (S := S256x1024) hz, View.ld_unit_zero (S := S256x1024) hz, View.ld_unit_zero (S := S1x1024) hz, pay12_eq, pay4_eq]
  show h (ix2 r k) + act _ _ (ix2 r k) + act _ _ (ix2 r k) + act _ _ (ix2 r k) + act _ _ (ix2 r k) = _
  have hu : ∀ l : Fin 1024, k0_pay1 (F := Ideal) h g (ix2 r l) = norm (fun l => h (ix2 r l)) (fun l => g (ix2 0 l)) l := pay1_apply h g r
  rw [act_apply, act_apply, act_apply, act_apply]
  have b0 : ∀ k : Fin 1024, 0 + k.val < 4096 := fun k => by omega
  have b1 : ∀ k : Fin 1024, 1024 + k.val < 4096 := fun k => by omega
  have b2 : ∀ k : Fin 1024, 2048 + k.val < 4096 := fun k => by omega
  have b3 : ∀ k : Fin 1024, 3072 + k.val < 4096 := fun k => by omega
  rw [chunk_ld w v _ (norm (fun l => h (ix2 r l)) (fun l => g (ix2 0 l))) 0 _ k b0 fun l => (pay2_apply h g _ r l).trans (hid_ld w _ 0 _ l (b0 l)),
    chunk_ld w v _ (norm (fun l => h (ix2 r l)) (fun l => g (ix2 0 l))) 1024 _ k b1 fun l => (pay5_apply h g _ r l).trans (hid_ld w _ 1024 _ l (b1 l)),
    chunk_ld w v _ (norm (fun l => h (ix2 r l)) (fun l => g (ix2 0 l))) 2048 _ k b2 fun l =>
      (pay8_apply _ _ r l).trans ((congrArg (fun u => hid u _ l) (funext hu)).trans (hid_ld w _ 2048 _ l (b2 l))),
    chunk_ld w v _ (norm (fun l => h (ix2 r l)) (fun l => g (ix2 0 l))) 3072 _ k b3 fun l =>
      (pay10_apply _ _ r l).trans ((congrArg (fun u => hid u _ l) (funext hu)).trans (hid_ld w _ 3072 _ l (b3 l)))]
  unfold added
  rw [MlpSums.sum_chunks]
  simp only [add_assoc]

/-- A row of the saved product. -/
theorem saved_apply (r : Fin 256) (s : Fin 4096) :
    @Eq EReal (out0_5 (F := Ideal) h g w v (ix2 r s)) (hidden (norm (fun l => h (ix2 r l)) (fun l => g (ix2 0 l))) w s) := by
  have hu : ∀ l : Fin 1024, k0_pay1 (F := Ideal) h g (ix2 r l) = norm (fun l => h (ix2 r l)) (fun l => g (ix2 0 l)) l := pay1_apply h g r
  unfold out0_5 k0_pay13
  rw [View.ld_unit_zero (S := S256x1024) hz, View.ld_unit_zero (S := S1x1024) hz]
  refine View.canon_eq_of_allAt _ _ _ (cover0_5 _ _ _ _ _) ?_
  have step : ∀ (o : ℕ) (p : Vec Ideal S256x1024 .bf16)
      (hp : ∀ (k : Fin 1024) (ho : o + k.val < 4096), @Eq EReal (p (ix2 r k)) (hidden (norm (fun l => h (ix2 r l)) (fun l => g (ix2 0 l))) w ⟨o + k.val, ho⟩)),
      View.TileAt (Val := Elt Ideal) (S := S256x4096) (e := .bf16) (ix2 r s) ![0, o] S256x1024.size p (hidden (norm (fun l => h (ix2 r l)) (fun l => g (ix2 0 l))) w s) := by
    intro o p hp x hx
    have h0 : r.val = 0 + (x 0).val := hx 0
    have h1 : s.val = o + (x 1).val := hx 1
    have e : x = ix2 r (x 1) := by
      rw [eq_ix2 x]
      exact congrArg (fun z => ix2 z (x 1)) (Fin.ext (by rw [← Nat.zero_add (x 0).val]; exact h0.symm))
    rw [e]
    refine (hp (x 1) (h1 ▸ s.isLt)).trans (congrArg _ (Fin.ext h1.symm))
  refine View.allAt_cons_unit _ _ _ _ _ (step 3072 _ fun k ho =>
      (pay8_apply _ _ r k).trans ((congrArg (fun u => hid u _ k) (funext hu)).trans (hid_ld w _ 3072 _ k ho))) ?_
  refine View.allAt_cons_unit _ _ _ _ _ (step 2048 _ fun k ho =>
      (pay8_apply _ _ r k).trans ((congrArg (fun u => hid u _ k) (funext hu)).trans (hid_ld w _ 2048 _ k ho))) ?_
  refine View.allAt_cons_unit _ _ _ _ _ (step 1024 _ fun k ho =>
      (pay2_apply h g _ r k).trans (hid_ld w _ 1024 _ k ho)) ?_
  exact View.allAt_cons_unit _ _ _ _ _ (step 0 _ fun k ho =>
      (pay2_apply h g _ r k).trans (hid_ld w _ 0 _ k ho)) (View.allAt_nil _ _)

end Cert.MlpFwdIdeal.Block

end
-- ==== Proof.MlpFwdArray.lean ====
/-
  What the two result arrays of the squared-ReLU layer's forward call hold: point `t` works on rows `256 t` and on.
-/
module

public import proofs.«01_k».proof.Proof.MlpFwdBlock
public import Idealize.ShloMosaic.Lib.StableHlo.ReadAt
public import Idealize.ShloMosaic.Lib.Claim

@[expose] public section

set_option maxRecDepth 16384

noncomputable section

namespace Cert.MlpFwdIdeal.Block

open Cert.MlpFwdIdeal Cert.MlpFwdIdeal.Gen Idealize.ShloMosaic Idealize.ShloMosaic.TcCoe Idealize.SL.Sem

theorem place : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] := by
  decide +kernel

theorem rowlt (t : Fin cfg0.N) (r : Fin 256) : 256 * t.val + r.val < 8192 := by
  have := lt_of_lt_of_eq t.isLt (show cfg0.N = 32 from N_0)
  omega

/-- The arguments. -/
structure Args (m : (ℓ : Loc nD τ sig) → Buf (Elt Ideal) ℓ) (c : Dev nD) (H : S8192x1024.Idx → EReal) (G : S1024.Idx → EReal)
    (W : S1024x4096.Idx → EReal) (U : S4096x1024.Idx → EReal) : Prop where
  h : m ((c : Thread nD τ).loc main_arg0) = H
  g : m ((c : Thread nD τ).loc main_arg1) = G
  w : m ((c : Thread nD τ).loc main_arg2) = W
  u : m ((c : Thread nD τ).loc main_arg3) = U

variable {m : (ℓ : Loc nD τ sig) → Buf (Elt Ideal) ℓ} {c : Dev nD} {H : S8192x1024.Idx → EReal} {G : S1024.Idx → EReal}
  {W : S1024x4096.Idx → EReal} {U : S4096x1024.Idx → EReal} (I : Args m c H G W U)

include I

theorem V_g (k : Fin 1024) : @Eq EReal (V m c main_v0 (ix2 0 k)) (G (ix1 k)) := by
  unfold V
  simp only [List.flatten_cons, List.flatten_nil, List.append_nil, hostOps0, List.cons_append, List.nil_append]
  after_reads_at
  exact congrFun I.g _

theorem V_w (i : Fin 1024) (k : Fin 4096) : @Eq EReal (V m c main_v1 (ix2 i k)) (W (ix2 i k)) := by
  unfold V
  simp only [List.flatten_cons, List.flatten_nil, List.append_nil, hostOps0, List.cons_append, List.nil_append]
  after_reads_at
  exact congrFun I.w _

theorem V_u (i : Fin 4096) (k : Fin 1024) : @Eq EReal (V m c main_v2 (ix2 i k)) (U (ix2 i k)) := by
  unfold V
  simp only [List.flatten_cons, List.flatten_nil, List.append_nil, hostOps0, List.cons_append, List.nil_append]
  after_reads_at
  exact congrFun I.u _

theorem blk_h (t : Fin cfg0.N) : @Eq (S256x1024.Idx → EReal) (iblk m c 0 t) fun y => H (ix2 ⟨256 * t.val + (y 0).val, rowlt t (y 0)⟩ (y 1)) := by
  funext y
  unfold iblk
  rw [View.read_apply]
  show V m c main_arg0 _ = _
  rw [V_main_arg0]
  refine (congrFun I.h _).trans (congrArg H ?_)
  funext a
  apply Fin.ext
  match a with
  | ⟨0, _⟩ => show win0_0.index t 0 * 256 + 1 * (y 0).val = _; rw [(place t).1]; show t.val * 256 + 1 * (y 0).val = 256 * t.val + (y 0).val; omega
  | ⟨1, _⟩ => show win0_0.index t 1 * 1024 + 1 * (y 1).val = _; rw [(place t).1]; show 0 * 1024 + 1 * (y 1).val = (y 1).val; omega

theorem blk_g (t : Fin cfg0.N) : @Eq (S1x1024.Idx → EReal) (iblk m c 1 t) fun y => G (ix1 (y 1)) := by
  funext y
  unfold iblk
  rw [View.read_apply]
  have e : ((cfg0.win 1).blk t).view.emb y = ix2 0 (y 1) := by
    funext a
    apply Fin.ext
    match a with
    | ⟨0, _⟩ => show win0_1.index t 0 * 1 + 1 * (y 0).val = _; rw [(place t).2.1]; show 0 * 1 + 1 * (y 0).val = 0; have : (y 0).val < 1 := (y 0).isLt; omega
    | ⟨1, _⟩ => show win0_1.index t 1 * 1024 + 1 * (y 1).val = _; rw [(place t).2.1]; show 0 * 1024 + 1 * (y 1).val = (y 1).val; omega
  show V m c main_v0 (((cfg0.win 1).blk t).view.emb y) = _
  rw [e]
  exact V_g I _

theorem blk_w (t : Fin cfg0.N) : @Eq (S1024x4096.Idx → EReal) (iblk m c 2 t) W := by
  refine funext fun (y : S1024x4096.Idx) => ?_
  unfold iblk
  rw [View.read_apply]
  have e : ((cfg0.win 2).blk t).view.emb y = ix2 (y 0) (y 1) := by
    funext a
    apply Fin.ext
    match a with
    | ⟨0, _⟩ => show win0_2.index t 0 * 1024 + 1 * (y 0).val = _; rw [(place t).2.2.1]; show 0 * 1024 + 1 * (y 0).val = (y 0).val; omega
    | ⟨1, _⟩ => show win0_2.index t 1 * 4096 + 1 * (y 1).val = _; rw [(place t).2.2.1]; show 0 * 4096 + 1 * (y 1).val = (y 1).val; omega
  show V m c main_v1 (((cfg0.win 2).blk t).view.emb y) = _
  rw [e]
  exact (V_w I _ _).trans (congrArg W (eq_ix2 y).symm)

theorem blk_u (t : Fin cfg0.N) : @Eq (S4096x1024.Idx → EReal) (iblk m c 3 t) U := by
  refine funext fun (y : S4096x1024.Idx) => ?_
  unfold iblk
  rw [View.read_apply]
  have e : ((cfg0.win 3).blk t).view.emb y = ix2 (y 0) (y 1) := by
    funext a
    apply Fin.ext
    match a with
    | ⟨0, _⟩ => show win0_3.index t 0 * 4096 + 1 * (y 0).val = _; rw [(place t).2.2.2.1]; show 0 * 4096 + 1 * (y 0).val = (y 0).val; omega
    | ⟨1, _⟩ => show win0_3.index t 1 * 1024 + 1 * (y 1).val = _; rw [(place t).2.2.2.1]; show 0 * 1024 + 1 * (y 1).val = (y 1).val; omega
  show V m c main_v2 (((cfg0.win 3).blk t).view.emb y) = _
  rw [e]
  exact (V_u I _ _).trans (congrArg U (eq_ix2 y).symm)

omit I in
theorem point_lt (i : Fin 8192) : i.val / 256 < cfg0.N := lt_of_lt_of_eq (show i.val / 256 < 32 by omega) N_0.symm

omit I in
theorem row_back (i : Fin 8192) (h : 256 * (i.val / 256) + i.val % 256 < 8192) : (⟨256 * (i.val / 256) + i.val % 256, h⟩ : Fin 8192) = i :=
  Fin.ext (by show 256 * (i.val / 256) + i.val % 256 = i.val; omega)

/-- The layer's output. -/
theorem out_eq (i : Fin 8192) (k : Fin 1024) : @Eq EReal ((dats m 0 c).arrAt 4 cfg0.N (ix2 i k))
    (H (ix2 i k) + added (norm (fun l => H (ix2 i l)) (fun l => G (ix1 l))) W U k) := by
  have b := congrFun ((Value.blocks4 m c ⟨_, point_lt i⟩ (flush0_4 ⟨_, point_lt i⟩)).trans (Value.flushed4 m c ⟨_, point_lt i⟩)) (ix2 (⟨i.val % 256, by omega⟩ : Fin 256) k)
  rw [View.read_apply] at b
  have e : ((cfg0.win 4).blk ⟨_, point_lt i⟩).view.emb (ix2 (⟨i.val % 256, by omega⟩ : Fin 256) k) = ix2 i k := by
    funext a
    apply Fin.ext
    match a with
    | ⟨0, _⟩ => show win0_4.index ⟨_, point_lt i⟩ 0 * 256 + 1 * (i.val % 256) = _; rw [(place ⟨_, point_lt i⟩).2.2.2.2.1]; show i.val / 256 * 256 + 1 * (i.val % 256) = i.val; omega
    | ⟨1, _⟩ => show win0_4.index ⟨_, point_lt i⟩ 1 * 1024 + 1 * k.val = _; rw [(place ⟨_, point_lt i⟩).2.2.2.2.1]; show 0 * 1024 + 1 * k.val = k.val; omega
  refine (congrArg ((dats m 0 c).arrAt 4 cfg0.N) e.symm).trans (b.trans ?_)
  show out0_4 _ _ _ _ (ix2 (⟨i.val % 256, by omega⟩ : Fin 256) k) = _
  rw [blk_h I, blk_g I, blk_w I, blk_u I]
  refine (out_apply _ _ _ _ _ k).trans ?_
  show H (ix2 (⟨256 * (i.val / 256) + i.val % 256, by omega⟩ : Fin 8192) k)
    + added (norm (fun l => H (ix2 (⟨256 * (i.val / 256) + i.val % 256, by omega⟩ : Fin 8192) l)) (fun l => G (ix1 l))) W U k = _
  rw [row_back i]

/-- The saved product. -/
theorem saved_eq (i : Fin 8192) (s : Fin 4096) : @Eq EReal ((dats m 0 c).arrAt 5 cfg0.N (ix2 i s))
    (hidden (norm (fun l => H (ix2 i l)) (fun l => G (ix1 l))) W s) := by
  have b := congrFun ((Value.blocks5 m c ⟨_, point_lt i⟩ (flush0_5 ⟨_, point_lt i⟩)).trans (Value.flushed5 m c ⟨_, point_lt i⟩)) (ix2 (⟨i.val % 256, by omega⟩ : Fin 256) s)
  rw [View.read_apply] at b
  have e : ((cfg0.win 5).blk ⟨_, point_lt i⟩).view.emb (ix2 (⟨i.val % 256, by omega⟩ : Fin 256) s) = ix2 i s := by
    funext a
    apply Fin.ext
    match a with
    | ⟨0, _⟩ => show win0_5.index ⟨_, point_lt i⟩ 0 * 256 + 1 * (i.val % 256) = _; rw [(place ⟨_, point_lt i⟩).2.2.2.2.2]; show i.val / 256 * 256 + 1 * (i.val % 256) = i.val; omega
    | ⟨1, _⟩ => show win0_5.index ⟨_, point_lt i⟩ 1 * 4096 + 1 * s.val = _; rw [(place ⟨_, point_lt i⟩).2.2.2.2.2]; show 0 * 4096 + 1 * s.val = s.val; omega
  refine (congrArg ((dats m 0 c).arrAt 5 cfg0.N) e.symm).trans (b.trans ?_)
  show out0_5 _ _ _ _ (ix2 (⟨i.val % 256, by omega⟩ : Fin 256) s) = _
  rw [blk_h I, blk_g I, blk_w I, blk_u I]
  refine (saved_apply _ _ _ _ _ s).trans ?_
  show hidden (norm (fun l => H (ix2 (⟨256 * (i.val / 256) + i.val % 256, by omega⟩ : Fin 8192) l)) (fun l => G (ix1 l))) W s = _
  rw [row_back i]

end Cert.MlpFwdIdeal.Block

end
-- ==== Proof.MlpFwdRef.lean ====
/-
  The squared-ReLU layer's forward lines, read at an entry.
-/
module

public import proofs.«01_k».proof.Proof.Gen.MlpFwdRefIdeal.Read
public import proofs.«01_k».proof.Proof.MlpFwdBlock
public import Idealize.ShloMosaic.Lib.Pointwise

@[expose] public section

set_option maxRecDepth 16384

noncomputable section

namespace Cert.MlpFwdRefIdeal.Stages

open Cert.MlpFwdRefIdeal Cert.MlpFwdRefIdeal.Read Idealize.ShloMosaic Idealize.SL.Sem
open Cert.MlpFwdIdeal.Block (norm hidden added)

variable (H : S8192x1024.Idx → EReal) (G : S1024.Idx → EReal) (W : S1024x4096.Idx → EReal) (U : S4096x1024.Idx → EReal)

theorem norm_apply (i : Fin 8192) (k : Fin 1024) :
    @Eq EReal (val_main_v12 (F := Ideal) H G (ix2 i k)) (norm (fun l => H (ix2 i l)) (fun l => G (ix1 l)) k) := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem hidden_apply (i : Fin 8192) (s : Fin 4096) :
    @Eq EReal (val_main_v13 (F := Ideal) H G W (ix2 i s)) (hidden (norm (fun l => H (ix2 i l)) (fun l => G (ix1 l))) W s) := by
  pointwise [val_main_v13]
  simp only [norm_apply]
  rfl

theorem saved_apply (i : Fin 8192) (s : Fin 4096) :
    @Eq EReal (val_main_v18 (F := Ideal) H G W (ix2 i s)) (hidden (norm (fun l => H (ix2 i l)) (fun l => G (ix1 l))) W s) :=
  hidden_apply H G W i s

theorem relu_apply (i : Fin 8192) (s : Fin 4096) :
    @Eq EReal (val_main_v14 (F := Ideal) H G W (ix2 i s)) (max (hidden (norm (fun l => H (ix2 i l)) (fun l => G (ix1 l))) W s) 0) := by
  rw [← hidden_apply]
  show max (val_main_v13 (F := Ideal) H G W (ix2 i s)) (Ideal.ofBits .f32 0x00000000#32) = _
  rw [show Ideal.ofBits .f32 0x00000000#32 = 0 by simp [Ideal.ofBits, Ideal.ieee]]

theorem out_apply (i : Fin 8192) (k : Fin 1024) :
    @Eq EReal (val_main_v17 (F := Ideal) H G W U (ix2 i k)) (H (ix2 i k) + added (norm (fun l => H (ix2 i l)) (fun l => G (ix1 l))) W U k) := by
  pointwise [val_main_v17, val_main_v16, val_main_v15]
  simp only [relu_apply]
  rfl

end Cert.MlpFwdRefIdeal.Stages

end
-- ==== Proof.MlpFwdClaim.lean ====
/-
  The squared-ReLU layer's forward call: the kernel and the forward lines end with equal results, whatever the arguments.
-/
module

public import proofs.«01_k».proof.Defs
public import proofs.«01_k».proof.Proof.MlpFwdArray
public import proofs.«01_k».proof.Proof.MlpFwdRef
public import proofs.«01_k».proof.Proof.Gen.MlpFwdRefIdeal.Run
public import Idealize.ShloMosaic.Lib.Quiescent

@[expose] public section

set_option maxRecDepth 16384

noncomputable section

namespace Cert.MlpFwdClaim

open Idealize.ShloMosaic Idealize.ShloMosaic.TcCoe Idealize.SL.Sem

theorem frame_ref : Cert.quiescent_MlpFwdRefIdeal := fun m ρ _ =>
  (θ_run Cert.MlpFwdRefIdeal.defs _ _).mono (fun r h => ⟨fun c => (h c).2.2, sem_eq_zero_of_no_sems (by decide) r.2⟩)
    (Cert.MlpFwdRefIdeal.Value.run m ρ)

theorem algebraic : Cert.algebraic_MlpFwdIdeal_MlpFwdRefIdeal := fun m ρ m' ρ' _ hag =>
  ⟨_, _, Cert.MlpFwdIdeal.Value.run_blocks m ρ,
    (θ_run _ _ _).mono (fun _ h c => by
      obtain ⟨a0, a1, a2, a3⟩ := hag c
      have I : Cert.MlpFwdIdeal.Block.Args m c _ _ _ _ := ⟨rfl, rfl, rfl, rfl⟩
      refine ⟨(h c).1.trans ?_, (h c).2.1.trans ?_, (h c).2.2⟩
      · rw [Cert.MlpFwdRefIdeal.Read.val_main_v17_eq, a0, a1, a2, a3]
        refine funext fun (i : Cert.MlpFwdIdeal.S8192x1024.Idx) => ?_
        rw [eq_ix2 i]
        exact (Cert.MlpFwdRefIdeal.Stages.out_apply _ _ _ _ _ _).trans (Cert.MlpFwdIdeal.Block.out_eq I _ _).symm
      · rw [Cert.MlpFwdRefIdeal.Read.val_main_v18_eq, a0, a1, a2]
        refine funext fun (i : Cert.MlpFwdIdeal.S8192x4096.Idx) => ?_
        rw [eq_ix2 i]
        exact (Cert.MlpFwdRefIdeal.Stages.saved_apply _ _ _ _ _).trans (Cert.MlpFwdIdeal.Block.saved_eq I _ _).symm)
    (Cert.MlpFwdRefIdeal.Value.run m' ρ')⟩

end Cert.MlpFwdClaim

end
-- ==== Proof.MlpBwdBlock.lean ====
/-
  What one grid point of the squared-ReLU layer's gradient computes, of finite inputs: 256 rows of each result, the 4096 hidden
  columns taken in four chunks of 1024.
-/
module

public import proofs.«01_k».proof.Proof.Reals
public import proofs.«01_k».proof.Proof.MlpSums
public import proofs.«01_k».proof.Proof.Gen.MlpBwdIdeal.Value
public import Idealize.ShloMosaic.Lib.Pipeline.ReadBack
public import Idealize.ShloMosaic.Lib.Pipeline.ValueKit.Tiles

@[expose] public section

set_option maxRecDepth 16384

noncomputable section

namespace Cert.MlpBwdIdeal.Block

open Cert.MlpBwdIdeal Cert.MlpBwdIdeal.Gen Cert.Reals Idealize.ShloMosaic Idealize.SL.Sem

/-! ## The payloads of a chunk -/

theorem zero_word : Ideal.ofBits .f32 0x00000000#32 = 0 := by simp [Ideal.ofBits, Ideal.ieee]

theorem two_word : Ideal.ofBits .f32 0x40000000#32 = ((2 : ℝ) : EReal) := by
  simp [Ideal.ofBits, Ideal.ieee]; rw [← EReal.coe_mul]; norm_num

theorem coe_max (x : ℝ) : max (x : EReal) 0 = ((max x 0 : ℝ) : EReal) := (EReal.coe_strictMono.monotone.map_max (a := x) (b := 0)).symm

theorem relu_apply (x : S256x1024.Idx → EReal) (i : S256x1024.Idx) : @Eq EReal (k0_pay12 (F := Ideal) x i) (max (x i) 0) := by
  unfold k0_pay12
  rw [shapeCast_self]
  show max (x i) (Ideal.ofBits .f32 0x00000000#32) = _
  rw [zero_word]

theorem slopes_apply (d : S256x1024.Idx → EReal) (q : S256x1024.Idx → EReal) (w : S1024x1024.Idx → EReal) (r : Fin 256) (k : Fin 1024) :
    @Eq EReal (k0_pay22 (F := Ideal) d q w (ix2 r k)) ((∑ l : Fin 1024, d (ix2 r l) * w (ix2 k l)) * (Ideal.ofBits .f32 0x40000000#32 * q (ix2 r k))) := by
  pointwise [k0_pay22]

/-- A chunk times the first weight, transposed. -/
def turned (p : FVec Ideal S256x1024 .bf16) (w : FVec Ideal S1024x1024 .bf16) : FVec Ideal S256x1024 .f32 :=
  matmul dot_S256x1024_S1024x1024_S256x1024_1_1_0_0_n_n none p w (constant S256x1024 .f32 0x00000000#32)

theorem turned_apply (p : S256x1024.Idx → EReal) (w : S1024x1024.Idx → EReal) (r : Fin 256) (k : Fin 1024) :
    @Eq EReal (turned p w (ix2 r k)) (∑ s : Fin 1024, p (ix2 r s) * w (ix2 k s)) := by
  pointwise [turned]

theorem pay19_eq (d v22 v27 v33 v43 : S256x1024.Idx → EReal) (v39 v51 v59 : S1024x1024.Idx → EReal) :
    k0_pay19 (F := Ideal) d v22 v27 v33 v39 v43 v51 v59
      = addf (F := Ideal) (φ := .f32) (addf (F := Ideal) (φ := .f32) v22 (turned (k0_pay15 (F := Ideal) v27 v33) v39)) (turned (k0_pay18 (F := Ideal) d v43 v51) v59) := by
  unfold k0_pay19
  rw [shapeCast_self, shapeCast_self]
  rfl

theorem pay23_eq (d a q : S256x1024.Idx → EReal) (w v : S1024x1024.Idx → EReal) :
    k0_pay23 (F := Ideal) d a q w v = addf (F := Ideal) (φ := .f32) a (turned (k0_pay22 (F := Ideal) d q w) v) := by
  unfold k0_pay23
  rw [shapeCast_self]
  rfl

theorem pay15_eq (d x : S256x1024.Idx → EReal) (w : S1024x1024.Idx → EReal) :
    k0_pay15 (F := Ideal) (k0_pay12 (F := Ideal) x) (k0_pay14 (F := Ideal) d w) = k0_pay22 (F := Ideal) (k0_pay10 (F := Ideal) d) (k0_pay12 (F := Ideal) x) w := by
  unfold k0_pay15 k0_pay14 k0_pay22
  rfl

theorem pay18_eq (d x : S256x1024.Idx → EReal) (w : S1024x1024.Idx → EReal) :
    k0_pay18 (F := Ideal) d x w = k0_pay22 (F := Ideal) d (k0_pay12 (F := Ideal) x) w := by
  unfold k0_pay18 k0_pay22 k0_pay16 k0_pay12
  rfl

theorem pay11_apply (i : S256x1024.Idx) : @Eq EReal (k0_pay11 (F := Ideal) i) 0 := by
  unfold k0_pay11
  exact zero_word

theorem pay1_eq (a p : S256x1024.Idx → EReal) (v : S1024x1024.Idx → EReal) :
    k0_pay1 (F := Ideal) a p v = addf (F := Ideal) (φ := .f32) a (turned p v) := by
  unfold k0_pay1
  rw [shapeCast_self]
  rfl

/-- The four chunks' parts of the gradient in the normalised row. -/
theorem parts_eq (d z0 z1 z2 p : S256x1024.Idx → EReal) (u0 u1 u2 w0 w1 w2 w3 : S1024x1024.Idx → EReal) (i : S256x1024.Idx) :
    @Eq EReal (k0_pay1 (F := Ideal) (k0_pay23 (F := Ideal) (k0_pay10 (F := Ideal) d)
        (k0_pay19 (F := Ideal) (k0_pay10 (F := Ideal) d) (k0_pay11 (F := Ideal)) (k0_pay12 (F := Ideal) z0) (k0_pay14 (F := Ideal) d u0) w0 z1 u1 w1)
        (k0_pay12 (F := Ideal) z2) u2 w2) p w3 i)
      (turned (k0_pay22 (F := Ideal) (k0_pay10 (F := Ideal) d) (k0_pay12 (F := Ideal) z0) u0) w0 i
        + turned (k0_pay22 (F := Ideal) (k0_pay10 (F := Ideal) d) (k0_pay12 (F := Ideal) z1) u1) w1 i
        + turned (k0_pay22 (F := Ideal) (k0_pay10 (F := Ideal) d) (k0_pay12 (F := Ideal) z2) u2) w2 i
        + turned p w3 i) := by
  rw [pay1_eq, pay23_eq, pay19_eq, pay15_eq, pay18_eq]
  show k0_pay11 (F := Ideal) i + turned _ _ i + turned _ _ i + turned _ _ i + turned _ _ i = _
  rw [pay11_apply, zero_add]

/-! ## The chunks' places -/

theorem ld_wide (X : S256x4096.Idx → EReal) (o : ℕ) (inb) (r : Fin 256) (k : Fin 1024) (h : o + k.val < 4096) :
    @Eq EReal (View.ld (Val := Elt Ideal) (e' := .bf16) X (Rect.unit (s := S256x4096) ![0, o] S256x1024.size inb) (ix2 r k)) (X (ix2 r ⟨o + k.val, h⟩)) :=
  View.ld_unit_apply_of (Val := Elt Ideal) (e := .bf16) X _ _ _ _ _ fun a => match a with
    | ⟨0, _⟩ => (Nat.zero_add _).symm
    | ⟨1, _⟩ => rfl

theorem ld_cols (X : S1024x4096.Idx → EReal) (o : ℕ) (inb) (l k : Fin 1024) (h : o + k.val < 4096) :
    @Eq EReal (View.ld (Val := Elt Ideal) (e' := .bf16) X (Rect.unit (s := S1024x4096) ![0, o] S1024x1024.size inb) (ix2 l k)) (X (ix2 l ⟨o + k.val, h⟩)) :=
  View.ld_unit_apply_of (Val := Elt Ideal) (e := .bf16) X _ _ _ _ _ fun a => match a with
    | ⟨0, _⟩ => (Nat.zero_add _).symm
    | ⟨1, _⟩ => rfl

theorem ld_rows (X : S4096x1024.Idx → EReal) (o : ℕ) (inb) (l k : Fin 1024) (h : o + l.val < 4096) :
    @Eq EReal (View.ld (Val := Elt Ideal) (e' := .bf16) X (Rect.unit (s := S4096x1024) ![o, 0] S1024x1024.size inb) (ix2 l k)) (X (ix2 ⟨o + l.val, h⟩ k)) :=
  View.ld_unit_apply_of (Val := Elt Ideal) (e := .bf16) X _ _ _ _ _ fun a => match a with
    | ⟨0, _⟩ => rfl
    | ⟨1, _⟩ => (Nat.zero_add _).symm

theorem hz : (![0, 0] : Fin 2 → Nat) = fun _ => 0 := funext fun a => by fin_cases a <;> rfl

/-! ## What a point leaves, of its blocks -/

section Point

variable {F : FTy → Type} [FloatOps F]
variable (d h : Vec F S256x1024 .f32) (z : Vec F S256x4096 .bf16) (g : Vec F S1x1024 .f32) (w : Vec F S1024x4096 .bf16) (u : Vec F S4096x1024 .bf16)

/-- The gradient in the hidden product, a chunk of it. -/
def dz0 : FVec F S256x1024 .bf16 := k0_pay22 (k0_pay10 d)
  (k0_pay12 (View.ld z (Rect.unit ![0, 0] ![256, 1024] inb_S256x4096_S256x1024_0_0))) (View.ld u (Rect.unit ![0, 0] ![1024, 1024] inb_S4096x1024_S1024x1024_0_0))
def dz1 : FVec F S256x1024 .bf16 := k0_pay22 (k0_pay10 d)
  (k0_pay12 (View.ld z (Rect.unit ![0, 1024] ![256, 1024] inb_S256x4096_S256x1024_0_1024))) (View.ld u (Rect.unit ![1024, 0] ![1024, 1024] inb_S4096x1024_S1024x1024_1024_0))
def dz2 : FVec F S256x1024 .bf16 := k0_pay22 (k0_pay10 d)
  (k0_pay12 (View.ld z (Rect.unit ![0, 2048] ![256, 1024] inb_S256x4096_S256x1024_0_2048))) (View.ld u (Rect.unit ![2048, 0] ![1024, 1024] inb_S4096x1024_S1024x1024_2048_0))
def dz3 : FVec F S256x1024 .bf16 := k0_pay22 (k0_pay10 d)
  (k0_pay12 (View.ld z (Rect.unit ![0, 3072] ![256, 1024] inb_S256x4096_S256x1024_0_3072))) (View.ld u (Rect.unit ![3072, 0] ![1024, 1024] inb_S4096x1024_S1024x1024_3072_0))

/-- The first three chunks' part of the gradient in the normalised row. -/
def front : FVec F S256x1024 .f32 :=
  k0_pay23 (k0_pay10 d)
    (k0_pay19 (k0_pay10 d) k0_pay11
      (k0_pay12 (View.ld z (Rect.unit ![0, 0] ![256, 1024] inb_S256x4096_S256x1024_0_0)))
      (k0_pay14 d (View.ld u (Rect.unit ![0, 0] ![1024, 1024] inb_S4096x1024_S1024x1024_0_0)))
      (View.ld w (Rect.unit ![0, 0] ![1024, 1024] inb_S1024x4096_S1024x1024_0_0))
      (View.ld z (Rect.unit ![0, 1024] ![256, 1024] inb_S256x4096_S256x1024_0_1024))
      (View.ld u (Rect.unit ![1024, 0] ![1024, 1024] inb_S4096x1024_S1024x1024_1024_0))
      (View.ld w (Rect.unit ![0, 1024] ![1024, 1024] inb_S1024x4096_S1024x1024_0_1024)))
    (k0_pay12 (View.ld z (Rect.unit ![0, 2048] ![256, 1024] inb_S256x4096_S256x1024_0_2048)))
    (View.ld u (Rect.unit ![2048, 0] ![1024, 1024] inb_S4096x1024_S1024x1024_2048_0))
    (View.ld w (Rect.unit ![0, 2048] ![1024, 1024] inb_S1024x4096_S1024x1024_0_2048))

/-- The last columns of the first weight. -/
def lastCols : Vec F S1024x1024 .bf16 := View.ld w (Rect.unit ![0, 3072] ![1024, 1024] inb_S1024x4096_S1024x1024_0_3072)

/-- The rows of the gradient that goes on. -/
def rowOf : Vec F S256x1024 .f32 := k0_pay2 (k0_pay6 g) d (k0_pay7 h) (k0_pay8 h) (front d z w u) (dz3 d z u) (lastCols w)

/-- The partial sums of the gain's gradient. -/
def gainOf (a : Vec F S8x1024 .f32) : Vec F S8x1024 .f32 := k0_pay3 (k0_pay8 h) (front d z w u) (dz3 d z u) (lastCols w) a

/-- The rows of the activation. -/
def actOf : Vec F S256x4096 .bf16 := View.canon
  [⟨Rect.unit ![0, 3072] ![256, 1024] inb_S256x4096_S256x1024_0_3072, k0_pay13 (View.ld z (Rect.unit ![0, 3072] ![256, 1024] inb_S256x4096_S256x1024_0_3072))⟩,
    ⟨Rect.unit ![0, 2048] ![256, 1024] inb_S256x4096_S256x1024_0_2048, k0_pay13 (View.ld z (Rect.unit ![0, 2048] ![256, 1024] inb_S256x4096_S256x1024_0_2048))⟩,
    ⟨Rect.unit ![0, 1024] ![256, 1024] inb_S256x4096_S256x1024_0_1024, k0_pay13 (View.ld z (Rect.unit ![0, 1024] ![256, 1024] inb_S256x4096_S256x1024_0_1024))⟩,
    ⟨Rect.unit ![0, 0] ![256, 1024] inb_S256x4096_S256x1024_0_0, k0_pay13 (View.ld z (Rect.unit ![0, 0] ![256, 1024] inb_S256x4096_S256x1024_0_0))⟩]

/-- The rows of the gradient in the hidden product. -/
def dzOf : Vec F S256x4096 .bf16 := View.canon
  [⟨Rect.unit ![0, 3072] ![256, 1024] inb_S256x4096_S256x1024_0_3072, dz3 d z u⟩, ⟨Rect.unit ![0, 2048] ![256, 1024] inb_S256x4096_S256x1024_0_2048, dz2 d z u⟩,
    ⟨Rect.unit ![0, 1024] ![256, 1024] inb_S256x4096_S256x1024_0_1024, dz1 d z u⟩, ⟨Rect.unit ![0, 0] ![256, 1024] inb_S256x4096_S256x1024_0_0, dz0 d z u⟩]

end Point

/-! ## The same of finite inputs -/

/-- A row, normalised and times the gain. -/
def normed (h g : Fin 1024 → ℝ) (k : Fin 1024) : ℝ := h k * rowScale h * g k

/-- The gradient in a hidden entry. -/
def slopeAt (d : Fin 1024 → ℝ) (z : ℝ) (U : S4096x1024.Idx → ℝ) (s : Fin 4096) : ℝ := (∑ l, d l * U (ix2 s l)) * (2 * max z 0)

/-- The gradient in the normalised row. -/
def backAt (d : Fin 1024 → ℝ) (z : Fin 4096 → ℝ) (W : S1024x4096.Idx → ℝ) (U : S4096x1024.Idx → ℝ) (k : Fin 1024) : ℝ :=
  ∑ s, slopeAt d (z s) U s * W (ix2 k s)

section Real

variable (D H : S256x1024.Idx → ℝ) (Z : S256x4096.Idx → ℝ) (G : S1x1024.Idx → ℝ) (W : S1024x4096.Idx → ℝ) (U : S4096x1024.Idx → ℝ) (r : Fin 256) (k : Fin 1024)

theorem pay7_apply : k0_pay7 (F := Ideal) (fun y => (H y : EReal)) (ix2 r 0) = ((rowScale (fun l => H (ix2 r l)) : ℝ) : EReal) := by
  pointwise [k0_pay7]
  simp only [← EReal.coe_mul, ← coe_sum, ofBits_1024, ofBits_eps, div_coe _ (by norm_num : (1024 : ℝ) ≠ 0), ← EReal.coe_add]
  exact rsqrt_coe (meanSq_pos fun l => H (ix2 r l))

theorem pay8_apply : k0_pay8 (F := Ideal) (fun y => (H y : EReal)) (ix2 r k) = ((H (ix2 r k) * rowScale (fun l => H (ix2 r l)) : ℝ) : EReal) := by
  pointwise [k0_pay8]
  rw [pay7_apply, EReal.coe_mul]

theorem pay6_apply : k0_pay6 (F := Ideal) (fun y => (G y : EReal)) (ix2 0 k) = (G (ix2 0 k) : EReal) := by
  pointwise [k0_pay6]

/-- The normalised rows. -/
theorem normed_apply : @Eq EReal (k0_pay9 (F := Ideal) (fun y => (G y : EReal)) (fun y => (H y : EReal)) (ix2 r k))
    ((normed (fun l => H (ix2 r l)) (fun l => G (ix2 0 l)) k : ℝ) : EReal) := by
  pointwise [k0_pay9]
  rw [pay8_apply, pay6_apply, ← EReal.coe_mul]
  rfl

/-- A chunk of the gradient in the hidden product. -/
theorem chunk_apply (o : ℕ) (i1 i2) (ho : o + k.val < 4096) :
    @Eq EReal (k0_pay22 (F := Ideal) (k0_pay10 (F := Ideal) fun y => (D y : EReal))
      (k0_pay12 (F := Ideal) (View.ld (Val := Elt Ideal) (e' := .bf16) (fun y => (Z y : EReal)) (Rect.unit (s := S256x4096) ![0, o] S256x1024.size i1)))
      (View.ld (Val := Elt Ideal) (e' := .bf16) (fun y => (U y : EReal)) (Rect.unit (s := S4096x1024) ![o, 0] S1024x1024.size i2)) (ix2 r k))
      ((slopeAt (fun l => D (ix2 r l)) (Z (ix2 r ⟨o + k.val, ho⟩)) U ⟨o + k.val, ho⟩ : ℝ) : EReal) := by
  refine (slopes_apply _ _ _ r k).trans ?_
  have e : ∀ l : Fin 1024, @Eq EReal (k0_pay10 (F := Ideal) (fun y => (D y : EReal)) (ix2 r l)
      * View.ld (Val := Elt Ideal) (e' := .bf16) (fun y => (U y : EReal)) (Rect.unit (s := S4096x1024) ![o, 0] S1024x1024.size i2) (ix2 k l))
      ((D (ix2 r l) * U (ix2 ⟨o + k.val, ho⟩ l) : ℝ) : EReal) := fun l =>
    (congrArg ((D (ix2 r l) : EReal) * ·) (ld_rows _ o i2 k l ho)).trans (EReal.coe_mul _ _).symm
  have f := (relu_apply (View.ld (Val := Elt Ideal) (e' := .bf16) (fun y => (Z y : EReal)) (Rect.unit (s := S256x4096) ![0, o] S256x1024.size i1)) (ix2 r k)).trans
    ((congrArg (fun x : EReal => max x 0) (ld_wide _ o i1 r k ho)).trans (coe_max _))
  refine (congrArg₂ (fun a b : EReal => a * (Ideal.ofBits .f32 0x40000000#32 * b)) (Finset.sum_congr rfl fun l _ => e l) f).trans ?_
  rw [two_word, ← coe_sum, ← EReal.coe_mul, ← EReal.coe_mul]
  rfl

/-- A chunk's part of the gradient in the normalised row. -/
theorem turned_ld (o : ℕ) (i1) (ho : ∀ l : Fin 1024, o + l.val < 4096) (p : S256x1024.Idx → EReal) (P : Fin 4096 → ℝ)
    (hp : ∀ s : Fin 1024, p (ix2 r s) = (P ⟨o + s.val, ho s⟩ : EReal)) :
    @Eq EReal (turned p (View.ld (Val := Elt Ideal) (e' := .bf16) (fun y => (W y : EReal)) (Rect.unit (s := S1024x4096) ![0, o] S1024x1024.size i1)) (ix2 r k))
      ((∑ s : Fin 1024, P ⟨o + s.val, ho s⟩ * W (ix2 k ⟨o + s.val, ho s⟩) : ℝ) : EReal) := by
  refine (turned_apply _ _ r k).trans ?_
  rw [coe_sum]
  refine Finset.sum_congr rfl fun s _ => ?_
  rw [hp s, EReal.coe_mul]
  exact congrArg _ (ld_cols _ o i1 k s (ho s))

/-- The gradient in the normalised row. -/
theorem back_apply : @Eq EReal (k0_pay1 (F := Ideal) (front (F := Ideal) (fun y => (D y : EReal)) (fun y => (Z y : EReal)) (fun y => (W y : EReal)) (fun y => (U y : EReal)))
      (dz3 (F := Ideal) (fun y => (D y : EReal)) (fun y => (Z y : EReal)) (fun y => (U y : EReal))) (lastCols (F := Ideal) fun y => (W y : EReal)) (ix2 r k))
    ((backAt (fun l => D (ix2 r l)) (fun s => Z (ix2 r s)) W U k : ℝ) : EReal) := by
  have b0 : ∀ k : Fin 1024, 0 + k.val < 4096 := fun k => by omega
  have b1 : ∀ k : Fin 1024, 1024 + k.val < 4096 := fun k => by omega
  have b2 : ∀ k : Fin 1024, 2048 + k.val < 4096 := fun k => by omega
  have b3 : ∀ k : Fin 1024, 3072 + k.val < 4096 := fun k => by omega
  unfold front dz3 lastCols
  refine (parts_eq _ _ _ _ _ _ _ _ _ _ _ _ (ix2 r k)).trans ?_
  refine (congrArg₂ (· + ·) (congrArg₂ (· + ·) (congrArg₂ (· + ·)
      (turned_ld W r k 0 _ b0 _ (fun s => slopeAt (fun l => D (ix2 r l)) (Z (ix2 r s)) U s) fun s => chunk_apply D Z U r s 0 _ _ (b0 s))
      (turned_ld W r k 1024 _ b1 _ (fun s => slopeAt (fun l => D (ix2 r l)) (Z (ix2 r s)) U s) fun s => chunk_apply D Z U r s 1024 _ _ (b1 s)))
      (turned_ld W r k 2048 _ b2 _ (fun s => slopeAt (fun l => D (ix2 r l)) (Z (ix2 r s)) U s) fun s => chunk_apply D Z U r s 2048 _ _ (b2 s)))
      (turned_ld W r k 3072 _ b3 _ (fun s => slopeAt (fun l => D (ix2 r l)) (Z (ix2 r s)) U s) fun s => chunk_apply D Z U r s 3072 _ _ (b3 s))).trans ?_
  rw [← EReal.coe_add, ← EReal.coe_add, ← EReal.coe_add]
  unfold backAt
  rw [MlpSums.sum_chunks]

theorem pay2_apply (a p : S256x1024.Idx → EReal) (w : S1024x1024.Idx → EReal) (T : Fin 1024 → ℝ)
    (hT : ∀ l, @Eq EReal (k0_pay1 (F := Ideal) a p w (ix2 r l)) (T l : EReal)) :
    @Eq EReal (k0_pay2 (F := Ideal) (k0_pay6 (F := Ideal) fun y => (G y : EReal)) (fun y => (D y : EReal)) (k0_pay7 (F := Ideal) fun y => (H y : EReal))
      (k0_pay8 (F := Ideal) fun y => (H y : EReal)) a p w (ix2 r k))
      ((D (ix2 r k) + normGrad (fun l => H (ix2 r l)) (fun l => G (ix2 0 l)) T k : ℝ) : EReal) := by
  pointwise [k0_pay2]
  simp only [hT, pay6_apply, pay7_apply, pay8_apply, ← EReal.coe_mul, ← coe_sum, ofBits_1024, div_coe _ (by norm_num : (1024 : ℝ) ≠ 0),
    ← EReal.coe_sub, ← EReal.coe_add]
  rfl

/-- A row of the gradient that goes on. -/
theorem row_apply : @Eq EReal (rowOf (F := Ideal) (fun y => (D y : EReal)) (fun y => (H y : EReal)) (fun y => (Z y : EReal)) (fun y => (G y : EReal)) (fun y => (W y : EReal)) (fun y => (U y : EReal)) (ix2 r k))
    ((D (ix2 r k) + normGrad (fun l => H (ix2 r l)) (fun l => G (ix2 0 l)) (backAt (fun l => D (ix2 r l)) (fun s => Z (ix2 r s)) W U) k : ℝ) : EReal) := by
  unfold rowOf
  exact pay2_apply D H G r k _ _ _ _ fun l => back_apply D Z W U r l

theorem pay3_apply (a p : S256x1024.Idx → EReal) (w : S1024x1024.Idx → EReal) (b : S8x1024.Idx → EReal) (T : Fin 256 → ℝ) (r : Fin 8)
    (hT : ∀ r, @Eq EReal (k0_pay1 (F := Ideal) a p w (ix2 r k)) (T r : EReal)) :
    @Eq EReal (k0_pay3 (F := Ideal) (k0_pay8 (F := Ideal) fun y => (H y : EReal)) a p w b (ix2 r k))
      (b (ix2 r k) + ((∑ x : Fin 32, T ⟨x.val * 8 + r.val, by omega⟩
        * (H (ix2 ⟨x.val * 8 + r.val, by omega⟩ k) * rowScale (fun l => H (ix2 ⟨x.val * 8 + r.val, by omega⟩ l))) : ℝ) : EReal)) := by
  pointwise [k0_pay3]
  simp only [hT, pay8_apply, ← EReal.coe_mul, ← coe_sum]

/-- What a point adds to the eight partial sums of the gain's gradient. -/
theorem gain_apply (a : S8x1024.Idx → EReal) (r : Fin 8) : @Eq EReal (gainOf (F := Ideal) (fun y => (D y : EReal)) (fun y => (H y : EReal)) (fun y => (Z y : EReal)) (fun y => (W y : EReal)) (fun y => (U y : EReal)) a (ix2 r k))
    (a (ix2 r k) + ((∑ x : Fin 32, backAt (fun l => D (ix2 ⟨x.val * 8 + r.val, by omega⟩ l)) (fun s => Z (ix2 ⟨x.val * 8 + r.val, by omega⟩ s)) W U k
      * (H (ix2 ⟨x.val * 8 + r.val, by omega⟩ k) * rowScale (fun l => H (ix2 ⟨x.val * 8 + r.val, by omega⟩ l))) : ℝ) : EReal)) := by
  unfold gainOf
  exact pay3_apply H k _ _ _ a (fun r => backAt (fun l => D (ix2 r l)) (fun s => Z (ix2 r s)) W U k) r fun r => back_apply D Z W U r k

/-- A chunk covers its columns of a wide block. -/
theorem tile_step (s : Fin 4096) (P : Fin 4096 → ℝ) (o : ℕ) (p : Vec Ideal S256x1024 .bf16)
    (hp : ∀ (k : Fin 1024) (ho : o + k.val < 4096), @Eq EReal (p (ix2 r k)) (P ⟨o + k.val, ho⟩ : EReal)) :
    View.TileAt (Val := Elt Ideal) (S := S256x4096) (e := .bf16) (ix2 r s) ![0, o] S256x1024.size p (P s : EReal) := by
  intro x hx
  have h0 : r.val = 0 + (x 0).val := hx 0
  have h1 : s.val = o + (x 1).val := hx 1
  have e : x = ix2 r (x 1) := by
    rw [eq_ix2 x]
    exact congrArg (fun z => ix2 z (x 1)) (Fin.ext (by rw [← Nat.zero_add (x 0).val]; exact h0.symm))
  rw [e]
  exact (hp (x 1) (h1 ▸ s.isLt)).trans (congrArg (fun z => (P z : EReal)) (Fin.ext h1.symm))

/-- Four such chunks are the wide block. -/
theorem wide_apply (s : Fin 4096) (P : Fin 4096 → ℝ) (p0 p1 p2 p3 : Vec Ideal S256x1024 .bf16) (i0 i1 i2 i3)
    (h0 : ∀ (k : Fin 1024) (ho : 0 + k.val < 4096), @Eq EReal (p0 (ix2 r k)) (P ⟨0 + k.val, ho⟩ : EReal))
    (h1 : ∀ (k : Fin 1024) (ho : 1024 + k.val < 4096), @Eq EReal (p1 (ix2 r k)) (P ⟨1024 + k.val, ho⟩ : EReal))
    (h2 : ∀ (k : Fin 1024) (ho : 2048 + k.val < 4096), @Eq EReal (p2 (ix2 r k)) (P ⟨2048 + k.val, ho⟩ : EReal))
    (h3 : ∀ (k : Fin 1024) (ho : 3072 + k.val < 4096), @Eq EReal (p3 (ix2 r k)) (P ⟨3072 + k.val, ho⟩ : EReal)) :
    @Eq EReal (View.canon (Val := Elt Ideal) (s := S256x4096) (e := .bf16)
      [⟨Rect.unit ![0, 3072] ![256, 1024] i3, p3⟩, ⟨Rect.unit ![0, 2048] ![256, 1024] i2, p2⟩, ⟨Rect.unit ![0, 1024] ![256, 1024] i1, p1⟩,
        ⟨Rect.unit ![0, 0] ![256, 1024] i0, p0⟩] (ix2 r s)) (P s : EReal) := by
  refine View.canon_eq_of_allAt _ _ _ ?_ ?_
  · exact View.cover_of_tiled ([⟨Rect.unit ![0, 3072] ![256, 1024] i3, p3⟩, ⟨Rect.unit ![0, 2048] ![256, 1024] i2, p2⟩,
      ⟨Rect.unit ![0, 1024] ![256, 1024] i1, p1⟩, ⟨Rect.unit ![0, 0] ![256, 1024] i0, p0⟩] : List (View.Piece (Elt Ideal) S256x4096 .bf16)) S256x1024.size (by rfl) _
  · refine View.allAt_cons_unit _ _ _ _ _ (tile_step r s P 3072 _ h3) ?_
    refine View.allAt_cons_unit _ _ _ _ _ (tile_step r s P 2048 _ h2) ?_
    refine View.allAt_cons_unit _ _ _ _ _ (tile_step r s P 1024 _ h1) ?_
    exact View.allAt_cons_unit _ _ _ _ _ (tile_step r s P 0 _ h0) (View.allAt_nil _ _)

/-- A row of the activation. -/
theorem act_apply (s : Fin 4096) : @Eq EReal (actOf (F := Ideal) (fun y => (Z y : EReal)) (ix2 r s)) ((max (Z (ix2 r s)) 0 * max (Z (ix2 r s)) 0 : ℝ) : EReal) := by
  have h : ∀ (o : ℕ) (i1) (k : Fin 1024) (ho : o + k.val < 4096),
      @Eq EReal (k0_pay13 (F := Ideal) (View.ld (Val := Elt Ideal) (e' := .bf16) (fun y => (Z y : EReal)) (Rect.unit (s := S256x4096) ![0, o] S256x1024.size i1)) (ix2 r k))
        ((max (Z (ix2 r ⟨o + k.val, ho⟩)) 0 * max (Z (ix2 r ⟨o + k.val, ho⟩)) 0 : ℝ) : EReal) := by
    intro o i1 k ho
    have f := (relu_apply (View.ld (Val := Elt Ideal) (e' := .bf16) (fun y => (Z y : EReal)) (Rect.unit (s := S256x4096) ![0, o] S256x1024.size i1)) (ix2 r k)).trans
      ((congrArg (fun x : EReal => max x 0) (ld_wide _ o i1 r k ho)).trans (coe_max _))
    exact (congrArg₂ (fun a b : EReal => a * b) f f).trans (EReal.coe_mul _ _).symm
  exact wide_apply r s (fun s => max (Z (ix2 r s)) 0 * max (Z (ix2 r s)) 0) _ _ _ _ _ _ _ _ (h 0 _) (h 1024 _) (h 2048 _) (h 3072 _)

/-- A row of the gradient in the hidden product. -/
theorem dz_apply (s : Fin 4096) : @Eq EReal (dzOf (F := Ideal) (fun y => (D y : EReal)) (fun y => (Z y : EReal)) (fun y => (U y : EReal)) (ix2 r s))
    ((slopeAt (fun l => D (ix2 r l)) (Z (ix2 r s)) U s : ℝ) : EReal) :=
  wide_apply r s (fun s => slopeAt (fun l => D (ix2 r l)) (Z (ix2 r s)) U s) _ _ _ _ _ _ _ _ (fun k ho => chunk_apply D Z U r k 0 _ _ ho)
    (fun k ho => chunk_apply D Z U r k 1024 _ _ ho) (fun k ho => chunk_apply D Z U r k 2048 _ _ ho) (fun k ho => chunk_apply D Z U r k 3072 _ _ ho)

end Real

/-- The sum of the eight partial sums. -/
theorem pay4_apply (a : Vec Ideal S8x1024 .f32) (k : Fin 1024) : @Eq EReal (k0_pay4 (F := Ideal) a (ix2 0 k)) (∑ r : Fin 8, a (ix2 r k)) := by
  pointwise [k0_pay4]

theorem pay5_apply (r : Fin 8) (k : Fin 1024) : @Eq EReal (k0_pay5 (F := Ideal) (ix2 r k)) 0 := by
  pointwise [k0_pay5]

end Cert.MlpBwdIdeal.Block

end
-- ==== Proof.MlpBwdPoint.lean ====
/-
  What each grid point of the squared-ReLU layer's gradient leaves in its blocks and in its accumulator.
-/
module

public import proofs.«01_k».proof.Proof.MlpBwdBlock

@[expose] public section

set_option maxRecDepth 16384

noncomputable section

namespace Cert.MlpBwdIdeal.Block

open Cert.MlpBwdIdeal Cert.MlpBwdIdeal.Gen Idealize.ShloMosaic Idealize.SL.Sem

variable {F : FTy → Type} [FloatOps F]
variable (m : (ℓ : Loc nD τ sig) → Buf (Elt F) ℓ) (c : Dev nD) (t : Fin cfg0.N)
  (acc : Vec F S256x1024 .f32 × Vec F S256x1024 .bf16 × Vec F S256x4096 .bf16 × Vec F S256x4096 .bf16 × Vec F S1x1024 .f32 × Vec F S8x1024 .f32)

/-- Every point leaves its 256 rows of the gradient that goes on. -/
theorem rows : (Value.stAt0 m c t.val t.isLt acc).1 = rowOf (iblk m c 0 t) (iblk m c 1 t) (iblk m c 2 t) (iblk m c 3 t) (iblk m c 4 t) (iblk m c 5 t) := by
  by_cases h0 : t.val % 32 = 0
  · have h1 : ¬t.val % 32 = 31 := by omega
    rw [Value.stAt0_A m c t acc h0 h1]
    dsimp only
    unfold out0_A_6
    rw [View.read_writes_eq_canon _ _ _ (fun _ => cover0_A_6 ..)]
    unfold kernelRun0_A
    dsimp only
    sl_unfold_words
    rw [View.canon_unit_zero (S := S256x1024) hz]
    simp only [View.readAt_eq_ld, Memref.IsWhole.read_unread, View.ld_unit_zero (S := S256x1024) hz, View.ld_unit_zero (S := S1x1024) hz,
      View.ld_unit_zero (S := S8x1024) hz, read_unread_whole]
    rfl
  · by_cases h1 : t.val % 32 = 31
    · rw [Value.stAt0_C m c t acc h0 h1]
      dsimp only
      unfold out0_C_6
      rw [View.read_writes_eq_canon _ _ _ (fun _ => cover0_C_6 ..)]
      unfold kernelRun0_C
      dsimp only
      sl_unfold_words
      rw [View.canon_unit_zero (S := S256x1024) hz]
      simp only [View.readAt_eq_ld, Memref.IsWhole.read_unread, View.ld_unit_zero (S := S256x1024) hz, View.ld_unit_zero (S := S1x1024) hz,
        View.ld_unit_zero (S := S8x1024) hz, read_unread_whole]
      rfl
    · rw [Value.stAt0_B m c t acc h0 h1]
      dsimp only
      unfold out0_B_6
      rw [View.read_writes_eq_canon _ _ _ (fun _ => cover0_B_6 ..)]
      unfold kernelRun0_B
      dsimp only
      sl_unfold_words
      rw [View.canon_unit_zero (S := S256x1024) hz]
      simp only [View.readAt_eq_ld, Memref.IsWhole.read_unread, View.ld_unit_zero (S := S256x1024) hz, View.ld_unit_zero (S := S1x1024) hz,
        View.ld_unit_zero (S := S8x1024) hz, read_unread_whole]
      rfl

/-- Every point leaves its 256 normalised rows. -/
theorem normed_rows : (Value.stAt0 m c t.val t.isLt acc).2.1 = k0_pay9 (iblk m c 3 t) (iblk m c 1 t) := by
  by_cases h0 : t.val % 32 = 0
  · have h1 : ¬t.val % 32 = 31 := by omega
    rw [Value.stAt0_A m c t acc h0 h1]
    dsimp only
    unfold out0_A_7
    rw [View.read_writes_eq_canon _ _ _ (fun _ => cover0_A_7 ..)]
    unfold kernelRun0_A
    dsimp only
    sl_unfold_words
    rw [View.canon_unit_zero (S := S256x1024) hz]
    simp only [View.readAt_eq_ld, Memref.IsWhole.read_unread, View.ld_unit_zero (S := S256x1024) hz, View.ld_unit_zero (S := S1x1024) hz,
      View.ld_unit_zero (S := S8x1024) hz, read_unread_whole]
  · by_cases h1 : t.val % 32 = 31
    · rw [Value.stAt0_C m c t acc h0 h1]
      dsimp only
      unfold out0_C_7
      rw [View.read_writes_eq_canon _ _ _ (fun _ => cover0_C_7 ..)]
      unfold kernelRun0_C
      dsimp only
      sl_unfold_words
      rw [View.canon_unit_zero (S := S256x1024) hz]
      simp only [View.readAt_eq_ld, Memref.IsWhole.read_unread, View.ld_unit_zero (S := S256x1024) hz, View.ld_unit_zero (S := S1x1024) hz,
        View.ld_unit_zero (S := S8x1024) hz, read_unread_whole]
    · rw [Value.stAt0_B m c t acc h0 h1]
      dsimp only
      unfold out0_B_7
      rw [View.read_writes_eq_canon _ _ _ (fun _ => cover0_B_7 ..)]
      unfold kernelRun0_B
      dsimp only
      sl_unfold_words
      rw [View.canon_unit_zero (S := S256x1024) hz]
      simp only [View.readAt_eq_ld, Memref.IsWhole.read_unread, View.ld_unit_zero (S := S256x1024) hz, View.ld_unit_zero (S := S1x1024) hz,
        View.ld_unit_zero (S := S8x1024) hz, read_unread_whole]

/-- Every point leaves its 256 rows of the activation. -/
theorem act_rows : (Value.stAt0 m c t.val t.isLt acc).2.2.1 = actOf (iblk m c 2 t) := by
  by_cases h0 : t.val % 32 = 0
  · have h1 : ¬t.val % 32 = 31 := by omega
    rw [Value.stAt0_A m c t acc h0 h1]
    dsimp only
    unfold out0_A_8
    rw [View.read_writes_eq_canon _ _ _ (fun _ => cover0_A_8 ..)]
    unfold kernelRun0_A
    dsimp only
    sl_unfold_words
    simp only [View.readAt_eq_ld, Memref.IsWhole.read_unread, View.ld_unit_zero (S := S256x1024) hz, View.ld_unit_zero (S := S1x1024) hz,
      View.ld_unit_zero (S := S8x1024) hz, read_unread_whole]
    rfl
  · by_cases h1 : t.val % 32 = 31
    · rw [Value.stAt0_C m c t acc h0 h1]
      dsimp only
      unfold out0_C_8
      rw [View.read_writes_eq_canon _ _ _ (fun _ => cover0_C_8 ..)]
      unfold kernelRun0_C
      dsimp only
      sl_unfold_words
      simp only [View.readAt_eq_ld, Memref.IsWhole.read_unread, View.ld_unit_zero (S := S256x1024) hz, View.ld_unit_zero (S := S1x1024) hz,
        View.ld_unit_zero (S := S8x1024) hz, read_unread_whole]
      rfl
    · rw [Value.stAt0_B m c t acc h0 h1]
      dsimp only
      unfold out0_B_8
      rw [View.read_writes_eq_canon _ _ _ (fun _ => cover0_B_8 ..)]
      unfold kernelRun0_B
      dsimp only
      sl_unfold_words
      simp only [View.readAt_eq_ld, Memref.IsWhole.read_unread, View.ld_unit_zero (S := S256x1024) hz, View.ld_unit_zero (S := S1x1024) hz,
        View.ld_unit_zero (S := S8x1024) hz, read_unread_whole]
      rfl

/-- Every point leaves its 256 rows of the gradient in the hidden product. -/
theorem dz_rows : (Value.stAt0 m c t.val t.isLt acc).2.2.2.1 = dzOf (iblk m c 0 t) (iblk m c 2 t) (iblk m c 5 t) := by
  by_cases h0 : t.val % 32 = 0
  · have h1 : ¬t.val % 32 = 31 := by omega
    rw [Value.stAt0_A m c t acc h0 h1]
    dsimp only
    unfold out0_A_9
    rw [View.read_writes_eq_canon _ _ _ (fun _ => cover0_A_9 ..)]
    unfold kernelRun0_A
    dsimp only
    sl_unfold_words
    simp only [View.readAt_eq_ld, Memref.IsWhole.read_unread, View.ld_unit_zero (S := S256x1024) hz, View.ld_unit_zero (S := S1x1024) hz,
      View.ld_unit_zero (S := S8x1024) hz, read_unread_whole]
    rfl
  · by_cases h1 : t.val % 32 = 31
    · rw [Value.stAt0_C m c t acc h0 h1]
      dsimp only
      unfold out0_C_9
      rw [View.read_writes_eq_canon _ _ _ (fun _ => cover0_C_9 ..)]
      unfold kernelRun0_C
      dsimp only
      sl_unfold_words
      simp only [View.readAt_eq_ld, Memref.IsWhole.read_unread, View.ld_unit_zero (S := S256x1024) hz, View.ld_unit_zero (S := S1x1024) hz,
        View.ld_unit_zero (S := S8x1024) hz, read_unread_whole]
      rfl
    · rw [Value.stAt0_B m c t acc h0 h1]
      dsimp only
      unfold out0_B_9
      rw [View.read_writes_eq_canon _ _ _ (fun _ => cover0_B_9 ..)]
      unfold kernelRun0_B
      dsimp only
      sl_unfold_words
      simp only [View.readAt_eq_ld, Memref.IsWhole.read_unread, View.ld_unit_zero (S := S256x1024) hz, View.ld_unit_zero (S := S1x1024) hz,
        View.ld_unit_zero (S := S8x1024) hz, read_unread_whole]
      rfl

/-- The first point starts the partial sums of the gain's gradient from zero. -/
theorem gain_first (h0 : t.val % 32 = 0) : (Value.stAt0 m c t.val t.isLt acc).2.2.2.2.2 = gainOf (iblk m c 0 t) (iblk m c 1 t) (iblk m c 2 t) (iblk m c 4 t) (iblk m c 5 t) k0_pay5 := by
  have h1 : ¬t.val % 32 = 31 := by omega
  rw [Value.stAt0_A m c t acc h0 h1]
  dsimp only
  unfold sout0_A_0
  rw [View.read_writes_eq_canon _ _ _ (fun _ => scover0_A_0 ..)]
  unfold kernelRun0_A
  dsimp only
  sl_unfold_words
  rw [View.canon_cons_unit_zero (S := S8x1024) hz, View.readCov_unit_zero (S := S8x1024) _ hz]
  simp only [View.readAt_eq_ld, Memref.IsWhole.read_unread, View.ld_unit_zero (S := S256x1024) hz, View.ld_unit_zero (S := S1x1024) hz,
    View.ld_unit_zero (S := S8x1024) hz, read_unread_whole]
  rfl

/-- Every later point adds to them. -/
theorem gain_later (h0 : ¬t.val % 32 = 0) : (Value.stAt0 m c t.val t.isLt acc).2.2.2.2.2 = gainOf (iblk m c 0 t) (iblk m c 1 t) (iblk m c 2 t) (iblk m c 4 t) (iblk m c 5 t) acc.2.2.2.2.2 := by
  by_cases h1 : t.val % 32 = 31
  · rw [Value.stAt0_C m c t acc h0 h1]
    dsimp only
    unfold sout0_C_0
    rw [View.read_writes_eq_canon _ _ _ (fun _ => scover0_C_0 ..)]
    unfold kernelRun0_C
    dsimp only
    sl_unfold_words
    rw [View.canon_unit_zero (S := S8x1024) hz]
    simp only [View.readAt_eq_ld, Memref.IsWhole.read_unread, View.ld_unit_zero (S := S256x1024) hz, View.ld_unit_zero (S := S1x1024) hz,
      View.ld_unit_zero (S := S8x1024) hz, read_unread_whole]
    rfl
  · rw [Value.stAt0_B m c t acc h0 h1]
    dsimp only
    unfold sout0_B_0
    rw [View.read_writes_eq_canon _ _ _ (fun _ => scover0_B_0 ..)]
    unfold kernelRun0_B
    dsimp only
    sl_unfold_words
    rw [View.canon_unit_zero (S := S8x1024) hz]
    simp only [View.readAt_eq_ld, Memref.IsWhole.read_unread, View.ld_unit_zero (S := S256x1024) hz, View.ld_unit_zero (S := S1x1024) hz,
      View.ld_unit_zero (S := S8x1024) hz, read_unread_whole]
    rfl

/-- The last point writes the gain's gradient out. -/
theorem gain_last (h1 : t.val % 32 = 31) : (Value.stAt0 m c t.val t.isLt acc).2.2.2.2.1 = k0_pay4 (gainOf (iblk m c 0 t) (iblk m c 1 t) (iblk m c 2 t) (iblk m c 4 t) (iblk m c 5 t) acc.2.2.2.2.2) := by
  have h0 : ¬t.val % 32 = 0 := by omega
  rw [Value.stAt0_C m c t acc h0 h1]
  dsimp only
  unfold out0_C_10
  rw [View.read_writes_eq_canon _ _ _ (fun _ => cover0_C_10 ..)]
  unfold kernelRun0_C
  dsimp only
  sl_unfold_words
  rw [View.canon_unit_zero (S := S1x1024) hz, View.readCov_unit_zero (S := S8x1024) _ hz]
  simp only [View.readAt_eq_ld, Memref.IsWhole.read_unread, View.ld_unit_zero (S := S256x1024) hz, View.ld_unit_zero (S := S1x1024) hz,
    View.ld_unit_zero (S := S8x1024) hz, read_unread_whole]
  rfl

end Cert.MlpBwdIdeal.Block

end
-- ==== Proof.MlpBwdArray.lean ====
/-
  What the five result arrays of the squared-ReLU layer's gradient hold, of finite inputs: point `t` works on rows `256 t` and
  on; the gain's gradient is a sum over all 8192 rows, which the kernel takes in 8 interleaved partial sums over its 32 points.
-/
module

public import proofs.«01_k».proof.Proof.MlpBwdPoint
public import Idealize.ShloMosaic.Lib.StableHlo.ReadAt
public import Idealize.ShloMosaic.Lib.Claim

@[expose] public section

set_option maxRecDepth 16384

noncomputable section

namespace Cert.MlpBwdIdeal.Block

open Cert.MlpBwdIdeal Cert.MlpBwdIdeal.Gen Cert.Reals Idealize.ShloMosaic Idealize.ShloMosaic.TcCoe Idealize.SL.Sem

theorem place : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] := by
  decide +kernel

theorem rowlt (t : Fin cfg0.N) (r : Fin 256) : 256 * t.val + r.val < 8192 := by
  have := lt_of_lt_of_eq t.isLt (show cfg0.N = 32 from N_0)
  omega

/-- The arguments: the cotangent, the stream, the gain and the two weights. -/
structure Args (m : (ℓ : Loc nD τ sig) → Buf (Elt Ideal) ℓ) (c : Dev nD) (D H : S8192x1024.Idx → ℝ) (G : S1024.Idx → ℝ)
    (W : S1024x4096.Idx → ℝ) (U : S4096x1024.Idx → ℝ) : Prop where
  d : m ((c : Thread nD τ).loc main_arg0) = fun i => (D i : EReal)
  h : m ((c : Thread nD τ).loc main_arg1) = fun i => (H i : EReal)
  g : m ((c : Thread nD τ).loc main_arg2) = fun i => (G i : EReal)
  w : m ((c : Thread nD τ).loc main_arg3) = fun i => (W i : EReal)
  u : m ((c : Thread nD τ).loc main_arg4) = fun i => (U i : EReal)

/-- The hidden product at an entry. -/
def hiddenAt (H : S8192x1024.Idx → ℝ) (G : S1024.Idx → ℝ) (W : S1024x4096.Idx → ℝ) (i : Fin 8192) (s : Fin 4096) : ℝ :=
  ∑ l, normed (fun l => H (ix2 i l)) (fun l => G (ix1 l)) l * W (ix2 l s)

section Host

/-! ## The host's lines before the call -/

variable (H : S8192x1024.Idx → ℝ) (G : S1024.Idx → ℝ) (W : S1024x4096.Idx → ℝ)

/-- The mean square of a row, as the host takes it. -/
def hostMean (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The normalised stream, as the host takes it. -/
def hostNorm (x : FVec Ideal S8192x1024 .f32) (g : FVec Ideal S1024 .f32) : FVec Ideal S8192x1024 .f32 :=
  mulf (mulf x (broadcastInDim S8192x1024 ![0, 1] bcast_S8192x1_S8192x1024_0_1 (Host.rsqrt (hostMean x))))
    (broadcastInDim S8192x1024 ![0, 1] bcast_S1x1024_S8192x1024_0_1 (broadcastInDim S1x1024 ![1] bcast_S1024_S1x1024_1 g))

/-- The hidden product, as the host takes it. -/
def hostHidden (x : FVec Ideal S8192x1024 .f32) (g : FVec Ideal S1024 .f32) (w : FVec Ideal S1024x4096 .f32) : FVec Ideal S8192x4096 .bf16 :=
  truncf .bf16 (show FVec Ideal S8192x4096 .f32 from Host.dotGeneral dot_S8192x1024_S1024x4096_S8192x4096_1_0_0_1_n_n none (truncf .bf16 (hostNorm x g) bitsLt_bf16_f32) (truncf .bf16 w bitsLt_bf16_f32)) bitsLt_bf16_f32

theorem hostMean_apply (i : Fin 8192) : @Eq EReal (hostMean (fun y => (H y : EReal)) (ix2 i 0)) ((meanSq fun l => H (ix2 i l) : ℝ) : EReal) := by
  pointwise [hostMean]
  simp only [← EReal.coe_mul, ← coe_sum, ofBits_1024, ofBits_eps, div_coe _ (by norm_num : (1024 : ℝ) ≠ 0), ← EReal.coe_add]
  rfl

theorem hostNorm_apply (i : Fin 8192) (k : Fin 1024) :
    @Eq EReal (hostNorm (fun y => (H y : EReal)) (fun y => (G y : EReal)) (ix2 i k)) ((normed (fun l => H (ix2 i l)) (fun l => G (ix1 l)) k : ℝ) : EReal) := by
  pointwise [hostNorm]
  rw [hostMean_apply, rsqrt_coe (meanSq_pos _), ← EReal.coe_mul, ← EReal.coe_mul]
  rfl

theorem hostHidden_apply (i : Fin 8192) (s : Fin 4096) :
    @Eq EReal (hostHidden (fun y => (H y : EReal)) (fun y => (G y : EReal)) (fun y => (W y : EReal)) (ix2 i s)) (hiddenAt H G W i s : EReal) := by
  pointwise [hostHidden]
  simp only [hostNorm_apply, ← EReal.coe_mul, ← coe_sum]
  rfl

end Host

variable {m : (ℓ : Loc nD τ sig) → Buf (Elt Ideal) ℓ} {c : Dev nD} {D H : S8192x1024.Idx → ℝ} {G : S1024.Idx → ℝ}
  {W : S1024x4096.Idx → ℝ} {U : S4096x1024.Idx → ℝ} (I : Args m c D H G W U)

include I

theorem V_z (i : Fin 8192) (s : Fin 4096) : @Eq EReal (V m c main_v17 (ix2 i s)) (hiddenAt H G W i s : EReal) := by
  have e : @Eq (FVec Ideal S8192x4096 .bf16) (V m c main_v17) (hostHidden (m ((c : Thread nD τ).loc main_arg1)) (m ((c : Thread nD τ).loc main_arg2)) (m ((c : Thread nD τ).loc main_arg3))) := by
    unfold V
    entry_read
    rfl
  refine (congrFun e _).trans ?_
  rw [I.h, I.g, I.w]
  exact hostHidden_apply H G W i s

theorem V_g (k : Fin 1024) : @Eq EReal (V m c main_v18 (ix2 0 k)) (G (ix1 k) : EReal) := by
  unfold V
  simp only [List.flatten_cons, List.flatten_nil, List.append_nil, hostOps0, List.cons_append, List.nil_append]
  after_reads_at
  exact congrFun I.g _

theorem V_w (i : Fin 1024) (k : Fin 4096) : @Eq EReal (V m c main_v0 (ix2 i k)) (W (ix2 i k) : EReal) := by
  unfold V
  simp only [List.flatten_cons, List.flatten_nil, List.append_nil, hostOps0, List.cons_append, List.nil_append]
  after_reads_at
  exact congrFun I.w _

theorem V_u (i : Fin 4096) (k : Fin 1024) : @Eq EReal (V m c main_v1 (ix2 i k)) (U (ix2 i k) : EReal) := by
  unfold V
  simp only [List.flatten_cons, List.flatten_nil, List.append_nil, hostOps0, List.cons_append, List.nil_append]
  after_reads_at
  exact congrFun I.u _

omit I in
/-- The rows of an array that point `t` works on. -/
def rowsAt {n : ℕ} (X : (Shape.mk 2 ![8192, n]).Idx → ℝ) (t : Fin cfg0.N) (y : (Shape.mk 2 ![256, n]).Idx) : ℝ := X (ix2 ⟨256 * t.val + (y 0).val, rowlt t (y 0)⟩ (y 1))

theorem blk_d (t : Fin cfg0.N) : @Eq (S256x1024.Idx → EReal) (iblk m c 0 t) fun y => (rowsAt D t y : EReal) := by
  funext y
  unfold iblk
  rw [View.read_apply]
  show V m c main_arg0 _ = _
  rw [V_main_arg0]
  refine (congrFun I.d _).trans (congrArg (fun i => (D i : EReal)) ?_)
  funext a
  apply Fin.ext
  match a with
  | ⟨0, _⟩ => show win0_0.index t 0 * 256 + 1 * (y 0).val = _; rw [(place t).1]; show t.val * 256 + 1 * (y 0).val = 256 * t.val + (y 0).val; omega
  | ⟨1, _⟩ => show win0_0.index t 1 * 1024 + 1 * (y 1).val = _; rw [(place t).1]; show 0 * 1024 + 1 * (y 1).val = (y 1).val; omega

theorem blk_h (t : Fin cfg0.N) : @Eq (S256x1024.Idx → EReal) (iblk m c 1 t) fun y => (rowsAt H t y : EReal) := by
  funext y
  unfold iblk
  rw [View.read_apply]
  show V m c main_arg1 _ = _
  rw [V_main_arg1]
  refine (congrFun I.h _).trans (congrArg (fun i => (H i : EReal)) ?_)
  funext a
  apply Fin.ext
  match a with
  | ⟨0, _⟩ => show win0_1.index t 0 * 256 + 1 * (y 0).val = _; rw [(place t).2.1]; show t.val * 256 + 1 * (y 0).val = 256 * t.val + (y 0).val; omega
  | ⟨1, _⟩ => show win0_1.index t 1 * 1024 + 1 * (y 1).val = _; rw [(place t).2.1]; show 0 * 1024 + 1 * (y 1).val = (y 1).val; omega

omit I in
/-- The hidden product as an array. -/
def hiddenArr (H : S8192x1024.Idx → ℝ) (G : S1024.Idx → ℝ) (W : S1024x4096.Idx → ℝ) (y : S8192x4096.Idx) : ℝ := hiddenAt H G W (y 0) (y 1)

theorem blk_z (t : Fin cfg0.N) : @Eq (S256x4096.Idx → EReal) (iblk m c 2 t) fun y => (rowsAt (hiddenArr H G W) t y : EReal) := by
  refine funext fun (y : S256x4096.Idx) => ?_
  unfold iblk
  rw [View.read_apply]
  have e : ((cfg0.win 2).blk t).view.emb y = ix2 ⟨256 * t.val + (y 0).val, rowlt t (y 0)⟩ (y 1) := by
    funext a
    apply Fin.ext
    match a with
    | ⟨0, _⟩ => show win0_2.index t 0 * 256 + 1 * (y 0).val = _; rw [(place t).2.2.1]; show t.val * 256 + 1 * (y 0).val = 256 * t.val + (y 0).val; omega
    | ⟨1, _⟩ => show win0_2.index t 1 * 4096 + 1 * (y 1).val = _; rw [(place t).2.2.1]; show 0 * 4096 + 1 * (y 1).val = (y 1).val; omega
  show V m c main_v17 (((cfg0.win 2).blk t).view.emb y) = _
  rw [e]
  exact V_z I _ _

theorem blk_g (t : Fin cfg0.N) : @Eq (S1x1024.Idx → EReal) (iblk m c 3 t) fun y => (G (ix1 (y 1)) : EReal) := by
  funext y
  unfold iblk
  rw [View.read_apply]
  have e : ((cfg0.win 3).blk t).view.emb y = ix2 0 (y 1) := by
    funext a
    apply Fin.ext
    match a with
    | ⟨0, _⟩ => show win0_3.index t 0 * 1 + 1 * (y 0).val = _; rw [(place t).2.2.2.1]; show 0 * 1 + 1 * (y 0).val = 0; have : (y 0).val < 1 := (y 0).isLt; omega
    | ⟨1, _⟩ => show win0_3.index t 1 * 1024 + 1 * (y 1).val = _; rw [(place t).2.2.2.1]; show 0 * 1024 + 1 * (y 1).val = (y 1).val; omega
  show V m c main_v18 (((cfg0.win 3).blk t).view.emb y) = _
  rw [e]
  exact V_g I _

theorem blk_w (t : Fin cfg0.N) : @Eq (S1024x4096.Idx → EReal) (iblk m c 4 t) fun y => (W y : EReal) := by
  refine funext fun (y : S1024x4096.Idx) => ?_
  unfold iblk
  rw [View.read_apply]
  have e : ((cfg0.win 4).blk t).view.emb y = ix2 (y 0) (y 1) := by
    funext a
    apply Fin.ext
    match a with
    | ⟨0, _⟩ => show win0_4.index t 0 * 1024 + 1 * (y 0).val = _; rw [(place t).2.2.2.2.1]; show 0 * 1024 + 1 * (y 0).val = (y 0).val; omega
    | ⟨1, _⟩ => show win0_4.index t 1 * 4096 + 1 * (y 1).val = _; rw [(place t).2.2.2.2.1]; show 0 * 4096 + 1 * (y 1).val = (y 1).val; omega
  show V m c main_v0 (((cfg0.win 4).blk t).view.emb y) = _
  rw [e]
  exact (V_w I _ _).trans (congrArg (fun i => (W i : EReal)) (eq_ix2 y).symm)

theorem blk_u (t : Fin cfg0.N) : @Eq (S4096x1024.Idx → EReal) (iblk m c 5 t) fun y => (U y : EReal) := by
  refine funext fun (y : S4096x1024.Idx) => ?_
  unfold iblk
  rw [View.read_apply]
  have e : ((cfg0.win 5).blk t).view.emb y = ix2 (y 0) (y 1) := by
    funext a
    apply Fin.ext
    match a with
    | ⟨0, _⟩ => show win0_5.index t 0 * 4096 + 1 * (y 0).val = _; rw [(place t).2.2.2.2.2]; show 0 * 4096 + 1 * (y 0).val = (y 0).val; omega
    | ⟨1, _⟩ => show win0_5.index t 1 * 1024 + 1 * (y 1).val = _; rw [(place t).2.2.2.2.2]; show 0 * 1024 + 1 * (y 1).val = (y 1).val; omega
  show V m c main_v1 (((cfg0.win 5).blk t).view.emb y) = _
  rw [e]
  exact (V_u I _ _).trans (congrArg (fun i => (U i : EReal)) (eq_ix2 y).symm)

omit I in
/-- The step at a point is the generated recursion's, the first point included. -/
theorem outs_eq : ∀ (n : ℕ) (h : n < cfg0.N), ∃ acc, outsAt0 m c n h = Value.stAt0 m c n h acc
  | 0, h => ⟨_, Value.outsAt0_zero m c h⟩
  | n + 1, h => ⟨_, Value.outsAt0_succ m c n h⟩

omit I in
theorem point_lt (i : Fin 8192) : i.val / 256 < cfg0.N := lt_of_lt_of_eq (show i.val / 256 < 32 by omega) N_0.symm

omit I in
/-- Row `i`'s place in its block is row `i`. -/
theorem rows_back {n : ℕ} (X : (Shape.mk 2 ![8192, n]).Idx → ℝ) (i : Fin 8192) (k : Fin n) :
    rowsAt X ⟨i.val / 256, point_lt i⟩ (ix2 ⟨i.val % 256, by omega⟩ k) = X (ix2 i k) :=
  congrArg (fun z => X (ix2 z k)) (Fin.ext (show 256 * (i.val / 256) + i.val % 256 = i.val by omega))

/-- The gradient in the normalised row. -/
def backRow (D H : S8192x1024.Idx → ℝ) (G : S1024.Idx → ℝ) (W : S1024x4096.Idx → ℝ) (U : S4096x1024.Idx → ℝ) (i : Fin 8192) : Fin 1024 → ℝ :=
  backAt (fun l => D (ix2 i l)) (hiddenAt H G W i) W U

/-- What row `i` adds to the gain's gradient. -/
def gainTerm (D H : S8192x1024.Idx → ℝ) (G : S1024.Idx → ℝ) (W : S1024x4096.Idx → ℝ) (U : S4096x1024.Idx → ℝ) (k : Fin 1024) (i : Fin 8192) : ℝ :=
  backRow D H G W U i k * (H (ix2 i k) * rowScale fun l => H (ix2 i l))

omit I in
theorem at6 (i : Fin 8192) (k : Fin 1024) : Value.pt6Of (ix2 i k) = i.val / 256 ∧ Value.loc6Of (ix2 i k) = ix2 ⟨i.val % 256, by omega⟩ k := by
  refine ⟨show 1 * (i.val / 256 - 0) + 1 * (k.val / 1024 - 0) = _ by omega, ?_⟩
  funext a; apply Fin.ext
  match a with
  | ⟨0, _⟩ => rfl
  | ⟨1, _⟩ => show k.val % 1024 = k.val; omega

/-- The gradient that goes on. -/
theorem G6_eq (i : Fin 8192) (k : Fin 1024) : @Eq EReal (Value.G6 m c (ix2 i k))
    ((D (ix2 i k) + normGrad (fun l => H (ix2 i l)) (fun l => G (ix1 l)) (backRow D H G W U i) k : ℝ) : EReal) := by
  have hp : Value.pt6Of (ix2 i k) < cfg0.N := (at6 i k).1 ▸ point_lt i
  unfold Value.G6
  rw [dif_pos hp, ← Value.outsAt0_sweep m c _ hp]
  obtain ⟨acc, e⟩ := outs_eq (m := m) (c := c) _ hp
  rw [e, rows m c ⟨_, hp⟩, (at6 i k).2]
  have ht : (⟨Value.pt6Of (ix2 i k), hp⟩ : Fin cfg0.N) = ⟨i.val / 256, point_lt i⟩ := Fin.ext (at6 i k).1
  rw [ht, blk_d I, blk_h I, blk_z I, blk_g I, blk_w I, blk_u I]
  refine (row_apply _ _ _ _ _ _ _ k).trans ?_
  simp only [rows_back]
  rfl

omit I in
theorem at7 (i : Fin 8192) (k : Fin 1024) : Value.pt7Of (ix2 i k) = i.val / 256 ∧ Value.loc7Of (ix2 i k) = ix2 ⟨i.val % 256, by omega⟩ k := by
  refine ⟨show 1 * (i.val / 256 - 0) + 1 * (k.val / 1024 - 0) = _ by omega, ?_⟩
  funext a; apply Fin.ext
  match a with
  | ⟨0, _⟩ => rfl
  | ⟨1, _⟩ => show k.val % 1024 = k.val; omega

/-- The normalised stream. -/
theorem G7_eq (i : Fin 8192) (k : Fin 1024) : @Eq EReal (Value.G7 m c (ix2 i k)) ((normed (fun l => H (ix2 i l)) (fun l => G (ix1 l)) k : ℝ) : EReal) := by
  have hp : Value.pt7Of (ix2 i k) < cfg0.N := (at7 i k).1 ▸ point_lt i
  unfold Value.G7
  rw [dif_pos hp, ← Value.outsAt0_sweep m c _ hp]
  obtain ⟨acc, e⟩ := outs_eq (m := m) (c := c) _ hp
  rw [e, normed_rows m c ⟨_, hp⟩, (at7 i k).2]
  have ht : (⟨Value.pt7Of (ix2 i k), hp⟩ : Fin cfg0.N) = ⟨i.val / 256, point_lt i⟩ := Fin.ext (at7 i k).1
  rw [ht, blk_h I, blk_g I]
  refine (normed_apply _ _ _ k).trans ?_
  simp only [rows_back]
  rfl

omit I in
theorem at8 (i : Fin 8192) (s : Fin 4096) : Value.pt8Of (ix2 i s) = i.val / 256 ∧ Value.loc8Of (ix2 i s) = ix2 ⟨i.val % 256, by omega⟩ s := by
  refine ⟨show 1 * (i.val / 256 - 0) + 1 * (s.val / 4096 - 0) = _ by omega, ?_⟩
  funext a; apply Fin.ext
  match a with
  | ⟨0, _⟩ => rfl
  | ⟨1, _⟩ => show s.val % 4096 = s.val; omega

/-- The activation. -/
theorem G8_eq (i : Fin 8192) (s : Fin 4096) : @Eq EReal (Value.G8 m c (ix2 i s)) ((max (hiddenAt H G W i s) 0 * max (hiddenAt H G W i s) 0 : ℝ) : EReal) := by
  have hp : Value.pt8Of (ix2 i s) < cfg0.N := (at8 i s).1 ▸ point_lt i
  unfold Value.G8
  rw [dif_pos hp, ← Value.outsAt0_sweep m c _ hp]
  obtain ⟨acc, e⟩ := outs_eq (m := m) (c := c) _ hp
  rw [e, act_rows m c ⟨_, hp⟩, (at8 i s).2]
  have ht : (⟨Value.pt8Of (ix2 i s), hp⟩ : Fin cfg0.N) = ⟨i.val / 256, point_lt i⟩ := Fin.ext (at8 i s).1
  rw [ht, blk_z I]
  refine (act_apply _ _ s).trans ?_
  simp only [rows_back]
  rfl

omit I in
theorem at9 (i : Fin 8192) (s : Fin 4096) : Value.pt9Of (ix2 i s) = i.val / 256 ∧ Value.loc9Of (ix2 i s) = ix2 ⟨i.val % 256, by omega⟩ s := by
  refine ⟨show 1 * (i.val / 256 - 0) + 1 * (s.val / 4096 - 0) = _ by omega, ?_⟩
  funext a; apply Fin.ext
  match a with
  | ⟨0, _⟩ => rfl
  | ⟨1, _⟩ => show s.val % 4096 = s.val; omega

/-- The gradient in the hidden product. -/
theorem G9_eq (i : Fin 8192) (s : Fin 4096) : @Eq EReal (Value.G9 m c (ix2 i s)) ((slopeAt (fun l => D (ix2 i l)) (hiddenAt H G W i s) U s : ℝ) : EReal) := by
  have hp : Value.pt9Of (ix2 i s) < cfg0.N := (at9 i s).1 ▸ point_lt i
  unfold Value.G9
  rw [dif_pos hp, ← Value.outsAt0_sweep m c _ hp]
  obtain ⟨acc, e⟩ := outs_eq (m := m) (c := c) _ hp
  rw [e, dz_rows m c ⟨_, hp⟩, (at9 i s).2]
  have ht : (⟨Value.pt9Of (ix2 i s), hp⟩ : Fin cfg0.N) = ⟨i.val / 256, point_lt i⟩ := Fin.ext (at9 i s).1
  rw [ht, blk_d I, blk_z I, blk_u I]
  refine (dz_apply _ _ _ _ s).trans ?_
  simp only [rows_back]
  rfl

theorem gain_step (t : Fin cfg0.N) (a : S8x1024.Idx → EReal) (r : Fin 8) (k : Fin 1024) :
    @Eq EReal (gainOf (F := Ideal) (iblk m c 0 t) (iblk m c 1 t) (iblk m c 2 t) (iblk m c 4 t) (iblk m c 5 t) a (ix2 r k))
      (a (ix2 r k) + ((∑ x : Fin 32, upTo (gainTerm D H G W U k) (256 * t.val + (x.val * 8 + r.val)) : ℝ) : EReal)) := by
  rw [blk_d I, blk_h I, blk_z I, blk_w I, blk_u I]
  refine (gain_apply _ _ _ _ _ k a r).trans ?_
  congr 2
  refine Finset.sum_congr rfl fun x _ => ?_
  rw [upTo_lt _ (rowlt t ⟨x.val * 8 + r.val, by omega⟩)]
  rfl

theorem gain_sums (r : Fin 8) (k : Fin 1024) : ∀ (n : ℕ) (h : n < cfg0.N), @Eq EReal ((outsAt0 m c n h).2.2.2.2.2 (ix2 r k))
    ((∑ t ∈ Finset.range (n + 1), ∑ x : Fin 32, upTo (gainTerm D H G W U k) (256 * t + (x.val * 8 + r.val)) : ℝ) : EReal)
  | 0, h => by
    rw [Value.outsAt0_zero m c h, gain_first m c ⟨0, h⟩ _ rfl, gain_step I, pay5_apply]
    simp
  | n + 1, h => by
    rw [Value.outsAt0_succ m c n h, gain_later m c ⟨n + 1, h⟩ _ (by have := lt_of_lt_of_eq h (show cfg0.N = 32 from N_0); dsimp only; omega),
      gain_step I, gain_sums r k n, Finset.sum_range_succ _ (n + 1), EReal.coe_add]

/-- The gain's gradient. -/
theorem G10_eq (k : Fin 1024) : @Eq EReal (Value.G10 m c (ix2 0 k)) ((∑ i : Fin 8192, gainTerm D H G W U k i : ℝ) : EReal) := by
  have hp : 31 < cfg0.N := lt_of_lt_of_eq (by decide) N_0.symm
  rw [Value.G10_last, ← Value.outsAt0_sweep m c 31 hp, Value.outsAt0_succ m c 30 hp, gain_last m c ⟨31, hp⟩ _ rfl, pay4_apply]
  simp only [gain_step I, gain_sums I]
  simp only [← EReal.coe_add, ← Finset.sum_range_succ (fun t => ∑ x : Fin 32, upTo (gainTerm D H G W U k) (256 * t + (x.val * 8 + _))) 31, ← coe_sum]
  exact congrArg _ ((sum_fold _ 32 32).trans (sum_upTo _))

end Cert.MlpBwdIdeal.Block

end
-- ==== Proof.MlpBwdRef.lean ====
/-
  What the derivative of the squared-ReLU layer's forward lines computes, of finite inputs.
-/
module

public import proofs.«01_k».proof.Proof.MlpBwdArray
public import proofs.«01_k».proof.Proof.Gen.MlpBwdRefIdeal.Read

@[expose] public section

set_option maxRecDepth 16384

noncomputable section

namespace Cert.MlpBwdRefIdeal.Stages

open Cert.MlpBwdRefIdeal Cert.MlpBwdRefIdeal.Gen Cert.MlpBwdRefIdeal.Read Cert.Reals Idealize.ShloMosaic Idealize.SL.Sem
open Cert.MlpBwdIdeal.Block (normed slopeAt hiddenAt backAt backRow zero_word two_word coe_max)

variable (D H : S8192x1024.Idx → ℝ) (G : S1024.Idx → ℝ) (W : S1024x4096.Idx → ℝ) (U : S4096x1024.Idx → ℝ) (i : Fin 8192) (k : Fin 1024) (s : Fin 4096)

theorem mean_apply : @Eq EReal (val_main_v6 (F := Ideal) (fun y => (H y : EReal)) (ix2 i 0)) ((meanSq fun l => H (ix2 i l) : ℝ) : EReal) := by
  pointwise [val_main_v6, val_main_v5, val_main_v4, val_main_v3, val_main_v2, val_main_v1, val_main_v0, val_main_cst, val_main_cst_0, val_main_cst_1]
  simp only [← EReal.coe_mul, ← coe_sum, ofBits_1024, ofBits_eps, div_coe _ (by norm_num : (1024 : ℝ) ≠ 0), ← EReal.coe_add]
  rfl

theorem scale_apply : @Eq EReal (val_main_v7 (F := Ideal) (fun y => (H y : EReal)) (ix2 i 0)) ((rowScale fun l => H (ix2 i l) : ℝ) : EReal) := by
  pointwise [val_main_v7]
  rw [mean_apply]
  exact rsqrt_coe (meanSq_pos _)

theorem norm_apply : @Eq EReal (val_main_v15 (F := Ideal) (fun y => (H y : EReal)) (fun y => (G y : EReal)) (ix2 i k))
    ((normed (fun l => H (ix2 i l)) (fun l => G (ix1 l)) k : ℝ) : EReal) := by
  pointwise [val_main_v15, val_main_v14, val_main_v13, val_main_v12, val_main_v11]
  rw [scale_apply, ← EReal.coe_mul, ← EReal.coe_mul]
  rfl

theorem hidden_apply : @Eq EReal (val_main_v16 (F := Ideal) (fun y => (H y : EReal)) (fun y => (G y : EReal)) (fun y => (W y : EReal)) (ix2 i s))
    (hiddenAt H G W i s : EReal) := by
  pointwise [val_main_v16]
  simp only [norm_apply, ← EReal.coe_mul, ← coe_sum]
  rfl

theorem relu_apply : @Eq EReal (val_main_v17 (F := Ideal) (fun y => (H y : EReal)) (fun y => (G y : EReal)) (fun y => (W y : EReal)) (ix2 i s))
    ((max (hiddenAt H G W i s) 0 : ℝ) : EReal) := by
  show max (val_main_v16 (F := Ideal) (fun y => (H y : EReal)) (fun y => (G y : EReal)) (fun y => (W y : EReal)) (ix2 i s)) (Ideal.ofBits .f32 0x00000000#32) = _
  rw [hidden_apply, zero_word, coe_max]

/-- Where the hidden entry is not positive its positive part is zero, so the selection changes nothing. -/
theorem select_slope (d : Fin 1024 → ℝ) (y : ℝ) : (if (0 : EReal) < (y : EReal) then ((slopeAt d y U s : ℝ) : EReal) else 0) = ((slopeAt d y U s : ℝ) : EReal) := by
  split
  · rfl
  · rename_i h
    have h0 : y ≤ 0 := EReal.coe_le_coe_iff.mp (not_lt.mp h)
    unfold slopeAt
    rw [max_eq_right h0, mul_zero, mul_zero, EReal.coe_zero]

theorem product_apply : @Eq EReal (val_main_v28 (F := Ideal) (fun y => (D y : EReal)) (fun y => (H y : EReal)) (fun y => (G y : EReal)) (fun y => (W y : EReal)) (fun y => (U y : EReal)) (ix2 i s))
    ((slopeAt (fun l => D (ix2 i l)) (hiddenAt H G W i s) U s : ℝ) : EReal) := by
  pointwise [val_main_v28, val_main_v27, val_main_v26, val_main_v23, val_main_v22, val_main_cst_5]
  simp only [relu_apply, two_word, ← EReal.coe_mul, ← coe_sum]
  rfl

theorem slope_apply : @Eq EReal (val_main_v30 (F := Ideal) (fun y => (D y : EReal)) (fun y => (H y : EReal)) (fun y => (G y : EReal)) (fun y => (W y : EReal)) (fun y => (U y : EReal)) (ix2 i s))
    ((slopeAt (fun l => D (ix2 i l)) (hiddenAt H G W i s) U s : ℝ) : EReal) := by
  pointwise [val_main_v30, val_main_v29, val_main_v19, val_main_v18, val_main_cst_3, val_main_cst_6]
  simp only [product_apply, hidden_apply]
  exact select_slope U s _ _

theorem back_apply : @Eq EReal (val_main_v31 (F := Ideal) (fun y => (D y : EReal)) (fun y => (H y : EReal)) (fun y => (G y : EReal)) (fun y => (W y : EReal)) (fun y => (U y : EReal)) (ix2 i k))
    (backRow D H G W U i k : EReal) := by
  pointwise [val_main_v31]
  simp only [slope_apply, ← EReal.coe_mul, ← coe_sum]
  rfl

theorem gain_apply : @Eq EReal (val_main_v84 (F := Ideal) (fun y => (D y : EReal)) (fun y => (H y : EReal)) (fun y => (G y : EReal)) (fun y => (W y : EReal)) (fun y => (U y : EReal)) (ix2 0 k))
    ((∑ i : Fin 8192, H (ix2 i k) * (rowScale fun l => H (ix2 i l)) * backRow D H G W U i k : ℝ) : EReal) := by
  pointwise [val_main_v84, val_main_v37, val_main_v34, val_main_v33, val_main_v32, val_main_v12, val_main_v11, val_main_cst_7, val_main_cst_8]
  simp only [Fin.sum_univ_one, scale_apply, back_apply, ← EReal.coe_mul, ← coe_sum]

theorem mix_apply : @Eq EReal (val_main_v48 (F := Ideal) (fun y => (D y : EReal)) (fun y => (H y : EReal)) (fun y => (G y : EReal)) (fun y => (W y : EReal)) (fun y => (U y : EReal)) (ix2 i k))
    (((∑ l, H (ix2 i l) * (backRow D H G W U i l * G (ix1 l))) * (-(1 / 2) * (rowScale (fun l => H (ix2 i l)) / meanSq fun l => H (ix2 i l))) / 1024 : ℝ) : EReal) := by
  pointwise [val_main_v48, val_main_v47, val_main_v46, val_main_v45, val_main_v44, val_main_v40, val_main_v39, val_main_v38, val_main_v36, val_main_v35, val_main_v13,
    val_main_v10, val_main_v9, val_main_v8, val_main_cst_2, val_main_cst_9, val_main_cst_10, val_main_cst_11]
  simp only [Fin.sum_univ_one, scale_apply, mean_apply, back_apply, ← EReal.coe_mul, ← coe_sum, ofBits_1024, ofBits_neg_half, div_coe _ (by norm_num : (1024 : ℝ) ≠ 0),
    div_coe _ (meanSq_pos fun l => H (ix2 i l)).ne']

theorem row_apply : @Eq EReal (val_main_v52 (F := Ideal) (fun y => (D y : EReal)) (fun y => (H y : EReal)) (fun y => (G y : EReal)) (fun y => (W y : EReal)) (fun y => (U y : EReal)) (ix2 i k))
    ((D (ix2 i k) + normGrad (fun l => H (ix2 i l)) (fun l => G (ix1 l)) (backRow D H G W U i) k : ℝ) : EReal) := by
  pointwise [val_main_v52, val_main_v51, val_main_v50, val_main_v49, val_main_v43, val_main_v42, val_main_v41, val_main_v36, val_main_v35, val_main_v13]
  simp only [mix_apply, scale_apply, back_apply, ← EReal.coe_mul, ← EReal.coe_add]
  rw [normGrad_eq, add_assoc, add_assoc, add_assoc]

/-! The stages that the reference computes a second time. -/

theorem normed_apply : @Eq EReal (val_main_v79 (F := Ideal) (fun y => (H y : EReal)) (fun y => (G y : EReal)) (ix2 i k))
    ((normed (fun l => H (ix2 i l)) (fun l => G (ix1 l)) k : ℝ) : EReal) := norm_apply H G i k

theorem act_apply : @Eq EReal (val_main_v82 (F := Ideal) (fun y => (H y : EReal)) (fun y => (G y : EReal)) (fun y => (W y : EReal)) (ix2 i s))
    ((max (hiddenAt H G W i s) 0 * max (hiddenAt H G W i s) 0 : ℝ) : EReal) :=
  (congrArg₂ (fun a b : EReal => a * b) (relu_apply H G W i s) (relu_apply H G W i s)).trans (EReal.coe_mul _ _).symm

theorem dz_apply : @Eq EReal (val_main_v83 (F := Ideal) (fun y => (D y : EReal)) (fun y => (H y : EReal)) (fun y => (G y : EReal)) (fun y => (W y : EReal)) (fun y => (U y : EReal)) (ix2 i s))
    ((slopeAt (fun l => D (ix2 i l)) (hiddenAt H G W i s) U s : ℝ) : EReal) := by
  have e : val_main_v75 (F := Ideal) (fun y => (D y : EReal)) (fun y => (U y : EReal)) = val_main_v27 (F := Ideal) (fun y => (D y : EReal)) (fun y => (U y : EReal)) := by
    unfold val_main_v75 val_main_v27 val_main_v26
    rw [shapeCast_self]
  have e' : val_main_v83 (F := Ideal) (fun y => (D y : EReal)) (fun y => (H y : EReal)) (fun y => (G y : EReal)) (fun y => (W y : EReal)) (fun y => (U y : EReal)) (ix2 i s)
      = val_main_v30 (F := Ideal) (fun y => (D y : EReal)) (fun y => (H y : EReal)) (fun y => (G y : EReal)) (fun y => (W y : EReal)) (fun y => (U y : EReal)) (ix2 i s) := by
    show val_main_v78 (F := Ideal) _ _ _ _ _ _ = _
    unfold val_main_v78 val_main_v30 val_main_v76 val_main_v28
    rw [e]
    rfl
  exact e'.trans (slope_apply D H G W U i s)

end Cert.MlpBwdRefIdeal.Stages

end
-- ==== Proof.MlpClaim.lean ====
/-
  The squared-ReLU layer's gradient: the kernel and the derivative of the forward lines end with equal results.
-/
module

public import proofs.«01_k».proof.Defs
public import proofs.«01_k».proof.Proof.MlpBwdRef
public import proofs.«01_k».proof.Proof.Gen.MlpBwdRefIdeal.Run
public import proofs.«01_k».proof.Proof.Gen.Pre_mlp_finite
public import Idealize.ShloMosaic.Lib.Quiescent

@[expose] public section

set_option maxRecDepth 16384

noncomputable section

namespace Cert.MlpClaim

open Idealize.ShloMosaic Idealize.ShloMosaic.TcCoe Idealize.SL.Sem Cert.Reals
open Cert.MlpBwdIdeal (nD τ sig main_arg0 main_arg1 main_arg2 main_arg3 main_arg4)
open Cert.MlpBwdIdeal.Block (Args gainTerm)

/-- The precondition, read: the five arrays hold reals. -/
theorem reals (m : (ℓ : Loc nD τ sig) → Buf (Elt Ideal) ℓ) (hpre : Cert.Pre_MlpBwdIdeal_mlp_finite m) (c : Dev nD) :
    ∃ D H G W U, Args m c D H G W U :=
  ⟨fun i => EReal.toReal (m (c.tc.loc main_arg0) i), fun i => EReal.toReal (m (c.tc.loc main_arg1) i), fun i => EReal.toReal (m (c.tc.loc main_arg2) i),
    fun i => EReal.toReal (m (c.tc.loc main_arg3) i), fun i => EReal.toReal (m (c.tc.loc main_arg4) i),
    funext fun i => (coe_toReal (congrFun (hpre c).1 i)).symm, funext fun i => (coe_toReal (congrFun (hpre c).2.1 i)).symm,
    funext fun i => (coe_toReal (congrFun (hpre c).2.2.1 i)).symm, funext fun i => (coe_toReal (congrFun (hpre c).2.2.2.1 i)).symm,
    funext fun i => (coe_toReal (congrFun (hpre c).2.2.2.2 i)).symm⟩

theorem frame_ref : Cert.quiescent_MlpBwdRefIdeal := fun m ρ _ =>
  (θ_run Cert.MlpBwdRefIdeal.defs _ _).mono (fun r h => ⟨fun c => (h c).2.2.2.2.2, sem_eq_zero_of_no_sems (by decide) r.2⟩)
    (Cert.MlpBwdRefIdeal.Value.run m ρ)

theorem algebraic : Cert.algebraic_MlpBwdIdeal_MlpBwdRefIdeal_pre_mlp_finite := fun m ρ m' ρ' hpre hag =>
  ⟨fun c => Cert.MlpBwdIdeal.Value.G6 m c, fun c => Cert.MlpBwdIdeal.Value.G7 m c, fun c => Cert.MlpBwdIdeal.Value.G8 m c, fun c => Cert.MlpBwdIdeal.Value.G9 m c,
    fun c => Cert.MlpBwdIdeal.Value.G10 m c, Cert.MlpBwdIdeal.Value.run m ρ,
    (θ_run _ _ _).mono (fun _ h c => by
      obtain ⟨D, H, G, W, U, I⟩ := reals m hpre c
      obtain ⟨a0, a1, a2, a3, a4⟩ := hag c
      refine ⟨(h c).1.trans ?_, (h c).2.1.trans ?_, (h c).2.2.1.trans ?_, (h c).2.2.2.1.trans ?_, (h c).2.2.2.2.1.trans ?_, (h c).2.2.2.2.2⟩
      · rw [Cert.MlpBwdRefIdeal.Read.val_main_v52_eq, a0, a1, a2, a3, a4, I.d, I.h, I.g, I.w, I.u]
        refine funext fun (i : Cert.MlpBwdIdeal.S8192x1024.Idx) => ?_
        rw [eq_ix2 i]
        exact (Cert.MlpBwdRefIdeal.Stages.row_apply D H G W U _ _).trans (Cert.MlpBwdIdeal.Block.G6_eq I _ _).symm
      · rw [Cert.MlpBwdRefIdeal.Read.val_main_v79_eq, a1, a2, I.h, I.g]
        refine funext fun (i : Cert.MlpBwdIdeal.S8192x1024.Idx) => ?_
        rw [eq_ix2 i]
        exact (Cert.MlpBwdRefIdeal.Stages.normed_apply H G _ _).trans (Cert.MlpBwdIdeal.Block.G7_eq I _ _).symm
      · rw [Cert.MlpBwdRefIdeal.Read.val_main_v82_eq, a1, a2, a3, I.h, I.g, I.w]
        refine funext fun (i : Cert.MlpBwdIdeal.S8192x4096.Idx) => ?_
        rw [eq_ix2 i]
        exact (Cert.MlpBwdRefIdeal.Stages.act_apply H G W _ _).trans (Cert.MlpBwdIdeal.Block.G8_eq I _ _).symm
      · rw [Cert.MlpBwdRefIdeal.Read.val_main_v83_eq, a0, a1, a2, a3, a4, I.d, I.h, I.g, I.w, I.u]
        refine funext fun (i : Cert.MlpBwdIdeal.S8192x4096.Idx) => ?_
        rw [eq_ix2 i]
        exact (Cert.MlpBwdRefIdeal.Stages.dz_apply D H G W U _ _).trans (Cert.MlpBwdIdeal.Block.G9_eq I _ _).symm
      · rw [Cert.MlpBwdRefIdeal.Read.val_main_v84_eq, a0, a1, a2, a3, a4, I.d, I.h, I.g, I.w, I.u]
        refine funext fun (i : Cert.MlpBwdIdeal.S1x1024.Idx) => ?_
        rw [eq_ix2 i, show i 0 = (0 : Fin 1) from Subsingleton.elim (α := Fin 1) _ _]
        refine (Cert.MlpBwdRefIdeal.Stages.gain_apply D H G W U _).trans (Eq.trans ?_ (Cert.MlpBwdIdeal.Block.G10_eq I _).symm)
        exact congrArg _ (Finset.sum_congr rfl fun i _ => mul_comm _ _))
    (Cert.MlpBwdRefIdeal.Value.run m' ρ')⟩

end Cert.MlpClaim

end
-- ==== Proof.KvfPoint.lean ====
module

public import proofs.«01_k».proof.Proof.Gen.KvfBwdIdeal.Launch
public import proofs.«01_k».proof.Proof.Gen.KvfBwdIdeal.Skeleton
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.VecWindow

/-! One grid point of the gradient of the key, value and forget-gate projections: what it leaves in its outputs and
    what it carries on, as plain functions of the operand tiles and of what was carried in. -/

@[expose] public section

set_option maxRecDepth 16384

noncomputable section

namespace Cert.KvfBwdIdeal.Kvf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KvfBwdIdeal.Gen

variable {F : FTy → Type} [FloatOps F] [Named F]

local notation "𝕄" => MT nD τ sig Unit (Elt F) ℕ (UR sig nD τ) ℕ

/-- The operand tiles of one point: the incoming cotangent, the layer input, the two parts of the key, value and query cotangents, the gate logits, the gain, the three weights and the two selections. -/
structure Tiles (F : FTy → Type) where
  dh : Vec F S256x1024 .f32
  h : Vec F S256x1024 .f32
  dk1 : Vec F S256x2048 .f32
  dk2 : Vec F S256x2048 .f32
  dv1 : Vec F S256x1024 .f32
  dv2 : Vec F S256x1024 .f32
  dq1 : Vec F S256x2048 .f32
  dq2 : Vec F S256x2048 .f32
  fl : Vec F S256x128 .f32
  g : Vec F S1x1024 .f32
  wk : Vec F S1024x2048 .bf16
  wv : Vec F S1024x1024 .bf16
  wf : Vec F S1024x128 .bf16
  sq : Vec F S2048x128 .bf16
  sk : Vec F S2048x128 .bf16

/-- The five outputs of a point: the input gradient, the normalised rows, the key and value cotangents, the gate gradient. -/
structure Outs (F : FTy → Type) where
  o : Vec F S256x1024 .f32
  hk : Vec F S256x1024 .bf16
  dk : Vec F S256x2048 .bf16
  dv : Vec F S256x1024 .bf16
  df : Vec F S256x128 .bf16

/-- What one point hands to the next: the sums for the gain and for the bias, and the running sum of the gate. -/
structure Carried (F : FTy → Type) where
  acc : Vec F S8x1024 .f32
  bacc : Vec F S8x128 .f32
  carry : Vec F S8x128 .f32

/-- What is carried before the first point: nothing yet. -/
def Carried.zero : Carried F := ⟨k0_pay6, k0_pay7, k0_pay8⟩

/-- The running sums a point starts from: the first of the eight equal rows. -/
def Carried.row (s : Carried F) : Vec F S1x128 .f32 := View.ld s.carry (Rect.unit (s := S8x128) ![0, 0] S1x128.size inb_S8x128_S1x128_0_0)

namespace Tiles

variable (x : Tiles F) (s : Carried F)

/-- The gradient of the gate's logits at this point's rows. -/
def gates : FVec F S256x128 .bf16 :=
  k0_pay20 (k0_pay10 x.dq1 x.dq2 x.sq) (k0_pay11 x.sk) (k0_pay15 x.dk1 x.dk2) (k0_pay16 x.dk1 x.dk2 x.sk) s.row x.fl

/-- What is carried on. -/
def next : Carried F where
  acc := k0_pay3 (x.gates s) (k0_pay24 x.dv1 x.dv2) (k0_pay27 x.h) (k0_pay29 (k0_pay9 x.dk1 x.dk2) x.wk) x.wv x.wf s.acc
  bacc := k0_pay22 (k0_pay21 (k0_pay10 x.dq1 x.dq2 x.sq) (k0_pay11 x.sk) (k0_pay15 x.dk1 x.dk2) (k0_pay16 x.dk1 x.dk2 x.sk) s.row x.fl s.bacc)
  carry := k0_pay18 (k0_pay10 x.dq1 x.dq2 x.sq) (k0_pay11 x.sk) (k0_pay15 x.dk1 x.dk2) (k0_pay16 x.dk1 x.dk2 x.sk) s.row

/-- The five outputs' tiles. -/
def outs : Outs F where
  o := k0_pay2 (x.gates s) (k0_pay24 x.dv1 x.dv2) (k0_pay25 x.g) (k0_pay26 x.h) (k0_pay27 x.h) (k0_pay29 (k0_pay9 x.dk1 x.dk2) x.wk) x.wv x.wf x.dh
  hk := k0_pay28 x.g x.h
  dk := k0_pay23 (k0_pay9 x.dk1 x.dk2)
  dv := k0_pay24 x.dv1 x.dv2
  df := x.gates s

end Tiles

/-- The first of the eight rows of the cleared running sums. -/
theorem row_zero (a : Memref sig .tc .vmem S8x128 .f32) (L : List (View.Piece (Elt F) S8x128 .f32)) :
    (a.view.readCov (⟨Rect.unit ![0, 0] ![8, 128] inb_S8x128_S8x128_0_0, k0_pay8⟩ :: L)
      (Rect.unit ![0, 0] ![1, 128] inb_S8x128_S1x128_0_0).toLoadRect) = (Carried.zero (F := F)).row := by
  show View.readAt (Elt F) a.view (Rect.unit ![0, 0] ![1, 128] inb_S8x128_S1x128_0_0).toLoadRect (a.view.writes (Elt F) _ _) = _
  rw [View.readAt_eq_ld]
  refine (congrArg (fun z => View.ld z (Rect.unit (s := S8x128) ![0, 0] ![1, 128] inb_S8x128_S1x128_0_0)) (View.read_writes_full ..)).trans rfl

theorem hz2 : (![0, 0] : Fin 2 → ℕ) = fun _ => 0 := by funext a; fin_cases a <;> rfl

/-- The operand tiles held by a point's buffers. -/
def holds (c : Dev nD) (a1 : Memref sig .tc .vmem S256x1024 .f32) (a2 : Memref sig .tc .vmem S256x1024 .f32) (a3 : Memref sig .tc .vmem S256x2048 .f32) (a4 : Memref sig .tc .vmem S256x2048 .f32) (a5 : Memref sig .tc .vmem S256x1024 .f32) (a6 : Memref sig .tc .vmem S256x1024 .f32) (a7 : Memref sig .tc .vmem S256x2048 .f32) (a8 : Memref sig .tc .vmem S256x2048 .f32) (a9 : Memref sig .tc .vmem S256x128 .f32) (a10 : Memref sig .tc .vmem S1x1024 .f32) (a11 : Memref sig .tc .vmem S1024x2048 .bf16) (a12 : Memref sig .tc .vmem S1024x1024 .bf16) (a13 : Memref sig .tc .vmem S1024x128 .bf16) (a14 : Memref sig .tc .vmem S2048x128 .bf16) (a15 : Memref sig .tc .vmem S2048x128 .bf16) (x : Tiles F) : sProp 𝕄 :=
  iprop(owns (c : Thread nD τ) a1 fullShare x.dh ∗ owns (c : Thread nD τ) a2 fullShare x.h ∗ owns (c : Thread nD τ) a3 fullShare x.dk1 ∗ owns (c : Thread nD τ) a4 fullShare x.dk2 ∗ owns (c : Thread nD τ) a5 fullShare x.dv1 ∗ owns (c : Thread nD τ) a6 fullShare x.dv2 ∗ owns (c : Thread nD τ) a7 fullShare x.dq1 ∗ owns (c : Thread nD τ) a8 fullShare x.dq2 ∗ owns (c : Thread nD τ) a9 fullShare x.fl ∗ owns (c : Thread nD τ) a10 fullShare x.g ∗ owns (c : Thread nD τ) a11 fullShare x.wk ∗ owns (c : Thread nD τ) a12 fullShare x.wv ∗ owns (c : Thread nD τ) a13 fullShare x.wf ∗ owns (c : Thread nD τ) a14 fullShare x.sq ∗ owns (c : Thread nD τ) a15 fullShare x.sk)

/-- The five outputs held by a point's buffers. -/
def leaves (c : Dev nD) (a16 : Memref sig .tc .vmem S256x1024 .f32) (a17 : Memref sig .tc .vmem S256x1024 .bf16) (a18 : Memref sig .tc .vmem S256x2048 .bf16) (a19 : Memref sig .tc .vmem S256x1024 .bf16) (a20 : Memref sig .tc .vmem S256x128 .bf16) (y : Outs F) : sProp 𝕄 :=
  iprop(owns (c : Thread nD τ) a16 fullShare y.o ∗ owns (c : Thread nD τ) a17 fullShare y.hk ∗ owns (c : Thread nD τ) a18 fullShare y.dk ∗ owns (c : Thread nD τ) a19 fullShare y.dv ∗ owns (c : Thread nD τ) a20 fullShare y.df)

/-- The three carried buffers. -/
def carries (c : Dev nD) (a23 : Memref sig .tc .vmem S8x1024 .f32) (a24 : Memref sig .tc .vmem S8x128 .f32) (a25 : Memref sig .tc .vmem S8x128 .f32) (s : Carried F) : sProp 𝕄 :=
  iprop(owns (c : Thread nD τ) a23 fullShare s.acc ∗ owns (c : Thread nD τ) a24 fullShare s.bacc ∗ owns (c : Thread nD τ) a25 fullShare s.carry)

/-- The point is the first. -/
abbrev cond0 (i : grid0.Coords) : Prop := (Scalar.cmpi .ne (Scalar.extui (Scalar.cmpi .eq (BitVec.ofNat 32 (i 0).val) 0#32)) 0#32) = 1#1

variable (c : Dev nD) (i : grid0.Coords) (a1 : Memref sig .tc .vmem S256x1024 .f32) (h1 : a1.IsWhole) (a2 : Memref sig .tc .vmem S256x1024 .f32) (h2 : a2.IsWhole) (a3 : Memref sig .tc .vmem S256x2048 .f32) (h3 : a3.IsWhole) (a4 : Memref sig .tc .vmem S256x2048 .f32) (h4 : a4.IsWhole) (a5 : Memref sig .tc .vmem S256x1024 .f32) (h5 : a5.IsWhole) (a6 : Memref sig .tc .vmem S256x1024 .f32) (h6 : a6.IsWhole) (a7 : Memref sig .tc .vmem S256x2048 .f32) (h7 : a7.IsWhole) (a8 : Memref sig .tc .vmem S256x2048 .f32) (h8 : a8.IsWhole) (a9 : Memref sig .tc .vmem S256x128 .f32) (h9 : a9.IsWhole) (a10 : Memref sig .tc .vmem S1x1024 .f32) (h10 : a10.IsWhole) (a11 : Memref sig .tc .vmem S1024x2048 .bf16) (h11 : a11.IsWhole) (a12 : Memref sig .tc .vmem S1024x1024 .bf16) (h12 : a12.IsWhole) (a13 : Memref sig .tc .vmem S1024x128 .bf16) (h13 : a13.IsWhole) (a14 : Memref sig .tc .vmem S2048x128 .bf16) (h14 : a14.IsWhole) (a15 : Memref sig .tc .vmem S2048x128 .bf16) (h15 : a15.IsWhole) (a16 : Memref sig .tc .vmem S256x1024 .f32) (h16 : a16.IsWhole) (a17 : Memref sig .tc .vmem S256x1024 .bf16) (h17 : a17.IsWhole) (a18 : Memref sig .tc .vmem S256x2048 .bf16) (h18 : a18.IsWhole) (a19 : Memref sig .tc .vmem S256x1024 .bf16) (h19 : a19.IsWhole) (a20 : Memref sig .tc .vmem S256x128 .bf16) (h20 : a20.IsWhole) (a21 : Memref sig .tc .vmem S1x1024 .f32) (h21 : a21.IsWhole) (a22 : Memref sig .tc .vmem S1x128 .f32) (h22 : a22.IsWhole) (a23 : Memref sig .tc .vmem S8x1024 .f32) (h23 : a23.IsWhole) (a24 : Memref sig .tc .vmem S8x128 .f32) (h24 : a24.IsWhole) (a25 : Memref sig .tc .vmem S8x128 .f32) (h25 : a25.IsWhole)
  (x : Tiles F)

set_option maxHeartbeats 4000000 in
/-- The first point: the carried buffers are cleared first. -/
theorem pointA (h0 : cond0 i) (hl : ¬k0_cond2 i = 1#1) (E : Set ℕ) (K : PUnit → sProp 𝕄) :
    iprop(holds c a1 a2 a3 a4 a5 a6 a7 a8 a9 a10 a11 a12 a13 a14 a15 x ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a23 fullShare d) ∗ (∃ d, owns (c : Thread nD τ) a24 fullShare d) ∗ (∃ d, owns (c : Thread nD τ) a25 fullShare d)
        ∗ (iprop(holds c a1 a2 a3 a4 a5 a6 a7 a8 a9 a10 a11 a12 a13 a14 a15 x ∗ leaves c a16 a17 a18 a19 a20 (x.outs Carried.zero) ∗ carries c a23 a24 a25 (x.next Carried.zero)) -∗ K ⟨⟩))
      ⊢ wp frame (wpE (defs₀ (F := F)) Variants.none c none) E (cc0_kvf_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) K := by
  unfold holds leaves carries
  simp only [cc0_kvf_bwd_eq_skeleton]; unfold cc0_kvf_bwd_skel
  simp only [k0_part1_eq_skeleton, k0_part2_eq_skeleton, k0_part3_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨%d16, %f16, -, H16⟩, ⟨%d17, %f17, -, H17⟩, ⟨%d18, %f18, -, H18⟩, ⟨%d19, %f19, -, H19⟩, ⟨%d20, %f20, -, H20⟩, ⟨%d23, %f23, -, H23⟩, ⟨%d24, %f24, -, H24⟩, ⟨%d25, %f25, -, H25⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact h0 | sl_exact hl)
  sl_step
  iapply Hk
  isplitl [H1 H2 H3 H4 H5 H6 H7 H8 H9 H10 H11 H12 H13 H14 H15]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H8]
    · iexists _; isplitr; swap; · iexact H8
      ipureintro; exact h8.read_unread _
    isplitl [H9]
    · iexists _; isplitr; swap; · iexact H9
      ipureintro; exact h9.read_unread _
    isplitl [H10]
    · iexists _; isplitr; swap; · iexact H10
      ipureintro; exact h10.read_unread _
    isplitl [H11]
    · iexists _; isplitr; swap; · iexact H11
      ipureintro; exact h11.read_unread _
    isplitl [H12]
    · iexists _; isplitr; swap; · iexact H12
      ipureintro; exact h12.read_unread _
    isplitl [H13]
    · iexists _; isplitr; swap; · iexact H13
      ipureintro; exact h13.read_unread _
    isplitl [H14]
    · iexists _; isplitr; swap; · iexact H14
      ipureintro; exact h14.read_unread _
    iexists _; isplitr; swap; · iexact H15
    ipureintro; exact h15.read_unread _
  isplitl [H16 H17 H18 H19 H20]
  · isplitl [H16]
    · iexists _; isplitr; swap; · iexact H16
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H17]
    · iexists _; isplitr; swap; · iexact H17
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H18]
    · iexists _; isplitr; swap; · iexact H18
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H19]
    · iexists _; isplitr; swap; · iexact H19
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    iexists _; isplitr; swap; · iexact H20
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H23]
  · iexists _; isplitr; swap; · iexact H23
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H24]
  · iexists _; isplitr; swap; · iexact H24
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  iexists _; isplitr; swap; · iexact H25
  ipureintro
  (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)

set_option maxHeartbeats 4000000 in
/-- A point in the middle. -/
theorem pointB (h0 : ¬cond0 i) (hl : ¬k0_cond2 i = 1#1) (s : Carried F) (E : Set ℕ) (K : PUnit → sProp 𝕄) :
    iprop(holds c a1 a2 a3 a4 a5 a6 a7 a8 a9 a10 a11 a12 a13 a14 a15 x ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ carries c a23 a24 a25 s
        ∗ (iprop(holds c a1 a2 a3 a4 a5 a6 a7 a8 a9 a10 a11 a12 a13 a14 a15 x ∗ leaves c a16 a17 a18 a19 a20 (x.outs s) ∗ carries c a23 a24 a25 (x.next s)) -∗ K ⟨⟩))
      ⊢ wp frame (wpE (defs₀ (F := F)) Variants.none c none) E (cc0_kvf_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) K := by
  unfold holds leaves carries
  simp only [cc0_kvf_bwd_eq_skeleton]; unfold cc0_kvf_bwd_skel
  simp only [k0_part1_eq_skeleton, k0_part2_eq_skeleton, k0_part3_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨%d16, %f16, -, H16⟩, ⟨%d17, %f17, -, H17⟩, ⟨%d18, %f18, -, H18⟩, ⟨%d19, %f19, -, H19⟩, ⟨%d20, %f20, -, H20⟩, ⟨⟨%f23, %e23, H23⟩, ⟨%f24, %e24, H24⟩, ⟨%f25, %e25, H25⟩⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h23.eq_unread e23; obtain rfl := h24.eq_unread e24; obtain rfl := h25.eq_unread e25
  sl_exec (disch := first | sl_exact h0 | sl_exact hl)
  sl_step
  iapply Hk
  isplitl [H1 H2 H3 H4 H5 H6 H7 H8 H9 H10 H11 H12 H13 H14 H15]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H8]
    · iexists _; isplitr; swap; · iexact H8
      ipureintro; exact h8.read_unread _
    isplitl [H9]
    · iexists _; isplitr; swap; · iexact H9
      ipureintro; exact h9.read_unread _
    isplitl [H10]
    · iexists _; isplitr; swap; · iexact H10
      ipureintro; exact h10.read_unread _
    isplitl [H11]
    · iexists _; isplitr; swap; · iexact H11
      ipureintro; exact h11.read_unread _
    isplitl [H12]
    · iexists _; isplitr; swap; · iexact H12
      ipureintro; exact h12.read_unread _
    isplitl [H13]
    · iexists _; isplitr; swap; · iexact H13
      ipureintro; exact h13.read_unread _
    isplitl [H14]
    · iexists _; isplitr; swap; · iexact H14
      ipureintro; exact h14.read_unread _
    iexists _; isplitr; swap; · iexact H15
    ipureintro; exact h15.read_unread _
  isplitl [H16 H17 H18 H19 H20]
  · isplitl [H16]
    · iexists _; isplitr; swap; · iexact H16
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H17]
    · iexists _; isplitr; swap; · iexact H17
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H18]
    · iexists _; isplitr; swap; · iexact H18
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H19]
    · iexists _; isplitr; swap; · iexact H19
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    iexists _; isplitr; swap; · iexact H20
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H23]
  · iexists _; isplitr; swap; · iexact H23
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H24]
  · iexists _; isplitr; swap; · iexact H24
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  iexists _; isplitr; swap; · iexact H25
  ipureintro
  (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)

set_option maxHeartbeats 4000000 in
/-- The last point: the two sums are written out. -/
theorem pointC (h0 : ¬cond0 i) (hl : k0_cond2 i = 1#1) (s : Carried F) (E : Set ℕ) (K : PUnit → sProp 𝕄) :
    iprop(holds c a1 a2 a3 a4 a5 a6 a7 a8 a9 a10 a11 a12 a13 a14 a15 x ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ carries c a23 a24 a25 s
        ∗ (iprop(holds c a1 a2 a3 a4 a5 a6 a7 a8 a9 a10 a11 a12 a13 a14 a15 x ∗ leaves c a16 a17 a18 a19 a20 (x.outs s) ∗ owns (c : Thread nD τ) a21 fullShare (k0_pay4 (x.next s).acc) ∗ owns (c : Thread nD τ) a22 fullShare (k0_pay5 (x.next s).bacc) ∗ carries c a23 a24 a25 (x.next s)) -∗ K ⟨⟩))
      ⊢ wp frame (wpE (defs₀ (F := F)) Variants.none c none) E (cc0_kvf_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) K := by
  unfold holds leaves carries
  simp only [cc0_kvf_bwd_eq_skeleton]; unfold cc0_kvf_bwd_skel
  simp only [k0_part1_eq_skeleton, k0_part2_eq_skeleton, k0_part3_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨⟨%f23, %e23, H23⟩, ⟨%f24, %e24, H24⟩, ⟨%f25, %e25, H25⟩⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h23.eq_unread e23; obtain rfl := h24.eq_unread e24; obtain rfl := h25.eq_unread e25
  sl_exec (disch := first | sl_exact h0 | sl_exact hl)
  sl_step
  iapply Hk
  isplitl [H1 H2 H3 H4 H5 H6 H7 H8 H9 H10 H11 H12 H13 H14 H15]
  · isplitl [H1]
    · iexists _; isplitr; swap; · iexact H1
      ipureintro; exact h1.read_unread _
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H8]
    · iexists _; isplitr; swap; · iexact H8
      ipureintro; exact h8.read_unread _
    isplitl [H9]
    · iexists _; isplitr; swap; · iexact H9
      ipureintro; exact h9.read_unread _
    isplitl [H10]
    · iexists _; isplitr; swap; · iexact H10
      ipureintro; exact h10.read_unread _
    isplitl [H11]
    · iexists _; isplitr; swap; · iexact H11
      ipureintro; exact h11.read_unread _
    isplitl [H12]
    · iexists _; isplitr; swap; · iexact H12
      ipureintro; exact h12.read_unread _
    isplitl [H13]
    · iexists _; isplitr; swap; · iexact H13
      ipureintro; exact h13.read_unread _
    isplitl [H14]
    · iexists _; isplitr; swap; · iexact H14
      ipureintro; exact h14.read_unread _
    iexists _; isplitr; swap; · iexact H15
    ipureintro; exact h15.read_unread _
  isplitl [H16 H17 H18 H19 H20]
  · isplitl [H16]
    · iexists _; isplitr; swap; · iexact H16
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H17]
    · iexists _; isplitr; swap; · iexact H17
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H18]
    · iexists _; isplitr; swap; · iexact H18
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    isplitl [H19]
    · iexists _; isplitr; swap; · iexact H19
      ipureintro
      (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
    iexists _; isplitr; swap; · iexact H20
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H21]
  · iexists _; isplitr; swap; · iexact H21
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H22]
  · iexists _; isplitr; swap; · iexact H22
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H23]
  · iexists _; isplitr; swap; · iexact H23
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  isplitl [H24]
  · iexists _; isplitr; swap; · iexact H24
    ipureintro
    (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)
  iexists _; isplitr; swap; · iexact H25
  ipureintro
  (try dsimp only); sl_unfold_words; simp only [View.readAt_eq_ld, Memref.IsWhole.read_unread, View.ld_unit_zero (S := S256x1024) hz2, View.ld_unit_zero (S := S256x2048) hz2, View.ld_unit_zero (S := S256x128) hz2, View.ld_unit_zero (S := S1x1024) hz2, View.ld_unit_zero (S := S1024x2048) hz2, View.ld_unit_zero (S := S1024x1024) hz2, View.ld_unit_zero (S := S1024x128) hz2, View.ld_unit_zero (S := S2048x128) hz2, View.ld_unit_zero (S := S8x1024) hz2, View.ld_unit_zero (S := S8x128) hz2, read_unread_whole]; (try rw [row_zero]); (try rw [View.readCov_full]); first | exact View.read_writes_full _ _ _ _ _ | (rw [View.read_writes_full]; rfl)

end Cert.KvfBwdIdeal.Kvf

end
-- ==== Proof.KvfFrame.lean ====
module

public import proofs.«01_k».proof.Proof.KvfPoint
public import proofs.«01_k».proof.Proof.Gen.KvfBwdIdeal.Frame.Runs
public import Idealize.ShloMosaic.Lib.Claim

/-! The call of the key, value and gate gradient as a whole: what is carried from point to point, and the run. -/

@[expose] public section

set_option maxRecDepth 16384

noncomputable section

namespace Cert.KvfBwdIdeal.Kvf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvfBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The operand tiles of point `t`. -/
def tilesAt (c : Dev nD) (t : Fin cfg0.N) : Tiles F where
  dh := iblk m c 0 t
  h := iblk m c 1 t
  dk1 := iblk m c 2 t
  dk2 := iblk m c 3 t
  dv1 := iblk m c 4 t
  dv2 := iblk m c 5 t
  dq1 := iblk m c 6 t
  dq2 := iblk m c 7 t
  fl := iblk m c 8 t
  g := iblk m c 9 t
  wk := iblk m c 10 t
  wv := iblk m c 11 t
  wf := iblk m c 12 t
  sq := iblk m c 13 t
  sk := iblk m c 14 t

/-- What the points before point `n` have carried to it. -/
def carriedAt (c : Dev nD) : ℕ → Carried F
  | 0 => Carried.zero
  | n + 1 => if h : n < cfg0.N then (tilesAt m c ⟨n, h⟩).next (carriedAt c n) else carriedAt c n

theorem carriedAt_succ (c : Dev nD) (t : Fin cfg0.N) : carriedAt m c (t.val + 1) = (tilesAt m c t).next (carriedAt m c t.val) := by
  show (if h : t.val < cfg0.N then _ else _) = _
  rw [dif_pos t.isLt]

/-- Before the first point the carried buffers hold anything; afterwards they hold what is carried. -/
def inv (c : Dev nD) (n : ℕ) : sProp 𝕄 :=
  if n = 0 then Pipeline.ΦA spec0 c else iprop(carries c scM0_0 scM0_1 scM0_2 (carriedAt m c n) ∗ (∃ r, prngReg c r))

theorem inv_zero (c : Dev nD) {n : ℕ} (h : n = 0) : inv m c n = Pipeline.ΦA spec0 c := if_pos h
theorem inv_pos (c : Dev nD) {n : ℕ} (h : n ≠ 0) : inv m c n = iprop(carries c scM0_0 scM0_1 scM0_2 (carriedAt m c n) ∗ (∃ r, prngReg c r)) := if_neg h

/-- The proof data: the operands stay, the outputs hold what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => ((tilesAt m c t).outs (carriedAt m c t.val)).o
    | ⟨16, _⟩ => ((tilesAt m c t).outs (carriedAt m c t.val)).hk
    | ⟨17, _⟩ => ((tilesAt m c t).outs (carriedAt m c t.val)).dk
    | ⟨18, _⟩ => ((tilesAt m c t).outs (carriedAt m c t.val)).dv
    | ⟨19, _⟩ => ((tilesAt m c t).outs (carriedAt m c t.val)).df
    | ⟨20, _⟩ => k0_pay4 (carriedAt m c (t.val + 1)).acc
    | ⟨21, _⟩ => k0_pay5 (carriedAt m c (t.val + 1)).bacc
    | ⟨_ + 22, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = ((tilesAt m c t).outs (carriedAt m c t.val)).o := by dsimp only [dats]
theorem after16 (c : Dev nD) (t : Fin cfg0.N) : (dats m 0 c).after 16 t = ((tilesAt m c t).outs (carriedAt m c t.val)).hk := by dsimp only [dats]
theorem after17 (c : Dev nD) (t : Fin cfg0.N) : (dats m 0 c).after 17 t = ((tilesAt m c t).outs (carriedAt m c t.val)).dk := by dsimp only [dats]
theorem after18 (c : Dev nD) (t : Fin cfg0.N) : (dats m 0 c).after 18 t = ((tilesAt m c t).outs (carriedAt m c t.val)).dv := by dsimp only [dats]
theorem after19 (c : Dev nD) (t : Fin cfg0.N) : (dats m 0 c).after 19 t = ((tilesAt m c t).outs (carriedAt m c t.val)).df := by dsimp only [dats]
theorem after20 (c : Dev nD) (t : Fin cfg0.N) : (dats m 0 c).after 20 t = k0_pay4 (carriedAt m c (t.val + 1)).acc := by dsimp only [dats]
theorem after21 (c : Dev nD) (t : Fin cfg0.N) : (dats m 0 c).after 21 t = k0_pay5 (carriedAt m c (t.val + 1)).bacc := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- The operands' buffers at point `t`. -/
def operands (c : Dev nD) (t : Fin cfg0.N) : sProp 𝕄 :=
  holds c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (tilesAt m c t)

set_option maxHeartbeats 8000000 in
theorem operands_eq (c : Dev nD) (t : Fin cfg0.N) : operands m c t = iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t)) := by
  unfold operands holds
  dsimp only [tilesAt]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

/-- A window that every point uses holds at the end what the proof data say. -/
theorem exact_of_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 8000000 in
/-- The first point. -/
theorem soundA (c : Dev nD) (t : Fin cfg0.N) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before0, before1, before2, before3, before4, before5, before6, before7, before8, before9, before10, before11, before12, before13, before14]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (Nat.succ_ne_zero t.val), inv_zero m c (show t.val = 0 by omega), PhiA0_eq, carriedAt_succ]
  rw [exact_of_live m c 0 t (liveAt0_0 t), after0,
    exact_of_live m c 1 t (liveAt0_1 t), after1,
    exact_of_live m c 2 t (liveAt0_2 t), after2,
    exact_of_live m c 3 t (liveAt0_3 t), after3,
    exact_of_live m c 4 t (liveAt0_4 t), after4,
    exact_of_live m c 5 t (liveAt0_5 t), after5,
    exact_of_live m c 6 t (liveAt0_6 t), after6,
    exact_of_live m c 7 t (liveAt0_7 t), after7,
    exact_of_live m c 8 t (liveAt0_8 t), after8,
    exact_of_live m c 9 t (liveAt0_9 t), after9,
    exact_of_live m c 10 t (liveAt0_10 t), after10,
    exact_of_live m c 11 t (liveAt0_11 t), after11,
    exact_of_live m c 12 t (liveAt0_12 t), after12,
    exact_of_live m c 13 t (liveAt0_13 t), after13,
    exact_of_live m c 14 t (liveAt0_14 t), after14,
    exact_of_live m c 15 t (liveAt0_15 t), after15,
    exact_of_live m c 16 t (liveAt0_16 t), after16,
    exact_of_live m c 17 t (liveAt0_17 t), after17,
    exact_of_live m c 18 t (liveAt0_18 t), after18,
    exact_of_live m c 19 t (liveAt0_19 t), after19]
  rw [Dat.leavesExact_idle (dats m 0 c) 20 t (idleAt0_20_A t ((hcond0_0 t).mpr h0) (fun h => h1 ((hcond0_1 t).mp h))) (noFlush0_20_A t ((hcond0_0 t).mpr h0) (fun h => h1 ((hcond0_1 t).mp h))),
    Dat.leavesExact_idle (dats m 0 c) 21 t (idleAt0_21_A t ((hcond0_0 t).mpr h0) (fun h => h1 ((hcond0_1 t).mp h))) (noFlush0_21_A t ((hcond0_0 t).mpr h0) (fun h => h1 ((hcond0_1 t).mp h)))]
  rw [show carriedAt m c t.val = Carried.zero by rw [show t.val = 0 by omega]; rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (tilesAt m c t) ((hcond0_0 t).mpr h0) (fun h => h1 ((hcond0_1 t).mp h)) Set.univ _)
  isplitl [H0 H1 H2 H3 H4 H5 H6 H7 H8 H9 H10 H11 H12 H13 H14]
  · rw [← operands, operands_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  rw [← operands, operands_eq]
  unfold leaves
  iintro ⟨⟨H0, H1, H2, H3, H4, H5, H6, H7, H8, H9, H10, H11, H12, H13, H14⟩, ⟨H15, H16, H17, H18, H19⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iexists _; iexact H21

set_option maxHeartbeats 8000000 in
/-- A point in the middle. -/
theorem soundB (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before0, before1, before2, before3, before4, before5, before6, before7, before8, before9, before10, before11, before12, before13, before14]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (Nat.succ_ne_zero t.val), inv_pos m c (show t.val ≠ 0 by omega), carriedAt_succ]
  rw [exact_of_live m c 0 t (liveAt0_0 t), after0,
    exact_of_live m c 1 t (liveAt0_1 t), after1,
    exact_of_live m c 2 t (liveAt0_2 t), after2,
    exact_of_live m c 3 t (liveAt0_3 t), after3,
    exact_of_live m c 4 t (liveAt0_4 t), after4,
    exact_of_live m c 5 t (liveAt0_5 t), after5,
    exact_of_live m c 6 t (liveAt0_6 t), after6,
    exact_of_live m c 7 t (liveAt0_7 t), after7,
    exact_of_live m c 8 t (liveAt0_8 t), after8,
    exact_of_live m c 9 t (liveAt0_9 t), after9,
    exact_of_live m c 10 t (liveAt0_10 t), after10,
    exact_of_live m c 11 t (liveAt0_11 t), after11,
    exact_of_live m c 12 t (liveAt0_12 t), after12,
    exact_of_live m c 13 t (liveAt0_13 t), after13,
    exact_of_live m c 14 t (liveAt0_14 t), after14,
    exact_of_live m c 15 t (liveAt0_15 t), after15,
    exact_of_live m c 16 t (liveAt0_16 t), after16,
    exact_of_live m c 17 t (liveAt0_17 t), after17,
    exact_of_live m c 18 t (liveAt0_18 t), after18,
    exact_of_live m c 19 t (liveAt0_19 t), after19]
  rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h))),
    Dat.leavesExact_idle (dats m 0 c) 21 t (idleAt0_21_B t (fun h => h0 ((hcond0_0 t).mp h)) (fun h => h1 ((hcond0_1 t).mp h))) (noFlush0_21_B t (fun h => h0 ((hcond0_0 t).mp h)) (fun h => h1 ((hcond0_1 t).mp h)))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (tilesAt m c t) (fun h => h0 ((hcond0_0 t).mp h)) (fun h => h1 ((hcond0_1 t).mp h)) (carriedAt m c t.val) Set.univ _)
  isplitl [H0 H1 H2 H3 H4 H5 H6 H7 H8 H9 H10 H11 H12 H13 H14]
  · rw [← operands, operands_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  rw [← operands, operands_eq]
  unfold leaves
  iintro ⟨⟨H0, H1, H2, H3, H4, H5, H6, H7, H8, H9, H10, H11, H12, H13, H14⟩, ⟨H15, H16, H17, H18, H19⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iexists _; iexact H21

set_option maxHeartbeats 8000000 in
/-- The last point. -/
theorem soundC (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  unfold bodyPre bodyPost bodyAt0
  have hN : t.val < 32 := lt_of_lt_of_eq t.isLt (show cfg0.N = 32 from N_0)
  simp only [before0, before1, before2, before3, before4, before5, before6, before7, before8, before9, before10, before11, before12, before13, before14]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c (Nat.succ_ne_zero t.val), inv_pos m c (show t.val ≠ 0 by omega), carriedAt_succ]
  rw [exact_of_live m c 0 t (liveAt0_0 t), after0,
    exact_of_live m c 1 t (liveAt0_1 t), after1,
    exact_of_live m c 2 t (liveAt0_2 t), after2,
    exact_of_live m c 3 t (liveAt0_3 t), after3,
    exact_of_live m c 4 t (liveAt0_4 t), after4,
    exact_of_live m c 5 t (liveAt0_5 t), after5,
    exact_of_live m c 6 t (liveAt0_6 t), after6,
    exact_of_live m c 7 t (liveAt0_7 t), after7,
    exact_of_live m c 8 t (liveAt0_8 t), after8,
    exact_of_live m c 9 t (liveAt0_9 t), after9,
    exact_of_live m c 10 t (liveAt0_10 t), after10,
    exact_of_live m c 11 t (liveAt0_11 t), after11,
    exact_of_live m c 12 t (liveAt0_12 t), after12,
    exact_of_live m c 13 t (liveAt0_13 t), after13,
    exact_of_live m c 14 t (liveAt0_14 t), after14,
    exact_of_live m c 15 t (liveAt0_15 t), after15,
    exact_of_live m c 16 t (liveAt0_16 t), after16,
    exact_of_live m c 17 t (liveAt0_17 t), after17,
    exact_of_live m c 18 t (liveAt0_18 t), after18,
    exact_of_live m c 19 t (liveAt0_19 t), after19]
  rw [exact_of_live m c 20 t (liveAt0_20_C t (fun h => h0 ((hcond0_0 t).mp h)) ((hcond0_1 t).mpr h1)), after20, exact_of_live m c 21 t (liveAt0_21_C t (fun h => h0 ((hcond0_0 t).mp h)) ((hcond0_1 t).mpr h1)), after21, carriedAt_succ]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (pointC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) (tilesAt m c t) (fun h => h0 ((hcond0_0 t).mp h)) ((hcond0_1 t).mpr h1) (carriedAt m c t.val) Set.univ _)
  isplitl [H0 H1 H2 H3 H4 H5 H6 H7 H8 H9 H10 H11 H12 H13 H14]
  · rw [← operands, operands_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS]; · iexact HS
  rw [← operands, operands_eq]
  unfold leaves
  iintro ⟨⟨H0, H1, H2, H3, H4, H5, H6, H7, H8, H9, H10, H11, H12, H13, H14⟩, ⟨H15, H16, H17, H18, H19⟩, H20, H21, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact soundA m c t h0 (by omega)
  · by_cases h1 : t.val % 32 = 31
    · exact soundC m c t h0 h1
    · exact soundB m c t h0 h1

theorem body_row (t : Fin cfg0.N) : defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = inv m c 0 from rfl, inv_zero m c rfl]

theorem points_pos : cfg0.N ≠ 0 := by have h : cfg0.N = 32 := N_0; omega

theorem returns (c : Dev nD) : (dats m 0 c).Φ (Fin.last cfg0.N) ⊢ Pipeline.ΦA spec0 c := by
  rw [show (dats m 0 c).Φ (Fin.last cfg0.N) = inv m c cfg0.N from rfl, inv_pos m c points_pos, PhiA0_eq]
  unfold carries
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- Every execution ends, with the call's arrays at what the points left, every other buffer as the later lines leave
    it, and every semaphore counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := returns m)

/-- The frame: termination, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KvfBwdIdeal.Kvf

end
-- ==== Proof.KvfBlock.lean ====
/-
  What one grid point of the shared keys', values' and forget gates' gradient computes, of finite inputs: 256 rows of the
  gate's gradient (a reverse running sum over the rows, started from what the later rows left), of the gradient that goes on,
  and what the point adds to the gain's and the gate bias's gradients.
-/
module

public import proofs.«01_k».proof.Proof.Reals
public import proofs.«01_k».proof.Proof.Gen.KvfBwdIdeal.Skeleton
public import Idealize.ShloMosaic.Lib.Pointwise

@[expose] public section

set_option maxRecDepth 16384

noncomputable section

namespace Cert.KvfBwdIdeal.Block

open Cert.KvfBwdIdeal Cert.KvfBwdIdeal.Gen Cert.Reals Idealize.ShloMosaic Idealize.SL.Sem

theorem ln2_named : @Eq EReal (Named.named (F := Ideal) κ "ln2" (φ := .f32) 0x3F317218#32) ((Real.log 2 : ℝ) : EReal) :=
  (IdealRules.named_const.ideal_named_scalar _ _ _ _ rfl).trans (by first | rfl | (simp; done) | norm_num)

theorem ofBits_one : Ideal.ofBits .f32 0x3F800000#32 = ((1 : ℝ) : EReal) := by
  simp [Ideal.ofBits, Ideal.ieee]
  rw [← EReal.coe_mul]
  norm_num

/-! ## A product that takes its left operand in three parts -/

section Parts

variable {F : FTy → Type} [FloatOps F]

/-- The rows times a 0/1 matrix, the rows split in three parts of eight bits. -/
def picked (x : FVec F S256x2048 .f32) (s : FVec F S2048x128 .bf16) : FVec F S256x128 .f32 :=
  let a := truncf .bf16 x bitsLt_bf16_f32
  let y := subf x (extf .f32 a bitsLt_bf16_f32)
  let b := truncf .bf16 y bitsLt_bf16_f32
  let z := subf y (extf .f32 b bitsLt_bf16_f32)
  let d := truncf .bf16 z bitsLt_bf16_f32
  addf (addf (matmul dot_S256x2048_S2048x128_S256x128_1_0_0_1_n_n none a s (constant S256x128 .f32 0x00000000#32))
    (matmul dot_S256x2048_S2048x128_S256x128_1_0_0_1_n_n none b s (constant S256x128 .f32 0x00000000#32)))
    (matmul dot_S256x2048_S2048x128_S256x128_1_0_0_1_n_n none d s (constant S256x128 .f32 0x00000000#32))

/-- The 0/1 matrix of the reverse running sum. -/
def later : FVec F S256x256 .bf16 :=
  truncf .bf16 (sitofp .f32 (extui 32 (cmpi .sle (iota .tc S256x256 32 [0] iota_S256x256_d0_w32) (iota .tc S256x256 32 [1] iota_S256x256_d1_w32)) natLt_1_32)) bitsLt_bf16_f32

/-- The reverse running sum over the rows, the rows split in three parts. -/
def summed (x : FVec F S256x128 .f32) : FVec F S256x128 .f32 :=
  let a := truncf .bf16 x bitsLt_bf16_f32
  let y := subf x (extf .f32 a bitsLt_bf16_f32)
  let b := truncf .bf16 y bitsLt_bf16_f32
  let z := subf y (extf .f32 b bitsLt_bf16_f32)
  let d := truncf .bf16 z bitsLt_bf16_f32
  addf (addf (matmul dot_S256x256_S256x128_S256x128_1_0_0_1_n_n none later a (constant S256x128 .f32 0x00000000#32))
    (matmul dot_S256x256_S256x128_S256x128_1_0_0_1_n_n none later b (constant S256x128 .f32 0x00000000#32)))
    (matmul dot_S256x256_S256x128_S256x128_1_0_0_1_n_n none later d (constant S256x128 .f32 0x00000000#32))

/-- The reverse running sum as the kernel puts it together. -/
abbrev sufOf (k1 k2 q1 q2 : Vec F S256x2048 .f32) (sq sk : Vec F S2048x128 .bf16) (u : Vec F S1x128 .f32) : FVec F S256x128 .f32 :=
  k0_pay17 (k0_pay10 q1 q2 sq) (k0_pay11 sk) (k0_pay15 k1 k2) (k0_pay16 k1 k2 sk) u

theorem sufOf_eq (k1 k2 q1 q2 : Vec F S256x2048 .f32) (sq sk : Vec F S2048x128 .bf16) (u : Vec F S1x128 .f32) :
    sufOf k1 k2 q1 q2 sq sk u = addf (summed (subf (picked (addf q1 q2) sq) (picked (addf k1 k2) sk))) (broadcastTo S256x128 u broadcasts_S1x128_S256x128) := by
  unfold sufOf k0_pay17 k0_pay16 k0_pay15 k0_pay14 k0_pay13 k0_pay12 k0_pay11 k0_pay10 k0_pay9
  simp only [shapeCast_self]
  rfl

end Parts

theorem picked_apply (X : S256x2048.Idx → ℝ) (S : S2048x128.Idx → ℝ) (r : Fin 256) (a : Fin 128) :
    @Eq EReal (picked (F := Ideal) (fun y => (X y : EReal)) (fun y => (S y : EReal)) (ix2 r a)) ((∑ s : Fin 2048, X (ix2 r s) * S (ix2 s a) : ℝ) : EReal) := by
  pointwise [picked]
  simp only [← EReal.coe_mul, ← EReal.coe_sub, ← coe_sum, ← EReal.coe_add, sub_self, zero_mul, Finset.sum_const_zero, add_zero]

theorem later_apply (r r' : Fin 256) : @Eq EReal (later (F := Ideal) (ix2 r r')) (((if r.val ≤ r'.val then 1 else 0 : ℝ)) : EReal) := by
  have e : ∀ n, n < 256 → (BitVec.ofNat 32 n).toInt = n := fun n hn => by rw [BitVec.toInt_eq_toNat_of_lt (by rw [BitVec.toNat_ofNat]; omega), BitVec.toNat_ofNat]; omega
  have w1 : FloatOps.sitofp (F := Ideal) .f32 1#32 = ((1 : ℝ) : EReal) := by simp [FloatOps.sitofp]
  have w0 : FloatOps.sitofp (F := Ideal) .f32 0#32 = ((0 : ℝ) : EReal) := by simp [FloatOps.sitofp]
  pointwise [later]
  simp only [IntOp.cmpi, BitVec.sle, e _ r.isLt, e _ r'.isLt]
  by_cases h : r.val ≤ r'.val
  · rw [if_pos h, ← w1]; simp [h]
  · rw [if_neg h, ← w0]; simp [h]

theorem summed_apply (X : S256x128.Idx → ℝ) (r : Fin 256) (a : Fin 128) :
    @Eq EReal (summed (F := Ideal) (fun y => (X y : EReal)) (ix2 r a)) ((∑ r' : Fin 256, (if r.val ≤ r'.val then 1 else 0) * X (ix2 r' a) : ℝ) : EReal) := by
  pointwise [summed]
  simp only [later_apply, ← EReal.coe_mul, ← EReal.coe_sub, ← coe_sum, ← EReal.coe_add, sub_self, mul_zero, Finset.sum_const_zero, add_zero]

/-- What the running sum adds up. -/
def gap (K1 K2 Q1 Q2 : S256x2048.Idx → ℝ) (Sq Sk : S2048x128.Idx → ℝ) (r : Fin 256) (a : Fin 128) : ℝ :=
  (∑ s : Fin 2048, (Q1 (ix2 r s) + Q2 (ix2 r s)) * Sq (ix2 s a)) - ∑ s : Fin 2048, (K1 (ix2 r s) + K2 (ix2 r s)) * Sk (ix2 s a)

/-- The running sum, over what the later rows left. -/
def suf (K1 K2 Q1 Q2 : S256x2048.Idx → ℝ) (Sq Sk : S2048x128.Idx → ℝ) (U : S1x128.Idx → ℝ) (r : Fin 256) (a : Fin 128) : ℝ :=
  (∑ r' : Fin 256, (if r.val ≤ r'.val then 1 else 0) * gap K1 K2 Q1 Q2 Sq Sk r' a) + U (ix2 0 a)

theorem suf_apply (K1 K2 Q1 Q2 : S256x2048.Idx → ℝ) (Sq Sk : S2048x128.Idx → ℝ) (U : S1x128.Idx → ℝ) (r : Fin 256) (a : Fin 128) :
    @Eq EReal (sufOf (F := Ideal) (fun y => (K1 y : EReal)) (fun y => (K2 y : EReal)) (fun y => (Q1 y : EReal)) (fun y => (Q2 y : EReal)) (fun y => (Sq y : EReal))
      (fun y => (Sk y : EReal)) (fun y => (U y : EReal)) (ix2 r a)) (suf K1 K2 Q1 Q2 Sq Sk U r a : EReal) := by
  have e : ∀ X Y : S256x2048.Idx → ℝ, @Eq (FVec Ideal S256x2048 .f32) (addf (F := Ideal) (φ := .f32) (s := S256x2048) (fun y => (X y : EReal)) (fun y => (Y y : EReal))) fun y => ((X y + Y y : ℝ) : EReal) :=
    fun X Y => funext fun y => (EReal.coe_add _ _).symm
  have d : @Eq (FVec Ideal S256x128 .f32) (subf (picked (addf (F := Ideal) (φ := .f32) (s := S256x2048) (fun y => (Q1 y : EReal)) (fun y => (Q2 y : EReal))) (fun y => (Sq y : EReal)))
      (picked (addf (F := Ideal) (φ := .f32) (s := S256x2048) (fun y => (K1 y : EReal)) (fun y => (K2 y : EReal))) (fun y => (Sk y : EReal)))) fun y => (gap K1 K2 Q1 Q2 Sq Sk (y 0) (y 1) : EReal) := by
    rw [e, e]
    refine funext fun (y : S256x128.Idx) => ?_
    have hy : y = ix2 (y 0) (y 1) := by funext a; fin_cases a <;> rfl
    refine (congrArg₂ (fun a b : EReal => a - b) ((congrArg _ hy).trans (picked_apply _ _ _ _)) ((congrArg _ hy).trans (picked_apply _ _ _ _))).trans ?_
    exact (EReal.coe_sub _ _).symm
  rw [sufOf_eq, d]
  refine (congrArg₂ (fun a b : EReal => a + b) (summed_apply _ _ _) (?_ : _ = ((U (ix2 0 a) : ℝ) : EReal))).trans (EReal.coe_add _ _).symm
  pointwise

/-- The same over the gate's derivative. -/
def gate (K1 K2 Q1 Q2 : S256x2048.Idx → ℝ) (Sq Sk : S2048x128.Idx → ℝ) (U : S1x128.Idx → ℝ) (L : S256x128.Idx → ℝ) (r : Fin 256) (a : Fin 128) : ℝ :=
  suf K1 K2 Q1 Q2 Sq Sk U r a / (1 + Real.exp (L (ix2 r a)))

abbrev gateOf {F : FTy → Type} [FloatOps F] (k1 k2 q1 q2 : Vec F S256x2048 .f32) (sq sk : Vec F S2048x128 .bf16) (u : Vec F S1x128 .f32) (l : Vec F S256x128 .f32) : FVec F S256x128 .f32 :=
  k0_pay19 (k0_pay10 q1 q2 sq) (k0_pay11 sk) (k0_pay15 k1 k2) (k0_pay16 k1 k2 sk) u l

theorem gate_apply (K1 K2 Q1 Q2 : S256x2048.Idx → ℝ) (Sq Sk : S2048x128.Idx → ℝ) (U : S1x128.Idx → ℝ) (L : S256x128.Idx → ℝ) (r : Fin 256) (a : Fin 128) :
    @Eq EReal (gateOf (F := Ideal) (fun y => (K1 y : EReal)) (fun y => (K2 y : EReal)) (fun y => (Q1 y : EReal)) (fun y => (Q2 y : EReal)) (fun y => (Sq y : EReal))
      (fun y => (Sk y : EReal)) (fun y => (U y : EReal)) (fun y => (L y : EReal)) (ix2 r a)) (gate K1 K2 Q1 Q2 Sq Sk U L r a : EReal) := by
  have h := suf_apply K1 K2 Q1 Q2 Sq Sk U r a
  unfold sufOf at h
  pointwise [k0_pay19]
  rw [h]
  simp only [ofBits_one, Ideal.exp_coe, ← EReal.coe_one, ← EReal.coe_add]
  rw [div_coe _ (by positivity : (1 + Real.exp (L (ix2 r a)) : ℝ) ≠ 0)]
  rfl

theorem gate16_apply (K1 K2 Q1 Q2 : S256x2048.Idx → ℝ) (Sq Sk : S2048x128.Idx → ℝ) (U : S1x128.Idx → ℝ) (L : S256x128.Idx → ℝ) (r : Fin 256) (a : Fin 128) :
    @Eq EReal (k0_pay20 (F := Ideal) (k0_pay10 (fun y => (Q1 y : EReal)) (fun y => (Q2 y : EReal)) (fun y => (Sq y : EReal))) (k0_pay11 fun y => (Sk y : EReal))
      (k0_pay15 (fun y => (K1 y : EReal)) (fun y => (K2 y : EReal))) (k0_pay16 (fun y => (K1 y : EReal)) (fun y => (K2 y : EReal)) (fun y => (Sk y : EReal)))
      (fun y => (U y : EReal)) (fun y => (L y : EReal)) (ix2 r a)) (gate K1 K2 Q1 Q2 Sq Sk U L r a : EReal) := by
  have h := gate_apply K1 K2 Q1 Q2 Sq Sk U L r a
  unfold gateOf at h
  pointwise [k0_pay20]
  exact h

/-- The point's first row, in all eight rows, is what the next point starts from. -/
theorem carry_apply (K1 K2 Q1 Q2 : S256x2048.Idx → ℝ) (Sq Sk : S2048x128.Idx → ℝ) (U : S1x128.Idx → ℝ) (r : Fin 8) (a : Fin 128) :
    @Eq EReal (k0_pay18 (F := Ideal) (k0_pay10 (fun y => (Q1 y : EReal)) (fun y => (Q2 y : EReal)) (fun y => (Sq y : EReal))) (k0_pay11 fun y => (Sk y : EReal))
      (k0_pay15 (fun y => (K1 y : EReal)) (fun y => (K2 y : EReal))) (k0_pay16 (fun y => (K1 y : EReal)) (fun y => (K2 y : EReal)) (fun y => (Sk y : EReal)))
      (fun y => (U y : EReal)) (ix2 r a)) (suf K1 K2 Q1 Q2 Sq Sk U 0 a : EReal) := by
  have h := suf_apply K1 K2 Q1 Q2 Sq Sk U 0 a
  unfold sufOf at h
  pointwise [k0_pay18]
  exact h

/-- The eight partial sums of the gate bias's gradient, a point's rows added. -/
theorem bias_apply (K1 K2 Q1 Q2 : S256x2048.Idx → ℝ) (Sq Sk : S2048x128.Idx → ℝ) (U : S1x128.Idx → ℝ) (L : S256x128.Idx → ℝ) (b : Vec Ideal S8x128 .f32) (r : Fin 8) (a : Fin 128) :
    @Eq EReal (k0_pay22 (F := Ideal) (k0_pay21 (k0_pay10 (fun y => (Q1 y : EReal)) (fun y => (Q2 y : EReal)) (fun y => (Sq y : EReal))) (k0_pay11 fun y => (Sk y : EReal))
      (k0_pay15 (fun y => (K1 y : EReal)) (fun y => (K2 y : EReal))) (k0_pay16 (fun y => (K1 y : EReal)) (fun y => (K2 y : EReal)) (fun y => (Sk y : EReal)))
      (fun y => (U y : EReal)) (fun y => (L y : EReal)) b) (ix2 r a))
      (b (ix2 r a) + ((∑ x : Fin 32, gate K1 K2 Q1 Q2 Sq Sk U L ⟨x.val * 8 + r.val, by omega⟩ a : ℝ) : EReal)) := by
  have h := fun r => gate_apply K1 K2 Q1 Q2 Sq Sk U L r a
  unfold gateOf at h
  pointwise [k0_pay22, k0_pay21]
  simp only [h, ← coe_sum]

/-! ## The rest, over any gate's gradient -/

/-- The cotangent of the normed stream, from the three parts. -/
def back (K : S256x2048.Idx → ℝ) (V1 V2 : S256x1024.Idx → ℝ) (D : S256x128.Idx → ℝ) (Wk : S1024x2048.Idx → ℝ) (Wv : S1024x1024.Idx → ℝ) (Wf : S1024x128.Idx → ℝ)
    (r : Fin 256) (k : Fin 1024) : ℝ :=
  (∑ s : Fin 2048, K (ix2 r s) * Real.log 2 * Wk (ix2 k s)) + (∑ l : Fin 1024, (V1 (ix2 r l) + V2 (ix2 r l)) * Wv (ix2 k l)) + ∑ a : Fin 128, D (ix2 r a) * Wf (ix2 k a)

theorem pay9_eq (K1 K2 : S256x2048.Idx → ℝ) : @Eq (FVec Ideal S256x2048 .f32) (k0_pay9 (F := Ideal) (fun y => (K1 y : EReal)) (fun y => (K2 y : EReal))) fun y => ((K1 y + K2 y : ℝ) : EReal) := by
  unfold k0_pay9
  simp only [shapeCast_self]
  exact funext fun y => (EReal.coe_add _ _).symm

theorem pay23_apply (K : S256x2048.Idx → ℝ) (r : Fin 256) (s : Fin 2048) :
    @Eq EReal (k0_pay23 (F := Ideal) (fun y => (K y : EReal)) (ix2 r s)) ((K (ix2 r s) * Real.log 2 : ℝ) : EReal) := by
  pointwise [k0_pay23]
  rw [ln2_named, ← EReal.coe_mul]

theorem pay24_apply (V1 V2 : S256x1024.Idx → ℝ) (r : Fin 256) (l : Fin 1024) :
    @Eq EReal (k0_pay24 (F := Ideal) (fun y => (V1 y : EReal)) (fun y => (V2 y : EReal)) (ix2 r l)) ((V1 (ix2 r l) + V2 (ix2 r l) : ℝ) : EReal) := by
  pointwise [k0_pay24]
  rw [← EReal.coe_add]

/-- The cotangent of the normed stream as the kernel puts it together. -/
abbrev backOf {F : FTy → Type} [FloatOps F] [Named F] (k : FVec F S256x2048 .f32) (v1 v2 : Vec F S256x1024 .f32) (d : FVec F S256x128 .bf16) (wk : Vec F S1024x2048 .bf16) (wv : Vec F S1024x1024 .bf16)
    (wf : Vec F S1024x128 .bf16) : FVec F S256x1024 .f32 :=
  k0_pay1 d (k0_pay24 v1 v2) (k0_pay29 k wk) wv wf

theorem back_apply (K : S256x2048.Idx → ℝ) (V1 V2 : S256x1024.Idx → ℝ) (D : S256x128.Idx → ℝ) (Wk : S1024x2048.Idx → ℝ) (Wv : S1024x1024.Idx → ℝ) (Wf : S1024x128.Idx → ℝ)
    (r : Fin 256) (k : Fin 1024) :
    @Eq EReal (backOf (F := Ideal) (fun y => (K y : EReal)) (fun y => (V1 y : EReal)) (fun y => (V2 y : EReal)) (fun y => (D y : EReal)) (fun y => (Wk y : EReal)) (fun y => (Wv y : EReal))
      (fun y => (Wf y : EReal)) (ix2 r k)) (back K V1 V2 D Wk Wv Wf r k : EReal) := by
  pointwise [k0_pay1, k0_pay29]
  simp only [pay23_apply, pay24_apply, ← EReal.coe_mul, ← coe_sum, ← EReal.coe_add]
  rfl

/-- The factor that normalises a row. -/
theorem pay26_apply (H : S256x1024.Idx → ℝ) (r : Fin 256) :
    @Eq EReal (k0_pay26 (F := Ideal) (fun y => (H y : EReal)) (ix2 r 0)) ((rowScale (fun l => H (ix2 r l)) : ℝ) : EReal) := by
  pointwise [k0_pay26]
  simp only [← EReal.coe_mul, ← coe_sum, ofBits_1024, ofBits_eps, div_coe _ (by norm_num : (1024 : ℝ) ≠ 0), ← EReal.coe_add]
  exact rsqrt_coe (meanSq_pos fun l => H (ix2 r l))

/-- A normalised row. -/
theorem pay27_apply (H : S256x1024.Idx → ℝ) (r : Fin 256) (k : Fin 1024) :
    @Eq EReal (k0_pay27 (F := Ideal) (fun y => (H y : EReal)) (ix2 r k)) ((H (ix2 r k) * rowScale (fun l => H (ix2 r l)) : ℝ) : EReal) := by
  pointwise [k0_pay27]
  rw [pay26_apply, EReal.coe_mul]

/-- The same times the gain. -/
theorem pay28_apply (G : S1x1024.Idx → ℝ) (H : S256x1024.Idx → ℝ) (r : Fin 256) (k : Fin 1024) :
    @Eq EReal (k0_pay28 (F := Ideal) (fun y => (G y : EReal)) (fun y => (H y : EReal)) (ix2 r k))
      ((H (ix2 r k) * rowScale (fun l => H (ix2 r l)) * G (ix2 0 k) : ℝ) : EReal) := by
  pointwise [k0_pay28, k0_pay25]
  rw [pay27_apply, ← EReal.coe_mul]

/-- A row of the gradient that goes on. -/
theorem row_apply (K : S256x2048.Idx → ℝ) (V1 V2 : S256x1024.Idx → ℝ) (D : S256x128.Idx → ℝ) (Wk : S1024x2048.Idx → ℝ) (Wv : S1024x1024.Idx → ℝ) (Wf : S1024x128.Idx → ℝ)
    (G : S1x1024.Idx → ℝ) (H : S256x1024.Idx → ℝ) (d : Vec Ideal S256x1024 .f32) (r : Fin 256) (k : Fin 1024) :
    @Eq EReal (k0_pay2 (F := Ideal) (fun y => (D y : EReal)) (k0_pay24 (fun y => (V1 y : EReal)) (fun y => (V2 y : EReal))) (k0_pay25 fun y => (G y : EReal)) (k0_pay26 fun y => (H y : EReal))
        (k0_pay27 fun y => (H y : EReal)) (k0_pay29 (fun y => (K y : EReal)) (fun y => (Wk y : EReal))) (fun y => (Wv y : EReal)) (fun y => (Wf y : EReal)) d (ix2 r k))
      (d (ix2 r k) + ((normGrad (fun l => H (ix2 r l)) (fun l => G (ix2 0 l)) (back K V1 V2 D Wk Wv Wf r) k : ℝ) : EReal)) := by
  have h := back_apply K V1 V2 D Wk Wv Wf r
  unfold backOf at h
  pointwise [k0_pay2, k0_pay25]
  simp only [h, pay26_apply, pay27_apply, ← EReal.coe_mul, ← coe_sum, ofBits_1024, div_coe _ (by norm_num : (1024 : ℝ) ≠ 0), ← EReal.coe_sub]
  rfl

/-- The eight partial sums of the gain's gradient, a point's rows added. -/
theorem gain_apply (K : S256x2048.Idx → ℝ) (V1 V2 : S256x1024.Idx → ℝ) (D : S256x128.Idx → ℝ) (Wk : S1024x2048.Idx → ℝ) (Wv : S1024x1024.Idx → ℝ) (Wf : S1024x128.Idx → ℝ)
    (H : S256x1024.Idx → ℝ) (a : Vec Ideal S8x1024 .f32) (r : Fin 8) (k : Fin 1024) :
    @Eq EReal (k0_pay3 (F := Ideal) (fun y => (D y : EReal)) (k0_pay24 (fun y => (V1 y : EReal)) (fun y => (V2 y : EReal))) (k0_pay27 fun y => (H y : EReal))
        (k0_pay29 (fun y => (K y : EReal)) (fun y => (Wk y : EReal))) (fun y => (Wv y : EReal)) (fun y => (Wf y : EReal)) a (ix2 r k))
      (a (ix2 r k) + ((∑ x : Fin 32, back K V1 V2 D Wk Wv Wf ⟨x.val * 8 + r.val, by omega⟩ k
          * (H (ix2 ⟨x.val * 8 + r.val, by omega⟩ k) * rowScale (fun l => H (ix2 ⟨x.val * 8 + r.val, by omega⟩ l))) : ℝ) : EReal)) := by
  have h := fun r => back_apply K V1 V2 D Wk Wv Wf r
  unfold backOf at h
  pointwise [k0_pay3]
  simp only [h, pay27_apply, ← EReal.coe_mul, ← coe_sum]

/-- The sum of the eight partial sums. -/
theorem pay4_apply (a : Vec Ideal S8x1024 .f32) (k : Fin 1024) : @Eq EReal (k0_pay4 (F := Ideal) a (ix2 0 k)) (∑ r : Fin 8, a (ix2 r k)) := by
  pointwise [k0_pay4]

theorem pay5_apply (a : Vec Ideal S8x128 .f32) (k : Fin 128) : @Eq EReal (k0_pay5 (F := Ideal) a (ix2 0 k)) (∑ r : Fin 8, a (ix2 r k)) := by
  pointwise [k0_pay5]

theorem pay6_apply (r : Fin 8) (k : Fin 1024) : @Eq EReal (k0_pay6 (F := Ideal) (ix2 r k)) 0 := by
  pointwise [k0_pay6]

theorem pay7_apply (r : Fin 8) (k : Fin 128) : @Eq EReal (k0_pay7 (F := Ideal) (ix2 r k)) 0 := by
  pointwise [k0_pay7]

theorem pay8_apply (r : Fin 8) (k : Fin 128) : @Eq EReal (k0_pay8 (F := Ideal) (ix2 r k)) 0 := by
  pointwise [k0_pay8]

end Cert.KvfBwdIdeal.Block

end
-- ==== Proof.KvfHost.lean ====
/-
  The arrays that the host lines before the shared keys', values' and forget gates' gradient prepare, of finite arguments.
-/
module

public import proofs.«01_k».proof.Proof.KvfFrame
public import proofs.«01_k».proof.Proof.KvfBlock
public import Idealize.ShloMosaic.Lib.StableHlo.ReadAt
public import Idealize.ShloMosaic.Lib.Claim

@[expose] public section

set_option maxRecDepth 16384

noncomputable section

namespace Cert.KvfBwdIdeal.Block

open Cert.KvfBwdIdeal Cert.KvfBwdIdeal.Gen Cert.Reals Idealize.ShloMosaic Idealize.ShloMosaic.TcCoe Idealize.SL.Sem

/-- The finite arguments: the cotangents, the row and column sums, the stream, the gain, the weight and the bias. -/
structure Data where
  (k1 k2 v1 v2 q1 q2 : S8192x1024.Idx → ℝ)
  (rq1 rq2 rk1 rk2 : S8192x16.Idx → ℝ)
  (h : S8192x1024.Idx → ℝ)
  (g : S1024.Idx → ℝ)
  (w : S1024x2064.Idx → ℝ)
  (b : S16.Idx → ℝ)

/-- What the arguments hold. -/
structure Args (m : (ℓ : Loc nD τ sig) → Buf (Elt Ideal) ℓ) (c : Dev nD) (A : S8192x1024.Idx → EReal) (x : Data) : Prop where
  a : m ((c : Thread nD τ).loc main_arg0) = A
  k1 : m ((c : Thread nD τ).loc main_arg1) = fun i => (x.k1 i : EReal)
  k2 : m ((c : Thread nD τ).loc main_arg2) = fun i => (x.k2 i : EReal)
  v1 : m ((c : Thread nD τ).loc main_arg3) = fun i => (x.v1 i : EReal)
  v2 : m ((c : Thread nD τ).loc main_arg4) = fun i => (x.v2 i : EReal)
  q1 : m ((c : Thread nD τ).loc main_arg5) = fun i => (x.q1 i : EReal)
  q2 : m ((c : Thread nD τ).loc main_arg6) = fun i => (x.q2 i : EReal)
  rq1 : m ((c : Thread nD τ).loc main_arg7) = fun i => (x.rq1 i : EReal)
  rq2 : m ((c : Thread nD τ).loc main_arg8) = fun i => (x.rq2 i : EReal)
  rk1 : m ((c : Thread nD τ).loc main_arg9) = fun i => (x.rk1 i : EReal)
  rk2 : m ((c : Thread nD τ).loc main_arg10) = fun i => (x.rk2 i : EReal)
  h : m ((c : Thread nD τ).loc main_arg11) = fun i => (x.h i : EReal)
  g : m ((c : Thread nD τ).loc main_arg12) = fun i => (x.g i : EReal)
  w : m ((c : Thread nD τ).loc main_arg13) = fun i => (x.w i : EReal)
  b : m ((c : Thread nD τ).loc main_arg14) = fun i => (x.b i : EReal)

variable {m : (ℓ : Loc nD τ sig) → Buf (Elt Ideal) ℓ} {c : Dev nD} {A : S8192x1024.Idx → EReal} {x : Data} (I : Args m c A x)

/-! ## The host lines as functions -/

section Host

variable {F : FTy → Type} [FloatOps F]

/-- A head's columns and, in the lanes after them, its row of `r`. -/
def hostSlot (x : FVec F S8192x1024 .f32) (r : FVec F S8192x16x64 .f32) : FVec F S8192x2048 .f32 :=
  shapeCast _ (show FVec F S8192x16x128 .f32 from concatenate S8192x16x128 2 [⟨S8192x16x64, shapeCast _ x shapeCasts_S8192x1024_S8192x16x64⟩, ⟨S8192x16x64, r⟩] concatenates_S8192x16x64_S8192x16x64_S8192x16x128_d2) shapeCasts_S8192x16x128_S8192x2048

/-- The sums in a head's first lane. -/
def hostFirst (r : FVec F S8192x16 .f32) : FVec F S8192x16x64 .f32 :=
  pad S8192x16x64 ![0, 0, 0] ![0, 0, 63] ![0, 0, 0] (show FVec F S8192x16x1 .f32 from shapeCast _ r shapeCasts_S8192x16_S8192x16x1) (show FVec F S_ .f32 from sitofp .f32 (constantI S_ 32 0#32)) pads_S8192x16x1_S8192x16x64_000_000_0630 h_S_

/-- The sums in a head's second lane. -/
def hostSecond (r : FVec F S8192x16 .f32) : FVec F S8192x16x64 .f32 :=
  pad S8192x16x64 ![0, 0, 1] ![0, 0, 62] ![0, 0, 0] (show FVec F S8192x16x1 .f32 from shapeCast _ r shapeCasts_S8192x16_S8192x16x1) (show FVec F S_ .f32 from sitofp .f32 (constantI S_ 32 0#32)) pads_S8192x16x1_S8192x16x64_000_000_1620 h_S_

/-- The cotangent of the keys over log 2. -/
def hostOver (x : FVec F S8192x1024 .f32) : FVec F S8192x1024 .f32 :=
  mulf x (broadcastInDim S8192x1024 ![] bcast_S_S8192x1024 (show FVec F S_ .f32 from Host.divf (constant S_ .f32 0x3F800000#32) (Host.log (constant S_ .f32 0x40000000#32))))

def hostWk (w : FVec F S1024x2064 .f32) : FVec F S1024x2048 .bf16 :=
  shapeCast _ (show FVec F S1024x16x128 .bf16 from pad S1024x16x128 ![0, 0, 0] ![0, 0, 64] ![0, 0, 0]
    (show FVec F S1024x16x64 .bf16 from shapeCast _ (show FVec F S1024x1024 .bf16 from extractStridedSlice S1024x1024 ![0, 0] (truncf .bf16 w bitsLt_bf16_f32) slices_S1024x2064_S1024x1024_0_0) shapeCasts_S1024x1024_S1024x16x64)
    (show FVec F S_ .bf16 from sitofp .bf16 (constantI S_ 32 0#32)) pads_S1024x16x64_S1024x16x128_000_000_0640 h_S_) shapeCasts_S1024x16x128_S1024x2048

def hostWv (w : FVec F S1024x2064 .f32) : FVec F S1024x1024 .bf16 :=
  extractStridedSlice S1024x1024 ![0, 1024] (truncf .bf16 w bitsLt_bf16_f32) slices_S1024x2064_S1024x1024_0_1024

def hostWf (w : FVec F S1024x2064 .f32) : FVec F S1024x128 .bf16 :=
  pad S1024x128 ![0, 0] ![0, 112] ![0, 0] (show FVec F S1024x16 .bf16 from extractStridedSlice S1024x16 ![0, 2048] (truncf .bf16 w bitsLt_bf16_f32) slices_S1024x2064_S1024x16_0_2048)
    (show FVec F S_ .bf16 from sitofp .bf16 (constantI S_ 32 0#32)) pads_S1024x16_S1024x128_000_01120 h_S_

/-- The matrix that takes one lane of each head. -/
def hostSel (lane : BitVec 32) : FVec F S2048x128 .bf16 :=
  uitofp .bf16 (cmpi .eq (broadcastInDim S2048x128 ![0, 1] bcast_S2048x1_S2048x128_0_1 (broadcastInDim S2048x1 ![0] bcast_S2048_S2048x1_0 (iotaInDim S2048 32 0)))
    (broadcastInDim S2048x128 ![0, 1] bcast_S1x128_S2048x128_0_1 (addi (muli (broadcastInDim S1x128 ![1] bcast_S128_S1x128_1 (iotaInDim S128 32 0)) (broadcastInDim S1x128 ![] bcast_S_S1x128 (constantI S_ 32 128#32)))
      (broadcastInDim S1x128 ![] bcast_S_S1x128 (constantI S_ 32 lane)))))

def hostNormed (x : FVec F S8192x1024 .f32) (g : FVec F S1024 .f32) : FVec F S8192x1024 .f32 :=
  mulf (mulf x (broadcastInDim S8192x1024 ![0, 1] bcast_S8192x1_S8192x1024_0_1 (show FVec F S8192x1 .f32 from Host.rsqrt (addf (Host.divf
      (broadcastInDim S8192x1 ![0] bcast_S8192_S8192x1_0 (show FVec F S8192 .f32 from Host.reduceAdd (mulf x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (show FVec F S1x1024 .f32 from broadcastInDim S1x1024 ![1] bcast_S1024_S1x1024_1 g))

/-- The forget logits. -/
def hostLogits (x : FVec F S8192x1024 .f32) (g : FVec F S1024 .f32) (w : FVec F S1024x2064 .f32) (b : FVec F S16 .f32) : FVec F S8192x128 .f32 :=
  addf (show FVec F S8192x128 .f32 from Host.dotGeneral dot_S8192x1024_S1024x128_S8192x128_1_0_0_1_n_n none (truncf .bf16 (hostNormed x g) bitsLt_bf16_f32) (hostWf w))
    (broadcastInDim S8192x128 ![0, 1] bcast_S1x128_S8192x128_0_1 (show FVec F S1x128 .f32 from shapeCast _ (show FVec F S128 .f32 from pad S128 ![0] ![112] ![0] b
      (show FVec F S_ .f32 from sitofp .f32 (constantI S_ 32 0#32)) pads_S16_S128_01120 h_S_) shapeCasts_S128_S1x128))

end Host

/-- A head's 64 columns, in one lane after them its sum, zeros in the rest of its 128. -/
def wide (lane : ℕ) (f : S8192x1024.Idx → ℝ) (g : S8192x16.Idx → ℝ) (i : Fin 8192) (s : Fin 2048) : ℝ :=
  if h : s.val % 128 < 64 then f (ix2 i ⟨s.val / 128 * 64 + s.val % 128, by omega⟩) else if s.val % 128 = lane then g (ix2 i ⟨s.val / 128, by omega⟩) else 0

/-- A head's 64 columns of the keys' weight, zeros in the rest of its 128. -/
def wideW (W : S1024x2064.Idx → ℝ) (k : Fin 1024) (s : Fin 2048) : ℝ :=
  if h : s.val % 128 < 64 then W (ix2 k ⟨s.val / 128 * 64 + s.val % 128, by omega⟩) else 0

/-- The gates' weight, zeros in the columns after the 16. -/
def wideF (W : S1024x2064.Idx → ℝ) (k : Fin 1024) (a : Fin 128) : ℝ := if h : a.val < 16 then W (ix2 k ⟨2048 + a.val, by omega⟩) else 0

theorem zero_word : FloatOps.sitofp (F := Ideal) .f32 0#32 = ((0 : ℝ) : EReal) := by simp [FloatOps.sitofp]
theorem zero_half : FloatOps.sitofp (F := Ideal) .bf16 0#32 = ((0 : ℝ) : EReal) := by simp [FloatOps.sitofp]

theorem slot_apply (X : FVec Ideal S8192x1024 .f32) (R : FVec Ideal S8192x16x64 .f32) (i : Fin 8192) (s : Fin 2048) :
    @Eq EReal (hostSlot (F := Ideal) X R (ix2 i s)) (if h : s.val % 128 < 64 then X (ix2 i ⟨s.val / 128 * 64 + s.val % 128, by omega⟩) else R (ix3 i ⟨s.val / 128, by omega⟩ ⟨s.val % 128 - 64, by omega⟩)) := by
  pointwise [hostSlot]

theorem first_apply (R : S8192x16.Idx → ℝ) (i : Fin 8192) (a : Fin 16) (l : Fin 64) :
    @Eq EReal (hostFirst (F := Ideal) (fun y => (R y : EReal)) (ix3 i a l)) ((if l.val = 0 then R (ix2 i a) else 0 : ℝ) : EReal) := by
  pointwise [hostFirst]
  rw [zero_word]
  by_cases h : l.val = 0
  · rw [dif_pos (by omega), if_pos h]
  · rw [dif_neg (by omega), if_neg h]

theorem second_apply (R : S8192x16.Idx → ℝ) (i : Fin 8192) (a : Fin 16) (l : Fin 64) :
    @Eq EReal (hostSecond (F := Ideal) (fun y => (R y : EReal)) (ix3 i a l)) ((if l.val = 1 then R (ix2 i a) else 0 : ℝ) : EReal) := by
  pointwise [hostSecond]
  rw [zero_word]
  by_cases h : l.val = 1
  · rw [dif_pos (by omega), if_pos h]
  · rw [dif_neg (by omega), if_neg h]

theorem ofBits_two : Ideal.ofBits .f32 0x40000000#32 = ((2 : ℝ) : EReal) := by
  simp [Ideal.ofBits, Ideal.ieee]
  rw [← EReal.coe_mul]
  norm_num

theorem over_apply (X : S8192x1024.Idx → ℝ) (i : Fin 8192) (k : Fin 1024) :
    @Eq EReal (hostOver (F := Ideal) (fun y => (X y : EReal)) (ix2 i k)) ((X (ix2 i k) * (1 / Real.log 2) : ℝ) : EReal) := by
  pointwise [hostOver]
  rw [ofBits_two, Ideal.log_coe, if_neg (by norm_num), ← EReal.coe_one, div_coe _ (Real.log_pos (by norm_num : (1 : ℝ) < 2)).ne', ← EReal.coe_mul]

theorem wideK_apply (X : S8192x1024.Idx → ℝ) (R : S8192x16.Idx → ℝ) (i : Fin 8192) (s : Fin 2048) :
    @Eq EReal (hostSlot (F := Ideal) (hostOver fun y => (X y : EReal)) (hostFirst fun y => (R y : EReal)) (ix2 i s)) (wide 64 (fun y => X y * (1 / Real.log 2)) R i s : EReal) := by
  rw [slot_apply]
  unfold wide
  by_cases h : s.val % 128 < 64
  · rw [dif_pos h, dif_pos h]; exact over_apply _ _ _
  · rw [dif_neg h, dif_neg h, first_apply]
    refine congrArg Real.toEReal ?_
    by_cases e : s.val % 128 = 64
    · rw [if_pos e, if_pos (show s.val % 128 - 64 = 0 by omega)]
    · rw [if_neg e, if_neg (show ¬ s.val % 128 - 64 = 0 by omega)]

theorem wideQ_apply (X : S8192x1024.Idx → ℝ) (R : S8192x16.Idx → ℝ) (i : Fin 8192) (s : Fin 2048) :
    @Eq EReal (hostSlot (F := Ideal) (fun y => (X y : EReal)) (hostSecond fun y => (R y : EReal)) (ix2 i s)) (wide 65 X R i s : EReal) := by
  rw [slot_apply]
  unfold wide
  by_cases h : s.val % 128 < 64
  · rw [dif_pos h, dif_pos h]
  · rw [dif_neg h, dif_neg h, second_apply]
    refine congrArg Real.toEReal ?_
    by_cases e : s.val % 128 = 65
    · rw [if_pos e, if_pos (show s.val % 128 - 64 = 1 by omega)]
    · rw [if_neg e, if_neg (show ¬ s.val % 128 - 64 = 1 by omega)]

theorem wk_apply (W : S1024x2064.Idx → ℝ) (i : Fin 1024) (s : Fin 2048) : @Eq EReal (hostWk (F := Ideal) (fun y => (W y : EReal)) (ix2 i s)) (wideW W i s : EReal) := by
  pointwise [hostWk]
  rw [zero_half]
  unfold wideW
  by_cases h : s.val % 128 < 64
  · rw [dif_pos ⟨by omega, h⟩, dif_pos h]
  · rw [dif_neg (fun e => h e.2), dif_neg h]

theorem wv_apply (W : S1024x2064.Idx → ℝ) (i : Fin 1024) (k : Fin 1024) :
    @Eq EReal (hostWv (F := Ideal) (fun y => (W y : EReal)) (ix2 i k)) (W (ix2 i ⟨1024 + k.val, by omega⟩) : EReal) := by
  pointwise [hostWv]

theorem wf_apply (W : S1024x2064.Idx → ℝ) (i : Fin 1024) (k : Fin 128) : @Eq EReal (hostWf (F := Ideal) (fun y => (W y : EReal)) (ix2 i k)) (wideF W i k : EReal) := by
  pointwise [hostWf]
  rw [zero_half]
  unfold wideF
  by_cases h : k.val < 16
  · rw [dif_pos h, dif_pos h]
  · rw [dif_neg h, dif_neg h]

theorem sel_apply (l : ℕ) (hl : l < 128) (i : Fin 2048) (k : Fin 128) :
    @Eq EReal (hostSel (F := Ideal) (BitVec.ofNat 32 l) (ix2 i k)) ((if i.val = k.val * 128 + l then 1 else 0 : ℝ) : EReal) := by
  have w1 : FloatOps.uitofp (F := Ideal) .bf16 1#1 = ((1 : ℝ) : EReal) := by simp [FloatOps.uitofp]
  have w0 : FloatOps.uitofp (F := Ideal) .bf16 0#1 = ((0 : ℝ) : EReal) := by simp [FloatOps.uitofp]
  pointwise [hostSel]
  have e : IntOp.addi (IntOp.muli (BitVec.ofNat 32 k.val) 128#32) (BitVec.ofNat 32 l) = BitVec.ofNat 32 (k.val * 128 + l) := by
    unfold IntOp.addi IntOp.muli
    rw [← BitVec.ofNat_mul, ← BitVec.ofNat_add]
  rw [e]
  by_cases h : i.val = k.val * 128 + l
  · rw [if_pos h, ← w1, h]; simp [IntOp.cmpi]
  · have : ¬ BitVec.ofNat 32 i.val = BitVec.ofNat 32 (k.val * 128 + l) := fun hh => h (by
      have := congrArg BitVec.toNat hh
      rw [BitVec.toNat_ofNat, BitVec.toNat_ofNat, Nat.mod_eq_of_lt (by omega), Nat.mod_eq_of_lt (by omega)] at this
      exact this)
    rw [if_neg h, ← w0]
    unfold IntOp.cmpi
    rw [show (BitVec.ofNat 32 i.val == BitVec.ofNat 32 (k.val * 128 + l)) = false from beq_eq_false_iff_ne.mpr this]
    rfl

theorem normed_apply (H : S8192x1024.Idx → ℝ) (G : S1024.Idx → ℝ) (i : Fin 8192) (k : Fin 1024) :
    @Eq EReal (hostNormed (F := Ideal) (fun y => (H y : EReal)) (fun y => (G y : EReal)) (ix2 i k)) ((H (ix2 i k) * rowScale (fun l => H (ix2 i l)) * G (ix1 k) : ℝ) : EReal) := by
  pointwise [hostNormed]
  simp only [← EReal.coe_mul, ← coe_sum, ofBits_1024, ofBits_eps, div_coe _ (by norm_num : (1024 : ℝ) ≠ 0), ← EReal.coe_add]
  rw [rsqrt_coe (show 0 < (∑ l, H (ix2 i l) * H (ix2 i l)) / 1024 + eps from meanSq_pos fun l => H (ix2 i l)), ← EReal.coe_mul, ← EReal.coe_mul]
  rfl

/-- The forget logits, zeros in the columns after the 16. -/
def logit (H : S8192x1024.Idx → ℝ) (G : S1024.Idx → ℝ) (W : S1024x2064.Idx → ℝ) (B : S16.Idx → ℝ) (i : Fin 8192) (a : Fin 128) : ℝ :=
  (∑ k : Fin 1024, H (ix2 i k) * rowScale (fun l => H (ix2 i l)) * G (ix1 k) * wideF W k a) + if h : a.val < 16 then B (ix1 ⟨a.val, h⟩) else 0

theorem logits_apply (H : S8192x1024.Idx → ℝ) (G : S1024.Idx → ℝ) (W : S1024x2064.Idx → ℝ) (B : S16.Idx → ℝ) (i : Fin 8192) (a : Fin 128) :
    @Eq EReal (hostLogits (F := Ideal) (fun y => (H y : EReal)) (fun y => (G y : EReal)) (fun y => (W y : EReal)) (fun y => (B y : EReal)) (ix2 i a)) (logit H G W B i a : EReal) := by
  pointwise [hostLogits]
  simp only [normed_apply, wf_apply, ← EReal.coe_mul, ← coe_sum, zero_word]
  unfold logit
  by_cases h : a.val < 16
  · rw [dif_pos h, dif_pos h, ← EReal.coe_add]
  · rw [dif_neg h, dif_neg h, ← EReal.coe_add]

/-! ## The arrays -/

theorem V_q1 : @Eq (FVec Ideal S8192x2048 .f32) (V m c main_v68) (hostSlot (m ((c : Thread nD τ).loc main_arg5)) (hostSecond (m ((c : Thread nD τ).loc main_arg7)))) := by
  entry_read
  rfl

theorem V_q2 : @Eq (FVec Ideal S8192x2048 .f32) (V m c main_v73) (hostSlot (m ((c : Thread nD τ).loc main_arg6)) (hostSecond (m ((c : Thread nD τ).loc main_arg8)))) := by
  entry_read
  rfl

theorem V_k1 : @Eq (FVec Ideal S8192x2048 .f32) (V m c main_v56) (hostSlot (hostOver (m ((c : Thread nD τ).loc main_arg1))) (hostFirst (m ((c : Thread nD τ).loc main_arg9)))) := by
  entry_read
  rfl

theorem V_k2 : @Eq (FVec Ideal S8192x2048 .f32) (V m c main_v63) (hostSlot (hostOver (m ((c : Thread nD τ).loc main_arg2))) (hostFirst (m ((c : Thread nD τ).loc main_arg10)))) := by
  entry_read
  rfl

theorem V_wk : @Eq (FVec Ideal S1024x2048 .bf16) (V m c main_v7) (hostWk (m ((c : Thread nD τ).loc main_arg13))) := by
  entry_read
  rfl

theorem V_wv : @Eq (FVec Ideal S1024x1024 .bf16) (V m c main_v8) (hostWv (m ((c : Thread nD τ).loc main_arg13))) := by
  entry_read
  rfl

theorem V_wf : @Eq (FVec Ideal S1024x128 .bf16) (V m c main_v10) (hostWf (m ((c : Thread nD τ).loc main_arg13))) := by
  entry_read
  rfl

theorem V_sq : @Eq (FVec Ideal S2048x128 .bf16) (V m c main_v24) (hostSel 65#32) := by
  entry_read
  rfl

theorem V_sk : @Eq (FVec Ideal S2048x128 .bf16) (V m c main_v32) (hostSel 64#32) := by
  entry_read
  rfl

theorem V_g : V m c main_v2 = shapeCast _ (m ((c : Thread nD τ).loc main_arg12)) shapeCasts_S1024_S1x1024 := by
  entry_read
  rfl

theorem V_l : @Eq (FVec Ideal S8192x128 .f32) (V m c main_v49) (hostLogits (m ((c : Thread nD τ).loc main_arg11)) (m ((c : Thread nD τ).loc main_arg12)) (m ((c : Thread nD τ).loc main_arg13)) (m ((c : Thread nD τ).loc main_arg14))) := by
  entry_read
  rfl

end Cert.KvfBwdIdeal.Block

end
-- ==== Proof.KvfMath.lean ====
/-
  The gradient of the shared keys, values and forget gates in plain numbers, and the sums by which the kernel's layout gives it:
  64 columns of a head in 128, a sum that runs from the last row to the first in blocks of 256.
-/
module

public import proofs.«01_k».proof.Proof.KvfHost

@[expose] public section

set_option maxRecDepth 16384

noncomputable section

namespace Cert.KvfBwdIdeal.Block

open Cert.KvfBwdIdeal Cert.KvfBwdIdeal.Gen Cert.Reals Idealize.ShloMosaic Idealize.ShloMosaic.TcCoe Idealize.SL.Sem

/-! ## Sums from a row on -/

/-- The sum from entry `n` on. -/
def tail (f : Fin 8192 → ℝ) (n : ℕ) : ℝ := ∑ j ∈ Finset.Ico n 8192, upTo f j

theorem tail_end (f : Fin 8192 → ℝ) : tail f 8192 = 0 := by simp [tail]

/-- A block's rows from the `r`-th on, and what comes after the block. -/
theorem tail_block (f : Fin 8192 → ℝ) (b : ℕ) (hb : b + 256 ≤ 8192) (r : Fin 256) :
    (∑ r' : Fin 256, (if r.val ≤ r'.val then 1 else 0) * f ⟨b + r'.val, by omega⟩) + tail f (b + 256) = tail f (b + r.val) := by
  unfold tail
  rw [← Finset.sum_Ico_consecutive _ (show b + r.val ≤ b + 256 by omega) (show b + 256 ≤ 8192 by omega)]
  refine congrArg (· + _) ?_
  refine (Finset.sum_congr rfl fun r' _ => congrArg ((if r.val ≤ r'.val then (1 : ℝ) else 0) * ·) (upTo_lt f (show b + r'.val < 8192 by omega)).symm).trans ?_
  rw [Fin.sum_univ_eq_sum_range (fun n => (if r.val ≤ n then (1 : ℝ) else 0) * upTo f (b + n)) 256, Finset.range_eq_Ico,
    ← Finset.sum_Ico_consecutive _ (Nat.zero_le r.val) (show r.val ≤ 256 by omega),
    Finset.sum_eq_zero fun n hn => by rw [if_neg (by have := (Finset.mem_Ico.mp hn).2; omega), zero_mul], zero_add,
    add_comm b r.val, add_comm b 256, ← Finset.sum_Ico_add]
  exact Finset.sum_congr rfl fun n hn => by rw [if_pos (Finset.mem_Ico.mp hn).1, one_mul]

/-! ## Sums over the spread columns -/

/-- The matrix that takes lane `l` of each head takes the sums. -/
theorem sum_lane (l : ℕ) (hl : 64 ≤ l) (hl' : l < 128) (f f' : S8192x1024.Idx → ℝ) (g g' : S8192x16.Idx → ℝ) (i : Fin 8192) (a : Fin 128) :
    ∑ s : Fin 2048, (wide l f g i s + wide l f' g' i s) * (if s.val = a.val * 128 + l then 1 else 0) = if h : a.val < 16 then g (ix2 i ⟨a.val, h⟩) + g' (ix2 i ⟨a.val, h⟩) else 0 := by
  by_cases h : a.val < 16
  · rw [dif_pos h, Finset.sum_eq_single (⟨a.val * 128 + l, by omega⟩ : Fin 2048)]
    · have e : ∀ (f : S8192x1024.Idx → ℝ) (g : S8192x16.Idx → ℝ), wide l f g i ⟨a.val * 128 + l, by omega⟩ = g (ix2 i ⟨a.val, h⟩) := fun f g => by
        unfold wide
        rw [dif_neg (by show ¬ (a.val * 128 + l) % 128 < 64; omega), if_pos (by show (a.val * 128 + l) % 128 = l; omega)]
        exact congrArg (fun z : Fin 16 => g (ix2 i z)) (Fin.ext (by show (a.val * 128 + l) / 128 = a.val; omega))
      rw [e, e, if_pos rfl, mul_one]
    · intro s _ hs
      rw [if_neg (fun e => hs (Fin.ext e)), mul_zero]
    · exact fun h => absurd (Finset.mem_univ _) h
  · rw [dif_neg h]
    refine Finset.sum_eq_zero fun s _ => ?_
    rw [if_neg (by omega), mul_zero]

/-- The keys' part of a product with the weight. -/
theorem sum_keys (f f' : S8192x1024.Idx → ℝ) (g g' : S8192x16.Idx → ℝ) (W : S1024x2064.Idx → ℝ) (i : Fin 8192) (k : Fin 1024) :
    ∑ s : Fin 2048, (wide 64 (fun y => f y * (1 / Real.log 2)) g i s + wide 64 (fun y => f' y * (1 / Real.log 2)) g' i s) * Real.log 2 * wideW W k s
      = ∑ l : Fin 1024, (f (ix2 i l) + f' (ix2 i l)) * W (ix2 k ⟨l.val, by omega⟩) := by
  rw [← (finProdFinEquiv : Fin 16 × Fin 128 ≃ Fin 2048).sum_comp, ← (finProdFinEquiv : Fin 16 × Fin 64 ≃ Fin 1024).sum_comp, Fintype.sum_prod_type, Fintype.sum_prod_type]
  refine Finset.sum_congr rfl fun a _ => ?_
  refine (Fin.sum_univ_add (a := 64) (b := 64) fun y => (wide 64 (fun y => f y * (1 / Real.log 2)) g i (finProdFinEquiv (a, y)) + wide 64 (fun y => f' y * (1 / Real.log 2)) g' i (finProdFinEquiv (a, y)))
    * Real.log 2 * wideW W k (finProdFinEquiv (a, y))).trans ?_
  refine Eq.trans (congrArg₂ (· + ·) (Finset.sum_congr rfl fun b _ => ?_) (Finset.sum_eq_zero fun b _ => ?_)) (add_zero _)
  · have h : (finProdFinEquiv (a, Fin.castAdd 64 b) : Fin 2048).val = b.val + 128 * a.val := rfl
    have h' : (finProdFinEquiv (a, b) : Fin 1024).val = b.val + 64 * a.val := rfl
    have e : ∀ (f : S8192x1024.Idx → ℝ) (g : S8192x16.Idx → ℝ), wide 64 f g i (finProdFinEquiv (a, Fin.castAdd 64 b)) = f (ix2 i (finProdFinEquiv (a, b))) := fun f g => by
      unfold wide
      rw [dif_pos (by rw [h]; omega)]
      exact congrArg (fun z : Fin 1024 => f (ix2 i z)) (Fin.ext (by show (finProdFinEquiv (a, Fin.castAdd 64 b) : Fin 2048).val / 128 * 64 + (finProdFinEquiv (a, Fin.castAdd 64 b) : Fin 2048).val % 128 = (finProdFinEquiv (a, b) : Fin 1024).val; rw [h, h']; omega))
    have ew : wideW W k (finProdFinEquiv (a, Fin.castAdd 64 b)) = W (ix2 k ⟨(finProdFinEquiv (a, b) : Fin 1024).val, by omega⟩) := by
      unfold wideW
      rw [dif_pos (by rw [h]; omega)]
      exact congrArg (fun z : Fin 2064 => W (ix2 k z)) (Fin.ext (by show (finProdFinEquiv (a, Fin.castAdd 64 b) : Fin 2048).val / 128 * 64 + (finProdFinEquiv (a, Fin.castAdd 64 b) : Fin 2048).val % 128 = (finProdFinEquiv (a, b) : Fin 1024).val; rw [h, h']; omega))
    rw [e, e, ew]
    have : Real.log 2 ≠ 0 := (Real.log_pos (by norm_num)).ne'
    field_simp
  · have h : (finProdFinEquiv (a, Fin.natAdd 64 b) : Fin 2048).val = (64 + b.val) + 128 * a.val := rfl
    have ew : wideW W k (finProdFinEquiv (a, Fin.natAdd 64 b)) = 0 := by
      unfold wideW
      rw [dif_neg (by rw [h]; omega)]
    rw [ew, mul_zero]

/-- The gates' part of a product with the weight. -/
theorem sum_gates (d : Fin 128 → ℝ) (W : S1024x2064.Idx → ℝ) (k : Fin 1024) :
    ∑ a : Fin 128, d a * wideF W k a = ∑ a : Fin 16, d ⟨a.val, by omega⟩ * W (ix2 k ⟨2048 + a.val, by omega⟩) := by
  refine (Fin.sum_univ_add (a := 16) (b := 112) fun a => d a * wideF W k a).trans ?_
  refine Eq.trans (congrArg₂ (· + ·) (Finset.sum_congr rfl fun a _ => ?_) (Finset.sum_eq_zero fun a _ => ?_)) (add_zero _)
  · unfold wideF
    rw [dif_pos (by show a.val < 16; omega)]
    rfl
  · unfold wideF
    rw [dif_neg (by show ¬ 16 + a.val < 16; omega), mul_zero]

/-! ## The gradient -/

namespace Data

variable (x : Data)

/-- The cotangent of the running sum of the gates' logarithms. -/
def dcum (i : Fin 8192) (a : Fin 128) : ℝ :=
  (if h : a.val < 16 then x.rq1 (ix2 i ⟨a.val, h⟩) + x.rq2 (ix2 i ⟨a.val, h⟩) else 0) - if h : a.val < 16 then x.rk1 (ix2 i ⟨a.val, h⟩) + x.rk2 (ix2 i ⟨a.val, h⟩) else 0

/-- The gates' gradient. -/
def gate (i : Fin 8192) (a : Fin 128) : ℝ := tail (fun j => x.dcum j a) i.val / (1 + Real.exp (logit x.h x.g x.w x.b i a))

/-- The cotangent of the normed stream. -/
def cot (i : Fin 8192) (k : Fin 1024) : ℝ :=
  (∑ l : Fin 1024, (x.k1 (ix2 i l) + x.k2 (ix2 i l)) * x.w (ix2 k ⟨l.val, by omega⟩)) + (∑ l : Fin 1024, (x.v1 (ix2 i l) + x.v2 (ix2 i l)) * x.w (ix2 k ⟨1024 + l.val, by omega⟩))
    + ∑ a : Fin 16, x.gate i ⟨a.val, by omega⟩ * x.w (ix2 k ⟨2048 + a.val, by omega⟩)

/-- What row `i` adds to the gain's gradient. -/
def gainTerm (k : Fin 1024) (i : Fin 8192) : ℝ := x.cot i k * (x.h (ix2 i k) * rowScale fun l => x.h (ix2 i l))

end Data

end Cert.KvfBwdIdeal.Block

end
-- ==== Proof.KvfTiles.lean ====
/-
  What the gradient of the shared keys, values and forget gates leaves in its arrays, of finite inputs. The grid runs from the
  last block of rows to the first, so that each point can start its running sum from what the later rows left.
-/
module

public import proofs.«01_k».proof.Proof.KvfMath

@[expose] public section

set_option maxRecDepth 16384

noncomputable section

namespace Cert.KvfBwdIdeal.Block

open Cert.KvfBwdIdeal Cert.KvfBwdIdeal.Gen Cert.KvfBwdIdeal.Kvf Cert.Reals Idealize.ShloMosaic Idealize.ShloMosaic.TcCoe Idealize.SL.Sem

theorem place : ∀ t : Fin cfg0.N, win0_0.index t = ![31 - t.val, 0] ∧ win0_1.index t = ![31 - t.val, 0] ∧ win0_2.index t = ![31 - t.val, 0] ∧ win0_3.index t = ![31 - t.val, 0]
    ∧ win0_4.index t = ![31 - t.val, 0] ∧ win0_5.index t = ![31 - t.val, 0] ∧ win0_6.index t = ![31 - t.val, 0] ∧ win0_7.index t = ![31 - t.val, 0]
    ∧ win0_8.index t = ![31 - t.val, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![31 - t.val, 0]
    ∧ win0_16.index t = ![31 - t.val, 0] ∧ win0_17.index t = ![31 - t.val, 0] ∧ win0_18.index t = ![31 - t.val, 0] ∧ win0_19.index t = ![31 - t.val, 0]
    ∧ win0_20.index t = ![0, 0] ∧ win0_21.index t = ![0, 0] := by
  decide +kernel

/-- The row of the arrays that is row `r` of point `t`. -/
def row (t : Fin cfg0.N) (r : Fin 256) : Fin 8192 := ⟨256 * (31 - t.val) + r.val, by omega⟩

/-- The column of the weight that is column `l` of the values. -/
def valueColumn (l : Fin 1024) : Fin 2064 := ⟨1024 + l.val, by omega⟩

theorem gain_row (G : S1024.Idx → ℝ) (k : Fin 1024) : @Eq EReal (shapeCast S1x1024 (fun i => (G i : EReal)) shapeCasts_S1024_S1x1024 (ix2 0 k)) (G (ix1 k) : EReal) := by
  pointwise

variable {m : (ℓ : Loc nD τ sig) → Buf (Elt Ideal) ℓ} {c : Dev nD} {A : S8192x1024.Idx → EReal} {x : Data} (I : Args m c A x)

include I in
theorem blk_a (t : Fin cfg0.N) : @Eq (Vec Ideal S256x1024 .f32) (iblk m c 0 t) fun y => (A (ix2 (row t (y 0)) (y 1))) := by
  refine funext fun (y : S256x1024.Idx) => ?_
  unfold iblk
  rw [View.read_apply]
  have e : ((cfg0.win 0).blk t).view.emb y = ix2 (row t (y 0)) (y 1) := by
    funext a
    apply Fin.ext
    match a with
    | ⟨0, _⟩ => show win0_0.index t 0 * 256 + 1 * (y 0).val = _; rw [(place t).1]; show (31 - t.val) * 256 + 1 * (y 0).val = 256 * (31 - t.val) + (y 0).val; omega
    | ⟨1, _⟩ => show win0_0.index t 1 * 1024 + 1 * (y 1).val = _; rw [(place t).1]; show 0 * 1024 + 1 * (y 1).val = (y 1).val; omega
  show V m c main_arg0 (((cfg0.win 0).blk t).view.emb y) = _
  rw [e, V_main_arg0, I.a]
  rfl

include I in
theorem blk_h (t : Fin cfg0.N) : @Eq (Vec Ideal S256x1024 .f32) (iblk m c 1 t) fun y => (x.h (ix2 (row t (y 0)) (y 1)) : EReal) := by
  refine funext fun (y : S256x1024.Idx) => ?_
  unfold iblk
  rw [View.read_apply]
  have e : ((cfg0.win 1).blk t).view.emb y = ix2 (row t (y 0)) (y 1) := by
    funext a
    apply Fin.ext
    match a with
    | ⟨0, _⟩ => show win0_1.index t 0 * 256 + 1 * (y 0).val = _; rw [(place t).2.1]; show (31 - t.val) * 256 + 1 * (y 0).val = 256 * (31 - t.val) + (y 0).val; omega
    | ⟨1, _⟩ => show win0_1.index t 1 * 1024 + 1 * (y 1).val = _; rw [(place t).2.1]; show 0 * 1024 + 1 * (y 1).val = (y 1).val; omega
  show V m c main_arg11 (((cfg0.win 1).blk t).view.emb y) = _
  rw [e, V_main_arg11, I.h]
  rfl

include I in
theorem blk_k1 (t : Fin cfg0.N) : @Eq (Vec Ideal S256x2048 .f32) (iblk m c 2 t) fun y => (wide 64 (fun z => x.k1 z * (1 / Real.log 2)) x.rk1 (row t (y 0)) (y 1) : EReal) := by
  refine funext fun (y : S256x2048.Idx) => ?_
  unfold iblk
  rw [View.read_apply]
  have e : ((cfg0.win 2).blk t).view.emb y = ix2 (row t (y 0)) (y 1) := by
    funext a
    apply Fin.ext
    match a with
    | ⟨0, _⟩ => show win0_2.index t 0 * 256 + 1 * (y 0).val = _; rw [(place t).2.2.1]; show (31 - t.val) * 256 + 1 * (y 0).val = 256 * (31 - t.val) + (y 0).val; omega
    | ⟨1, _⟩ => show win0_2.index t 1 * 2048 + 1 * (y 1).val = _; rw [(place t).2.2.1]; show 0 * 2048 + 1 * (y 1).val = (y 1).val; omega
  show V m c main_v56 (((cfg0.win 2).blk t).view.emb y) = _
  rw [e, V_k1, I.k1, I.rk1]
  exact wideK_apply _ _ _ _

include I in
theorem blk_k2 (t : Fin cfg0.N) : @Eq (Vec Ideal S256x2048 .f32) (iblk m c 3 t) fun y => (wide 64 (fun z => x.k2 z * (1 / Real.log 2)) x.rk2 (row t (y 0)) (y 1) : EReal) := by
  refine funext fun (y : S256x2048.Idx) => ?_
  unfold iblk
  rw [View.read_apply]
  have e : ((cfg0.win 3).blk t).view.emb y = ix2 (row t (y 0)) (y 1) := by
    funext a
    apply Fin.ext
    match a with
    | ⟨0, _⟩ => show win0_3.index t 0 * 256 + 1 * (y 0).val = _; rw [(place t).2.2.2.1]; show (31 - t.val) * 256 + 1 * (y 0).val = 256 * (31 - t.val) + (y 0).val; omega
    | ⟨1, _⟩ => show win0_3.index t 1 * 2048 + 1 * (y 1).val = _; rw [(place t).2.2.2.1]; show 0 * 2048 + 1 * (y 1).val = (y 1).val; omega
  show V m c main_v63 (((cfg0.win 3).blk t).view.emb y) = _
  rw [e, V_k2, I.k2, I.rk2]
  exact wideK_apply _ _ _ _

include I in
theorem blk_v1 (t : Fin cfg0.N) : @Eq (Vec Ideal S256x1024 .f32) (iblk m c 4 t) fun y => (x.v1 (ix2 (row t (y 0)) (y 1)) : EReal) := by
  refine funext fun (y : S256x1024.Idx) => ?_
  unfold iblk
  rw [View.read_apply]
  have e : ((cfg0.win 4).blk t).view.emb y = ix2 (row t (y 0)) (y 1) := by
    funext a
    apply Fin.ext
    match a with
    | ⟨0, _⟩ => show win0_4.index t 0 * 256 + 1 * (y 0).val = _; rw [(place t).2.2.2.2.1]; show (31 - t.val) * 256 + 1 * (y 0).val = 256 * (31 - t.val) + (y 0).val; omega
    | ⟨1, _⟩ => show win0_4.index t 1 * 1024 + 1 * (y 1).val = _; rw [(place t).2.2.2.2.1]; show 0 * 1024 + 1 * (y 1).val = (y 1).val; omega
  show V m c main_arg3 (((cfg0.win 4).blk t).view.emb y) = _
  rw [e, V_main_arg3, I.v1]
  rfl

include I in
theorem blk_v2 (t : Fin cfg0.N) : @Eq (Vec Ideal S256x1024 .f32) (iblk m c 5 t) fun y => (x.v2 (ix2 (row t (y 0)) (y 1)) : EReal) := by
  refine funext fun (y : S256x1024.Idx) => ?_
  unfold iblk
  rw [View.read_apply]
  have e : ((cfg0.win 5).blk t).view.emb y = ix2 (row t (y 0)) (y 1) := by
    funext a
    apply Fin.ext
    match a with
    | ⟨0, _⟩ => show win0_5.index t 0 * 256 + 1 * (y 0).val = _; rw [(place t).2.2.2.2.2.1]; show (31 - t.val) * 256 + 1 * (y 0).val = 256 * (31 - t.val) + (y 0).val; omega
    | ⟨1, _⟩ => show win0_5.index t 1 * 1024 + 1 * (y 1).val = _; rw [(place t).2.2.2.2.2.1]; show 0 * 1024 + 1 * (y 1).val = (y 1).val; omega
  show V m c main_arg4 (((cfg0.win 5).blk t).view.emb y) = _
  rw [e, V_main_arg4, I.v2]
  rfl

include I in
theorem blk_q1 (t : Fin cfg0.N) : @Eq (Vec Ideal S256x2048 .f32) (iblk m c 6 t) fun y => (wide 65 x.q1 x.rq1 (row t (y 0)) (y 1) : EReal) := by
  refine funext fun (y : S256x2048.Idx) => ?_
  unfold iblk
  rw [View.read_apply]
  have e : ((cfg0.win 6).blk t).view.emb y = ix2 (row t (y 0)) (y 1) := by
    funext a
    apply Fin.ext
    match a with
    | ⟨0, _⟩ => show win0_6.index t 0 * 256 + 1 * (y 0).val = _; rw [(place t).2.2.2.2.2.2.1]; show (31 - t.val) * 256 + 1 * (y 0).val = 256 * (31 - t.val) + (y 0).val; omega
    | ⟨1, _⟩ => show win0_6.index t 1 * 2048 + 1 * (y 1).val = _; rw [(place t).2.2.2.2.2.2.1]; show 0 * 2048 + 1 * (y 1).val = (y 1).val; omega
  show V m c main_v68 (((cfg0.win 6).blk t).view.emb y) = _
  rw [e, V_q1, I.q1, I.rq1]
  exact wideQ_apply _ _ _ _

include I in
theorem blk_q2 (t : Fin cfg0.N) : @Eq (Vec Ideal S256x2048 .f32) (iblk m c 7 t) fun y => (wide 65 x.q2 x.rq2 (row t (y 0)) (y 1) : EReal) := by
  refine funext fun (y : S256x2048.Idx) => ?_
  unfold iblk
  rw [View.read_apply]
  have e : ((cfg0.win 7).blk t).view.emb y = ix2 (row t (y 0)) (y 1) := by
    funext a
    apply Fin.ext
    match a with
    | ⟨0, _⟩ => show win0_7.index t 0 * 256 + 1 * (y 0).val = _; rw [(place t).2.2.2.2.2.2.2.1]; show (31 - t.val) * 256 + 1 * (y 0).val = 256 * (31 - t.val) + (y 0).val; omega
    | ⟨1, _⟩ => show win0_7.index t 1 * 2048 + 1 * (y 1).val = _; rw [(place t).2.2.2.2.2.2.2.1]; show 0 * 2048 + 1 * (y 1).val = (y 1).val; omega
  show V m c main_v73 (((cfg0.win 7).blk t).view.emb y) = _
  rw [e, V_q2, I.q2, I.rq2]
  exact wideQ_apply _ _ _ _

include I in
theorem blk_l (t : Fin cfg0.N) : @Eq (Vec Ideal S256x128 .f32) (iblk m c 8 t) fun y => (logit x.h x.g x.w x.b (row t (y 0)) (y 1) : EReal) := by
  refine funext fun (y : S256x128.Idx) => ?_
  unfold iblk
  rw [View.read_apply]
  have e : ((cfg0.win 8).blk t).view.emb y = ix2 (row t (y 0)) (y 1) := by
    funext a
    apply Fin.ext
    match a with
    | ⟨0, _⟩ => show win0_8.index t 0 * 256 + 1 * (y 0).val = _; rw [(place t).2.2.2.2.2.2.2.2.1]; show (31 - t.val) * 256 + 1 * (y 0).val = 256 * (31 - t.val) + (y 0).val; omega
    | ⟨1, _⟩ => show win0_8.index t 1 * 128 + 1 * (y 1).val = _; rw [(place t).2.2.2.2.2.2.2.2.1]; show 0 * 128 + 1 * (y 1).val = (y 1).val; omega
  show V m c main_v49 (((cfg0.win 8).blk t).view.emb y) = _
  rw [e, V_l, I.h, I.g, I.w, I.b]
  exact logits_apply _ _ _ _ _ _

include I in
theorem blk_g (t : Fin cfg0.N) : @Eq (Vec Ideal S1x1024 .f32) (iblk m c 9 t) fun y => (x.g (ix1 (y 1)) : EReal) := by
  refine funext fun (y : S1x1024.Idx) => ?_
  unfold iblk
  rw [View.read_apply]
  have e : ((cfg0.win 9).blk t).view.emb y = ix2 (0 : Fin 1) (y 1) := by
    funext a
    apply Fin.ext
    match a with
    | ⟨0, _⟩ => show win0_9.index t 0 * 1 + 1 * (y 0).val = _; rw [(place t).2.2.2.2.2.2.2.2.2.1]; show 0 * 1 + 1 * (y 0).val = 0; have : (y 0).val < 1 := (y 0).isLt; omega
    | ⟨1, _⟩ => show win0_9.index t 1 * 1024 + 1 * (y 1).val = _; rw [(place t).2.2.2.2.2.2.2.2.2.1]; show 0 * 1024 + 1 * (y 1).val = (y 1).val; omega
  show V m c main_v2 (((cfg0.win 9).blk t).view.emb y) = _
  rw [e, V_g, I.g]
  exact gain_row x.g _

include I in
theorem blk_wk (t : Fin cfg0.N) : @Eq (Vec Ideal S1024x2048 .bf16) (iblk m c 10 t) fun y => (wideW x.w (y 0) (y 1) : EReal) := by
  refine funext fun (y : S1024x2048.Idx) => ?_
  unfold iblk
  rw [View.read_apply]
  have e : ((cfg0.win 10).blk t).view.emb y = ix2 (y 0) (y 1) := by
    funext a
    apply Fin.ext
    match a with
    | ⟨0, _⟩ => show win0_10.index t 0 * 1024 + 1 * (y 0).val = _; rw [(place t).2.2.2.2.2.2.2.2.2.2.1]; show 0 * 1024 + 1 * (y 0).val = (y 0).val; omega
    | ⟨1, _⟩ => show win0_10.index t 1 * 2048 + 1 * (y 1).val = _; rw [(place t).2.2.2.2.2.2.2.2.2.2.1]; show 0 * 2048 + 1 * (y 1).val = (y 1).val; omega
  show V m c main_v7 (((cfg0.win 10).blk t).view.emb y) = _
  rw [e, V_wk, I.w]
  exact wk_apply _ _ _

include I in
theorem blk_wv (t : Fin cfg0.N) : @Eq (Vec Ideal S1024x1024 .bf16) (iblk m c 11 t) fun y => (x.w (ix2 (y 0) (valueColumn (y 1))) : EReal) := by
  refine funext fun (y : S1024x1024.Idx) => ?_
  unfold iblk
  rw [View.read_apply]
  have e : ((cfg0.win 11).blk t).view.emb y = ix2 (y 0) (y 1) := by
    funext a
    apply Fin.ext
    match a with
    | ⟨0, _⟩ => show win0_11.index t 0 * 1024 + 1 * (y 0).val = _; rw [(place t).2.2.2.2.2.2.2.2.2.2.2.1]; show 0 * 1024 + 1 * (y 0).val = (y 0).val; omega
    | ⟨1, _⟩ => show win0_11.index t 1 * 1024 + 1 * (y 1).val = _; rw [(place t).2.2.2.2.2.2.2.2.2.2.2.1]; show 0 * 1024 + 1 * (y 1).val = (y 1).val; omega
  show V m c main_v8 (((cfg0.win 11).blk t).view.emb y) = _
  rw [e, V_wv, I.w]
  exact wv_apply _ _ _

include I in
theorem blk_wf (t : Fin cfg0.N) : @Eq (Vec Ideal S1024x128 .bf16) (iblk m c 12 t) fun y => (wideF x.w (y 0) (y 1) : EReal) := by
  refine funext fun (y : S1024x128.Idx) => ?_
  unfold iblk
  rw [View.read_apply]
  have e : ((cfg0.win 12).blk t).view.emb y = ix2 (y 0) (y 1) := by
    funext a
    apply Fin.ext
    match a with
    | ⟨0, _⟩ => show win0_12.index t 0 * 1024 + 1 * (y 0).val = _; rw [(place t).2.2.2.2.2.2.2.2.2.2.2.2.1]; show 0 * 1024 + 1 * (y 0).val = (y 0).val; omega
    | ⟨1, _⟩ => show win0_12.index t 1 * 128 + 1 * (y 1).val = _; rw [(place t).2.2.2.2.2.2.2.2.2.2.2.2.1]; show 0 * 128 + 1 * (y 1).val = (y 1).val; omega
  show V m c main_v10 (((cfg0.win 12).blk t).view.emb y) = _
  rw [e, V_wf, I.w]
  exact wf_apply _ _ _

theorem blk_sq (t : Fin cfg0.N) : @Eq (Vec Ideal S2048x128 .bf16) (iblk m c 13 t) fun y => ((if (y 0).val = (y 1).val * 128 + 65 then 1 else 0 : ℝ) : EReal) := by
  refine funext fun (y : S2048x128.Idx) => ?_
  unfold iblk
  rw [View.read_apply]
  have e : ((cfg0.win 13).blk t).view.emb y = ix2 (y 0) (y 1) := by
    funext a
    apply Fin.ext
    match a with
    | ⟨0, _⟩ => show win0_13.index t 0 * 2048 + 1 * (y 0).val = _; rw [(place t).2.2.2.2.2.2.2.2.2.2.2.2.2.1]; show 0 * 2048 + 1 * (y 0).val = (y 0).val; omega
    | ⟨1, _⟩ => show win0_13.index t 1 * 128 + 1 * (y 1).val = _; rw [(place t).2.2.2.2.2.2.2.2.2.2.2.2.2.1]; show 0 * 128 + 1 * (y 1).val = (y 1).val; omega
  show V m c main_v24 (((cfg0.win 13).blk t).view.emb y) = _
  rw [e, V_sq]
  exact sel_apply 65 (by norm_num) _ _

theorem blk_sk (t : Fin cfg0.N) : @Eq (Vec Ideal S2048x128 .bf16) (iblk m c 14 t) fun y => ((if (y 0).val = (y 1).val * 128 + 64 then 1 else 0 : ℝ) : EReal) := by
  refine funext fun (y : S2048x128.Idx) => ?_
  unfold iblk
  rw [View.read_apply]
  have e : ((cfg0.win 14).blk t).view.emb y = ix2 (y 0) (y 1) := by
    funext a
    apply Fin.ext
    match a with
    | ⟨0, _⟩ => show win0_14.index t 0 * 2048 + 1 * (y 0).val = _; rw [(place t).2.2.2.2.2.2.2.2.2.2.2.2.2.2.1]; show 0 * 2048 + 1 * (y 0).val = (y 0).val; omega
    | ⟨1, _⟩ => show win0_14.index t 1 * 128 + 1 * (y 1).val = _; rw [(place t).2.2.2.2.2.2.2.2.2.2.2.2.2.2.1]; show 0 * 128 + 1 * (y 1).val = (y 1).val; omega
  show V m c main_v32 (((cfg0.win 14).blk t).view.emb y) = _
  rw [e, V_sk]
  exact sel_apply 64 (by norm_num) _ _

end Cert.KvfBwdIdeal.Block

end
-- ==== Proof.KvfStep.lean ====
/-
  What a grid point of the shared keys', values' and forget gates' gradient leaves and carries on, of tiles of finite numbers.
-/
module

public import proofs.«01_k».proof.Proof.KvfPoint
public import proofs.«01_k».proof.Proof.KvfBlock

@[expose] public section

set_option maxRecDepth 16384

noncomputable section

namespace Cert.KvfBwdIdeal.Block

open Cert.KvfBwdIdeal Cert.KvfBwdIdeal.Gen Cert.KvfBwdIdeal.Kvf Cert.Reals Idealize.ShloMosaic Idealize.SL.Sem

attribute [ext] Kvf.Tiles

/-- A point's operand tiles but the incoming cotangent, as numbers. -/
structure Numbers where
  h : S256x1024.Idx → ℝ
  (k1 k2 : S256x2048.Idx → ℝ)
  (v1 v2 : S256x1024.Idx → ℝ)
  (q1 q2 : S256x2048.Idx → ℝ)
  l : S256x128.Idx → ℝ
  g : S1x1024.Idx → ℝ
  wk : S1024x2048.Idx → ℝ
  wv : S1024x1024.Idx → ℝ
  wf : S1024x128.Idx → ℝ
  (sq sk : S2048x128.Idx → ℝ)

namespace Numbers

variable (z : Numbers) (d : Vec Ideal S256x1024 .f32)

/-- The tiles that hold the numbers. -/
def tiles : Tiles Ideal where
  dh := d
  h := fun y => (z.h y : EReal)
  dk1 := fun y => (z.k1 y : EReal)
  dk2 := fun y => (z.k2 y : EReal)
  dv1 := fun y => (z.v1 y : EReal)
  dv2 := fun y => (z.v2 y : EReal)
  dq1 := fun y => (z.q1 y : EReal)
  dq2 := fun y => (z.q2 y : EReal)
  fl := fun y => (z.l y : EReal)
  g := fun y => (z.g y : EReal)
  wk := fun y => (z.wk y : EReal)
  wv := fun y => (z.wv y : EReal)
  wf := fun y => (z.wf y : EReal)
  sq := fun y => (z.sq y : EReal)
  sk := fun y => (z.sk y : EReal)

variable {z d} {s : Carried Ideal} {U : S1x128.Idx → ℝ} (hs : @Eq (Vec Ideal S1x128 .f32) s.row fun y => (U y : EReal))

/-- The gates' gradient. -/
def gates (z : Numbers) (U : S1x128.Idx → ℝ) (y : S256x128.Idx) : ℝ := gate z.k1 z.k2 z.q1 z.q2 z.sq z.sk U z.l (y 0) (y 1)

/-- The cotangent of the normed stream. -/
def back (z : Numbers) (U : S1x128.Idx → ℝ) (r : Fin 256) (k : Fin 1024) : ℝ := Block.back (fun y => z.k1 y + z.k2 y) z.v1 z.v2 (z.gates U) z.wk z.wv z.wf r k

include hs

theorem gates_eq : @Eq (Vec Ideal S256x128 .bf16) ((z.tiles d).gates s) fun y => (z.gates U y : EReal) := by
  refine funext fun (y : S256x128.Idx) => ?_
  have e : y = ix2 (y 0) (y 1) := by funext a; fin_cases a <;> rfl
  unfold Tiles.gates tiles
  dsimp only
  rw [hs]
  exact (congrArg _ e).trans (gate16_apply z.k1 z.k2 z.q1 z.q2 z.sq z.sk U z.l (y 0) (y 1))

theorem next_carry (r : Fin 8) (a : Fin 128) : @Eq EReal (((z.tiles d).next s).carry (ix2 r a)) (suf z.k1 z.k2 z.q1 z.q2 z.sq z.sk U 0 a : EReal) := by
  unfold Tiles.next tiles
  dsimp only
  rw [hs]
  exact carry_apply z.k1 z.k2 z.q1 z.q2 z.sq z.sk U r a

theorem next_bacc (r : Fin 8) (a : Fin 128) : @Eq EReal (((z.tiles d).next s).bacc (ix2 r a))
    (s.bacc (ix2 r a) + ((∑ x : Fin 32, z.gates U (ix2 ⟨x.val * 8 + r.val, by omega⟩ a) : ℝ) : EReal)) := by
  unfold Tiles.next tiles
  dsimp only
  rw [hs]
  exact bias_apply z.k1 z.k2 z.q1 z.q2 z.sq z.sk U z.l s.bacc r a

theorem next_acc (r : Fin 8) (k : Fin 1024) : @Eq EReal (((z.tiles d).next s).acc (ix2 r k))
    (s.acc (ix2 r k) + ((∑ x : Fin 32, z.back U ⟨x.val * 8 + r.val, by omega⟩ k
      * (z.h (ix2 ⟨x.val * 8 + r.val, by omega⟩ k) * rowScale fun l => z.h (ix2 ⟨x.val * 8 + r.val, by omega⟩ l)) : ℝ) : EReal)) := by
  have e := gates_eq (z := z) (d := d) hs
  unfold Tiles.next
  dsimp only
  rw [e]
  unfold tiles
  dsimp only
  rw [pay9_eq]
  exact gain_apply (fun y => z.k1 y + z.k2 y) z.v1 z.v2 (z.gates U) z.wk z.wv z.wf z.h s.acc r k

theorem outs_o (r : Fin 256) (k : Fin 1024) : @Eq EReal (((z.tiles d).outs s).o (ix2 r k))
    (d (ix2 r k) + ((normGrad (fun l => z.h (ix2 r l)) (fun l => z.g (ix2 0 l)) (z.back U r) k : ℝ) : EReal)) := by
  have e := gates_eq (z := z) (d := d) hs
  unfold Tiles.outs
  dsimp only
  rw [e]
  unfold tiles
  dsimp only
  rw [pay9_eq]
  exact row_apply (fun y => z.k1 y + z.k2 y) z.v1 z.v2 (z.gates U) z.wk z.wv z.wf z.g z.h d r k

theorem outs_df (r : Fin 256) (a : Fin 128) : @Eq EReal (((z.tiles d).outs s).df (ix2 r a)) (z.gates U (ix2 r a) : EReal) :=
  congrFun (gates_eq (z := z) (d := d) hs) (ix2 r a)

omit hs

theorem outs_hk (r : Fin 256) (k : Fin 1024) : @Eq EReal (((z.tiles d).outs s).hk (ix2 r k))
    ((z.h (ix2 r k) * rowScale (fun l => z.h (ix2 r l)) * z.g (ix2 0 k) : ℝ) : EReal) := pay28_apply z.g z.h r k

theorem outs_dk (r : Fin 256) (k : Fin 2048) : @Eq EReal (((z.tiles d).outs s).dk (ix2 r k)) (((z.k1 (ix2 r k) + z.k2 (ix2 r k)) * Real.log 2 : ℝ) : EReal) := by
  unfold Tiles.outs tiles
  dsimp only
  rw [pay9_eq]
  exact pay23_apply (fun y => z.k1 y + z.k2 y) r k

theorem outs_dv (r : Fin 256) (k : Fin 1024) : @Eq EReal (((z.tiles d).outs s).dv (ix2 r k)) ((z.v1 (ix2 r k) + z.v2 (ix2 r k) : ℝ) : EReal) := pay24_apply z.v1 z.v2 r k

end Numbers

end Cert.KvfBwdIdeal.Block

end
-- ==== Proof.KvfCarry.lean ====
/-
  What the gradient of the shared keys, values and forget gates leaves in its arrays, of finite inputs. The grid runs from the
  last block of rows to the first, so that each point can start its running sum from what the later rows left.
-/
module

public import proofs.«01_k».proof.Proof.KvfTiles
public import proofs.«01_k».proof.Proof.KvfStep
public import Idealize.ShloMosaic.Lib.Pipeline.ValueKit.Tiles

@[expose] public section

set_option maxRecDepth 16384

noncomputable section

namespace Cert.KvfBwdIdeal.Block

open Cert.KvfBwdIdeal Cert.KvfBwdIdeal.Gen Cert.KvfBwdIdeal.Kvf Cert.Reals Idealize.ShloMosaic Idealize.ShloMosaic.TcCoe Idealize.SL.Sem

variable {m : (ℓ : Loc nD τ sig) → Buf (Elt Ideal) ℓ} {c : Dev nD} {A : S8192x1024.Idx → EReal} {x : Data} (I : Args m c A x)

theorem eta {n k : ℕ} (y : (Shape.mk 2 ![n, k]).Idx) : y = ix2 (y 0) (y 1) := by funext a; fin_cases a <;> rfl

theorem points (t : Fin cfg0.N) : t.val < 32 := lt_of_lt_of_eq t.isLt (show cfg0.N = 32 from N_0)

/-! ## The numbers of one point -/

/-- What point `t` reads. -/
def Data.numbers (x : Data) (t : Fin cfg0.N) : Numbers where
  h := fun y => x.h (ix2 (row t (y 0)) (y 1))
  k1 := fun y => wide 64 (fun z => x.k1 z * (1 / Real.log 2)) x.rk1 (row t (y 0)) (y 1)
  k2 := fun y => wide 64 (fun z => x.k2 z * (1 / Real.log 2)) x.rk2 (row t (y 0)) (y 1)
  v1 := fun y => x.v1 (ix2 (row t (y 0)) (y 1))
  v2 := fun y => x.v2 (ix2 (row t (y 0)) (y 1))
  q1 := fun y => wide 65 x.q1 x.rq1 (row t (y 0)) (y 1)
  q2 := fun y => wide 65 x.q2 x.rq2 (row t (y 0)) (y 1)
  l := fun y => logit x.h x.g x.w x.b (row t (y 0)) (y 1)
  g := fun y => x.g (ix1 (y 1))
  wk := fun y => wideW x.w (y 0) (y 1)
  wv := fun y => x.w (ix2 (y 0) (valueColumn (y 1)))
  wf := fun y => wideF x.w (y 0) (y 1)
  sq := fun y => if (y 0).val = (y 1).val * 128 + 65 then 1 else 0
  sk := fun y => if (y 0).val = (y 1).val * 128 + 64 then 1 else 0

/-- What the rows after point `t` add up to. -/
def Data.after (x : Data) (n : ℕ) (y : S1x128.Idx) : ℝ := tail (fun j => x.dcum j (y 1)) (256 * (32 - n))

include I in
theorem tile_dh (t : Fin cfg0.N) : (tilesAt m c t).dh = ((x.numbers t).tiles fun y => A (ix2 (row t (y 0)) (y 1))).dh := blk_a I t

include I in
theorem tile_h (t : Fin cfg0.N) : (tilesAt m c t).h = ((x.numbers t).tiles fun y => A (ix2 (row t (y 0)) (y 1))).h := blk_h I t

include I in
theorem tile_dk1 (t : Fin cfg0.N) : (tilesAt m c t).dk1 = ((x.numbers t).tiles fun y => A (ix2 (row t (y 0)) (y 1))).dk1 := blk_k1 I t

include I in
theorem tile_dk2 (t : Fin cfg0.N) : (tilesAt m c t).dk2 = ((x.numbers t).tiles fun y => A (ix2 (row t (y 0)) (y 1))).dk2 := blk_k2 I t

include I in
theorem tile_dv1 (t : Fin cfg0.N) : (tilesAt m c t).dv1 = ((x.numbers t).tiles fun y => A (ix2 (row t (y 0)) (y 1))).dv1 := blk_v1 I t

include I in
theorem tile_dv2 (t : Fin cfg0.N) : (tilesAt m c t).dv2 = ((x.numbers t).tiles fun y => A (ix2 (row t (y 0)) (y 1))).dv2 := blk_v2 I t

include I in
theorem tile_dq1 (t : Fin cfg0.N) : (tilesAt m c t).dq1 = ((x.numbers t).tiles fun y => A (ix2 (row t (y 0)) (y 1))).dq1 := blk_q1 I t

include I in
theorem tile_dq2 (t : Fin cfg0.N) : (tilesAt m c t).dq2 = ((x.numbers t).tiles fun y => A (ix2 (row t (y 0)) (y 1))).dq2 := blk_q2 I t

include I in
theorem tile_fl (t : Fin cfg0.N) : (tilesAt m c t).fl = ((x.numbers t).tiles fun y => A (ix2 (row t (y 0)) (y 1))).fl := blk_l I t

include I in
theorem tile_g (t : Fin cfg0.N) : (tilesAt m c t).g = ((x.numbers t).tiles fun y => A (ix2 (row t (y 0)) (y 1))).g := blk_g I t

include I in
theorem tile_wk (t : Fin cfg0.N) : (tilesAt m c t).wk = ((x.numbers t).tiles fun y => A (ix2 (row t (y 0)) (y 1))).wk := blk_wk I t

include I in
theorem tile_wv (t : Fin cfg0.N) : (tilesAt m c t).wv = ((x.numbers t).tiles fun y => A (ix2 (row t (y 0)) (y 1))).wv := blk_wv I t

include I in
theorem tile_wf (t : Fin cfg0.N) : (tilesAt m c t).wf = ((x.numbers t).tiles fun y => A (ix2 (row t (y 0)) (y 1))).wf := blk_wf I t

theorem tile_sq (t : Fin cfg0.N) : (tilesAt m c t).sq = ((x.numbers t).tiles fun y => A (ix2 (row t (y 0)) (y 1))).sq := blk_sq t

theorem tile_sk (t : Fin cfg0.N) : (tilesAt m c t).sk = ((x.numbers t).tiles fun y => A (ix2 (row t (y 0)) (y 1))).sk := blk_sk t

include I in
theorem tiles_eq (t : Fin cfg0.N) : tilesAt m c t = (x.numbers t).tiles fun y => A (ix2 (row t (y 0)) (y 1)) :=
  Tiles.ext (tile_dh I t) (tile_h I t) (tile_dk1 I t) (tile_dk2 I t) (tile_dv1 I t) (tile_dv2 I t) (tile_dq1 I t) (tile_dq2 I t) (tile_fl I t) (tile_g I t) (tile_wk I t) (tile_wv I t) (tile_wf I t) (tile_sq t) (tile_sk t)

/-- The running sum at row `r` of point `t`, from what the later rows left. -/
theorem suf_eq (x : Data) (t : Fin cfg0.N) (r : Fin 256) (a : Fin 128) :
    suf (x.numbers t).k1 (x.numbers t).k2 (x.numbers t).q1 (x.numbers t).q2 (x.numbers t).sq (x.numbers t).sk (x.after t.val) r a = tail (fun j => x.dcum j a) (row t r).val := by
  have := points t
  have e : ∀ r : Fin 256, gap (x.numbers t).k1 (x.numbers t).k2 (x.numbers t).q1 (x.numbers t).q2 (x.numbers t).sq (x.numbers t).sk r a = x.dcum (row t r) a := fun r =>
    congrArg₂ (· - ·) (sum_lane 65 (by norm_num) (by norm_num) x.q1 x.q2 x.rq1 x.rq2 (row t r) a) (sum_lane 64 (by norm_num) (by norm_num) (fun z => x.k1 z * (1 / Real.log 2)) (fun z => x.k2 z * (1 / Real.log 2)) x.rk1 x.rk2 (row t r) a)
  unfold suf
  refine Eq.trans ?_ (tail_block (fun j => x.dcum j a) (256 * (31 - t.val)) (by omega) r)
  refine congrArg₂ (· + ·) (Finset.sum_congr rfl fun r' _ => congrArg (_ * ·) (e r')) ?_
  show tail _ (256 * (32 - t.val)) = tail _ (256 * (31 - t.val) + 256)
  exact congrArg (tail _) (by omega)

/-- The gates' gradient of one point. -/
theorem gates_eq (x : Data) (t : Fin cfg0.N) (y : S256x128.Idx) : (x.numbers t).gates (x.after t.val) y = x.gate (row t (y 0)) (y 1) :=
  congrArg (fun z : ℝ => z / (1 + Real.exp (logit x.h x.g x.w x.b (row t (y 0)) (y 1)))) (suf_eq x t (y 0) (y 1))

/-- The cotangent of the normed stream. -/
theorem back_eq (x : Data) (t : Fin cfg0.N) (r : Fin 256) (k : Fin 1024) : (x.numbers t).back (x.after t.val) r k = x.cot (row t r) k :=
  congrArg₂ (· + ·) (congrArg₂ (· + ·) (sum_keys x.k1 x.k2 x.rk1 x.rk2 x.w (row t r) k) rfl)
    ((Finset.sum_congr rfl fun a _ => congrArg (· * _) (gates_eq x t (ix2 r a))).trans (sum_gates (x.gate (row t r)) x.w k))

/-! ## What is carried -/

variable (m c) (x) in
/-- The running sums at point `n`'s start. -/
def Starts (n : ℕ) : Prop := ∀ (r : Fin 8) (a : Fin 128), @Eq EReal ((carriedAt m c n).carry (ix2 r a)) (tail (fun j => x.dcum j a) (256 * (32 - n)) : EReal)

theorem row_eq {n : ℕ} (h : Starts m c x n) : @Eq (Vec Ideal S1x128 .f32) (carriedAt m c n).row fun y => (x.after n y : EReal) := by
  refine funext fun (y : S1x128.Idx) => ?_
  exact (View.ld_unit_apply_of (Val := Elt Ideal) (carriedAt m c n).carry _ _ _ y (ix2 (0 : Fin 8) (y 1)) fun a => match a with
    | ⟨0, _⟩ => by show 0 = 0 + (y 0).val; have : (y 0).val < 1 := (y 0).isLt; omega
    | ⟨1, _⟩ => by show (y 1).val = 0 + (y 1).val; omega).trans (h 0 (y 1))

include I

theorem carry_step (t : Fin cfg0.N) (h : Starts m c x t.val) (r : Fin 8) (a : Fin 128) :
    @Eq EReal ((carriedAt m c (t.val + 1)).carry (ix2 r a)) (tail (fun j => x.dcum j a) (row t 0).val : EReal) := by
  rw [carriedAt_succ, tiles_eq I t]
  exact (Numbers.next_carry (row_eq h) r a).trans (congrArg Real.toEReal (suf_eq x t 0 a))

theorem starts : ∀ n, n ≤ 32 → Starts m c x n
  | 0, _ => fun r a => (pay8_apply r a).trans (by rw [show 256 * (32 - 0) = 8192 from rfl, tail_end]; rfl)
  | n + 1, h => fun r a => by
    have hn : n < cfg0.N := lt_of_lt_of_eq (show n < 32 by omega) N_0.symm
    refine (carry_step I ⟨n, hn⟩ (starts n (by omega)) r a).trans (congrArg Real.toEReal ?_)
    show tail _ (256 * (31 - n) + 0) = tail _ (256 * (32 - (n + 1)))
    exact congrArg (tail _) (by omega)

/-! ## The two accumulators -/

theorem acc_step (t : Fin cfg0.N) (r : Fin 8) (k : Fin 1024) : @Eq EReal ((carriedAt m c (t.val + 1)).acc (ix2 r k))
    ((carriedAt m c t.val).acc (ix2 r k) + ((∑ z : Fin 32, upTo (x.gainTerm k) (256 * (31 - t.val) + (z.val * 8 + r.val)) : ℝ) : EReal)) := by
  have := points t
  rw [carriedAt_succ, tiles_eq I t]
  refine (Numbers.next_acc (row_eq (starts I t.val (points t).le)) r k).trans (congrArg (_ + ·) (congrArg Real.toEReal (Finset.sum_congr rfl fun z _ => ?_)))
  rw [upTo_lt _ (show 256 * (31 - t.val) + (z.val * 8 + r.val) < 8192 by omega), back_eq]
  rfl

theorem bias_step (t : Fin cfg0.N) (r : Fin 8) (a : Fin 128) : @Eq EReal ((carriedAt m c (t.val + 1)).bacc (ix2 r a))
    ((carriedAt m c t.val).bacc (ix2 r a) + ((∑ z : Fin 32, upTo (fun i => x.gate i a) (256 * (31 - t.val) + (z.val * 8 + r.val)) : ℝ) : EReal)) := by
  have := points t
  rw [carriedAt_succ, tiles_eq I t]
  refine (Numbers.next_bacc (row_eq (starts I t.val (points t).le)) r a).trans (congrArg (_ + ·) (congrArg Real.toEReal (Finset.sum_congr rfl fun z _ => ?_)))
  rw [upTo_lt _ (show 256 * (31 - t.val) + (z.val * 8 + r.val) < 8192 by omega), gates_eq]
  rfl

omit I in
/-- Sums taken block by block, the last block first. -/
theorem fold_eq {s : ℕ → EReal} {f : ℕ → ℝ} {r : ℕ} (h0 : s 0 = 0)
    (hs : ∀ n, n < 32 → s (n + 1) = s n + ((∑ z : Fin 32, f (256 * (31 - n) + (z.val * 8 + r)) : ℝ) : EReal)) : s 32 = ((∑ t ∈ Finset.range 32, ∑ z : Fin 32, f (256 * t + (z.val * 8 + r)) : ℝ) : EReal) := by
  have e : ∀ n, n ≤ 32 → s n = ((∑ t ∈ Finset.range n, ∑ z : Fin 32, f (256 * (31 - t) + (z.val * 8 + r)) : ℝ) : EReal) := by
    intro n
    induction n with
    | zero => intro _; simp [h0]
    | succ n ih =>
      intro hn
      rw [hs n (by omega), ih (by omega), Finset.sum_range_succ, EReal.coe_add]
  rw [e 32 le_rfl]
  refine congrArg Real.toEReal ?_
  exact Finset.sum_range_reflect (fun t => ∑ z : Fin 32, f (256 * t + (z.val * 8 + r))) 32

theorem acc_eq (r : Fin 8) (k : Fin 1024) : @Eq EReal ((carriedAt m c 32).acc (ix2 r k)) ((∑ t ∈ Finset.range 32, ∑ z : Fin 32, upTo (x.gainTerm k) (256 * t + (z.val * 8 + r.val)) : ℝ) : EReal) :=
  fold_eq (s := fun n => (carriedAt m c n).acc (ix2 r k)) (pay6_apply r k) fun n hn => acc_step I ⟨n, lt_of_lt_of_eq hn N_0.symm⟩ r k

theorem bias_eq (r : Fin 8) (a : Fin 128) : @Eq EReal ((carriedAt m c 32).bacc (ix2 r a)) ((∑ t ∈ Finset.range 32, ∑ z : Fin 32, upTo (fun i => x.gate i a) (256 * t + (z.val * 8 + r.val)) : ℝ) : EReal) :=
  fold_eq (s := fun n => (carriedAt m c n).bacc (ix2 r a)) (pay7_apply r a) fun n hn => bias_step I ⟨n, lt_of_lt_of_eq hn N_0.symm⟩ r a

/-! ## What a point leaves in its windows -/

theorem left_o (t : Fin cfg0.N) (r : Fin 256) (k : Fin 1024) : @Eq EReal ((dats m 0 c).after 15 t (ix2 r k))
    (A (ix2 (row t r) k) + ((normGrad (fun l => x.h (ix2 (row t r) l)) (fun l => x.g (ix1 l)) (x.cot (row t r)) k : ℝ) : EReal)) := by
  rw [after15, tiles_eq I t]
  refine (Numbers.outs_o (row_eq (starts I t.val (points t).le)) r k).trans ?_
  rw [show (x.numbers t).back (x.after t.val) r = x.cot (row t r) from funext (back_eq x t r)]
  rfl

theorem left_hk (t : Fin cfg0.N) (r : Fin 256) (k : Fin 1024) : @Eq EReal ((dats m 0 c).after 16 t (ix2 r k))
    ((x.h (ix2 (row t r) k) * rowScale (fun l => x.h (ix2 (row t r) l)) * x.g (ix1 k) : ℝ) : EReal) := by
  rw [after16, tiles_eq I t]
  exact Numbers.outs_hk r k

theorem left_dk (t : Fin cfg0.N) (r : Fin 256) (k : Fin 2048) : @Eq EReal ((dats m 0 c).after 17 t (ix2 r k))
    (((wide 64 (fun z => x.k1 z * (1 / Real.log 2)) x.rk1 (row t r) k + wide 64 (fun z => x.k2 z * (1 / Real.log 2)) x.rk2 (row t r) k) * Real.log 2 : ℝ) : EReal) := by
  rw [after17, tiles_eq I t]
  exact Numbers.outs_dk r k

theorem left_dv (t : Fin cfg0.N) (r : Fin 256) (k : Fin 1024) : @Eq EReal ((dats m 0 c).after 18 t (ix2 r k)) ((x.v1 (ix2 (row t r) k) + x.v2 (ix2 (row t r) k) : ℝ) : EReal) := by
  rw [after18, tiles_eq I t]
  exact Numbers.outs_dv r k

theorem left_df (t : Fin cfg0.N) (r : Fin 256) (a : Fin 128) : @Eq EReal ((dats m 0 c).after 19 t (ix2 r a)) (x.gate (row t r) a : EReal) := by
  rw [after19, tiles_eq I t]
  exact (Numbers.outs_df (row_eq (starts I t.val (points t).le)) r a).trans (congrArg Real.toEReal (gates_eq x t (ix2 r a)))

end Cert.KvfBwdIdeal.Block

end
-- ==== Proof.KvfArray.lean ====
/-
  The arrays at the end of the call for the shared keys', values' and forget gates' gradient, of finite inputs.
-/
module

public import proofs.«01_k».proof.Proof.KvfCarry

@[expose] public section

set_option maxRecDepth 16384

noncomputable section

namespace Cert.KvfBwdIdeal.Block

open Cert.KvfBwdIdeal Cert.KvfBwdIdeal.Gen Cert.KvfBwdIdeal.Kvf Cert.Reals Idealize.ShloMosaic Idealize.ShloMosaic.TcCoe Idealize.SL.Sem

variable {m : (ℓ : Loc nD τ sig) → Buf (Elt Ideal) ℓ} {c : Dev nD} {A : S8192x1024.Idx → EReal} {x : Data} (I : Args m c A x)

theorem pt_lt (i : Fin 8192) : 31 - i.val / 256 < cfg0.N := lt_of_lt_of_eq (show 31 - i.val / 256 < 32 by omega) N_0.symm

/-- The point that works on row `i`. -/
def pt (i : Fin 8192) : Fin cfg0.N := ⟨31 - i.val / 256, pt_lt i⟩

theorem pt_row (i : Fin 8192) : row (pt i) ⟨i.val % 256, by omega⟩ = i :=
  Fin.ext (by show 256 * (31 - (31 - i.val / 256)) + i.val % 256 = i.val; omega)

theorem same {t t' : Fin cfg0.N} (h : (![31 - t.val, 0] : Fin 2 → ℕ) = ![31 - t'.val, 0]) : t = t' := by
  have h0 : 31 - t.val = 31 - t'.val := congrFun h 0
  have := points t
  have := points t'
  exact Fin.ext (by omega)

theorem apart_o : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (same (((place t).2.2.2.2.2.2.2.2.2.2.2.2.2.2.2.1).symm.trans (h.trans (place t').2.2.2.2.2.2.2.2.2.2.2.2.2.2.2.1)))

theorem apart_hk : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (same (((place t).2.2.2.2.2.2.2.2.2.2.2.2.2.2.2.2.1).symm.trans (h.trans (place t').2.2.2.2.2.2.2.2.2.2.2.2.2.2.2.2.1)))

theorem apart_dk : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (same (((place t).2.2.2.2.2.2.2.2.2.2.2.2.2.2.2.2.2.1).symm.trans (h.trans (place t').2.2.2.2.2.2.2.2.2.2.2.2.2.2.2.2.2.1)))

theorem apart_dv : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (same (((place t).2.2.2.2.2.2.2.2.2.2.2.2.2.2.2.2.2.2.1).symm.trans (h.trans (place t').2.2.2.2.2.2.2.2.2.2.2.2.2.2.2.2.2.2.1)))

theorem apart_df : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (same (((place t).2.2.2.2.2.2.2.2.2.2.2.2.2.2.2.2.2.2.2.1).symm.trans (h.trans (place t').2.2.2.2.2.2.2.2.2.2.2.2.2.2.2.2.2.2.2.1)))

/-! ## The arrays that are left row by row -/

include I

/-- The gradient that goes on. -/
theorem array_o (i : Fin 8192) (k : Fin 1024) : @Eq EReal ((dats m 0 c).arrAt 15 cfg0.N (ix2 i k)) (A (ix2 i k) + ((normGrad (fun l => x.h (ix2 i l)) (fun l => x.g (ix1 l)) (x.cot i) k : ℝ) : EReal)) := by
  have b := congrFun ((dats m 0 c).read_blk_arrAt_eq_flushed 15 apart_o cfg0.N (pt i) (pt_lt i) (flush0_15 _)) (ix2 (⟨i.val % 256, by omega⟩ : Fin 256) k)
  rw [View.read_apply] at b
  have e : ((cfg0.win 15).blk (pt i)).view.emb (ix2 (⟨i.val % 256, by omega⟩ : Fin 256) k) = ix2 i k := by
    funext a
    apply Fin.ext
    match a with
    | ⟨0, _⟩ => show win0_15.index (pt i) 0 * 256 + 1 * (i.val % 256) = _; rw [(place (pt i)).2.2.2.2.2.2.2.2.2.2.2.2.2.2.2.1]; show (31 - (31 - i.val / 256)) * 256 + 1 * (i.val % 256) = i.val; omega
    | ⟨1, _⟩ => show win0_15.index (pt i) 1 * 1024 + 1 * k.val = _; rw [(place (pt i)).2.2.2.2.2.2.2.2.2.2.2.2.2.2.2.1]; show 0 * 1024 + 1 * k.val = k.val; omega
  refine (congrArg ((dats m 0 c).arrAt 15 cfg0.N) e.symm).trans (b.trans ?_)
  refine (left_o I (pt i) ⟨i.val % 256, by omega⟩ k).trans ?_
  rw [pt_row]

/-- The normed stream. -/
theorem array_hk (i : Fin 8192) (k : Fin 1024) : @Eq EReal ((dats m 0 c).arrAt 16 cfg0.N (ix2 i k)) ((x.h (ix2 i k) * rowScale (fun l => x.h (ix2 i l)) * x.g (ix1 k) : ℝ) : EReal) := by
  have b := congrFun ((dats m 0 c).read_blk_arrAt_eq_flushed 16 apart_hk cfg0.N (pt i) (pt_lt i) (flush0_16 _)) (ix2 (⟨i.val % 256, by omega⟩ : Fin 256) k)
  rw [View.read_apply] at b
  have e : ((cfg0.win 16).blk (pt i)).view.emb (ix2 (⟨i.val % 256, by omega⟩ : Fin 256) k) = ix2 i k := by
    funext a
    apply Fin.ext
    match a with
    | ⟨0, _⟩ => show win0_16.index (pt i) 0 * 256 + 1 * (i.val % 256) = _; rw [(place (pt i)).2.2.2.2.2.2.2.2.2.2.2.2.2.2.2.2.1]; show (31 - (31 - i.val / 256)) * 256 + 1 * (i.val % 256) = i.val; omega
    | ⟨1, _⟩ => show win0_16.index (pt i) 1 * 1024 + 1 * k.val = _; rw [(place (pt i)).2.2.2.2.2.2.2.2.2.2.2.2.2.2.2.2.1]; show 0 * 1024 + 1 * k.val = k.val; omega
  refine (congrArg ((dats m 0 c).arrAt 16 cfg0.N) e.symm).trans (b.trans ?_)
  refine (left_hk I (pt i) ⟨i.val % 256, by omega⟩ k).trans ?_
  rw [pt_row]

/-- The keys' gradient, spread. -/
theorem array_dk (i : Fin 8192) (k : Fin 2048) : @Eq EReal ((dats m 0 c).arrAt 17 cfg0.N (ix2 i k)) (((wide 64 (fun z => x.k1 z * (1 / Real.log 2)) x.rk1 i k + wide 64 (fun z => x.k2 z * (1 / Real.log 2)) x.rk2 i k) * Real.log 2 : ℝ) : EReal) := by
  have b := congrFun ((dats m 0 c).read_blk_arrAt_eq_flushed 17 apart_dk cfg0.N (pt i) (pt_lt i) (flush0_17 _)) (ix2 (⟨i.val % 256, by omega⟩ : Fin 256) k)
  rw [View.read_apply] at b
  have e : ((cfg0.win 17).blk (pt i)).view.emb (ix2 (⟨i.val % 256, by omega⟩ : Fin 256) k) = ix2 i k := by
    funext a
    apply Fin.ext
    match a with
    | ⟨0, _⟩ => show win0_17.index (pt i) 0 * 256 + 1 * (i.val % 256) = _; rw [(place (pt i)).2.2.2.2.2.2.2.2.2.2.2.2.2.2.2.2.2.1]; show (31 - (31 - i.val / 256)) * 256 + 1 * (i.val % 256) = i.val; omega
    | ⟨1, _⟩ => show win0_17.index (pt i) 1 * 2048 + 1 * k.val = _; rw [(place (pt i)).2.2.2.2.2.2.2.2.2.2.2.2.2.2.2.2.2.1]; show 0 * 2048 + 1 * k.val = k.val; omega
  refine (congrArg ((dats m 0 c).arrAt 17 cfg0.N) e.symm).trans (b.trans ?_)
  refine (left_dk I (pt i) ⟨i.val % 256, by omega⟩ k).trans ?_
  rw [pt_row]

/-- The values' gradient. -/
theorem array_dv (i : Fin 8192) (k : Fin 1024) : @Eq EReal ((dats m 0 c).arrAt 18 cfg0.N (ix2 i k)) ((x.v1 (ix2 i k) + x.v2 (ix2 i k) : ℝ) : EReal) := by
  have b := congrFun ((dats m 0 c).read_blk_arrAt_eq_flushed 18 apart_dv cfg0.N (pt i) (pt_lt i) (flush0_18 _)) (ix2 (⟨i.val % 256, by omega⟩ : Fin 256) k)
  rw [View.read_apply] at b
  have e : ((cfg0.win 18).blk (pt i)).view.emb (ix2 (⟨i.val % 256, by omega⟩ : Fin 256) k) = ix2 i k := by
    funext a
    apply Fin.ext
    match a with
    | ⟨0, _⟩ => show win0_18.index (pt i) 0 * 256 + 1 * (i.val % 256) = _; rw [(place (pt i)).2.2.2.2.2.2.2.2.2.2.2.2.2.2.2.2.2.2.1]; show (31 - (31 - i.val / 256)) * 256 + 1 * (i.val % 256) = i.val; omega
    | ⟨1, _⟩ => show win0_18.index (pt i) 1 * 1024 + 1 * k.val = _; rw [(place (pt i)).2.2.2.2.2.2.2.2.2.2.2.2.2.2.2.2.2.2.1]; show 0 * 1024 + 1 * k.val = k.val; omega
  refine (congrArg ((dats m 0 c).arrAt 18 cfg0.N) e.symm).trans (b.trans ?_)
  refine (left_dv I (pt i) ⟨i.val % 256, by omega⟩ k).trans ?_
  rw [pt_row]

/-- The gates' gradient, in 128 columns. -/
theorem array_df (i : Fin 8192) (k : Fin 128) : @Eq EReal ((dats m 0 c).arrAt 19 cfg0.N (ix2 i k)) (x.gate i k : EReal) := by
  have b := congrFun ((dats m 0 c).read_blk_arrAt_eq_flushed 19 apart_df cfg0.N (pt i) (pt_lt i) (flush0_19 _)) (ix2 (⟨i.val % 256, by omega⟩ : Fin 256) k)
  rw [View.read_apply] at b
  have e : ((cfg0.win 19).blk (pt i)).view.emb (ix2 (⟨i.val % 256, by omega⟩ : Fin 256) k) = ix2 i k := by
    funext a
    apply Fin.ext
    match a with
    | ⟨0, _⟩ => show win0_19.index (pt i) 0 * 256 + 1 * (i.val % 256) = _; rw [(place (pt i)).2.2.2.2.2.2.2.2.2.2.2.2.2.2.2.2.2.2.2.1]; show (31 - (31 - i.val / 256)) * 256 + 1 * (i.val % 256) = i.val; omega
    | ⟨1, _⟩ => show win0_19.index (pt i) 1 * 128 + 1 * k.val = _; rw [(place (pt i)).2.2.2.2.2.2.2.2.2.2.2.2.2.2.2.2.2.2.2.1]; show 0 * 128 + 1 * k.val = k.val; omega
  refine (congrArg ((dats m 0 c).arrAt 19 cfg0.N) e.symm).trans (b.trans ?_)
  refine (left_df I (pt i) ⟨i.val % 256, by omega⟩ k).trans ?_
  rw [pt_row]

/-! ## The two sums over all rows -/

omit I in
theorem apart_dg : ∀ t t' : Fin cfg0.N, (cfg0.win 20).flush t = true → (cfg0.win 20).flush t' = true → t ≠ t' →
    Disjoint ((cfg0.win 20).blk t).view.set ((cfg0.win 20).blk t').view.set :=
  fun t t' h h' hne => absurd (Fin.ext (by
    have a := (flush0_20 t).mp h
    have b := (flush0_20 t').mp h'
    have := points t
    have := points t'
    omega)) hne

/-- The gain's gradient. -/
theorem array_dg (k : Fin 1024) : @Eq EReal ((dats m 0 c).arrAt 20 cfg0.N (ix2 0 k)) ((∑ i : Fin 8192, x.gainTerm k i : ℝ) : EReal) := by
  have hp : 31 < cfg0.N := lt_of_lt_of_eq (by decide) N_0.symm
  have b := congrFun ((dats m 0 c).read_blk_arrAt_eq_flushed 20 apart_dg cfg0.N ⟨31, hp⟩ hp ((flush0_20 _).mpr rfl)) (ix2 (0 : Fin 1) k)
  rw [View.read_apply] at b
  have e : ((cfg0.win 20).blk ⟨31, hp⟩).view.emb (ix2 (0 : Fin 1) k) = ix2 0 k := by
    funext a
    apply Fin.ext
    match a with
    | ⟨0, _⟩ => show win0_20.index ⟨31, hp⟩ 0 * 1 + 1 * 0 = _; rw [(place ⟨31, hp⟩).2.2.2.2.2.2.2.2.2.2.2.2.2.2.2.2.2.2.2.2.1]; rfl
    | ⟨1, _⟩ => show win0_20.index ⟨31, hp⟩ 1 * 1024 + 1 * k.val = _; rw [(place ⟨31, hp⟩).2.2.2.2.2.2.2.2.2.2.2.2.2.2.2.2.2.2.2.2.1]; show 0 * 1024 + 1 * k.val = k.val; omega
  refine (congrArg ((dats m 0 c).arrAt 20 cfg0.N) e.symm).trans (b.trans ?_)
  show (dats m 0 c).after 20 ⟨31, hp⟩ (ix2 (0 : Fin 1) k) = _
  rw [after20]
  refine (pay4_apply _ _).trans ?_
  refine (Finset.sum_congr rfl fun r _ => acc_eq I r k).trans ((coe_sum _ _).symm.trans ?_)
  exact congrArg Real.toEReal ((sum_fold (upTo (x.gainTerm k)) 32 32).trans (sum_upTo _))

omit I in
theorem apart_db : ∀ t t' : Fin cfg0.N, (cfg0.win 21).flush t = true → (cfg0.win 21).flush t' = true → t ≠ t' →
    Disjoint ((cfg0.win 21).blk t).view.set ((cfg0.win 21).blk t').view.set :=
  fun t t' h h' hne => absurd (Fin.ext (by
    have a := (flush0_21 t).mp h
    have b := (flush0_21 t').mp h'
    have := points t
    have := points t'
    omega)) hne

/-- The gates' biases' gradient, in 128 columns. -/
theorem array_db (k : Fin 128) : @Eq EReal ((dats m 0 c).arrAt 21 cfg0.N (ix2 0 k)) ((∑ i : Fin 8192, x.gate i k : ℝ) : EReal) := by
  have hp : 31 < cfg0.N := lt_of_lt_of_eq (by decide) N_0.symm
  have b := congrFun ((dats m 0 c).read_blk_arrAt_eq_flushed 21 apart_db cfg0.N ⟨31, hp⟩ hp ((flush0_21 _).mpr rfl)) (ix2 (0 : Fin 1) k)
  rw [View.read_apply] at b
  have e : ((cfg0.win 21).blk ⟨31, hp⟩).view.emb (ix2 (0 : Fin 1) k) = ix2 0 k := by
    funext a
    apply Fin.ext
    match a with
    | ⟨0, _⟩ => show win0_21.index ⟨31, hp⟩ 0 * 1 + 1 * 0 = _; rw [(place ⟨31, hp⟩).2.2.2.2.2.2.2.2.2.2.2.2.2.2.2.2.2.2.2.2.2]; rfl
    | ⟨1, _⟩ => show win0_21.index ⟨31, hp⟩ 1 * 128 + 1 * k.val = _; rw [(place ⟨31, hp⟩).2.2.2.2.2.2.2.2.2.2.2.2.2.2.2.2.2.2.2.2.2]; show 0 * 128 + 1 * k.val = k.val; omega
  refine (congrArg ((dats m 0 c).arrAt 21 cfg0.N) e.symm).trans (b.trans ?_)
  show (dats m 0 c).after 21 ⟨31, hp⟩ (ix2 (0 : Fin 1) k) = _
  rw [after21]
  refine (pay5_apply _ _).trans ?_
  refine (Finset.sum_congr rfl fun r _ => bias_eq I r k).trans ((coe_sum _ _).symm.trans ?_)
  exact congrArg Real.toEReal ((sum_fold (upTo (fun i => x.gate i k)) 32 32).trans (sum_upTo _))

end Cert.KvfBwdIdeal.Block

end
-- ==== Proof.KvfEnd.lean ====
/-
  The results of the shared keys', values' and forget gates' gradient, after the host lines that follow the call.
-/
module

public import proofs.«01_k».proof.Proof.KvfArray
public import Idealize.ShloMosaic.Lib.StableHlo.ReadAt

@[expose] public section

set_option maxRecDepth 16384

noncomputable section

namespace Cert.KvfBwdIdeal.Block

open Cert.KvfBwdIdeal Cert.KvfBwdIdeal.Gen Cert.KvfBwdIdeal.Kvf Cert.Reals Idealize.ShloMosaic Idealize.ShloMosaic.TcCoe Idealize.SL.Sem

/-- The arrays after the call. -/
def W1 (m : (ℓ : Loc nD τ sig) → Buf (Elt Ideal) ℓ) (c : Dev nD) : Valuation τ sig (Elt Ideal) :=
  Pipeline.withArrays spec0 c (V0 m c) fun w : Fin 22 => (dats m 0 c).arrAt w cfg0.N

theorem after_tail (m : (ℓ : Loc nD τ sig) → Buf (Elt Ideal) ℓ) (c : Dev nD) (b : Ref sig .tc) :
    Pipeline.afterTail₀ cfgs (dats m) 0 (V0 m) [hostOps1] c b = StableHlo.after (List.flatten [hostOps1]) (W1 m c) (Proc.tc.devRef b) := by
  unfold Pipeline.afterTail₀ W1
  rfl

theorem arrays_apart : Function.Injective (Pipeline.arrRef spec0) := by decide

theorem tail_dk (W : Valuation τ sig (Elt Ideal)) (i : Fin 8192) (l : Fin 1024) : @Eq EReal (StableHlo.after (List.flatten [hostOps1]) W (Proc.tc.devRef main_v77) (ix2 i l))
    (W (Proc.tc.devRef main_v74_2) (ix2 i ⟨l.val / 64 * 128 + l.val % 64, by omega⟩)) := by
  simp only [List.flatten_cons, List.flatten_nil, List.append_nil, hostOps1]
  after_reads_at

theorem tail_df (W : Valuation τ sig (Elt Ideal)) (i : Fin 8192) (a : Fin 16) : @Eq EReal (StableHlo.after (List.flatten [hostOps1]) W (Proc.tc.devRef main_v78) (ix2 i a))
    (W (Proc.tc.devRef main_v74_4) (ix2 i ⟨a.val, by omega⟩)) := by
  simp only [List.flatten_cons, List.flatten_nil, List.append_nil, hostOps1]
  after_reads_at

theorem tail_db (W : Valuation τ sig (Elt Ideal)) (a : Fin 16) : @Eq EReal (StableHlo.after (List.flatten [hostOps1]) W (Proc.tc.devRef main_v79) (ix2 0 a))
    (W (Proc.tc.devRef main_v74_6) (ix2 0 ⟨a.val, by omega⟩)) := by
  simp only [List.flatten_cons, List.flatten_nil, List.append_nil, hostOps1]
  after_reads_at

variable (m : (ℓ : Loc nD τ sig) → Buf (Elt Ideal) ℓ) (c : Dev nD)

theorem W1_dk : W1 m c (Proc.tc.devRef main_v74_2) = (dats m 0 c).arrAt 17 cfg0.N := Pipeline.withArrays_arr spec0 arrays_apart c _ _ 17
theorem W1_df : W1 m c (Proc.tc.devRef main_v74_4) = (dats m 0 c).arrAt 19 cfg0.N := Pipeline.withArrays_arr spec0 arrays_apart c _ _ 19
theorem W1_db : W1 m c (Proc.tc.devRef main_v74_6) = (dats m 0 c).arrAt 21 cfg0.N := Pipeline.withArrays_arr spec0 arrays_apart c _ _ 21

variable {m c} {A : S8192x1024.Idx → EReal} {x : Data} (I : Args m c A x)

/-- A head's column of the spread keys is the head's column. -/
theorem wide_column (f : S8192x1024.Idx → ℝ) (g : S8192x16.Idx → ℝ) (i : Fin 8192) (l : Fin 1024) : wide 64 f g i ⟨l.val / 64 * 128 + l.val % 64, by omega⟩ = f (ix2 i l) := by
  have h : (l.val / 64 * 128 + l.val % 64) % 128 = l.val % 64 := by omega
  unfold wide
  rw [dif_pos (by show (l.val / 64 * 128 + l.val % 64) % 128 < 64; omega)]
  refine congrArg (fun z : Fin 1024 => f (ix2 i z)) (Fin.ext ?_)
  show (l.val / 64 * 128 + l.val % 64) / 128 * 64 + (l.val / 64 * 128 + l.val % 64) % 128 = l.val
  omega

include I

/-- The keys' gradient, with the columns together again. -/
theorem end_dk (i : Fin 8192) (l : Fin 1024) : @Eq EReal (Pipeline.afterTail₀ cfgs (dats m) 0 (V0 m) [hostOps1] c main_v77 (ix2 i l)) ((x.k1 (ix2 i l) + x.k2 (ix2 i l) : ℝ) : EReal) := by
  rw [after_tail]
  refine (tail_dk _ i l).trans ?_
  rw [W1_dk]
  refine (array_dk I i _).trans (congrArg Real.toEReal ?_)
  rw [wide_column, wide_column]
  have : Real.log 2 ≠ 0 := (Real.log_pos (by norm_num)).ne'
  field_simp

theorem end_df (i : Fin 8192) (a : Fin 16) : @Eq EReal (Pipeline.afterTail₀ cfgs (dats m) 0 (V0 m) [hostOps1] c main_v78 (ix2 i a)) (x.gate i ⟨a.val, by omega⟩ : EReal) := by
  rw [after_tail]
  refine (tail_df _ i a).trans ?_
  rw [W1_df]
  exact array_df I i _

theorem end_db (a : Fin 16) : @Eq EReal (Pipeline.afterTail₀ cfgs (dats m) 0 (V0 m) [hostOps1] c main_v79 (ix2 0 a)) ((∑ i : Fin 8192, x.gate i ⟨a.val, by omega⟩ : ℝ) : EReal) := by
  rw [after_tail]
  refine (tail_db _ a).trans ?_
  rw [W1_db]
  exact array_db I _

end Cert.KvfBwdIdeal.Block

end
-- ==== Proof.KvfSuffix.lean ====
/-
  The sum of each row's and all later rows' entries, taken as windows that run past the end, of finite numbers.
-/
module

public import proofs.«01_k».proof.Proof.Reals
public import Idealize.ShloMosaic.Lib.Pointwise

@[expose] public section

noncomputable section

namespace Cert.Reals

open Idealize.ShloMosaic

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem window_sum {N M P : ℕ} (X : (⟨2, ![N, M]⟩ : Shape).Idx → ℝ) (h : (⟨2, ![N, M]⟩ : Shape).ReduceWindows ![N, 1] ![1, 1] ![0, 0] ![P, 0] ⟨2, ![N, M]⟩) (j : Fin N) (a : Fin M) :
    Ideal.hostReduceWindowAdd ![N, 1] ![1, 1] ![0, 0] ![P, 0] h (fun y => (X y : EReal)) 0 (ix2 j a) = ((∑ k ∈ Finset.Ico j.val N, upTo (fun i => X (ix2 i a)) k : ℝ) : EReal) := by
  unfold Ideal.hostReduceWindowAdd Host.reduceWindow
  dsimp only
  refine (foldl_sum _ _ _).trans ?_
  rw [← Fin.sum_univ_def, zero_add]
  have e : ∀ w : (⟨2, ![N, 1]⟩ : Shape).Idx, w 1 = (0 : Fin 1) := fun w => Subsingleton.elim (α := Fin 1) _ _
  refine (Finset.sum_congr rfl fun n _ => ?_).trans ((Equiv.sum_comp (Shape.rowMajor (⟨2, ![N, 1]⟩ : Shape)).symm fun w => (upTo (fun i => X (ix2 i a)) (j.val + (w 0).val) : EReal)).trans ?_)
  · have h1 : ((Shape.rowMajor (⟨2, ![N, 1]⟩ : Shape)).symm n 1).val = 0 := congrArg Fin.val (e ((Shape.rowMajor (⟨2, ![N, 1]⟩ : Shape)).symm n))
    by_cases hd : j.val + ((Shape.rowMajor (⟨2, ![N, 1]⟩ : Shape)).symm n 0).val < N
    · rw [upTo_lt _ hd, dif_pos]
      · refine congrArg (fun y => (X y : EReal)) (funext fun c => Fin.ext ?_)
        match c with
        | ⟨0, _⟩ => show j.val * 1 + ((Shape.rowMajor (⟨2, ![N, 1]⟩ : Shape)).symm n 0).val - 0 = j.val + ((Shape.rowMajor (⟨2, ![N, 1]⟩ : Shape)).symm n 0).val; omega
        | ⟨1, _⟩ => show a.val * 1 + ((Shape.rowMajor (⟨2, ![N, 1]⟩ : Shape)).symm n 1).val - 0 = a.val; omega
      · intro c
        match c with
        | ⟨0, _⟩ => exact ⟨Nat.zero_le _, show j.val * 1 + ((Shape.rowMajor (⟨2, ![N, 1]⟩ : Shape)).symm n 0).val - 0 < N by omega⟩
        | ⟨1, _⟩ => exact ⟨Nat.zero_le _, show a.val * 1 + ((Shape.rowMajor (⟨2, ![N, 1]⟩ : Shape)).symm n 1).val - 0 < M by omega⟩
    · unfold upTo
      rw [dif_neg hd, dif_neg]
      · rfl
      · intro hin
        have : j.val * 1 + ((Shape.rowMajor (⟨2, ![N, 1]⟩ : Shape)).symm n 0).val - 0 < N := (hin 0).2
        omega
  refine (sum_idx2 _).trans ?_
  have e : ∀ d : Fin N, (∑ b : Fin 1, (upTo (fun i => X (ix2 i a)) (j.val + d.val) : EReal)) = (upTo (fun i => X (ix2 i a)) (j.val + d.val) : EReal) := fun d => Fin.sum_univ_one _
  refine (Finset.sum_congr rfl fun d _ => e d).trans ((coe_sum _ _).symm.trans (congrArg Real.toEReal ?_))
  rw [Finset.sum_Ico_eq_sum_range, ← Finset.sum_range (fun d => upTo (fun i => X (ix2 i a)) (j.val + d))]
  refine (Finset.sum_subset (Finset.range_mono (Nat.sub_le N j.val)) fun d _ hd => ?_).symm
  unfold upTo
  rw [dif_neg]
  have : ¬d < N - j.val := fun h => hd (Finset.mem_range.mpr h)
  omega

/-- The same of a host's sum over windows. -/
theorem host_window_sum {N M P : ℕ} {u : Shape} (X : (⟨2, ![N, M]⟩ : Shape).Idx → ℝ) (init : FVec Ideal u .f32) (h : (⟨2, ![N, M]⟩ : Shape).ReduceWindows ![N, 1] ![1, 1] ![0, 0] ![P, 0] ⟨2, ![N, M]⟩)
    (hu : 0 < u.numel) (h0 : init (Shape.Idx.first hu) = ((0 : ℝ) : EReal)) (j : Fin N) (a : Fin M) :
    @Eq EReal (Host.reduceWindowAdd (F := Ideal) (φ := .f32) ![N, 1] ![1, 1] ![0, 0] ![P, 0] (fun y => (X y : EReal)) init h hu (ix2 j a)) ((∑ k ∈ Finset.Ico j.val N, upTo (fun i => X (ix2 i a)) k : ℝ) : EReal) := by
  unfold Host.reduceWindowAdd
  rw [h0]
  exact window_sum X h j a

end Cert.Reals

end
-- ==== Proof.KvfRef.lean ====
/-
  What the derivative of the norm and the projection to shared keys, values and forget gates computes, of finite inputs.
-/
module

public import proofs.«01_k».proof.Proof.KvfMath
public import proofs.«01_k».proof.Proof.KvfSuffix
public import proofs.«01_k».proof.Proof.Gen.KvfBwdRefIdeal.Read

@[expose] public section

set_option maxRecDepth 16384

noncomputable section

namespace Cert.KvfBwdRefIdeal.Stages

open Cert.KvfBwdRefIdeal Cert.KvfBwdRefIdeal.Gen Cert.KvfBwdRefIdeal.Read Cert.Reals Idealize.ShloMosaic Idealize.SL.Sem
open Cert.KvfBwdIdeal.Block (Data tail logit wideF)

variable (A : S8192x1024.Idx → EReal) (x : Data) (i : Fin 8192) (k : Fin 1024) (a : Fin 16)

/-- The gates' column that is column `a` of the 16. -/
abbrev col (a : Fin 16) : Fin 128 := ⟨a.val, by omega⟩

theorem mean_apply : @Eq EReal (val_main_v6 (F := Ideal) (fun y => (x.h y : EReal)) (ix2 i 0)) ((meanSq fun l => x.h (ix2 i l) : ℝ) : EReal) := by
  pointwise [val_main_v6, val_main_v5, val_main_v4, val_main_v3, val_main_v2, val_main_v1, val_main_v0, val_main_cst, val_main_cst_0, val_main_cst_1]
  simp only [← EReal.coe_mul, ← coe_sum, ofBits_1024, ofBits_eps, div_coe _ (by norm_num : (1024 : ℝ) ≠ 0), ← EReal.coe_add]
  rfl

theorem scale_apply : @Eq EReal (val_main_v7 (F := Ideal) (fun y => (x.h y : EReal)) (ix2 i 0)) ((rowScale fun l => x.h (ix2 i l) : ℝ) : EReal) := by
  pointwise [val_main_v7]
  rw [mean_apply]
  exact rsqrt_coe (meanSq_pos _)

theorem normed_apply : @Eq EReal (val_main_v15 (F := Ideal) (fun y => (x.h y : EReal)) (fun y => (x.g y : EReal)) (ix2 i k)) ((x.h (ix2 i k) * rowScale (fun l => x.h (ix2 i l)) * x.g (ix1 k) : ℝ) : EReal) := by
  pointwise [val_main_v15, val_main_v14, val_main_v13, val_main_v12, val_main_v11]
  simp only [scale_apply, ← EReal.coe_mul]

theorem logit_apply : @Eq EReal (val_main_v20 (F := Ideal) (fun y => (x.h y : EReal)) (fun y => (x.g y : EReal)) (fun y => (x.w y : EReal)) (fun y => (x.b y : EReal)) (ix2 i a)) (logit x.h x.g x.w x.b i (col a) : EReal) := by
  pointwise [val_main_v20, val_main_v19, val_main_v18, val_main_v17, val_main_v16]
  simp only [normed_apply, ← EReal.coe_mul, ← coe_sum, ← EReal.coe_add]
  refine congrArg Real.toEReal ?_
  unfold logit wideF
  rw [dif_pos a.isLt]
  exact congrArg (· + _) (Finset.sum_congr rfl fun k _ => by rw [dif_pos a.isLt])

theorem neg_apply : @Eq EReal (val_main_call0_v0 (F := Ideal) (fun y => (x.h y : EReal)) (fun y => (x.g y : EReal)) (fun y => (x.w y : EReal)) (fun y => (x.b y : EReal)) (ix2 i a)) ((-logit x.h x.g x.w x.b i (col a) : ℝ) : EReal) := by
  rw [val_main_call0_v0_apply, logit_apply]
  rfl

/-! ## The derivative of the logarithm of the logistic function -/

/-- The logarithm of one plus an exponential, as the forward lines take it. -/
def soft (z : ℝ) : ℝ := max z 0 + Real.log (1 + Real.exp (-|z|))

theorem exp_soft (z : ℝ) : Real.exp (z - soft z) = 1 / (1 + Real.exp (-z)) := by
  have h : soft z = Real.log (1 + Real.exp z) := by
    unfold soft
    rcases le_total 0 z with hz | hz
    · rw [max_eq_left hz, abs_of_nonneg hz]
      rw [show (1 : ℝ) + Real.exp z = Real.exp z * (1 + Real.exp (-z)) by rw [mul_add, mul_one, ← Real.exp_add, add_neg_cancel, Real.exp_zero, add_comm]]
      rw [Real.log_mul (Real.exp_pos z).ne' (by positivity), Real.log_exp]
    · rw [max_eq_right hz, abs_of_nonpos hz, neg_neg, zero_add]
  rw [h, Real.exp_sub, Real.exp_log (by positivity), Real.exp_neg]
  have := Real.exp_pos z
  field_simp
  ring

theorem max_coe (a b : ℝ) : max (a : EReal) (b : EReal) = ((max a b : ℝ) : EReal) := (EReal.coe_strictMono.monotone.map_max).symm

theorem select_ne (v a b : EReal) : Scalar.select (FloatOps.cmpf (F := Ideal) (φ := .f32) .une v v) a b = b := by
  show Scalar.select (Ideal.cmp .une v v) a b = b
  simp [Ideal.cmp, Scalar.select]

theorem select_top (r : ℝ) (a b : EReal) : Scalar.select (FloatOps.cmpf (F := Ideal) (φ := .f32) .oeq (r : EReal) (FloatOps.ofBits (F := Ideal) .f32 0x7F800000#32)) a b = b := by
  show Scalar.select (Ideal.cmp .oeq (r : EReal) (Ideal.ofBits .f32 0x7F800000#32)) a b = b
  rw [ofBits_inf]
  simp [Ideal.cmp, Scalar.select, EReal.coe_ne_top]

theorem word_zero : Ideal.ofBits .f32 0x00000000#32 = ((0 : ℝ) : EReal) := by simp [Ideal.ofBits, Ideal.ieee]

theorem apart_apply : @Eq EReal (val_main_call0_call0_v3 (F := Ideal) (fun y => (x.h y : EReal)) (fun y => (x.g y : EReal)) (fun y => (x.w y : EReal)) (fun y => (x.b y : EReal)) (ix2 i a)) ((-logit x.h x.g x.w x.b i (col a) : ℝ) : EReal) := by
  simp only [val_main_call0_call0_v3_apply, val_main_call0_call0_v2_apply, val_main_call0_call0_cst_apply, neg_apply]
  show ((-logit x.h x.g x.w x.b i (col a) : ℝ) : EReal) - Ideal.ofBits .f32 0x00000000#32 = _
  rw [word_zero, ← EReal.coe_sub, sub_zero]

theorem top_apply : @Eq EReal (val_main_call0_call0_v1 (F := Ideal) (fun y => (x.h y : EReal)) (fun y => (x.g y : EReal)) (fun y => (x.w y : EReal)) (fun y => (x.b y : EReal)) (ix2 i a)) ((max (-logit x.h x.g x.w x.b i (col a)) 0 : ℝ) : EReal) := by
  simp only [val_main_call0_call0_v1_apply, val_main_call0_call0_v0_apply, val_main_call0_call0_cst_apply, neg_apply]
  show max ((-logit x.h x.g x.w x.b i (col a) : ℝ) : EReal) (Ideal.ofBits .f32 0x00000000#32) = _
  rw [word_zero, max_coe]

theorem size_apply : @Eq EReal (val_main_call0_call0_v7 (F := Ideal) (fun y => (x.h y : EReal)) (fun y => (x.g y : EReal)) (fun y => (x.w y : EReal)) (fun y => (x.b y : EReal)) (ix2 i a)) ((|-logit x.h x.g x.w x.b i (col a)| : ℝ) : EReal) := by
  simp only [val_main_call0_call0_v7_apply, apart_apply]
  show max ((-logit x.h x.g x.w x.b i (col a) : ℝ) : EReal) (-((-logit x.h x.g x.w x.b i (col a) : ℝ) : EReal)) = _
  rw [← EReal.coe_neg, max_coe]
  rfl

theorem part_apply : @Eq EReal (val_main_call0_call0_v10 (F := Ideal) (fun y => (x.h y : EReal)) (fun y => (x.g y : EReal)) (fun y => (x.w y : EReal)) (fun y => (x.b y : EReal)) (ix2 i a)) ((Real.log (1 + Real.exp (-|-logit x.h x.g x.w x.b i (col a)|)) : ℝ) : EReal) := by
  simp only [val_main_call0_call0_v10_apply, val_main_call0_call0_v9_apply, val_main_call0_call0_v8_apply, size_apply]
  show Ideal.log (1 + Ideal.exp (-((|-logit x.h x.g x.w x.b i (col a)| : ℝ) : EReal))) = _
  rw [← EReal.coe_neg, Ideal.exp_coe, ← EReal.coe_one, ← EReal.coe_add, Ideal.log_coe, if_neg (by have := Real.exp_pos (-|-logit x.h x.g x.w x.b i (col a)|); linarith)]

theorem soft_apply : @Eq EReal (val_main_call0_v1_0 (F := Ideal) (fun y => (x.h y : EReal)) (fun y => (x.g y : EReal)) (fun y => (x.w y : EReal)) (fun y => (x.b y : EReal)) (ix2 i a)) (soft (-logit x.h x.g x.w x.b i (col a)) : EReal) := by
  rw [val_main_call0_v1_0_apply, val_main_call0_call0_v4_apply, select_ne, val_main_call0_call0_v11_apply, top_apply, part_apply]
  exact (EReal.coe_add _ _).symm

theorem slope_apply : @Eq EReal (val_main_v21_1 (F := Ideal) (fun y => (x.h y : EReal)) (fun y => (x.g y : EReal)) (fun y => (x.w y : EReal)) (fun y => (x.b y : EReal)) (ix2 i a)) ((1 / (1 + Real.exp (logit x.h x.g x.w x.b i (col a))) : ℝ) : EReal) := by
  rw [val_main_v21_1_apply, val_main_call0_call0_v21_apply, val_main_call0_call0_v16_apply, val_main_call0_call0_v14_apply, val_main_call0_call0_v20_apply, val_main_call0_call0_v18_apply, neg_apply, soft_apply, val_main_call0_call0_v13_apply, val_main_call0_call0_v17_apply, val_main_call0_call0_cst_0_apply, val_main_call0_call0_cst_2_apply,
    select_top, select_top]
  show Ideal.exp (((-logit x.h x.g x.w x.b i (col a) : ℝ) : EReal) - (soft (-logit x.h x.g x.w x.b i (col a)) : EReal)) = _
  rw [← EReal.coe_sub, Ideal.exp_coe, exp_soft, neg_neg]

/-! ## The gates' gradient -/

theorem sums_apply : @Eq EReal (val_main_v30 (F := Ideal) (fun y => (x.rq1 y : EReal)) (fun y => (x.rq2 y : EReal)) (fun y => (x.rk1 y : EReal)) (fun y => (x.rk2 y : EReal)) (ix2 i a))
    (tail (fun j => x.dcum j (col a)) i.val : EReal) := by
  have e : @Eq (FVec Ideal S8192x16 .f32) (val_main_v29 (F := Ideal) (fun y => (x.rq1 y : EReal)) (fun y => (x.rq2 y : EReal)) (fun y => (x.rk1 y : EReal)) (fun y => (x.rk2 y : EReal)))
      fun y => ((x.rq1 y + x.rq2 y - (x.rk1 y + x.rk2 y) : ℝ) : EReal) := by
    refine funext fun (y : S8192x16.Idx) => ?_
    show (x.rq1 y : EReal) + (x.rq2 y : EReal) - ((x.rk1 y : EReal) + (x.rk2 y : EReal)) = _
    simp only [← EReal.coe_add, ← EReal.coe_sub]
  unfold val_main_v30
  rw [e]
  refine (host_window_sum (fun y => x.rq1 y + x.rq2 y - (x.rk1 y + x.rk2 y)) _ reduceWindows_S8192x16_S8192x16_w8192s1p0_8191_w1s1p0_0 h_S_ ?_ i a).trans (congrArg Real.toEReal ?_)
  · rw [val_main_call2_call0_v0_apply, val_main_call2_call0_cst_apply]
    exact word_zero
  · unfold tail
    refine congrArg (fun g : Fin 8192 → ℝ => ∑ k ∈ Finset.Ico i.val 8192, upTo g k) (funext fun j => ?_)
    unfold Cert.KvfBwdIdeal.Block.Data.dcum
    rw [dif_pos a.isLt, dif_pos a.isLt]

theorem gate_apply : @Eq EReal (val_main_v34 (F := Ideal) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i a)) (x.gate i (col a) : EReal) := by
  rw [val_main_v34_apply, val_main_call3_v1_apply, val_main_call3_v0_apply, sums_apply, slope_apply]
  show -(-(tail (fun j => x.dcum j (col a)) i.val : EReal) * ((1 / (1 + Real.exp (logit x.h x.g x.w x.b i (col a))) : ℝ) : EReal)) = _
  rw [← EReal.coe_neg, ← EReal.coe_mul, ← EReal.coe_neg]
  refine congrArg Real.toEReal ?_
  unfold Cert.KvfBwdIdeal.Block.Data.gate
  ring

/-- The gradient of the projection's columns: keys, values, gates. -/
def joined (i : Fin 8192) (c : Fin 2064) : ℝ :=
  if h : c.val < 1024 then x.k1 (ix2 i ⟨c.val, h⟩) + x.k2 (ix2 i ⟨c.val, h⟩) else if h' : c.val < 2048 then x.v1 (ix2 i ⟨c.val - 1024, by omega⟩) + x.v2 (ix2 i ⟨c.val - 1024, by omega⟩)
  else x.gate i (col ⟨c.val - 2048, by omega⟩)

theorem joined_apply (c : Fin 2064) : @Eq EReal (val_main_v39 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i c)) (joined x i c : EReal) := by
  pointwise [val_main_v39, val_main_v33, val_main_v32, val_main_v31, val_main_v38, val_main_v26, val_main_v25, val_main_cst_3, val_main_cst_4, val_main_cst_7]
  simp only [gate_apply, ← EReal.coe_add]
  unfold joined
  by_cases h : c.val < 1024
  · rw [dif_neg (by omega), dif_pos h, dif_neg (by omega), dif_pos h, zero_add, add_zero]
  · by_cases h' : c.val < 2048
    · rw [dif_pos (by omega), dif_neg h, dif_neg (by omega), dif_neg h, dif_pos h', add_zero, add_zero]
    · rw [dif_neg (by omega), dif_neg h, dif_pos (by omega), dif_neg h, dif_neg h', zero_add, zero_add]

/-- A sum over the projection's columns, taken apart. -/
theorem sum_joined (W : Fin 2064 → ℝ) : ∑ c : Fin 2064, joined x i c * W c = (∑ l : Fin 1024, (x.k1 (ix2 i l) + x.k2 (ix2 i l)) * W ⟨l.val, by omega⟩)
    + (∑ l : Fin 1024, (x.v1 (ix2 i l) + x.v2 (ix2 i l)) * W ⟨1024 + l.val, by omega⟩) + ∑ a : Fin 16, x.gate i (col a) * W ⟨2048 + a.val, by omega⟩ := by
  refine (Fin.sum_univ_add (a := 2048) (b := 16) fun c => joined x i c * W c).trans (congrArg₂ (· + ·) ((Fin.sum_univ_add (a := 1024) (b := 1024) fun c : Fin 2048 => joined x i (Fin.castAdd 16 c) * W (Fin.castAdd 16 c)).trans
    (congrArg₂ (· + ·) (Finset.sum_congr rfl fun l _ => congrArg (· * _) ?_) (Finset.sum_congr rfl fun l _ => congrArg (· * _) ?_))) (Finset.sum_congr rfl fun a _ => congrArg (· * _) ?_))
  · exact dif_pos l.isLt
  · have h : ¬ (1024 + l.val) < 1024 := by omega
    have h' : 1024 + l.val < 2048 := by omega
    have e : (⟨1024 + l.val - 1024, by omega⟩ : Fin 1024) = l := Fin.ext (by show 1024 + l.val - 1024 = l.val; omega)
    refine (dif_neg h).trans ((dif_pos h').trans ?_)
    exact congrArg (fun l => x.v1 (ix2 i l) + x.v2 (ix2 i l)) e
  · have h : ¬ (2048 + a.val) < 1024 := by omega
    have h' : ¬ 2048 + a.val < 2048 := by omega
    refine (dif_neg h).trans ((dif_neg h').trans ?_)
    exact congrArg (x.gate i) (Fin.ext (by show 2048 + a.val - 2048 = a.val; omega))

theorem cot_apply : @Eq EReal (val_main_v40 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i k)) (x.cot i k : EReal) := by
  pointwise [val_main_v40]
  simp only [joined_apply, ← EReal.coe_mul, ← coe_sum]
  exact congrArg Real.toEReal (sum_joined x i fun c => x.w (ix2 k c))

/-! ## The results -/

theorem gain_apply : @Eq EReal (val_main_v67 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 0 k)) ((∑ i : Fin 8192, x.gainTerm k i : ℝ) : EReal) := by
  pointwise [val_main_v67, val_main_v46, val_main_v43, val_main_v42, val_main_v41, val_main_v12, val_main_v11, val_main_cst_8, val_main_cst_9]
  simp only [Fin.sum_univ_one, scale_apply, cot_apply, ← EReal.coe_mul, ← coe_sum]
  exact congrArg Real.toEReal (Finset.sum_congr rfl fun i _ => by unfold Cert.KvfBwdIdeal.Block.Data.gainTerm; ring)

theorem bias_apply : @Eq EReal (val_main_v68 (F := Ideal) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 0 a)) ((∑ i : Fin 8192, x.gate i (col a) : ℝ) : EReal) := by
  pointwise [val_main_v68, val_main_v37, val_main_v36, val_main_v35, val_main_cst_5, val_main_cst_6]
  simp only [Fin.sum_univ_one, gate_apply, ← coe_sum]

theorem back_apply : @Eq EReal (val_main_v56 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix1 i))
    (((∑ l, x.h (ix2 i l) * (x.cot i l * x.g (ix1 l))) * (-(1 / 2) * (rowScale (fun l => x.h (ix2 i l)) / meanSq fun l => x.h (ix2 i l))) / 1024 : ℝ) : EReal) := by
  pointwise [val_main_v56, val_main_v55, val_main_v54, val_main_v53, val_main_v49, val_main_v48, val_main_v47, val_main_v45, val_main_v44, val_main_v13,
    val_main_v10, val_main_v9, val_main_v8, val_main_cst_2, val_main_cst_10, val_main_cst_11, val_main_cst_12]
  simp only [Fin.sum_univ_one, scale_apply, mean_apply, cot_apply, ← EReal.coe_mul, ← coe_sum, ofBits_1024, ofBits_neg_half, div_coe _ (by norm_num : (1024 : ℝ) ≠ 0),
    div_coe _ (meanSq_pos fun l => x.h (ix2 i l)).ne']

theorem row_apply : @Eq EReal (val_main_v61 (F := Ideal) A (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i k))
    (A (ix2 i k) + ((normGrad (fun l => x.h (ix2 i l)) (fun l => x.g (ix1 l)) (x.cot i) k : ℝ) : EReal)) := by
  pointwise [val_main_v61, val_main_v60, val_main_v59, val_main_v58, val_main_v57, val_main_v52, val_main_v51, val_main_v50, val_main_v45, val_main_v44, val_main_v13]
  simp only [back_apply, scale_apply, cot_apply, ← EReal.coe_mul, add_assoc, ← EReal.coe_add]
  rw [normGrad_eq, add_assoc]

theorem stream_apply : @Eq EReal (val_main_v63 (F := Ideal) (fun y => (x.h y : EReal)) (fun y => (x.g y : EReal)) (ix2 i k)) ((x.h (ix2 i k) * rowScale (fun l => x.h (ix2 i l)) * x.g (ix1 k) : ℝ) : EReal) := by
  pointwise [val_main_v63]
  exact normed_apply x i k

theorem keys_apply : @Eq EReal (val_main_v64 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i k)) ((x.k1 (ix2 i k) + x.k2 (ix2 i k) : ℝ) : EReal) := by
  pointwise [val_main_v64, val_main_v62]
  refine (joined_apply x i _).trans (congrArg Real.toEReal ?_)
  exact dif_pos k.isLt

theorem values_apply : @Eq EReal (val_main_v65 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i k)) ((x.v1 (ix2 i k) + x.v2 (ix2 i k) : ℝ) : EReal) := by
  pointwise [val_main_v65, val_main_v62]
  refine (joined_apply x i _).trans (congrArg Real.toEReal ?_)
  refine (dif_neg (show ¬ 1024 + k.val < 1024 by omega)).trans ((dif_pos (show 1024 + k.val < 2048 by omega)).trans ?_)
  exact congrArg (fun l => x.v1 (ix2 i l) + x.v2 (ix2 i l)) (Fin.ext (by show 1024 + k.val - 1024 = k.val; omega))

theorem gates_apply : @Eq EReal (val_main_v66 (F := Ideal) (fun y => (x.k1 y : EReal)) (fun y => (x.k2 y : EReal)) (fun y => (x.v1 y : EReal)) (fun y => (x.v2 y : EReal)) (fun y => (x.rq1 y : EReal)) (fun y => (x.rq2 y : EReal)) (fun y => (x.rk1 y : EReal)) (fun y => (x.rk2 y : EReal)) (fun y => (x.h y : EReal)) (fun y => (x.g y : EReal)) (fun y => (x.w y : EReal)) (fun y => (x.b y : EReal)) (ix2 i a)) (x.gate i (col a) : EReal) := by
  pointwise [val_main_v66, val_main_v62]
  refine (joined_apply x i _).trans (congrArg Real.toEReal ?_)
  refine (dif_neg (show ¬ 2048 + a.val < 1024 by omega)).trans ((dif_neg (show ¬ 2048 + a.val < 2048 by omega)).trans ?_)
  exact congrArg (x.gate i) (Fin.ext (by show 2048 + a.val - 2048 = a.val; omega))

end Cert.KvfBwdRefIdeal.Stages

end
-- ==== Proof.KvfSame.lean ====
module

public import proofs.«01_k».proof.Proof.KvfFrame
public import proofs.«01_k».proof.Defs
public import proofs.«01_k».proof.Proof.Gen.KvfBwd
public import proofs.«01_k».proof.Proof.Gen.KvfBwdIdeal
public import proofs.«01_k».proof.Proof.Gen.KvfBwdRefIdeal
public import Idealize.ShloMosaic.Lib.Tactic

@[expose] public section

set_option maxRecDepth 16384

noncomputable section

namespace Cert.KvfClaim

open Idealize.ShloMosaic Idealize.ShloMosaic.TcCoe Idealize.ShloMosaic.Tactic Idealize.SL.Sem

/-- Over words a named constant is its word. -/
local instance words : Named Bits := ⟨fun _ _ φ w => Scalar.ofBits φ w⟩

set_option maxHeartbeats 20000000 in
theorem same_main (c : Dev Cert.KvfBwd.nD) : Cert.KvfBwd.main (F := Bits) c = Cert.KvfBwdIdeal.main (F := Bits) c := by sl_kernel_rfl
set_option maxHeartbeats 20000000 in
theorem same_defs : Cert.KvfBwd.defs (F := Bits) = Cert.KvfBwdIdeal.defs (F := Bits) := by sl_kernel_rfl

set_option maxHeartbeats 4000000 in
theorem frame_kernel : Cert.quiescent_KvfBwd := fun m ρ _ => by
  have h := Cert.KvfBwdIdeal.Kvf.frame (F := Bits) m ρ
  rw [← same_defs, ← funext same_main] at h
  exact h

theorem frame_ideal : Cert.quiescent_KvfBwdIdeal := fun m ρ _ => Cert.KvfBwdIdeal.Kvf.frame m ρ

end Cert.KvfClaim

end
-- ==== Proof.KvfClaim.lean ====
/-
  The shared keys', values' and forget gates' gradient: the kernel and the derivative of the forward lines end with
  equal results.
-/
module

public import proofs.«01_k».proof.Defs
public import proofs.«01_k».proof.Proof.KvfEnd
public import proofs.«01_k».proof.Proof.KvfRef
public import proofs.«01_k».proof.Proof.KvfSame
public import proofs.«01_k».proof.Proof.Gen.KvfBwdRefIdeal.Run
public import proofs.«01_k».proof.Proof.Gen.Pre_kvf_finite
public import Idealize.ShloMosaic.Lib.Quiescent

@[expose] public section

set_option maxRecDepth 16384

noncomputable section

namespace Cert.KvfClaim

open Idealize.ShloMosaic Idealize.ShloMosaic.TcCoe Idealize.SL.Sem Cert.Reals
open Cert.KvfBwdIdeal (nD τ sig main_arg0 main_arg1 main_arg2 main_arg3 main_arg4 main_arg5 main_arg6 main_arg7 main_arg8 main_arg9 main_arg10 main_arg11 main_arg12 main_arg13 main_arg14)
open Cert.KvfBwdIdeal.Gen (V0)
open Cert.KvfBwdIdeal.Kvf (dats)

/-- The precondition, read: the fourteen arrays that it speaks of hold reals. -/
theorem reals (m : (ℓ : Loc nD τ sig) → Buf (Elt Ideal) ℓ) (hpre : Cert.Pre_KvfBwdIdeal_kvf_finite m) (c : Dev nD) :
    ∃ A x, Cert.KvfBwdIdeal.Block.Args m c A x :=
  ⟨m (c.tc.loc main_arg0), ⟨fun i => EReal.toReal (m (c.tc.loc main_arg1) i), fun i => EReal.toReal (m (c.tc.loc main_arg2) i), fun i => EReal.toReal (m (c.tc.loc main_arg3) i), fun i => EReal.toReal (m (c.tc.loc main_arg4) i), fun i => EReal.toReal (m (c.tc.loc main_arg5) i), fun i => EReal.toReal (m (c.tc.loc main_arg6) i), fun i => EReal.toReal (m (c.tc.loc main_arg7) i), fun i => EReal.toReal (m (c.tc.loc main_arg8) i), fun i => EReal.toReal (m (c.tc.loc main_arg9) i), fun i => EReal.toReal (m (c.tc.loc main_arg10) i), fun i => EReal.toReal (m (c.tc.loc main_arg11) i), fun i => EReal.toReal (m (c.tc.loc main_arg12) i), fun i => EReal.toReal (m (c.tc.loc main_arg13) i), fun i => EReal.toReal (m (c.tc.loc main_arg14) i)⟩, rfl,
    funext fun i => (coe_toReal (congrFun (hpre c).1 i)).symm,
    funext fun i => (coe_toReal (congrFun (hpre c).2.1 i)).symm,
    funext fun i => (coe_toReal (congrFun (hpre c).2.2.1 i)).symm,
    funext fun i => (coe_toReal (congrFun (hpre c).2.2.2.1 i)).symm,
    funext fun i => (coe_toReal (congrFun (hpre c).2.2.2.2.1 i)).symm,
    funext fun i => (coe_toReal (congrFun (hpre c).2.2.2.2.2.1 i)).symm,
    funext fun i => (coe_toReal (congrFun (hpre c).2.2.2.2.2.2.1 i)).symm,
    funext fun i => (coe_toReal (congrFun (hpre c).2.2.2.2.2.2.2.1 i)).symm,
    funext fun i => (coe_toReal (congrFun (hpre c).2.2.2.2.2.2.2.2.1 i)).symm,
    funext fun i => (coe_toReal (congrFun (hpre c).2.2.2.2.2.2.2.2.2.1 i)).symm,
    funext fun i => (coe_toReal (congrFun (hpre c).2.2.2.2.2.2.2.2.2.2.1 i)).symm,
    funext fun i => (coe_toReal (congrFun (hpre c).2.2.2.2.2.2.2.2.2.2.2.1 i)).symm,
    funext fun i => (coe_toReal (congrFun (hpre c).2.2.2.2.2.2.2.2.2.2.2.2.1 i)).symm,
    funext fun i => (coe_toReal (congrFun (hpre c).2.2.2.2.2.2.2.2.2.2.2.2.2 i)).symm⟩

theorem frame_ref : Cert.quiescent_KvfBwdRefIdeal := fun m ρ _ =>
  (θ_run Cert.KvfBwdRefIdeal.defs _ _).mono (fun r h => ⟨fun c => (h c).2.2.2.2.2.2.2, sem_eq_zero_of_no_sems (by decide) r.2⟩)
    (Cert.KvfBwdRefIdeal.Value.run m ρ)

/-- The logarithm of two: the float that the call multiplies by, and the real that it stands for. -/
theorem preserves : Cert.preserves_KvfBwd_KvfBwdIdeal :=
  IdealRules.named_const.statement Cert.KvfBwdIdeal.κ "ln2" .f32 0x3F317218#32 _ rfl

theorem rest_dk : Cert.KvfBwdIdeal.main_v77 ∈ Pipeline.restRefs sig Cert.KvfBwdIdeal.spec0 := Pipeline.mem_restRefs_of _ (by decide) (by decide)
theorem rest_df : Cert.KvfBwdIdeal.main_v78 ∈ Pipeline.restRefs sig Cert.KvfBwdIdeal.spec0 := Pipeline.mem_restRefs_of _ (by decide) (by decide)
theorem rest_db : Cert.KvfBwdIdeal.main_v79 ∈ Pipeline.restRefs sig Cert.KvfBwdIdeal.spec0 := Pipeline.mem_restRefs_of _ (by decide) (by decide)

set_option maxHeartbeats 8000000 in
theorem algebraic : Cert.algebraic_KvfBwdIdeal_KvfBwdRefIdeal_pre_kvf_finite := fun m ρ m' ρ' hpre hag =>
  ⟨fun c => (dats m 0 c).arrAt 15 Cert.KvfBwdIdeal.cfg0.N,
    fun c => (dats m 0 c).arrAt 16 Cert.KvfBwdIdeal.cfg0.N,
    fun c => Pipeline.afterTail₀ Cert.KvfBwdIdeal.cfgs (dats m) 0 (V0 m) [Cert.KvfBwdIdeal.Gen.hostOps1] c Cert.KvfBwdIdeal.main_v77,
    fun c => (dats m 0 c).arrAt 18 Cert.KvfBwdIdeal.cfg0.N,
    fun c => Pipeline.afterTail₀ Cert.KvfBwdIdeal.cfgs (dats m) 0 (V0 m) [Cert.KvfBwdIdeal.Gen.hostOps1] c Cert.KvfBwdIdeal.main_v78,
    fun c => (dats m 0 c).arrAt 20 Cert.KvfBwdIdeal.cfg0.N,
    fun c => Pipeline.afterTail₀ Cert.KvfBwdIdeal.cfgs (dats m) 0 (V0 m) [Cert.KvfBwdIdeal.Gen.hostOps1] c Cert.KvfBwdIdeal.main_v79,
    (θ_run Cert.KvfBwdIdeal.defs _ _).mono (fun r h c => ⟨(h.1.1 c).1 15, (h.1.1 c).1 16, (h.1.1 c).2 _ rest_dk, (h.1.1 c).1 18, (h.1.1 c).2 _ rest_df, (h.1.1 c).1 20, (h.1.1 c).2 _ rest_db, h.2.1 c⟩)
      (θ_run_and (Cert.KvfBwdIdeal.Kvf.run_main m ρ) (Cert.KvfBwdIdeal.Kvf.frame m ρ)),
    (θ_run _ _ _).mono (fun _ h c => by
      obtain ⟨A, x, I⟩ := reals m hpre c
      obtain ⟨a0, a1, a2, a3, a4, a5, a6, a7, a8, a9, a10, a11, a12, a13, a14⟩ := hag c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
      · rw [Cert.KvfBwdRefIdeal.Read.val_main_v61_eq, a0, a1, a2, a3, a4, a7, a8, a9, a10, a11, a12, a13, a14, I.a, I.k1, I.k2, I.v1, I.v2, I.rq1, I.rq2, I.rk1, I.rk2, I.h, I.g, I.w, I.b]
        refine funext fun (i : Cert.KvfBwdIdeal.S8192x1024.Idx) => ?_
        rw [eq_ix2 i]
        exact (Cert.KvfBwdRefIdeal.Stages.row_apply A x _ _).trans (Cert.KvfBwdIdeal.Block.array_o I _ _).symm
      · rw [Cert.KvfBwdRefIdeal.Read.val_main_v63_eq, a11, a12, I.h, I.g]
        refine funext fun (i : Cert.KvfBwdIdeal.S8192x1024.Idx) => ?_
        rw [eq_ix2 i]
        exact (Cert.KvfBwdRefIdeal.Stages.stream_apply x _ _).trans (Cert.KvfBwdIdeal.Block.array_hk I _ _).symm
      · rw [Cert.KvfBwdRefIdeal.Read.val_main_v64_eq, a1, a2, a3, a4, a7, a8, a9, a10, a11, a12, a13, a14, I.k1, I.k2, I.v1, I.v2, I.rq1, I.rq2, I.rk1, I.rk2, I.h, I.g, I.w, I.b]
        refine funext fun (i : Cert.KvfBwdIdeal.S8192x1024.Idx) => ?_
        rw [eq_ix2 i]
        exact (Cert.KvfBwdRefIdeal.Stages.keys_apply x _ _).trans (Cert.KvfBwdIdeal.Block.end_dk I _ _).symm
      · rw [Cert.KvfBwdRefIdeal.Read.val_main_v65_eq, a1, a2, a3, a4, a7, a8, a9, a10, a11, a12, a13, a14, I.k1, I.k2, I.v1, I.v2, I.rq1, I.rq2, I.rk1, I.rk2, I.h, I.g, I.w, I.b]
        refine funext fun (i : Cert.KvfBwdIdeal.S8192x1024.Idx) => ?_
        rw [eq_ix2 i]
        exact (Cert.KvfBwdRefIdeal.Stages.values_apply x _ _).trans (Cert.KvfBwdIdeal.Block.array_dv I _ _).symm
      · rw [Cert.KvfBwdRefIdeal.Read.val_main_v66_eq, a1, a2, a3, a4, a7, a8, a9, a10, a11, a12, a13, a14, I.k1, I.k2, I.v1, I.v2, I.rq1, I.rq2, I.rk1, I.rk2, I.h, I.g, I.w, I.b]
        refine funext fun (i : Cert.KvfBwdIdeal.S8192x16.Idx) => ?_
        rw [eq_ix2 i]
        exact (Cert.KvfBwdRefIdeal.Stages.gates_apply x _ _).trans (Cert.KvfBwdIdeal.Block.end_df I _ _).symm
      · rw [Cert.KvfBwdRefIdeal.Read.val_main_v67_eq, a1, a2, a3, a4, a7, a8, a9, a10, a11, a12, a13, a14, I.k1, I.k2, I.v1, I.v2, I.rq1, I.rq2, I.rk1, I.rk2, I.h, I.g, I.w, I.b]
        refine funext fun (i : Cert.KvfBwdIdeal.S1x1024.Idx) => ?_
        rw [eq_ix2 i, show i 0 = (0 : Fin 1) from Subsingleton.elim (α := Fin 1) _ _]
        exact (Cert.KvfBwdRefIdeal.Stages.gain_apply x _).trans (Cert.KvfBwdIdeal.Block.array_dg I _).symm
      · rw [Cert.KvfBwdRefIdeal.Read.val_main_v68_eq, a7, a8, a9, a10, a11, a12, a13, a14, I.rq1, I.rq2, I.rk1, I.rk2, I.h, I.g, I.w, I.b]
        refine funext fun (i : Cert.KvfBwdIdeal.S1x16.Idx) => ?_
        rw [eq_ix2 i, show i 0 = (0 : Fin 1) from Subsingleton.elim (α := Fin 1) _ _]
        exact (Cert.KvfBwdRefIdeal.Stages.bias_apply x _).trans (Cert.KvfBwdIdeal.Block.end_db I _).symm)
    (Cert.KvfBwdRefIdeal.Value.run m' ρ')⟩

end Cert.KvfClaim

end
-- ==== Proof.NormRow.lean ====
/-
  A row of the stream, normalised and times the gain: the function that the forward calls share.
-/
module

public import Idealize.ShloMosaic.Lib.Pointwise

@[expose] public section

set_option maxRecDepth 16384

noncomputable section

namespace Cert.NormRow

open Idealize.ShloMosaic

/-- A row of the stream, normalised and times the gain. -/
def norm (h g : Fin 1024 → EReal) (k : Fin 1024) : EReal :=
  h k * Ideal.rsqrt (Ideal.div (∑ l, h l * h l) (Ideal.ofBits .f32 0x44800000#32) + Ideal.ofBits .f32 0x358637BD#32) * g k

end Cert.NormRow

end
-- ==== Proof.NormFwdArray.lean ====
/-
  What the result of the stream's normalisation holds: point `t` of the grid writes rows `512 t` and on.
-/
module

public import proofs.«01_k».proof.Proof.NormRow
public import proofs.«01_k».proof.Proof.Gen.NormFwdIdeal.Value
public import proofs.«01_k».proof.Proof.Gen.NormFwdRefIdeal.Read
public import Idealize.ShloMosaic.Lib.Pipeline.ReadBack
public import Idealize.ShloMosaic.Lib.Pipeline.ValueKit.Tiles
public import Idealize.ShloMosaic.Lib.StableHlo.ReadAt
public import Idealize.ShloMosaic.Lib.Claim

@[expose] public section

set_option maxRecDepth 16384

noncomputable section

namespace Cert.NormFwdIdeal.Block

open Cert.NormFwdIdeal Cert.NormFwdIdeal.Gen Cert.NormRow Idealize.ShloMosaic Idealize.ShloMosaic.TcCoe Idealize.SL.Sem

theorem pay1_apply (h : S512x1024.Idx → EReal) (g : S1x1024.Idx → EReal) (r : Fin 512) (k : Fin 1024) :
    @Eq EReal (k0_pay1 (F := Ideal) h g (ix2 r k)) (norm (fun l => h (ix2 r l)) (fun l => g (ix2 0 l)) k) := by
  pointwise [k0_pay1]
  rfl

theorem hz : (![0, 0] : Fin 2 → ℕ) = fun _ => 0 := by decide

theorem tile (h : S512x1024.Idx → EReal) (g : S1x1024.Idx → EReal) : out0_2 (F := Ideal) h g = k0_pay1 (F := Ideal) h g := by
  unfold out0_2
  rw [View.canon_unit_zero (S := S512x1024) hz, View.ld_unit_zero (S := S512x1024) hz, View.ld_unit_zero (S := S1x1024) hz]

theorem place : ∀ t : Fin cfg0.N, win0_0.index t = ![t.val, 0] ∧ win0_1.index t = ![0, 0] ∧ win0_2.index t = ![t.val, 0] := by
  decide +kernel

theorem rowlt (t : Fin cfg0.N) (r : Fin 512) : 512 * t.val + r.val < 8192 := by
  have := lt_of_lt_of_eq t.isLt (show cfg0.N = 16 from N_0)
  omega

/-- The arguments. -/
structure Args (m : (ℓ : Loc nD τ sig) → Buf (Elt Ideal) ℓ) (c : Dev nD) (H : S8192x1024.Idx → EReal) (G : S1024.Idx → EReal) : Prop where
  h : m ((c : Thread nD τ).loc main_arg0) = H
  g : m ((c : Thread nD τ).loc main_arg1) = G

variable {m : (ℓ : Loc nD τ sig) → Buf (Elt Ideal) ℓ} {c : Dev nD} {H : S8192x1024.Idx → EReal} {G : S1024.Idx → EReal} (I : Args m c H G)

include I

theorem V_g (k : Fin 1024) : @Eq EReal (V m c main_v0 (ix2 0 k)) (G (ix1 k)) := by
  unfold V
  simp only [List.flatten_cons, List.flatten_nil, List.append_nil, hostOps0, List.cons_append, List.nil_append]
  after_reads_at
  exact congrFun I.g _

theorem blk_h (t : Fin cfg0.N) : @Eq (S512x1024.Idx → EReal) (iblk m c 0 t) fun y => H (ix2 ⟨512 * t.val + (y 0).val, rowlt t (y 0)⟩ (y 1)) := by
  funext y
  unfold iblk
  rw [View.read_apply]
  show V m c main_arg0 _ = _
  rw [V_main_arg0]
  refine (congrFun I.h _).trans (congrArg H ?_)
  funext a
  apply Fin.ext
  match a with
  | ⟨0, _⟩ => show win0_0.index t 0 * 512 + 1 * (y 0).val = _; rw [(place t).1]; show t.val * 512 + 1 * (y 0).val = 512 * t.val + (y 0).val; omega
  | ⟨1, _⟩ => show win0_0.index t 1 * 1024 + 1 * (y 1).val = _; rw [(place t).1]; show 0 * 1024 + 1 * (y 1).val = (y 1).val; omega

theorem blk_g (t : Fin cfg0.N) : @Eq (S1x1024.Idx → EReal) (iblk m c 1 t) fun y => G (ix1 (y 1)) := by
  funext y
  unfold iblk
  rw [View.read_apply]
  have e : ((cfg0.win 1).blk t).view.emb y = ix2 0 (y 1) := by
    funext a
    apply Fin.ext
    match a with
    | ⟨0, _⟩ => show win0_1.index t 0 * 1 + 1 * (y 0).val = _; rw [(place t).2.1]; show 0 * 1 + 1 * (y 0).val = 0; have : (y 0).val < 1 := (y 0).isLt; omega
    | ⟨1, _⟩ => show win0_1.index t 1 * 1024 + 1 * (y 1).val = _; rw [(place t).2.1]; show 0 * 1024 + 1 * (y 1).val = (y 1).val; omega
  show V m c main_v0 (((cfg0.win 1).blk t).view.emb y) = _
  rw [e]
  exact V_g I _

omit I in
theorem point_lt (i : Fin 8192) : i.val / 512 < cfg0.N := lt_of_lt_of_eq (show i.val / 512 < 16 by omega) N_0.symm

omit I in
theorem row_back (i : Fin 8192) (h : 512 * (i.val / 512) + i.val % 512 < 8192) : (⟨512 * (i.val / 512) + i.val % 512, h⟩ : Fin 8192) = i :=
  Fin.ext (by show 512 * (i.val / 512) + i.val % 512 = i.val; omega)

/-- The normalised stream. -/
theorem out_eq (i : Fin 8192) (k : Fin 1024) : @Eq EReal ((dats m 0 c).arrAt 2 cfg0.N (ix2 i k))
    (norm (fun l => H (ix2 i l)) (fun l => G (ix1 l)) k) := by
  have b := congrFun ((Value.blocks2 m c ⟨_, point_lt i⟩ (flush0_2 ⟨_, point_lt i⟩)).trans (Value.flushed2 m c ⟨_, point_lt i⟩)) (ix2 (⟨i.val % 512, by omega⟩ : Fin 512) k)
  rw [View.read_apply] at b
  have e : ((cfg0.win 2).blk ⟨_, point_lt i⟩).view.emb (ix2 (⟨i.val % 512, by omega⟩ : Fin 512) k) = ix2 i k := by
    funext a
    apply Fin.ext
    match a with
    | ⟨0, _⟩ => show win0_2.index ⟨_, point_lt i⟩ 0 * 512 + 1 * (i.val % 512) = _; rw [(place ⟨_, point_lt i⟩).2.2]; show i.val / 512 * 512 + 1 * (i.val % 512) = i.val; omega
    | ⟨1, _⟩ => show win0_2.index ⟨_, point_lt i⟩ 1 * 1024 + 1 * k.val = _; rw [(place ⟨_, point_lt i⟩).2.2]; show 0 * 1024 + 1 * k.val = k.val; omega
  refine (congrArg ((dats m 0 c).arrAt 2 cfg0.N) e.symm).trans (b.trans ?_)
  show out0_2 _ _ (ix2 (⟨i.val % 512, by omega⟩ : Fin 512) k) = _
  rw [blk_h I, blk_g I, tile]
  refine (pay1_apply _ _ _ k).trans ?_
  show norm (fun l => H (ix2 (⟨512 * (i.val / 512) + i.val % 512, by omega⟩ : Fin 8192) l)) (fun l => G (ix1 l)) k = _
  rw [row_back i]

end Cert.NormFwdIdeal.Block

namespace Cert.NormFwdRefIdeal.Stages

open Cert.NormFwdRefIdeal Cert.NormFwdRefIdeal.Read Cert.NormRow Idealize.ShloMosaic

theorem norm_apply (H : S8192x1024.Idx → EReal) (G : S1024.Idx → EReal) (i : Fin 8192) (k : Fin 1024) :
    @Eq EReal (val_main_v12 (F := Ideal) H G (ix2 i k)) (norm (fun l => H (ix2 i l)) (fun l => G (ix1 l)) k) := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

end Cert.NormFwdRefIdeal.Stages

end
-- ==== Proof.NormFwdClaim.lean ====
/-
  The stream's normalisation, forward: the kernel and the forward line end with equal results, whatever the arguments.
-/
module

public import proofs.«01_k».proof.Defs
public import proofs.«01_k».proof.Proof.NormFwdArray
public import proofs.«01_k».proof.Proof.Gen.NormFwdRefIdeal.Run
public import Idealize.ShloMosaic.Lib.Quiescent

@[expose] public section

set_option maxRecDepth 16384

noncomputable section

namespace Cert.NormFwdClaim

open Idealize.ShloMosaic Idealize.ShloMosaic.TcCoe Idealize.SL.Sem

theorem frame_ref : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run m ρ)

theorem algebraic : Cert.algebraic_NormFwdIdeal_NormFwdRefIdeal := fun m ρ m' ρ' _ hag =>
  ⟨_, Cert.NormFwdIdeal.Value.run_blocks m ρ,
    (θ_run _ _ _).mono (fun _ h c => by
      obtain ⟨a0, a1⟩ := hag c
      have I : Cert.NormFwdIdeal.Block.Args m c _ _ := ⟨rfl, rfl⟩
      refine ⟨(h c).1.trans ?_, (h c).2⟩
      rw [Cert.NormFwdRefIdeal.Read.val_main_v12_eq, a0, a1]
      refine funext fun (i : Cert.NormFwdIdeal.S8192x1024.Idx) => ?_
      rw [eq_ix2 i]
      exact (Cert.NormFwdRefIdeal.Stages.norm_apply _ _ _ _).trans (Cert.NormFwdIdeal.Block.out_eq I _ _).symm)
    (Cert.NormFwdRefIdeal.Value.run m' ρ')⟩

end Cert.NormFwdClaim

end
-- ==== Proof.QFwdArray.lean ====
/-
  The queries, forward: what the host lines and the call leave. The host spreads each head's 64 columns of the weight over 128
  before the call, and afterwards takes the 64 columns back and multiplies by the logarithm of two.
-/
module

public import proofs.«01_k».proof.Proof.NormRow
public import proofs.«01_k».proof.Proof.Gen.QFwdIdeal.Frame
public import proofs.«01_k».proof.Proof.Gen.QFwdRefIdeal.Read
public import Idealize.ShloMosaic.Lib.Pipeline.ReadBack
public import Idealize.ShloMosaic.Lib.Pipeline.ValueKit.Tiles
public import Idealize.ShloMosaic.Lib.StableHlo.ReadAt
public import Idealize.ShloMosaic.Lib.Claim

@[expose] public section

set_option maxRecDepth 16384

noncomputable section

namespace Cert.QFwdIdeal.Block

open Cert.QFwdIdeal Cert.QFwdIdeal.Gen Cert.NormRow Idealize.ShloMosaic Idealize.ShloMosaic.TcCoe Idealize.SL.Sem

theorem scale_named : @Eq EReal (Named.named (F := Ideal) κ "log2e_8" (φ := .f32) 0x3E38AA3B#32) (((8 * Real.log 2)⁻¹ : ℝ) : EReal) :=
  (IdealRules.named_const.ideal_named_scalar _ _ _ _ rfl).trans (by first | rfl | (simp; done) | norm_num)

/-- A row times a column of a weight. -/
def column {n : ℕ} (u : Fin 1024 → EReal) (w : (Shape.mk 2 ![1024, n]).Idx → EReal) (s : Fin n) : EReal := ∑ l : Fin 1024, u l * w (ix2 l s)

theorem pay1_apply (h : S512x1024.Idx → EReal) (g : S1x1024.Idx → EReal) (w : S1024x2048.Idx → EReal) (o : S1x2048.Idx → EReal) (r : Fin 512) (s : Fin 2048) :
    @Eq EReal (k0_pay1 (F := Ideal) h g w o (ix2 r s))
      (column (norm (fun l => h (ix2 r l)) (fun l => g (ix2 0 l))) w s * (((8 * Real.log 2)⁻¹ : ℝ) : EReal) + o (ix2 0 s)) := by
  rw [← scale_named]
  pointwise [k0_pay1]
  rfl

theorem hz : (![0, 0] : Fin 2 → ℕ) = fun _ => 0 := by decide

theorem tile (h : S512x1024.Idx → EReal) (g : S1x1024.Idx → EReal) (w : S1024x2048.Idx → EReal) (o : S1x2048.Idx → EReal) :
    out0_4 (F := Ideal) h g w o = k0_pay1 (F := Ideal) h g w o := by
  unfold out0_4
  rw [View.canon_unit_zero (S := S512x2048) hz, View.ld_unit_zero (S := S512x1024) hz, View.ld_unit_zero (S := S1x1024) hz,
    View.ld_unit_zero (S := S1024x2048) hz, View.ld_unit_zero (S := S1x2048) hz]

theorem place : ∀ t : Fin cfg0.N, win0_0.index t = ![t.val, 0] ∧ win0_1.index t = ![0, 0] ∧ win0_2.index t = ![0, 0] ∧ win0_3.index t = ![0, 0]
    ∧ win0_4.index t = ![t.val, 0] := by
  decide +kernel

theorem rowlt (t : Fin cfg0.N) (r : Fin 512) : 512 * t.val + r.val < 8192 := by
  have := lt_of_lt_of_eq t.isLt (show cfg0.N = 16 from N_0)
  omega

/-- The arguments. -/
structure Args (m : (ℓ : Loc nD τ sig) → Buf (Elt Ideal) ℓ) (c : Dev nD) (H : S8192x1024.Idx → EReal) (G : S1024.Idx → EReal) (W : S1024x1024.Idx → EReal) : Prop where
  h : m ((c : Thread nD τ).loc main_arg0) = H
  g : m ((c : Thread nD τ).loc main_arg1) = G
  w : m ((c : Thread nD τ).loc main_arg2) = W

/-- The column of the spread weight that holds column `x`. -/
def slot (x : Fin 1024) : Fin 2048 := ⟨x.val / 64 * 128 + x.val % 64, by omega⟩

theorem slot_mod (x : Fin 1024) : (slot x).val % 128 = x.val % 64 := by
  show (x.val / 64 * 128 + x.val % 64) % 128 = x.val % 64
  omega

variable {m : (ℓ : Loc nD τ sig) → Buf (Elt Ideal) ℓ} {c : Dev nD} {H : S8192x1024.Idx → EReal} {G : S1024.Idx → EReal} {W : S1024x1024.Idx → EReal}
  (I : Args m c H G W)

include I

theorem V_g (k : Fin 1024) : @Eq EReal (V m c main_v0 (ix2 0 k)) (G (ix1 k)) := by
  unfold V V0
  simp only [List.flatten_cons, List.flatten_nil, List.append_nil, hostOps0, hostOps0_1, hostOps0_2, List.cons_append, List.nil_append]
  after_reads_at
  exact congrFun I.g _

theorem V_w (i x : Fin 1024) : @Eq EReal (V m c main_v4 (ix2 i (slot x))) (W (ix2 i x)) := by
  unfold V V0
  simp only [List.flatten_cons, List.flatten_nil, List.append_nil, hostOps0, hostOps0_1, hostOps0_2, List.cons_append, List.nil_append]
  after_reads_at
  refine (dif_pos (show (slot x).val / 128 < 16 ∧ (slot x).val % 128 < 64 from ⟨by show (x.val / 64 * 128 + x.val % 64) / 128 < 16; omega, by rw [slot_mod]; omega⟩)).trans ?_
  refine (congrFun I.w _).trans (congrArg (fun z => W (ix2 i z)) (Fin.ext ?_))
  show (x.val / 64 * 128 + x.val % 64) / 128 * 64 + (x.val / 64 * 128 + x.val % 64) % 128 = x.val
  omega

omit I in
theorem not_ones : ∀ n : Fin 64, IntOp.cmpi CmpIPredicate.eq (BitVec.ofNat 32 n.val) 64#32 = 0#1 := by decide +kernel

omit I in
theorem V_o (x : Fin 1024) : @Eq EReal (V m c main_v12 (ix2 0 (slot x))) 0 := by
  unfold V V0
  simp only [List.flatten_cons, List.flatten_nil, List.append_nil, hostOps0, hostOps0_1, hostOps0_2, List.cons_append, List.nil_append]
  after_reads_at
  rw [slot_mod, not_ones ⟨x.val % 64, by omega⟩]
  simp [FloatOps.uitofp]

theorem blk_h (t : Fin cfg0.N) : @Eq (S512x1024.Idx → EReal) (iblk m c 0 t) fun y => H (ix2 ⟨512 * t.val + (y 0).val, rowlt t (y 0)⟩ (y 1)) := by
  funext y
  unfold iblk
  rw [View.read_apply]
  show V m c main_arg0 _ = _
  rw [V_main_arg0]
  refine (congrFun I.h _).trans (congrArg H ?_)
  funext a
  apply Fin.ext
  match a with
  | ⟨0, _⟩ => show win0_0.index t 0 * 512 + 1 * (y 0).val = _; rw [(place t).1]; show t.val * 512 + 1 * (y 0).val = 512 * t.val + (y 0).val; omega
  | ⟨1, _⟩ => show win0_0.index t 1 * 1024 + 1 * (y 1).val = _; rw [(place t).1]; show 0 * 1024 + 1 * (y 1).val = (y 1).val; omega

theorem blk_g (t : Fin cfg0.N) : @Eq (S1x1024.Idx → EReal) (iblk m c 1 t) fun y => G (ix1 (y 1)) := by
  funext y
  unfold iblk
  rw [View.read_apply]
  have e : ((cfg0.win 1).blk t).view.emb y = ix2 0 (y 1) := by
    funext a
    apply Fin.ext
    match a with
    | ⟨0, _⟩ => show win0_1.index t 0 * 1 + 1 * (y 0).val = _; rw [(place t).2.1]; show 0 * 1 + 1 * (y 0).val = 0; have : (y 0).val < 1 := (y 0).isLt; omega
    | ⟨1, _⟩ => show win0_1.index t 1 * 1024 + 1 * (y 1).val = _; rw [(place t).2.1]; show 0 * 1024 + 1 * (y 1).val = (y 1).val; omega
  show V m c main_v0 (((cfg0.win 1).blk t).view.emb y) = _
  rw [e]
  exact V_g I _

theorem blk_w (t : Fin cfg0.N) (l x : Fin 1024) : @Eq EReal (iblk m c 2 t (ix2 l (slot x))) (W (ix2 l x)) := by
  unfold iblk
  rw [View.read_apply]
  have e : ((cfg0.win 2).blk t).view.emb (ix2 l (slot x)) = ix2 l (slot x) := by
    funext a
    apply Fin.ext
    match a with
    | ⟨0, _⟩ => show win0_2.index t 0 * 1024 + 1 * l.val = _; rw [(place t).2.2.1]; show 0 * 1024 + 1 * l.val = l.val; omega
    | ⟨1, _⟩ => show win0_2.index t 1 * 2048 + 1 * (slot x).val = _; rw [(place t).2.2.1]; show 0 * 2048 + 1 * (slot x).val = (slot x).val; omega
  show V m c main_v4 (((cfg0.win 2).blk t).view.emb (ix2 l (slot x))) = _
  rw [e]
  exact V_w I _ _

omit I in
theorem blk_o (t : Fin cfg0.N) (x : Fin 1024) : @Eq EReal (iblk m c 3 t (ix2 0 (slot x))) 0 := by
  unfold iblk
  rw [View.read_apply]
  have e : ((cfg0.win 3).blk t).view.emb (ix2 0 (slot x)) = ix2 0 (slot x) := by
    funext a
    apply Fin.ext
    match a with
    | ⟨0, _⟩ => show win0_3.index t 0 * 1 + 1 * 0 = _; rw [(place t).2.2.2.1]; rfl
    | ⟨1, _⟩ => show win0_3.index t 1 * 2048 + 1 * (slot x).val = _; rw [(place t).2.2.2.1]; show 0 * 2048 + 1 * (slot x).val = (slot x).val; omega
  show V m c main_v12 (((cfg0.win 3).blk t).view.emb (ix2 0 (slot x))) = _
  rw [e]
  exact V_o _

omit I in
theorem point_lt (i : Fin 8192) : i.val / 512 < cfg0.N := lt_of_lt_of_eq (show i.val / 512 < 16 by omega) N_0.symm

omit I in
theorem row_back (i : Fin 8192) (h : 512 * (i.val / 512) + i.val % 512 < 8192) : (⟨512 * (i.val / 512) + i.val % 512, h⟩ : Fin 8192) = i :=
  Fin.ext (by show 512 * (i.val / 512) + i.val % 512 = i.val; omega)

omit I in
theorem apart : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (congrFun (((place t).2.2.2.2).symm.trans (h.trans (place t').2.2.2.2)) 0))

/-- What the call leaves of column `x`. -/
theorem out_eq (i : Fin 8192) (x : Fin 1024) : @Eq EReal ((dats m 0 c).arrAt 4 cfg0.N (ix2 i (slot x)))
    (column (norm (fun l => H (ix2 i l)) (fun l => G (ix1 l))) W x * (((8 * Real.log 2)⁻¹ : ℝ) : EReal)) := by
  have b := congrFun ((dats m 0 c).read_blk_arrAt_eq_flushed 4 apart cfg0.N ⟨_, point_lt i⟩ (point_lt i) (flush0_4 _)) (ix2 (⟨i.val % 512, by omega⟩ : Fin 512) (slot x))
  rw [View.read_apply] at b
  have e : ((cfg0.win 4).blk ⟨_, point_lt i⟩).view.emb (ix2 (⟨i.val % 512, by omega⟩ : Fin 512) (slot x)) = ix2 i (slot x) := by
    funext a
    apply Fin.ext
    match a with
    | ⟨0, _⟩ => show win0_4.index ⟨_, point_lt i⟩ 0 * 512 + 1 * (i.val % 512) = _; rw [(place ⟨_, point_lt i⟩).2.2.2.2]; show i.val / 512 * 512 + 1 * (i.val % 512) = i.val; omega
    | ⟨1, _⟩ => show win0_4.index ⟨_, point_lt i⟩ 1 * 2048 + 1 * (slot x).val = _; rw [(place ⟨_, point_lt i⟩).2.2.2.2]; show 0 * 2048 + 1 * (slot x).val = (slot x).val; omega
  refine (congrArg ((dats m 0 c).arrAt 4 cfg0.N) e.symm).trans (b.trans ?_)
  show (dats m 0 c).after 4 ⟨_, point_lt i⟩ (ix2 (⟨i.val % 512, by omega⟩ : Fin 512) (slot x)) = _
  rw [after0_4, tile, blk_h I, blk_g I]
  refine (pay1_apply _ _ _ _ _ (slot x)).trans ?_
  rw [blk_o, add_zero]
  refine congrArg (· * (((8 * Real.log 2)⁻¹ : ℝ) : EReal)) (Finset.sum_congr rfl fun l _ => congrArg₂ (· * ·) ?_ (blk_w I _ l x))
  show norm (fun l => H (ix2 (⟨512 * (i.val / 512) + i.val % 512, by omega⟩ : Fin 8192) l)) (fun l => G (ix1 l)) l = _
  rw [row_back i]

/-! ## The host lines after the call -/

omit I in
theorem log_two : @Eq EReal (Ideal.log (Ideal.ofBits .f32 0x40000000#32)) ((Real.log 2 : ℝ) : EReal) := by
  rw [show Ideal.ofBits .f32 0x40000000#32 = ((2 : ℝ) : EReal) by simp [Ideal.ofBits, Ideal.ieee]; rw [← EReal.coe_mul]; norm_num]
  rw [Ideal.log_coe, if_neg (by norm_num)]

/-- The arrays after the call. -/
def W1 (m : (ℓ : Loc nD τ sig) → Buf (Elt Ideal) ℓ) (c : Dev nD) : Valuation τ sig (Elt Ideal) :=
  Pipeline.withArrays spec0 c (V0 m c) fun w : Fin 5 => (dats m 0 c).arrAt w cfg0.N

omit I in
theorem after_tail (m : (ℓ : Loc nD τ sig) → Buf (Elt Ideal) ℓ) (c : Dev nD) (b : Ref sig .tc) :
    Pipeline.afterTail₀ cfgs (dats m) 0 (V0 m) [hostOps1] c b = StableHlo.after (List.flatten [hostOps1]) (W1 m c) (Proc.tc.devRef b) := by
  unfold Pipeline.afterTail₀ W1
  rfl

omit I in
theorem arrays_apart : Function.Injective (Pipeline.arrRef spec0) := by decide

omit I in
theorem tail_q (X : Valuation τ sig (Elt Ideal)) (i : Fin 8192) (x : Fin 1024) : @Eq EReal (StableHlo.after (List.flatten [hostOps1]) X (Proc.tc.devRef main_v20) (ix2 i x))
    (@HMul.hMul EReal EReal EReal _ (X (Proc.tc.devRef main_v13) (ix2 i (slot x))) ((Real.log 2 : ℝ) : EReal)) := by
  rw [← log_two]
  simp only [List.flatten_cons, List.flatten_nil, List.append_nil, hostOps1]
  after_reads_at
  rfl

omit I in
theorem W1_q (m : (ℓ : Loc nD τ sig) → Buf (Elt Ideal) ℓ) (c : Dev nD) : W1 m c (Proc.tc.devRef main_v13) = (dats m 0 c).arrAt 4 cfg0.N :=
  Pipeline.withArrays_arr spec0 arrays_apart c _ _ 4

omit I in
theorem scales : (8 * Real.log 2)⁻¹ * Real.log 2 = 1 / 8 := by
  have : Real.log 2 ≠ 0 := (Real.log_pos (by norm_num)).ne'
  field_simp

/-- The queries. -/
theorem end_q (i : Fin 8192) (x : Fin 1024) : @Eq EReal (Pipeline.afterTail₀ cfgs (dats m) 0 (V0 m) [hostOps1] c main_v20 (ix2 i x))
    (column (norm (fun l => H (ix2 i l)) (fun l => G (ix1 l))) W x * ((1 / 8 : ℝ) : EReal)) := by
  rw [after_tail]
  refine (tail_q _ i x).trans ?_
  rw [W1_q]
  refine (congrArg (· * ((Real.log 2 : ℝ) : EReal)) (out_eq I i x)).trans ?_
  rw [mul_assoc, ← EReal.coe_mul, scales]

end Cert.QFwdIdeal.Block

namespace Cert.QFwdRefIdeal.Stages

open Cert.QFwdRefIdeal Cert.QFwdRefIdeal.Read Cert.NormRow Idealize.ShloMosaic
open Cert.QFwdIdeal.Block (column)

variable (H : S8192x1024.Idx → EReal) (G : S1024.Idx → EReal) (W : S1024x1024.Idx → EReal)

theorem norm_apply (i : Fin 8192) (k : Fin 1024) :
    @Eq EReal (val_main_v12 (F := Ideal) H G (ix2 i k)) (norm (fun l => H (ix2 i l)) (fun l => G (ix1 l)) k) := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem eighth : @Eq EReal (Ideal.ofBits .f32 0x3E000000#32) ((1 / 8 : ℝ) : EReal) := by
  simp [Ideal.ofBits, Ideal.ieee]
  rw [← EReal.coe_mul]
  norm_num

theorem q_apply (i : Fin 8192) (x : Fin 1024) :
    @Eq EReal (val_main_v15 (F := Ideal) H G W (ix2 i x)) (column (norm (fun l => H (ix2 i l)) (fun l => G (ix1 l))) W x * ((1 / 8 : ℝ) : EReal)) := by
  rw [← eighth]
  pointwise [val_main_v15, val_main_v14, val_main_v13, val_main_cst_2]
  simp only [norm_apply]
  rfl

end Cert.QFwdRefIdeal.Stages

end
-- ==== Proof.QFwdClaim.lean ====
/-
  The queries, forward: the kernel and the forward lines end with equal results, whatever the arguments.
-/
module

public import proofs.«01_k».proof.Defs
public import proofs.«01_k».proof.Proof.QFwdArray
public import proofs.«01_k».proof.Proof.Gen.QFwdRefIdeal.Run
public import Idealize.ShloMosaic.Lib.Quiescent

@[expose] public section

set_option maxRecDepth 16384

noncomputable section

namespace Cert.QFwdClaim

open Idealize.ShloMosaic Idealize.ShloMosaic.TcCoe Idealize.SL.Sem
open Cert.QFwdIdeal.Gen (dats V0)

theorem frame_ref : Cert.quiescent_QFwdRefIdeal := fun m ρ _ =>
  (θ_run Cert.QFwdRefIdeal.defs _ _).mono (fun r h => ⟨fun c => (h c).2, sem_eq_zero_of_no_sems (by decide) r.2⟩)
    (Cert.QFwdRefIdeal.Value.run m ρ)

/-- The scale of the scores: the float that the call multiplies by, and the real that it stands for. -/
theorem preserves : Cert.preserves_QFwd_QFwdIdeal :=
  IdealRules.named_const.statement Cert.QFwdIdeal.κ "log2e_8" .f32 0x3E38AA3B#32 _ rfl

theorem rest_q : Cert.QFwdIdeal.main_v20 ∈ Pipeline.restRefs Cert.QFwdIdeal.sig Cert.QFwdIdeal.spec0 := Pipeline.mem_restRefs_of _ (by decide) (by decide)

theorem algebraic : Cert.algebraic_QFwdIdeal_QFwdRefIdeal := fun m ρ m' ρ' _ hag =>
  ⟨fun c => Pipeline.afterTail₀ Cert.QFwdIdeal.cfgs (dats m) 0 (V0 m) [Cert.QFwdIdeal.Gen.hostOps1] c Cert.QFwdIdeal.main_v20,
    (θ_run Cert.QFwdIdeal.defs _ _).mono (fun r h c => ⟨(h.1 c).2 _ rest_q, h.2 c⟩)
      (θ_run_and (Cert.QFwdIdeal.Gen.run_main m ρ) (Cert.QFwdIdeal.Gen.unchanged m ρ)),
    (θ_run _ _ _).mono (fun _ h c => by
      obtain ⟨a0, a1, a2⟩ := hag c
      have I : Cert.QFwdIdeal.Block.Args m c _ _ _ := ⟨rfl, rfl, rfl⟩
      refine ⟨(h c).1.trans ?_, (h c).2⟩
      rw [Cert.QFwdRefIdeal.Read.val_main_v15_eq, a0, a1, a2]
      refine funext fun (i : Cert.QFwdIdeal.S8192x1024.Idx) => ?_
      rw [eq_ix2 i]
      exact (Cert.QFwdRefIdeal.Stages.q_apply _ _ _ _ _).trans (Cert.QFwdIdeal.Block.end_q I _ _).symm)
    (Cert.QFwdRefIdeal.Value.run m' ρ')⟩

end Cert.QFwdClaim

end
-- ==== Proof.OFwdArray.lean ====
/-
  What the attention layer's output projection leaves: point `t` of the grid writes rows `512 t` and on.
-/
module

public import proofs.«01_k».proof.Proof.Gen.OFwdIdeal.Value
public import proofs.«01_k».proof.Proof.Gen.OFwdRefIdeal.Read
public import Idealize.ShloMosaic.Lib.Pipeline.ReadBack
public import Idealize.ShloMosaic.Lib.Pipeline.ValueKit.Tiles
public import Idealize.ShloMosaic.Lib.StableHlo.ReadAt
public import Idealize.ShloMosaic.Lib.Pointwise
public import Idealize.ShloMosaic.Lib.Claim

@[expose] public section

set_option maxRecDepth 16384

noncomputable section

namespace Cert.OFwdIdeal.Block

open Cert.OFwdIdeal Cert.OFwdIdeal.Gen Idealize.ShloMosaic Idealize.ShloMosaic.TcCoe Idealize.SL.Sem

/-- A row times a column of the weight. -/
def column (u : Fin 1024 → EReal) (w : S1024x1024.Idx → EReal) (k : Fin 1024) : EReal := ∑ l : Fin 1024, u l * w (ix2 l k)

theorem pay1_apply (h o : S512x1024.Idx → EReal) (w : S1024x1024.Idx → EReal) (r : Fin 512) (k : Fin 1024) :
    @Eq EReal (k0_pay1 (F := Ideal) h o w (ix2 r k)) (h (ix2 r k) + column (fun l => o (ix2 r l)) w k) := by
  pointwise [k0_pay1]
  rfl

theorem hz : (![0, 0] : Fin 2 → ℕ) = fun _ => 0 := by decide

theorem tile (h o : S512x1024.Idx → EReal) (w : S1024x1024.Idx → EReal) : out0_3 (F := Ideal) h o w = k0_pay1 (F := Ideal) h o w := by
  unfold out0_3
  rw [View.canon_unit_zero (S := S512x1024) hz, View.ld_unit_zero (S := S512x1024) hz, View.ld_unit_zero (S := S512x1024) hz, View.ld_unit_zero (S := S1024x1024) hz]

theorem place : ∀ t : Fin cfg0.N, win0_0.index t = ![t.val, 0] ∧ win0_1.index t = ![t.val, 0] ∧ win0_2.index t = ![0, 0] ∧ win0_3.index t = ![t.val, 0] := by
  decide +kernel

theorem rowlt (t : Fin cfg0.N) (r : Fin 512) : 512 * t.val + r.val < 8192 := by
  have := lt_of_lt_of_eq t.isLt (show cfg0.N = 16 from N_0)
  omega

/-- The arguments. -/
structure Args (m : (ℓ : Loc nD τ sig) → Buf (Elt Ideal) ℓ) (c : Dev nD) (H O : S8192x1024.Idx → EReal) (W : S1024x1024.Idx → EReal) : Prop where
  h : m ((c : Thread nD τ).loc main_arg0) = H
  o : m ((c : Thread nD τ).loc main_arg1) = O
  w : m ((c : Thread nD τ).loc main_arg2) = W

variable {m : (ℓ : Loc nD τ sig) → Buf (Elt Ideal) ℓ} {c : Dev nD} {H O : S8192x1024.Idx → EReal} {W : S1024x1024.Idx → EReal} (I : Args m c H O W)

include I

theorem V_o (i : Fin 8192) (k : Fin 1024) : @Eq EReal (V m c main_v0 (ix2 i k)) (O (ix2 i k)) := by
  unfold V
  simp only [List.flatten_cons, List.flatten_nil, List.append_nil, hostOps0, List.cons_append, List.nil_append]
  after_reads_at
  exact congrFun I.o _

theorem V_w (i k : Fin 1024) : @Eq EReal (V m c main_v1 (ix2 i k)) (W (ix2 i k)) := by
  unfold V
  simp only [List.flatten_cons, List.flatten_nil, List.append_nil, hostOps0, List.cons_append, List.nil_append]
  after_reads_at
  exact congrFun I.w _

theorem blk_h (t : Fin cfg0.N) : @Eq (S512x1024.Idx → EReal) (iblk m c 0 t) fun y => H (ix2 ⟨512 * t.val + (y 0).val, rowlt t (y 0)⟩ (y 1)) := by
  funext y
  unfold iblk
  rw [View.read_apply]
  show V m c main_arg0 _ = _
  rw [V_main_arg0]
  refine (congrFun I.h _).trans (congrArg H ?_)
  funext a
  apply Fin.ext
  match a with
  | ⟨0, _⟩ => show win0_0.index t 0 * 512 + 1 * (y 0).val = _; rw [(place t).1]; show t.val * 512 + 1 * (y 0).val = 512 * t.val + (y 0).val; omega
  | ⟨1, _⟩ => show win0_0.index t 1 * 1024 + 1 * (y 1).val = _; rw [(place t).1]; show 0 * 1024 + 1 * (y 1).val = (y 1).val; omega

theorem blk_o (t : Fin cfg0.N) : @Eq (S512x1024.Idx → EReal) (iblk m c 1 t) fun y => O (ix2 ⟨512 * t.val + (y 0).val, rowlt t (y 0)⟩ (y 1)) := by
  funext y
  unfold iblk
  rw [View.read_apply]
  have e : ((cfg0.win 1).blk t).view.emb y = ix2 (⟨512 * t.val + (y 0).val, rowlt t (y 0)⟩ : Fin 8192) (y 1) := by
    funext a
    apply Fin.ext
    match a with
    | ⟨0, _⟩ => show win0_1.index t 0 * 512 + 1 * (y 0).val = _; rw [(place t).2.1]; show t.val * 512 + 1 * (y 0).val = 512 * t.val + (y 0).val; omega
    | ⟨1, _⟩ => show win0_1.index t 1 * 1024 + 1 * (y 1).val = _; rw [(place t).2.1]; show 0 * 1024 + 1 * (y 1).val = (y 1).val; omega
  show V m c main_v0 (((cfg0.win 1).blk t).view.emb y) = _
  rw [e]
  exact V_o I _ _

theorem blk_w (t : Fin cfg0.N) : @Eq (S1024x1024.Idx → EReal) (iblk m c 2 t) W := by
  refine funext fun (y : S1024x1024.Idx) => ?_
  unfold iblk
  rw [View.read_apply]
  have e : ((cfg0.win 2).blk t).view.emb y = ix2 (y 0) (y 1) := by
    funext a
    apply Fin.ext
    match a with
    | ⟨0, _⟩ => show win0_2.index t 0 * 1024 + 1 * (y 0).val = _; rw [(place t).2.2.1]; show 0 * 1024 + 1 * (y 0).val = (y 0).val; omega
    | ⟨1, _⟩ => show win0_2.index t 1 * 1024 + 1 * (y 1).val = _; rw [(place t).2.2.1]; show 0 * 1024 + 1 * (y 1).val = (y 1).val; omega
  show V m c main_v1 (((cfg0.win 2).blk t).view.emb y) = _
  rw [e]
  exact (V_w I _ _).trans (congrArg W (eq_ix2 y).symm)

omit I in
theorem point_lt (i : Fin 8192) : i.val / 512 < cfg0.N := lt_of_lt_of_eq (show i.val / 512 < 16 by omega) N_0.symm

omit I in
theorem row_back (i : Fin 8192) (h : 512 * (i.val / 512) + i.val % 512 < 8192) : (⟨512 * (i.val / 512) + i.val % 512, h⟩ : Fin 8192) = i :=
  Fin.ext (by show 512 * (i.val / 512) + i.val % 512 = i.val; omega)

/-- The stream after the projection. -/
theorem out_eq (i : Fin 8192) (k : Fin 1024) : @Eq EReal ((dats m 0 c).arrAt 3 cfg0.N (ix2 i k)) (H (ix2 i k) + column (fun l => O (ix2 i l)) W k) := by
  have b := congrFun ((Value.blocks3 m c ⟨_, point_lt i⟩ (flush0_3 ⟨_, point_lt i⟩)).trans (Value.flushed3 m c ⟨_, point_lt i⟩)) (ix2 (⟨i.val % 512, by omega⟩ : Fin 512) k)
  rw [View.read_apply] at b
  have e : ((cfg0.win 3).blk ⟨_, point_lt i⟩).view.emb (ix2 (⟨i.val % 512, by omega⟩ : Fin 512) k) = ix2 i k := by
    funext a
    apply Fin.ext
    match a with
    | ⟨0, _⟩ => show win0_3.index ⟨_, point_lt i⟩ 0 * 512 + 1 * (i.val % 512) = _; rw [(place ⟨_, point_lt i⟩).2.2.2]; show i.val / 512 * 512 + 1 * (i.val % 512) = i.val; omega
    | ⟨1, _⟩ => show win0_3.index ⟨_, point_lt i⟩ 1 * 1024 + 1 * k.val = _; rw [(place ⟨_, point_lt i⟩).2.2.2]; show 0 * 1024 + 1 * k.val = k.val; omega
  refine (congrArg ((dats m 0 c).arrAt 3 cfg0.N) e.symm).trans (b.trans ?_)
  show out0_3 _ _ _ (ix2 (⟨i.val % 512, by omega⟩ : Fin 512) k) = _
  rw [blk_h I, blk_o I, blk_w I, tile]
  refine (pay1_apply _ _ _ _ k).trans ?_
  show H (ix2 (⟨512 * (i.val / 512) + i.val % 512, by omega⟩ : Fin 8192) k)
    + column (fun l => O (ix2 (⟨512 * (i.val / 512) + i.val % 512, by omega⟩ : Fin 8192) l)) W k = _
  rw [row_back i]

end Cert.OFwdIdeal.Block

namespace Cert.OFwdRefIdeal.Stages

open Cert.OFwdRefIdeal Cert.OFwdRefIdeal.Read Idealize.ShloMosaic
open Cert.OFwdIdeal.Block (column)

theorem out_apply (H O : S8192x1024.Idx → EReal) (W : S1024x1024.Idx → EReal) (i : Fin 8192) (k : Fin 1024) :
    @Eq EReal (val_main_v1 (F := Ideal) H O W (ix2 i k)) (H (ix2 i k) + column (fun l => O (ix2 i l)) W k) := by
  pointwise [val_main_v1, val_main_v0]
  rfl

end Cert.OFwdRefIdeal.Stages

end
-- ==== Proof.OFwdClaim.lean ====
/-
  The attention layer's output projection, forward: the kernel and the forward line end with equal results, whatever the arguments.
-/
module

public import proofs.«01_k».proof.Defs
public import proofs.«01_k».proof.Proof.OFwdArray
public import proofs.«01_k».proof.Proof.Gen.OFwdRefIdeal.Run
public import Idealize.ShloMosaic.Lib.Quiescent

@[expose] public section

set_option maxRecDepth 16384

noncomputable section

namespace Cert.OFwdClaim

open Idealize.ShloMosaic Idealize.ShloMosaic.TcCoe Idealize.SL.Sem

theorem frame_ref : Cert.quiescent_OFwdRefIdeal := fun m ρ _ =>
  (θ_run Cert.OFwdRefIdeal.defs _ _).mono (fun r h => ⟨fun c => (h c).2, sem_eq_zero_of_no_sems (by decide) r.2⟩)
    (Cert.OFwdRefIdeal.Value.run m ρ)

theorem algebraic : Cert.algebraic_OFwdIdeal_OFwdRefIdeal := fun m ρ m' ρ' _ hag =>
  ⟨_, Cert.OFwdIdeal.Value.run_blocks m ρ,
    (θ_run _ _ _).mono (fun _ h c => by
      obtain ⟨a0, a1, a2⟩ := hag c
      have I : Cert.OFwdIdeal.Block.Args m c _ _ _ := ⟨rfl, rfl, rfl⟩
      refine ⟨(h c).1.trans ?_, (h c).2⟩
      rw [Cert.OFwdRefIdeal.Read.val_main_v1_eq, a0, a1, a2]
      refine funext fun (i : Cert.OFwdIdeal.S8192x1024.Idx) => ?_
      rw [eq_ix2 i]
      exact (Cert.OFwdRefIdeal.Stages.out_apply _ _ _ _ _).trans (Cert.OFwdIdeal.Block.out_eq I _ _).symm)
    (Cert.OFwdRefIdeal.Value.run m' ρ')⟩

end Cert.OFwdClaim

end
-- ==== Proof.KvfFwdBlock.lean ====
/-
  What one block of rows gives in the shared keys', values' and forget gates' forward call: the products with the weights, the running
  sum of the gates' logarithms over what the rows before left, and that sum repeated over each head's columns.
-/
module

public import proofs.«01_k».proof.Proof.Reals
public import proofs.«01_k».proof.Proof.NormRow
public import proofs.«01_k».proof.Proof.Gen.KvfFwdIdeal.Frame
public import Idealize.ShloMosaic.Lib.Pipeline.ReadBack
public import Idealize.ShloMosaic.Lib.Pointwise
public import Idealize.ShloMosaic.Lib.VecWindow

@[expose] public section

set_option maxRecDepth 16384

noncomputable section

namespace Cert.KvfFwdIdeal.Block

open Cert.KvfFwdIdeal Cert.KvfFwdIdeal.Gen Cert.Reals Cert.NormRow Idealize.ShloMosaic Idealize.SL.Sem

theorem log2e_named : @Eq EReal (Named.named (F := Ideal) κ "log2e" (φ := .f32) 0x3FB8AA3B#32) (((Real.log 2)⁻¹ : ℝ) : EReal) :=
  (IdealRules.named_const.ideal_named_scalar _ _ _ _ rfl).trans (by first | rfl | (simp; done) | norm_num)

theorem ofBits_one : Ideal.ofBits .f32 0x3F800000#32 = ((1 : ℝ) : EReal) := by
  simp [Ideal.ofBits, Ideal.ieee]
  rw [← EReal.coe_mul]
  norm_num

theorem ofBits_zero : Ideal.ofBits .f32 0x00000000#32 = ((0 : ℝ) : EReal) := by simp [Ideal.ofBits, Ideal.ieee]

/-- A row times a column of a weight. -/
def column {n : ℕ} (u : Fin 1024 → EReal) (w : (Shape.mk 2 ![1024, n]).Idx → EReal) (s : Fin n) : EReal := ∑ l : Fin 1024, u l * w (ix2 l s)

/-- The logarithm of the logistic function. -/
def logSig (z : ℝ) : ℝ := min z 0 - Real.log (1 + Real.exp (-|z|))

theorem pay4_apply (h : S512x1024.Idx → EReal) (g : S1x1024.Idx → EReal) (r : Fin 512) (k : Fin 1024) :
    @Eq EReal (k0_pay4 (F := Ideal) h g (ix2 r k)) (norm (fun l => h (ix2 r l)) (fun l => g (ix2 0 l)) k) := by
  pointwise [k0_pay4]
  rfl

theorem pay5_apply (h : S512x1024.Idx → EReal) (g : S1x1024.Idx → EReal) (w : S1024x2048.Idx → EReal) (o : S1x2048.Idx → EReal) (r : Fin 512) (s : Fin 2048) :
    @Eq EReal (k0_pay5 (F := Ideal) h g w o (ix2 r s)) (column (norm (fun l => h (ix2 r l)) (fun l => g (ix2 0 l))) w s + o (ix2 0 s)) := by
  pointwise [k0_pay5]
  simp only [pay4_apply]
  rfl

theorem pay6_apply (h : S512x1024.Idx → EReal) (g : S1x1024.Idx → EReal) (w : S1024x2048.Idx → EReal) (o : S1x2048.Idx → EReal) (r : Fin 512) (s : Fin 2048) :
    @Eq EReal (k0_pay6 (F := Ideal) h g w o (ix2 r s)) (column (norm (fun l => h (ix2 r l)) (fun l => g (ix2 0 l))) w s + o (ix2 0 s)) := by
  pointwise [k0_pay6]
  simp only [pay4_apply]
  rfl

theorem pay7_apply (h : S512x1024.Idx → EReal) (g : S1x1024.Idx → EReal) (w : S1024x128.Idx → EReal) (b : S1x128.Idx → EReal) (r : Fin 512) (a : Fin 128) :
    @Eq EReal (k0_pay7 (F := Ideal) (k0_pay4 h g) w b (ix2 r a)) (column (norm (fun l => h (ix2 r l)) (fun l => g (ix2 0 l))) w a + b (ix2 0 a)) := by
  pointwise [k0_pay7]
  simp only [pay4_apply]
  rfl

/-! ## Products that take an operand in three parts -/

section Parts

variable {F : FTy → Type} [FloatOps F]

/-- The logarithm of the logistic function, as the kernel takes it. -/
def logged (x : FVec F S512x128 .f32) : FVec F S512x128 .f32 :=
  subf (minimumf x (broadcast S512x128 (Scalar.ofBits .f32 0x00000000#32 : F .f32)))
    (log (addf (broadcast S512x128 (Scalar.ofBits .f32 0x3F800000#32 : F .f32)) (exp (subf (broadcast S512x128 (Scalar.ofBits .f32 0x00000000#32 : F .f32)) (absf x)))))

/-- The 0/1 matrix of the running sum. -/
def earlier : FVec F S512x512 .bf16 :=
  truncf .bf16 (sitofp .f32 (extui 32 (cmpi .sge (iota .tc S512x512 32 [0] iota_S512x512_d0_w32) (iota .tc S512x512 32 [1] iota_S512x512_d1_w32)) natLt_1_32)) bitsLt_bf16_f32

/-- The running sum over the rows, the rows split in three parts. -/
def summed (x : FVec F S512x128 .f32) : FVec F S512x128 .f32 :=
  let a := truncf .bf16 x bitsLt_bf16_f32
  let y := subf x (extf .f32 a bitsLt_bf16_f32)
  let b := truncf .bf16 y bitsLt_bf16_f32
  let z := subf y (extf .f32 b bitsLt_bf16_f32)
  let d := truncf .bf16 z bitsLt_bf16_f32
  addf (addf (matmul dot_S512x512_S512x128_S512x128_1_0_0_1_n_n none earlier a (constant S512x128 .f32 0x00000000#32))
    (matmul dot_S512x512_S512x128_S512x128_1_0_0_1_n_n none earlier b (constant S512x128 .f32 0x00000000#32)))
    (matmul dot_S512x512_S512x128_S512x128_1_0_0_1_n_n none earlier d (constant S512x128 .f32 0x00000000#32))

theorem pay8_eq (v : FVec F S512x1024 .bf16) (w : Vec F S1024x128 .bf16) (b u : Vec F S1x128 .f32) :
    k0_pay8 v w b u = addf (summed (logged (k0_pay7 v w b))) (broadcastTo S512x128 u broadcasts_S1x128_S512x128) := by
  unfold k0_pay8
  simp only [shapeCast_self]
  rfl

end Parts

theorem min_coe (a b : ℝ) : min (a : EReal) (b : EReal) = ((min a b : ℝ) : EReal) := (EReal.coe_strictMono.monotone.map_min).symm
theorem max_coe (a b : ℝ) : max (a : EReal) (b : EReal) = ((max a b : ℝ) : EReal) := (EReal.coe_strictMono.monotone.map_max).symm

theorem log_exp (z : ℝ) : @Eq EReal (Ideal.log (((1 : ℝ) : EReal) + Ideal.exp ((z : ℝ) : EReal))) ((Real.log (1 + Real.exp z) : ℝ) : EReal) := by
  rw [Ideal.exp_coe, ← EReal.coe_add, Ideal.log_coe, if_neg (by have := Real.exp_pos z; linarith)]

theorem logged_eq (X : S512x128.Idx → ℝ) : @Eq (FVec Ideal S512x128 .f32) (logged (F := Ideal) (fun y => (X y : EReal))) fun y => (logSig (X y) : EReal) := by
  refine funext fun (y : S512x128.Idx) => ?_
  show min (X y : EReal) (Ideal.ofBits .f32 0x00000000#32) - Ideal.log (Ideal.ofBits .f32 0x3F800000#32 + Ideal.exp (Ideal.ofBits .f32 0x00000000#32 - max (X y : EReal) (-(X y : EReal)))) = _
  rw [ofBits_zero, ofBits_one, min_coe, ← EReal.coe_neg, max_coe, ← EReal.coe_sub, log_exp, ← EReal.coe_sub]
  refine congrArg Real.toEReal ?_
  unfold logSig
  rw [zero_sub]
  rfl

theorem earlier_apply (r r' : Fin 512) : @Eq EReal (earlier (F := Ideal) (ix2 r r')) (((if r'.val ≤ r.val then 1 else 0 : ℝ)) : EReal) := by
  have e : ∀ n, n < 512 → (BitVec.ofNat 32 n).toInt = n := fun n hn => by rw [BitVec.toInt_eq_toNat_of_lt (by rw [BitVec.toNat_ofNat]; omega), BitVec.toNat_ofNat]; omega
  have w1 : FloatOps.sitofp (F := Ideal) .f32 1#32 = ((1 : ℝ) : EReal) := by simp [FloatOps.sitofp]
  have w0 : FloatOps.sitofp (F := Ideal) .f32 0#32 = ((0 : ℝ) : EReal) := by simp [FloatOps.sitofp]
  pointwise [earlier]
  simp only [IntOp.cmpi, BitVec.sle, e _ r.isLt, e _ r'.isLt]
  by_cases h : r'.val ≤ r.val
  · rw [if_pos h, ← w1]; simp [h]
  · rw [if_neg h, ← w0]; simp [h]

theorem summed_apply (X : S512x128.Idx → ℝ) (r : Fin 512) (a : Fin 128) :
    @Eq EReal (summed (F := Ideal) (fun y => (X y : EReal)) (ix2 r a)) ((∑ r' : Fin 512, (if r'.val ≤ r.val then 1 else 0) * X (ix2 r' a) : ℝ) : EReal) := by
  pointwise [summed]
  simp only [earlier_apply, ← EReal.coe_mul, ← EReal.coe_sub, ← coe_sum, ← EReal.coe_add, sub_self, mul_zero, Finset.sum_const_zero, add_zero]

/-- The running sum, of finite logits and a finite sum of the rows before. -/
theorem pay8_apply (v : FVec Ideal S512x1024 .bf16) (w : Vec Ideal S1024x128 .bf16) (b : Vec Ideal S1x128 .f32) (X : S512x128.Idx → ℝ) (U : S1x128.Idx → ℝ)
    (hX : @Eq (FVec Ideal S512x128 .f32) (k0_pay7 v w b) fun y => (X y : EReal)) (r : Fin 512) (a : Fin 128) :
    @Eq EReal (k0_pay8 (F := Ideal) v w b (fun y => (U y : EReal)) (ix2 r a)) ((∑ r' : Fin 512, (if r'.val ≤ r.val then 1 else 0) * logSig (X (ix2 r' a)) + U (ix2 0 a) : ℝ) : EReal) := by
  rw [pay8_eq, hX, logged_eq]
  refine (congrArg₂ (fun a b : EReal => a + b) (summed_apply (fun y => logSig (X y)) _ _) (?_ : _ = ((U (ix2 0 a) : ℝ) : EReal))).trans (EReal.coe_add _ _).symm
  pointwise

/-- The running sum in base two, repeated. -/
theorem pay1_apply (X : S512x128.Idx → ℝ) (S : S128x2048.Idx → ℝ) (r : Fin 512) (s : Fin 2048) :
    @Eq EReal (k0_pay1 (F := Ideal) (fun y => (X y : EReal)) (fun y => (S y : EReal)) (ix2 r s)) ((∑ a : Fin 128, X (ix2 r a) * (Real.log 2)⁻¹ * S (ix2 a s) : ℝ) : EReal) := by
  pointwise [k0_pay1]
  simp only [log2e_named, ← EReal.coe_mul, ← EReal.coe_sub, ← coe_sum, ← EReal.coe_add, sub_self, zero_mul, Finset.sum_const_zero, add_zero]

theorem pay2_apply (x : S512x128.Idx → EReal) (r : Fin 8) (a : Fin 128) : @Eq EReal (k0_pay2 (F := Ideal) x (ix2 r a)) (x (ix2 511 a)) := by
  pointwise [k0_pay2]

theorem pay3_apply (r : Fin 8) (a : Fin 128) : @Eq EReal (k0_pay3 (F := Ideal) (ix2 r a)) 0 := by
  pointwise [k0_pay3]

end Cert.KvfFwdIdeal.Block

end
-- ==== Proof.KvfFwdPoint.lean ====
/-
  What a point of the grid leaves in the shared keys', values' and forget gates' forward call, over what the point before left.
-/
module

public import proofs.«01_k».proof.Proof.KvfFwdBlock

@[expose] public section

set_option maxRecDepth 16384

noncomputable section

namespace Cert.KvfFwdIdeal.Block

open Cert.KvfFwdIdeal Cert.KvfFwdIdeal.Gen Idealize.ShloMosaic Idealize.SL.Sem

theorem hz : (![0, 0] : Fin 2 → Nat) = fun _ => 0 := funext fun a => by fin_cases a <;> rfl

section Point

variable {F : FTy → Type} [FloatOps F] [Named F]
variable (m : (ℓ : Loc nD τ sig) → Buf (Elt F) ℓ) (c : Dev nD) (t : Fin cfg0.N)

/-- The running sum of a block of rows over the row `u`. -/
def sumOf (u : Vec F S1x128 .f32) : Vec F S512x128 .f32 := k0_pay8 (k0_pay4 (iblk m c 0 t) (iblk m c 1 t)) (iblk m c 4 t) (iblk m c 5 t) u

/-- The first row of what is carried. -/
def firstRow (s : Vec F S8x128 .f32) : Vec F S1x128 .f32 := View.ld s (Rect.unit (s := S8x128) ![0, 0] S1x128.size inb_S8x128_S1x128_0_0)

/-- What every point leaves, over the row `u`. -/
def Holds (u : Vec F S1x128 .f32) (o : Vec F S512x2048 .bf16 × Vec F S512x2048 .bf16 × Vec F S512x128 .f32 × Vec F S512x128 .f32 × Vec F S512x2048 .f32 × Vec F S8x128 .f32) : Prop :=
  o.1 = k0_pay5 (iblk m c 0 t) (iblk m c 1 t) (iblk m c 2 t) (iblk m c 6 t) ∧ o.2.1 = k0_pay6 (iblk m c 0 t) (iblk m c 1 t) (iblk m c 3 t) (iblk m c 7 t)
    ∧ o.2.2.1 = k0_pay7 (k0_pay4 (iblk m c 0 t) (iblk m c 1 t)) (iblk m c 4 t) (iblk m c 5 t)
    ∧ o.2.2.2.1 = sumOf m c t u ∧ o.2.2.2.2.1 = k0_pay1 (sumOf m c t u) (iblk m c 8 t) ∧ o.2.2.2.2.2 = k0_pay2 (sumOf m c t u)

/-- The first row of the cleared sums. -/
theorem row_zero (v : View sig .tc .vmem S8x128 .f32) (w : S8x128.Idx → Elt F .f32) : v.readCov [⟨Rect.unit ![0, 0] ![8, 128] inb_S8x128_S8x128_0_0, w⟩]
    (Rect.unit ![0, 0] ![1, 128] inb_S8x128_S1x128_0_0).toLoadRect = View.ld w (Rect.unit (s := S8x128) ![0, 0] ![1, 128] inb_S8x128_S1x128_0_0) := by
  show View.readAt (Elt F) v (Rect.unit ![0, 0] ![1, 128] inb_S8x128_S1x128_0_0).toLoadRect (v.writes (Elt F) _ _) = _
  rw [View.readAt_eq_ld]
  exact congrArg (fun z => View.ld z (Rect.unit (s := S8x128) ![0, 0] ![1, 128] inb_S8x128_S1x128_0_0)) (View.read_writes_full ..)

set_option maxHeartbeats 2000000 in
theorem later_point (h0 : ¬t.val % 16 = 0) : Holds m c t (firstRow (outsAt0 m c (t.val - 1) (Nat.lt_of_le_of_lt (Nat.sub_le _ _) t.isLt)).2.2.2.2.2) (outsAt0 m c t.val t.isLt) := by
  unfold Holds sumOf firstRow
  rw [outsAt0_B m c t h0]
  dsimp only
  refine ⟨?_, ?_, ?_, ?_, ?_, ?_⟩
  · unfold out0_B_9
    refine (View.read_writes_eq_canon _ _ _ (fun _ => cover0_B_9 ..)).trans ?_
    unfold kernelRun0_B
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_B_10
    refine (View.read_writes_eq_canon _ _ _ (fun _ => cover0_B_10 ..)).trans ?_
    unfold kernelRun0_B
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_B_11
    refine (View.read_writes_eq_canon _ _ _ (fun _ => cover0_B_11 ..)).trans ?_
    unfold kernelRun0_B
    dsimp only
    sl_unfold_words
    rw [View.canon_unit_zero (S := S512x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_B_12
    refine (View.read_writes_eq_canon _ _ _ (fun _ => cover0_B_12 ..)).trans ?_
    unfold kernelRun0_B
    dsimp only
    sl_unfold_words
    rw [View.canon_unit_zero (S := S512x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_B_13
    refine (View.read_writes_eq_canon _ _ _ (fun _ => cover0_B_13 ..)).trans ?_
    unfold kernelRun0_B
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold sout0_B_0
    refine (View.read_writes_eq_canon _ _ _ (fun _ => scover0_B_0 ..)).trans ?_
    unfold kernelRun0_B
    dsimp only
    sl_unfold_words
    rw [View.canon_unit_zero (S := S8x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]

set_option maxHeartbeats 2000000 in
theorem first_point (h0 : t.val % 16 = 0) : Holds m c t (firstRow k0_pay3) (outsAt0 m c t.val t.isLt) := by
  unfold Holds sumOf firstRow
  rw [outsAt0_A m c t h0]
  dsimp only
  refine ⟨?_, ?_, ?_, ?_, ?_, ?_⟩
  · unfold out0_A_9
    refine (View.read_writes_eq_canon _ _ _ (fun _ => cover0_A_9 ..)).trans ?_
    unfold kernelRun0_A
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_A_10
    refine (View.read_writes_eq_canon _ _ _ (fun _ => cover0_A_10 ..)).trans ?_
    unfold kernelRun0_A
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_A_11
    refine (View.read_writes_eq_canon _ _ _ (fun _ => cover0_A_11 ..)).trans ?_
    unfold kernelRun0_A
    dsimp only
    sl_unfold_words
    rw [View.canon_unit_zero (S := S512x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole]
  · unfold out0_A_12
    refine (View.read_writes_eq_canon _ _ _ (fun _ => cover0_A_12 ..)).trans ?_
    unfold kernelRun0_A
    dsimp only
    sl_unfold_words
    rw [View.canon_unit_zero (S := S512x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole, row_zero]
  · unfold out0_A_13
    refine (View.read_writes_eq_canon _ _ _ (fun _ => cover0_A_13 ..)).trans ?_
    unfold kernelRun0_A
    dsimp only
    sl_unfold_words
    rw [View.canon_unit_zero (S := S512x2048) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole, row_zero]
  · unfold sout0_A_0
    refine (View.read_writes_eq_canon _ _ _ (fun _ => scover0_A_0 ..)).trans ?_
    unfold kernelRun0_A
    dsimp only
    sl_unfold_words
    rw [View.canon_cons_unit_zero (S := S8x128) hz]
    simp only [View.readAt_eq_ld, Memref.IsWhole.read_unread, View.ld_unit_zero (S := S512x1024) hz, View.ld_unit_zero (S := S1x1024) hz, View.ld_unit_zero (S := S512x128) hz,
      View.ld_unit_zero (S := S1024x2048) hz, View.ld_unit_zero (S := S1x2048) hz, View.ld_unit_zero (S := S1024x128) hz, View.ld_unit_zero (S := S1x128) hz, View.ld_unit_zero (S := S128x2048) hz, read_unread_whole, row_zero]

end Point

end Cert.KvfFwdIdeal.Block

end
-- ==== Proof.KvfFwdHost.lean ====
/-
  The arrays that the host lines before the shared keys', values' and forget gates' forward call prepare.
-/
module

public import proofs.«01_k».proof.Proof.KvfFwdPoint
public import Idealize.ShloMosaic.Lib.StableHlo.ReadAt
public import Idealize.ShloMosaic.Lib.Claim

@[expose] public section

set_option maxRecDepth 16384

noncomputable section

namespace Cert.KvfFwdIdeal.Block

open Cert.KvfFwdIdeal Cert.KvfFwdIdeal.Gen Cert.Reals Idealize.ShloMosaic Idealize.ShloMosaic.TcCoe Idealize.SL.Sem

/-- The finite arguments: the stream, the gain, the weight and the bias. -/
structure Data where
  h : S8192x1024.Idx → ℝ
  g : S1024.Idx → ℝ
  w : S1024x2064.Idx → ℝ
  b : S16.Idx → ℝ

/-- What the arguments hold. -/
structure Args (m : (ℓ : Loc nD τ sig) → Buf (Elt Ideal) ℓ) (c : Dev nD) (x : Data) : Prop where
  h : m ((c : Thread nD τ).loc main_arg0) = fun i => (x.h i : EReal)
  g : m ((c : Thread nD τ).loc main_arg1) = fun i => (x.g i : EReal)
  w : m ((c : Thread nD τ).loc main_arg2) = fun i => (x.w i : EReal)
  b : m ((c : Thread nD τ).loc main_arg3) = fun i => (x.b i : EReal)

/-- The column of a spread weight that holds column `x`. -/
def slot (x : Fin 1024) : Fin 2048 := ⟨x.val / 64 * 128 + x.val % 64, by omega⟩

theorem slot_mod (x : Fin 1024) : (slot x).val % 128 = x.val % 64 := by
  show (x.val / 64 * 128 + x.val % 64) % 128 = x.val % 64
  omega

/-- The gates' weight, zeros in the columns after the 16. -/
def wideF (W : S1024x2064.Idx → ℝ) (k : Fin 1024) (a : Fin 128) : ℝ := if h : a.val < 16 then W (ix2 k ⟨2048 + a.val, by omega⟩) else 0

/-- The gates' bias, zeros after the 16. -/
def wideB (B : S16.Idx → ℝ) (a : Fin 128) : ℝ := if h : a.val < 16 then B (ix1 ⟨a.val, h⟩) else 0

theorem zero_word : FloatOps.sitofp (F := Ideal) .f32 0#32 = ((0 : ℝ) : EReal) := by simp [FloatOps.sitofp]
theorem zero_half : FloatOps.sitofp (F := Ideal) .bf16 0#32 = ((0 : ℝ) : EReal) := by simp [FloatOps.sitofp]

variable {m : (ℓ : Loc nD τ sig) → Buf (Elt Ideal) ℓ} {c : Dev nD} {x : Data} (I : Args m c x)

theorem not_ones : ∀ n : Fin 64, IntOp.cmpi CmpIPredicate.eq (BitVec.ofNat 32 n.val) 64#32 = 0#1 := by decide +kernel
theorem not_ones' : ∀ n : Fin 64, IntOp.cmpi CmpIPredicate.eq (BitVec.ofNat 32 n.val) 65#32 = 0#1 := by decide +kernel

include I

theorem V_g (k : Fin 1024) : @Eq EReal (V m c main_v22 (ix2 0 k)) (x.g (ix1 k)) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  exact congrFun I.g _

theorem V_wk (i s : Fin 1024) : @Eq EReal (V m c main_v4 (ix2 i (slot s))) (x.w (ix2 i ⟨s.val, by omega⟩)) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  refine (dif_pos (show (slot s).val / 128 < 16 ∧ (slot s).val % 128 < 64 from ⟨by show (s.val / 64 * 128 + s.val % 64) / 128 < 16; omega, by rw [slot_mod]; omega⟩)).trans ?_
  refine (congrFun I.w _).trans (congrArg (fun z : Fin 2064 => (x.w (ix2 i z) : EReal)) (Fin.ext ?_))
  show (s.val / 64 * 128 + s.val % 64) / 128 * 64 + (s.val / 64 * 128 + s.val % 64) % 128 = s.val
  omega

theorem V_wv (i s : Fin 1024) : @Eq EReal (V m c main_v8 (ix2 i (slot s))) (x.w (ix2 i ⟨1024 + s.val, by omega⟩)) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  refine (dif_pos (show (slot s).val / 128 < 16 ∧ (slot s).val % 128 < 64 from ⟨by show (s.val / 64 * 128 + s.val % 64) / 128 < 16; omega, by rw [slot_mod]; omega⟩)).trans ?_
  refine (congrFun I.w _).trans (congrArg (fun z : Fin 2064 => (x.w (ix2 i z) : EReal)) (Fin.ext ?_))
  show 1024 + ((s.val / 64 * 128 + s.val % 64) / 128 * 64 + (s.val / 64 * 128 + s.val % 64) % 128) = 1024 + s.val
  omega

theorem V_wf (i : Fin 1024) (a : Fin 128) : @Eq EReal (V m c main_v10 (ix2 i a)) (wideF x.w i a) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  unfold wideF
  by_cases h : a.val < 16
  · rw [dif_pos h, dif_pos (by omega)]
    exact congrFun I.w _
  · rw [dif_neg h, dif_neg (by omega)]
    exact zero_half

theorem V_bf (a : Fin 128) : @Eq EReal (V m c main_v12 (ix2 0 a)) (wideB x.b a) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  unfold wideB
  by_cases h : a.val < 16
  · rw [dif_pos h, dif_pos (by omega)]
    exact congrFun I.b _
  · rw [dif_neg h, dif_neg (by omega)]
    exact zero_word

omit I

theorem V_o (s : Fin 1024) : @Eq EReal (V m c main_v30 (ix2 0 (slot s))) 0 := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  rw [slot_mod, not_ones' ⟨s.val % 64, by omega⟩]
  simp [FloatOps.uitofp]

theorem V_o' (s : Fin 1024) : @Eq EReal (V m c main_v38 (ix2 0 (slot s))) 0 := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  rw [slot_mod, not_ones ⟨s.val % 64, by omega⟩]
  simp [FloatOps.uitofp]

theorem block_of : ∀ n : Fin 2048, Scalar.select
    (IntOp.andi (IntOp.cmpi CmpIPredicate.ne (if BitVec.ofNat 32 n.val = 0 then 0 else if (BitVec.ofNat 32 n.val).msb = true then -1 else 1)
        (if (128#32 : BitVec 32) = 0 then (0 : BitVec 32) else if BitVec.msb 128#32 = true then -1 else 1))
      (IntOp.cmpi CmpIPredicate.ne (IntOp.remsi ArithUnit.host (BitVec.ofNat 32 n.val) 128#32) 0#32))
    (IntOp.subi (IntOp.divsi ArithUnit.host (BitVec.ofNat 32 n.val) 128#32) 1#32) (IntOp.divsi ArithUnit.host (BitVec.ofNat 32 n.val) 128#32) = BitVec.ofNat 32 (n.val / 128) := by
  decide +kernel

theorem same_block : ∀ (a : Fin 128) (b : Fin 16), IntOp.cmpi CmpIPredicate.eq (BitVec.ofNat 32 a.val) (BitVec.ofNat 32 b.val) = if a.val = b.val then 1#1 else 0#1 := by
  decide +kernel

theorem V_spread (a : Fin 128) (s : Fin 2048) : @Eq EReal (V m c main_v21 (ix2 a s)) ((if a.val = s.val / 128 then 1 else 0 : ℝ) : EReal) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append]
  after_reads_at
  refine (congrArg (fun z => FloatOps.uitofp (F := Ideal) FTy.bf16 (IntOp.cmpi CmpIPredicate.eq (BitVec.ofNat 32 a.val) z)) (block_of s)).trans ?_
  refine (congrArg (FloatOps.uitofp (F := Ideal) FTy.bf16) (same_block a ⟨s.val / 128, by omega⟩)).trans ?_
  show FloatOps.uitofp (F := Ideal) FTy.bf16 (if a.val = s.val / 128 then 1#1 else 0#1) = _
  by_cases h : a.val = s.val / 128
  · rw [if_pos h, if_pos h]; simp [FloatOps.uitofp]
  · rw [if_neg h, if_neg h]; simp [FloatOps.uitofp]

end Cert.KvfFwdIdeal.Block

end
-- ==== Proof.KvfFwdPrefix.lean ====
/-
  Running sums of finite numbers: by blocks of 512 rows, and as a host's sum over windows that begin before the first row.
-/
module

public import proofs.«01_k».proof.Proof.Reals
public import Idealize.ShloMosaic.Lib.Pointwise

@[expose] public section

noncomputable section

namespace Cert.Reals.Prefix

open Idealize.ShloMosaic Cert.Reals

/-- The sum of the first `n` entries. -/
def before {N : ℕ} (f : Fin N → ℝ) (n : ℕ) : ℝ := ∑ j ∈ Finset.range n, upTo f j

/-- A block's rows up to the `r`-th, and what comes before the block. -/
theorem before_block (f : Fin 8192 → ℝ) (b : ℕ) (hb : b + 512 ≤ 8192) (r : Fin 512) :
    (∑ r' : Fin 512, (if r'.val ≤ r.val then 1 else 0) * f ⟨b + r'.val, by omega⟩) + before f b = before f (b + r.val + 1) := by
  unfold before
  rw [add_assoc b, Finset.sum_range_add, add_comm]
  refine congrArg (_ + ·) ?_
  refine (Finset.sum_congr rfl fun r' _ => congrArg ((if r'.val ≤ r.val then (1 : ℝ) else 0) * ·) (upTo_lt f (show b + r'.val < 8192 by omega)).symm).trans ?_
  rw [Fin.sum_univ_eq_sum_range (fun n => (if n ≤ r.val then (1 : ℝ) else 0) * upTo f (b + n)) 512]
  refine (Finset.sum_subset (Finset.range_mono (show r.val + 1 ≤ 512 by omega)) fun n _ hn => ?_).symm.trans (Finset.sum_congr rfl fun n hn => ?_)
  · rw [if_neg (by rw [Finset.mem_range] at hn; omega), zero_mul]
  · rw [if_pos (by rw [Finset.mem_range] at hn; omega), one_mul]

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem turned (f : ℕ → ℝ) (P j : ℕ) (hj : j ≤ P) : ∑ n ∈ Finset.range (P + 1), (if P ≤ j + n then f (j + n - P) else 0) = ∑ k ∈ Finset.range (j + 1), f k := by
  rw [← Finset.sum_range_reflect, ← Finset.sum_range_reflect f (j + 1)]
  refine (Finset.sum_subset (Finset.range_mono (show j + 1 ≤ P + 1 by omega)) fun n h hn => ?_).symm.trans (Finset.sum_congr rfl fun n hn => ?_)
  · rw [Finset.mem_range] at hn h
    rw [if_neg (by omega)]
  · rw [Finset.mem_range] at hn
    rw [if_pos (by omega)]
    exact congrArg f (by omega)

theorem window_sum {N M P : ℕ} (hN : N = P + 1) (X : (⟨2, ![N, M]⟩ : Shape).Idx → ℝ) (h : (⟨2, ![N, M]⟩ : Shape).ReduceWindows ![N, 1] ![1, 1] ![P, 0] ![0, 0] ⟨2, ![N, M]⟩) (j : Fin N) (a : Fin M) :
    Ideal.hostReduceWindowAdd ![N, 1] ![1, 1] ![P, 0] ![0, 0] h (fun y => (X y : EReal)) 0 (ix2 j a) = (before (fun i => X (ix2 i a)) (j.val + 1) : EReal) := by
  unfold Ideal.hostReduceWindowAdd Host.reduceWindow
  dsimp only
  refine (foldl_sum _ _ _).trans ?_
  rw [← Fin.sum_univ_def, zero_add]
  have e : ∀ w : (⟨2, ![N, 1]⟩ : Shape).Idx, w 1 = (0 : Fin 1) := fun w => Subsingleton.elim (α := Fin 1) _ _
  refine (Finset.sum_congr rfl fun n _ => ?_).trans ((Equiv.sum_comp (Shape.rowMajor (⟨2, ![N, 1]⟩ : Shape)).symm
    fun w => ((if P ≤ j.val + (w 0).val then upTo (fun i => X (ix2 i a)) (j.val + (w 0).val - P) else 0 : ℝ) : EReal)).trans ?_)
  · have h1 : ((Shape.rowMajor (⟨2, ![N, 1]⟩ : Shape)).symm n 1).val = 0 := congrArg Fin.val (e ((Shape.rowMajor (⟨2, ![N, 1]⟩ : Shape)).symm n))
    have h0 : ((Shape.rowMajor (⟨2, ![N, 1]⟩ : Shape)).symm n 0).val < N := ((Shape.rowMajor (⟨2, ![N, 1]⟩ : Shape)).symm n 0).isLt
    by_cases hd : P ≤ j.val + ((Shape.rowMajor (⟨2, ![N, 1]⟩ : Shape)).symm n 0).val
    · rw [if_pos hd, upTo_lt _ (show j.val + ((Shape.rowMajor (⟨2, ![N, 1]⟩ : Shape)).symm n 0).val - P < N by omega), dif_pos]
      · refine congrArg (fun y => (X y : EReal)) (funext fun c => Fin.ext ?_)
        match c with
        | ⟨0, _⟩ => show j.val * 1 + ((Shape.rowMajor (⟨2, ![N, 1]⟩ : Shape)).symm n 0).val - P = j.val + ((Shape.rowMajor (⟨2, ![N, 1]⟩ : Shape)).symm n 0).val - P; omega
        | ⟨1, _⟩ => show a.val * 1 + ((Shape.rowMajor (⟨2, ![N, 1]⟩ : Shape)).symm n 1).val - 0 = a.val; omega
      · intro c
        match c with
        | ⟨0, _⟩ => exact ⟨show P ≤ j.val * 1 + ((Shape.rowMajor (⟨2, ![N, 1]⟩ : Shape)).symm n 0).val by omega, show j.val * 1 + ((Shape.rowMajor (⟨2, ![N, 1]⟩ : Shape)).symm n 0).val - P < N by omega⟩
        | ⟨1, _⟩ => exact ⟨Nat.zero_le _, show a.val * 1 + ((Shape.rowMajor (⟨2, ![N, 1]⟩ : Shape)).symm n 1).val - 0 < M by omega⟩
    · rw [if_neg hd, dif_neg]
      · rfl
      · intro hin
        have : P ≤ j.val * 1 + ((Shape.rowMajor (⟨2, ![N, 1]⟩ : Shape)).symm n 0).val := (hin 0).1
        omega
  refine (sum_idx2 _).trans ?_
  have e : ∀ d : Fin N, (∑ b : Fin 1, ((if P ≤ j.val + d.val then upTo (fun i => X (ix2 i a)) (j.val + d.val - P) else 0 : ℝ) : EReal)) = ((if P ≤ j.val + d.val then upTo (fun i => X (ix2 i a)) (j.val + d.val - P) else 0 : ℝ) : EReal) :=
    fun d => Fin.sum_univ_one _
  refine (Finset.sum_congr rfl fun d _ => e d).trans ((coe_sum _ _).symm.trans (congrArg Real.toEReal ?_))
  rw [Fin.sum_univ_eq_sum_range (fun d => if P ≤ j.val + d then upTo (fun i => X (ix2 i a)) (j.val + d - P) else 0) N]
  subst hN
  exact turned _ P j.val (by omega)

/-- The same of a host's sum over windows. -/
theorem host_window_sum {N M P : ℕ} {u : Shape} (hN : N = P + 1) (X : (⟨2, ![N, M]⟩ : Shape).Idx → ℝ) (init : FVec Ideal u .f32) (h : (⟨2, ![N, M]⟩ : Shape).ReduceWindows ![N, 1] ![1, 1] ![P, 0] ![0, 0] ⟨2, ![N, M]⟩)
    (hu : 0 < u.numel) (h0 : init (Shape.Idx.first hu) = ((0 : ℝ) : EReal)) (j : Fin N) (a : Fin M) :
    @Eq EReal (Host.reduceWindowAdd (F := Ideal) (φ := .f32) ![N, 1] ![1, 1] ![P, 0] ![0, 0] (fun y => (X y : EReal)) init h hu (ix2 j a)) (before (fun i => X (ix2 i a)) (j.val + 1) : EReal) := by
  unfold Host.reduceWindowAdd
  rw [h0]
  exact window_sum hN X h j a

end Cert.Reals.Prefix

end
-- ==== Proof.KvfFwdTiles.lean ====
/-
  The blocks that a point of the grid reads in the shared keys', values' and forget gates' forward call, of finite arguments,
  and what the points leave.
-/
module

public import proofs.«01_k».proof.Proof.KvfFwdHost
public import proofs.«01_k».proof.Proof.KvfFwdPrefix
public import Idealize.ShloMosaic.Lib.Pipeline.ReadBack
public import Idealize.ShloMosaic.Lib.Pipeline.ValueKit.Tiles

@[expose] public section

set_option maxRecDepth 16384

noncomputable section

namespace Cert.KvfFwdIdeal.Block

open Cert.KvfFwdIdeal Cert.KvfFwdIdeal.Gen Cert.NormRow Cert.Reals Cert.Reals.Prefix Idealize.ShloMosaic Idealize.ShloMosaic.TcCoe Idealize.SL.Sem

theorem place : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0] := by
  decide +kernel

theorem points (t : Fin cfg0.N) : t.val < 16 := lt_of_lt_of_eq t.isLt (show cfg0.N = 16 from N_0)

/-- Row `r` of point `t`'s block. -/
def row (t : Fin cfg0.N) (r : Fin 512) : Fin 8192 := ⟨512 * t.val + r.val, by have := points t; omega⟩

/-- The normed stream. -/
def Data.normed (x : Data) (i : Fin 8192) (k : Fin 1024) : ℝ := x.h (ix2 i k) * rowScale (fun l => x.h (ix2 i l)) * x.g (ix1 k)

/-- A forget gate's logit. -/
def Data.logit (x : Data) (i : Fin 8192) (a : Fin 128) : ℝ := (∑ k : Fin 1024, x.normed i k * wideF x.w k a) + wideB x.b a

theorem norm_coe (h g : Fin 1024 → ℝ) (k : Fin 1024) : NormRow.norm (fun l => (h l : EReal)) (fun l => (g l : EReal)) k = ((h k * rowScale h * g k : ℝ) : EReal) := by
  unfold NormRow.norm
  simp only [← EReal.coe_mul, ← coe_sum, ofBits_1024, ofBits_eps, div_coe _ (by norm_num : (1024 : ℝ) ≠ 0), ← EReal.coe_add]
  rw [show Ideal.rsqrt (((∑ l, h l * h l) / 1024 + eps : ℝ) : EReal) = (rowScale h : EReal) from rsqrt_coe (meanSq_pos h), ← EReal.coe_mul, ← EReal.coe_mul]

variable {m : (ℓ : Loc nD τ sig) → Buf (Elt Ideal) ℓ} {c : Dev nD} {x : Data} (I : Args m c x)

include I

theorem blk_h (t : Fin cfg0.N) : @Eq (S512x1024.Idx → EReal) (iblk m c 0 t) fun y => (x.h (ix2 (row t (y 0)) (y 1)) : EReal) := by
  funext y
  unfold iblk
  rw [View.read_apply]
  show V m c main_arg0 _ = _
  rw [V_main_arg0]
  refine (congrFun I.h _).trans (congrArg (fun z => (x.h z : EReal)) ?_)
  funext a
  apply Fin.ext
  match a with
  | ⟨0, _⟩ => show win0_0.index t 0 * 512 + 1 * (y 0).val = _; rw [(place t).1]; show t.val * 512 + 1 * (y 0).val = 512 * t.val + (y 0).val; omega
  | ⟨1, _⟩ => show win0_0.index t 1 * 1024 + 1 * (y 1).val = _; rw [(place t).1]; show 0 * 1024 + 1 * (y 1).val = (y 1).val; omega

theorem blk_g (t : Fin cfg0.N) (k : Fin 1024) : @Eq EReal (iblk m c 1 t (ix2 0 k)) (x.g (ix1 k)) := by
  unfold iblk
  rw [View.read_apply]
  have e : ((cfg0.win 1).blk t).view.emb (ix2 0 k) = ix2 0 k := by
    funext a
    apply Fin.ext
    match a with
    | ⟨0, _⟩ => show win0_1.index t 0 * 1 + 1 * 0 = _; rw [(place t).2.1]; show 0 * 1 + 1 * 0 = 0; omega
    | ⟨1, _⟩ => show win0_1.index t 1 * 1024 + 1 * k.val = _; rw [(place t).2.1]; show 0 * 1024 + 1 * k.val = k.val; omega
  show V m c main_v22 (((cfg0.win 1).blk t).view.emb (ix2 0 k)) = _
  rw [e]
  exact V_g I _

theorem blk_wk (t : Fin cfg0.N) (l s : Fin 1024) : @Eq EReal (iblk m c 2 t (ix2 l (slot s))) (x.w (ix2 l ⟨s.val, by omega⟩)) := by
  unfold iblk
  rw [View.read_apply]
  have e : ((cfg0.win 2).blk t).view.emb (ix2 l (slot s)) = ix2 l (slot s) := by
    funext a
    apply Fin.ext
    match a with
    | ⟨0, _⟩ => show win0_2.index t 0 * 1024 + 1 * l.val = _; rw [(place t).2.2.1]; show 0 * 1024 + 1 * l.val = l.val; omega
    | ⟨1, _⟩ => show win0_2.index t 1 * 2048 + 1 * (slot s).val = _; rw [(place t).2.2.1]; show 0 * 2048 + 1 * (slot s).val = (slot s).val; omega
  show V m c main_v4 (((cfg0.win 2).blk t).view.emb (ix2 l (slot s))) = _
  rw [e]
  exact V_wk I _ _

theorem blk_wv (t : Fin cfg0.N) (l s : Fin 1024) : @Eq EReal (iblk m c 3 t (ix2 l (slot s))) (x.w (ix2 l ⟨1024 + s.val, by omega⟩)) := by
  unfold iblk
  rw [View.read_apply]
  have e : ((cfg0.win 3).blk t).view.emb (ix2 l (slot s)) = ix2 l (slot s) := by
    funext a
    apply Fin.ext
    match a with
    | ⟨0, _⟩ => show win0_3.index t 0 * 1024 + 1 * l.val = _; rw [(place t).2.2.2.1]; show 0 * 1024 + 1 * l.val = l.val; omega
    | ⟨1, _⟩ => show win0_3.index t 1 * 2048 + 1 * (slot s).val = _; rw [(place t).2.2.2.1]; show 0 * 2048 + 1 * (slot s).val = (slot s).val; omega
  show V m c main_v8 (((cfg0.win 3).blk t).view.emb (ix2 l (slot s))) = _
  rw [e]
  exact V_wv I _ _

theorem blk_wf (t : Fin cfg0.N) (l : Fin 1024) (s : Fin 128) : @Eq EReal (iblk m c 4 t (ix2 l s)) (wideF x.w l s) := by
  unfold iblk
  rw [View.read_apply]
  have e : ((cfg0.win 4).blk t).view.emb (ix2 l s) = ix2 l s := by
    funext a
    apply Fin.ext
    match a with
    | ⟨0, _⟩ => show win0_4.index t 0 * 1024 + 1 * l.val = _; rw [(place t).2.2.2.2.1]; show 0 * 1024 + 1 * l.val = l.val; omega
    | ⟨1, _⟩ => show win0_4.index t 1 * 128 + 1 * s.val = _; rw [(place t).2.2.2.2.1]; show 0 * 128 + 1 * s.val = s.val; omega
  show V m c main_v10 (((cfg0.win 4).blk t).view.emb (ix2 l s)) = _
  rw [e]
  exact V_wf I _ _

theorem blk_bf (t : Fin cfg0.N) (s : Fin 128) : @Eq EReal (iblk m c 5 t (ix2 0 s)) (wideB x.b s) := by
  unfold iblk
  rw [View.read_apply]
  have e : ((cfg0.win 5).blk t).view.emb (ix2 0 s) = ix2 0 s := by
    funext a
    apply Fin.ext
    match a with
    | ⟨0, _⟩ => show win0_5.index t 0 * 1 + 1 * 0 = _; rw [(place t).2.2.2.2.2.1]; show 0 * 1 + 1 * 0 = 0; omega
    | ⟨1, _⟩ => show win0_5.index t 1 * 128 + 1 * s.val = _; rw [(place t).2.2.2.2.2.1]; show 0 * 128 + 1 * s.val = s.val; omega
  show V m c main_v12 (((cfg0.win 5).blk t).view.emb (ix2 0 s)) = _
  rw [e]
  exact V_bf I _

theorem blk_o (t : Fin cfg0.N) (s : Fin 1024) : @Eq EReal (iblk m c 6 t (ix2 0 (slot s))) 0 := by
  unfold iblk
  rw [View.read_apply]
  have e : ((cfg0.win 6).blk t).view.emb (ix2 0 (slot s)) = ix2 0 (slot s) := by
    funext a
    apply Fin.ext
    match a with
    | ⟨0, _⟩ => show win0_6.index t 0 * 1 + 1 * 0 = _; rw [(place t).2.2.2.2.2.2.1]; show 0 * 1 + 1 * 0 = 0; omega
    | ⟨1, _⟩ => show win0_6.index t 1 * 2048 + 1 * (slot s).val = _; rw [(place t).2.2.2.2.2.2.1]; show 0 * 2048 + 1 * (slot s).val = (slot s).val; omega
  show V m c main_v30 (((cfg0.win 6).blk t).view.emb (ix2 0 (slot s))) = _
  rw [e]
  exact V_o _

theorem blk_o' (t : Fin cfg0.N) (s : Fin 1024) : @Eq EReal (iblk m c 7 t (ix2 0 (slot s))) 0 := by
  unfold iblk
  rw [View.read_apply]
  have e : ((cfg0.win 7).blk t).view.emb (ix2 0 (slot s)) = ix2 0 (slot s) := by
    funext a
    apply Fin.ext
    match a with
    | ⟨0, _⟩ => show win0_7.index t 0 * 1 + 1 * 0 = _; rw [(place t).2.2.2.2.2.2.2.1]; show 0 * 1 + 1 * 0 = 0; omega
    | ⟨1, _⟩ => show win0_7.index t 1 * 2048 + 1 * (slot s).val = _; rw [(place t).2.2.2.2.2.2.2.1]; show 0 * 2048 + 1 * (slot s).val = (slot s).val; omega
  show V m c main_v38 (((cfg0.win 7).blk t).view.emb (ix2 0 (slot s))) = _
  rw [e]
  exact V_o' _

theorem blk_spread (t : Fin cfg0.N) (p : Fin 128) (s : Fin 2048) : @Eq EReal (iblk m c 8 t (ix2 p s)) ((if p.val = s.val / 128 then 1 else 0 : ℝ) : EReal) := by
  unfold iblk
  rw [View.read_apply]
  have e : ((cfg0.win 8).blk t).view.emb (ix2 p s) = ix2 p s := by
    funext a
    apply Fin.ext
    match a with
    | ⟨0, _⟩ => show win0_8.index t 0 * 128 + 1 * p.val = _; rw [(place t).2.2.2.2.2.2.2.2.1]; show 0 * 128 + 1 * p.val = p.val; omega
    | ⟨1, _⟩ => show win0_8.index t 1 * 2048 + 1 * s.val = _; rw [(place t).2.2.2.2.2.2.2.2.1]; show 0 * 2048 + 1 * s.val = s.val; omega
  show V m c main_v21 (((cfg0.win 8).blk t).view.emb (ix2 p s)) = _
  rw [e]
  exact V_spread _ _

/-! ## What the points leave -/

theorem normed_tile (t : Fin cfg0.N) (r : Fin 512) (l : Fin 1024) :
    norm (fun l => iblk m c 0 t (ix2 r l)) (fun l => iblk m c 1 t (ix2 0 l)) l = (x.normed (row t r) l : EReal) := by
  rw [blk_h I]
  refine (congrArg (fun g => norm (fun l => (x.h (ix2 (row t r) l) : EReal)) g l) (funext fun l => blk_g I t l)).trans ?_
  exact norm_coe _ _ _

theorem key_tile (t : Fin cfg0.N) (r : Fin 512) (s : Fin 1024) : @Eq EReal (k0_pay5 (F := Ideal) (iblk m c 0 t) (iblk m c 1 t) (iblk m c 2 t) (iblk m c 6 t) (ix2 r (slot s)))
    ((∑ l : Fin 1024, x.normed (row t r) l * x.w (ix2 l ⟨s.val, by omega⟩) : ℝ) : EReal) := by
  refine (pay5_apply _ _ _ _ _ (slot s)).trans ?_
  rw [blk_o I, add_zero, coe_sum]
  exact Finset.sum_congr rfl fun l _ => (congrArg₂ (fun a b : EReal => a * b) (normed_tile I t r l) (blk_wk I t l s)).trans (EReal.coe_mul _ _).symm

theorem value_tile (t : Fin cfg0.N) (r : Fin 512) (s : Fin 1024) : @Eq EReal (k0_pay6 (F := Ideal) (iblk m c 0 t) (iblk m c 1 t) (iblk m c 3 t) (iblk m c 7 t) (ix2 r (slot s)))
    ((∑ l : Fin 1024, x.normed (row t r) l * x.w (ix2 l ⟨1024 + s.val, by omega⟩) : ℝ) : EReal) := by
  refine (pay6_apply _ _ _ _ _ (slot s)).trans ?_
  rw [blk_o' I, add_zero, coe_sum]
  exact Finset.sum_congr rfl fun l _ => (congrArg₂ (fun a b : EReal => a * b) (normed_tile I t r l) (blk_wv I t l s)).trans (EReal.coe_mul _ _).symm

theorem logit_tile (t : Fin cfg0.N) : @Eq (S512x128.Idx → EReal) (k0_pay7 (F := Ideal) (k0_pay4 (iblk m c 0 t) (iblk m c 1 t)) (iblk m c 4 t) (iblk m c 5 t))
    fun y => (x.logit (row t (y 0)) (y 1) : EReal) := by
  refine funext fun (y : S512x128.Idx) => ?_
  refine (congrArg _ (eq_ix2 y)).trans ((pay7_apply _ _ _ _ (y 0) (y 1)).trans ?_)
  refine (congrArg₂ (fun a b : EReal => a + b) (?_ : _ = ((∑ l : Fin 1024, x.normed (row t (y 0)) l * wideF x.w l (y 1) : ℝ) : EReal)) (blk_bf I t (y 1))).trans (EReal.coe_add _ _).symm
  rw [coe_sum]
  exact Finset.sum_congr rfl fun l _ => (congrArg₂ (fun a b : EReal => a * b) (normed_tile I t (y 0) l) (blk_wf I t l (y 1))).trans (EReal.coe_mul _ _).symm

/-- The logarithm of gate `a`'s logistic, of every row. -/
def Data.gate (x : Data) (a : Fin 128) (i : Fin 8192) : ℝ := logSig (x.logit i a)

/-- The running sum of a point's block, over the sum of the rows before the block. -/
theorem sum_tile (t : Fin cfg0.N) (u : S1x128.Idx → EReal) (hu : ∀ a : Fin 128, u (ix2 0 a) = (before (x.gate a) (512 * t.val) : EReal)) :
    @Eq (S512x128.Idx → EReal) (sumOf (F := Ideal) m c t u) fun y => (before (x.gate (y 1)) (512 * t.val + (y 0).val + 1) : EReal) := by
  have e : u = fun y => ((fun y : S1x128.Idx => before (x.gate (y 1)) (512 * t.val)) y : EReal) := by
    refine funext fun (y : S1x128.Idx) => ?_
    refine (congrArg u ?_).trans (hu (y 1))
    exact (eq_ix2 y).trans (congrArg (fun z : Fin 1 => ix2 z (y 1)) (Subsingleton.elim (α := Fin 1) _ _))
  refine funext fun (y : S512x128.Idx) => ?_
  unfold sumOf
  rw [e]
  refine (congrArg _ (eq_ix2 y)).trans ((pay8_apply _ _ _ (fun y => x.logit (row t (y 0)) (y 1)) _ (logit_tile I t) (y 0) (y 1)).trans ?_)
  exact congrArg Real.toEReal (before_block (x.gate (y 1)) (512 * t.val) (by have := points t; omega) (y 0))

omit I in
theorem first_row (s : S8x128.Idx → EReal) (a : Fin 128) : firstRow (F := Ideal) s (ix2 0 a) = s (ix2 0 a) := by
  unfold firstRow
  refine congrArg s (funext fun b => Fin.ext ?_)
  match b with
  | ⟨0, _⟩ => rfl
  | ⟨1, _⟩ => show 0 + 1 * a.val = a.val; omega

/-- What is carried after a point is the sum of the rows up to its last. -/
theorem carried : ∀ (n : ℕ) (hn : n < cfg0.N) (a : Fin 128), @Eq EReal ((outsAt0 m c n hn).2.2.2.2.2 (ix2 0 a)) (before (x.gate a) (512 * (n + 1)) : EReal)
  | 0, hn, a => by
    obtain ⟨_, _, _, _, _, h⟩ := first_point (F := Ideal) m c ⟨0, hn⟩ rfl
    refine (congrFun h _).trans ((pay2_apply _ _ _).trans ?_)
    rw [sum_tile I ⟨0, hn⟩ _ fun a => (first_row _ a).trans ((pay3_apply 0 a).trans (congrArg Real.toEReal (show (0 : ℝ) = before (x.gate a) 0 from rfl)))]
    rfl
  | n + 1, hn, a => by
    have hp : n < cfg0.N := Nat.lt_of_succ_lt hn
    obtain ⟨_, _, _, _, _, h⟩ := later_point (F := Ideal) m c ⟨n + 1, hn⟩ (by have := points ⟨n + 1, hn⟩; show ¬(n + 1) % 16 = 0; have : n + 1 < 16 := this; omega)
    refine (congrFun h _).trans ((pay2_apply _ _ _).trans ?_)
    refine (congrFun (sum_tile I ⟨n + 1, hn⟩ _ fun a => (first_row _ a).trans (carried n hp a)) (ix2 511 a)).trans ?_
    exact congrArg (fun z => (before (x.gate a) z : EReal)) (by show 512 * (n + 1) + 511 + 1 = _; omega)

/-- The rows before a point's block, and what the point leaves over them. -/
theorem point_holds (t : Fin cfg0.N) : ∃ u : S1x128.Idx → EReal, (∀ a : Fin 128, u (ix2 0 a) = (before (x.gate a) (512 * t.val) : EReal)) ∧ Holds (F := Ideal) m c t u (outsAt0 m c t.val t.isLt) := by
  by_cases h0 : t.val % 16 = 0
  · have hz : t.val = 0 := by have := points t; omega
    refine ⟨_, fun a => ?_, first_point (F := Ideal) m c t h0⟩
    refine (first_row _ a).trans ((pay3_apply 0 a).trans ?_)
    rw [hz]
    rfl
  · refine ⟨_, fun a => ?_, later_point (F := Ideal) m c t h0⟩
    refine (first_row _ a).trans ((carried I (t.val - 1) _ a).trans ?_)
    exact congrArg (fun z => (before (x.gate a) z : EReal)) (by omega)

theorem left_k (t : Fin cfg0.N) (r : Fin 512) (s : Fin 1024) : @Eq EReal ((dats m 0 c).after 9 t (ix2 r (slot s))) ((∑ l : Fin 1024, x.normed (row t r) l * x.w (ix2 l ⟨s.val, by omega⟩) : ℝ) : EReal) := by
  obtain ⟨u, _, h⟩ := point_holds I t
  rw [after0_9, h.1]
  exact key_tile I t r s

theorem left_v (t : Fin cfg0.N) (r : Fin 512) (s : Fin 1024) : @Eq EReal ((dats m 0 c).after 10 t (ix2 r (slot s))) ((∑ l : Fin 1024, x.normed (row t r) l * x.w (ix2 l ⟨1024 + s.val, by omega⟩) : ℝ) : EReal) := by
  obtain ⟨u, _, h⟩ := point_holds I t
  rw [after0_10, h.2.1]
  exact value_tile I t r s

theorem left_f (t : Fin cfg0.N) (r : Fin 512) (s : Fin 128) : @Eq EReal ((dats m 0 c).after 11 t (ix2 r s)) (x.logit (row t r) s : EReal) := by
  obtain ⟨u, _, h⟩ := point_holds I t
  rw [after0_11, h.2.2.1, logit_tile I t]
  rfl

theorem left_c (t : Fin cfg0.N) (r : Fin 512) (s : Fin 128) : @Eq EReal ((dats m 0 c).after 12 t (ix2 r s)) (before (x.gate s) ((row t r).val + 1) : EReal) := by
  obtain ⟨u, hu, h⟩ := point_holds I t
  rw [after0_12, h.2.2.2.1, sum_tile I t u hu]
  rfl

theorem left_r (t : Fin cfg0.N) (r : Fin 512) (s : Fin 2048) : @Eq EReal ((dats m 0 c).after 13 t (ix2 r s)) ((before (x.gate ⟨s.val / 128, by omega⟩) ((row t r).val + 1) * (Real.log 2)⁻¹ : ℝ) : EReal) := by
  obtain ⟨u, hu, h⟩ := point_holds I t
  have e : @Eq (S128x2048.Idx → EReal) (iblk m c 8 t) fun y => ((if (y 0).val = (y 1).val / 128 then 1 else 0 : ℝ) : EReal) := by
    refine funext fun (y : S128x2048.Idx) => ?_
    exact (congrArg _ (eq_ix2 y)).trans (blk_spread I t (y 0) (y 1))
  rw [after0_13, h.2.2.2.2.1, sum_tile I t u hu, e]
  refine (pay1_apply _ _ r s).trans (congrArg Real.toEReal ?_)
  refine (Finset.sum_eq_single (⟨s.val / 128, by omega⟩ : Fin 128) (fun p _ hp => ?_) fun h => absurd (Finset.mem_univ _) h).trans ?_
  · rw [show (if ((ix2 p s : S128x2048.Idx) 0).val = ((ix2 p s : S128x2048.Idx) 1).val / 128 then (1 : ℝ) else 0) = 0 from if_neg fun h => hp (Fin.ext h), mul_zero]
  · rw [show (if ((ix2 (⟨s.val / 128, by omega⟩ : Fin 128) s : S128x2048.Idx) 0).val = ((ix2 (⟨s.val / 128, by omega⟩ : Fin 128) s : S128x2048.Idx) 1).val / 128 then (1 : ℝ) else 0) = 1 from if_pos rfl, mul_one]
    rfl

end Cert.KvfFwdIdeal.Block

end
-- ==== Proof.KvfFwdArray.lean ====
/-
  The shared keys', values' and forget gates' forward call: its arrays, and what the host lines after it leave.
-/
module

public import proofs.«01_k».proof.Proof.KvfFwdTiles

@[expose] public section

set_option maxRecDepth 16384

noncomputable section

namespace Cert.KvfFwdIdeal.Block

open Cert.KvfFwdIdeal Cert.KvfFwdIdeal.Gen Cert.NormRow Cert.Reals Cert.Reals.Prefix Idealize.ShloMosaic Idealize.ShloMosaic.TcCoe Idealize.SL.Sem

theorem pt_lt (i : Fin 8192) : i.val / 512 < cfg0.N := lt_of_lt_of_eq (show i.val / 512 < 16 by omega) N_0.symm

/-- The point that works on row `i`. -/
def pt (i : Fin 8192) : Fin cfg0.N := ⟨i.val / 512, pt_lt i⟩

theorem pt_row (i : Fin 8192) : row (pt i) ⟨i.val % 512, by omega⟩ = i :=
  Fin.ext (by show 512 * (i.val / 512) + i.val % 512 = i.val; omega)

theorem same {t t' : Fin cfg0.N} (h : (![t.val, 0] : Fin 2 → ℕ) = ![t'.val, 0]) : t = t' := Fin.ext (congrFun h 0)

theorem apart_k : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (same (((place t).2.2.2.2.2.2.2.2.2.1).symm.trans (h.trans ((place t').2.2.2.2.2.2.2.2.2.1))))

theorem apart_v : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (same (((place t).2.2.2.2.2.2.2.2.2.2.1).symm.trans (h.trans ((place t').2.2.2.2.2.2.2.2.2.2.1))))

theorem apart_f : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (same (((place t).2.2.2.2.2.2.2.2.2.2.2.1).symm.trans (h.trans ((place t').2.2.2.2.2.2.2.2.2.2.2.1))))

theorem apart_c : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (same (((place t).2.2.2.2.2.2.2.2.2.2.2.2.1).symm.trans (h.trans ((place t').2.2.2.2.2.2.2.2.2.2.2.2.1))))

theorem apart_r : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (same (((place t).2.2.2.2.2.2.2.2.2.2.2.2.2).symm.trans (h.trans ((place t').2.2.2.2.2.2.2.2.2.2.2.2.2))))

variable {m : (ℓ : Loc nD τ sig) → Buf (Elt Ideal) ℓ} {c : Dev nD} {x : Data} (I : Args m c x)

include I

theorem array_k (i : Fin 8192) (s : Fin 1024) : @Eq EReal ((dats m 0 c).arrAt 9 cfg0.N (ix2 i (slot s))) ((∑ l : Fin 1024, x.normed i l * x.w (ix2 l ⟨s.val, by omega⟩) : ℝ) : EReal) := by
  have b := congrFun ((dats m 0 c).read_blk_arrAt_eq_flushed 9 apart_k cfg0.N (pt i) (pt_lt i) (flush0_9 _)) (ix2 (⟨i.val % 512, by omega⟩ : Fin 512) (slot s))
  rw [View.read_apply] at b
  have e : ((cfg0.win 9).blk (pt i)).view.emb (ix2 (⟨i.val % 512, by omega⟩ : Fin 512) (slot s)) = ix2 i (slot s) := by
    funext a
    apply Fin.ext
    match a with
    | ⟨0, _⟩ => show win0_9.index (pt i) 0 * 512 + 1 * (i.val % 512) = _; rw [(place (pt i)).2.2.2.2.2.2.2.2.2.1]; show i.val / 512 * 512 + 1 * (i.val % 512) = i.val; omega
    | ⟨1, _⟩ => show win0_9.index (pt i) 1 * 2048 + 1 * (slot s).val = _; rw [(place (pt i)).2.2.2.2.2.2.2.2.2.1]; show 0 * 2048 + 1 * (slot s).val = (slot s).val; omega
  refine (congrArg ((dats m 0 c).arrAt 9 cfg0.N) e.symm).trans (b.trans ?_)
  refine (left_k I (pt i) ⟨i.val % 512, by omega⟩ s).trans ?_
  rw [pt_row]

theorem array_v (i : Fin 8192) (s : Fin 1024) : @Eq EReal ((dats m 0 c).arrAt 10 cfg0.N (ix2 i (slot s))) ((∑ l : Fin 1024, x.normed i l * x.w (ix2 l ⟨1024 + s.val, by omega⟩) : ℝ) : EReal) := by
  have b := congrFun ((dats m 0 c).read_blk_arrAt_eq_flushed 10 apart_v cfg0.N (pt i) (pt_lt i) (flush0_10 _)) (ix2 (⟨i.val % 512, by omega⟩ : Fin 512) (slot s))
  rw [View.read_apply] at b
  have e : ((cfg0.win 10).blk (pt i)).view.emb (ix2 (⟨i.val % 512, by omega⟩ : Fin 512) (slot s)) = ix2 i (slot s) := by
    funext a
    apply Fin.ext
    match a with
    | ⟨0, _⟩ => show win0_10.index (pt i) 0 * 512 + 1 * (i.val % 512) = _; rw [(place (pt i)).2.2.2.2.2.2.2.2.2.2.1]; show i.val / 512 * 512 + 1 * (i.val % 512) = i.val; omega
    | ⟨1, _⟩ => show win0_10.index (pt i) 1 * 2048 + 1 * (slot s).val = _; rw [(place (pt i)).2.2.2.2.2.2.2.2.2.2.1]; show 0 * 2048 + 1 * (slot s).val = (slot s).val; omega
  refine (congrArg ((dats m 0 c).arrAt 10 cfg0.N) e.symm).trans (b.trans ?_)
  refine (left_v I (pt i) ⟨i.val % 512, by omega⟩ s).trans ?_
  rw [pt_row]

theorem array_f (i : Fin 8192) (s : Fin 128) : @Eq EReal ((dats m 0 c).arrAt 11 cfg0.N (ix2 i s)) (x.logit i s : EReal) := by
  have b := congrFun ((dats m 0 c).read_blk_arrAt_eq_flushed 11 apart_f cfg0.N (pt i) (pt_lt i) (flush0_11 _)) (ix2 (⟨i.val % 512, by omega⟩ : Fin 512) s)
  rw [View.read_apply] at b
  have e : ((cfg0.win 11).blk (pt i)).view.emb (ix2 (⟨i.val % 512, by omega⟩ : Fin 512) s) = ix2 i s := by
    funext a
    apply Fin.ext
    match a with
    | ⟨0, _⟩ => show win0_11.index (pt i) 0 * 512 + 1 * (i.val % 512) = _; rw [(place (pt i)).2.2.2.2.2.2.2.2.2.2.2.1]; show i.val / 512 * 512 + 1 * (i.val % 512) = i.val; omega
    | ⟨1, _⟩ => show win0_11.index (pt i) 1 * 128 + 1 * s.val = _; rw [(place (pt i)).2.2.2.2.2.2.2.2.2.2.2.1]; show 0 * 128 + 1 * s.val = s.val; omega
  refine (congrArg ((dats m 0 c).arrAt 11 cfg0.N) e.symm).trans (b.trans ?_)
  refine (left_f I (pt i) ⟨i.val % 512, by omega⟩ s).trans ?_
  rw [pt_row]

theorem array_c (i : Fin 8192) (s : Fin 128) : @Eq EReal ((dats m 0 c).arrAt 12 cfg0.N (ix2 i s)) (before (x.gate s) (i.val + 1) : EReal) := by
  have b := congrFun ((dats m 0 c).read_blk_arrAt_eq_flushed 12 apart_c cfg0.N (pt i) (pt_lt i) (flush0_12 _)) (ix2 (⟨i.val % 512, by omega⟩ : Fin 512) s)
  rw [View.read_apply] at b
  have e : ((cfg0.win 12).blk (pt i)).view.emb (ix2 (⟨i.val % 512, by omega⟩ : Fin 512) s) = ix2 i s := by
    funext a
    apply Fin.ext
    match a with
    | ⟨0, _⟩ => show win0_12.index (pt i) 0 * 512 + 1 * (i.val % 512) = _; rw [(place (pt i)).2.2.2.2.2.2.2.2.2.2.2.2.1]; show i.val / 512 * 512 + 1 * (i.val % 512) = i.val; omega
    | ⟨1, _⟩ => show win0_12.index (pt i) 1 * 128 + 1 * s.val = _; rw [(place (pt i)).2.2.2.2.2.2.2.2.2.2.2.2.1]; show 0 * 128 + 1 * s.val = s.val; omega
  refine (congrArg ((dats m 0 c).arrAt 12 cfg0.N) e.symm).trans (b.trans ?_)
  refine (left_c I (pt i) ⟨i.val % 512, by omega⟩ s).trans ?_
  rw [pt_row]

theorem array_r (i : Fin 8192) (s : Fin 2048) : @Eq EReal ((dats m 0 c).arrAt 13 cfg0.N (ix2 i s)) ((before (x.gate ⟨s.val / 128, by omega⟩) (i.val + 1) * (Real.log 2)⁻¹ : ℝ) : EReal) := by
  have b := congrFun ((dats m 0 c).read_blk_arrAt_eq_flushed 13 apart_r cfg0.N (pt i) (pt_lt i) (flush0_13 _)) (ix2 (⟨i.val % 512, by omega⟩ : Fin 512) s)
  rw [View.read_apply] at b
  have e : ((cfg0.win 13).blk (pt i)).view.emb (ix2 (⟨i.val % 512, by omega⟩ : Fin 512) s) = ix2 i s := by
    funext a
    apply Fin.ext
    match a with
    | ⟨0, _⟩ => show win0_13.index (pt i) 0 * 512 + 1 * (i.val % 512) = _; rw [(place (pt i)).2.2.2.2.2.2.2.2.2.2.2.2.2]; show i.val / 512 * 512 + 1 * (i.val % 512) = i.val; omega
    | ⟨1, _⟩ => show win0_13.index (pt i) 1 * 2048 + 1 * s.val = _; rw [(place (pt i)).2.2.2.2.2.2.2.2.2.2.2.2.2]; show 0 * 2048 + 1 * s.val = s.val; omega
  refine (congrArg ((dats m 0 c).arrAt 13 cfg0.N) e.symm).trans (b.trans ?_)
  refine (left_r I (pt i) ⟨i.val % 512, by omega⟩ s).trans ?_
  rw [pt_row]

/-! ## The host lines after the call -/

omit I in
theorem log_two : @Eq EReal (Ideal.log (Ideal.ofBits .f32 0x40000000#32)) ((Real.log 2 : ℝ) : EReal) := by
  rw [show Ideal.ofBits .f32 0x40000000#32 = ((2 : ℝ) : EReal) by simp [Ideal.ofBits, Ideal.ieee]; rw [← EReal.coe_mul]; norm_num]
  rw [Ideal.log_coe, if_neg (by norm_num)]

/-- The arrays after the call. -/
def W1 (m : (ℓ : Loc nD τ sig) → Buf (Elt Ideal) ℓ) (c : Dev nD) : Valuation τ sig (Elt Ideal) :=
  Pipeline.withArrays spec0 c (V0 m c) fun w : Fin 14 => (dats m 0 c).arrAt w cfg0.N

omit I in
theorem after_tail (m : (ℓ : Loc nD τ sig) → Buf (Elt Ideal) ℓ) (c : Dev nD) (b : Ref sig .tc) :
    Pipeline.afterTail₀ cfgs (dats m) 0 (V0 m) [hostOps1] c b = StableHlo.after (List.flatten [hostOps1]) (W1 m c) (Proc.tc.devRef b) := by
  unfold Pipeline.afterTail₀ W1
  rfl

omit I in
theorem arrays_apart : Function.Injective (Pipeline.arrRef spec0) := by decide

omit I in
theorem tail_k (X : Valuation τ sig (Elt Ideal)) (i : Fin 8192) (s : Fin 1024) : @Eq EReal (StableHlo.after (List.flatten [hostOps1]) X (Proc.tc.devRef main_v46) (ix2 i s))
    (X (Proc.tc.devRef main_v39_0) (ix2 i (slot s))) := by
  simp only [List.flatten_cons, List.flatten_nil, List.append_nil, hostOps1]
  after_reads_at
  rfl

omit I in
theorem W1_k (m : (ℓ : Loc nD τ sig) → Buf (Elt Ideal) ℓ) (c : Dev nD) : W1 m c (Proc.tc.devRef main_v39_0) = (dats m 0 c).arrAt 9 cfg0.N :=
  Pipeline.withArrays_arr spec0 arrays_apart c _ _ 9

theorem end_k (i : Fin 8192) (s : Fin 1024) : @Eq EReal (Pipeline.afterTail₀ cfgs (dats m) 0 (V0 m) [hostOps1] c main_v46 (ix2 i s)) ((∑ l : Fin 1024, x.normed i l * x.w (ix2 l ⟨s.val, by omega⟩) : ℝ) : EReal) := by
  rw [after_tail]
  refine (tail_k _ i s).trans ?_
  rw [W1_k]
  exact array_k I i s

omit I in
theorem tail_v (X : Valuation τ sig (Elt Ideal)) (i : Fin 8192) (s : Fin 1024) : @Eq EReal (StableHlo.after (List.flatten [hostOps1]) X (Proc.tc.devRef main_v50) (ix2 i s))
    (X (Proc.tc.devRef main_v39_1) (ix2 i (slot s))) := by
  simp only [List.flatten_cons, List.flatten_nil, List.append_nil, hostOps1]
  after_reads_at
  rfl

omit I in
theorem W1_v (m : (ℓ : Loc nD τ sig) → Buf (Elt Ideal) ℓ) (c : Dev nD) : W1 m c (Proc.tc.devRef main_v39_1) = (dats m 0 c).arrAt 10 cfg0.N :=
  Pipeline.withArrays_arr spec0 arrays_apart c _ _ 10

theorem end_v (i : Fin 8192) (s : Fin 1024) : @Eq EReal (Pipeline.afterTail₀ cfgs (dats m) 0 (V0 m) [hostOps1] c main_v50 (ix2 i s)) ((∑ l : Fin 1024, x.normed i l * x.w (ix2 l ⟨1024 + s.val, by omega⟩) : ℝ) : EReal) := by
  rw [after_tail]
  refine (tail_v _ i s).trans ?_
  rw [W1_v]
  exact array_v I i s

omit I in
theorem tail_f (X : Valuation τ sig (Elt Ideal)) (i : Fin 8192) (s : Fin 16) : @Eq EReal (StableHlo.after (List.flatten [hostOps1]) X (Proc.tc.devRef main_v51) (ix2 i s))
    (X (Proc.tc.devRef main_v39_2) (ix2 i (⟨s.val, by omega⟩ : Fin 128))) := by
  simp only [List.flatten_cons, List.flatten_nil, List.append_nil, hostOps1]
  after_reads_at

omit I in
theorem W1_f (m : (ℓ : Loc nD τ sig) → Buf (Elt Ideal) ℓ) (c : Dev nD) : W1 m c (Proc.tc.devRef main_v39_2) = (dats m 0 c).arrAt 11 cfg0.N :=
  Pipeline.withArrays_arr spec0 arrays_apart c _ _ 11

theorem end_f (i : Fin 8192) (s : Fin 16) : @Eq EReal (Pipeline.afterTail₀ cfgs (dats m) 0 (V0 m) [hostOps1] c main_v51 (ix2 i s)) (x.logit i ⟨s.val, by omega⟩ : EReal) := by
  rw [after_tail]
  refine (tail_f _ i s).trans ?_
  rw [W1_f]
  exact array_f I i ⟨s.val, by omega⟩

omit I in
theorem tail_c (X : Valuation τ sig (Elt Ideal)) (i : Fin 8192) (s : Fin 16) : @Eq EReal (StableHlo.after (List.flatten [hostOps1]) X (Proc.tc.devRef main_v52) (ix2 i s))
    (X (Proc.tc.devRef main_v39_3) (ix2 i (⟨s.val, by omega⟩ : Fin 128))) := by
  simp only [List.flatten_cons, List.flatten_nil, List.append_nil, hostOps1]
  after_reads_at

omit I in
theorem W1_c (m : (ℓ : Loc nD τ sig) → Buf (Elt Ideal) ℓ) (c : Dev nD) : W1 m c (Proc.tc.devRef main_v39_3) = (dats m 0 c).arrAt 12 cfg0.N :=
  Pipeline.withArrays_arr spec0 arrays_apart c _ _ 12

theorem end_c (i : Fin 8192) (s : Fin 16) : @Eq EReal (Pipeline.afterTail₀ cfgs (dats m) 0 (V0 m) [hostOps1] c main_v52 (ix2 i s)) (before (x.gate ⟨s.val, by omega⟩) (i.val + 1) : EReal) := by
  rw [after_tail]
  refine (tail_c _ i s).trans ?_
  rw [W1_c]
  exact array_c I i ⟨s.val, by omega⟩

omit I in
theorem tail_r (X : Valuation τ sig (Elt Ideal)) (i : Fin 8192) (s : Fin 2048) : @Eq EReal (StableHlo.after (List.flatten [hostOps1]) X (Proc.tc.devRef main_v42) (ix2 i s))
    (@HMul.hMul EReal EReal EReal _ (X (Proc.tc.devRef main_v39_4) (ix2 i s)) ((Real.log 2 : ℝ) : EReal)) := by
  rw [← log_two]
  simp only [List.flatten_cons, List.flatten_nil, List.append_nil, hostOps1]
  after_reads_at

omit I in
theorem W1_r (m : (ℓ : Loc nD τ sig) → Buf (Elt Ideal) ℓ) (c : Dev nD) : W1 m c (Proc.tc.devRef main_v39_4) = (dats m 0 c).arrAt 13 cfg0.N :=
  Pipeline.withArrays_arr spec0 arrays_apart c _ _ 13

theorem end_r (i : Fin 8192) (s : Fin 2048) : @Eq EReal (Pipeline.afterTail₀ cfgs (dats m) 0 (V0 m) [hostOps1] c main_v42 (ix2 i s)) (before (x.gate ⟨s.val / 128, by omega⟩) (i.val + 1) : EReal) := by
  rw [after_tail]
  refine (tail_r _ i s).trans ?_
  rw [W1_r]
  refine (congrArg (fun z : EReal => z * ((Real.log 2 : ℝ) : EReal)) (array_r I i s)).trans ?_
  rw [← EReal.coe_mul]
  refine congrArg Real.toEReal ?_
  rw [mul_assoc, inv_mul_cancel₀ (Real.log_pos (by norm_num)).ne', mul_one]

end Cert.KvfFwdIdeal.Block

end
-- ==== Proof.KvfFwdRef.lean ====
/-
  What the forward lines of the norm and the projection to shared keys, values and forget gates compute, of finite inputs.
-/
module

public import proofs.«01_k».proof.Proof.KvfFwdTiles
public import proofs.«01_k».proof.Proof.Gen.KvfFwdRefIdeal.Read

@[expose] public section

set_option maxRecDepth 16384

noncomputable section

namespace Cert.KvfFwdRefIdeal.Stages

open Cert.KvfFwdRefIdeal Cert.KvfFwdRefIdeal.Gen Cert.KvfFwdRefIdeal.Read Cert.Reals Cert.Reals.Prefix Idealize.ShloMosaic Idealize.SL.Sem
open Cert.KvfFwdIdeal.Block (Data wideF wideB logSig norm_coe)

variable (x : Data) (i : Fin 8192) (k : Fin 1024) (a : Fin 16)

/-- The gates' column that is column `a` of the 16. -/
abbrev col (a : Fin 16) : Fin 128 := ⟨a.val, by omega⟩

theorem normed_apply : @Eq EReal (val_main_v12 (F := Ideal) (fun y => (x.h y : EReal)) (fun y => (x.g y : EReal)) (ix2 i k)) (x.normed i k : EReal) := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1]
  exact norm_coe (fun l => x.h (ix2 i l)) (fun l => x.g (ix1 l)) k

theorem product_apply (s : Fin 2064) : @Eq EReal (val_main_v13 (F := Ideal) (fun y => (x.h y : EReal)) (fun y => (x.g y : EReal)) (fun y => (x.w y : EReal)) (ix2 i s)) ((∑ l : Fin 1024, x.normed i l * x.w (ix2 l s) : ℝ) : EReal) := by
  pointwise [val_main_v13]
  simp only [normed_apply, ← EReal.coe_mul, ← coe_sum]

theorem keys_apply (s : Fin 1024) : @Eq EReal (val_main_v23 (F := Ideal) (fun y => (x.h y : EReal)) (fun y => (x.g y : EReal)) (fun y => (x.w y : EReal)) (ix2 i s)) ((∑ l : Fin 1024, x.normed i l * x.w (ix2 l ⟨s.val, by omega⟩) : ℝ) : EReal) := by
  pointwise [val_main_v23]
  exact product_apply x i _

theorem values_apply (s : Fin 1024) : @Eq EReal (val_main_v24 (F := Ideal) (fun y => (x.h y : EReal)) (fun y => (x.g y : EReal)) (fun y => (x.w y : EReal)) (ix2 i s)) ((∑ l : Fin 1024, x.normed i l * x.w (ix2 l ⟨1024 + s.val, by omega⟩) : ℝ) : EReal) := by
  pointwise [val_main_v24]
  exact product_apply x i _

theorem logit_apply : @Eq EReal (val_main_v17 (F := Ideal) (fun y => (x.h y : EReal)) (fun y => (x.g y : EReal)) (fun y => (x.w y : EReal)) (fun y => (x.b y : EReal)) (ix2 i a)) (x.logit i (col a) : EReal) := by
  pointwise [val_main_v17, val_main_v16, val_main_v15, val_main_v14]
  simp only [product_apply, ← EReal.coe_add]
  refine congrArg Real.toEReal ?_
  unfold Cert.KvfFwdIdeal.Block.Data.logit wideF wideB
  rw [dif_pos a.isLt]
  exact congrArg (· + _) (Finset.sum_congr rfl fun k _ => by rw [dif_pos a.isLt])

theorem neg_apply : @Eq EReal (val_main_call0_v0 (F := Ideal) (fun y => (x.h y : EReal)) (fun y => (x.g y : EReal)) (fun y => (x.w y : EReal)) (fun y => (x.b y : EReal)) (ix2 i a)) ((-x.logit i (col a) : ℝ) : EReal) := by
  rw [val_main_call0_v0_apply, logit_apply]
  rfl

/-- The logarithm of one plus an exponential, as the forward lines take it. -/
def soft (z : ℝ) : ℝ := max z 0 + Real.log (1 + Real.exp (-|z|))

theorem max_coe (a b : ℝ) : max (a : EReal) (b : EReal) = ((max a b : ℝ) : EReal) := (EReal.coe_strictMono.monotone.map_max).symm

theorem select_ne (v a b : EReal) : Scalar.select (FloatOps.cmpf (F := Ideal) (φ := .f32) .une v v) a b = b := by
  show Scalar.select (Ideal.cmp .une v v) a b = b
  simp [Ideal.cmp, Scalar.select]

theorem word_zero : Ideal.ofBits .f32 0x00000000#32 = ((0 : ℝ) : EReal) := by simp [Ideal.ofBits, Ideal.ieee]

theorem apart_apply : @Eq EReal (val_main_call0_call0_v3 (F := Ideal) (fun y => (x.h y : EReal)) (fun y => (x.g y : EReal)) (fun y => (x.w y : EReal)) (fun y => (x.b y : EReal)) (ix2 i a)) ((-x.logit i (col a) : ℝ) : EReal) := by
  simp only [val_main_call0_call0_v3_apply, val_main_call0_call0_v2_apply, val_main_call0_call0_cst_apply, neg_apply]
  show ((-x.logit i (col a) : ℝ) : EReal) - Ideal.ofBits .f32 0x00000000#32 = _
  rw [word_zero, ← EReal.coe_sub, sub_zero]

theorem top_apply : @Eq EReal (val_main_call0_call0_v1 (F := Ideal) (fun y => (x.h y : EReal)) (fun y => (x.g y : EReal)) (fun y => (x.w y : EReal)) (fun y => (x.b y : EReal)) (ix2 i a)) ((max (-x.logit i (col a)) 0 : ℝ) : EReal) := by
  simp only [val_main_call0_call0_v1_apply, val_main_call0_call0_v0_apply, val_main_call0_call0_cst_apply, neg_apply]
  show max ((-x.logit i (col a) : ℝ) : EReal) (Ideal.ofBits .f32 0x00000000#32) = _
  rw [word_zero, max_coe]

theorem size_apply : @Eq EReal (val_main_call0_call0_v7 (F := Ideal) (fun y => (x.h y : EReal)) (fun y => (x.g y : EReal)) (fun y => (x.w y : EReal)) (fun y => (x.b y : EReal)) (ix2 i a)) ((|-x.logit i (col a)| : ℝ) : EReal) := by
  simp only [val_main_call0_call0_v7_apply, apart_apply]
  show max ((-x.logit i (col a) : ℝ) : EReal) (-((-x.logit i (col a) : ℝ) : EReal)) = _
  rw [← EReal.coe_neg, max_coe]
  rfl

theorem part_apply : @Eq EReal (val_main_call0_call0_v10 (F := Ideal) (fun y => (x.h y : EReal)) (fun y => (x.g y : EReal)) (fun y => (x.w y : EReal)) (fun y => (x.b y : EReal)) (ix2 i a)) ((Real.log (1 + Real.exp (-|-x.logit i (col a)|)) : ℝ) : EReal) := by
  simp only [val_main_call0_call0_v10_apply, val_main_call0_call0_v9_apply, val_main_call0_call0_v8_apply, size_apply]
  show Ideal.log (1 + Ideal.exp (-((|-x.logit i (col a)| : ℝ) : EReal))) = _
  rw [← EReal.coe_neg, Ideal.exp_coe, ← EReal.coe_one, ← EReal.coe_add, Ideal.log_coe, if_neg (by have := Real.exp_pos (-|-x.logit i (col a)|); linarith)]

theorem soft_apply : @Eq EReal (val_main_call0_v1 (F := Ideal) (fun y => (x.h y : EReal)) (fun y => (x.g y : EReal)) (fun y => (x.w y : EReal)) (fun y => (x.b y : EReal)) (ix2 i a)) (soft (-x.logit i (col a)) : EReal) := by
  rw [val_main_call0_v1_apply, val_main_call0_call0_v4_apply, select_ne, val_main_call0_call0_v11_apply, top_apply, part_apply]
  exact (EReal.coe_add _ _).symm

/-- The logarithm of the logistic function, as the forward lines take it. -/
theorem soft_eq (z : ℝ) : -soft (-z) = logSig z := by
  unfold soft logSig
  rw [abs_neg]
  have : max (-z) 0 = -min z 0 := by rw [← neg_zero (G := ℝ), max_neg_neg]; simp
  rw [this]
  ring

theorem gate_apply : @Eq EReal (val_main_v18 (F := Ideal) (fun y => (x.h y : EReal)) (fun y => (x.g y : EReal)) (fun y => (x.w y : EReal)) (fun y => (x.b y : EReal)) (ix2 i a)) (x.gate (col a) i : EReal) := by
  rw [val_main_v18_apply, soft_apply]
  refine (EReal.coe_neg _).symm.trans (congrArg Real.toEReal ?_)
  exact soft_eq _

theorem sums_apply : @Eq EReal (val_main_v19 (F := Ideal) (fun y => (x.h y : EReal)) (fun y => (x.g y : EReal)) (fun y => (x.w y : EReal)) (fun y => (x.b y : EReal)) (ix2 i a)) (before (x.gate (col a)) (i.val + 1) : EReal) := by
  have e : @Eq (FVec Ideal S8192x16 .f32) (val_main_v18 (F := Ideal) (fun y => (x.h y : EReal)) (fun y => (x.g y : EReal)) (fun y => (x.w y : EReal)) (fun y => (x.b y : EReal))) fun y => ((fun y : S8192x16.Idx => x.gate (col (y 1)) (y 0)) y : EReal) := by
    refine funext fun (y : S8192x16.Idx) => ?_
    exact (congrArg _ (eq_ix2 y)).trans (gate_apply x (y 0) (y 1))
  unfold val_main_v19
  rw [e]
  refine host_window_sum rfl (fun y : S8192x16.Idx => x.gate (col (y 1)) (y 0)) _ reduceWindows_S8192x16_S8192x16_w8192s1p8191_0_w1s1p0_0 h_S_ ?_ i a
  rw [val_main_call1_call0_v0_apply, val_main_call1_call0_cst_apply]
  exact word_zero

theorem spread_apply (s : Fin 2048) : @Eq EReal (val_main_v22 (F := Ideal) (fun y => (x.h y : EReal)) (fun y => (x.g y : EReal)) (fun y => (x.w y : EReal)) (fun y => (x.b y : EReal)) (ix2 i s)) (before (x.gate ⟨s.val / 128, by omega⟩) (i.val + 1) : EReal) := by
  rw [val_main_v22_apply, val_main_v21_apply, val_main_v20_apply]
  refine (congrArg _ (?_ : _ = ix2 i (⟨s.val / 128, by omega⟩ : Fin 16))).trans (sums_apply x i ⟨s.val / 128, by omega⟩)
  funext b
  apply Fin.ext
  match b with
  | ⟨0, _⟩ => show (i.val * 2048 + s.val) / 2048 = i.val; omega
  | ⟨1, _⟩ => show (i.val * 2048 + s.val) / 128 % 16 = s.val / 128; omega

end Cert.KvfFwdRefIdeal.Stages

end
-- ==== Proof.KvfFwdClaim.lean ====
/-
  The shared keys, values and forget gates, forward: the kernel and the forward lines end with equal results, of finite
  arguments.
-/
module

public import proofs.«01_k».proof.Defs
public import proofs.«01_k».proof.Proof.KvfFwdArray
public import proofs.«01_k».proof.Proof.KvfFwdRef
public import proofs.«01_k».proof.Proof.Gen.KvfFwdRefIdeal.Run
public import proofs.«01_k».proof.Proof.Gen.Pre_kvf_fwd_finite
public import Idealize.ShloMosaic.Lib.Quiescent

@[expose] public section

set_option maxRecDepth 16384

noncomputable section

namespace Cert.KvfFwdClaim

open Idealize.ShloMosaic Idealize.ShloMosaic.TcCoe Idealize.SL.Sem Cert.Reals
open Cert.KvfFwdIdeal (nD τ sig main_arg0 main_arg1 main_arg2 main_arg3)
open Cert.KvfFwdIdeal.Gen (dats V0 hostOps1)

/-- The precondition, read: the arguments hold reals. -/
theorem reals (m : (ℓ : Loc nD τ sig) → Buf (Elt Ideal) ℓ) (hpre : Cert.Pre_KvfFwdIdeal_kvf_fwd_finite m) (c : Dev nD) :
    ∃ x, Cert.KvfFwdIdeal.Block.Args m c x :=
  ⟨⟨fun i => EReal.toReal (m (c.tc.loc main_arg0) i), fun i => EReal.toReal (m (c.tc.loc main_arg1) i), fun i => EReal.toReal (m (c.tc.loc main_arg2) i), fun i => EReal.toReal (m (c.tc.loc main_arg3) i)⟩,
    funext fun i => (coe_toReal (congrFun (hpre c).1 i)).symm,
    funext fun i => (coe_toReal (congrFun (hpre c).2.1 i)).symm,
    funext fun i => (coe_toReal (congrFun (hpre c).2.2.1 i)).symm,
    funext fun i => (coe_toReal (congrFun (hpre c).2.2.2 i)).symm⟩

theorem frame_ref : Cert.quiescent_KvfFwdRefIdeal := fun m ρ _ =>
  (θ_run Cert.KvfFwdRefIdeal.defs _ _).mono (fun r h => ⟨fun c => (h c).2.2.2.2.2, sem_eq_zero_of_no_sems (by decide) r.2⟩)
    (Cert.KvfFwdRefIdeal.Value.run m ρ)

/-- The inverse of the logarithm of two: the float that the call multiplies by, and the real that it stands for. -/
theorem preserves : Cert.preserves_KvfFwd_KvfFwdIdeal :=
  IdealRules.named_const.statement Cert.KvfFwdIdeal.κ "log2e" .f32 0x3FB8AA3B#32 _ rfl

theorem rest_k : Cert.KvfFwdIdeal.main_v46 ∈ Pipeline.restRefs sig Cert.KvfFwdIdeal.spec0 := Pipeline.mem_restRefs_of _ (by decide) (by decide)
theorem rest_v : Cert.KvfFwdIdeal.main_v50 ∈ Pipeline.restRefs sig Cert.KvfFwdIdeal.spec0 := Pipeline.mem_restRefs_of _ (by decide) (by decide)
theorem rest_f : Cert.KvfFwdIdeal.main_v51 ∈ Pipeline.restRefs sig Cert.KvfFwdIdeal.spec0 := Pipeline.mem_restRefs_of _ (by decide) (by decide)
theorem rest_c : Cert.KvfFwdIdeal.main_v52 ∈ Pipeline.restRefs sig Cert.KvfFwdIdeal.spec0 := Pipeline.mem_restRefs_of _ (by decide) (by decide)
theorem rest_r : Cert.KvfFwdIdeal.main_v42 ∈ Pipeline.restRefs sig Cert.KvfFwdIdeal.spec0 := Pipeline.mem_restRefs_of _ (by decide) (by decide)

set_option maxHeartbeats 8000000 in
theorem algebraic : Cert.algebraic_KvfFwdIdeal_KvfFwdRefIdeal_pre_kvf_fwd_finite := fun m ρ m' ρ' hpre hag =>
  ⟨fun c => Pipeline.afterTail₀ Cert.KvfFwdIdeal.cfgs (dats m) 0 (V0 m) [hostOps1] c Cert.KvfFwdIdeal.main_v46,
    fun c => Pipeline.afterTail₀ Cert.KvfFwdIdeal.cfgs (dats m) 0 (V0 m) [hostOps1] c Cert.KvfFwdIdeal.main_v50,
    fun c => Pipeline.afterTail₀ Cert.KvfFwdIdeal.cfgs (dats m) 0 (V0 m) [hostOps1] c Cert.KvfFwdIdeal.main_v51,
    fun c => Pipeline.afterTail₀ Cert.KvfFwdIdeal.cfgs (dats m) 0 (V0 m) [hostOps1] c Cert.KvfFwdIdeal.main_v52,
    fun c => Pipeline.afterTail₀ Cert.KvfFwdIdeal.cfgs (dats m) 0 (V0 m) [hostOps1] c Cert.KvfFwdIdeal.main_v42,
    (θ_run Cert.KvfFwdIdeal.defs _ _).mono (fun r h c => ⟨(h.1 c).2 _ rest_k, (h.1 c).2 _ rest_v, (h.1 c).2 _ rest_f, (h.1 c).2 _ rest_c, (h.1 c).2 _ rest_r, h.2 c⟩)
      (θ_run_and (Cert.KvfFwdIdeal.Gen.run_main m ρ) (Cert.KvfFwdIdeal.Gen.unchanged m ρ)),
    (θ_run _ _ _).mono (fun _ h c => by
      obtain ⟨x, I⟩ := reals m hpre c
      obtain ⟨a0, a1, a2, a3⟩ := hag c
      refine ⟨(h c).1.trans ?_, (h c).2.1.trans ?_, (h c).2.2.1.trans ?_, (h c).2.2.2.1.trans ?_, (h c).2.2.2.2.1.trans ?_, (h c).2.2.2.2.2⟩
      · rw [Cert.KvfFwdRefIdeal.Read.val_main_v23_eq, a0, a1, a2, I.h, I.g, I.w]
        refine funext fun (i : Cert.KvfFwdIdeal.S8192x1024.Idx) => ?_
        rw [eq_ix2 i]
        exact (Cert.KvfFwdRefIdeal.Stages.keys_apply x _ _).trans (Cert.KvfFwdIdeal.Block.end_k I _ _).symm
      · rw [Cert.KvfFwdRefIdeal.Read.val_main_v24_eq, a0, a1, a2, I.h, I.g, I.w]
        refine funext fun (i : Cert.KvfFwdIdeal.S8192x1024.Idx) => ?_
        rw [eq_ix2 i]
        exact (Cert.KvfFwdRefIdeal.Stages.values_apply x _ _).trans (Cert.KvfFwdIdeal.Block.end_v I _ _).symm
      · rw [Cert.KvfFwdRefIdeal.Read.val_main_v17_eq, a0, a1, a2, a3, I.h, I.g, I.w, I.b]
        refine funext fun (i : Cert.KvfFwdIdeal.S8192x16.Idx) => ?_
        rw [eq_ix2 i]
        exact (Cert.KvfFwdRefIdeal.Stages.logit_apply x _ _).trans (Cert.KvfFwdIdeal.Block.end_f I _ _).symm
      · rw [Cert.KvfFwdRefIdeal.Read.val_main_v19_eq, a0, a1, a2, a3, I.h, I.g, I.w, I.b]
        refine funext fun (i : Cert.KvfFwdIdeal.S8192x16.Idx) => ?_
        rw [eq_ix2 i]
        exact (Cert.KvfFwdRefIdeal.Stages.sums_apply x _ _).trans (Cert.KvfFwdIdeal.Block.end_c I _ _).symm
      · rw [Cert.KvfFwdRefIdeal.Read.val_main_v22_eq, a0, a1, a2, a3, I.h, I.g, I.w, I.b]
        refine funext fun (i : Cert.KvfFwdIdeal.S8192x2048.Idx) => ?_
        rw [eq_ix2 i]
        exact (Cert.KvfFwdRefIdeal.Stages.spread_apply x _ _).trans (Cert.KvfFwdIdeal.Block.end_r I _ _).symm)
    (Cert.KvfFwdRefIdeal.Value.run m' ρ')⟩

end Cert.KvfFwdClaim

end
-- ==== Proof.lean ====
module

public import proofs.«01_k».proof.Defs
public import proofs.«01_k».proof.Proof.Gen.NormBwd
public import proofs.«01_k».proof.Proof.Gen.NormBwdIdeal
public import proofs.«01_k».proof.Proof.Gen.NormBwdRefIdeal
public import proofs.«01_k».proof.Proof.Gen.Pre_norm_finite
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.NormClaim
public import proofs.«01_k».proof.Proof.Gen.AttnBwd
public import proofs.«01_k».proof.Proof.Gen.AttnBwdIdeal
public import proofs.«01_k».proof.Proof.Gen.AttnBwdRefIdeal
public import proofs.«01_k».proof.Proof.Gen.Pre_attn_finite
public import proofs.«01_k».proof.Proof.Gen.AttnBwdRefIdeal.Run
public import proofs.«01_k».proof.Proof.Gen.AttnBwdRefIdeal.Read
public import proofs.«01_k».proof.Proof.FlashClaim
public import proofs.«01_k».proof.Proof.Gen.LossHead
public import proofs.«01_k».proof.Proof.Gen.LossHeadIdeal
public import proofs.«01_k».proof.Proof.Gen.LossHeadRefIdeal
public import proofs.«01_k».proof.Proof.Gen.Pre_loss_finite
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossClaim
public import proofs.«01_k».proof.Proof.Gen.OBwd
public import proofs.«01_k».proof.Proof.Gen.OBwdIdeal
public import proofs.«01_k».proof.Proof.Gen.OBwdRefIdeal
public import proofs.«01_k».proof.Proof.Gen.Pre_o_finite
public import proofs.«01_k».proof.Proof.Gen.OBwd.Frame
public import proofs.«01_k».proof.Proof.Gen.OBwdIdeal.Frame
public import proofs.«01_k».proof.Proof.Gen.OBwdIdeal.Value
public import proofs.«01_k».proof.Proof.Gen.OBwdRefIdeal.Run
public import proofs.«01_k».proof.Proof.Gen.OBwdRefIdeal.Read
public import proofs.«01_k».proof.Proof.OClaim
public import proofs.«01_k».proof.Proof.Gen.QBwd
public import proofs.«01_k».proof.Proof.Gen.QBwdIdeal
public import proofs.«01_k».proof.Proof.Gen.QBwdRefIdeal
public import proofs.«01_k».proof.Proof.Gen.Pre_q_finite
public import proofs.«01_k».proof.Proof.Gen.QBwd.Frame
public import proofs.«01_k».proof.Proof.Gen.QBwdIdeal.Frame
public import proofs.«01_k».proof.Proof.Gen.QBwdRefIdeal.Run
public import proofs.«01_k».proof.Proof.Gen.QBwdRefIdeal.Read
public import proofs.«01_k».proof.Proof.QClaim
public import proofs.«01_k».proof.Proof.Gen.S5Post
public import proofs.«01_k».proof.Proof.Gen.S5PostIdeal
public import proofs.«01_k».proof.Proof.Gen.S5PostRefIdeal
public import proofs.«01_k».proof.Proof.Gen.Pre_s5_post_finite
public import proofs.«01_k».proof.Proof.Gen.S5Post.Frame
public import proofs.«01_k».proof.Proof.Gen.S5PostIdeal.Frame
public import proofs.«01_k».proof.Proof.Gen.S5PostRefIdeal.Run
public import proofs.«01_k».proof.Proof.Gen.S5PostRefIdeal.Read
public import proofs.«01_k».proof.Proof.S5Claim
public import proofs.«01_k».proof.Proof.Gen.MlpFwd
public import proofs.«01_k».proof.Proof.Gen.MlpFwdIdeal
public import proofs.«01_k».proof.Proof.Gen.MlpFwdRefIdeal
public import proofs.«01_k».proof.Proof.Gen.MlpFwd.Frame
public import proofs.«01_k».proof.Proof.Gen.MlpFwdIdeal.Frame
public import proofs.«01_k».proof.Proof.Gen.MlpFwdIdeal.Value
public import proofs.«01_k».proof.Proof.Gen.MlpFwdRefIdeal.Run
public import proofs.«01_k».proof.Proof.Gen.MlpFwdRefIdeal.Read
public import proofs.«01_k».proof.Proof.MlpFwdClaim
public import proofs.«01_k».proof.Proof.Gen.MlpBwd
public import proofs.«01_k».proof.Proof.Gen.MlpBwdIdeal
public import proofs.«01_k».proof.Proof.Gen.MlpBwdRefIdeal
public import proofs.«01_k».proof.Proof.Gen.Pre_mlp_finite
public import proofs.«01_k».proof.Proof.Gen.MlpBwd.Frame
public import proofs.«01_k».proof.Proof.Gen.MlpBwdIdeal.Frame
public import proofs.«01_k».proof.Proof.Gen.MlpBwdIdeal.Value
public import proofs.«01_k».proof.Proof.Gen.MlpBwdRefIdeal.Run
public import proofs.«01_k».proof.Proof.Gen.MlpBwdRefIdeal.Read
public import proofs.«01_k».proof.Proof.MlpClaim
public import proofs.«01_k».proof.Proof.Gen.KvfBwd
public import proofs.«01_k».proof.Proof.Gen.KvfBwdIdeal
public import proofs.«01_k».proof.Proof.Gen.KvfBwdRefIdeal
public import proofs.«01_k».proof.Proof.Gen.Pre_kvf_finite
public import proofs.«01_k».proof.Proof.Gen.KvfBwdRefIdeal.Run
public import proofs.«01_k».proof.Proof.Gen.KvfBwdRefIdeal.Read
public import proofs.«01_k».proof.Proof.KvfClaim
public import proofs.«01_k».proof.Proof.Gen.NormFwd
public import proofs.«01_k».proof.Proof.Gen.NormFwdIdeal
public import proofs.«01_k».proof.Proof.Gen.NormFwdRefIdeal
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormFwdClaim
public import proofs.«01_k».proof.Proof.Gen.QFwd
public import proofs.«01_k».proof.Proof.Gen.QFwdIdeal
public import proofs.«01_k».proof.Proof.Gen.QFwdRefIdeal
public import proofs.«01_k».proof.Proof.Gen.QFwd.Frame
public import proofs.«01_k».proof.Proof.Gen.QFwdIdeal.Frame
public import proofs.«01_k».proof.Proof.Gen.QFwdRefIdeal.Run
public import proofs.«01_k».proof.Proof.Gen.QFwdRefIdeal.Read
public import proofs.«01_k».proof.Proof.QFwdClaim
public import proofs.«01_k».proof.Proof.Gen.OFwd
public import proofs.«01_k».proof.Proof.Gen.OFwdIdeal
public import proofs.«01_k».proof.Proof.Gen.OFwdRefIdeal
public import proofs.«01_k».proof.Proof.Gen.OFwd.Frame
public import proofs.«01_k».proof.Proof.Gen.OFwdIdeal.Frame
public import proofs.«01_k».proof.Proof.Gen.OFwdIdeal.Value
public import proofs.«01_k».proof.Proof.Gen.OFwdRefIdeal.Run
public import proofs.«01_k».proof.Proof.Gen.OFwdRefIdeal.Read
public import proofs.«01_k».proof.Proof.OFwdClaim
public import proofs.«01_k».proof.Proof.Gen.KvfFwd
public import proofs.«01_k».proof.Proof.Gen.KvfFwdIdeal
public import proofs.«01_k».proof.Proof.Gen.KvfFwdRefIdeal
public import proofs.«01_k».proof.Proof.Gen.Pre_kvf_fwd_finite
public import proofs.«01_k».proof.Proof.Gen.KvfFwd.Frame
public import proofs.«01_k».proof.Proof.Gen.KvfFwdIdeal.Frame
public import proofs.«01_k».proof.Proof.Gen.KvfFwdRefIdeal.Run
public import proofs.«01_k».proof.Proof.Gen.KvfFwdRefIdeal.Read
public import proofs.«01_k».proof.Proof.KvfFwdClaim
public import Idealize.ShloMosaic.Adequacy
public import Idealize.ShloMosaic.Init

@[expose] public section

noncomputable section

namespace Cert.Proof

open Idealize.ShloMosaic Idealize.SL.Sem

theorem claim : Cert.Claim :=
  ⟨Cert.NormBwd.Gen.facts, Cert.NormBwdIdeal.Gen.facts, Cert.NormBwdRefIdeal.Gen.facts, Cert.AttnBwd.Gen.facts, Cert.AttnBwdIdeal.Gen.facts, Cert.AttnBwdRefIdeal.Gen.facts, Cert.LossHead.Gen.facts, Cert.LossHeadIdeal.Gen.facts, Cert.LossHeadRefIdeal.Gen.facts, Cert.OBwd.Gen.facts, Cert.OBwdIdeal.Gen.facts, Cert.OBwdRefIdeal.Gen.facts, Cert.QBwd.Gen.facts, Cert.QBwdIdeal.Gen.facts, Cert.QBwdRefIdeal.Gen.facts, Cert.S5Post.Gen.facts, Cert.S5PostIdeal.Gen.facts, Cert.S5PostRefIdeal.Gen.facts, Cert.MlpFwd.Gen.facts, Cert.MlpFwdIdeal.Gen.facts, Cert.MlpFwdRefIdeal.Gen.facts, Cert.MlpBwd.Gen.facts, Cert.MlpBwdIdeal.Gen.facts, Cert.MlpBwdRefIdeal.Gen.facts, Cert.KvfBwd.Gen.facts, Cert.KvfBwdIdeal.Gen.facts, Cert.KvfBwdRefIdeal.Gen.facts, Cert.NormFwd.Gen.facts, Cert.NormFwdIdeal.Gen.facts, Cert.NormFwdRefIdeal.Gen.facts, Cert.QFwd.Gen.facts, Cert.QFwdIdeal.Gen.facts, Cert.QFwdRefIdeal.Gen.facts, Cert.OFwd.Gen.facts, Cert.OFwdIdeal.Gen.facts, Cert.OFwdRefIdeal.Gen.facts, Cert.KvfFwd.Gen.facts, Cert.KvfFwdIdeal.Gen.facts, Cert.KvfFwdRefIdeal.Gen.facts,
    Cert.Pre_norm_finite.Gen.facts, Cert.Pre_attn_finite.Gen.facts, Cert.Pre_loss_finite.Gen.facts, Cert.Pre_o_finite.Gen.facts, Cert.Pre_q_finite.Gen.facts, Cert.Pre_s5_post_finite.Gen.facts, Cert.Pre_mlp_finite.Gen.facts, Cert.Pre_kvf_finite.Gen.facts, Cert.Pre_kvf_fwd_finite.Gen.facts,
    fun m ρ _ => Cert.NormBwd.Gen.frame m ρ, fun m ρ _ => Cert.NormBwdIdeal.Gen.frame m ρ, fun m ρ _ => Cert.NormBwdIdeal.Gen.frame m ρ, Cert.NormClaim.frame_ref, fun m ρ _ => Cert.NormClaim.frame_ref m ρ trivial,
    Cert.FlashClaim.frame_kernel, Cert.FlashClaim.frame_ideal, fun m ρ _ => Cert.FlashClaim.frame_ideal m ρ trivial, Cert.FlashClaim.frame_ref, fun m ρ _ => Cert.FlashClaim.frame_ref m ρ trivial,
    fun m ρ _ => Cert.LossHead.Gen.frame m ρ, fun m ρ _ => Cert.LossHeadIdeal.Gen.frame m ρ, fun m ρ _ => Cert.LossHeadIdeal.Gen.frame m ρ, Cert.LossClaim.frame_ref, fun m ρ _ => Cert.LossClaim.frame_ref m ρ trivial,
    fun m ρ _ => Cert.OBwd.Gen.frame m ρ, fun m ρ _ => Cert.OBwdIdeal.Gen.frame m ρ, fun m ρ _ => Cert.OBwdIdeal.Gen.frame m ρ, Cert.OClaim.frame_ref, fun m ρ _ => Cert.OClaim.frame_ref m ρ trivial,
    fun m ρ _ => Cert.QBwd.Gen.frame m ρ, fun m ρ _ => Cert.QBwdIdeal.Gen.frame m ρ, fun m ρ _ => Cert.QBwdIdeal.Gen.frame m ρ, Cert.QClaim.frame_ref, fun m ρ _ => Cert.QClaim.frame_ref m ρ trivial,
    fun m ρ _ => Cert.S5Post.Gen.frame m ρ, fun m ρ _ => Cert.S5PostIdeal.Gen.frame m ρ, fun m ρ _ => Cert.S5PostIdeal.Gen.frame m ρ, Cert.S5Claim.frame_ref, fun m ρ _ => Cert.S5Claim.frame_ref m ρ trivial,
    fun m ρ _ => Cert.MlpFwd.Gen.frame m ρ, fun m ρ _ => Cert.MlpFwdIdeal.Gen.frame m ρ, Cert.MlpFwdClaim.frame_ref,
    fun m ρ _ => Cert.MlpBwd.Gen.frame m ρ, fun m ρ _ => Cert.MlpBwdIdeal.Gen.frame m ρ, fun m ρ _ => Cert.MlpBwdIdeal.Gen.frame m ρ, Cert.MlpClaim.frame_ref, fun m ρ _ => Cert.MlpClaim.frame_ref m ρ trivial,
    Cert.KvfClaim.frame_kernel, Cert.KvfClaim.frame_ideal, fun m ρ _ => Cert.KvfClaim.frame_ideal m ρ trivial, Cert.KvfClaim.frame_ref, fun m ρ _ => Cert.KvfClaim.frame_ref m ρ trivial,
    fun m ρ _ => Cert.NormFwd.Gen.frame m ρ, fun m ρ _ => Cert.NormFwdIdeal.Gen.frame m ρ, Cert.NormFwdClaim.frame_ref,
    fun m ρ _ => Cert.QFwd.Gen.frame m ρ, fun m ρ _ => Cert.QFwdIdeal.Gen.frame m ρ, Cert.QFwdClaim.frame_ref,
    fun m ρ _ => Cert.OFwd.Gen.frame m ρ, fun m ρ _ => Cert.OFwdIdeal.Gen.frame m ρ, Cert.OFwdClaim.frame_ref,
    fun m ρ _ => Cert.KvfFwd.Gen.frame m ρ, fun m ρ _ => Cert.KvfFwdIdeal.Gen.frame m ρ, fun m ρ _ => Cert.KvfFwdIdeal.Gen.frame m ρ, Cert.KvfFwdClaim.frame_ref, fun m ρ _ => Cert.KvfFwdClaim.frame_ref m ρ trivial,
    trivial, Cert.NormClaim.algebraic,
    trivial, Cert.FlashClaim.algebraic,
    trivial, Cert.LossClaim.algebraic,
    trivial, Cert.OClaim.algebraic,
    trivial, Cert.QClaim.algebraic,
    Cert.S5Claim.preserves, Cert.S5Claim.algebraic,
    trivial, Cert.MlpFwdClaim.algebraic,
    trivial, Cert.MlpClaim.algebraic,
    Cert.KvfClaim.preserves, Cert.KvfClaim.algebraic,
    trivial, Cert.NormFwdClaim.algebraic,
    Cert.QFwdClaim.preserves, Cert.QFwdClaim.algebraic,
    trivial, Cert.OFwdClaim.algebraic,
    Cert.KvfFwdClaim.preserves, Cert.KvfFwdClaim.algebraic⟩

end Cert.Proof

end
